-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GuDa (m : (ℓ : Loc Cert.GuDa.nD Cert.GuDa.τ Cert.GuDa.sig) → Buf (Elt Bits) ℓ) : Prop :=
  True

def Pre_GuDaIdeal (m : (ℓ : Loc Cert.GuDaIdeal.nD Cert.GuDaIdeal.τ Cert.GuDaIdeal.sig) → Buf (Elt Ideal) ℓ) : Prop :=
  True

def Pre_GuDaRefIdeal (m : (ℓ : Loc Cert.GuDaRefIdeal.nD Cert.GuDaRefIdeal.τ Cert.GuDaRefIdeal.sig) → Buf (Elt Ideal) ℓ) : Prop :=
  True

def Pre_GuDb (m : (ℓ : Loc Cert.GuDb.nD Cert.GuDb.τ Cert.GuDb.sig) → Buf (Elt Bits) ℓ) : Prop :=
  True

def Pre_GuDbIdeal (m : (ℓ : Loc Cert.GuDbIdeal.nD Cert.GuDbIdeal.τ Cert.GuDbIdeal.sig) → Buf (Elt Ideal) ℓ) : Prop :=
  True

def Pre_GuDbRefIdeal (m : (ℓ : Loc Cert.GuDbRefIdeal.nD Cert.GuDbRefIdeal.τ Cert.GuDbRefIdeal.sig) → Buf (Elt Ideal) ℓ) : Prop :=
  True

def Pre_DownDa (m : (ℓ : Loc Cert.DownDa.nD Cert.DownDa.τ Cert.DownDa.sig) → Buf (Elt Bits) ℓ) : Prop :=
  True

def Pre_DownDaIdeal (m : (ℓ : Loc Cert.DownDaIdeal.nD Cert.DownDaIdeal.τ Cert.DownDaIdeal.sig) → Buf (Elt Ideal) ℓ) : Prop :=
  True

def Pre_DownDaRefIdeal (m : (ℓ : Loc Cert.DownDaRefIdeal.nD Cert.DownDaRefIdeal.τ Cert.DownDaRefIdeal.sig) → Buf (Elt Ideal) ℓ) : Prop :=
  True

def Pre_DownDb (m : (ℓ : Loc Cert.DownDb.nD Cert.DownDb.τ Cert.DownDb.sig) → Buf (Elt Bits) ℓ) : Prop :=
  True

def Pre_DownDbIdeal (m : (ℓ : Loc Cert.DownDbIdeal.nD Cert.DownDbIdeal.τ Cert.DownDbIdeal.sig) → Buf (Elt Ideal) ℓ) : Prop :=
  True

def Pre_DownDbRefIdeal (m : (ℓ : Loc Cert.DownDbRefIdeal.nD Cert.DownDbRefIdeal.τ Cert.DownDbRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_SGrads (m : (ℓ : Loc Cert.SGrads.nD Cert.SGrads.τ Cert.SGrads.sig) → Buf (Elt Bits) ℓ) : Prop :=
  True

def Pre_SGradsIdeal (m : (ℓ : Loc Cert.SGradsIdeal.nD Cert.SGradsIdeal.τ Cert.SGradsIdeal.sig) → Buf (Elt Ideal) ℓ) : Prop :=
  True

def Pre_SGradsRefIdeal (m : (ℓ : Loc Cert.SGradsRefIdeal.nD Cert.SGradsRefIdeal.τ Cert.SGradsRefIdeal.sig) → Buf (Elt Ideal) ℓ) : Prop :=
  True

def Pre_GluDa (m : (ℓ : Loc Cert.GluDa.nD Cert.GluDa.τ Cert.GluDa.sig) → Buf (Elt Bits) ℓ) : Prop :=
  True

def Pre_GluDaIdeal (m : (ℓ : Loc Cert.GluDaIdeal.nD Cert.GluDaIdeal.τ Cert.GluDaIdeal.sig) → Buf (Elt Ideal) ℓ) : Prop :=
  True

def Pre_GluDaRefIdeal (m : (ℓ : Loc Cert.GluDaRefIdeal.nD Cert.GluDaRefIdeal.τ Cert.GluDaRefIdeal.sig) → Buf (Elt Ideal) ℓ) : Prop :=
  True

def Pre_GluDb (m : (ℓ : Loc Cert.GluDb.nD Cert.GluDb.τ Cert.GluDb.sig) → Buf (Elt Bits) ℓ) : Prop :=
  True

def Pre_GluDbIdeal (m : (ℓ : Loc Cert.GluDbIdeal.nD Cert.GluDbIdeal.τ Cert.GluDbIdeal.sig) → Buf (Elt Ideal) ℓ) : Prop :=
  True

def Pre_GluDbRefIdeal (m : (ℓ : Loc Cert.GluDbRefIdeal.nD Cert.GluDbRefIdeal.τ Cert.GluDbRefIdeal.sig) → Buf (Elt Ideal) ℓ) : Prop :=
  True

def Pre_SInDa (m : (ℓ : Loc Cert.SInDa.nD Cert.SInDa.τ Cert.SInDa.sig) → Buf (Elt Bits) ℓ) : Prop :=
  True

def Pre_SInDaIdeal (m : (ℓ : Loc Cert.SInDaIdeal.nD Cert.SInDaIdeal.τ Cert.SInDaIdeal.sig) → Buf (Elt Ideal) ℓ) : Prop :=
  True

def Pre_SInDaRefIdeal (m : (ℓ : Loc Cert.SInDaRefIdeal.nD Cert.SInDaRefIdeal.τ Cert.SInDaRefIdeal.sig) → Buf (Elt Ideal) ℓ) : Prop :=
  True

def Pre_SInDb (m : (ℓ : Loc Cert.SInDb.nD Cert.SInDb.τ Cert.SInDb.sig) → Buf (Elt Bits) ℓ) : Prop :=
  True

def Pre_SInDbIdeal (m : (ℓ : Loc Cert.SInDbIdeal.nD Cert.SInDbIdeal.τ Cert.SInDbIdeal.sig) → Buf (Elt Ideal) ℓ) : Prop :=
  True

def Pre_SInDbRefIdeal (m : (ℓ : Loc Cert.SInDbRefIdeal.nD Cert.SInDbRefIdeal.τ Cert.SInDbRefIdeal.sig) → Buf (Elt Ideal) ℓ) : Prop :=
  True

def Pre_LOutDa (m : (ℓ : Loc Cert.LOutDa.nD Cert.LOutDa.τ Cert.LOutDa.sig) → Buf (Elt Bits) ℓ) : Prop :=
  True

def Pre_LOutDaIdeal (m : (ℓ : Loc Cert.LOutDaIdeal.nD Cert.LOutDaIdeal.τ Cert.LOutDaIdeal.sig) → Buf (Elt Ideal) ℓ) : Prop :=
  True

def Pre_LOutDaRefIdeal (m : (ℓ : Loc Cert.LOutDaRefIdeal.nD Cert.LOutDaRefIdeal.τ Cert.LOutDaRefIdeal.sig) → Buf (Elt Ideal) ℓ) : Prop :=
  True

def Pre_LOutDb (m : (ℓ : Loc Cert.LOutDb.nD Cert.LOutDb.τ Cert.LOutDb.sig) → Buf (Elt Bits) ℓ) : Prop :=
  True

def Pre_LOutDbIdeal (m : (ℓ : Loc Cert.LOutDbIdeal.nD Cert.LOutDbIdeal.τ Cert.LOutDbIdeal.sig) → Buf (Elt Ideal) ℓ) : Prop :=
  True

def Pre_LOutDbRefIdeal (m : (ℓ : Loc Cert.LOutDbRefIdeal.nD Cert.LOutDbRefIdeal.τ Cert.LOutDbRefIdeal.sig) → Buf (Elt Ideal) ℓ) : Prop :=
  True

def Pre_LInDa (m : (ℓ : Loc Cert.LInDa.nD Cert.LInDa.τ Cert.LInDa.sig) → Buf (Elt Bits) ℓ) : Prop :=
  True

def Pre_LInDaIdeal (m : (ℓ : Loc Cert.LInDaIdeal.nD Cert.LInDaIdeal.τ Cert.LInDaIdeal.sig) → Buf (Elt Ideal) ℓ) : Prop :=
  True

def Pre_LInDaRefIdeal (m : (ℓ : Loc Cert.LInDaRefIdeal.nD Cert.LInDaRefIdeal.τ Cert.LInDaRefIdeal.sig) → Buf (Elt Ideal) ℓ) : Prop :=
  True

def Pre_LInDb (m : (ℓ : Loc Cert.LInDb.nD Cert.LInDb.τ Cert.LInDb.sig) → Buf (Elt Bits) ℓ) : Prop :=
  True

def Pre_LInDbIdeal (m : (ℓ : Loc Cert.LInDbIdeal.nD Cert.LInDbIdeal.τ Cert.LInDbIdeal.sig) → Buf (Elt Ideal) ℓ) : Prop :=
  True

def Pre_LInDbRefIdeal (m : (ℓ : Loc Cert.LInDbRefIdeal.nD Cert.LInDbRefIdeal.τ Cert.LInDbRefIdeal.sig) → Buf (Elt Ideal) ℓ) : Prop :=
  True

def Pre_SIn (m : (ℓ : Loc Cert.SIn.nD Cert.SIn.τ Cert.SIn.sig) → Buf (Elt Bits) ℓ) : Prop :=
  True

def Pre_SInIdeal (m : (ℓ : Loc Cert.SInIdeal.nD Cert.SInIdeal.τ Cert.SInIdeal.sig) → Buf (Elt Ideal) ℓ) : Prop :=
  True

def Pre_SInRefIdeal (m : (ℓ : Loc Cert.SInRefIdeal.nD Cert.SInRefIdeal.τ Cert.SInRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_LIn (m : (ℓ : Loc Cert.LIn.nD Cert.LIn.τ Cert.LIn.sig) → Buf (Elt Bits) ℓ) : Prop :=
  True

def Pre_LInIdeal (m : (ℓ : Loc Cert.LInIdeal.nD Cert.LInIdeal.τ Cert.LInIdeal.sig) → Buf (Elt Ideal) ℓ) : Prop :=
  True

def Pre_LInRefIdeal (m : (ℓ : Loc Cert.LInRefIdeal.nD Cert.LInRefIdeal.τ Cert.LInRefIdeal.sig) → Buf (Elt Ideal) ℓ) : Prop :=
  True

def Pre_LOut (m : (ℓ : Loc Cert.LOut.nD Cert.LOut.τ Cert.LOut.sig) → Buf (Elt Bits) ℓ) : Prop :=
  True

def Pre_LOutIdeal (m : (ℓ : Loc Cert.LOutIdeal.nD Cert.LOutIdeal.τ Cert.LOutIdeal.sig) → Buf (Elt Ideal) ℓ) : Prop :=
  True

def Pre_LOutRefIdeal (m : (ℓ : Loc Cert.LOutRefIdeal.nD Cert.LOutRefIdeal.τ Cert.LOutRefIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_ActFwd (m : (ℓ : Loc Cert.ActFwd.nD Cert.ActFwd.τ Cert.ActFwd.sig) → Buf (Elt Bits) ℓ) : Prop :=
  True

def Pre_ActFwdIdeal (m : (ℓ : Loc Cert.ActFwdIdeal.nD Cert.ActFwdIdeal.τ Cert.ActFwdIdeal.sig) → Buf (Elt Ideal) ℓ) : Prop :=
  True

def Pre_ActFwdRefIdeal (m : (ℓ : Loc Cert.ActFwdRefIdeal.nD Cert.ActFwdRefIdeal.τ Cert.ActFwdRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_GluResB (m : (ℓ : Loc Cert.GluResB.nD Cert.GluResB.τ Cert.GluResB.sig) → Buf (Elt Bits) ℓ) : Prop :=
  True

def Pre_GluResBIdeal (m : (ℓ : Loc Cert.GluResBIdeal.nD Cert.GluResBIdeal.τ Cert.GluResBIdeal.sig) → Buf (Elt Ideal) ℓ) : Prop :=
  True

def Pre_GluResBRefIdeal (m : (ℓ : Loc Cert.GluResBRefIdeal.nD Cert.GluResBRefIdeal.τ Cert.GluResBRefIdeal.sig) → Buf (Elt Ideal) ℓ) : Prop :=
  True

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBRefIdeal (m : (ℓ : Loc Cert.NormBRefIdeal.nD Cert.NormBRefIdeal.τ Cert.NormBRefIdeal.sig) → Buf (Elt Ideal) ℓ) : Prop :=
  True

def Pre_GluRes (m : (ℓ : Loc Cert.GluRes.nD Cert.GluRes.τ Cert.GluRes.sig) → Buf (Elt Bits) ℓ) : Prop :=
  True

def Pre_GluResIdeal (m : (ℓ : Loc Cert.GluResIdeal.nD Cert.GluResIdeal.τ Cert.GluResIdeal.sig) → Buf (Elt Ideal) ℓ) : Prop :=
  True

def Pre_GluResRefIdeal (m : (ℓ : Loc Cert.GluResRefIdeal.nD Cert.GluResRefIdeal.τ Cert.GluResRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_AdaW (m : (ℓ : Loc Cert.AdaW.nD Cert.AdaW.τ Cert.AdaW.sig) → Buf (Elt Bits) ℓ) : Prop :=
  True

def Pre_AdaWIdeal (m : (ℓ : Loc Cert.AdaWIdeal.nD Cert.AdaWIdeal.τ Cert.AdaWIdeal.sig) → Buf (Elt Ideal) ℓ) : Prop :=
  True

def Pre_AdaWRefIdeal (m : (ℓ : Loc Cert.AdaWRefIdeal.nD Cert.AdaWRefIdeal.τ Cert.AdaWRefIdeal.sig) → Buf (Elt Ideal) ℓ) : Prop :=
  True

def Pre_SInW (m : (ℓ : Loc Cert.SInW.nD Cert.SInW.τ Cert.SInW.sig) → Buf (Elt Bits) ℓ) : Prop :=
  True

def Pre_SInWIdeal (m : (ℓ : Loc Cert.SInWIdeal.nD Cert.SInWIdeal.τ Cert.SInWIdeal.sig) → Buf (Elt Ideal) ℓ) : Prop :=
  True

def Pre_SInWRefIdeal (m : (ℓ : Loc Cert.SInWRefIdeal.nD Cert.SInWRefIdeal.τ Cert.SInWRefIdeal.sig) → Buf (Elt Ideal) ℓ) : Prop :=
  True

def Pre_GluW (m : (ℓ : Loc Cert.GluW.nD Cert.GluW.τ Cert.GluW.sig) → Buf (Elt Bits) ℓ) : Prop :=
  True

def Pre_GluWIdeal (m : (ℓ : Loc Cert.GluWIdeal.nD Cert.GluWIdeal.τ Cert.GluWIdeal.sig) → Buf (Elt Ideal) ℓ) : Prop :=
  True

def Pre_GluWRefIdeal (m : (ℓ : Loc Cert.GluWRefIdeal.nD Cert.GluWRefIdeal.τ Cert.GluWRefIdeal.sig) → Buf (Elt Ideal) ℓ) : Prop :=
  True

def Pre_LInW (m : (ℓ : Loc Cert.LInW.nD Cert.LInW.τ Cert.LInW.sig) → Buf (Elt Bits) ℓ) : Prop :=
  True

def Pre_LInWIdeal (m : (ℓ : Loc Cert.LInWIdeal.nD Cert.LInWIdeal.τ Cert.LInWIdeal.sig) → Buf (Elt Ideal) ℓ) : Prop :=
  True

def Pre_LInWRefIdeal (m : (ℓ : Loc Cert.LInWRefIdeal.nD Cert.LInWRefIdeal.τ Cert.LInWRefIdeal.sig) → Buf (Elt Ideal) ℓ) : Prop :=
  True

def Pre_LOutW (m : (ℓ : Loc Cert.LOutW.nD Cert.LOutW.τ Cert.LOutW.sig) → Buf (Elt Bits) ℓ) : Prop :=
  True

def Pre_LOutWIdeal (m : (ℓ : Loc Cert.LOutWIdeal.nD Cert.LOutWIdeal.τ Cert.LOutWIdeal.sig) → Buf (Elt Ideal) ℓ) : Prop :=
  True

def Pre_LOutWRefIdeal (m : (ℓ : Loc Cert.LOutWRefIdeal.nD Cert.LOutWRefIdeal.τ Cert.LOutWRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_GuDa [hGuDa : Cert.GuDa.Facts] : Prop :=
  ∀ (m : (ℓ : Loc Cert.GuDa.nD Cert.GuDa.τ Cert.GuDa.sig) → Buf (Elt Bits) ℓ) (g : Dev Cert.GuDa.nD → PrngReg), Pre_GuDa m →
    θ_run (Cert.GuDa.defs (F := Bits)) (onTc (τ := Cert.GuDa.τ) (Cert.GuDa.main (F := Bits))) ⟨m, fun _ => 0, g⟩ (fun r => (∀ c : Dev Cert.GuDa.nD,
      r.2.mem ((c.tc : Thread Cert.GuDa.nD Cert.GuDa.τ).loc Cert.GuDa.main_arg0) = m ((c.tc : Thread Cert.GuDa.nD Cert.GuDa.τ).loc Cert.GuDa.main_arg0)
      ∧ r.2.mem ((c.tc : Thread Cert.GuDa.nD Cert.GuDa.τ).loc Cert.GuDa.main_arg1) = m ((c.tc : Thread Cert.GuDa.nD Cert.GuDa.τ).loc Cert.GuDa.main_arg1))
      ∧ r.2.sem = fun _ => 0)

def quiescent_GuDaIdeal [hGuDaIdeal : Cert.GuDaIdeal.Facts] : Prop :=
  ∀ (m : (ℓ : Loc Cert.GuDaIdeal.nD Cert.GuDaIdeal.τ Cert.GuDaIdeal.sig) → Buf (Elt Ideal) ℓ) (g : Dev Cert.GuDaIdeal.nD → PrngReg), Pre_GuDaIdeal m →
    θ_run (Cert.GuDaIdeal.defs (F := Ideal)) (onTc (τ := Cert.GuDaIdeal.τ) (Cert.GuDaIdeal.main (F := Ideal))) ⟨m, fun _ => 0, g⟩ (fun r => (∀ c : Dev Cert.GuDaIdeal.nD,
      r.2.mem ((c.tc : Thread Cert.GuDaIdeal.nD Cert.GuDaIdeal.τ).loc Cert.GuDaIdeal.main_arg0) = m ((c.tc : Thread Cert.GuDaIdeal.nD Cert.GuDaIdeal.τ).loc Cert.GuDaIdeal.main_arg0)
      ∧ r.2.mem ((c.tc : Thread Cert.GuDaIdeal.nD Cert.GuDaIdeal.τ).loc Cert.GuDaIdeal.main_arg1) = m ((c.tc : Thread Cert.GuDaIdeal.nD Cert.GuDaIdeal.τ).loc Cert.GuDaIdeal.main_arg1))
      ∧ r.2.sem = fun _ => 0)

def quiescent_GuDaRefIdeal [hGuDaRefIdeal : Cert.GuDaRefIdeal.Facts] : Prop :=
  ∀ (m : (ℓ : Loc Cert.GuDaRefIdeal.nD Cert.GuDaRefIdeal.τ Cert.GuDaRefIdeal.sig) → Buf (Elt Ideal) ℓ) (g : Dev Cert.GuDaRefIdeal.nD → PrngReg), Pre_GuDaRefIdeal m →
    θ_run (Cert.GuDaRefIdeal.defs (F := Ideal)) (onTc (τ := Cert.GuDaRefIdeal.τ) (Cert.GuDaRefIdeal.main (F := Ideal))) ⟨m, fun _ => 0, g⟩ (fun r => (∀ c : Dev Cert.GuDaRefIdeal.nD,
      r.2.mem ((c.tc : Thread Cert.GuDaRefIdeal.nD Cert.GuDaRefIdeal.τ).loc Cert.GuDaRefIdeal.main_arg0) = m ((c.tc : Thread Cert.GuDaRefIdeal.nD Cert.GuDaRefIdeal.τ).loc Cert.GuDaRefIdeal.main_arg0)
      ∧ r.2.mem ((c.tc : Thread Cert.GuDaRefIdeal.nD Cert.GuDaRefIdeal.τ).loc Cert.GuDaRefIdeal.main_arg1) = m ((c.tc : Thread Cert.GuDaRefIdeal.nD Cert.GuDaRefIdeal.τ).loc Cert.GuDaRefIdeal.main_arg1))
      ∧ r.2.sem = fun _ => 0)

def quiescent_GuDb [hGuDb : Cert.GuDb.Facts] : Prop :=
  ∀ (m : (ℓ : Loc Cert.GuDb.nD Cert.GuDb.τ Cert.GuDb.sig) → Buf (Elt Bits) ℓ) (g : Dev Cert.GuDb.nD → PrngReg), Pre_GuDb m →
    θ_run (Cert.GuDb.defs (F := Bits)) (onTc (τ := Cert.GuDb.τ) (Cert.GuDb.main (F := Bits))) ⟨m, fun _ => 0, g⟩ (fun r => (∀ c : Dev Cert.GuDb.nD,
      r.2.mem ((c.tc : Thread Cert.GuDb.nD Cert.GuDb.τ).loc Cert.GuDb.main_arg0) = m ((c.tc : Thread Cert.GuDb.nD Cert.GuDb.τ).loc Cert.GuDb.main_arg0)
      ∧ r.2.mem ((c.tc : Thread Cert.GuDb.nD Cert.GuDb.τ).loc Cert.GuDb.main_arg1) = m ((c.tc : Thread Cert.GuDb.nD Cert.GuDb.τ).loc Cert.GuDb.main_arg1))
      ∧ r.2.sem = fun _ => 0)

def quiescent_GuDbIdeal [hGuDbIdeal : Cert.GuDbIdeal.Facts] : Prop :=
  ∀ (m : (ℓ : Loc Cert.GuDbIdeal.nD Cert.GuDbIdeal.τ Cert.GuDbIdeal.sig) → Buf (Elt Ideal) ℓ) (g : Dev Cert.GuDbIdeal.nD → PrngReg), Pre_GuDbIdeal m →
    θ_run (Cert.GuDbIdeal.defs (F := Ideal)) (onTc (τ := Cert.GuDbIdeal.τ) (Cert.GuDbIdeal.main (F := Ideal))) ⟨m, fun _ => 0, g⟩ (fun r => (∀ c : Dev Cert.GuDbIdeal.nD,
      r.2.mem ((c.tc : Thread Cert.GuDbIdeal.nD Cert.GuDbIdeal.τ).loc Cert.GuDbIdeal.main_arg0) = m ((c.tc : Thread Cert.GuDbIdeal.nD Cert.GuDbIdeal.τ).loc Cert.GuDbIdeal.main_arg0)
      ∧ r.2.mem ((c.tc : Thread Cert.GuDbIdeal.nD Cert.GuDbIdeal.τ).loc Cert.GuDbIdeal.main_arg1) = m ((c.tc : Thread Cert.GuDbIdeal.nD Cert.GuDbIdeal.τ).loc Cert.GuDbIdeal.main_arg1))
      ∧ r.2.sem = fun _ => 0)

def quiescent_GuDbRefIdeal [hGuDbRefIdeal : Cert.GuDbRefIdeal.Facts] : Prop :=
  ∀ (m : (ℓ : Loc Cert.GuDbRefIdeal.nD Cert.GuDbRefIdeal.τ Cert.GuDbRefIdeal.sig) → Buf (Elt Ideal) ℓ) (g : Dev Cert.GuDbRefIdeal.nD → PrngReg), Pre_GuDbRefIdeal m →
    θ_run (Cert.GuDbRefIdeal.defs (F := Ideal)) (onTc (τ := Cert.GuDbRefIdeal.τ) (Cert.GuDbRefIdeal.main (F := Ideal))) ⟨m, fun _ => 0, g⟩ (fun r => (∀ c : Dev Cert.GuDbRefIdeal.nD,
      r.2.mem ((c.tc : Thread Cert.GuDbRefIdeal.nD Cert.GuDbRefIdeal.τ).loc Cert.GuDbRefIdeal.main_arg0) = m ((c.tc : Thread Cert.GuDbRefIdeal.nD Cert.GuDbRefIdeal.τ).loc Cert.GuDbRefIdeal.main_arg0)
      ∧ r.2.mem ((c.tc : Thread Cert.GuDbRefIdeal.nD Cert.GuDbRefIdeal.τ).loc Cert.GuDbRefIdeal.main_arg1) = m ((c.tc : Thread Cert.GuDbRefIdeal.nD Cert.GuDbRefIdeal.τ).loc Cert.GuDbRefIdeal.main_arg1))
      ∧ r.2.sem = fun _ => 0)

def quiescent_DownDa [hDownDa : Cert.DownDa.Facts] : Prop :=
  ∀ (m : (ℓ : Loc Cert.DownDa.nD Cert.DownDa.τ Cert.DownDa.sig) → Buf (Elt Bits) ℓ) (g : Dev Cert.DownDa.nD → PrngReg), Pre_DownDa m →
    θ_run (Cert.DownDa.defs (F := Bits)) (onTc (τ := Cert.DownDa.τ) (Cert.DownDa.main (F := Bits))) ⟨m, fun _ => 0, g⟩ (fun r => (∀ c : Dev Cert.DownDa.nD,
      r.2.mem ((c.tc : Thread Cert.DownDa.nD Cert.DownDa.τ).loc Cert.DownDa.main_arg0) = m ((c.tc : Thread Cert.DownDa.nD Cert.DownDa.τ).loc Cert.DownDa.main_arg0)
      ∧ r.2.mem ((c.tc : Thread Cert.DownDa.nD Cert.DownDa.τ).loc Cert.DownDa.main_arg1) = m ((c.tc : Thread Cert.DownDa.nD Cert.DownDa.τ).loc Cert.DownDa.main_arg1))
      ∧ r.2.sem = fun _ => 0)

def quiescent_DownDaIdeal [hDownDaIdeal : Cert.DownDaIdeal.Facts] : Prop :=
  ∀ (m : (ℓ : Loc Cert.DownDaIdeal.nD Cert.DownDaIdeal.τ Cert.DownDaIdeal.sig) → Buf (Elt Ideal) ℓ) (g : Dev Cert.DownDaIdeal.nD → PrngReg), Pre_DownDaIdeal m →
    θ_run (Cert.DownDaIdeal.defs (F := Ideal)) (onTc (τ := Cert.DownDaIdeal.τ) (Cert.DownDaIdeal.main (F := Ideal))) ⟨m, fun _ => 0, g⟩ (fun r => (∀ c : Dev Cert.DownDaIdeal.nD,
      r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
      ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1))
      ∧ r.2.sem = fun _ => 0)

def quiescent_DownDaRefIdeal [hDownDaRefIdeal : Cert.DownDaRefIdeal.Facts] : Prop :=
  ∀ (m : (ℓ : Loc Cert.DownDaRefIdeal.nD Cert.DownDaRefIdeal.τ Cert.DownDaRefIdeal.sig) → Buf (Elt Ideal) ℓ) (g : Dev Cert.DownDaRefIdeal.nD → PrngReg), Pre_DownDaRefIdeal m →
    θ_run (Cert.DownDaRefIdeal.defs (F := Ideal)) (onTc (τ := Cert.DownDaRefIdeal.τ) (Cert.DownDaRefIdeal.main (F := Ideal))) ⟨m, fun _ => 0, g⟩ (fun r => (∀ c : Dev Cert.DownDaRefIdeal.nD,
      r.2.mem ((c.tc : Thread Cert.DownDaRefIdeal.nD Cert.DownDaRefIdeal.τ).loc Cert.DownDaRefIdeal.main_arg0) = m ((c.tc : Thread Cert.DownDaRefIdeal.nD Cert.DownDaRefIdeal.τ).loc Cert.DownDaRefIdeal.main_arg0)
      ∧ r.2.mem ((c.tc : Thread Cert.DownDaRefIdeal.nD Cert.DownDaRefIdeal.τ).loc Cert.DownDaRefIdeal.main_arg1) = m ((c.tc : Thread Cert.DownDaRefIdeal.nD Cert.DownDaRefIdeal.τ).loc Cert.DownDaRefIdeal.main_arg1))
      ∧ r.2.sem = fun _ => 0)

def quiescent_DownDb [hDownDb : Cert.DownDb.Facts] : Prop :=
  ∀ (m : (ℓ : Loc Cert.DownDb.nD Cert.DownDb.τ Cert.DownDb.sig) → Buf (Elt Bits) ℓ) (g : Dev Cert.DownDb.nD → PrngReg), Pre_DownDb m →
    θ_run (Cert.DownDb.defs (F := Bits)) (onTc (τ := Cert.DownDb.τ) (Cert.DownDb.main (F := Bits))) ⟨m, fun _ => 0, g⟩ (fun r => (∀ c : Dev Cert.DownDb.nD,
      r.2.mem ((c.tc : Thread Cert.DownDb.nD Cert.DownDb.τ).loc Cert.DownDb.main_arg0) = m ((c.tc : Thread Cert.DownDb.nD Cert.DownDb.τ).loc Cert.DownDb.main_arg0)
      ∧ r.2.mem ((c.tc : Thread Cert.DownDb.nD Cert.DownDb.τ).loc Cert.DownDb.main_arg1) = m ((c.tc : Thread Cert.DownDb.nD Cert.DownDb.τ).loc Cert.DownDb.main_arg1))
      ∧ r.2.sem = fun _ => 0)

def quiescent_DownDbIdeal [hDownDbIdeal : Cert.DownDbIdeal.Facts] : Prop :=
  ∀ (m : (ℓ : Loc Cert.DownDbIdeal.nD Cert.DownDbIdeal.τ Cert.DownDbIdeal.sig) → Buf (Elt Ideal) ℓ) (g : Dev Cert.DownDbIdeal.nD → PrngReg), Pre_DownDbIdeal m →
    θ_run (Cert.DownDbIdeal.defs (F := Ideal)) (onTc (τ := Cert.DownDbIdeal.τ) (Cert.DownDbIdeal.main (F := Ideal))) ⟨m, fun _ => 0, g⟩ (fun r => (∀ c : Dev Cert.DownDbIdeal.nD,
      r.2.mem ((c.tc : Thread Cert.DownDbIdeal.nD Cert.DownDbIdeal.τ).loc Cert.DownDbIdeal.main_arg0) = m ((c.tc : Thread Cert.DownDbIdeal.nD Cert.DownDbIdeal.τ).loc Cert.DownDbIdeal.main_arg0)
      ∧ r.2.mem ((c.tc : Thread Cert.DownDbIdeal.nD Cert.DownDbIdeal.τ).loc Cert.DownDbIdeal.main_arg1) = m ((c.tc : Thread Cert.DownDbIdeal.nD Cert.DownDbIdeal.τ).loc Cert.DownDbIdeal.main_arg1))
      ∧ r.2.sem = fun _ => 0)

def quiescent_DownDbRefIdeal [hDownDbRefIdeal : Cert.DownDbRefIdeal.Facts] : Prop :=
  ∀ (m : (ℓ : Loc Cert.DownDbRefIdeal.nD Cert.DownDbRefIdeal.τ Cert.DownDbRefIdeal.sig) → Buf (Elt Ideal) ℓ) (g : Dev Cert.DownDbRefIdeal.nD → PrngReg), Pre_DownDbRefIdeal m →
    θ_run (Cert.DownDbRefIdeal.defs (F := Ideal)) (onTc (τ := Cert.DownDbRefIdeal.τ) (Cert.DownDbRefIdeal.main (F := Ideal))) ⟨m, fun _ => 0, g⟩ (fun r => (∀ c : Dev Cert.DownDbRefIdeal.nD,
      r.2.mem ((c.tc : Thread Cert.DownDbRefIdeal.nD Cert.DownDbRefIdeal.τ).loc Cert.DownDbRefIdeal.main_arg0) = m ((c.tc : Thread Cert.DownDbRefIdeal.nD Cert.DownDbRefIdeal.τ).loc Cert.DownDbRefIdeal.main_arg0)
      ∧ r.2.mem ((c.tc : Thread Cert.DownDbRefIdeal.nD Cert.DownDbRefIdeal.τ).loc Cert.DownDbRefIdeal.main_arg1) = m ((c.tc : Thread Cert.DownDbRefIdeal.nD Cert.DownDbRefIdeal.τ).loc Cert.DownDbRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1))
      ∧ r.2.sem = fun _ => 0)

def quiescent_SGrads [hSGrads : Cert.SGrads.Facts] : Prop :=
  ∀ (m : (ℓ : Loc Cert.SGrads.nD Cert.SGrads.τ Cert.SGrads.sig) → Buf (Elt Bits) ℓ) (g : Dev Cert.SGrads.nD → PrngReg), Pre_SGrads m →
    θ_run (Cert.SGrads.defs (F := Bits)) (onTc (τ := Cert.SGrads.τ) (Cert.SGrads.main (F := Bits))) ⟨m, fun _ => 0, g⟩ (fun r => (∀ c : Dev Cert.SGrads.nD,
      r.2.mem ((c.tc : Thread Cert.SGrads.nD Cert.SGrads.τ).loc Cert.SGrads.main_arg0) = m ((c.tc : Thread Cert.SGrads.nD Cert.SGrads.τ).loc Cert.SGrads.main_arg0)
      ∧ r.2.mem ((c.tc : Thread Cert.SGrads.nD Cert.SGrads.τ).loc Cert.SGrads.main_arg1) = m ((c.tc : Thread Cert.SGrads.nD Cert.SGrads.τ).loc Cert.SGrads.main_arg1)
      ∧ r.2.mem ((c.tc : Thread Cert.SGrads.nD Cert.SGrads.τ).loc Cert.SGrads.main_arg2) = m ((c.tc : Thread Cert.SGrads.nD Cert.SGrads.τ).loc Cert.SGrads.main_arg2)
      ∧ r.2.mem ((c.tc : Thread Cert.SGrads.nD Cert.SGrads.τ).loc Cert.SGrads.main_arg3) = m ((c.tc : Thread Cert.SGrads.nD Cert.SGrads.τ).loc Cert.SGrads.main_arg3)
      ∧ r.2.mem ((c.tc : Thread Cert.SGrads.nD Cert.SGrads.τ).loc Cert.SGrads.main_arg4) = m ((c.tc : Thread Cert.SGrads.nD Cert.SGrads.τ).loc Cert.SGrads.main_arg4)
      ∧ r.2.mem ((c.tc : Thread Cert.SGrads.nD Cert.SGrads.τ).loc Cert.SGrads.main_arg5) = m ((c.tc : Thread Cert.SGrads.nD Cert.SGrads.τ).loc Cert.SGrads.main_arg5)
      ∧ r.2.mem ((c.tc : Thread Cert.SGrads.nD Cert.SGrads.τ).loc Cert.SGrads.main_arg6) = m ((c.tc : Thread Cert.SGrads.nD Cert.SGrads.τ).loc Cert.SGrads.main_arg6)
      ∧ r.2.mem ((c.tc : Thread Cert.SGrads.nD Cert.SGrads.τ).loc Cert.SGrads.main_arg7) = m ((c.tc : Thread Cert.SGrads.nD Cert.SGrads.τ).loc Cert.SGrads.main_arg7)
      ∧ r.2.mem ((c.tc : Thread Cert.SGrads.nD Cert.SGrads.τ).loc Cert.SGrads.main_arg8) = m ((c.tc : Thread Cert.SGrads.nD Cert.SGrads.τ).loc Cert.SGrads.main_arg8))
      ∧ r.2.sem = fun _ => 0)

def quiescent_SGradsIdeal [hSGradsIdeal : Cert.SGradsIdeal.Facts] : Prop :=
  ∀ (m : (ℓ : Loc Cert.SGradsIdeal.nD Cert.SGradsIdeal.τ Cert.SGradsIdeal.sig) → Buf (Elt Ideal) ℓ) (g : Dev Cert.SGradsIdeal.nD → PrngReg), Pre_SGradsIdeal m →
    θ_run (Cert.SGradsIdeal.defs (F := Ideal)) (onTc (τ := Cert.SGradsIdeal.τ) (Cert.SGradsIdeal.main (F := Ideal))) ⟨m, fun _ => 0, g⟩ (fun r => (∀ c : Dev Cert.SGradsIdeal.nD,
      r.2.mem ((c.tc : Thread Cert.SGradsIdeal.nD Cert.SGradsIdeal.τ).loc Cert.SGradsIdeal.main_arg0) = m ((c.tc : Thread Cert.SGradsIdeal.nD Cert.SGradsIdeal.τ).loc Cert.SGradsIdeal.main_arg0)
      ∧ r.2.mem ((c.tc : Thread Cert.SGradsIdeal.nD Cert.SGradsIdeal.τ).loc Cert.SGradsIdeal.main_arg1) = m ((c.tc : Thread Cert.SGradsIdeal.nD Cert.SGradsIdeal.τ).loc Cert.SGradsIdeal.main_arg1)
      ∧ r.2.mem ((c.tc : Thread Cert.SGradsIdeal.nD Cert.SGradsIdeal.τ).loc Cert.SGradsIdeal.main_arg2) = m ((c.tc : Thread Cert.SGradsIdeal.nD Cert.SGradsIdeal.τ).loc Cert.SGradsIdeal.main_arg2)
      ∧ r.2.mem ((c.tc : Thread Cert.SGradsIdeal.nD Cert.SGradsIdeal.τ).loc Cert.SGradsIdeal.main_arg3) = m ((c.tc : Thread Cert.SGradsIdeal.nD Cert.SGradsIdeal.τ).loc Cert.SGradsIdeal.main_arg3)
      ∧ r.2.mem ((c.tc : Thread Cert.SGradsIdeal.nD Cert.SGradsIdeal.τ).loc Cert.SGradsIdeal.main_arg4) = m ((c.tc : Thread Cert.SGradsIdeal.nD Cert.SGradsIdeal.τ).loc Cert.SGradsIdeal.main_arg4)
      ∧ r.2.mem ((c.tc : Thread Cert.SGradsIdeal.nD Cert.SGradsIdeal.τ).loc Cert.SGradsIdeal.main_arg5) = m ((c.tc : Thread Cert.SGradsIdeal.nD Cert.SGradsIdeal.τ).loc Cert.SGradsIdeal.main_arg5)
      ∧ r.2.mem ((c.tc : Thread Cert.SGradsIdeal.nD Cert.SGradsIdeal.τ).loc Cert.SGradsIdeal.main_arg6) = m ((c.tc : Thread Cert.SGradsIdeal.nD Cert.SGradsIdeal.τ).loc Cert.SGradsIdeal.main_arg6)
      ∧ r.2.mem ((c.tc : Thread Cert.SGradsIdeal.nD Cert.SGradsIdeal.τ).loc Cert.SGradsIdeal.main_arg7) = m ((c.tc : Thread Cert.SGradsIdeal.nD Cert.SGradsIdeal.τ).loc Cert.SGradsIdeal.main_arg7)
      ∧ r.2.mem ((c.tc : Thread Cert.SGradsIdeal.nD Cert.SGradsIdeal.τ).loc Cert.SGradsIdeal.main_arg8) = m ((c.tc : Thread Cert.SGradsIdeal.nD Cert.SGradsIdeal.τ).loc Cert.SGradsIdeal.main_arg8))
      ∧ r.2.sem = fun _ => 0)

def quiescent_SGradsRefIdeal [hSGradsRefIdeal : Cert.SGradsRefIdeal.Facts] : Prop :=
  ∀ (m : (ℓ : Loc Cert.SGradsRefIdeal.nD Cert.SGradsRefIdeal.τ Cert.SGradsRefIdeal.sig) → Buf (Elt Ideal) ℓ) (g : Dev Cert.SGradsRefIdeal.nD → PrngReg), Pre_SGradsRefIdeal m →
    θ_run (Cert.SGradsRefIdeal.defs (F := Ideal)) (onTc (τ := Cert.SGradsRefIdeal.τ) (Cert.SGradsRefIdeal.main (F := Ideal))) ⟨m, fun _ => 0, g⟩ (fun r => (∀ c : Dev Cert.SGradsRefIdeal.nD,
      r.2.mem ((c.tc : Thread Cert.SGradsRefIdeal.nD Cert.SGradsRefIdeal.τ).loc Cert.SGradsRefIdeal.main_arg0) = m ((c.tc : Thread Cert.SGradsRefIdeal.nD Cert.SGradsRefIdeal.τ).loc Cert.SGradsRefIdeal.main_arg0)
      ∧ r.2.mem ((c.tc : Thread Cert.SGradsRefIdeal.nD Cert.SGradsRefIdeal.τ).loc Cert.SGradsRefIdeal.main_arg1) = m ((c.tc : Thread Cert.SGradsRefIdeal.nD Cert.SGradsRefIdeal.τ).loc Cert.SGradsRefIdeal.main_arg1)
      ∧ r.2.mem ((c.tc : Thread Cert.SGradsRefIdeal.nD Cert.SGradsRefIdeal.τ).loc Cert.SGradsRefIdeal.main_arg2) = m ((c.tc : Thread Cert.SGradsRefIdeal.nD Cert.SGradsRefIdeal.τ).loc Cert.SGradsRefIdeal.main_arg2)
      ∧ r.2.mem ((c.tc : Thread Cert.SGradsRefIdeal.nD Cert.SGradsRefIdeal.τ).loc Cert.SGradsRefIdeal.main_arg3) = m ((c.tc : Thread Cert.SGradsRefIdeal.nD Cert.SGradsRefIdeal.τ).loc Cert.SGradsRefIdeal.main_arg3)
      ∧ r.2.mem ((c.tc : Thread Cert.SGradsRefIdeal.nD Cert.SGradsRefIdeal.τ).loc Cert.SGradsRefIdeal.main_arg4) = m ((c.tc : Thread Cert.SGradsRefIdeal.nD Cert.SGradsRefIdeal.τ).loc Cert.SGradsRefIdeal.main_arg4)
      ∧ r.2.mem ((c.tc : Thread Cert.SGradsRefIdeal.nD Cert.SGradsRefIdeal.τ).loc Cert.SGradsRefIdeal.main_arg5) = m ((c.tc : Thread Cert.SGradsRefIdeal.nD Cert.SGradsRefIdeal.τ).loc Cert.SGradsRefIdeal.main_arg5)
      ∧ r.2.mem ((c.tc : Thread Cert.SGradsRefIdeal.nD Cert.SGradsRefIdeal.τ).loc Cert.SGradsRefIdeal.main_arg6) = m ((c.tc : Thread Cert.SGradsRefIdeal.nD Cert.SGradsRefIdeal.τ).loc Cert.SGradsRefIdeal.main_arg6)
      ∧ r.2.mem ((c.tc : Thread Cert.SGradsRefIdeal.nD Cert.SGradsRefIdeal.τ).loc Cert.SGradsRefIdeal.main_arg7) = m ((c.tc : Thread Cert.SGradsRefIdeal.nD Cert.SGradsRefIdeal.τ).loc Cert.SGradsRefIdeal.main_arg7)
      ∧ r.2.mem ((c.tc : Thread Cert.SGradsRefIdeal.nD Cert.SGradsRefIdeal.τ).loc Cert.SGradsRefIdeal.main_arg8) = m ((c.tc : Thread Cert.SGradsRefIdeal.nD Cert.SGradsRefIdeal.τ).loc Cert.SGradsRefIdeal.main_arg8))
      ∧ r.2.sem = fun _ => 0)

def quiescent_GluDa [hGluDa : Cert.GluDa.Facts] : Prop :=
  ∀ (m : (ℓ : Loc Cert.GluDa.nD Cert.GluDa.τ Cert.GluDa.sig) → Buf (Elt Bits) ℓ) (g : Dev Cert.GluDa.nD → PrngReg), Pre_GluDa m →
    θ_run (Cert.GluDa.defs (F := Bits)) (onTc (τ := Cert.GluDa.τ) (Cert.GluDa.main (F := Bits))) ⟨m, fun _ => 0, g⟩ (fun r => (∀ c : Dev Cert.GluDa.nD,
      r.2.mem ((c.tc : Thread Cert.GluDa.nD Cert.GluDa.τ).loc Cert.GluDa.main_arg0) = m ((c.tc : Thread Cert.GluDa.nD Cert.GluDa.τ).loc Cert.GluDa.main_arg0)
      ∧ r.2.mem ((c.tc : Thread Cert.GluDa.nD Cert.GluDa.τ).loc Cert.GluDa.main_arg1) = m ((c.tc : Thread Cert.GluDa.nD Cert.GluDa.τ).loc Cert.GluDa.main_arg1))
      ∧ r.2.sem = fun _ => 0)

def quiescent_GluDaIdeal [hGluDaIdeal : Cert.GluDaIdeal.Facts] : Prop :=
  ∀ (m : (ℓ : Loc Cert.GluDaIdeal.nD Cert.GluDaIdeal.τ Cert.GluDaIdeal.sig) → Buf (Elt Ideal) ℓ) (g : Dev Cert.GluDaIdeal.nD → PrngReg), Pre_GluDaIdeal m →
    θ_run (Cert.GluDaIdeal.defs (F := Ideal)) (onTc (τ := Cert.GluDaIdeal.τ) (Cert.GluDaIdeal.main (F := Ideal))) ⟨m, fun _ => 0, g⟩ (fun r => (∀ c : Dev Cert.GluDaIdeal.nD,
      r.2.mem ((c.tc : Thread Cert.GluDaIdeal.nD Cert.GluDaIdeal.τ).loc Cert.GluDaIdeal.main_arg0) = m ((c.tc : Thread Cert.GluDaIdeal.nD Cert.GluDaIdeal.τ).loc Cert.GluDaIdeal.main_arg0)
      ∧ r.2.mem ((c.tc : Thread Cert.GluDaIdeal.nD Cert.GluDaIdeal.τ).loc Cert.GluDaIdeal.main_arg1) = m ((c.tc : Thread Cert.GluDaIdeal.nD Cert.GluDaIdeal.τ).loc Cert.GluDaIdeal.main_arg1))
      ∧ r.2.sem = fun _ => 0)

def quiescent_GluDaRefIdeal [hGluDaRefIdeal : Cert.GluDaRefIdeal.Facts] : Prop :=
  ∀ (m : (ℓ : Loc Cert.GluDaRefIdeal.nD Cert.GluDaRefIdeal.τ Cert.GluDaRefIdeal.sig) → Buf (Elt Ideal) ℓ) (g : Dev Cert.GluDaRefIdeal.nD → PrngReg), Pre_GluDaRefIdeal m →
    θ_run (Cert.GluDaRefIdeal.defs (F := Ideal)) (onTc (τ := Cert.GluDaRefIdeal.τ) (Cert.GluDaRefIdeal.main (F := Ideal))) ⟨m, fun _ => 0, g⟩ (fun r => (∀ c : Dev Cert.GluDaRefIdeal.nD,
      r.2.mem ((c.tc : Thread Cert.GluDaRefIdeal.nD Cert.GluDaRefIdeal.τ).loc Cert.GluDaRefIdeal.main_arg0) = m ((c.tc : Thread Cert.GluDaRefIdeal.nD Cert.GluDaRefIdeal.τ).loc Cert.GluDaRefIdeal.main_arg0)
      ∧ r.2.mem ((c.tc : Thread Cert.GluDaRefIdeal.nD Cert.GluDaRefIdeal.τ).loc Cert.GluDaRefIdeal.main_arg1) = m ((c.tc : Thread Cert.GluDaRefIdeal.nD Cert.GluDaRefIdeal.τ).loc Cert.GluDaRefIdeal.main_arg1))
      ∧ r.2.sem = fun _ => 0)

def quiescent_GluDb [hGluDb : Cert.GluDb.Facts] : Prop :=
  ∀ (m : (ℓ : Loc Cert.GluDb.nD Cert.GluDb.τ Cert.GluDb.sig) → Buf (Elt Bits) ℓ) (g : Dev Cert.GluDb.nD → PrngReg), Pre_GluDb m →
    θ_run (Cert.GluDb.defs (F := Bits)) (onTc (τ := Cert.GluDb.τ) (Cert.GluDb.main (F := Bits))) ⟨m, fun _ => 0, g⟩ (fun r => (∀ c : Dev Cert.GluDb.nD,
      r.2.mem ((c.tc : Thread Cert.GluDb.nD Cert.GluDb.τ).loc Cert.GluDb.main_arg0) = m ((c.tc : Thread Cert.GluDb.nD Cert.GluDb.τ).loc Cert.GluDb.main_arg0)
      ∧ r.2.mem ((c.tc : Thread Cert.GluDb.nD Cert.GluDb.τ).loc Cert.GluDb.main_arg1) = m ((c.tc : Thread Cert.GluDb.nD Cert.GluDb.τ).loc Cert.GluDb.main_arg1))
      ∧ r.2.sem = fun _ => 0)

def quiescent_GluDbIdeal [hGluDbIdeal : Cert.GluDbIdeal.Facts] : Prop :=
  ∀ (m : (ℓ : Loc Cert.GluDbIdeal.nD Cert.GluDbIdeal.τ Cert.GluDbIdeal.sig) → Buf (Elt Ideal) ℓ) (g : Dev Cert.GluDbIdeal.nD → PrngReg), Pre_GluDbIdeal m →
    θ_run (Cert.GluDbIdeal.defs (F := Ideal)) (onTc (τ := Cert.GluDbIdeal.τ) (Cert.GluDbIdeal.main (F := Ideal))) ⟨m, fun _ => 0, g⟩ (fun r => (∀ c : Dev Cert.GluDbIdeal.nD,
      r.2.mem ((c.tc : Thread Cert.GluDbIdeal.nD Cert.GluDbIdeal.τ).loc Cert.GluDbIdeal.main_arg0) = m ((c.tc : Thread Cert.GluDbIdeal.nD Cert.GluDbIdeal.τ).loc Cert.GluDbIdeal.main_arg0)
      ∧ r.2.mem ((c.tc : Thread Cert.GluDbIdeal.nD Cert.GluDbIdeal.τ).loc Cert.GluDbIdeal.main_arg1) = m ((c.tc : Thread Cert.GluDbIdeal.nD Cert.GluDbIdeal.τ).loc Cert.GluDbIdeal.main_arg1))
      ∧ r.2.sem = fun _ => 0)

def quiescent_GluDbRefIdeal [hGluDbRefIdeal : Cert.GluDbRefIdeal.Facts] : Prop :=
  ∀ (m : (ℓ : Loc Cert.GluDbRefIdeal.nD Cert.GluDbRefIdeal.τ Cert.GluDbRefIdeal.sig) → Buf (Elt Ideal) ℓ) (g : Dev Cert.GluDbRefIdeal.nD → PrngReg), Pre_GluDbRefIdeal m →
    θ_run (Cert.GluDbRefIdeal.defs (F := Ideal)) (onTc (τ := Cert.GluDbRefIdeal.τ) (Cert.GluDbRefIdeal.main (F := Ideal))) ⟨m, fun _ => 0, g⟩ (fun r => (∀ c : Dev Cert.GluDbRefIdeal.nD,
      r.2.mem ((c.tc : Thread Cert.GluDbRefIdeal.nD Cert.GluDbRefIdeal.τ).loc Cert.GluDbRefIdeal.main_arg0) = m ((c.tc : Thread Cert.GluDbRefIdeal.nD Cert.GluDbRefIdeal.τ).loc Cert.GluDbRefIdeal.main_arg0)
      ∧ r.2.mem ((c.tc : Thread Cert.GluDbRefIdeal.nD Cert.GluDbRefIdeal.τ).loc Cert.GluDbRefIdeal.main_arg1) = m ((c.tc : Thread Cert.GluDbRefIdeal.nD Cert.GluDbRefIdeal.τ).loc Cert.GluDbRefIdeal.main_arg1))
      ∧ r.2.sem = fun _ => 0)

def quiescent_SInDa [hSInDa : Cert.SInDa.Facts] : Prop :=
  ∀ (m : (ℓ : Loc Cert.SInDa.nD Cert.SInDa.τ Cert.SInDa.sig) → Buf (Elt Bits) ℓ) (g : Dev Cert.SInDa.nD → PrngReg), Pre_SInDa m →
    θ_run (Cert.SInDa.defs (F := Bits)) (onTc (τ := Cert.SInDa.τ) (Cert.SInDa.main (F := Bits))) ⟨m, fun _ => 0, g⟩ (fun r => (∀ c : Dev Cert.SInDa.nD,
      r.2.mem ((c.tc : Thread Cert.SInDa.nD Cert.SInDa.τ).loc Cert.SInDa.main_arg0) = m ((c.tc : Thread Cert.SInDa.nD Cert.SInDa.τ).loc Cert.SInDa.main_arg0)
      ∧ r.2.mem ((c.tc : Thread Cert.SInDa.nD Cert.SInDa.τ).loc Cert.SInDa.main_arg1) = m ((c.tc : Thread Cert.SInDa.nD Cert.SInDa.τ).loc Cert.SInDa.main_arg1))
      ∧ r.2.sem = fun _ => 0)

def quiescent_SInDaIdeal [hSInDaIdeal : Cert.SInDaIdeal.Facts] : Prop :=
  ∀ (m : (ℓ : Loc Cert.SInDaIdeal.nD Cert.SInDaIdeal.τ Cert.SInDaIdeal.sig) → Buf (Elt Ideal) ℓ) (g : Dev Cert.SInDaIdeal.nD → PrngReg), Pre_SInDaIdeal m →
    θ_run (Cert.SInDaIdeal.defs (F := Ideal)) (onTc (τ := Cert.SInDaIdeal.τ) (Cert.SInDaIdeal.main (F := Ideal))) ⟨m, fun _ => 0, g⟩ (fun r => (∀ c : Dev Cert.SInDaIdeal.nD,
      r.2.mem ((c.tc : Thread Cert.SInDaIdeal.nD Cert.SInDaIdeal.τ).loc Cert.SInDaIdeal.main_arg0) = m ((c.tc : Thread Cert.SInDaIdeal.nD Cert.SInDaIdeal.τ).loc Cert.SInDaIdeal.main_arg0)
      ∧ r.2.mem ((c.tc : Thread Cert.SInDaIdeal.nD Cert.SInDaIdeal.τ).loc Cert.SInDaIdeal.main_arg1) = m ((c.tc : Thread Cert.SInDaIdeal.nD Cert.SInDaIdeal.τ).loc Cert.SInDaIdeal.main_arg1))
      ∧ r.2.sem = fun _ => 0)

def quiescent_SInDaRefIdeal [hSInDaRefIdeal : Cert.SInDaRefIdeal.Facts] : Prop :=
  ∀ (m : (ℓ : Loc Cert.SInDaRefIdeal.nD Cert.SInDaRefIdeal.τ Cert.SInDaRefIdeal.sig) → Buf (Elt Ideal) ℓ) (g : Dev Cert.SInDaRefIdeal.nD → PrngReg), Pre_SInDaRefIdeal m →
    θ_run (Cert.SInDaRefIdeal.defs (F := Ideal)) (onTc (τ := Cert.SInDaRefIdeal.τ) (Cert.SInDaRefIdeal.main (F := Ideal))) ⟨m, fun _ => 0, g⟩ (fun r => (∀ c : Dev Cert.SInDaRefIdeal.nD,
      r.2.mem ((c.tc : Thread Cert.SInDaRefIdeal.nD Cert.SInDaRefIdeal.τ).loc Cert.SInDaRefIdeal.main_arg0) = m ((c.tc : Thread Cert.SInDaRefIdeal.nD Cert.SInDaRefIdeal.τ).loc Cert.SInDaRefIdeal.main_arg0)
      ∧ r.2.mem ((c.tc : Thread Cert.SInDaRefIdeal.nD Cert.SInDaRefIdeal.τ).loc Cert.SInDaRefIdeal.main_arg1) = m ((c.tc : Thread Cert.SInDaRefIdeal.nD Cert.SInDaRefIdeal.τ).loc Cert.SInDaRefIdeal.main_arg1))
      ∧ r.2.sem = fun _ => 0)

def quiescent_SInDb [hSInDb : Cert.SInDb.Facts] : Prop :=
  ∀ (m : (ℓ : Loc Cert.SInDb.nD Cert.SInDb.τ Cert.SInDb.sig) → Buf (Elt Bits) ℓ) (g : Dev Cert.SInDb.nD → PrngReg), Pre_SInDb m →
    θ_run (Cert.SInDb.defs (F := Bits)) (onTc (τ := Cert.SInDb.τ) (Cert.SInDb.main (F := Bits))) ⟨m, fun _ => 0, g⟩ (fun r => (∀ c : Dev Cert.SInDb.nD,
      r.2.mem ((c.tc : Thread Cert.SInDb.nD Cert.SInDb.τ).loc Cert.SInDb.main_arg0) = m ((c.tc : Thread Cert.SInDb.nD Cert.SInDb.τ).loc Cert.SInDb.main_arg0)
      ∧ r.2.mem ((c.tc : Thread Cert.SInDb.nD Cert.SInDb.τ).loc Cert.SInDb.main_arg1) = m ((c.tc : Thread Cert.SInDb.nD Cert.SInDb.τ).loc Cert.SInDb.main_arg1))
      ∧ r.2.sem = fun _ => 0)

def quiescent_SInDbIdeal [hSInDbIdeal : Cert.SInDbIdeal.Facts] : Prop :=
  ∀ (m : (ℓ : Loc Cert.SInDbIdeal.nD Cert.SInDbIdeal.τ Cert.SInDbIdeal.sig) → Buf (Elt Ideal) ℓ) (g : Dev Cert.SInDbIdeal.nD → PrngReg), Pre_SInDbIdeal m →
    θ_run (Cert.SInDbIdeal.defs (F := Ideal)) (onTc (τ := Cert.SInDbIdeal.τ) (Cert.SInDbIdeal.main (F := Ideal))) ⟨m, fun _ => 0, g⟩ (fun r => (∀ c : Dev Cert.SInDbIdeal.nD,
      r.2.mem ((c.tc : Thread Cert.SInDbIdeal.nD Cert.SInDbIdeal.τ).loc Cert.SInDbIdeal.main_arg0) = m ((c.tc : Thread Cert.SInDbIdeal.nD Cert.SInDbIdeal.τ).loc Cert.SInDbIdeal.main_arg0)
      ∧ r.2.mem ((c.tc : Thread Cert.SInDbIdeal.nD Cert.SInDbIdeal.τ).loc Cert.SInDbIdeal.main_arg1) = m ((c.tc : Thread Cert.SInDbIdeal.nD Cert.SInDbIdeal.τ).loc Cert.SInDbIdeal.main_arg1))
      ∧ r.2.sem = fun _ => 0)

def quiescent_SInDbRefIdeal [hSInDbRefIdeal : Cert.SInDbRefIdeal.Facts] : Prop :=
  ∀ (m : (ℓ : Loc Cert.SInDbRefIdeal.nD Cert.SInDbRefIdeal.τ Cert.SInDbRefIdeal.sig) → Buf (Elt Ideal) ℓ) (g : Dev Cert.SInDbRefIdeal.nD → PrngReg), Pre_SInDbRefIdeal m →
    θ_run (Cert.SInDbRefIdeal.defs (F := Ideal)) (onTc (τ := Cert.SInDbRefIdeal.τ) (Cert.SInDbRefIdeal.main (F := Ideal))) ⟨m, fun _ => 0, g⟩ (fun r => (∀ c : Dev Cert.SInDbRefIdeal.nD,
      r.2.mem ((c.tc : Thread Cert.SInDbRefIdeal.nD Cert.SInDbRefIdeal.τ).loc Cert.SInDbRefIdeal.main_arg0) = m ((c.tc : Thread Cert.SInDbRefIdeal.nD Cert.SInDbRefIdeal.τ).loc Cert.SInDbRefIdeal.main_arg0)
      ∧ r.2.mem ((c.tc : Thread Cert.SInDbRefIdeal.nD Cert.SInDbRefIdeal.τ).loc Cert.SInDbRefIdeal.main_arg1) = m ((c.tc : Thread Cert.SInDbRefIdeal.nD Cert.SInDbRefIdeal.τ).loc Cert.SInDbRefIdeal.main_arg1))
      ∧ r.2.sem = fun _ => 0)

def quiescent_LOutDa [hLOutDa : Cert.LOutDa.Facts] : Prop :=
  ∀ (m : (ℓ : Loc Cert.LOutDa.nD Cert.LOutDa.τ Cert.LOutDa.sig) → Buf (Elt Bits) ℓ) (g : Dev Cert.LOutDa.nD → PrngReg), Pre_LOutDa m →
    θ_run (Cert.LOutDa.defs (F := Bits)) (onTc (τ := Cert.LOutDa.τ) (Cert.LOutDa.main (F := Bits))) ⟨m, fun _ => 0, g⟩ (fun r => (∀ c : Dev Cert.LOutDa.nD,
      r.2.mem ((c.tc : Thread Cert.LOutDa.nD Cert.LOutDa.τ).loc Cert.LOutDa.main_arg0) = m ((c.tc : Thread Cert.LOutDa.nD Cert.LOutDa.τ).loc Cert.LOutDa.main_arg0)
      ∧ r.2.mem ((c.tc : Thread Cert.LOutDa.nD Cert.LOutDa.τ).loc Cert.LOutDa.main_arg1) = m ((c.tc : Thread Cert.LOutDa.nD Cert.LOutDa.τ).loc Cert.LOutDa.main_arg1))
      ∧ r.2.sem = fun _ => 0)

def quiescent_LOutDaIdeal [hLOutDaIdeal : Cert.LOutDaIdeal.Facts] : Prop :=
  ∀ (m : (ℓ : Loc Cert.LOutDaIdeal.nD Cert.LOutDaIdeal.τ Cert.LOutDaIdeal.sig) → Buf (Elt Ideal) ℓ) (g : Dev Cert.LOutDaIdeal.nD → PrngReg), Pre_LOutDaIdeal m →
    θ_run (Cert.LOutDaIdeal.defs (F := Ideal)) (onTc (τ := Cert.LOutDaIdeal.τ) (Cert.LOutDaIdeal.main (F := Ideal))) ⟨m, fun _ => 0, g⟩ (fun r => (∀ c : Dev Cert.LOutDaIdeal.nD,
      r.2.mem ((c.tc : Thread Cert.LOutDaIdeal.nD Cert.LOutDaIdeal.τ).loc Cert.LOutDaIdeal.main_arg0) = m ((c.tc : Thread Cert.LOutDaIdeal.nD Cert.LOutDaIdeal.τ).loc Cert.LOutDaIdeal.main_arg0)
      ∧ r.2.mem ((c.tc : Thread Cert.LOutDaIdeal.nD Cert.LOutDaIdeal.τ).loc Cert.LOutDaIdeal.main_arg1) = m ((c.tc : Thread Cert.LOutDaIdeal.nD Cert.LOutDaIdeal.τ).loc Cert.LOutDaIdeal.main_arg1))
      ∧ r.2.sem = fun _ => 0)

def quiescent_LOutDaRefIdeal [hLOutDaRefIdeal : Cert.LOutDaRefIdeal.Facts] : Prop :=
  ∀ (m : (ℓ : Loc Cert.LOutDaRefIdeal.nD Cert.LOutDaRefIdeal.τ Cert.LOutDaRefIdeal.sig) → Buf (Elt Ideal) ℓ) (g : Dev Cert.LOutDaRefIdeal.nD → PrngReg), Pre_LOutDaRefIdeal m →
    θ_run (Cert.LOutDaRefIdeal.defs (F := Ideal)) (onTc (τ := Cert.LOutDaRefIdeal.τ) (Cert.LOutDaRefIdeal.main (F := Ideal))) ⟨m, fun _ => 0, g⟩ (fun r => (∀ c : Dev Cert.LOutDaRefIdeal.nD,
      r.2.mem ((c.tc : Thread Cert.LOutDaRefIdeal.nD Cert.LOutDaRefIdeal.τ).loc Cert.LOutDaRefIdeal.main_arg0) = m ((c.tc : Thread Cert.LOutDaRefIdeal.nD Cert.LOutDaRefIdeal.τ).loc Cert.LOutDaRefIdeal.main_arg0)
      ∧ r.2.mem ((c.tc : Thread Cert.LOutDaRefIdeal.nD Cert.LOutDaRefIdeal.τ).loc Cert.LOutDaRefIdeal.main_arg1) = m ((c.tc : Thread Cert.LOutDaRefIdeal.nD Cert.LOutDaRefIdeal.τ).loc Cert.LOutDaRefIdeal.main_arg1))
      ∧ r.2.sem = fun _ => 0)

def quiescent_LOutDb [hLOutDb : Cert.LOutDb.Facts] : Prop :=
  ∀ (m : (ℓ : Loc Cert.LOutDb.nD Cert.LOutDb.τ Cert.LOutDb.sig) → Buf (Elt Bits) ℓ) (g : Dev Cert.LOutDb.nD → PrngReg), Pre_LOutDb m →
    θ_run (Cert.LOutDb.defs (F := Bits)) (onTc (τ := Cert.LOutDb.τ) (Cert.LOutDb.main (F := Bits))) ⟨m, fun _ => 0, g⟩ (fun r => (∀ c : Dev Cert.LOutDb.nD,
      r.2.mem ((c.tc : Thread Cert.LOutDb.nD Cert.LOutDb.τ).loc Cert.LOutDb.main_arg0) = m ((c.tc : Thread Cert.LOutDb.nD Cert.LOutDb.τ).loc Cert.LOutDb.main_arg0)
      ∧ r.2.mem ((c.tc : Thread Cert.LOutDb.nD Cert.LOutDb.τ).loc Cert.LOutDb.main_arg1) = m ((c.tc : Thread Cert.LOutDb.nD Cert.LOutDb.τ).loc Cert.LOutDb.main_arg1))
      ∧ r.2.sem = fun _ => 0)

def quiescent_LOutDbIdeal [hLOutDbIdeal : Cert.LOutDbIdeal.Facts] : Prop :=
  ∀ (m : (ℓ : Loc Cert.LOutDbIdeal.nD Cert.LOutDbIdeal.τ Cert.LOutDbIdeal.sig) → Buf (Elt Ideal) ℓ) (g : Dev Cert.LOutDbIdeal.nD → PrngReg), Pre_LOutDbIdeal m →
    θ_run (Cert.LOutDbIdeal.defs (F := Ideal)) (onTc (τ := Cert.LOutDbIdeal.τ) (Cert.LOutDbIdeal.main (F := Ideal))) ⟨m, fun _ => 0, g⟩ (fun r => (∀ c : Dev Cert.LOutDbIdeal.nD,
      r.2.mem ((c.tc : Thread Cert.LOutDbIdeal.nD Cert.LOutDbIdeal.τ).loc Cert.LOutDbIdeal.main_arg0) = m ((c.tc : Thread Cert.LOutDbIdeal.nD Cert.LOutDbIdeal.τ).loc Cert.LOutDbIdeal.main_arg0)
      ∧ r.2.mem ((c.tc : Thread Cert.LOutDbIdeal.nD Cert.LOutDbIdeal.τ).loc Cert.LOutDbIdeal.main_arg1) = m ((c.tc : Thread Cert.LOutDbIdeal.nD Cert.LOutDbIdeal.τ).loc Cert.LOutDbIdeal.main_arg1))
      ∧ r.2.sem = fun _ => 0)

def quiescent_LOutDbRefIdeal [hLOutDbRefIdeal : Cert.LOutDbRefIdeal.Facts] : Prop :=
  ∀ (m : (ℓ : Loc Cert.LOutDbRefIdeal.nD Cert.LOutDbRefIdeal.τ Cert.LOutDbRefIdeal.sig) → Buf (Elt Ideal) ℓ) (g : Dev Cert.LOutDbRefIdeal.nD → PrngReg), Pre_LOutDbRefIdeal m →
    θ_run (Cert.LOutDbRefIdeal.defs (F := Ideal)) (onTc (τ := Cert.LOutDbRefIdeal.τ) (Cert.LOutDbRefIdeal.main (F := Ideal))) ⟨m, fun _ => 0, g⟩ (fun r => (∀ c : Dev Cert.LOutDbRefIdeal.nD,
      r.2.mem ((c.tc : Thread Cert.LOutDbRefIdeal.nD Cert.LOutDbRefIdeal.τ).loc Cert.LOutDbRefIdeal.main_arg0) = m ((c.tc : Thread Cert.LOutDbRefIdeal.nD Cert.LOutDbRefIdeal.τ).loc Cert.LOutDbRefIdeal.main_arg0)
      ∧ r.2.mem ((c.tc : Thread Cert.LOutDbRefIdeal.nD Cert.LOutDbRefIdeal.τ).loc Cert.LOutDbRefIdeal.main_arg1) = m ((c.tc : Thread Cert.LOutDbRefIdeal.nD Cert.LOutDbRefIdeal.τ).loc Cert.LOutDbRefIdeal.main_arg1))
      ∧ r.2.sem = fun _ => 0)

def quiescent_LInDa [hLInDa : Cert.LInDa.Facts] : Prop :=
  ∀ (m : (ℓ : Loc Cert.LInDa.nD Cert.LInDa.τ Cert.LInDa.sig) → Buf (Elt Bits) ℓ) (g : Dev Cert.LInDa.nD → PrngReg), Pre_LInDa m →
    θ_run (Cert.LInDa.defs (F := Bits)) (onTc (τ := Cert.LInDa.τ) (Cert.LInDa.main (F := Bits))) ⟨m, fun _ => 0, g⟩ (fun r => (∀ c : Dev Cert.LInDa.nD,
      r.2.mem ((c.tc : Thread Cert.LInDa.nD Cert.LInDa.τ).loc Cert.LInDa.main_arg0) = m ((c.tc : Thread Cert.LInDa.nD Cert.LInDa.τ).loc Cert.LInDa.main_arg0)
      ∧ r.2.mem ((c.tc : Thread Cert.LInDa.nD Cert.LInDa.τ).loc Cert.LInDa.main_arg1) = m ((c.tc : Thread Cert.LInDa.nD Cert.LInDa.τ).loc Cert.LInDa.main_arg1))
      ∧ r.2.sem = fun _ => 0)

def quiescent_LInDaIdeal [hLInDaIdeal : Cert.LInDaIdeal.Facts] : Prop :=
  ∀ (m : (ℓ : Loc Cert.LInDaIdeal.nD Cert.LInDaIdeal.τ Cert.LInDaIdeal.sig) → Buf (Elt Ideal) ℓ) (g : Dev Cert.LInDaIdeal.nD → PrngReg), Pre_LInDaIdeal m →
    θ_run (Cert.LInDaIdeal.defs (F := Ideal)) (onTc (τ := Cert.LInDaIdeal.τ) (Cert.LInDaIdeal.main (F := Ideal))) ⟨m, fun _ => 0, g⟩ (fun r => (∀ c : Dev Cert.LInDaIdeal.nD,
      r.2.mem ((c.tc : Thread Cert.LInDaIdeal.nD Cert.LInDaIdeal.τ).loc Cert.LInDaIdeal.main_arg0) = m ((c.tc : Thread Cert.LInDaIdeal.nD Cert.LInDaIdeal.τ).loc Cert.LInDaIdeal.main_arg0)
      ∧ r.2.mem ((c.tc : Thread Cert.LInDaIdeal.nD Cert.LInDaIdeal.τ).loc Cert.LInDaIdeal.main_arg1) = m ((c.tc : Thread Cert.LInDaIdeal.nD Cert.LInDaIdeal.τ).loc Cert.LInDaIdeal.main_arg1))
      ∧ r.2.sem = fun _ => 0)

def quiescent_LInDaRefIdeal [hLInDaRefIdeal : Cert.LInDaRefIdeal.Facts] : Prop :=
  ∀ (m : (ℓ : Loc Cert.LInDaRefIdeal.nD Cert.LInDaRefIdeal.τ Cert.LInDaRefIdeal.sig) → Buf (Elt Ideal) ℓ) (g : Dev Cert.LInDaRefIdeal.nD → PrngReg), Pre_LInDaRefIdeal m →
    θ_run (Cert.LInDaRefIdeal.defs (F := Ideal)) (onTc (τ := Cert.LInDaRefIdeal.τ) (Cert.LInDaRefIdeal.main (F := Ideal))) ⟨m, fun _ => 0, g⟩ (fun r => (∀ c : Dev Cert.LInDaRefIdeal.nD,
      r.2.mem ((c.tc : Thread Cert.LInDaRefIdeal.nD Cert.LInDaRefIdeal.τ).loc Cert.LInDaRefIdeal.main_arg0) = m ((c.tc : Thread Cert.LInDaRefIdeal.nD Cert.LInDaRefIdeal.τ).loc Cert.LInDaRefIdeal.main_arg0)
      ∧ r.2.mem ((c.tc : Thread Cert.LInDaRefIdeal.nD Cert.LInDaRefIdeal.τ).loc Cert.LInDaRefIdeal.main_arg1) = m ((c.tc : Thread Cert.LInDaRefIdeal.nD Cert.LInDaRefIdeal.τ).loc Cert.LInDaRefIdeal.main_arg1))
      ∧ r.2.sem = fun _ => 0)

def quiescent_LInDb [hLInDb : Cert.LInDb.Facts] : Prop :=
  ∀ (m : (ℓ : Loc Cert.LInDb.nD Cert.LInDb.τ Cert.LInDb.sig) → Buf (Elt Bits) ℓ) (g : Dev Cert.LInDb.nD → PrngReg), Pre_LInDb m →
    θ_run (Cert.LInDb.defs (F := Bits)) (onTc (τ := Cert.LInDb.τ) (Cert.LInDb.main (F := Bits))) ⟨m, fun _ => 0, g⟩ (fun r => (∀ c : Dev Cert.LInDb.nD,
      r.2.mem ((c.tc : Thread Cert.LInDb.nD Cert.LInDb.τ).loc Cert.LInDb.main_arg0) = m ((c.tc : Thread Cert.LInDb.nD Cert.LInDb.τ).loc Cert.LInDb.main_arg0)
      ∧ r.2.mem ((c.tc : Thread Cert.LInDb.nD Cert.LInDb.τ).loc Cert.LInDb.main_arg1) = m ((c.tc : Thread Cert.LInDb.nD Cert.LInDb.τ).loc Cert.LInDb.main_arg1))
      ∧ r.2.sem = fun _ => 0)

def quiescent_LInDbIdeal [hLInDbIdeal : Cert.LInDbIdeal.Facts] : Prop :=
  ∀ (m : (ℓ : Loc Cert.LInDbIdeal.nD Cert.LInDbIdeal.τ Cert.LInDbIdeal.sig) → Buf (Elt Ideal) ℓ) (g : Dev Cert.LInDbIdeal.nD → PrngReg), Pre_LInDbIdeal m →
    θ_run (Cert.LInDbIdeal.defs (F := Ideal)) (onTc (τ := Cert.LInDbIdeal.τ) (Cert.LInDbIdeal.main (F := Ideal))) ⟨m, fun _ => 0, g⟩ (fun r => (∀ c : Dev Cert.LInDbIdeal.nD,
      r.2.mem ((c.tc : Thread Cert.LInDbIdeal.nD Cert.LInDbIdeal.τ).loc Cert.LInDbIdeal.main_arg0) = m ((c.tc : Thread Cert.LInDbIdeal.nD Cert.LInDbIdeal.τ).loc Cert.LInDbIdeal.main_arg0)
      ∧ r.2.mem ((c.tc : Thread Cert.LInDbIdeal.nD Cert.LInDbIdeal.τ).loc Cert.LInDbIdeal.main_arg1) = m ((c.tc : Thread Cert.LInDbIdeal.nD Cert.LInDbIdeal.τ).loc Cert.LInDbIdeal.main_arg1))
      ∧ r.2.sem = fun _ => 0)

def quiescent_LInDbRefIdeal [hLInDbRefIdeal : Cert.LInDbRefIdeal.Facts] : Prop :=
  ∀ (m : (ℓ : Loc Cert.LInDbRefIdeal.nD Cert.LInDbRefIdeal.τ Cert.LInDbRefIdeal.sig) → Buf (Elt Ideal) ℓ) (g : Dev Cert.LInDbRefIdeal.nD → PrngReg), Pre_LInDbRefIdeal m →
    θ_run (Cert.LInDbRefIdeal.defs (F := Ideal)) (onTc (τ := Cert.LInDbRefIdeal.τ) (Cert.LInDbRefIdeal.main (F := Ideal))) ⟨m, fun _ => 0, g⟩ (fun r => (∀ c : Dev Cert.LInDbRefIdeal.nD,
      r.2.mem ((c.tc : Thread Cert.LInDbRefIdeal.nD Cert.LInDbRefIdeal.τ).loc Cert.LInDbRefIdeal.main_arg0) = m ((c.tc : Thread Cert.LInDbRefIdeal.nD Cert.LInDbRefIdeal.τ).loc Cert.LInDbRefIdeal.main_arg0)
      ∧ r.2.mem ((c.tc : Thread Cert.LInDbRefIdeal.nD Cert.LInDbRefIdeal.τ).loc Cert.LInDbRefIdeal.main_arg1) = m ((c.tc : Thread Cert.LInDbRefIdeal.nD Cert.LInDbRefIdeal.τ).loc Cert.LInDbRefIdeal.main_arg1))
      ∧ r.2.sem = fun _ => 0)

def quiescent_SIn [hSIn : Cert.SIn.Facts] : Prop :=
  ∀ (m : (ℓ : Loc Cert.SIn.nD Cert.SIn.τ Cert.SIn.sig) → Buf (Elt Bits) ℓ) (g : Dev Cert.SIn.nD → PrngReg), Pre_SIn m →
    θ_run (Cert.SIn.defs (F := Bits)) (onTc (τ := Cert.SIn.τ) (Cert.SIn.main (F := Bits))) ⟨m, fun _ => 0, g⟩ (fun r => (∀ c : Dev Cert.SIn.nD,
      r.2.mem ((c.tc : Thread Cert.SIn.nD Cert.SIn.τ).loc Cert.SIn.main_arg0) = m ((c.tc : Thread Cert.SIn.nD Cert.SIn.τ).loc Cert.SIn.main_arg0)
      ∧ r.2.mem ((c.tc : Thread Cert.SIn.nD Cert.SIn.τ).loc Cert.SIn.main_arg1) = m ((c.tc : Thread Cert.SIn.nD Cert.SIn.τ).loc Cert.SIn.main_arg1))
      ∧ r.2.sem = fun _ => 0)

def quiescent_SInIdeal [hSInIdeal : Cert.SInIdeal.Facts] : Prop :=
  ∀ (m : (ℓ : Loc Cert.SInIdeal.nD Cert.SInIdeal.τ Cert.SInIdeal.sig) → Buf (Elt Ideal) ℓ) (g : Dev Cert.SInIdeal.nD → PrngReg), Pre_SInIdeal m →
    θ_run (Cert.SInIdeal.defs (F := Ideal)) (onTc (τ := Cert.SInIdeal.τ) (Cert.SInIdeal.main (F := Ideal))) ⟨m, fun _ => 0, g⟩ (fun r => (∀ c : Dev Cert.SInIdeal.nD,
      r.2.mem ((c.tc : Thread Cert.SInIdeal.nD Cert.SInIdeal.τ).loc Cert.SInIdeal.main_arg0) = m ((c.tc : Thread Cert.SInIdeal.nD Cert.SInIdeal.τ).loc Cert.SInIdeal.main_arg0)
      ∧ r.2.mem ((c.tc : Thread Cert.SInIdeal.nD Cert.SInIdeal.τ).loc Cert.SInIdeal.main_arg1) = m ((c.tc : Thread Cert.SInIdeal.nD Cert.SInIdeal.τ).loc Cert.SInIdeal.main_arg1))
      ∧ r.2.sem = fun _ => 0)

def quiescent_SInRefIdeal [hSInRefIdeal : Cert.SInRefIdeal.Facts] : Prop :=
  ∀ (m : (ℓ : Loc Cert.SInRefIdeal.nD Cert.SInRefIdeal.τ Cert.SInRefIdeal.sig) → Buf (Elt Ideal) ℓ) (g : Dev Cert.SInRefIdeal.nD → PrngReg), Pre_SInRefIdeal m →
    θ_run (Cert.SInRefIdeal.defs (F := Ideal)) (onTc (τ := Cert.SInRefIdeal.τ) (Cert.SInRefIdeal.main (F := Ideal))) ⟨m, fun _ => 0, g⟩ (fun r => (∀ c : Dev Cert.SInRefIdeal.nD,
      r.2.mem ((c.tc : Thread Cert.SInRefIdeal.nD Cert.SInRefIdeal.τ).loc Cert.SInRefIdeal.main_arg0) = m ((c.tc : Thread Cert.SInRefIdeal.nD Cert.SInRefIdeal.τ).loc Cert.SInRefIdeal.main_arg0)
      ∧ r.2.mem ((c.tc : Thread Cert.SInRefIdeal.nD Cert.SInRefIdeal.τ).loc Cert.SInRefIdeal.main_arg1) = m ((c.tc : Thread Cert.SInRefIdeal.nD Cert.SInRefIdeal.τ).loc Cert.SInRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_LIn [hLIn : Cert.LIn.Facts] : Prop :=
  ∀ (m : (ℓ : Loc Cert.LIn.nD Cert.LIn.τ Cert.LIn.sig) → Buf (Elt Bits) ℓ) (g : Dev Cert.LIn.nD → PrngReg), Pre_LIn m →
    θ_run (Cert.LIn.defs (F := Bits)) (onTc (τ := Cert.LIn.τ) (Cert.LIn.main (F := Bits))) ⟨m, fun _ => 0, g⟩ (fun r => (∀ c : Dev Cert.LIn.nD,
      r.2.mem ((c.tc : Thread Cert.LIn.nD Cert.LIn.τ).loc Cert.LIn.main_arg0) = m ((c.tc : Thread Cert.LIn.nD Cert.LIn.τ).loc Cert.LIn.main_arg0)
      ∧ r.2.mem ((c.tc : Thread Cert.LIn.nD Cert.LIn.τ).loc Cert.LIn.main_arg1) = m ((c.tc : Thread Cert.LIn.nD Cert.LIn.τ).loc Cert.LIn.main_arg1))
      ∧ r.2.sem = fun _ => 0)

def quiescent_LInIdeal [hLInIdeal : Cert.LInIdeal.Facts] : Prop :=
  ∀ (m : (ℓ : Loc Cert.LInIdeal.nD Cert.LInIdeal.τ Cert.LInIdeal.sig) → Buf (Elt Ideal) ℓ) (g : Dev Cert.LInIdeal.nD → PrngReg), Pre_LInIdeal m →
    θ_run (Cert.LInIdeal.defs (F := Ideal)) (onTc (τ := Cert.LInIdeal.τ) (Cert.LInIdeal.main (F := Ideal))) ⟨m, fun _ => 0, g⟩ (fun r => (∀ c : Dev Cert.LInIdeal.nD,
      r.2.mem ((c.tc : Thread Cert.LInIdeal.nD Cert.LInIdeal.τ).loc Cert.LInIdeal.main_arg0) = m ((c.tc : Thread Cert.LInIdeal.nD Cert.LInIdeal.τ).loc Cert.LInIdeal.main_arg0)
      ∧ r.2.mem ((c.tc : Thread Cert.LInIdeal.nD Cert.LInIdeal.τ).loc Cert.LInIdeal.main_arg1) = m ((c.tc : Thread Cert.LInIdeal.nD Cert.LInIdeal.τ).loc Cert.LInIdeal.main_arg1))
      ∧ r.2.sem = fun _ => 0)

def quiescent_LInRefIdeal [hLInRefIdeal : Cert.LInRefIdeal.Facts] : Prop :=
  ∀ (m : (ℓ : Loc Cert.LInRefIdeal.nD Cert.LInRefIdeal.τ Cert.LInRefIdeal.sig) → Buf (Elt Ideal) ℓ) (g : Dev Cert.LInRefIdeal.nD → PrngReg), Pre_LInRefIdeal m →
    θ_run (Cert.LInRefIdeal.defs (F := Ideal)) (onTc (τ := Cert.LInRefIdeal.τ) (Cert.LInRefIdeal.main (F := Ideal))) ⟨m, fun _ => 0, g⟩ (fun r => (∀ c : Dev Cert.LInRefIdeal.nD,
      r.2.mem ((c.tc : Thread Cert.LInRefIdeal.nD Cert.LInRefIdeal.τ).loc Cert.LInRefIdeal.main_arg0) = m ((c.tc : Thread Cert.LInRefIdeal.nD Cert.LInRefIdeal.τ).loc Cert.LInRefIdeal.main_arg0)
      ∧ r.2.mem ((c.tc : Thread Cert.LInRefIdeal.nD Cert.LInRefIdeal.τ).loc Cert.LInRefIdeal.main_arg1) = m ((c.tc : Thread Cert.LInRefIdeal.nD Cert.LInRefIdeal.τ).loc Cert.LInRefIdeal.main_arg1))
      ∧ r.2.sem = fun _ => 0)

def quiescent_LOut [hLOut : Cert.LOut.Facts] : Prop :=
  ∀ (m : (ℓ : Loc Cert.LOut.nD Cert.LOut.τ Cert.LOut.sig) → Buf (Elt Bits) ℓ) (g : Dev Cert.LOut.nD → PrngReg), Pre_LOut m →
    θ_run (Cert.LOut.defs (F := Bits)) (onTc (τ := Cert.LOut.τ) (Cert.LOut.main (F := Bits))) ⟨m, fun _ => 0, g⟩ (fun r => (∀ c : Dev Cert.LOut.nD,
      r.2.mem ((c.tc : Thread Cert.LOut.nD Cert.LOut.τ).loc Cert.LOut.main_arg0) = m ((c.tc : Thread Cert.LOut.nD Cert.LOut.τ).loc Cert.LOut.main_arg0)
      ∧ r.2.mem ((c.tc : Thread Cert.LOut.nD Cert.LOut.τ).loc Cert.LOut.main_arg1) = m ((c.tc : Thread Cert.LOut.nD Cert.LOut.τ).loc Cert.LOut.main_arg1))
      ∧ r.2.sem = fun _ => 0)

def quiescent_LOutIdeal [hLOutIdeal : Cert.LOutIdeal.Facts] : Prop :=
  ∀ (m : (ℓ : Loc Cert.LOutIdeal.nD Cert.LOutIdeal.τ Cert.LOutIdeal.sig) → Buf (Elt Ideal) ℓ) (g : Dev Cert.LOutIdeal.nD → PrngReg), Pre_LOutIdeal m →
    θ_run (Cert.LOutIdeal.defs (F := Ideal)) (onTc (τ := Cert.LOutIdeal.τ) (Cert.LOutIdeal.main (F := Ideal))) ⟨m, fun _ => 0, g⟩ (fun r => (∀ c : Dev Cert.LOutIdeal.nD,
      r.2.mem ((c.tc : Thread Cert.LOutIdeal.nD Cert.LOutIdeal.τ).loc Cert.LOutIdeal.main_arg0) = m ((c.tc : Thread Cert.LOutIdeal.nD Cert.LOutIdeal.τ).loc Cert.LOutIdeal.main_arg0)
      ∧ r.2.mem ((c.tc : Thread Cert.LOutIdeal.nD Cert.LOutIdeal.τ).loc Cert.LOutIdeal.main_arg1) = m ((c.tc : Thread Cert.LOutIdeal.nD Cert.LOutIdeal.τ).loc Cert.LOutIdeal.main_arg1))
      ∧ r.2.sem = fun _ => 0)

def quiescent_LOutRefIdeal [hLOutRefIdeal : Cert.LOutRefIdeal.Facts] : Prop :=
  ∀ (m : (ℓ : Loc Cert.LOutRefIdeal.nD Cert.LOutRefIdeal.τ Cert.LOutRefIdeal.sig) → Buf (Elt Ideal) ℓ) (g : Dev Cert.LOutRefIdeal.nD → PrngReg), Pre_LOutRefIdeal m →
    θ_run (Cert.LOutRefIdeal.defs (F := Ideal)) (onTc (τ := Cert.LOutRefIdeal.τ) (Cert.LOutRefIdeal.main (F := Ideal))) ⟨m, fun _ => 0, g⟩ (fun r => (∀ c : Dev Cert.LOutRefIdeal.nD,
      r.2.mem ((c.tc : Thread Cert.LOutRefIdeal.nD Cert.LOutRefIdeal.τ).loc Cert.LOutRefIdeal.main_arg0) = m ((c.tc : Thread Cert.LOutRefIdeal.nD Cert.LOutRefIdeal.τ).loc Cert.LOutRefIdeal.main_arg0)
      ∧ r.2.mem ((c.tc : Thread Cert.LOutRefIdeal.nD Cert.LOutRefIdeal.τ).loc Cert.LOutRefIdeal.main_arg1) = m ((c.tc : Thread Cert.LOutRefIdeal.nD Cert.LOutRefIdeal.τ).loc Cert.LOutRefIdeal.main_arg1))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_ActFwd [hActFwd : Cert.ActFwd.Facts] : Prop :=
  ∀ (m : (ℓ : Loc Cert.ActFwd.nD Cert.ActFwd.τ Cert.ActFwd.sig) → Buf (Elt Bits) ℓ) (g : Dev Cert.ActFwd.nD → PrngReg), Pre_ActFwd m →
    θ_run (Cert.ActFwd.defs (F := Bits)) (onTc (τ := Cert.ActFwd.τ) (Cert.ActFwd.main (F := Bits))) ⟨m, fun _ => 0, g⟩ (fun r => (∀ c : Dev Cert.ActFwd.nD,
      r.2.mem ((c.tc : Thread Cert.ActFwd.nD Cert.ActFwd.τ).loc Cert.ActFwd.main_arg0) = m ((c.tc : Thread Cert.ActFwd.nD Cert.ActFwd.τ).loc Cert.ActFwd.main_arg0))
      ∧ r.2.sem = fun _ => 0)

def quiescent_ActFwdIdeal [hActFwdIdeal : Cert.ActFwdIdeal.Facts] : Prop :=
  ∀ (m : (ℓ : Loc Cert.ActFwdIdeal.nD Cert.ActFwdIdeal.τ Cert.ActFwdIdeal.sig) → Buf (Elt Ideal) ℓ) (g : Dev Cert.ActFwdIdeal.nD → PrngReg), Pre_ActFwdIdeal m →
    θ_run (Cert.ActFwdIdeal.defs (F := Ideal)) (onTc (τ := Cert.ActFwdIdeal.τ) (Cert.ActFwdIdeal.main (F := Ideal))) ⟨m, fun _ => 0, g⟩ (fun r => (∀ c : Dev Cert.ActFwdIdeal.nD,
      r.2.mem ((c.tc : Thread Cert.ActFwdIdeal.nD Cert.ActFwdIdeal.τ).loc Cert.ActFwdIdeal.main_arg0) = m ((c.tc : Thread Cert.ActFwdIdeal.nD Cert.ActFwdIdeal.τ).loc Cert.ActFwdIdeal.main_arg0))
      ∧ r.2.sem = fun _ => 0)

def quiescent_ActFwdRefIdeal [hActFwdRefIdeal : Cert.ActFwdRefIdeal.Facts] : Prop :=
  ∀ (m : (ℓ : Loc Cert.ActFwdRefIdeal.nD Cert.ActFwdRefIdeal.τ Cert.ActFwdRefIdeal.sig) → Buf (Elt Ideal) ℓ) (g : Dev Cert.ActFwdRefIdeal.nD → PrngReg), Pre_ActFwdRefIdeal m →
    θ_run (Cert.ActFwdRefIdeal.defs (F := Ideal)) (onTc (τ := Cert.ActFwdRefIdeal.τ) (Cert.ActFwdRefIdeal.main (F := Ideal))) ⟨m, fun _ => 0, g⟩ (fun r => (∀ c : Dev Cert.ActFwdRefIdeal.nD,
      r.2.mem ((c.tc : Thread Cert.ActFwdRefIdeal.nD Cert.ActFwdRefIdeal.τ).loc Cert.ActFwdRefIdeal.main_arg0) = m ((c.tc : Thread Cert.ActFwdRefIdeal.nD Cert.ActFwdRefIdeal.τ).loc Cert.ActFwdRefIdeal.main_arg0))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_GluResB [hGluResB : Cert.GluResB.Facts] : Prop :=
  ∀ (m : (ℓ : Loc Cert.GluResB.nD Cert.GluResB.τ Cert.GluResB.sig) → Buf (Elt Bits) ℓ) (g : Dev Cert.GluResB.nD → PrngReg), Pre_GluResB m →
    θ_run (Cert.GluResB.defs (F := Bits)) (onTc (τ := Cert.GluResB.τ) (Cert.GluResB.main (F := Bits))) ⟨m, fun _ => 0, g⟩ (fun r => (∀ c : Dev Cert.GluResB.nD,
      r.2.mem ((c.tc : Thread Cert.GluResB.nD Cert.GluResB.τ).loc Cert.GluResB.main_arg0) = m ((c.tc : Thread Cert.GluResB.nD Cert.GluResB.τ).loc Cert.GluResB.main_arg0)
      ∧ r.2.mem ((c.tc : Thread Cert.GluResB.nD Cert.GluResB.τ).loc Cert.GluResB.main_arg1) = m ((c.tc : Thread Cert.GluResB.nD Cert.GluResB.τ).loc Cert.GluResB.main_arg1)
      ∧ r.2.mem ((c.tc : Thread Cert.GluResB.nD Cert.GluResB.τ).loc Cert.GluResB.main_arg2) = m ((c.tc : Thread Cert.GluResB.nD Cert.GluResB.τ).loc Cert.GluResB.main_arg2))
      ∧ r.2.sem = fun _ => 0)

def quiescent_GluResBIdeal [hGluResBIdeal : Cert.GluResBIdeal.Facts] : Prop :=
  ∀ (m : (ℓ : Loc Cert.GluResBIdeal.nD Cert.GluResBIdeal.τ Cert.GluResBIdeal.sig) → Buf (Elt Ideal) ℓ) (g : Dev Cert.GluResBIdeal.nD → PrngReg), Pre_GluResBIdeal m →
    θ_run (Cert.GluResBIdeal.defs (F := Ideal)) (onTc (τ := Cert.GluResBIdeal.τ) (Cert.GluResBIdeal.main (F := Ideal))) ⟨m, fun _ => 0, g⟩ (fun r => (∀ c : Dev Cert.GluResBIdeal.nD,
      r.2.mem ((c.tc : Thread Cert.GluResBIdeal.nD Cert.GluResBIdeal.τ).loc Cert.GluResBIdeal.main_arg0) = m ((c.tc : Thread Cert.GluResBIdeal.nD Cert.GluResBIdeal.τ).loc Cert.GluResBIdeal.main_arg0)
      ∧ r.2.mem ((c.tc : Thread Cert.GluResBIdeal.nD Cert.GluResBIdeal.τ).loc Cert.GluResBIdeal.main_arg1) = m ((c.tc : Thread Cert.GluResBIdeal.nD Cert.GluResBIdeal.τ).loc Cert.GluResBIdeal.main_arg1)
      ∧ r.2.mem ((c.tc : Thread Cert.GluResBIdeal.nD Cert.GluResBIdeal.τ).loc Cert.GluResBIdeal.main_arg2) = m ((c.tc : Thread Cert.GluResBIdeal.nD Cert.GluResBIdeal.τ).loc Cert.GluResBIdeal.main_arg2))
      ∧ r.2.sem = fun _ => 0)

def quiescent_GluResBRefIdeal [hGluResBRefIdeal : Cert.GluResBRefIdeal.Facts] : Prop :=
  ∀ (m : (ℓ : Loc Cert.GluResBRefIdeal.nD Cert.GluResBRefIdeal.τ Cert.GluResBRefIdeal.sig) → Buf (Elt Ideal) ℓ) (g : Dev Cert.GluResBRefIdeal.nD → PrngReg), Pre_GluResBRefIdeal m →
    θ_run (Cert.GluResBRefIdeal.defs (F := Ideal)) (onTc (τ := Cert.GluResBRefIdeal.τ) (Cert.GluResBRefIdeal.main (F := Ideal))) ⟨m, fun _ => 0, g⟩ (fun r => (∀ c : Dev Cert.GluResBRefIdeal.nD,
      r.2.mem ((c.tc : Thread Cert.GluResBRefIdeal.nD Cert.GluResBRefIdeal.τ).loc Cert.GluResBRefIdeal.main_arg0) = m ((c.tc : Thread Cert.GluResBRefIdeal.nD Cert.GluResBRefIdeal.τ).loc Cert.GluResBRefIdeal.main_arg0)
      ∧ r.2.mem ((c.tc : Thread Cert.GluResBRefIdeal.nD Cert.GluResBRefIdeal.τ).loc Cert.GluResBRefIdeal.main_arg1) = m ((c.tc : Thread Cert.GluResBRefIdeal.nD Cert.GluResBRefIdeal.τ).loc Cert.GluResBRefIdeal.main_arg1)
      ∧ r.2.mem ((c.tc : Thread Cert.GluResBRefIdeal.nD Cert.GluResBRefIdeal.τ).loc Cert.GluResBRefIdeal.main_arg2) = m ((c.tc : Thread Cert.GluResBRefIdeal.nD Cert.GluResBRefIdeal.τ).loc Cert.GluResBRefIdeal.main_arg2))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1)
      ∧ r.2.mem ((c.tc : Thread Cert.NormB.nD Cert.NormB.τ).loc Cert.NormB.main_arg2) = m ((c.tc : Thread Cert.NormB.nD Cert.NormB.τ).loc Cert.NormB.main_arg2)
      ∧ r.2.mem ((c.tc : Thread Cert.NormB.nD Cert.NormB.τ).loc Cert.NormB.main_arg3) = m ((c.tc : Thread Cert.NormB.nD Cert.NormB.τ).loc Cert.NormB.main_arg3)
      ∧ r.2.mem ((c.tc : Thread Cert.NormB.nD Cert.NormB.τ).loc Cert.NormB.main_arg4) = m ((c.tc : Thread Cert.NormB.nD Cert.NormB.τ).loc Cert.NormB.main_arg4))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
      ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3)
      ∧ r.2.mem ((c.tc : Thread Cert.NormBIdeal.nD Cert.NormBIdeal.τ).loc Cert.NormBIdeal.main_arg4) = m ((c.tc : Thread Cert.NormBIdeal.nD Cert.NormBIdeal.τ).loc Cert.NormBIdeal.main_arg4))
      ∧ r.2.sem = fun _ => 0)

def quiescent_NormBRefIdeal [hNormBRefIdeal : Cert.NormBRefIdeal.Facts] : Prop :=
  ∀ (m : (ℓ : Loc Cert.NormBRefIdeal.nD Cert.NormBRefIdeal.τ Cert.NormBRefIdeal.sig) → Buf (Elt Ideal) ℓ) (g : Dev Cert.NormBRefIdeal.nD → PrngReg), Pre_NormBRefIdeal m →
    θ_run (Cert.NormBRefIdeal.defs (F := Ideal)) (onTc (τ := Cert.NormBRefIdeal.τ) (Cert.NormBRefIdeal.main (F := Ideal))) ⟨m, fun _ => 0, g⟩ (fun r => (∀ c : Dev Cert.NormBRefIdeal.nD,
      r.2.mem ((c.tc : Thread Cert.NormBRefIdeal.nD Cert.NormBRefIdeal.τ).loc Cert.NormBRefIdeal.main_arg0) = m ((c.tc : Thread Cert.NormBRefIdeal.nD Cert.NormBRefIdeal.τ).loc Cert.NormBRefIdeal.main_arg0)
      ∧ r.2.mem ((c.tc : Thread Cert.NormBRefIdeal.nD Cert.NormBRefIdeal.τ).loc Cert.NormBRefIdeal.main_arg1) = m ((c.tc : Thread Cert.NormBRefIdeal.nD Cert.NormBRefIdeal.τ).loc Cert.NormBRefIdeal.main_arg1)
      ∧ r.2.mem ((c.tc : Thread Cert.NormBRefIdeal.nD Cert.NormBRefIdeal.τ).loc Cert.NormBRefIdeal.main_arg2) = m ((c.tc : Thread Cert.NormBRefIdeal.nD Cert.NormBRefIdeal.τ).loc Cert.NormBRefIdeal.main_arg2)
      ∧ r.2.mem ((c.tc : Thread Cert.NormBRefIdeal.nD Cert.NormBRefIdeal.τ).loc Cert.NormBRefIdeal.main_arg3) = m ((c.tc : Thread Cert.NormBRefIdeal.nD Cert.NormBRefIdeal.τ).loc Cert.NormBRefIdeal.main_arg3)
      ∧ r.2.mem ((c.tc : Thread Cert.NormBRefIdeal.nD Cert.NormBRefIdeal.τ).loc Cert.NormBRefIdeal.main_arg4) = m ((c.tc : Thread Cert.NormBRefIdeal.nD Cert.NormBRefIdeal.τ).loc Cert.NormBRefIdeal.main_arg4))
      ∧ r.2.sem = fun _ => 0)

def quiescent_GluRes [hGluRes : Cert.GluRes.Facts] : Prop :=
  ∀ (m : (ℓ : Loc Cert.GluRes.nD Cert.GluRes.τ Cert.GluRes.sig) → Buf (Elt Bits) ℓ) (g : Dev Cert.GluRes.nD → PrngReg), Pre_GluRes m →
    θ_run (Cert.GluRes.defs (F := Bits)) (onTc (τ := Cert.GluRes.τ) (Cert.GluRes.main (F := Bits))) ⟨m, fun _ => 0, g⟩ (fun r => (∀ c : Dev Cert.GluRes.nD,
      r.2.mem ((c.tc : Thread Cert.GluRes.nD Cert.GluRes.τ).loc Cert.GluRes.main_arg0) = m ((c.tc : Thread Cert.GluRes.nD Cert.GluRes.τ).loc Cert.GluRes.main_arg0)
      ∧ r.2.mem ((c.tc : Thread Cert.GluRes.nD Cert.GluRes.τ).loc Cert.GluRes.main_arg1) = m ((c.tc : Thread Cert.GluRes.nD Cert.GluRes.τ).loc Cert.GluRes.main_arg1)
      ∧ r.2.mem ((c.tc : Thread Cert.GluRes.nD Cert.GluRes.τ).loc Cert.GluRes.main_arg2) = m ((c.tc : Thread Cert.GluRes.nD Cert.GluRes.τ).loc Cert.GluRes.main_arg2))
      ∧ r.2.sem = fun _ => 0)

def quiescent_GluResIdeal [hGluResIdeal : Cert.GluResIdeal.Facts] : Prop :=
  ∀ (m : (ℓ : Loc Cert.GluResIdeal.nD Cert.GluResIdeal.τ Cert.GluResIdeal.sig) → Buf (Elt Ideal) ℓ) (g : Dev Cert.GluResIdeal.nD → PrngReg), Pre_GluResIdeal m →
    θ_run (Cert.GluResIdeal.defs (F := Ideal)) (onTc (τ := Cert.GluResIdeal.τ) (Cert.GluResIdeal.main (F := Ideal))) ⟨m, fun _ => 0, g⟩ (fun r => (∀ c : Dev Cert.GluResIdeal.nD,
      r.2.mem ((c.tc : Thread Cert.GluResIdeal.nD Cert.GluResIdeal.τ).loc Cert.GluResIdeal.main_arg0) = m ((c.tc : Thread Cert.GluResIdeal.nD Cert.GluResIdeal.τ).loc Cert.GluResIdeal.main_arg0)
      ∧ r.2.mem ((c.tc : Thread Cert.GluResIdeal.nD Cert.GluResIdeal.τ).loc Cert.GluResIdeal.main_arg1) = m ((c.tc : Thread Cert.GluResIdeal.nD Cert.GluResIdeal.τ).loc Cert.GluResIdeal.main_arg1)
      ∧ r.2.mem ((c.tc : Thread Cert.GluResIdeal.nD Cert.GluResIdeal.τ).loc Cert.GluResIdeal.main_arg2) = m ((c.tc : Thread Cert.GluResIdeal.nD Cert.GluResIdeal.τ).loc Cert.GluResIdeal.main_arg2))
      ∧ r.2.sem = fun _ => 0)

def quiescent_GluResRefIdeal [hGluResRefIdeal : Cert.GluResRefIdeal.Facts] : Prop :=
  ∀ (m : (ℓ : Loc Cert.GluResRefIdeal.nD Cert.GluResRefIdeal.τ Cert.GluResRefIdeal.sig) → Buf (Elt Ideal) ℓ) (g : Dev Cert.GluResRefIdeal.nD → PrngReg), Pre_GluResRefIdeal m →
    θ_run (Cert.GluResRefIdeal.defs (F := Ideal)) (onTc (τ := Cert.GluResRefIdeal.τ) (Cert.GluResRefIdeal.main (F := Ideal))) ⟨m, fun _ => 0, g⟩ (fun r => (∀ c : Dev Cert.GluResRefIdeal.nD,
      r.2.mem ((c.tc : Thread Cert.GluResRefIdeal.nD Cert.GluResRefIdeal.τ).loc Cert.GluResRefIdeal.main_arg0) = m ((c.tc : Thread Cert.GluResRefIdeal.nD Cert.GluResRefIdeal.τ).loc Cert.GluResRefIdeal.main_arg0)
      ∧ r.2.mem ((c.tc : Thread Cert.GluResRefIdeal.nD Cert.GluResRefIdeal.τ).loc Cert.GluResRefIdeal.main_arg1) = m ((c.tc : Thread Cert.GluResRefIdeal.nD Cert.GluResRefIdeal.τ).loc Cert.GluResRefIdeal.main_arg1)
      ∧ r.2.mem ((c.tc : Thread Cert.GluResRefIdeal.nD Cert.GluResRefIdeal.τ).loc Cert.GluResRefIdeal.main_arg2) = m ((c.tc : Thread Cert.GluResRefIdeal.nD Cert.GluResRefIdeal.τ).loc Cert.GluResRefIdeal.main_arg2))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_AdaW [hAdaW : Cert.AdaW.Facts] : Prop :=
  ∀ (m : (ℓ : Loc Cert.AdaW.nD Cert.AdaW.τ Cert.AdaW.sig) → Buf (Elt Bits) ℓ) (g : Dev Cert.AdaW.nD → PrngReg), Pre_AdaW m →
    θ_run (Cert.AdaW.defs (F := Bits)) (onTc (τ := Cert.AdaW.τ) (Cert.AdaW.main (F := Bits))) ⟨m, fun _ => 0, g⟩ (fun r => (∀ c : Dev Cert.AdaW.nD,
      r.2.mem ((c.tc : Thread Cert.AdaW.nD Cert.AdaW.τ).loc Cert.AdaW.main_arg0) = m ((c.tc : Thread Cert.AdaW.nD Cert.AdaW.τ).loc Cert.AdaW.main_arg0)
      ∧ r.2.mem ((c.tc : Thread Cert.AdaW.nD Cert.AdaW.τ).loc Cert.AdaW.main_arg1) = m ((c.tc : Thread Cert.AdaW.nD Cert.AdaW.τ).loc Cert.AdaW.main_arg1)
      ∧ r.2.mem ((c.tc : Thread Cert.AdaW.nD Cert.AdaW.τ).loc Cert.AdaW.main_arg2) = m ((c.tc : Thread Cert.AdaW.nD Cert.AdaW.τ).loc Cert.AdaW.main_arg2)
      ∧ r.2.mem ((c.tc : Thread Cert.AdaW.nD Cert.AdaW.τ).loc Cert.AdaW.main_arg3) = m ((c.tc : Thread Cert.AdaW.nD Cert.AdaW.τ).loc Cert.AdaW.main_arg3)
      ∧ r.2.mem ((c.tc : Thread Cert.AdaW.nD Cert.AdaW.τ).loc Cert.AdaW.main_arg4) = m ((c.tc : Thread Cert.AdaW.nD Cert.AdaW.τ).loc Cert.AdaW.main_arg4))
      ∧ r.2.sem = fun _ => 0)

def quiescent_AdaWIdeal [hAdaWIdeal : Cert.AdaWIdeal.Facts] : Prop :=
  ∀ (m : (ℓ : Loc Cert.AdaWIdeal.nD Cert.AdaWIdeal.τ Cert.AdaWIdeal.sig) → Buf (Elt Ideal) ℓ) (g : Dev Cert.AdaWIdeal.nD → PrngReg), Pre_AdaWIdeal m →
    θ_run (Cert.AdaWIdeal.defs (F := Ideal)) (onTc (τ := Cert.AdaWIdeal.τ) (Cert.AdaWIdeal.main (F := Ideal))) ⟨m, fun _ => 0, g⟩ (fun r => (∀ c : Dev Cert.AdaWIdeal.nD,
      r.2.mem ((c.tc : Thread Cert.AdaWIdeal.nD Cert.AdaWIdeal.τ).loc Cert.AdaWIdeal.main_arg0) = m ((c.tc : Thread Cert.AdaWIdeal.nD Cert.AdaWIdeal.τ).loc Cert.AdaWIdeal.main_arg0)
      ∧ r.2.mem ((c.tc : Thread Cert.AdaWIdeal.nD Cert.AdaWIdeal.τ).loc Cert.AdaWIdeal.main_arg1) = m ((c.tc : Thread Cert.AdaWIdeal.nD Cert.AdaWIdeal.τ).loc Cert.AdaWIdeal.main_arg1)
      ∧ r.2.mem ((c.tc : Thread Cert.AdaWIdeal.nD Cert.AdaWIdeal.τ).loc Cert.AdaWIdeal.main_arg2) = m ((c.tc : Thread Cert.AdaWIdeal.nD Cert.AdaWIdeal.τ).loc Cert.AdaWIdeal.main_arg2)
      ∧ r.2.mem ((c.tc : Thread Cert.AdaWIdeal.nD Cert.AdaWIdeal.τ).loc Cert.AdaWIdeal.main_arg3) = m ((c.tc : Thread Cert.AdaWIdeal.nD Cert.AdaWIdeal.τ).loc Cert.AdaWIdeal.main_arg3)
      ∧ r.2.mem ((c.tc : Thread Cert.AdaWIdeal.nD Cert.AdaWIdeal.τ).loc Cert.AdaWIdeal.main_arg4) = m ((c.tc : Thread Cert.AdaWIdeal.nD Cert.AdaWIdeal.τ).loc Cert.AdaWIdeal.main_arg4))
      ∧ r.2.sem = fun _ => 0)

def quiescent_AdaWRefIdeal [hAdaWRefIdeal : Cert.AdaWRefIdeal.Facts] : Prop :=
  ∀ (m : (ℓ : Loc Cert.AdaWRefIdeal.nD Cert.AdaWRefIdeal.τ Cert.AdaWRefIdeal.sig) → Buf (Elt Ideal) ℓ) (g : Dev Cert.AdaWRefIdeal.nD → PrngReg), Pre_AdaWRefIdeal m →
    θ_run (Cert.AdaWRefIdeal.defs (F := Ideal)) (onTc (τ := Cert.AdaWRefIdeal.τ) (Cert.AdaWRefIdeal.main (F := Ideal))) ⟨m, fun _ => 0, g⟩ (fun r => (∀ c : Dev Cert.AdaWRefIdeal.nD,
      r.2.mem ((c.tc : Thread Cert.AdaWRefIdeal.nD Cert.AdaWRefIdeal.τ).loc Cert.AdaWRefIdeal.main_arg0) = m ((c.tc : Thread Cert.AdaWRefIdeal.nD Cert.AdaWRefIdeal.τ).loc Cert.AdaWRefIdeal.main_arg0)
      ∧ r.2.mem ((c.tc : Thread Cert.AdaWRefIdeal.nD Cert.AdaWRefIdeal.τ).loc Cert.AdaWRefIdeal.main_arg1) = m ((c.tc : Thread Cert.AdaWRefIdeal.nD Cert.AdaWRefIdeal.τ).loc Cert.AdaWRefIdeal.main_arg1)
      ∧ r.2.mem ((c.tc : Thread Cert.AdaWRefIdeal.nD Cert.AdaWRefIdeal.τ).loc Cert.AdaWRefIdeal.main_arg2) = m ((c.tc : Thread Cert.AdaWRefIdeal.nD Cert.AdaWRefIdeal.τ).loc Cert.AdaWRefIdeal.main_arg2)
      ∧ r.2.mem ((c.tc : Thread Cert.AdaWRefIdeal.nD Cert.AdaWRefIdeal.τ).loc Cert.AdaWRefIdeal.main_arg3) = m ((c.tc : Thread Cert.AdaWRefIdeal.nD Cert.AdaWRefIdeal.τ).loc Cert.AdaWRefIdeal.main_arg3)
      ∧ r.2.mem ((c.tc : Thread Cert.AdaWRefIdeal.nD Cert.AdaWRefIdeal.τ).loc Cert.AdaWRefIdeal.main_arg4) = m ((c.tc : Thread Cert.AdaWRefIdeal.nD Cert.AdaWRefIdeal.τ).loc Cert.AdaWRefIdeal.main_arg4))
      ∧ r.2.sem = fun _ => 0)

def quiescent_SInW [hSInW : Cert.SInW.Facts] : Prop :=
  ∀ (m : (ℓ : Loc Cert.SInW.nD Cert.SInW.τ Cert.SInW.sig) → Buf (Elt Bits) ℓ) (g : Dev Cert.SInW.nD → PrngReg), Pre_SInW m →
    θ_run (Cert.SInW.defs (F := Bits)) (onTc (τ := Cert.SInW.τ) (Cert.SInW.main (F := Bits))) ⟨m, fun _ => 0, g⟩ (fun r => (∀ c : Dev Cert.SInW.nD,
      r.2.mem ((c.tc : Thread Cert.SInW.nD Cert.SInW.τ).loc Cert.SInW.main_arg0) = m ((c.tc : Thread Cert.SInW.nD Cert.SInW.τ).loc Cert.SInW.main_arg0)
      ∧ r.2.mem ((c.tc : Thread Cert.SInW.nD Cert.SInW.τ).loc Cert.SInW.main_arg1) = m ((c.tc : Thread Cert.SInW.nD Cert.SInW.τ).loc Cert.SInW.main_arg1)
      ∧ r.2.mem ((c.tc : Thread Cert.SInW.nD Cert.SInW.τ).loc Cert.SInW.main_arg2) = m ((c.tc : Thread Cert.SInW.nD Cert.SInW.τ).loc Cert.SInW.main_arg2)
      ∧ r.2.mem ((c.tc : Thread Cert.SInW.nD Cert.SInW.τ).loc Cert.SInW.main_arg3) = m ((c.tc : Thread Cert.SInW.nD Cert.SInW.τ).loc Cert.SInW.main_arg3))
      ∧ r.2.sem = fun _ => 0)

def quiescent_SInWIdeal [hSInWIdeal : Cert.SInWIdeal.Facts] : Prop :=
  ∀ (m : (ℓ : Loc Cert.SInWIdeal.nD Cert.SInWIdeal.τ Cert.SInWIdeal.sig) → Buf (Elt Ideal) ℓ) (g : Dev Cert.SInWIdeal.nD → PrngReg), Pre_SInWIdeal m →
    θ_run (Cert.SInWIdeal.defs (F := Ideal)) (onTc (τ := Cert.SInWIdeal.τ) (Cert.SInWIdeal.main (F := Ideal))) ⟨m, fun _ => 0, g⟩ (fun r => (∀ c : Dev Cert.SInWIdeal.nD,
      r.2.mem ((c.tc : Thread Cert.SInWIdeal.nD Cert.SInWIdeal.τ).loc Cert.SInWIdeal.main_arg0) = m ((c.tc : Thread Cert.SInWIdeal.nD Cert.SInWIdeal.τ).loc Cert.SInWIdeal.main_arg0)
      ∧ r.2.mem ((c.tc : Thread Cert.SInWIdeal.nD Cert.SInWIdeal.τ).loc Cert.SInWIdeal.main_arg1) = m ((c.tc : Thread Cert.SInWIdeal.nD Cert.SInWIdeal.τ).loc Cert.SInWIdeal.main_arg1)
      ∧ r.2.mem ((c.tc : Thread Cert.SInWIdeal.nD Cert.SInWIdeal.τ).loc Cert.SInWIdeal.main_arg2) = m ((c.tc : Thread Cert.SInWIdeal.nD Cert.SInWIdeal.τ).loc Cert.SInWIdeal.main_arg2)
      ∧ r.2.mem ((c.tc : Thread Cert.SInWIdeal.nD Cert.SInWIdeal.τ).loc Cert.SInWIdeal.main_arg3) = m ((c.tc : Thread Cert.SInWIdeal.nD Cert.SInWIdeal.τ).loc Cert.SInWIdeal.main_arg3))
      ∧ r.2.sem = fun _ => 0)

def quiescent_SInWRefIdeal [hSInWRefIdeal : Cert.SInWRefIdeal.Facts] : Prop :=
  ∀ (m : (ℓ : Loc Cert.SInWRefIdeal.nD Cert.SInWRefIdeal.τ Cert.SInWRefIdeal.sig) → Buf (Elt Ideal) ℓ) (g : Dev Cert.SInWRefIdeal.nD → PrngReg), Pre_SInWRefIdeal m →
    θ_run (Cert.SInWRefIdeal.defs (F := Ideal)) (onTc (τ := Cert.SInWRefIdeal.τ) (Cert.SInWRefIdeal.main (F := Ideal))) ⟨m, fun _ => 0, g⟩ (fun r => (∀ c : Dev Cert.SInWRefIdeal.nD,
      r.2.mem ((c.tc : Thread Cert.SInWRefIdeal.nD Cert.SInWRefIdeal.τ).loc Cert.SInWRefIdeal.main_arg0) = m ((c.tc : Thread Cert.SInWRefIdeal.nD Cert.SInWRefIdeal.τ).loc Cert.SInWRefIdeal.main_arg0)
      ∧ r.2.mem ((c.tc : Thread Cert.SInWRefIdeal.nD Cert.SInWRefIdeal.τ).loc Cert.SInWRefIdeal.main_arg1) = m ((c.tc : Thread Cert.SInWRefIdeal.nD Cert.SInWRefIdeal.τ).loc Cert.SInWRefIdeal.main_arg1)
      ∧ r.2.mem ((c.tc : Thread Cert.SInWRefIdeal.nD Cert.SInWRefIdeal.τ).loc Cert.SInWRefIdeal.main_arg2) = m ((c.tc : Thread Cert.SInWRefIdeal.nD Cert.SInWRefIdeal.τ).loc Cert.SInWRefIdeal.main_arg2)
      ∧ r.2.mem ((c.tc : Thread Cert.SInWRefIdeal.nD Cert.SInWRefIdeal.τ).loc Cert.SInWRefIdeal.main_arg3) = m ((c.tc : Thread Cert.SInWRefIdeal.nD Cert.SInWRefIdeal.τ).loc Cert.SInWRefIdeal.main_arg3))
      ∧ r.2.sem = fun _ => 0)

def quiescent_GluW [hGluW : Cert.GluW.Facts] : Prop :=
  ∀ (m : (ℓ : Loc Cert.GluW.nD Cert.GluW.τ Cert.GluW.sig) → Buf (Elt Bits) ℓ) (g : Dev Cert.GluW.nD → PrngReg), Pre_GluW m →
    θ_run (Cert.GluW.defs (F := Bits)) (onTc (τ := Cert.GluW.τ) (Cert.GluW.main (F := Bits))) ⟨m, fun _ => 0, g⟩ (fun r => (∀ c : Dev Cert.GluW.nD,
      r.2.mem ((c.tc : Thread Cert.GluW.nD Cert.GluW.τ).loc Cert.GluW.main_arg0) = m ((c.tc : Thread Cert.GluW.nD Cert.GluW.τ).loc Cert.GluW.main_arg0)
      ∧ r.2.mem ((c.tc : Thread Cert.GluW.nD Cert.GluW.τ).loc Cert.GluW.main_arg1) = m ((c.tc : Thread Cert.GluW.nD Cert.GluW.τ).loc Cert.GluW.main_arg1)
      ∧ r.2.mem ((c.tc : Thread Cert.GluW.nD Cert.GluW.τ).loc Cert.GluW.main_arg2) = m ((c.tc : Thread Cert.GluW.nD Cert.GluW.τ).loc Cert.GluW.main_arg2)
      ∧ r.2.mem ((c.tc : Thread Cert.GluW.nD Cert.GluW.τ).loc Cert.GluW.main_arg3) = m ((c.tc : Thread Cert.GluW.nD Cert.GluW.τ).loc Cert.GluW.main_arg3))
      ∧ r.2.sem = fun _ => 0)

def quiescent_GluWIdeal [hGluWIdeal : Cert.GluWIdeal.Facts] : Prop :=
  ∀ (m : (ℓ : Loc Cert.GluWIdeal.nD Cert.GluWIdeal.τ Cert.GluWIdeal.sig) → Buf (Elt Ideal) ℓ) (g : Dev Cert.GluWIdeal.nD → PrngReg), Pre_GluWIdeal m →
    θ_run (Cert.GluWIdeal.defs (F := Ideal)) (onTc (τ := Cert.GluWIdeal.τ) (Cert.GluWIdeal.main (F := Ideal))) ⟨m, fun _ => 0, g⟩ (fun r => (∀ c : Dev Cert.GluWIdeal.nD,
      r.2.mem ((c.tc : Thread Cert.GluWIdeal.nD Cert.GluWIdeal.τ).loc Cert.GluWIdeal.main_arg0) = m ((c.tc : Thread Cert.GluWIdeal.nD Cert.GluWIdeal.τ).loc Cert.GluWIdeal.main_arg0)
      ∧ r.2.mem ((c.tc : Thread Cert.GluWIdeal.nD Cert.GluWIdeal.τ).loc Cert.GluWIdeal.main_arg1) = m ((c.tc : Thread Cert.GluWIdeal.nD Cert.GluWIdeal.τ).loc Cert.GluWIdeal.main_arg1)
      ∧ r.2.mem ((c.tc : Thread Cert.GluWIdeal.nD Cert.GluWIdeal.τ).loc Cert.GluWIdeal.main_arg2) = m ((c.tc : Thread Cert.GluWIdeal.nD Cert.GluWIdeal.τ).loc Cert.GluWIdeal.main_arg2)
      ∧ r.2.mem ((c.tc : Thread Cert.GluWIdeal.nD Cert.GluWIdeal.τ).loc Cert.GluWIdeal.main_arg3) = m ((c.tc : Thread Cert.GluWIdeal.nD Cert.GluWIdeal.τ).loc Cert.GluWIdeal.main_arg3))
      ∧ r.2.sem = fun _ => 0)

def quiescent_GluWRefIdeal [hGluWRefIdeal : Cert.GluWRefIdeal.Facts] : Prop :=
  ∀ (m : (ℓ : Loc Cert.GluWRefIdeal.nD Cert.GluWRefIdeal.τ Cert.GluWRefIdeal.sig) → Buf (Elt Ideal) ℓ) (g : Dev Cert.GluWRefIdeal.nD → PrngReg), Pre_GluWRefIdeal m →
    θ_run (Cert.GluWRefIdeal.defs (F := Ideal)) (onTc (τ := Cert.GluWRefIdeal.τ) (Cert.GluWRefIdeal.main (F := Ideal))) ⟨m, fun _ => 0, g⟩ (fun r => (∀ c : Dev Cert.GluWRefIdeal.nD,
      r.2.mem ((c.tc : Thread Cert.GluWRefIdeal.nD Cert.GluWRefIdeal.τ).loc Cert.GluWRefIdeal.main_arg0) = m ((c.tc : Thread Cert.GluWRefIdeal.nD Cert.GluWRefIdeal.τ).loc Cert.GluWRefIdeal.main_arg0)
      ∧ r.2.mem ((c.tc : Thread Cert.GluWRefIdeal.nD Cert.GluWRefIdeal.τ).loc Cert.GluWRefIdeal.main_arg1) = m ((c.tc : Thread Cert.GluWRefIdeal.nD Cert.GluWRefIdeal.τ).loc Cert.GluWRefIdeal.main_arg1)
      ∧ r.2.mem ((c.tc : Thread Cert.GluWRefIdeal.nD Cert.GluWRefIdeal.τ).loc Cert.GluWRefIdeal.main_arg2) = m ((c.tc : Thread Cert.GluWRefIdeal.nD Cert.GluWRefIdeal.τ).loc Cert.GluWRefIdeal.main_arg2)
      ∧ r.2.mem ((c.tc : Thread Cert.GluWRefIdeal.nD Cert.GluWRefIdeal.τ).loc Cert.GluWRefIdeal.main_arg3) = m ((c.tc : Thread Cert.GluWRefIdeal.nD Cert.GluWRefIdeal.τ).loc Cert.GluWRefIdeal.main_arg3))
      ∧ r.2.sem = fun _ => 0)

def quiescent_LInW [hLInW : Cert.LInW.Facts] : Prop :=
  ∀ (m : (ℓ : Loc Cert.LInW.nD Cert.LInW.τ Cert.LInW.sig) → Buf (Elt Bits) ℓ) (g : Dev Cert.LInW.nD → PrngReg), Pre_LInW m →
    θ_run (Cert.LInW.defs (F := Bits)) (onTc (τ := Cert.LInW.τ) (Cert.LInW.main (F := Bits))) ⟨m, fun _ => 0, g⟩ (fun r => (∀ c : Dev Cert.LInW.nD,
      r.2.mem ((c.tc : Thread Cert.LInW.nD Cert.LInW.τ).loc Cert.LInW.main_arg0) = m ((c.tc : Thread Cert.LInW.nD Cert.LInW.τ).loc Cert.LInW.main_arg0)
      ∧ r.2.mem ((c.tc : Thread Cert.LInW.nD Cert.LInW.τ).loc Cert.LInW.main_arg1) = m ((c.tc : Thread Cert.LInW.nD Cert.LInW.τ).loc Cert.LInW.main_arg1)
      ∧ r.2.mem ((c.tc : Thread Cert.LInW.nD Cert.LInW.τ).loc Cert.LInW.main_arg2) = m ((c.tc : Thread Cert.LInW.nD Cert.LInW.τ).loc Cert.LInW.main_arg2)
      ∧ r.2.mem ((c.tc : Thread Cert.LInW.nD Cert.LInW.τ).loc Cert.LInW.main_arg3) = m ((c.tc : Thread Cert.LInW.nD Cert.LInW.τ).loc Cert.LInW.main_arg3))
      ∧ r.2.sem = fun _ => 0)

def quiescent_LInWIdeal [hLInWIdeal : Cert.LInWIdeal.Facts] : Prop :=
  ∀ (m : (ℓ : Loc Cert.LInWIdeal.nD Cert.LInWIdeal.τ Cert.LInWIdeal.sig) → Buf (Elt Ideal) ℓ) (g : Dev Cert.LInWIdeal.nD → PrngReg), Pre_LInWIdeal m →
    θ_run (Cert.LInWIdeal.defs (F := Ideal)) (onTc (τ := Cert.LInWIdeal.τ) (Cert.LInWIdeal.main (F := Ideal))) ⟨m, fun _ => 0, g⟩ (fun r => (∀ c : Dev Cert.LInWIdeal.nD,
      r.2.mem ((c.tc : Thread Cert.LInWIdeal.nD Cert.LInWIdeal.τ).loc Cert.LInWIdeal.main_arg0) = m ((c.tc : Thread Cert.LInWIdeal.nD Cert.LInWIdeal.τ).loc Cert.LInWIdeal.main_arg0)
      ∧ r.2.mem ((c.tc : Thread Cert.LInWIdeal.nD Cert.LInWIdeal.τ).loc Cert.LInWIdeal.main_arg1) = m ((c.tc : Thread Cert.LInWIdeal.nD Cert.LInWIdeal.τ).loc Cert.LInWIdeal.main_arg1)
      ∧ r.2.mem ((c.tc : Thread Cert.LInWIdeal.nD Cert.LInWIdeal.τ).loc Cert.LInWIdeal.main_arg2) = m ((c.tc : Thread Cert.LInWIdeal.nD Cert.LInWIdeal.τ).loc Cert.LInWIdeal.main_arg2)
      ∧ r.2.mem ((c.tc : Thread Cert.LInWIdeal.nD Cert.LInWIdeal.τ).loc Cert.LInWIdeal.main_arg3) = m ((c.tc : Thread Cert.LInWIdeal.nD Cert.LInWIdeal.τ).loc Cert.LInWIdeal.main_arg3))
      ∧ r.2.sem = fun _ => 0)

def quiescent_LInWRefIdeal [hLInWRefIdeal : Cert.LInWRefIdeal.Facts] : Prop :=
  ∀ (m : (ℓ : Loc Cert.LInWRefIdeal.nD Cert.LInWRefIdeal.τ Cert.LInWRefIdeal.sig) → Buf (Elt Ideal) ℓ) (g : Dev Cert.LInWRefIdeal.nD → PrngReg), Pre_LInWRefIdeal m →
    θ_run (Cert.LInWRefIdeal.defs (F := Ideal)) (onTc (τ := Cert.LInWRefIdeal.τ) (Cert.LInWRefIdeal.main (F := Ideal))) ⟨m, fun _ => 0, g⟩ (fun r => (∀ c : Dev Cert.LInWRefIdeal.nD,
      r.2.mem ((c.tc : Thread Cert.LInWRefIdeal.nD Cert.LInWRefIdeal.τ).loc Cert.LInWRefIdeal.main_arg0) = m ((c.tc : Thread Cert.LInWRefIdeal.nD Cert.LInWRefIdeal.τ).loc Cert.LInWRefIdeal.main_arg0)
      ∧ r.2.mem ((c.tc : Thread Cert.LInWRefIdeal.nD Cert.LInWRefIdeal.τ).loc Cert.LInWRefIdeal.main_arg1) = m ((c.tc : Thread Cert.LInWRefIdeal.nD Cert.LInWRefIdeal.τ).loc Cert.LInWRefIdeal.main_arg1)
      ∧ r.2.mem ((c.tc : Thread Cert.LInWRefIdeal.nD Cert.LInWRefIdeal.τ).loc Cert.LInWRefIdeal.main_arg2) = m ((c.tc : Thread Cert.LInWRefIdeal.nD Cert.LInWRefIdeal.τ).loc Cert.LInWRefIdeal.main_arg2)
      ∧ r.2.mem ((c.tc : Thread Cert.LInWRefIdeal.nD Cert.LInWRefIdeal.τ).loc Cert.LInWRefIdeal.main_arg3) = m ((c.tc : Thread Cert.LInWRefIdeal.nD Cert.LInWRefIdeal.τ).loc Cert.LInWRefIdeal.main_arg3))
      ∧ r.2.sem = fun _ => 0)

def quiescent_LOutW [hLOutW : Cert.LOutW.Facts] : Prop :=
  ∀ (m : (ℓ : Loc Cert.LOutW.nD Cert.LOutW.τ Cert.LOutW.sig) → Buf (Elt Bits) ℓ) (g : Dev Cert.LOutW.nD → PrngReg), Pre_LOutW m →
    θ_run (Cert.LOutW.defs (F := Bits)) (onTc (τ := Cert.LOutW.τ) (Cert.LOutW.main (F := Bits))) ⟨m, fun _ => 0, g⟩ (fun r => (∀ c : Dev Cert.LOutW.nD,
      r.2.mem ((c.tc : Thread Cert.LOutW.nD Cert.LOutW.τ).loc Cert.LOutW.main_arg0) = m ((c.tc : Thread Cert.LOutW.nD Cert.LOutW.τ).loc Cert.LOutW.main_arg0)
      ∧ r.2.mem ((c.tc : Thread Cert.LOutW.nD Cert.LOutW.τ).loc Cert.LOutW.main_arg1) = m ((c.tc : Thread Cert.LOutW.nD Cert.LOutW.τ).loc Cert.LOutW.main_arg1)
      ∧ r.2.mem ((c.tc : Thread Cert.LOutW.nD Cert.LOutW.τ).loc Cert.LOutW.main_arg2) = m ((c.tc : Thread Cert.LOutW.nD Cert.LOutW.τ).loc Cert.LOutW.main_arg2)
      ∧ r.2.mem ((c.tc : Thread Cert.LOutW.nD Cert.LOutW.τ).loc Cert.LOutW.main_arg3) = m ((c.tc : Thread Cert.LOutW.nD Cert.LOutW.τ).loc Cert.LOutW.main_arg3))
      ∧ r.2.sem = fun _ => 0)

def quiescent_LOutWIdeal [hLOutWIdeal : Cert.LOutWIdeal.Facts] : Prop :=
  ∀ (m : (ℓ : Loc Cert.LOutWIdeal.nD Cert.LOutWIdeal.τ Cert.LOutWIdeal.sig) → Buf (Elt Ideal) ℓ) (g : Dev Cert.LOutWIdeal.nD → PrngReg), Pre_LOutWIdeal m →
    θ_run (Cert.LOutWIdeal.defs (F := Ideal)) (onTc (τ := Cert.LOutWIdeal.τ) (Cert.LOutWIdeal.main (F := Ideal))) ⟨m, fun _ => 0, g⟩ (fun r => (∀ c : Dev Cert.LOutWIdeal.nD,
      r.2.mem ((c.tc : Thread Cert.LOutWIdeal.nD Cert.LOutWIdeal.τ).loc Cert.LOutWIdeal.main_arg0) = m ((c.tc : Thread Cert.LOutWIdeal.nD Cert.LOutWIdeal.τ).loc Cert.LOutWIdeal.main_arg0)
      ∧ r.2.mem ((c.tc : Thread Cert.LOutWIdeal.nD Cert.LOutWIdeal.τ).loc Cert.LOutWIdeal.main_arg1) = m ((c.tc : Thread Cert.LOutWIdeal.nD Cert.LOutWIdeal.τ).loc Cert.LOutWIdeal.main_arg1)
      ∧ r.2.mem ((c.tc : Thread Cert.LOutWIdeal.nD Cert.LOutWIdeal.τ).loc Cert.LOutWIdeal.main_arg2) = m ((c.tc : Thread Cert.LOutWIdeal.nD Cert.LOutWIdeal.τ).loc Cert.LOutWIdeal.main_arg2)
      ∧ r.2.mem ((c.tc : Thread Cert.LOutWIdeal.nD Cert.LOutWIdeal.τ).loc Cert.LOutWIdeal.main_arg3) = m ((c.tc : Thread Cert.LOutWIdeal.nD Cert.LOutWIdeal.τ).loc Cert.LOutWIdeal.main_arg3))
      ∧ r.2.sem = fun _ => 0)

def quiescent_LOutWRefIdeal [hLOutWRefIdeal : Cert.LOutWRefIdeal.Facts] : Prop :=
  ∀ (m : (ℓ : Loc Cert.LOutWRefIdeal.nD Cert.LOutWRefIdeal.τ Cert.LOutWRefIdeal.sig) → Buf (Elt Ideal) ℓ) (g : Dev Cert.LOutWRefIdeal.nD → PrngReg), Pre_LOutWRefIdeal m →
    θ_run (Cert.LOutWRefIdeal.defs (F := Ideal)) (onTc (τ := Cert.LOutWRefIdeal.τ) (Cert.LOutWRefIdeal.main (F := Ideal))) ⟨m, fun _ => 0, g⟩ (fun r => (∀ c : Dev Cert.LOutWRefIdeal.nD,
      r.2.mem ((c.tc : Thread Cert.LOutWRefIdeal.nD Cert.LOutWRefIdeal.τ).loc Cert.LOutWRefIdeal.main_arg0) = m ((c.tc : Thread Cert.LOutWRefIdeal.nD Cert.LOutWRefIdeal.τ).loc Cert.LOutWRefIdeal.main_arg0)
      ∧ r.2.mem ((c.tc : Thread Cert.LOutWRefIdeal.nD Cert.LOutWRefIdeal.τ).loc Cert.LOutWRefIdeal.main_arg1) = m ((c.tc : Thread Cert.LOutWRefIdeal.nD Cert.LOutWRefIdeal.τ).loc Cert.LOutWRefIdeal.main_arg1)
      ∧ r.2.mem ((c.tc : Thread Cert.LOutWRefIdeal.nD Cert.LOutWRefIdeal.τ).loc Cert.LOutWRefIdeal.main_arg2) = m ((c.tc : Thread Cert.LOutWRefIdeal.nD Cert.LOutWRefIdeal.τ).loc Cert.LOutWRefIdeal.main_arg2)
      ∧ r.2.mem ((c.tc : Thread Cert.LOutWRefIdeal.nD Cert.LOutWRefIdeal.τ).loc Cert.LOutWRefIdeal.main_arg3) = m ((c.tc : Thread Cert.LOutWRefIdeal.nD Cert.LOutWRefIdeal.τ).loc Cert.LOutWRefIdeal.main_arg3))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1)
      ∧ r.2.mem ((c.tc : Thread Cert.DownW.nD Cert.DownW.τ).loc Cert.DownW.main_arg2) = m ((c.tc : Thread Cert.DownW.nD Cert.DownW.τ).loc Cert.DownW.main_arg2)
      ∧ r.2.mem ((c.tc : Thread Cert.DownW.nD Cert.DownW.τ).loc Cert.DownW.main_arg3) = m ((c.tc : Thread Cert.DownW.nD Cert.DownW.τ).loc Cert.DownW.main_arg3)
      ∧ r.2.mem ((c.tc : Thread Cert.DownW.nD Cert.DownW.τ).loc Cert.DownW.main_arg4) = m ((c.tc : Thread Cert.DownW.nD Cert.DownW.τ).loc Cert.DownW.main_arg4))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
      ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2)
      ∧ r.2.mem ((c.tc : Thread Cert.DownWIdeal.nD Cert.DownWIdeal.τ).loc Cert.DownWIdeal.main_arg3) = m ((c.tc : Thread Cert.DownWIdeal.nD Cert.DownWIdeal.τ).loc Cert.DownWIdeal.main_arg3)
      ∧ r.2.mem ((c.tc : Thread Cert.DownWIdeal.nD Cert.DownWIdeal.τ).loc Cert.DownWIdeal.main_arg4) = m ((c.tc : Thread Cert.DownWIdeal.nD Cert.DownWIdeal.τ).loc Cert.DownWIdeal.main_arg4))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1)
      ∧ r.2.mem ((c.tc : Thread Cert.DownWRefIdeal.nD Cert.DownWRefIdeal.τ).loc Cert.DownWRefIdeal.main_arg2) = m ((c.tc : Thread Cert.DownWRefIdeal.nD Cert.DownWRefIdeal.τ).loc Cert.DownWRefIdeal.main_arg2)
      ∧ r.2.mem ((c.tc : Thread Cert.DownWRefIdeal.nD Cert.DownWRefIdeal.τ).loc Cert.DownWRefIdeal.main_arg3) = m ((c.tc : Thread Cert.DownWRefIdeal.nD Cert.DownWRefIdeal.τ).loc Cert.DownWRefIdeal.main_arg3)
      ∧ r.2.mem ((c.tc : Thread Cert.DownWRefIdeal.nD Cert.DownWRefIdeal.τ).loc Cert.DownWRefIdeal.main_arg4) = m ((c.tc : Thread Cert.DownWRefIdeal.nD Cert.DownWRefIdeal.τ).loc Cert.DownWRefIdeal.main_arg4))
      ∧ r.2.sem = fun _ => 0)

def preserves_Kernel_KernelIdeal : Prop :=
  IdealRules.named_const.Statement Cert.KernelIdeal.κ "g" .f32 0x3D372713#32 ((8943 / 200000 : ℝ) : EReal)
  ∧ IdealRules.named_const.Statement Cert.KernelIdeal.κ "g3" .f32 0x3E095D4F#32 ((26829 / 200000 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v67_10) = v3 c
          ∧ r.2.mem ((c.tc : Thread Cert.ReferenceIdeal.nD Cert.ReferenceIdeal.τ).loc Cert.ReferenceIdeal.main_v67_11) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_GuDa_GuDaIdeal : Prop :=
  True

def algebraic_GuDaIdeal_GuDaRefIdeal [hGuDaIdeal : Cert.GuDaIdeal.Facts] [hGuDaRefIdeal : Cert.GuDaRefIdeal.Facts] : Prop :=
  ∀ (m : (ℓ : Loc Cert.GuDaIdeal.nD Cert.GuDaIdeal.τ Cert.GuDaIdeal.sig) → Buf (Elt Ideal) ℓ) (g : Dev Cert.GuDaIdeal.nD → PrngReg)
    (m' : (ℓ : Loc Cert.GuDaRefIdeal.nD Cert.GuDaRefIdeal.τ Cert.GuDaRefIdeal.sig) → Buf (Elt Ideal) ℓ) (g' : Dev Cert.GuDaRefIdeal.nD → PrngReg), Pre_GuDaIdeal m →
    (∀ c : Dev Cert.GuDaIdeal.nD,
      m' ((c.tc : Thread Cert.GuDaRefIdeal.nD Cert.GuDaRefIdeal.τ).loc Cert.GuDaRefIdeal.main_arg0) = m ((c.tc : Thread Cert.GuDaIdeal.nD Cert.GuDaIdeal.τ).loc Cert.GuDaIdeal.main_arg0)
      ∧ m' ((c.tc : Thread Cert.GuDaRefIdeal.nD Cert.GuDaRefIdeal.τ).loc Cert.GuDaRefIdeal.main_arg1) = m ((c.tc : Thread Cert.GuDaIdeal.nD Cert.GuDaIdeal.τ).loc Cert.GuDaIdeal.main_arg1)) →
    ∃ (v0 : (c : Dev Cert.GuDaIdeal.nD) → Buf (Elt Ideal) ((c.tc : Thread Cert.GuDaIdeal.nD Cert.GuDaIdeal.τ).loc Cert.GuDaIdeal.main_v0)),
      θ_run (Cert.GuDaIdeal.defs (F := Ideal)) (onTc (τ := Cert.GuDaIdeal.τ) (Cert.GuDaIdeal.main (F := Ideal))) ⟨m, fun _ => 0, g⟩ (fun r => ∀ c : Dev Cert.GuDaIdeal.nD,
          r.2.mem ((c.tc : Thread Cert.GuDaIdeal.nD Cert.GuDaIdeal.τ).loc Cert.GuDaIdeal.main_v0) = v0 c
          ∧ r.2.mem ((c.tc : Thread Cert.GuDaIdeal.nD Cert.GuDaIdeal.τ).loc Cert.GuDaIdeal.main_arg0) = m ((c.tc : Thread Cert.GuDaIdeal.nD Cert.GuDaIdeal.τ).loc Cert.GuDaIdeal.main_arg0)
          ∧ r.2.mem ((c.tc : Thread Cert.GuDaIdeal.nD Cert.GuDaIdeal.τ).loc Cert.GuDaIdeal.main_arg1) = m ((c.tc : Thread Cert.GuDaIdeal.nD Cert.GuDaIdeal.τ).loc Cert.GuDaIdeal.main_arg1))
      ∧ θ_run (Cert.GuDaRefIdeal.defs (F := Ideal)) (onTc (τ := Cert.GuDaRefIdeal.τ) (Cert.GuDaRefIdeal.main (F := Ideal))) ⟨m', fun _ => 0, g'⟩ (fun r => ∀ c : Dev Cert.GuDaRefIdeal.nD,
          r.2.mem ((c.tc : Thread Cert.GuDaRefIdeal.nD Cert.GuDaRefIdeal.τ).loc Cert.GuDaRefIdeal.main_v6) = v0 c
          ∧ r.2.mem ((c.tc : Thread Cert.GuDaRefIdeal.nD Cert.GuDaRefIdeal.τ).loc Cert.GuDaRefIdeal.main_arg0) = m' ((c.tc : Thread Cert.GuDaRefIdeal.nD Cert.GuDaRefIdeal.τ).loc Cert.GuDaRefIdeal.main_arg0)
          ∧ r.2.mem ((c.tc : Thread Cert.GuDaRefIdeal.nD Cert.GuDaRefIdeal.τ).loc Cert.GuDaRefIdeal.main_arg1) = m' ((c.tc : Thread Cert.GuDaRefIdeal.nD Cert.GuDaRefIdeal.τ).loc Cert.GuDaRefIdeal.main_arg1))

def preserves_GuDb_GuDbIdeal : Prop :=
  True

def algebraic_GuDbIdeal_GuDbRefIdeal [hGuDbIdeal : Cert.GuDbIdeal.Facts] [hGuDbRefIdeal : Cert.GuDbRefIdeal.Facts] : Prop :=
  ∀ (m : (ℓ : Loc Cert.GuDbIdeal.nD Cert.GuDbIdeal.τ Cert.GuDbIdeal.sig) → Buf (Elt Ideal) ℓ) (g : Dev Cert.GuDbIdeal.nD → PrngReg)
    (m' : (ℓ : Loc Cert.GuDbRefIdeal.nD Cert.GuDbRefIdeal.τ Cert.GuDbRefIdeal.sig) → Buf (Elt Ideal) ℓ) (g' : Dev Cert.GuDbRefIdeal.nD → PrngReg), Pre_GuDbIdeal m →
    (∀ c : Dev Cert.GuDbIdeal.nD,
      m' ((c.tc : Thread Cert.GuDbRefIdeal.nD Cert.GuDbRefIdeal.τ).loc Cert.GuDbRefIdeal.main_arg0) = m ((c.tc : Thread Cert.GuDbIdeal.nD Cert.GuDbIdeal.τ).loc Cert.GuDbIdeal.main_arg0)
      ∧ m' ((c.tc : Thread Cert.GuDbRefIdeal.nD Cert.GuDbRefIdeal.τ).loc Cert.GuDbRefIdeal.main_arg1) = m ((c.tc : Thread Cert.GuDbIdeal.nD Cert.GuDbIdeal.τ).loc Cert.GuDbIdeal.main_arg1)) →
    ∃ (v0 : (c : Dev Cert.GuDbIdeal.nD) → Buf (Elt Ideal) ((c.tc : Thread Cert.GuDbIdeal.nD Cert.GuDbIdeal.τ).loc Cert.GuDbIdeal.main_v0)),
      θ_run (Cert.GuDbIdeal.defs (F := Ideal)) (onTc (τ := Cert.GuDbIdeal.τ) (Cert.GuDbIdeal.main (F := Ideal))) ⟨m, fun _ => 0, g⟩ (fun r => ∀ c : Dev Cert.GuDbIdeal.nD,
          r.2.mem ((c.tc : Thread Cert.GuDbIdeal.nD Cert.GuDbIdeal.τ).loc Cert.GuDbIdeal.main_v0) = v0 c
          ∧ r.2.mem ((c.tc : Thread Cert.GuDbIdeal.nD Cert.GuDbIdeal.τ).loc Cert.GuDbIdeal.main_arg0) = m ((c.tc : Thread Cert.GuDbIdeal.nD Cert.GuDbIdeal.τ).loc Cert.GuDbIdeal.main_arg0)
          ∧ r.2.mem ((c.tc : Thread Cert.GuDbIdeal.nD Cert.GuDbIdeal.τ).loc Cert.GuDbIdeal.main_arg1) = m ((c.tc : Thread Cert.GuDbIdeal.nD Cert.GuDbIdeal.τ).loc Cert.GuDbIdeal.main_arg1))
      ∧ θ_run (Cert.GuDbRefIdeal.defs (F := Ideal)) (onTc (τ := Cert.GuDbRefIdeal.τ) (Cert.GuDbRefIdeal.main (F := Ideal))) ⟨m', fun _ => 0, g'⟩ (fun r => ∀ c : Dev Cert.GuDbRefIdeal.nD,
          r.2.mem ((c.tc : Thread Cert.GuDbRefIdeal.nD Cert.GuDbRefIdeal.τ).loc Cert.GuDbRefIdeal.main_v8) = v0 c
          ∧ r.2.mem ((c.tc : Thread Cert.GuDbRefIdeal.nD Cert.GuDbRefIdeal.τ).loc Cert.GuDbRefIdeal.main_arg0) = m' ((c.tc : Thread Cert.GuDbRefIdeal.nD Cert.GuDbRefIdeal.τ).loc Cert.GuDbRefIdeal.main_arg0)
          ∧ r.2.mem ((c.tc : Thread Cert.GuDbRefIdeal.nD Cert.GuDbRefIdeal.τ).loc Cert.GuDbRefIdeal.main_arg1) = m' ((c.tc : Thread Cert.GuDbRefIdeal.nD Cert.GuDbRefIdeal.τ).loc Cert.GuDbRefIdeal.main_arg1))

def preserves_DownDa_DownDaIdeal : Prop :=
  True

def algebraic_DownDaIdeal_DownDaRefIdeal [hDownDaIdeal : Cert.DownDaIdeal.Facts] [hDownDaRefIdeal : Cert.DownDaRefIdeal.Facts] : Prop :=
  ∀ (m : (ℓ : Loc Cert.DownDaIdeal.nD Cert.DownDaIdeal.τ Cert.DownDaIdeal.sig) → Buf (Elt Ideal) ℓ) (g : Dev Cert.DownDaIdeal.nD → PrngReg)
    (m' : (ℓ : Loc Cert.DownDaRefIdeal.nD Cert.DownDaRefIdeal.τ Cert.DownDaRefIdeal.sig) → Buf (Elt Ideal) ℓ) (g' : Dev Cert.DownDaRefIdeal.nD → PrngReg), Pre_DownDaIdeal m →
    (∀ c : Dev Cert.DownDaIdeal.nD,
      m' ((c.tc : Thread Cert.DownDaRefIdeal.nD Cert.DownDaRefIdeal.τ).loc Cert.DownDaRefIdeal.main_arg0) = m ((c.tc : Thread Cert.DownDaIdeal.nD Cert.DownDaIdeal.τ).loc Cert.DownDaIdeal.main_arg0)
      ∧ m' ((c.tc : Thread Cert.DownDaRefIdeal.nD Cert.DownDaRefIdeal.τ).loc Cert.DownDaRefIdeal.main_arg1) = m ((c.tc : Thread Cert.DownDaIdeal.nD Cert.DownDaIdeal.τ).loc Cert.DownDaIdeal.main_arg1)) →
    ∃ (v0 : (c : Dev Cert.DownDaIdeal.nD) → Buf (Elt Ideal) ((c.tc : Thread Cert.DownDaIdeal.nD Cert.DownDaIdeal.τ).loc Cert.DownDaIdeal.main_v0)),
      θ_run (Cert.DownDaIdeal.defs (F := Ideal)) (onTc (τ := Cert.DownDaIdeal.τ) (Cert.DownDaIdeal.main (F := Ideal))) ⟨m, fun _ => 0, g⟩ (fun r => ∀ c : Dev Cert.DownDaIdeal.nD,
          r.2.mem ((c.tc : Thread Cert.DownDaIdeal.nD Cert.DownDaIdeal.τ).loc Cert.DownDaIdeal.main_v0) = v0 c
          ∧ r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
          ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1))
      ∧ θ_run (Cert.DownDaRefIdeal.defs (F := Ideal)) (onTc (τ := Cert.DownDaRefIdeal.τ) (Cert.DownDaRefIdeal.main (F := Ideal))) ⟨m', fun _ => 0, g'⟩ (fun r => ∀ c : Dev Cert.DownDaRefIdeal.nD,
          r.2.mem ((c.tc : Thread Cert.DownDaRefIdeal.nD Cert.DownDaRefIdeal.τ).loc Cert.DownDaRefIdeal.main_v7) = v0 c
          ∧ r.2.mem ((c.tc : Thread Cert.DownDaRefIdeal.nD Cert.DownDaRefIdeal.τ).loc Cert.DownDaRefIdeal.main_arg0) = m' ((c.tc : Thread Cert.DownDaRefIdeal.nD Cert.DownDaRefIdeal.τ).loc Cert.DownDaRefIdeal.main_arg0)
          ∧ r.2.mem ((c.tc : Thread Cert.DownDaRefIdeal.nD Cert.DownDaRefIdeal.τ).loc Cert.DownDaRefIdeal.main_arg1) = m' ((c.tc : Thread Cert.DownDaRefIdeal.nD Cert.DownDaRefIdeal.τ).loc Cert.DownDaRefIdeal.main_arg1))

def preserves_DownDb_DownDbIdeal : Prop :=
  True

def algebraic_DownDbIdeal_DownDbRefIdeal [hDownDbIdeal : Cert.DownDbIdeal.Facts] [hDownDbRefIdeal : Cert.DownDbRefIdeal.Facts] : Prop :=
  ∀ (m : (ℓ : Loc Cert.DownDbIdeal.nD Cert.DownDbIdeal.τ Cert.DownDbIdeal.sig) → Buf (Elt Ideal) ℓ) (g : Dev Cert.DownDbIdeal.nD → PrngReg)
    (m' : (ℓ : Loc Cert.DownDbRefIdeal.nD Cert.DownDbRefIdeal.τ Cert.DownDbRefIdeal.sig) → Buf (Elt Ideal) ℓ) (g' : Dev Cert.DownDbRefIdeal.nD → PrngReg), Pre_DownDbIdeal m →
    (∀ c : Dev Cert.DownDbIdeal.nD,
      m' ((c.tc : Thread Cert.DownDbRefIdeal.nD Cert.DownDbRefIdeal.τ).loc Cert.DownDbRefIdeal.main_arg0) = m ((c.tc : Thread Cert.DownDbIdeal.nD Cert.DownDbIdeal.τ).loc Cert.DownDbIdeal.main_arg0)
      ∧ m' ((c.tc : Thread Cert.DownDbRefIdeal.nD Cert.DownDbRefIdeal.τ).loc Cert.DownDbRefIdeal.main_arg1) = m ((c.tc : Thread Cert.DownDbIdeal.nD Cert.DownDbIdeal.τ).loc Cert.DownDbIdeal.main_arg1)) →
    ∃ (v0 : (c : Dev Cert.DownDbIdeal.nD) → Buf (Elt Ideal) ((c.tc : Thread Cert.DownDbIdeal.nD Cert.DownDbIdeal.τ).loc Cert.DownDbIdeal.main_v0)),
      θ_run (Cert.DownDbIdeal.defs (F := Ideal)) (onTc (τ := Cert.DownDbIdeal.τ) (Cert.DownDbIdeal.main (F := Ideal))) ⟨m, fun _ => 0, g⟩ (fun r => ∀ c : Dev Cert.DownDbIdeal.nD,
          r.2.mem ((c.tc : Thread Cert.DownDbIdeal.nD Cert.DownDbIdeal.τ).loc Cert.DownDbIdeal.main_v0) = v0 c
          ∧ r.2.mem ((c.tc : Thread Cert.DownDbIdeal.nD Cert.DownDbIdeal.τ).loc Cert.DownDbIdeal.main_arg0) = m ((c.tc : Thread Cert.DownDbIdeal.nD Cert.DownDbIdeal.τ).loc Cert.DownDbIdeal.main_arg0)
          ∧ r.2.mem ((c.tc : Thread Cert.DownDbIdeal.nD Cert.DownDbIdeal.τ).loc Cert.DownDbIdeal.main_arg1) = m ((c.tc : Thread Cert.DownDbIdeal.nD Cert.DownDbIdeal.τ).loc Cert.DownDbIdeal.main_arg1))
      ∧ θ_run (Cert.DownDbRefIdeal.defs (F := Ideal)) (onTc (τ := Cert.DownDbRefIdeal.τ) (Cert.DownDbRefIdeal.main (F := Ideal))) ⟨m', fun _ => 0, g'⟩ (fun r => ∀ c : Dev Cert.DownDbRefIdeal.nD,
          r.2.mem ((c.tc : Thread Cert.DownDbRefIdeal.nD Cert.DownDbRefIdeal.τ).loc Cert.DownDbRefIdeal.main_v8) = v0 c
          ∧ r.2.mem ((c.tc : Thread Cert.DownDbRefIdeal.nD Cert.DownDbRefIdeal.τ).loc Cert.DownDbRefIdeal.main_arg0) = m' ((c.tc : Thread Cert.DownDbRefIdeal.nD Cert.DownDbRefIdeal.τ).loc Cert.DownDbRefIdeal.main_arg0)
          ∧ r.2.mem ((c.tc : Thread Cert.DownDbRefIdeal.nD Cert.DownDbRefIdeal.τ).loc Cert.DownDbRefIdeal.main_arg1) = m' ((c.tc : Thread Cert.DownDbRefIdeal.nD Cert.DownDbRefIdeal.τ).loc Cert.DownDbRefIdeal.main_arg1))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)) →
    ∃ (v0 : (c : Dev Cert.ActIdeal.nD) → Buf (Elt Ideal) ((c.tc : Thread Cert.ActIdeal.nD Cert.ActIdeal.τ).loc Cert.ActIdeal.main_v1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v1) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v13) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1))

def preserves_SGrads_SGradsIdeal : Prop :=
  True

def algebraic_SGradsIdeal_SGradsRefIdeal [hSGradsIdeal : Cert.SGradsIdeal.Facts] [hSGradsRefIdeal : Cert.SGradsRefIdeal.Facts] : Prop :=
  ∀ (m : (ℓ : Loc Cert.SGradsIdeal.nD Cert.SGradsIdeal.τ Cert.SGradsIdeal.sig) → Buf (Elt Ideal) ℓ) (g : Dev Cert.SGradsIdeal.nD → PrngReg)
    (m' : (ℓ : Loc Cert.SGradsRefIdeal.nD Cert.SGradsRefIdeal.τ Cert.SGradsRefIdeal.sig) → Buf (Elt Ideal) ℓ) (g' : Dev Cert.SGradsRefIdeal.nD → PrngReg), Pre_SGradsIdeal m →
    (∀ c : Dev Cert.SGradsIdeal.nD,
      m' ((c.tc : Thread Cert.SGradsRefIdeal.nD Cert.SGradsRefIdeal.τ).loc Cert.SGradsRefIdeal.main_arg0) = m ((c.tc : Thread Cert.SGradsIdeal.nD Cert.SGradsIdeal.τ).loc Cert.SGradsIdeal.main_arg0)
      ∧ m' ((c.tc : Thread Cert.SGradsRefIdeal.nD Cert.SGradsRefIdeal.τ).loc Cert.SGradsRefIdeal.main_arg1) = m ((c.tc : Thread Cert.SGradsIdeal.nD Cert.SGradsIdeal.τ).loc Cert.SGradsIdeal.main_arg1)
      ∧ m' ((c.tc : Thread Cert.SGradsRefIdeal.nD Cert.SGradsRefIdeal.τ).loc Cert.SGradsRefIdeal.main_arg2) = m ((c.tc : Thread Cert.SGradsIdeal.nD Cert.SGradsIdeal.τ).loc Cert.SGradsIdeal.main_arg2)
      ∧ m' ((c.tc : Thread Cert.SGradsRefIdeal.nD Cert.SGradsRefIdeal.τ).loc Cert.SGradsRefIdeal.main_arg3) = m ((c.tc : Thread Cert.SGradsIdeal.nD Cert.SGradsIdeal.τ).loc Cert.SGradsIdeal.main_arg3)
      ∧ m' ((c.tc : Thread Cert.SGradsRefIdeal.nD Cert.SGradsRefIdeal.τ).loc Cert.SGradsRefIdeal.main_arg4) = m ((c.tc : Thread Cert.SGradsIdeal.nD Cert.SGradsIdeal.τ).loc Cert.SGradsIdeal.main_arg4)
      ∧ m' ((c.tc : Thread Cert.SGradsRefIdeal.nD Cert.SGradsRefIdeal.τ).loc Cert.SGradsRefIdeal.main_arg5) = m ((c.tc : Thread Cert.SGradsIdeal.nD Cert.SGradsIdeal.τ).loc Cert.SGradsIdeal.main_arg5)
      ∧ m' ((c.tc : Thread Cert.SGradsRefIdeal.nD Cert.SGradsRefIdeal.τ).loc Cert.SGradsRefIdeal.main_arg6) = m ((c.tc : Thread Cert.SGradsIdeal.nD Cert.SGradsIdeal.τ).loc Cert.SGradsIdeal.main_arg6)
      ∧ m' ((c.tc : Thread Cert.SGradsRefIdeal.nD Cert.SGradsRefIdeal.τ).loc Cert.SGradsRefIdeal.main_arg7) = m ((c.tc : Thread Cert.SGradsIdeal.nD Cert.SGradsIdeal.τ).loc Cert.SGradsIdeal.main_arg7)
      ∧ m' ((c.tc : Thread Cert.SGradsRefIdeal.nD Cert.SGradsRefIdeal.τ).loc Cert.SGradsRefIdeal.main_arg8) = m ((c.tc : Thread Cert.SGradsIdeal.nD Cert.SGradsIdeal.τ).loc Cert.SGradsIdeal.main_arg8)) →
    ∃ (v0 : (c : Dev Cert.SGradsIdeal.nD) → Buf (Elt Ideal) ((c.tc : Thread Cert.SGradsIdeal.nD Cert.SGradsIdeal.τ).loc Cert.SGradsIdeal.main_v0_0)) (v1 : (c : Dev Cert.SGradsIdeal.nD) → Buf (Elt Ideal) ((c.tc : Thread Cert.SGradsIdeal.nD Cert.SGradsIdeal.τ).loc Cert.SGradsIdeal.main_v0_1)) (v2 : (c : Dev Cert.SGradsIdeal.nD) → Buf (Elt Ideal) ((c.tc : Thread Cert.SGradsIdeal.nD Cert.SGradsIdeal.τ).loc Cert.SGradsIdeal.main_v0_2)) (v3 : (c : Dev Cert.SGradsIdeal.nD) → Buf (Elt Ideal) ((c.tc : Thread Cert.SGradsIdeal.nD Cert.SGradsIdeal.τ).loc Cert.SGradsIdeal.main_v0_3)) (v4 : (c : Dev Cert.SGradsIdeal.nD) → Buf (Elt Ideal) ((c.tc : Thread Cert.SGradsIdeal.nD Cert.SGradsIdeal.τ).loc Cert.SGradsIdeal.main_v0_5)),
      θ_run (Cert.SGradsIdeal.defs (F := Ideal)) (onTc (τ := Cert.SGradsIdeal.τ) (Cert.SGradsIdeal.main (F := Ideal))) ⟨m, fun _ => 0, g⟩ (fun r => ∀ c : Dev Cert.SGradsIdeal.nD,
          r.2.mem ((c.tc : Thread Cert.SGradsIdeal.nD Cert.SGradsIdeal.τ).loc Cert.SGradsIdeal.main_v0_0) = v0 c
          ∧ r.2.mem ((c.tc : Thread Cert.SGradsIdeal.nD Cert.SGradsIdeal.τ).loc Cert.SGradsIdeal.main_v0_1) = v1 c
          ∧ r.2.mem ((c.tc : Thread Cert.SGradsIdeal.nD Cert.SGradsIdeal.τ).loc Cert.SGradsIdeal.main_v0_2) = v2 c
          ∧ r.2.mem ((c.tc : Thread Cert.SGradsIdeal.nD Cert.SGradsIdeal.τ).loc Cert.SGradsIdeal.main_v0_3) = v3 c
          ∧ r.2.mem ((c.tc : Thread Cert.SGradsIdeal.nD Cert.SGradsIdeal.τ).loc Cert.SGradsIdeal.main_v0_5) = v4 c
          ∧ r.2.mem ((c.tc : Thread Cert.SGradsIdeal.nD Cert.SGradsIdeal.τ).loc Cert.SGradsIdeal.main_arg0) = m ((c.tc : Thread Cert.SGradsIdeal.nD Cert.SGradsIdeal.τ).loc Cert.SGradsIdeal.main_arg0)
          ∧ r.2.mem ((c.tc : Thread Cert.SGradsIdeal.nD Cert.SGradsIdeal.τ).loc Cert.SGradsIdeal.main_arg1) = m ((c.tc : Thread Cert.SGradsIdeal.nD Cert.SGradsIdeal.τ).loc Cert.SGradsIdeal.main_arg1)
          ∧ r.2.mem ((c.tc : Thread Cert.SGradsIdeal.nD Cert.SGradsIdeal.τ).loc Cert.SGradsIdeal.main_arg2) = m ((c.tc : Thread Cert.SGradsIdeal.nD Cert.SGradsIdeal.τ).loc Cert.SGradsIdeal.main_arg2)
          ∧ r.2.mem ((c.tc : Thread Cert.SGradsIdeal.nD Cert.SGradsIdeal.τ).loc Cert.SGradsIdeal.main_arg3) = m ((c.tc : Thread Cert.SGradsIdeal.nD Cert.SGradsIdeal.τ).loc Cert.SGradsIdeal.main_arg3)
          ∧ r.2.mem ((c.tc : Thread Cert.SGradsIdeal.nD Cert.SGradsIdeal.τ).loc Cert.SGradsIdeal.main_arg4) = m ((c.tc : Thread Cert.SGradsIdeal.nD Cert.SGradsIdeal.τ).loc Cert.SGradsIdeal.main_arg4)
          ∧ r.2.mem ((c.tc : Thread Cert.SGradsIdeal.nD Cert.SGradsIdeal.τ).loc Cert.SGradsIdeal.main_arg5) = m ((c.tc : Thread Cert.SGradsIdeal.nD Cert.SGradsIdeal.τ).loc Cert.SGradsIdeal.main_arg5)
          ∧ r.2.mem ((c.tc : Thread Cert.SGradsIdeal.nD Cert.SGradsIdeal.τ).loc Cert.SGradsIdeal.main_arg6) = m ((c.tc : Thread Cert.SGradsIdeal.nD Cert.SGradsIdeal.τ).loc Cert.SGradsIdeal.main_arg6)
          ∧ r.2.mem ((c.tc : Thread Cert.SGradsIdeal.nD Cert.SGradsIdeal.τ).loc Cert.SGradsIdeal.main_arg7) = m ((c.tc : Thread Cert.SGradsIdeal.nD Cert.SGradsIdeal.τ).loc Cert.SGradsIdeal.main_arg7)
          ∧ r.2.mem ((c.tc : Thread Cert.SGradsIdeal.nD Cert.SGradsIdeal.τ).loc Cert.SGradsIdeal.main_arg8) = m ((c.tc : Thread Cert.SGradsIdeal.nD Cert.SGradsIdeal.τ).loc Cert.SGradsIdeal.main_arg8))
      ∧ θ_run (Cert.SGradsRefIdeal.defs (F := Ideal)) (onTc (τ := Cert.SGradsRefIdeal.τ) (Cert.SGradsRefIdeal.main (F := Ideal))) ⟨m', fun _ => 0, g'⟩ (fun r => ∀ c : Dev Cert.SGradsRefIdeal.nD,
          r.2.mem ((c.tc : Thread Cert.SGradsRefIdeal.nD Cert.SGradsRefIdeal.τ).loc Cert.SGradsRefIdeal.main_v44) = v0 c
          ∧ r.2.mem ((c.tc : Thread Cert.SGradsRefIdeal.nD Cert.SGradsRefIdeal.τ).loc Cert.SGradsRefIdeal.main_v13) = v1 c
          ∧ r.2.mem ((c.tc : Thread Cert.SGradsRefIdeal.nD Cert.SGradsRefIdeal.τ).loc Cert.SGradsRefIdeal.main_v9) = v2 c
          ∧ r.2.mem ((c.tc : Thread Cert.SGradsRefIdeal.nD Cert.SGradsRefIdeal.τ).loc Cert.SGradsRefIdeal.main_v42) = v3 c
          ∧ r.2.mem ((c.tc : Thread Cert.SGradsRefIdeal.nD Cert.SGradsRefIdeal.τ).loc Cert.SGradsRefIdeal.main_v34) = v4 c
          ∧ r.2.mem ((c.tc : Thread Cert.SGradsRefIdeal.nD Cert.SGradsRefIdeal.τ).loc Cert.SGradsRefIdeal.main_arg0) = m' ((c.tc : Thread Cert.SGradsRefIdeal.nD Cert.SGradsRefIdeal.τ).loc Cert.SGradsRefIdeal.main_arg0)
          ∧ r.2.mem ((c.tc : Thread Cert.SGradsRefIdeal.nD Cert.SGradsRefIdeal.τ).loc Cert.SGradsRefIdeal.main_arg1) = m' ((c.tc : Thread Cert.SGradsRefIdeal.nD Cert.SGradsRefIdeal.τ).loc Cert.SGradsRefIdeal.main_arg1)
          ∧ r.2.mem ((c.tc : Thread Cert.SGradsRefIdeal.nD Cert.SGradsRefIdeal.τ).loc Cert.SGradsRefIdeal.main_arg2) = m' ((c.tc : Thread Cert.SGradsRefIdeal.nD Cert.SGradsRefIdeal.τ).loc Cert.SGradsRefIdeal.main_arg2)
          ∧ r.2.mem ((c.tc : Thread Cert.SGradsRefIdeal.nD Cert.SGradsRefIdeal.τ).loc Cert.SGradsRefIdeal.main_arg3) = m' ((c.tc : Thread Cert.SGradsRefIdeal.nD Cert.SGradsRefIdeal.τ).loc Cert.SGradsRefIdeal.main_arg3)
          ∧ r.2.mem ((c.tc : Thread Cert.SGradsRefIdeal.nD Cert.SGradsRefIdeal.τ).loc Cert.SGradsRefIdeal.main_arg4) = m' ((c.tc : Thread Cert.SGradsRefIdeal.nD Cert.SGradsRefIdeal.τ).loc Cert.SGradsRefIdeal.main_arg4)
          ∧ r.2.mem ((c.tc : Thread Cert.SGradsRefIdeal.nD Cert.SGradsRefIdeal.τ).loc Cert.SGradsRefIdeal.main_arg5) = m' ((c.tc : Thread Cert.SGradsRefIdeal.nD Cert.SGradsRefIdeal.τ).loc Cert.SGradsRefIdeal.main_arg5)
          ∧ r.2.mem ((c.tc : Thread Cert.SGradsRefIdeal.nD Cert.SGradsRefIdeal.τ).loc Cert.SGradsRefIdeal.main_arg6) = m' ((c.tc : Thread Cert.SGradsRefIdeal.nD Cert.SGradsRefIdeal.τ).loc Cert.SGradsRefIdeal.main_arg6)
          ∧ r.2.mem ((c.tc : Thread Cert.SGradsRefIdeal.nD Cert.SGradsRefIdeal.τ).loc Cert.SGradsRefIdeal.main_arg7) = m' ((c.tc : Thread Cert.SGradsRefIdeal.nD Cert.SGradsRefIdeal.τ).loc Cert.SGradsRefIdeal.main_arg7)
          ∧ r.2.mem ((c.tc : Thread Cert.SGradsRefIdeal.nD Cert.SGradsRefIdeal.τ).loc Cert.SGradsRefIdeal.main_arg8) = m' ((c.tc : Thread Cert.SGradsRefIdeal.nD Cert.SGradsRefIdeal.τ).loc Cert.SGradsRefIdeal.main_arg8))

def preserves_GluDa_GluDaIdeal : Prop :=
  True

def algebraic_GluDaIdeal_GluDaRefIdeal [hGluDaIdeal : Cert.GluDaIdeal.Facts] [hGluDaRefIdeal : Cert.GluDaRefIdeal.Facts] : Prop :=
  ∀ (m : (ℓ : Loc Cert.GluDaIdeal.nD Cert.GluDaIdeal.τ Cert.GluDaIdeal.sig) → Buf (Elt Ideal) ℓ) (g : Dev Cert.GluDaIdeal.nD → PrngReg)
    (m' : (ℓ : Loc Cert.GluDaRefIdeal.nD Cert.GluDaRefIdeal.τ Cert.GluDaRefIdeal.sig) → Buf (Elt Ideal) ℓ) (g' : Dev Cert.GluDaRefIdeal.nD → PrngReg), Pre_GluDaIdeal m →
    (∀ c : Dev Cert.GluDaIdeal.nD,
      m' ((c.tc : Thread Cert.GluDaRefIdeal.nD Cert.GluDaRefIdeal.τ).loc Cert.GluDaRefIdeal.main_arg0) = m ((c.tc : Thread Cert.GluDaIdeal.nD Cert.GluDaIdeal.τ).loc Cert.GluDaIdeal.main_arg0)
      ∧ m' ((c.tc : Thread Cert.GluDaRefIdeal.nD Cert.GluDaRefIdeal.τ).loc Cert.GluDaRefIdeal.main_arg1) = m ((c.tc : Thread Cert.GluDaIdeal.nD Cert.GluDaIdeal.τ).loc Cert.GluDaIdeal.main_arg1)) →
    ∃ (v0 : (c : Dev Cert.GluDaIdeal.nD) → Buf (Elt Ideal) ((c.tc : Thread Cert.GluDaIdeal.nD Cert.GluDaIdeal.τ).loc Cert.GluDaIdeal.main_v0)),
      θ_run (Cert.GluDaIdeal.defs (F := Ideal)) (onTc (τ := Cert.GluDaIdeal.τ) (Cert.GluDaIdeal.main (F := Ideal))) ⟨m, fun _ => 0, g⟩ (fun r => ∀ c : Dev Cert.GluDaIdeal.nD,
          r.2.mem ((c.tc : Thread Cert.GluDaIdeal.nD Cert.GluDaIdeal.τ).loc Cert.GluDaIdeal.main_v0) = v0 c
          ∧ r.2.mem ((c.tc : Thread Cert.GluDaIdeal.nD Cert.GluDaIdeal.τ).loc Cert.GluDaIdeal.main_arg0) = m ((c.tc : Thread Cert.GluDaIdeal.nD Cert.GluDaIdeal.τ).loc Cert.GluDaIdeal.main_arg0)
          ∧ r.2.mem ((c.tc : Thread Cert.GluDaIdeal.nD Cert.GluDaIdeal.τ).loc Cert.GluDaIdeal.main_arg1) = m ((c.tc : Thread Cert.GluDaIdeal.nD Cert.GluDaIdeal.τ).loc Cert.GluDaIdeal.main_arg1))
      ∧ θ_run (Cert.GluDaRefIdeal.defs (F := Ideal)) (onTc (τ := Cert.GluDaRefIdeal.τ) (Cert.GluDaRefIdeal.main (F := Ideal))) ⟨m', fun _ => 0, g'⟩ (fun r => ∀ c : Dev Cert.GluDaRefIdeal.nD,
          r.2.mem ((c.tc : Thread Cert.GluDaRefIdeal.nD Cert.GluDaRefIdeal.τ).loc Cert.GluDaRefIdeal.main_v7) = v0 c
          ∧ r.2.mem ((c.tc : Thread Cert.GluDaRefIdeal.nD Cert.GluDaRefIdeal.τ).loc Cert.GluDaRefIdeal.main_arg0) = m' ((c.tc : Thread Cert.GluDaRefIdeal.nD Cert.GluDaRefIdeal.τ).loc Cert.GluDaRefIdeal.main_arg0)
          ∧ r.2.mem ((c.tc : Thread Cert.GluDaRefIdeal.nD Cert.GluDaRefIdeal.τ).loc Cert.GluDaRefIdeal.main_arg1) = m' ((c.tc : Thread Cert.GluDaRefIdeal.nD Cert.GluDaRefIdeal.τ).loc Cert.GluDaRefIdeal.main_arg1))

def preserves_GluDb_GluDbIdeal : Prop :=
  True

def algebraic_GluDbIdeal_GluDbRefIdeal [hGluDbIdeal : Cert.GluDbIdeal.Facts] [hGluDbRefIdeal : Cert.GluDbRefIdeal.Facts] : Prop :=
  ∀ (m : (ℓ : Loc Cert.GluDbIdeal.nD Cert.GluDbIdeal.τ Cert.GluDbIdeal.sig) → Buf (Elt Ideal) ℓ) (g : Dev Cert.GluDbIdeal.nD → PrngReg)
    (m' : (ℓ : Loc Cert.GluDbRefIdeal.nD Cert.GluDbRefIdeal.τ Cert.GluDbRefIdeal.sig) → Buf (Elt Ideal) ℓ) (g' : Dev Cert.GluDbRefIdeal.nD → PrngReg), Pre_GluDbIdeal m →
    (∀ c : Dev Cert.GluDbIdeal.nD,
      m' ((c.tc : Thread Cert.GluDbRefIdeal.nD Cert.GluDbRefIdeal.τ).loc Cert.GluDbRefIdeal.main_arg0) = m ((c.tc : Thread Cert.GluDbIdeal.nD Cert.GluDbIdeal.τ).loc Cert.GluDbIdeal.main_arg0)
      ∧ m' ((c.tc : Thread Cert.GluDbRefIdeal.nD Cert.GluDbRefIdeal.τ).loc Cert.GluDbRefIdeal.main_arg1) = m ((c.tc : Thread Cert.GluDbIdeal.nD Cert.GluDbIdeal.τ).loc Cert.GluDbIdeal.main_arg1)) →
    ∃ (v0 : (c : Dev Cert.GluDbIdeal.nD) → Buf (Elt Ideal) ((c.tc : Thread Cert.GluDbIdeal.nD Cert.GluDbIdeal.τ).loc Cert.GluDbIdeal.main_v0)),
      θ_run (Cert.GluDbIdeal.defs (F := Ideal)) (onTc (τ := Cert.GluDbIdeal.τ) (Cert.GluDbIdeal.main (F := Ideal))) ⟨m, fun _ => 0, g⟩ (fun r => ∀ c : Dev Cert.GluDbIdeal.nD,
          r.2.mem ((c.tc : Thread Cert.GluDbIdeal.nD Cert.GluDbIdeal.τ).loc Cert.GluDbIdeal.main_v0) = v0 c
          ∧ r.2.mem ((c.tc : Thread Cert.GluDbIdeal.nD Cert.GluDbIdeal.τ).loc Cert.GluDbIdeal.main_arg0) = m ((c.tc : Thread Cert.GluDbIdeal.nD Cert.GluDbIdeal.τ).loc Cert.GluDbIdeal.main_arg0)
          ∧ r.2.mem ((c.tc : Thread Cert.GluDbIdeal.nD Cert.GluDbIdeal.τ).loc Cert.GluDbIdeal.main_arg1) = m ((c.tc : Thread Cert.GluDbIdeal.nD Cert.GluDbIdeal.τ).loc Cert.GluDbIdeal.main_arg1))
      ∧ θ_run (Cert.GluDbRefIdeal.defs (F := Ideal)) (onTc (τ := Cert.GluDbRefIdeal.τ) (Cert.GluDbRefIdeal.main (F := Ideal))) ⟨m', fun _ => 0, g'⟩ (fun r => ∀ c : Dev Cert.GluDbRefIdeal.nD,
          r.2.mem ((c.tc : Thread Cert.GluDbRefIdeal.nD Cert.GluDbRefIdeal.τ).loc Cert.GluDbRefIdeal.main_v8) = v0 c
          ∧ r.2.mem ((c.tc : Thread Cert.GluDbRefIdeal.nD Cert.GluDbRefIdeal.τ).loc Cert.GluDbRefIdeal.main_arg0) = m' ((c.tc : Thread Cert.GluDbRefIdeal.nD Cert.GluDbRefIdeal.τ).loc Cert.GluDbRefIdeal.main_arg0)
          ∧ r.2.mem ((c.tc : Thread Cert.GluDbRefIdeal.nD Cert.GluDbRefIdeal.τ).loc Cert.GluDbRefIdeal.main_arg1) = m' ((c.tc : Thread Cert.GluDbRefIdeal.nD Cert.GluDbRefIdeal.τ).loc Cert.GluDbRefIdeal.main_arg1))

def preserves_SInDa_SInDaIdeal : Prop :=
  True

def algebraic_SInDaIdeal_SInDaRefIdeal [hSInDaIdeal : Cert.SInDaIdeal.Facts] [hSInDaRefIdeal : Cert.SInDaRefIdeal.Facts] : Prop :=
  ∀ (m : (ℓ : Loc Cert.SInDaIdeal.nD Cert.SInDaIdeal.τ Cert.SInDaIdeal.sig) → Buf (Elt Ideal) ℓ) (g : Dev Cert.SInDaIdeal.nD → PrngReg)
    (m' : (ℓ : Loc Cert.SInDaRefIdeal.nD Cert.SInDaRefIdeal.τ Cert.SInDaRefIdeal.sig) → Buf (Elt Ideal) ℓ) (g' : Dev Cert.SInDaRefIdeal.nD → PrngReg), Pre_SInDaIdeal m →
    (∀ c : Dev Cert.SInDaIdeal.nD,
      m' ((c.tc : Thread Cert.SInDaRefIdeal.nD Cert.SInDaRefIdeal.τ).loc Cert.SInDaRefIdeal.main_arg0) = m ((c.tc : Thread Cert.SInDaIdeal.nD Cert.SInDaIdeal.τ).loc Cert.SInDaIdeal.main_arg0)
      ∧ m' ((c.tc : Thread Cert.SInDaRefIdeal.nD Cert.SInDaRefIdeal.τ).loc Cert.SInDaRefIdeal.main_arg1) = m ((c.tc : Thread Cert.SInDaIdeal.nD Cert.SInDaIdeal.τ).loc Cert.SInDaIdeal.main_arg1)) →
    ∃ (v0 : (c : Dev Cert.SInDaIdeal.nD) → Buf (Elt Ideal) ((c.tc : Thread Cert.SInDaIdeal.nD Cert.SInDaIdeal.τ).loc Cert.SInDaIdeal.main_v0)),
      θ_run (Cert.SInDaIdeal.defs (F := Ideal)) (onTc (τ := Cert.SInDaIdeal.τ) (Cert.SInDaIdeal.main (F := Ideal))) ⟨m, fun _ => 0, g⟩ (fun r => ∀ c : Dev Cert.SInDaIdeal.nD,
          r.2.mem ((c.tc : Thread Cert.SInDaIdeal.nD Cert.SInDaIdeal.τ).loc Cert.SInDaIdeal.main_v0) = v0 c
          ∧ r.2.mem ((c.tc : Thread Cert.SInDaIdeal.nD Cert.SInDaIdeal.τ).loc Cert.SInDaIdeal.main_arg0) = m ((c.tc : Thread Cert.SInDaIdeal.nD Cert.SInDaIdeal.τ).loc Cert.SInDaIdeal.main_arg0)
          ∧ r.2.mem ((c.tc : Thread Cert.SInDaIdeal.nD Cert.SInDaIdeal.τ).loc Cert.SInDaIdeal.main_arg1) = m ((c.tc : Thread Cert.SInDaIdeal.nD Cert.SInDaIdeal.τ).loc Cert.SInDaIdeal.main_arg1))
      ∧ θ_run (Cert.SInDaRefIdeal.defs (F := Ideal)) (onTc (τ := Cert.SInDaRefIdeal.τ) (Cert.SInDaRefIdeal.main (F := Ideal))) ⟨m', fun _ => 0, g'⟩ (fun r => ∀ c : Dev Cert.SInDaRefIdeal.nD,
          r.2.mem ((c.tc : Thread Cert.SInDaRefIdeal.nD Cert.SInDaRefIdeal.τ).loc Cert.SInDaRefIdeal.main_v6) = v0 c
          ∧ r.2.mem ((c.tc : Thread Cert.SInDaRefIdeal.nD Cert.SInDaRefIdeal.τ).loc Cert.SInDaRefIdeal.main_arg0) = m' ((c.tc : Thread Cert.SInDaRefIdeal.nD Cert.SInDaRefIdeal.τ).loc Cert.SInDaRefIdeal.main_arg0)
          ∧ r.2.mem ((c.tc : Thread Cert.SInDaRefIdeal.nD Cert.SInDaRefIdeal.τ).loc Cert.SInDaRefIdeal.main_arg1) = m' ((c.tc : Thread Cert.SInDaRefIdeal.nD Cert.SInDaRefIdeal.τ).loc Cert.SInDaRefIdeal.main_arg1))

def preserves_SInDb_SInDbIdeal : Prop :=
  True

def algebraic_SInDbIdeal_SInDbRefIdeal [hSInDbIdeal : Cert.SInDbIdeal.Facts] [hSInDbRefIdeal : Cert.SInDbRefIdeal.Facts] : Prop :=
  ∀ (m : (ℓ : Loc Cert.SInDbIdeal.nD Cert.SInDbIdeal.τ Cert.SInDbIdeal.sig) → Buf (Elt Ideal) ℓ) (g : Dev Cert.SInDbIdeal.nD → PrngReg)
    (m' : (ℓ : Loc Cert.SInDbRefIdeal.nD Cert.SInDbRefIdeal.τ Cert.SInDbRefIdeal.sig) → Buf (Elt Ideal) ℓ) (g' : Dev Cert.SInDbRefIdeal.nD → PrngReg), Pre_SInDbIdeal m →
    (∀ c : Dev Cert.SInDbIdeal.nD,
      m' ((c.tc : Thread Cert.SInDbRefIdeal.nD Cert.SInDbRefIdeal.τ).loc Cert.SInDbRefIdeal.main_arg0) = m ((c.tc : Thread Cert.SInDbIdeal.nD Cert.SInDbIdeal.τ).loc Cert.SInDbIdeal.main_arg0)
      ∧ m' ((c.tc : Thread Cert.SInDbRefIdeal.nD Cert.SInDbRefIdeal.τ).loc Cert.SInDbRefIdeal.main_arg1) = m ((c.tc : Thread Cert.SInDbIdeal.nD Cert.SInDbIdeal.τ).loc Cert.SInDbIdeal.main_arg1)) →
    ∃ (v0 : (c : Dev Cert.SInDbIdeal.nD) → Buf (Elt Ideal) ((c.tc : Thread Cert.SInDbIdeal.nD Cert.SInDbIdeal.τ).loc Cert.SInDbIdeal.main_v0)),
      θ_run (Cert.SInDbIdeal.defs (F := Ideal)) (onTc (τ := Cert.SInDbIdeal.τ) (Cert.SInDbIdeal.main (F := Ideal))) ⟨m, fun _ => 0, g⟩ (fun r => ∀ c : Dev Cert.SInDbIdeal.nD,
          r.2.mem ((c.tc : Thread Cert.SInDbIdeal.nD Cert.SInDbIdeal.τ).loc Cert.SInDbIdeal.main_v0) = v0 c
          ∧ r.2.mem ((c.tc : Thread Cert.SInDbIdeal.nD Cert.SInDbIdeal.τ).loc Cert.SInDbIdeal.main_arg0) = m ((c.tc : Thread Cert.SInDbIdeal.nD Cert.SInDbIdeal.τ).loc Cert.SInDbIdeal.main_arg0)
          ∧ r.2.mem ((c.tc : Thread Cert.SInDbIdeal.nD Cert.SInDbIdeal.τ).loc Cert.SInDbIdeal.main_arg1) = m ((c.tc : Thread Cert.SInDbIdeal.nD Cert.SInDbIdeal.τ).loc Cert.SInDbIdeal.main_arg1))
      ∧ θ_run (Cert.SInDbRefIdeal.defs (F := Ideal)) (onTc (τ := Cert.SInDbRefIdeal.τ) (Cert.SInDbRefIdeal.main (F := Ideal))) ⟨m', fun _ => 0, g'⟩ (fun r => ∀ c : Dev Cert.SInDbRefIdeal.nD,
          r.2.mem ((c.tc : Thread Cert.SInDbRefIdeal.nD Cert.SInDbRefIdeal.τ).loc Cert.SInDbRefIdeal.main_v8) = v0 c
          ∧ r.2.mem ((c.tc : Thread Cert.SInDbRefIdeal.nD Cert.SInDbRefIdeal.τ).loc Cert.SInDbRefIdeal.main_arg0) = m' ((c.tc : Thread Cert.SInDbRefIdeal.nD Cert.SInDbRefIdeal.τ).loc Cert.SInDbRefIdeal.main_arg0)
          ∧ r.2.mem ((c.tc : Thread Cert.SInDbRefIdeal.nD Cert.SInDbRefIdeal.τ).loc Cert.SInDbRefIdeal.main_arg1) = m' ((c.tc : Thread Cert.SInDbRefIdeal.nD Cert.SInDbRefIdeal.τ).loc Cert.SInDbRefIdeal.main_arg1))

def preserves_LOutDa_LOutDaIdeal : Prop :=
  True

def algebraic_LOutDaIdeal_LOutDaRefIdeal [hLOutDaIdeal : Cert.LOutDaIdeal.Facts] [hLOutDaRefIdeal : Cert.LOutDaRefIdeal.Facts] : Prop :=
  ∀ (m : (ℓ : Loc Cert.LOutDaIdeal.nD Cert.LOutDaIdeal.τ Cert.LOutDaIdeal.sig) → Buf (Elt Ideal) ℓ) (g : Dev Cert.LOutDaIdeal.nD → PrngReg)
    (m' : (ℓ : Loc Cert.LOutDaRefIdeal.nD Cert.LOutDaRefIdeal.τ Cert.LOutDaRefIdeal.sig) → Buf (Elt Ideal) ℓ) (g' : Dev Cert.LOutDaRefIdeal.nD → PrngReg), Pre_LOutDaIdeal m →
    (∀ c : Dev Cert.LOutDaIdeal.nD,
      m' ((c.tc : Thread Cert.LOutDaRefIdeal.nD Cert.LOutDaRefIdeal.τ).loc Cert.LOutDaRefIdeal.main_arg0) = m ((c.tc : Thread Cert.LOutDaIdeal.nD Cert.LOutDaIdeal.τ).loc Cert.LOutDaIdeal.main_arg0)
      ∧ m' ((c.tc : Thread Cert.LOutDaRefIdeal.nD Cert.LOutDaRefIdeal.τ).loc Cert.LOutDaRefIdeal.main_arg1) = m ((c.tc : Thread Cert.LOutDaIdeal.nD Cert.LOutDaIdeal.τ).loc Cert.LOutDaIdeal.main_arg1)) →
    ∃ (v0 : (c : Dev Cert.LOutDaIdeal.nD) → Buf (Elt Ideal) ((c.tc : Thread Cert.LOutDaIdeal.nD Cert.LOutDaIdeal.τ).loc Cert.LOutDaIdeal.main_v0)),
      θ_run (Cert.LOutDaIdeal.defs (F := Ideal)) (onTc (τ := Cert.LOutDaIdeal.τ) (Cert.LOutDaIdeal.main (F := Ideal))) ⟨m, fun _ => 0, g⟩ (fun r => ∀ c : Dev Cert.LOutDaIdeal.nD,
          r.2.mem ((c.tc : Thread Cert.LOutDaIdeal.nD Cert.LOutDaIdeal.τ).loc Cert.LOutDaIdeal.main_v0) = v0 c
          ∧ r.2.mem ((c.tc : Thread Cert.LOutDaIdeal.nD Cert.LOutDaIdeal.τ).loc Cert.LOutDaIdeal.main_arg0) = m ((c.tc : Thread Cert.LOutDaIdeal.nD Cert.LOutDaIdeal.τ).loc Cert.LOutDaIdeal.main_arg0)
          ∧ r.2.mem ((c.tc : Thread Cert.LOutDaIdeal.nD Cert.LOutDaIdeal.τ).loc Cert.LOutDaIdeal.main_arg1) = m ((c.tc : Thread Cert.LOutDaIdeal.nD Cert.LOutDaIdeal.τ).loc Cert.LOutDaIdeal.main_arg1))
      ∧ θ_run (Cert.LOutDaRefIdeal.defs (F := Ideal)) (onTc (τ := Cert.LOutDaRefIdeal.τ) (Cert.LOutDaRefIdeal.main (F := Ideal))) ⟨m', fun _ => 0, g'⟩ (fun r => ∀ c : Dev Cert.LOutDaRefIdeal.nD,
          r.2.mem ((c.tc : Thread Cert.LOutDaRefIdeal.nD Cert.LOutDaRefIdeal.τ).loc Cert.LOutDaRefIdeal.main_v6) = v0 c
          ∧ r.2.mem ((c.tc : Thread Cert.LOutDaRefIdeal.nD Cert.LOutDaRefIdeal.τ).loc Cert.LOutDaRefIdeal.main_arg0) = m' ((c.tc : Thread Cert.LOutDaRefIdeal.nD Cert.LOutDaRefIdeal.τ).loc Cert.LOutDaRefIdeal.main_arg0)
          ∧ r.2.mem ((c.tc : Thread Cert.LOutDaRefIdeal.nD Cert.LOutDaRefIdeal.τ).loc Cert.LOutDaRefIdeal.main_arg1) = m' ((c.tc : Thread Cert.LOutDaRefIdeal.nD Cert.LOutDaRefIdeal.τ).loc Cert.LOutDaRefIdeal.main_arg1))

def preserves_LOutDb_LOutDbIdeal : Prop :=
  True

def algebraic_LOutDbIdeal_LOutDbRefIdeal [hLOutDbIdeal : Cert.LOutDbIdeal.Facts] [hLOutDbRefIdeal : Cert.LOutDbRefIdeal.Facts] : Prop :=
  ∀ (m : (ℓ : Loc Cert.LOutDbIdeal.nD Cert.LOutDbIdeal.τ Cert.LOutDbIdeal.sig) → Buf (Elt Ideal) ℓ) (g : Dev Cert.LOutDbIdeal.nD → PrngReg)
    (m' : (ℓ : Loc Cert.LOutDbRefIdeal.nD Cert.LOutDbRefIdeal.τ Cert.LOutDbRefIdeal.sig) → Buf (Elt Ideal) ℓ) (g' : Dev Cert.LOutDbRefIdeal.nD → PrngReg), Pre_LOutDbIdeal m →
    (∀ c : Dev Cert.LOutDbIdeal.nD,
      m' ((c.tc : Thread Cert.LOutDbRefIdeal.nD Cert.LOutDbRefIdeal.τ).loc Cert.LOutDbRefIdeal.main_arg0) = m ((c.tc : Thread Cert.LOutDbIdeal.nD Cert.LOutDbIdeal.τ).loc Cert.LOutDbIdeal.main_arg0)
      ∧ m' ((c.tc : Thread Cert.LOutDbRefIdeal.nD Cert.LOutDbRefIdeal.τ).loc Cert.LOutDbRefIdeal.main_arg1) = m ((c.tc : Thread Cert.LOutDbIdeal.nD Cert.LOutDbIdeal.τ).loc Cert.LOutDbIdeal.main_arg1)) →
    ∃ (v0 : (c : Dev Cert.LOutDbIdeal.nD) → Buf (Elt Ideal) ((c.tc : Thread Cert.LOutDbIdeal.nD Cert.LOutDbIdeal.τ).loc Cert.LOutDbIdeal.main_v0)),
      θ_run (Cert.LOutDbIdeal.defs (F := Ideal)) (onTc (τ := Cert.LOutDbIdeal.τ) (Cert.LOutDbIdeal.main (F := Ideal))) ⟨m, fun _ => 0, g⟩ (fun r => ∀ c : Dev Cert.LOutDbIdeal.nD,
          r.2.mem ((c.tc : Thread Cert.LOutDbIdeal.nD Cert.LOutDbIdeal.τ).loc Cert.LOutDbIdeal.main_v0) = v0 c
          ∧ r.2.mem ((c.tc : Thread Cert.LOutDbIdeal.nD Cert.LOutDbIdeal.τ).loc Cert.LOutDbIdeal.main_arg0) = m ((c.tc : Thread Cert.LOutDbIdeal.nD Cert.LOutDbIdeal.τ).loc Cert.LOutDbIdeal.main_arg0)
          ∧ r.2.mem ((c.tc : Thread Cert.LOutDbIdeal.nD Cert.LOutDbIdeal.τ).loc Cert.LOutDbIdeal.main_arg1) = m ((c.tc : Thread Cert.LOutDbIdeal.nD Cert.LOutDbIdeal.τ).loc Cert.LOutDbIdeal.main_arg1))
      ∧ θ_run (Cert.LOutDbRefIdeal.defs (F := Ideal)) (onTc (τ := Cert.LOutDbRefIdeal.τ) (Cert.LOutDbRefIdeal.main (F := Ideal))) ⟨m', fun _ => 0, g'⟩ (fun r => ∀ c : Dev Cert.LOutDbRefIdeal.nD,
          r.2.mem ((c.tc : Thread Cert.LOutDbRefIdeal.nD Cert.LOutDbRefIdeal.τ).loc Cert.LOutDbRefIdeal.main_v8) = v0 c
          ∧ r.2.mem ((c.tc : Thread Cert.LOutDbRefIdeal.nD Cert.LOutDbRefIdeal.τ).loc Cert.LOutDbRefIdeal.main_arg0) = m' ((c.tc : Thread Cert.LOutDbRefIdeal.nD Cert.LOutDbRefIdeal.τ).loc Cert.LOutDbRefIdeal.main_arg0)
          ∧ r.2.mem ((c.tc : Thread Cert.LOutDbRefIdeal.nD Cert.LOutDbRefIdeal.τ).loc Cert.LOutDbRefIdeal.main_arg1) = m' ((c.tc : Thread Cert.LOutDbRefIdeal.nD Cert.LOutDbRefIdeal.τ).loc Cert.LOutDbRefIdeal.main_arg1))

def preserves_LInDa_LInDaIdeal : Prop :=
  True

def algebraic_LInDaIdeal_LInDaRefIdeal [hLInDaIdeal : Cert.LInDaIdeal.Facts] [hLInDaRefIdeal : Cert.LInDaRefIdeal.Facts] : Prop :=
  ∀ (m : (ℓ : Loc Cert.LInDaIdeal.nD Cert.LInDaIdeal.τ Cert.LInDaIdeal.sig) → Buf (Elt Ideal) ℓ) (g : Dev Cert.LInDaIdeal.nD → PrngReg)
    (m' : (ℓ : Loc Cert.LInDaRefIdeal.nD Cert.LInDaRefIdeal.τ Cert.LInDaRefIdeal.sig) → Buf (Elt Ideal) ℓ) (g' : Dev Cert.LInDaRefIdeal.nD → PrngReg), Pre_LInDaIdeal m →
    (∀ c : Dev Cert.LInDaIdeal.nD,
      m' ((c.tc : Thread Cert.LInDaRefIdeal.nD Cert.LInDaRefIdeal.τ).loc Cert.LInDaRefIdeal.main_arg0) = m ((c.tc : Thread Cert.LInDaIdeal.nD Cert.LInDaIdeal.τ).loc Cert.LInDaIdeal.main_arg0)
      ∧ m' ((c.tc : Thread Cert.LInDaRefIdeal.nD Cert.LInDaRefIdeal.τ).loc Cert.LInDaRefIdeal.main_arg1) = m ((c.tc : Thread Cert.LInDaIdeal.nD Cert.LInDaIdeal.τ).loc Cert.LInDaIdeal.main_arg1)) →
    ∃ (v0 : (c : Dev Cert.LInDaIdeal.nD) → Buf (Elt Ideal) ((c.tc : Thread Cert.LInDaIdeal.nD Cert.LInDaIdeal.τ).loc Cert.LInDaIdeal.main_v0)),
      θ_run (Cert.LInDaIdeal.defs (F := Ideal)) (onTc (τ := Cert.LInDaIdeal.τ) (Cert.LInDaIdeal.main (F := Ideal))) ⟨m, fun _ => 0, g⟩ (fun r => ∀ c : Dev Cert.LInDaIdeal.nD,
          r.2.mem ((c.tc : Thread Cert.LInDaIdeal.nD Cert.LInDaIdeal.τ).loc Cert.LInDaIdeal.main_v0) = v0 c
          ∧ r.2.mem ((c.tc : Thread Cert.LInDaIdeal.nD Cert.LInDaIdeal.τ).loc Cert.LInDaIdeal.main_arg0) = m ((c.tc : Thread Cert.LInDaIdeal.nD Cert.LInDaIdeal.τ).loc Cert.LInDaIdeal.main_arg0)
          ∧ r.2.mem ((c.tc : Thread Cert.LInDaIdeal.nD Cert.LInDaIdeal.τ).loc Cert.LInDaIdeal.main_arg1) = m ((c.tc : Thread Cert.LInDaIdeal.nD Cert.LInDaIdeal.τ).loc Cert.LInDaIdeal.main_arg1))
      ∧ θ_run (Cert.LInDaRefIdeal.defs (F := Ideal)) (onTc (τ := Cert.LInDaRefIdeal.τ) (Cert.LInDaRefIdeal.main (F := Ideal))) ⟨m', fun _ => 0, g'⟩ (fun r => ∀ c : Dev Cert.LInDaRefIdeal.nD,
          r.2.mem ((c.tc : Thread Cert.LInDaRefIdeal.nD Cert.LInDaRefIdeal.τ).loc Cert.LInDaRefIdeal.main_v6) = v0 c
          ∧ r.2.mem ((c.tc : Thread Cert.LInDaRefIdeal.nD Cert.LInDaRefIdeal.τ).loc Cert.LInDaRefIdeal.main_arg0) = m' ((c.tc : Thread Cert.LInDaRefIdeal.nD Cert.LInDaRefIdeal.τ).loc Cert.LInDaRefIdeal.main_arg0)
          ∧ r.2.mem ((c.tc : Thread Cert.LInDaRefIdeal.nD Cert.LInDaRefIdeal.τ).loc Cert.LInDaRefIdeal.main_arg1) = m' ((c.tc : Thread Cert.LInDaRefIdeal.nD Cert.LInDaRefIdeal.τ).loc Cert.LInDaRefIdeal.main_arg1))

def preserves_LInDb_LInDbIdeal : Prop :=
  True

def algebraic_LInDbIdeal_LInDbRefIdeal [hLInDbIdeal : Cert.LInDbIdeal.Facts] [hLInDbRefIdeal : Cert.LInDbRefIdeal.Facts] : Prop :=
  ∀ (m : (ℓ : Loc Cert.LInDbIdeal.nD Cert.LInDbIdeal.τ Cert.LInDbIdeal.sig) → Buf (Elt Ideal) ℓ) (g : Dev Cert.LInDbIdeal.nD → PrngReg)
    (m' : (ℓ : Loc Cert.LInDbRefIdeal.nD Cert.LInDbRefIdeal.τ Cert.LInDbRefIdeal.sig) → Buf (Elt Ideal) ℓ) (g' : Dev Cert.LInDbRefIdeal.nD → PrngReg), Pre_LInDbIdeal m →
    (∀ c : Dev Cert.LInDbIdeal.nD,
      m' ((c.tc : Thread Cert.LInDbRefIdeal.nD Cert.LInDbRefIdeal.τ).loc Cert.LInDbRefIdeal.main_arg0) = m ((c.tc : Thread Cert.LInDbIdeal.nD Cert.LInDbIdeal.τ).loc Cert.LInDbIdeal.main_arg0)
      ∧ m' ((c.tc : Thread Cert.LInDbRefIdeal.nD Cert.LInDbRefIdeal.τ).loc Cert.LInDbRefIdeal.main_arg1) = m ((c.tc : Thread Cert.LInDbIdeal.nD Cert.LInDbIdeal.τ).loc Cert.LInDbIdeal.main_arg1)) →
    ∃ (v0 : (c : Dev Cert.LInDbIdeal.nD) → Buf (Elt Ideal) ((c.tc : Thread Cert.LInDbIdeal.nD Cert.LInDbIdeal.τ).loc Cert.LInDbIdeal.main_v0)),
      θ_run (Cert.LInDbIdeal.defs (F := Ideal)) (onTc (τ := Cert.LInDbIdeal.τ) (Cert.LInDbIdeal.main (F := Ideal))) ⟨m, fun _ => 0, g⟩ (fun r => ∀ c : Dev Cert.LInDbIdeal.nD,
          r.2.mem ((c.tc : Thread Cert.LInDbIdeal.nD Cert.LInDbIdeal.τ).loc Cert.LInDbIdeal.main_v0) = v0 c
          ∧ r.2.mem ((c.tc : Thread Cert.LInDbIdeal.nD Cert.LInDbIdeal.τ).loc Cert.LInDbIdeal.main_arg0) = m ((c.tc : Thread Cert.LInDbIdeal.nD Cert.LInDbIdeal.τ).loc Cert.LInDbIdeal.main_arg0)
          ∧ r.2.mem ((c.tc : Thread Cert.LInDbIdeal.nD Cert.LInDbIdeal.τ).loc Cert.LInDbIdeal.main_arg1) = m ((c.tc : Thread Cert.LInDbIdeal.nD Cert.LInDbIdeal.τ).loc Cert.LInDbIdeal.main_arg1))
      ∧ θ_run (Cert.LInDbRefIdeal.defs (F := Ideal)) (onTc (τ := Cert.LInDbRefIdeal.τ) (Cert.LInDbRefIdeal.main (F := Ideal))) ⟨m', fun _ => 0, g'⟩ (fun r => ∀ c : Dev Cert.LInDbRefIdeal.nD,
          r.2.mem ((c.tc : Thread Cert.LInDbRefIdeal.nD Cert.LInDbRefIdeal.τ).loc Cert.LInDbRefIdeal.main_v8) = v0 c
          ∧ r.2.mem ((c.tc : Thread Cert.LInDbRefIdeal.nD Cert.LInDbRefIdeal.τ).loc Cert.LInDbRefIdeal.main_arg0) = m' ((c.tc : Thread Cert.LInDbRefIdeal.nD Cert.LInDbRefIdeal.τ).loc Cert.LInDbRefIdeal.main_arg0)
          ∧ r.2.mem ((c.tc : Thread Cert.LInDbRefIdeal.nD Cert.LInDbRefIdeal.τ).loc Cert.LInDbRefIdeal.main_arg1) = m' ((c.tc : Thread Cert.LInDbRefIdeal.nD Cert.LInDbRefIdeal.τ).loc Cert.LInDbRefIdeal.main_arg1))

def preserves_SIn_SInIdeal : Prop :=
  True

def algebraic_SInIdeal_SInRefIdeal [hSInIdeal : Cert.SInIdeal.Facts] [hSInRefIdeal : Cert.SInRefIdeal.Facts] : Prop :=
  ∀ (m : (ℓ : Loc Cert.SInIdeal.nD Cert.SInIdeal.τ Cert.SInIdeal.sig) → Buf (Elt Ideal) ℓ) (g : Dev Cert.SInIdeal.nD → PrngReg)
    (m' : (ℓ : Loc Cert.SInRefIdeal.nD Cert.SInRefIdeal.τ Cert.SInRefIdeal.sig) → Buf (Elt Ideal) ℓ) (g' : Dev Cert.SInRefIdeal.nD → PrngReg), Pre_SInIdeal m →
    (∀ c : Dev Cert.SInIdeal.nD,
      m' ((c.tc : Thread Cert.SInRefIdeal.nD Cert.SInRefIdeal.τ).loc Cert.SInRefIdeal.main_arg0) = m ((c.tc : Thread Cert.SInIdeal.nD Cert.SInIdeal.τ).loc Cert.SInIdeal.main_arg0)
      ∧ m' ((c.tc : Thread Cert.SInRefIdeal.nD Cert.SInRefIdeal.τ).loc Cert.SInRefIdeal.main_arg1) = m ((c.tc : Thread Cert.SInIdeal.nD Cert.SInIdeal.τ).loc Cert.SInIdeal.main_arg1)) →
    ∃ (v0 : (c : Dev Cert.SInIdeal.nD) → Buf (Elt Ideal) ((c.tc : Thread Cert.SInIdeal.nD Cert.SInIdeal.τ).loc Cert.SInIdeal.main_v0)),
      θ_run (Cert.SInIdeal.defs (F := Ideal)) (onTc (τ := Cert.SInIdeal.τ) (Cert.SInIdeal.main (F := Ideal))) ⟨m, fun _ => 0, g⟩ (fun r => ∀ c : Dev Cert.SInIdeal.nD,
          r.2.mem ((c.tc : Thread Cert.SInIdeal.nD Cert.SInIdeal.τ).loc Cert.SInIdeal.main_v0) = v0 c
          ∧ r.2.mem ((c.tc : Thread Cert.SInIdeal.nD Cert.SInIdeal.τ).loc Cert.SInIdeal.main_arg0) = m ((c.tc : Thread Cert.SInIdeal.nD Cert.SInIdeal.τ).loc Cert.SInIdeal.main_arg0)
          ∧ r.2.mem ((c.tc : Thread Cert.SInIdeal.nD Cert.SInIdeal.τ).loc Cert.SInIdeal.main_arg1) = m ((c.tc : Thread Cert.SInIdeal.nD Cert.SInIdeal.τ).loc Cert.SInIdeal.main_arg1))
      ∧ θ_run (Cert.SInRefIdeal.defs (F := Ideal)) (onTc (τ := Cert.SInRefIdeal.τ) (Cert.SInRefIdeal.main (F := Ideal))) ⟨m', fun _ => 0, g'⟩ (fun r => ∀ c : Dev Cert.SInRefIdeal.nD,
          r.2.mem ((c.tc : Thread Cert.SInRefIdeal.nD Cert.SInRefIdeal.τ).loc Cert.SInRefIdeal.main_v3) = v0 c
          ∧ r.2.mem ((c.tc : Thread Cert.SInRefIdeal.nD Cert.SInRefIdeal.τ).loc Cert.SInRefIdeal.main_arg0) = m' ((c.tc : Thread Cert.SInRefIdeal.nD Cert.SInRefIdeal.τ).loc Cert.SInRefIdeal.main_arg0)
          ∧ r.2.mem ((c.tc : Thread Cert.SInRefIdeal.nD Cert.SInRefIdeal.τ).loc Cert.SInRefIdeal.main_arg1) = m' ((c.tc : Thread Cert.SInRefIdeal.nD Cert.SInRefIdeal.τ).loc Cert.SInRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v3) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_LIn_LInIdeal : Prop :=
  True

def algebraic_LInIdeal_LInRefIdeal [hLInIdeal : Cert.LInIdeal.Facts] [hLInRefIdeal : Cert.LInRefIdeal.Facts] : Prop :=
  ∀ (m : (ℓ : Loc Cert.LInIdeal.nD Cert.LInIdeal.τ Cert.LInIdeal.sig) → Buf (Elt Ideal) ℓ) (g : Dev Cert.LInIdeal.nD → PrngReg)
    (m' : (ℓ : Loc Cert.LInRefIdeal.nD Cert.LInRefIdeal.τ Cert.LInRefIdeal.sig) → Buf (Elt Ideal) ℓ) (g' : Dev Cert.LInRefIdeal.nD → PrngReg), Pre_LInIdeal m →
    (∀ c : Dev Cert.LInIdeal.nD,
      m' ((c.tc : Thread Cert.LInRefIdeal.nD Cert.LInRefIdeal.τ).loc Cert.LInRefIdeal.main_arg0) = m ((c.tc : Thread Cert.LInIdeal.nD Cert.LInIdeal.τ).loc Cert.LInIdeal.main_arg0)
      ∧ m' ((c.tc : Thread Cert.LInRefIdeal.nD Cert.LInRefIdeal.τ).loc Cert.LInRefIdeal.main_arg1) = m ((c.tc : Thread Cert.LInIdeal.nD Cert.LInIdeal.τ).loc Cert.LInIdeal.main_arg1)) →
    ∃ (v0 : (c : Dev Cert.LInIdeal.nD) → Buf (Elt Ideal) ((c.tc : Thread Cert.LInIdeal.nD Cert.LInIdeal.τ).loc Cert.LInIdeal.main_v0)),
      θ_run (Cert.LInIdeal.defs (F := Ideal)) (onTc (τ := Cert.LInIdeal.τ) (Cert.LInIdeal.main (F := Ideal))) ⟨m, fun _ => 0, g⟩ (fun r => ∀ c : Dev Cert.LInIdeal.nD,
          r.2.mem ((c.tc : Thread Cert.LInIdeal.nD Cert.LInIdeal.τ).loc Cert.LInIdeal.main_v0) = v0 c
          ∧ r.2.mem ((c.tc : Thread Cert.LInIdeal.nD Cert.LInIdeal.τ).loc Cert.LInIdeal.main_arg0) = m ((c.tc : Thread Cert.LInIdeal.nD Cert.LInIdeal.τ).loc Cert.LInIdeal.main_arg0)
          ∧ r.2.mem ((c.tc : Thread Cert.LInIdeal.nD Cert.LInIdeal.τ).loc Cert.LInIdeal.main_arg1) = m ((c.tc : Thread Cert.LInIdeal.nD Cert.LInIdeal.τ).loc Cert.LInIdeal.main_arg1))
      ∧ θ_run (Cert.LInRefIdeal.defs (F := Ideal)) (onTc (τ := Cert.LInRefIdeal.τ) (Cert.LInRefIdeal.main (F := Ideal))) ⟨m', fun _ => 0, g'⟩ (fun r => ∀ c : Dev Cert.LInRefIdeal.nD,
          r.2.mem ((c.tc : Thread Cert.LInRefIdeal.nD Cert.LInRefIdeal.τ).loc Cert.LInRefIdeal.main_v3) = v0 c
          ∧ r.2.mem ((c.tc : Thread Cert.LInRefIdeal.nD Cert.LInRefIdeal.τ).loc Cert.LInRefIdeal.main_arg0) = m' ((c.tc : Thread Cert.LInRefIdeal.nD Cert.LInRefIdeal.τ).loc Cert.LInRefIdeal.main_arg0)
          ∧ r.2.mem ((c.tc : Thread Cert.LInRefIdeal.nD Cert.LInRefIdeal.τ).loc Cert.LInRefIdeal.main_arg1) = m' ((c.tc : Thread Cert.LInRefIdeal.nD Cert.LInRefIdeal.τ).loc Cert.LInRefIdeal.main_arg1))

def preserves_LOut_LOutIdeal : Prop :=
  True

def algebraic_LOutIdeal_LOutRefIdeal [hLOutIdeal : Cert.LOutIdeal.Facts] [hLOutRefIdeal : Cert.LOutRefIdeal.Facts] : Prop :=
  ∀ (m : (ℓ : Loc Cert.LOutIdeal.nD Cert.LOutIdeal.τ Cert.LOutIdeal.sig) → Buf (Elt Ideal) ℓ) (g : Dev Cert.LOutIdeal.nD → PrngReg)
    (m' : (ℓ : Loc Cert.LOutRefIdeal.nD Cert.LOutRefIdeal.τ Cert.LOutRefIdeal.sig) → Buf (Elt Ideal) ℓ) (g' : Dev Cert.LOutRefIdeal.nD → PrngReg), Pre_LOutIdeal m →
    (∀ c : Dev Cert.LOutIdeal.nD,
      m' ((c.tc : Thread Cert.LOutRefIdeal.nD Cert.LOutRefIdeal.τ).loc Cert.LOutRefIdeal.main_arg0) = m ((c.tc : Thread Cert.LOutIdeal.nD Cert.LOutIdeal.τ).loc Cert.LOutIdeal.main_arg0)
      ∧ m' ((c.tc : Thread Cert.LOutRefIdeal.nD Cert.LOutRefIdeal.τ).loc Cert.LOutRefIdeal.main_arg1) = m ((c.tc : Thread Cert.LOutIdeal.nD Cert.LOutIdeal.τ).loc Cert.LOutIdeal.main_arg1)) →
    ∃ (v0 : (c : Dev Cert.LOutIdeal.nD) → Buf (Elt Ideal) ((c.tc : Thread Cert.LOutIdeal.nD Cert.LOutIdeal.τ).loc Cert.LOutIdeal.main_v0)),
      θ_run (Cert.LOutIdeal.defs (F := Ideal)) (onTc (τ := Cert.LOutIdeal.τ) (Cert.LOutIdeal.main (F := Ideal))) ⟨m, fun _ => 0, g⟩ (fun r => ∀ c : Dev Cert.LOutIdeal.nD,
          r.2.mem ((c.tc : Thread Cert.LOutIdeal.nD Cert.LOutIdeal.τ).loc Cert.LOutIdeal.main_v0) = v0 c
          ∧ r.2.mem ((c.tc : Thread Cert.LOutIdeal.nD Cert.LOutIdeal.τ).loc Cert.LOutIdeal.main_arg0) = m ((c.tc : Thread Cert.LOutIdeal.nD Cert.LOutIdeal.τ).loc Cert.LOutIdeal.main_arg0)
          ∧ r.2.mem ((c.tc : Thread Cert.LOutIdeal.nD Cert.LOutIdeal.τ).loc Cert.LOutIdeal.main_arg1) = m ((c.tc : Thread Cert.LOutIdeal.nD Cert.LOutIdeal.τ).loc Cert.LOutIdeal.main_arg1))
      ∧ θ_run (Cert.LOutRefIdeal.defs (F := Ideal)) (onTc (τ := Cert.LOutRefIdeal.τ) (Cert.LOutRefIdeal.main (F := Ideal))) ⟨m', fun _ => 0, g'⟩ (fun r => ∀ c : Dev Cert.LOutRefIdeal.nD,
          r.2.mem ((c.tc : Thread Cert.LOutRefIdeal.nD Cert.LOutRefIdeal.τ).loc Cert.LOutRefIdeal.main_v3) = v0 c
          ∧ r.2.mem ((c.tc : Thread Cert.LOutRefIdeal.nD Cert.LOutRefIdeal.τ).loc Cert.LOutRefIdeal.main_arg0) = m' ((c.tc : Thread Cert.LOutRefIdeal.nD Cert.LOutRefIdeal.τ).loc Cert.LOutRefIdeal.main_arg0)
          ∧ r.2.mem ((c.tc : Thread Cert.LOutRefIdeal.nD Cert.LOutRefIdeal.τ).loc Cert.LOutRefIdeal.main_arg1) = m' ((c.tc : Thread Cert.LOutRefIdeal.nD Cert.LOutRefIdeal.τ).loc Cert.LOutRefIdeal.main_arg1))

def preserves_Gu_GuIdeal : Prop :=
  True

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)) →
    ∃ (v0 : (c : Dev Cert.GuIdeal.nD) → Buf (Elt Ideal) ((c.tc : Thread Cert.GuIdeal.nD Cert.GuIdeal.τ).loc Cert.GuIdeal.main_v0)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v0) = v0 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v4) = v0 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_ActFwd_ActFwdIdeal : Prop :=
  True

def algebraic_ActFwdIdeal_ActFwdRefIdeal [hActFwdIdeal : Cert.ActFwdIdeal.Facts] [hActFwdRefIdeal : Cert.ActFwdRefIdeal.Facts] : Prop :=
  ∀ (m : (ℓ : Loc Cert.ActFwdIdeal.nD Cert.ActFwdIdeal.τ Cert.ActFwdIdeal.sig) → Buf (Elt Ideal) ℓ) (g : Dev Cert.ActFwdIdeal.nD → PrngReg)
    (m' : (ℓ : Loc Cert.ActFwdRefIdeal.nD Cert.ActFwdRefIdeal.τ Cert.ActFwdRefIdeal.sig) → Buf (Elt Ideal) ℓ) (g' : Dev Cert.ActFwdRefIdeal.nD → PrngReg), Pre_ActFwdIdeal m →
    (∀ c : Dev Cert.ActFwdIdeal.nD,
      m' ((c.tc : Thread Cert.ActFwdRefIdeal.nD Cert.ActFwdRefIdeal.τ).loc Cert.ActFwdRefIdeal.main_arg0) = m ((c.tc : Thread Cert.ActFwdIdeal.nD Cert.ActFwdIdeal.τ).loc Cert.ActFwdIdeal.main_arg0)) →
    ∃ (v0 : (c : Dev Cert.ActFwdIdeal.nD) → Buf (Elt Ideal) ((c.tc : Thread Cert.ActFwdIdeal.nD Cert.ActFwdIdeal.τ).loc Cert.ActFwdIdeal.main_v0)),
      θ_run (Cert.ActFwdIdeal.defs (F := Ideal)) (onTc (τ := Cert.ActFwdIdeal.τ) (Cert.ActFwdIdeal.main (F := Ideal))) ⟨m, fun _ => 0, g⟩ (fun r => ∀ c : Dev Cert.ActFwdIdeal.nD,
          r.2.mem ((c.tc : Thread Cert.ActFwdIdeal.nD Cert.ActFwdIdeal.τ).loc Cert.ActFwdIdeal.main_v0) = v0 c
          ∧ r.2.mem ((c.tc : Thread Cert.ActFwdIdeal.nD Cert.ActFwdIdeal.τ).loc Cert.ActFwdIdeal.main_arg0) = m ((c.tc : Thread Cert.ActFwdIdeal.nD Cert.ActFwdIdeal.τ).loc Cert.ActFwdIdeal.main_arg0))
      ∧ θ_run (Cert.ActFwdRefIdeal.defs (F := Ideal)) (onTc (τ := Cert.ActFwdRefIdeal.τ) (Cert.ActFwdRefIdeal.main (F := Ideal))) ⟨m', fun _ => 0, g'⟩ (fun r => ∀ c : Dev Cert.ActFwdRefIdeal.nD,
          r.2.mem ((c.tc : Thread Cert.ActFwdRefIdeal.nD Cert.ActFwdRefIdeal.τ).loc Cert.ActFwdRefIdeal.main_v5) = v0 c
          ∧ r.2.mem ((c.tc : Thread Cert.ActFwdRefIdeal.nD Cert.ActFwdRefIdeal.τ).loc Cert.ActFwdRefIdeal.main_arg0) = m' ((c.tc : Thread Cert.ActFwdRefIdeal.nD Cert.ActFwdRefIdeal.τ).loc Cert.ActFwdRefIdeal.main_arg0))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v7) = v0 c
          ∧ r.2.mem ((c.tc : Thread Cert.GateRefIdeal.nD Cert.GateRefIdeal.τ).loc Cert.GateRefIdeal.main_v6) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_GluResB_GluResBIdeal : Prop :=
  True

def algebraic_GluResBIdeal_GluResBRefIdeal [hGluResBIdeal : Cert.GluResBIdeal.Facts] [hGluResBRefIdeal : Cert.GluResBRefIdeal.Facts] : Prop :=
  ∀ (m : (ℓ : Loc Cert.GluResBIdeal.nD Cert.GluResBIdeal.τ Cert.GluResBIdeal.sig) → Buf (Elt Ideal) ℓ) (g : Dev Cert.GluResBIdeal.nD → PrngReg)
    (m' : (ℓ : Loc Cert.GluResBRefIdeal.nD Cert.GluResBRefIdeal.τ Cert.GluResBRefIdeal.sig) → Buf (Elt Ideal) ℓ) (g' : Dev Cert.GluResBRefIdeal.nD → PrngReg), Pre_GluResBIdeal m →
    (∀ c : Dev Cert.GluResBIdeal.nD,
      m' ((c.tc : Thread Cert.GluResBRefIdeal.nD Cert.GluResBRefIdeal.τ).loc Cert.GluResBRefIdeal.main_arg0) = m ((c.tc : Thread Cert.GluResBIdeal.nD Cert.GluResBIdeal.τ).loc Cert.GluResBIdeal.main_arg0)
      ∧ m' ((c.tc : Thread Cert.GluResBRefIdeal.nD Cert.GluResBRefIdeal.τ).loc Cert.GluResBRefIdeal.main_arg1) = m ((c.tc : Thread Cert.GluResBIdeal.nD Cert.GluResBIdeal.τ).loc Cert.GluResBIdeal.main_arg1)
      ∧ m' ((c.tc : Thread Cert.GluResBRefIdeal.nD Cert.GluResBRefIdeal.τ).loc Cert.GluResBRefIdeal.main_arg2) = m ((c.tc : Thread Cert.GluResBIdeal.nD Cert.GluResBIdeal.τ).loc Cert.GluResBIdeal.main_arg2)) →
    ∃ (v0 : (c : Dev Cert.GluResBIdeal.nD) → Buf (Elt Ideal) ((c.tc : Thread Cert.GluResBIdeal.nD Cert.GluResBIdeal.τ).loc Cert.GluResBIdeal.main_v1_0)) (v1 : (c : Dev Cert.GluResBIdeal.nD) → Buf (Elt Ideal) ((c.tc : Thread Cert.GluResBIdeal.nD Cert.GluResBIdeal.τ).loc Cert.GluResBIdeal.main_v1_1)),
      θ_run (Cert.GluResBIdeal.defs (F := Ideal)) (onTc (τ := Cert.GluResBIdeal.τ) (Cert.GluResBIdeal.main (F := Ideal))) ⟨m, fun _ => 0, g⟩ (fun r => ∀ c : Dev Cert.GluResBIdeal.nD,
          r.2.mem ((c.tc : Thread Cert.GluResBIdeal.nD Cert.GluResBIdeal.τ).loc Cert.GluResBIdeal.main_v1_0) = v0 c
          ∧ r.2.mem ((c.tc : Thread Cert.GluResBIdeal.nD Cert.GluResBIdeal.τ).loc Cert.GluResBIdeal.main_v1_1) = v1 c
          ∧ r.2.mem ((c.tc : Thread Cert.GluResBIdeal.nD Cert.GluResBIdeal.τ).loc Cert.GluResBIdeal.main_arg0) = m ((c.tc : Thread Cert.GluResBIdeal.nD Cert.GluResBIdeal.τ).loc Cert.GluResBIdeal.main_arg0)
          ∧ r.2.mem ((c.tc : Thread Cert.GluResBIdeal.nD Cert.GluResBIdeal.τ).loc Cert.GluResBIdeal.main_arg1) = m ((c.tc : Thread Cert.GluResBIdeal.nD Cert.GluResBIdeal.τ).loc Cert.GluResBIdeal.main_arg1)
          ∧ r.2.mem ((c.tc : Thread Cert.GluResBIdeal.nD Cert.GluResBIdeal.τ).loc Cert.GluResBIdeal.main_arg2) = m ((c.tc : Thread Cert.GluResBIdeal.nD Cert.GluResBIdeal.τ).loc Cert.GluResBIdeal.main_arg2))
      ∧ θ_run (Cert.GluResBRefIdeal.defs (F := Ideal)) (onTc (τ := Cert.GluResBRefIdeal.τ) (Cert.GluResBRefIdeal.main (F := Ideal))) ⟨m', fun _ => 0, g'⟩ (fun r => ∀ c : Dev Cert.GluResBRefIdeal.nD,
          r.2.mem ((c.tc : Thread Cert.GluResBRefIdeal.nD Cert.GluResBRefIdeal.τ).loc Cert.GluResBRefIdeal.main_v33) = v0 c
          ∧ r.2.mem ((c.tc : Thread Cert.GluResBRefIdeal.nD Cert.GluResBRefIdeal.τ).loc Cert.GluResBRefIdeal.main_v22) = v1 c
          ∧ r.2.mem ((c.tc : Thread Cert.GluResBRefIdeal.nD Cert.GluResBRefIdeal.τ).loc Cert.GluResBRefIdeal.main_arg0) = m' ((c.tc : Thread Cert.GluResBRefIdeal.nD Cert.GluResBRefIdeal.τ).loc Cert.GluResBRefIdeal.main_arg0)
          ∧ r.2.mem ((c.tc : Thread Cert.GluResBRefIdeal.nD Cert.GluResBRefIdeal.τ).loc Cert.GluResBRefIdeal.main_arg1) = m' ((c.tc : Thread Cert.GluResBRefIdeal.nD Cert.GluResBRefIdeal.τ).loc Cert.GluResBRefIdeal.main_arg1)
          ∧ r.2.mem ((c.tc : Thread Cert.GluResBRefIdeal.nD Cert.GluResBRefIdeal.τ).loc Cert.GluResBRefIdeal.main_arg2) = m' ((c.tc : Thread Cert.GluResBRefIdeal.nD Cert.GluResBRefIdeal.τ).loc Cert.GluResBRefIdeal.main_arg2))

def preserves_NormB_NormBIdeal : Prop :=
  True

def algebraic_NormBIdeal_NormBRefIdeal [hNormBIdeal : Cert.NormBIdeal.Facts] [hNormBRefIdeal : Cert.NormBRefIdeal.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.NormBRefIdeal.nD Cert.NormBRefIdeal.τ Cert.NormBRefIdeal.sig) → Buf (Elt Ideal) ℓ) (g' : Dev Cert.NormBRefIdeal.nD → PrngReg), Pre_NormBIdeal m →
    (∀ c : Dev Cert.NormBIdeal.nD,
      m' ((c.tc : Thread Cert.NormBRefIdeal.nD Cert.NormBRefIdeal.τ).loc Cert.NormBRefIdeal.main_arg0) = m ((c.tc : Thread Cert.NormBIdeal.nD Cert.NormBIdeal.τ).loc Cert.NormBIdeal.main_arg0)
      ∧ m' ((c.tc : Thread Cert.NormBRefIdeal.nD Cert.NormBRefIdeal.τ).loc Cert.NormBRefIdeal.main_arg1) = m ((c.tc : Thread Cert.NormBIdeal.nD Cert.NormBIdeal.τ).loc Cert.NormBIdeal.main_arg1)
      ∧ m' ((c.tc : Thread Cert.NormBRefIdeal.nD Cert.NormBRefIdeal.τ).loc Cert.NormBRefIdeal.main_arg2) = m ((c.tc : Thread Cert.NormBIdeal.nD Cert.NormBIdeal.τ).loc Cert.NormBIdeal.main_arg2)
      ∧ m' ((c.tc : Thread Cert.NormBRefIdeal.nD Cert.NormBRefIdeal.τ).loc Cert.NormBRefIdeal.main_arg3) = m ((c.tc : Thread Cert.NormBIdeal.nD Cert.NormBIdeal.τ).loc Cert.NormBIdeal.main_arg3)
      ∧ m' ((c.tc : Thread Cert.NormBRefIdeal.nD Cert.NormBRefIdeal.τ).loc Cert.NormBRefIdeal.main_arg4) = m ((c.tc : Thread Cert.NormBIdeal.nD Cert.NormBIdeal.τ).loc Cert.NormBIdeal.main_arg4)) →
    ∃ (v0 : (c : Dev Cert.NormBIdeal.nD) → Buf (Elt Ideal) ((c.tc : Thread Cert.NormBIdeal.nD Cert.NormBIdeal.τ).loc Cert.NormBIdeal.main_v0_1)) (v1 : (c : Dev Cert.NormBIdeal.nD) → Buf (Elt Ideal) ((c.tc : Thread Cert.NormBIdeal.nD Cert.NormBIdeal.τ).loc Cert.NormBIdeal.main_v0_2)) (v2 : (c : Dev Cert.NormBIdeal.nD) → Buf (Elt Ideal) ((c.tc : Thread Cert.NormBIdeal.nD Cert.NormBIdeal.τ).loc Cert.NormBIdeal.main_v0_3)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v0_1) = v0 c
          ∧ r.2.mem ((c.tc : Thread Cert.NormBIdeal.nD Cert.NormBIdeal.τ).loc Cert.NormBIdeal.main_v0_2) = v1 c
          ∧ r.2.mem ((c.tc : Thread Cert.NormBIdeal.nD Cert.NormBIdeal.τ).loc Cert.NormBIdeal.main_v0_3) = v2 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
          ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
          ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3)
          ∧ r.2.mem ((c.tc : Thread Cert.NormBIdeal.nD Cert.NormBIdeal.τ).loc Cert.NormBIdeal.main_arg4) = m ((c.tc : Thread Cert.NormBIdeal.nD Cert.NormBIdeal.τ).loc Cert.NormBIdeal.main_arg4))
      ∧ θ_run (Cert.NormBRefIdeal.defs (F := Ideal)) (onTc (τ := Cert.NormBRefIdeal.τ) (Cert.NormBRefIdeal.main (F := Ideal))) ⟨m', fun _ => 0, g'⟩ (fun r => ∀ c : Dev Cert.NormBRefIdeal.nD,
          r.2.mem ((c.tc : Thread Cert.NormBRefIdeal.nD Cert.NormBRefIdeal.τ).loc Cert.NormBRefIdeal.main_v29) = v0 c
          ∧ r.2.mem ((c.tc : Thread Cert.NormBRefIdeal.nD Cert.NormBRefIdeal.τ).loc Cert.NormBRefIdeal.main_v24) = v1 c
          ∧ r.2.mem ((c.tc : Thread Cert.NormBRefIdeal.nD Cert.NormBRefIdeal.τ).loc Cert.NormBRefIdeal.main_v21) = v2 c
          ∧ r.2.mem ((c.tc : Thread Cert.NormBRefIdeal.nD Cert.NormBRefIdeal.τ).loc Cert.NormBRefIdeal.main_arg0) = m' ((c.tc : Thread Cert.NormBRefIdeal.nD Cert.NormBRefIdeal.τ).loc Cert.NormBRefIdeal.main_arg0)
          ∧ r.2.mem ((c.tc : Thread Cert.NormBRefIdeal.nD Cert.NormBRefIdeal.τ).loc Cert.NormBRefIdeal.main_arg1) = m' ((c.tc : Thread Cert.NormBRefIdeal.nD Cert.NormBRefIdeal.τ).loc Cert.NormBRefIdeal.main_arg1)
          ∧ r.2.mem ((c.tc : Thread Cert.NormBRefIdeal.nD Cert.NormBRefIdeal.τ).loc Cert.NormBRefIdeal.main_arg2) = m' ((c.tc : Thread Cert.NormBRefIdeal.nD Cert.NormBRefIdeal.τ).loc Cert.NormBRefIdeal.main_arg2)
          ∧ r.2.mem ((c.tc : Thread Cert.NormBRefIdeal.nD Cert.NormBRefIdeal.τ).loc Cert.NormBRefIdeal.main_arg3) = m' ((c.tc : Thread Cert.NormBRefIdeal.nD Cert.NormBRefIdeal.τ).loc Cert.NormBRefIdeal.main_arg3)
          ∧ r.2.mem ((c.tc : Thread Cert.NormBRefIdeal.nD Cert.NormBRefIdeal.τ).loc Cert.NormBRefIdeal.main_arg4) = m' ((c.tc : Thread Cert.NormBRefIdeal.nD Cert.NormBRefIdeal.τ).loc Cert.NormBRefIdeal.main_arg4))

def preserves_GluRes_GluResIdeal : Prop :=
  True

def algebraic_GluResIdeal_GluResRefIdeal [hGluResIdeal : Cert.GluResIdeal.Facts] [hGluResRefIdeal : Cert.GluResRefIdeal.Facts] : Prop :=
  ∀ (m : (ℓ : Loc Cert.GluResIdeal.nD Cert.GluResIdeal.τ Cert.GluResIdeal.sig) → Buf (Elt Ideal) ℓ) (g : Dev Cert.GluResIdeal.nD → PrngReg)
    (m' : (ℓ : Loc Cert.GluResRefIdeal.nD Cert.GluResRefIdeal.τ Cert.GluResRefIdeal.sig) → Buf (Elt Ideal) ℓ) (g' : Dev Cert.GluResRefIdeal.nD → PrngReg), Pre_GluResIdeal m →
    (∀ c : Dev Cert.GluResIdeal.nD,
      m' ((c.tc : Thread Cert.GluResRefIdeal.nD Cert.GluResRefIdeal.τ).loc Cert.GluResRefIdeal.main_arg0) = m ((c.tc : Thread Cert.GluResIdeal.nD Cert.GluResIdeal.τ).loc Cert.GluResIdeal.main_arg0)
      ∧ m' ((c.tc : Thread Cert.GluResRefIdeal.nD Cert.GluResRefIdeal.τ).loc Cert.GluResRefIdeal.main_arg1) = m ((c.tc : Thread Cert.GluResIdeal.nD Cert.GluResIdeal.τ).loc Cert.GluResIdeal.main_arg1)
      ∧ m' ((c.tc : Thread Cert.GluResRefIdeal.nD Cert.GluResRefIdeal.τ).loc Cert.GluResRefIdeal.main_arg2) = m ((c.tc : Thread Cert.GluResIdeal.nD Cert.GluResIdeal.τ).loc Cert.GluResIdeal.main_arg2)) →
    ∃ (v0 : (c : Dev Cert.GluResIdeal.nD) → Buf (Elt Ideal) ((c.tc : Thread Cert.GluResIdeal.nD Cert.GluResIdeal.τ).loc Cert.GluResIdeal.main_v0)),
      θ_run (Cert.GluResIdeal.defs (F := Ideal)) (onTc (τ := Cert.GluResIdeal.τ) (Cert.GluResIdeal.main (F := Ideal))) ⟨m, fun _ => 0, g⟩ (fun r => ∀ c : Dev Cert.GluResIdeal.nD,
          r.2.mem ((c.tc : Thread Cert.GluResIdeal.nD Cert.GluResIdeal.τ).loc Cert.GluResIdeal.main_v0) = v0 c
          ∧ r.2.mem ((c.tc : Thread Cert.GluResIdeal.nD Cert.GluResIdeal.τ).loc Cert.GluResIdeal.main_arg0) = m ((c.tc : Thread Cert.GluResIdeal.nD Cert.GluResIdeal.τ).loc Cert.GluResIdeal.main_arg0)
          ∧ r.2.mem ((c.tc : Thread Cert.GluResIdeal.nD Cert.GluResIdeal.τ).loc Cert.GluResIdeal.main_arg1) = m ((c.tc : Thread Cert.GluResIdeal.nD Cert.GluResIdeal.τ).loc Cert.GluResIdeal.main_arg1)
          ∧ r.2.mem ((c.tc : Thread Cert.GluResIdeal.nD Cert.GluResIdeal.τ).loc Cert.GluResIdeal.main_arg2) = m ((c.tc : Thread Cert.GluResIdeal.nD Cert.GluResIdeal.τ).loc Cert.GluResIdeal.main_arg2))
      ∧ θ_run (Cert.GluResRefIdeal.defs (F := Ideal)) (onTc (τ := Cert.GluResRefIdeal.τ) (Cert.GluResRefIdeal.main (F := Ideal))) ⟨m', fun _ => 0, g'⟩ (fun r => ∀ c : Dev Cert.GluResRefIdeal.nD,
          r.2.mem ((c.tc : Thread Cert.GluResRefIdeal.nD Cert.GluResRefIdeal.τ).loc Cert.GluResRefIdeal.main_v15) = v0 c
          ∧ r.2.mem ((c.tc : Thread Cert.GluResRefIdeal.nD Cert.GluResRefIdeal.τ).loc Cert.GluResRefIdeal.main_arg0) = m' ((c.tc : Thread Cert.GluResRefIdeal.nD Cert.GluResRefIdeal.τ).loc Cert.GluResRefIdeal.main_arg0)
          ∧ r.2.mem ((c.tc : Thread Cert.GluResRefIdeal.nD Cert.GluResRefIdeal.τ).loc Cert.GluResRefIdeal.main_arg1) = m' ((c.tc : Thread Cert.GluResRefIdeal.nD Cert.GluResRefIdeal.τ).loc Cert.GluResRefIdeal.main_arg1)
          ∧ r.2.mem ((c.tc : Thread Cert.GluResRefIdeal.nD Cert.GluResRefIdeal.τ).loc Cert.GluResRefIdeal.main_arg2) = m' ((c.tc : Thread Cert.GluResRefIdeal.nD Cert.GluResRefIdeal.τ).loc Cert.GluResRefIdeal.main_arg2))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)) →
    ∃ (v0 : (c : Dev Cert.ResidIdeal.nD) → Buf (Elt Ideal) ((c.tc : Thread Cert.ResidIdeal.nD Cert.ResidIdeal.τ).loc Cert.ResidIdeal.main_v0)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v0) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v2) = v0 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v18) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_AdaW_AdaWIdeal : Prop :=
  True

def algebraic_AdaWIdeal_AdaWRefIdeal [hAdaWIdeal : Cert.AdaWIdeal.Facts] [hAdaWRefIdeal : Cert.AdaWRefIdeal.Facts] : Prop :=
  ∀ (m : (ℓ : Loc Cert.AdaWIdeal.nD Cert.AdaWIdeal.τ Cert.AdaWIdeal.sig) → Buf (Elt Ideal) ℓ) (g : Dev Cert.AdaWIdeal.nD → PrngReg)
    (m' : (ℓ : Loc Cert.AdaWRefIdeal.nD Cert.AdaWRefIdeal.τ Cert.AdaWRefIdeal.sig) → Buf (Elt Ideal) ℓ) (g' : Dev Cert.AdaWRefIdeal.nD → PrngReg), Pre_AdaWIdeal m →
    (∀ c : Dev Cert.AdaWIdeal.nD,
      m' ((c.tc : Thread Cert.AdaWRefIdeal.nD Cert.AdaWRefIdeal.τ).loc Cert.AdaWRefIdeal.main_arg0) = m ((c.tc : Thread Cert.AdaWIdeal.nD Cert.AdaWIdeal.τ).loc Cert.AdaWIdeal.main_arg0)
      ∧ m' ((c.tc : Thread Cert.AdaWRefIdeal.nD Cert.AdaWRefIdeal.τ).loc Cert.AdaWRefIdeal.main_arg1) = m ((c.tc : Thread Cert.AdaWIdeal.nD Cert.AdaWIdeal.τ).loc Cert.AdaWIdeal.main_arg1)
      ∧ m' ((c.tc : Thread Cert.AdaWRefIdeal.nD Cert.AdaWRefIdeal.τ).loc Cert.AdaWRefIdeal.main_arg2) = m ((c.tc : Thread Cert.AdaWIdeal.nD Cert.AdaWIdeal.τ).loc Cert.AdaWIdeal.main_arg2)
      ∧ m' ((c.tc : Thread Cert.AdaWRefIdeal.nD Cert.AdaWRefIdeal.τ).loc Cert.AdaWRefIdeal.main_arg3) = m ((c.tc : Thread Cert.AdaWIdeal.nD Cert.AdaWIdeal.τ).loc Cert.AdaWIdeal.main_arg3)
      ∧ m' ((c.tc : Thread Cert.AdaWRefIdeal.nD Cert.AdaWRefIdeal.τ).loc Cert.AdaWRefIdeal.main_arg4) = m ((c.tc : Thread Cert.AdaWIdeal.nD Cert.AdaWIdeal.τ).loc Cert.AdaWIdeal.main_arg4)) →
    ∃ (v0 : (c : Dev Cert.AdaWIdeal.nD) → Buf (Elt Ideal) ((c.tc : Thread Cert.AdaWIdeal.nD Cert.AdaWIdeal.τ).loc Cert.AdaWIdeal.main_v0_0)) (v1 : (c : Dev Cert.AdaWIdeal.nD) → Buf (Elt Ideal) ((c.tc : Thread Cert.AdaWIdeal.nD Cert.AdaWIdeal.τ).loc Cert.AdaWIdeal.main_v0_1)) (v2 : (c : Dev Cert.AdaWIdeal.nD) → Buf (Elt Ideal) ((c.tc : Thread Cert.AdaWIdeal.nD Cert.AdaWIdeal.τ).loc Cert.AdaWIdeal.main_v0_2)) (v3 : (c : Dev Cert.AdaWIdeal.nD) → Buf (Elt Ideal) ((c.tc : Thread Cert.AdaWIdeal.nD Cert.AdaWIdeal.τ).loc Cert.AdaWIdeal.main_v0_3)),
      θ_run (Cert.AdaWIdeal.defs (F := Ideal)) (onTc (τ := Cert.AdaWIdeal.τ) (Cert.AdaWIdeal.main (F := Ideal))) ⟨m, fun _ => 0, g⟩ (fun r => ∀ c : Dev Cert.AdaWIdeal.nD,
          r.2.mem ((c.tc : Thread Cert.AdaWIdeal.nD Cert.AdaWIdeal.τ).loc Cert.AdaWIdeal.main_v0_0) = v0 c
          ∧ r.2.mem ((c.tc : Thread Cert.AdaWIdeal.nD Cert.AdaWIdeal.τ).loc Cert.AdaWIdeal.main_v0_1) = v1 c
          ∧ r.2.mem ((c.tc : Thread Cert.AdaWIdeal.nD Cert.AdaWIdeal.τ).loc Cert.AdaWIdeal.main_v0_2) = v2 c
          ∧ r.2.mem ((c.tc : Thread Cert.AdaWIdeal.nD Cert.AdaWIdeal.τ).loc Cert.AdaWIdeal.main_v0_3) = v3 c
          ∧ r.2.mem ((c.tc : Thread Cert.AdaWIdeal.nD Cert.AdaWIdeal.τ).loc Cert.AdaWIdeal.main_arg0) = m ((c.tc : Thread Cert.AdaWIdeal.nD Cert.AdaWIdeal.τ).loc Cert.AdaWIdeal.main_arg0)
          ∧ r.2.mem ((c.tc : Thread Cert.AdaWIdeal.nD Cert.AdaWIdeal.τ).loc Cert.AdaWIdeal.main_arg1) = m ((c.tc : Thread Cert.AdaWIdeal.nD Cert.AdaWIdeal.τ).loc Cert.AdaWIdeal.main_arg1)
          ∧ r.2.mem ((c.tc : Thread Cert.AdaWIdeal.nD Cert.AdaWIdeal.τ).loc Cert.AdaWIdeal.main_arg2) = m ((c.tc : Thread Cert.AdaWIdeal.nD Cert.AdaWIdeal.τ).loc Cert.AdaWIdeal.main_arg2)
          ∧ r.2.mem ((c.tc : Thread Cert.AdaWIdeal.nD Cert.AdaWIdeal.τ).loc Cert.AdaWIdeal.main_arg3) = m ((c.tc : Thread Cert.AdaWIdeal.nD Cert.AdaWIdeal.τ).loc Cert.AdaWIdeal.main_arg3)
          ∧ r.2.mem ((c.tc : Thread Cert.AdaWIdeal.nD Cert.AdaWIdeal.τ).loc Cert.AdaWIdeal.main_arg4) = m ((c.tc : Thread Cert.AdaWIdeal.nD Cert.AdaWIdeal.τ).loc Cert.AdaWIdeal.main_arg4))
      ∧ θ_run (Cert.AdaWRefIdeal.defs (F := Ideal)) (onTc (τ := Cert.AdaWRefIdeal.τ) (Cert.AdaWRefIdeal.main (F := Ideal))) ⟨m', fun _ => 0, g'⟩ (fun r => ∀ c : Dev Cert.AdaWRefIdeal.nD,
          r.2.mem ((c.tc : Thread Cert.AdaWRefIdeal.nD Cert.AdaWRefIdeal.τ).loc Cert.AdaWRefIdeal.main_v5) = v0 c
          ∧ r.2.mem ((c.tc : Thread Cert.AdaWRefIdeal.nD Cert.AdaWRefIdeal.τ).loc Cert.AdaWRefIdeal.main_v29) = v1 c
          ∧ r.2.mem ((c.tc : Thread Cert.AdaWRefIdeal.nD Cert.AdaWRefIdeal.τ).loc Cert.AdaWRefIdeal.main_v10) = v2 c
          ∧ r.2.mem ((c.tc : Thread Cert.AdaWRefIdeal.nD Cert.AdaWRefIdeal.τ).loc Cert.AdaWRefIdeal.main_v16) = v3 c
          ∧ r.2.mem ((c.tc : Thread Cert.AdaWRefIdeal.nD Cert.AdaWRefIdeal.τ).loc Cert.AdaWRefIdeal.main_arg0) = m' ((c.tc : Thread Cert.AdaWRefIdeal.nD Cert.AdaWRefIdeal.τ).loc Cert.AdaWRefIdeal.main_arg0)
          ∧ r.2.mem ((c.tc : Thread Cert.AdaWRefIdeal.nD Cert.AdaWRefIdeal.τ).loc Cert.AdaWRefIdeal.main_arg1) = m' ((c.tc : Thread Cert.AdaWRefIdeal.nD Cert.AdaWRefIdeal.τ).loc Cert.AdaWRefIdeal.main_arg1)
          ∧ r.2.mem ((c.tc : Thread Cert.AdaWRefIdeal.nD Cert.AdaWRefIdeal.τ).loc Cert.AdaWRefIdeal.main_arg2) = m' ((c.tc : Thread Cert.AdaWRefIdeal.nD Cert.AdaWRefIdeal.τ).loc Cert.AdaWRefIdeal.main_arg2)
          ∧ r.2.mem ((c.tc : Thread Cert.AdaWRefIdeal.nD Cert.AdaWRefIdeal.τ).loc Cert.AdaWRefIdeal.main_arg3) = m' ((c.tc : Thread Cert.AdaWRefIdeal.nD Cert.AdaWRefIdeal.τ).loc Cert.AdaWRefIdeal.main_arg3)
          ∧ r.2.mem ((c.tc : Thread Cert.AdaWRefIdeal.nD Cert.AdaWRefIdeal.τ).loc Cert.AdaWRefIdeal.main_arg4) = m' ((c.tc : Thread Cert.AdaWRefIdeal.nD Cert.AdaWRefIdeal.τ).loc Cert.AdaWRefIdeal.main_arg4))

def preserves_SInW_SInWIdeal : Prop :=
  True

def algebraic_SInWIdeal_SInWRefIdeal [hSInWIdeal : Cert.SInWIdeal.Facts] [hSInWRefIdeal : Cert.SInWRefIdeal.Facts] : Prop :=
  ∀ (m : (ℓ : Loc Cert.SInWIdeal.nD Cert.SInWIdeal.τ Cert.SInWIdeal.sig) → Buf (Elt Ideal) ℓ) (g : Dev Cert.SInWIdeal.nD → PrngReg)
    (m' : (ℓ : Loc Cert.SInWRefIdeal.nD Cert.SInWRefIdeal.τ Cert.SInWRefIdeal.sig) → Buf (Elt Ideal) ℓ) (g' : Dev Cert.SInWRefIdeal.nD → PrngReg), Pre_SInWIdeal m →
    (∀ c : Dev Cert.SInWIdeal.nD,
      m' ((c.tc : Thread Cert.SInWRefIdeal.nD Cert.SInWRefIdeal.τ).loc Cert.SInWRefIdeal.main_arg0) = m ((c.tc : Thread Cert.SInWIdeal.nD Cert.SInWIdeal.τ).loc Cert.SInWIdeal.main_arg0)
      ∧ m' ((c.tc : Thread Cert.SInWRefIdeal.nD Cert.SInWRefIdeal.τ).loc Cert.SInWRefIdeal.main_arg1) = m ((c.tc : Thread Cert.SInWIdeal.nD Cert.SInWIdeal.τ).loc Cert.SInWIdeal.main_arg1)
      ∧ m' ((c.tc : Thread Cert.SInWRefIdeal.nD Cert.SInWRefIdeal.τ).loc Cert.SInWRefIdeal.main_arg2) = m ((c.tc : Thread Cert.SInWIdeal.nD Cert.SInWIdeal.τ).loc Cert.SInWIdeal.main_arg2)
      ∧ m' ((c.tc : Thread Cert.SInWRefIdeal.nD Cert.SInWRefIdeal.τ).loc Cert.SInWRefIdeal.main_arg3) = m ((c.tc : Thread Cert.SInWIdeal.nD Cert.SInWIdeal.τ).loc Cert.SInWIdeal.main_arg3)) →
    ∃ (v0 : (c : Dev Cert.SInWIdeal.nD) → Buf (Elt Ideal) ((c.tc : Thread Cert.SInWIdeal.nD Cert.SInWIdeal.τ).loc Cert.SInWIdeal.main_v0_0)) (v1 : (c : Dev Cert.SInWIdeal.nD) → Buf (Elt Ideal) ((c.tc : Thread Cert.SInWIdeal.nD Cert.SInWIdeal.τ).loc Cert.SInWIdeal.main_v0_1)) (v2 : (c : Dev Cert.SInWIdeal.nD) → Buf (Elt Ideal) ((c.tc : Thread Cert.SInWIdeal.nD Cert.SInWIdeal.τ).loc Cert.SInWIdeal.main_v0_2)) (v3 : (c : Dev Cert.SInWIdeal.nD) → Buf (Elt Ideal) ((c.tc : Thread Cert.SInWIdeal.nD Cert.SInWIdeal.τ).loc Cert.SInWIdeal.main_v0_3)),
      θ_run (Cert.SInWIdeal.defs (F := Ideal)) (onTc (τ := Cert.SInWIdeal.τ) (Cert.SInWIdeal.main (F := Ideal))) ⟨m, fun _ => 0, g⟩ (fun r => ∀ c : Dev Cert.SInWIdeal.nD,
          r.2.mem ((c.tc : Thread Cert.SInWIdeal.nD Cert.SInWIdeal.τ).loc Cert.SInWIdeal.main_v0_0) = v0 c
          ∧ r.2.mem ((c.tc : Thread Cert.SInWIdeal.nD Cert.SInWIdeal.τ).loc Cert.SInWIdeal.main_v0_1) = v1 c
          ∧ r.2.mem ((c.tc : Thread Cert.SInWIdeal.nD Cert.SInWIdeal.τ).loc Cert.SInWIdeal.main_v0_2) = v2 c
          ∧ r.2.mem ((c.tc : Thread Cert.SInWIdeal.nD Cert.SInWIdeal.τ).loc Cert.SInWIdeal.main_v0_3) = v3 c
          ∧ r.2.mem ((c.tc : Thread Cert.SInWIdeal.nD Cert.SInWIdeal.τ).loc Cert.SInWIdeal.main_arg0) = m ((c.tc : Thread Cert.SInWIdeal.nD Cert.SInWIdeal.τ).loc Cert.SInWIdeal.main_arg0)
          ∧ r.2.mem ((c.tc : Thread Cert.SInWIdeal.nD Cert.SInWIdeal.τ).loc Cert.SInWIdeal.main_arg1) = m ((c.tc : Thread Cert.SInWIdeal.nD Cert.SInWIdeal.τ).loc Cert.SInWIdeal.main_arg1)
          ∧ r.2.mem ((c.tc : Thread Cert.SInWIdeal.nD Cert.SInWIdeal.τ).loc Cert.SInWIdeal.main_arg2) = m ((c.tc : Thread Cert.SInWIdeal.nD Cert.SInWIdeal.τ).loc Cert.SInWIdeal.main_arg2)
          ∧ r.2.mem ((c.tc : Thread Cert.SInWIdeal.nD Cert.SInWIdeal.τ).loc Cert.SInWIdeal.main_arg3) = m ((c.tc : Thread Cert.SInWIdeal.nD Cert.SInWIdeal.τ).loc Cert.SInWIdeal.main_arg3))
      ∧ θ_run (Cert.SInWRefIdeal.defs (F := Ideal)) (onTc (τ := Cert.SInWRefIdeal.τ) (Cert.SInWRefIdeal.main (F := Ideal))) ⟨m', fun _ => 0, g'⟩ (fun r => ∀ c : Dev Cert.SInWRefIdeal.nD,
          r.2.mem ((c.tc : Thread Cert.SInWRefIdeal.nD Cert.SInWRefIdeal.τ).loc Cert.SInWRefIdeal.main_v1) = v0 c
          ∧ r.2.mem ((c.tc : Thread Cert.SInWRefIdeal.nD Cert.SInWRefIdeal.τ).loc Cert.SInWRefIdeal.main_v25) = v1 c
          ∧ r.2.mem ((c.tc : Thread Cert.SInWRefIdeal.nD Cert.SInWRefIdeal.τ).loc Cert.SInWRefIdeal.main_v6) = v2 c
          ∧ r.2.mem ((c.tc : Thread Cert.SInWRefIdeal.nD Cert.SInWRefIdeal.τ).loc Cert.SInWRefIdeal.main_v12) = v3 c
          ∧ r.2.mem ((c.tc : Thread Cert.SInWRefIdeal.nD Cert.SInWRefIdeal.τ).loc Cert.SInWRefIdeal.main_arg0) = m' ((c.tc : Thread Cert.SInWRefIdeal.nD Cert.SInWRefIdeal.τ).loc Cert.SInWRefIdeal.main_arg0)
          ∧ r.2.mem ((c.tc : Thread Cert.SInWRefIdeal.nD Cert.SInWRefIdeal.τ).loc Cert.SInWRefIdeal.main_arg1) = m' ((c.tc : Thread Cert.SInWRefIdeal.nD Cert.SInWRefIdeal.τ).loc Cert.SInWRefIdeal.main_arg1)
          ∧ r.2.mem ((c.tc : Thread Cert.SInWRefIdeal.nD Cert.SInWRefIdeal.τ).loc Cert.SInWRefIdeal.main_arg2) = m' ((c.tc : Thread Cert.SInWRefIdeal.nD Cert.SInWRefIdeal.τ).loc Cert.SInWRefIdeal.main_arg2)
          ∧ r.2.mem ((c.tc : Thread Cert.SInWRefIdeal.nD Cert.SInWRefIdeal.τ).loc Cert.SInWRefIdeal.main_arg3) = m' ((c.tc : Thread Cert.SInWRefIdeal.nD Cert.SInWRefIdeal.τ).loc Cert.SInWRefIdeal.main_arg3))

def preserves_GluW_GluWIdeal : Prop :=
  True

def algebraic_GluWIdeal_GluWRefIdeal [hGluWIdeal : Cert.GluWIdeal.Facts] [hGluWRefIdeal : Cert.GluWRefIdeal.Facts] : Prop :=
  ∀ (m : (ℓ : Loc Cert.GluWIdeal.nD Cert.GluWIdeal.τ Cert.GluWIdeal.sig) → Buf (Elt Ideal) ℓ) (g : Dev Cert.GluWIdeal.nD → PrngReg)
    (m' : (ℓ : Loc Cert.GluWRefIdeal.nD Cert.GluWRefIdeal.τ Cert.GluWRefIdeal.sig) → Buf (Elt Ideal) ℓ) (g' : Dev Cert.GluWRefIdeal.nD → PrngReg), Pre_GluWIdeal m →
    (∀ c : Dev Cert.GluWIdeal.nD,
      m' ((c.tc : Thread Cert.GluWRefIdeal.nD Cert.GluWRefIdeal.τ).loc Cert.GluWRefIdeal.main_arg0) = m ((c.tc : Thread Cert.GluWIdeal.nD Cert.GluWIdeal.τ).loc Cert.GluWIdeal.main_arg0)
      ∧ m' ((c.tc : Thread Cert.GluWRefIdeal.nD Cert.GluWRefIdeal.τ).loc Cert.GluWRefIdeal.main_arg1) = m ((c.tc : Thread Cert.GluWIdeal.nD Cert.GluWIdeal.τ).loc Cert.GluWIdeal.main_arg1)
      ∧ m' ((c.tc : Thread Cert.GluWRefIdeal.nD Cert.GluWRefIdeal.τ).loc Cert.GluWRefIdeal.main_arg2) = m ((c.tc : Thread Cert.GluWIdeal.nD Cert.GluWIdeal.τ).loc Cert.GluWIdeal.main_arg2)
      ∧ m' ((c.tc : Thread Cert.GluWRefIdeal.nD Cert.GluWRefIdeal.τ).loc Cert.GluWRefIdeal.main_arg3) = m ((c.tc : Thread Cert.GluWIdeal.nD Cert.GluWIdeal.τ).loc Cert.GluWIdeal.main_arg3)) →
    ∃ (v0 : (c : Dev Cert.GluWIdeal.nD) → Buf (Elt Ideal) ((c.tc : Thread Cert.GluWIdeal.nD Cert.GluWIdeal.τ).loc Cert.GluWIdeal.main_v0_0)) (v1 : (c : Dev Cert.GluWIdeal.nD) → Buf (Elt Ideal) ((c.tc : Thread Cert.GluWIdeal.nD Cert.GluWIdeal.τ).loc Cert.GluWIdeal.main_v0_1)) (v2 : (c : Dev Cert.GluWIdeal.nD) → Buf (Elt Ideal) ((c.tc : Thread Cert.GluWIdeal.nD Cert.GluWIdeal.τ).loc Cert.GluWIdeal.main_v0_2)) (v3 : (c : Dev Cert.GluWIdeal.nD) → Buf (Elt Ideal) ((c.tc : Thread Cert.GluWIdeal.nD Cert.GluWIdeal.τ).loc Cert.GluWIdeal.main_v0_3)),
      θ_run (Cert.GluWIdeal.defs (F := Ideal)) (onTc (τ := Cert.GluWIdeal.τ) (Cert.GluWIdeal.main (F := Ideal))) ⟨m, fun _ => 0, g⟩ (fun r => ∀ c : Dev Cert.GluWIdeal.nD,
          r.2.mem ((c.tc : Thread Cert.GluWIdeal.nD Cert.GluWIdeal.τ).loc Cert.GluWIdeal.main_v0_0) = v0 c
          ∧ r.2.mem ((c.tc : Thread Cert.GluWIdeal.nD Cert.GluWIdeal.τ).loc Cert.GluWIdeal.main_v0_1) = v1 c
          ∧ r.2.mem ((c.tc : Thread Cert.GluWIdeal.nD Cert.GluWIdeal.τ).loc Cert.GluWIdeal.main_v0_2) = v2 c
          ∧ r.2.mem ((c.tc : Thread Cert.GluWIdeal.nD Cert.GluWIdeal.τ).loc Cert.GluWIdeal.main_v0_3) = v3 c
          ∧ r.2.mem ((c.tc : Thread Cert.GluWIdeal.nD Cert.GluWIdeal.τ).loc Cert.GluWIdeal.main_arg0) = m ((c.tc : Thread Cert.GluWIdeal.nD Cert.GluWIdeal.τ).loc Cert.GluWIdeal.main_arg0)
          ∧ r.2.mem ((c.tc : Thread Cert.GluWIdeal.nD Cert.GluWIdeal.τ).loc Cert.GluWIdeal.main_arg1) = m ((c.tc : Thread Cert.GluWIdeal.nD Cert.GluWIdeal.τ).loc Cert.GluWIdeal.main_arg1)
          ∧ r.2.mem ((c.tc : Thread Cert.GluWIdeal.nD Cert.GluWIdeal.τ).loc Cert.GluWIdeal.main_arg2) = m ((c.tc : Thread Cert.GluWIdeal.nD Cert.GluWIdeal.τ).loc Cert.GluWIdeal.main_arg2)
          ∧ r.2.mem ((c.tc : Thread Cert.GluWIdeal.nD Cert.GluWIdeal.τ).loc Cert.GluWIdeal.main_arg3) = m ((c.tc : Thread Cert.GluWIdeal.nD Cert.GluWIdeal.τ).loc Cert.GluWIdeal.main_arg3))
      ∧ θ_run (Cert.GluWRefIdeal.defs (F := Ideal)) (onTc (τ := Cert.GluWRefIdeal.τ) (Cert.GluWRefIdeal.main (F := Ideal))) ⟨m', fun _ => 0, g'⟩ (fun r => ∀ c : Dev Cert.GluWRefIdeal.nD,
          r.2.mem ((c.tc : Thread Cert.GluWRefIdeal.nD Cert.GluWRefIdeal.τ).loc Cert.GluWRefIdeal.main_v1) = v0 c
          ∧ r.2.mem ((c.tc : Thread Cert.GluWRefIdeal.nD Cert.GluWRefIdeal.τ).loc Cert.GluWRefIdeal.main_v25) = v1 c
          ∧ r.2.mem ((c.tc : Thread Cert.GluWRefIdeal.nD Cert.GluWRefIdeal.τ).loc Cert.GluWRefIdeal.main_v6) = v2 c
          ∧ r.2.mem ((c.tc : Thread Cert.GluWRefIdeal.nD Cert.GluWRefIdeal.τ).loc Cert.GluWRefIdeal.main_v12) = v3 c
          ∧ r.2.mem ((c.tc : Thread Cert.GluWRefIdeal.nD Cert.GluWRefIdeal.τ).loc Cert.GluWRefIdeal.main_arg0) = m' ((c.tc : Thread Cert.GluWRefIdeal.nD Cert.GluWRefIdeal.τ).loc Cert.GluWRefIdeal.main_arg0)
          ∧ r.2.mem ((c.tc : Thread Cert.GluWRefIdeal.nD Cert.GluWRefIdeal.τ).loc Cert.GluWRefIdeal.main_arg1) = m' ((c.tc : Thread Cert.GluWRefIdeal.nD Cert.GluWRefIdeal.τ).loc Cert.GluWRefIdeal.main_arg1)
          ∧ r.2.mem ((c.tc : Thread Cert.GluWRefIdeal.nD Cert.GluWRefIdeal.τ).loc Cert.GluWRefIdeal.main_arg2) = m' ((c.tc : Thread Cert.GluWRefIdeal.nD Cert.GluWRefIdeal.τ).loc Cert.GluWRefIdeal.main_arg2)
          ∧ r.2.mem ((c.tc : Thread Cert.GluWRefIdeal.nD Cert.GluWRefIdeal.τ).loc Cert.GluWRefIdeal.main_arg3) = m' ((c.tc : Thread Cert.GluWRefIdeal.nD Cert.GluWRefIdeal.τ).loc Cert.GluWRefIdeal.main_arg3))

def preserves_LInW_LInWIdeal : Prop :=
  True

def algebraic_LInWIdeal_LInWRefIdeal [hLInWIdeal : Cert.LInWIdeal.Facts] [hLInWRefIdeal : Cert.LInWRefIdeal.Facts] : Prop :=
  ∀ (m : (ℓ : Loc Cert.LInWIdeal.nD Cert.LInWIdeal.τ Cert.LInWIdeal.sig) → Buf (Elt Ideal) ℓ) (g : Dev Cert.LInWIdeal.nD → PrngReg)
    (m' : (ℓ : Loc Cert.LInWRefIdeal.nD Cert.LInWRefIdeal.τ Cert.LInWRefIdeal.sig) → Buf (Elt Ideal) ℓ) (g' : Dev Cert.LInWRefIdeal.nD → PrngReg), Pre_LInWIdeal m →
    (∀ c : Dev Cert.LInWIdeal.nD,
      m' ((c.tc : Thread Cert.LInWRefIdeal.nD Cert.LInWRefIdeal.τ).loc Cert.LInWRefIdeal.main_arg0) = m ((c.tc : Thread Cert.LInWIdeal.nD Cert.LInWIdeal.τ).loc Cert.LInWIdeal.main_arg0)
      ∧ m' ((c.tc : Thread Cert.LInWRefIdeal.nD Cert.LInWRefIdeal.τ).loc Cert.LInWRefIdeal.main_arg1) = m ((c.tc : Thread Cert.LInWIdeal.nD Cert.LInWIdeal.τ).loc Cert.LInWIdeal.main_arg1)
      ∧ m' ((c.tc : Thread Cert.LInWRefIdeal.nD Cert.LInWRefIdeal.τ).loc Cert.LInWRefIdeal.main_arg2) = m ((c.tc : Thread Cert.LInWIdeal.nD Cert.LInWIdeal.τ).loc Cert.LInWIdeal.main_arg2)
      ∧ m' ((c.tc : Thread Cert.LInWRefIdeal.nD Cert.LInWRefIdeal.τ).loc Cert.LInWRefIdeal.main_arg3) = m ((c.tc : Thread Cert.LInWIdeal.nD Cert.LInWIdeal.τ).loc Cert.LInWIdeal.main_arg3)) →
    ∃ (v0 : (c : Dev Cert.LInWIdeal.nD) → Buf (Elt Ideal) ((c.tc : Thread Cert.LInWIdeal.nD Cert.LInWIdeal.τ).loc Cert.LInWIdeal.main_v0_0)) (v1 : (c : Dev Cert.LInWIdeal.nD) → Buf (Elt Ideal) ((c.tc : Thread Cert.LInWIdeal.nD Cert.LInWIdeal.τ).loc Cert.LInWIdeal.main_v0_1)) (v2 : (c : Dev Cert.LInWIdeal.nD) → Buf (Elt Ideal) ((c.tc : Thread Cert.LInWIdeal.nD Cert.LInWIdeal.τ).loc Cert.LInWIdeal.main_v0_2)) (v3 : (c : Dev Cert.LInWIdeal.nD) → Buf (Elt Ideal) ((c.tc : Thread Cert.LInWIdeal.nD Cert.LInWIdeal.τ).loc Cert.LInWIdeal.main_v0_3)),
      θ_run (Cert.LInWIdeal.defs (F := Ideal)) (onTc (τ := Cert.LInWIdeal.τ) (Cert.LInWIdeal.main (F := Ideal))) ⟨m, fun _ => 0, g⟩ (fun r => ∀ c : Dev Cert.LInWIdeal.nD,
          r.2.mem ((c.tc : Thread Cert.LInWIdeal.nD Cert.LInWIdeal.τ).loc Cert.LInWIdeal.main_v0_0) = v0 c
          ∧ r.2.mem ((c.tc : Thread Cert.LInWIdeal.nD Cert.LInWIdeal.τ).loc Cert.LInWIdeal.main_v0_1) = v1 c
          ∧ r.2.mem ((c.tc : Thread Cert.LInWIdeal.nD Cert.LInWIdeal.τ).loc Cert.LInWIdeal.main_v0_2) = v2 c
          ∧ r.2.mem ((c.tc : Thread Cert.LInWIdeal.nD Cert.LInWIdeal.τ).loc Cert.LInWIdeal.main_v0_3) = v3 c
          ∧ r.2.mem ((c.tc : Thread Cert.LInWIdeal.nD Cert.LInWIdeal.τ).loc Cert.LInWIdeal.main_arg0) = m ((c.tc : Thread Cert.LInWIdeal.nD Cert.LInWIdeal.τ).loc Cert.LInWIdeal.main_arg0)
          ∧ r.2.mem ((c.tc : Thread Cert.LInWIdeal.nD Cert.LInWIdeal.τ).loc Cert.LInWIdeal.main_arg1) = m ((c.tc : Thread Cert.LInWIdeal.nD Cert.LInWIdeal.τ).loc Cert.LInWIdeal.main_arg1)
          ∧ r.2.mem ((c.tc : Thread Cert.LInWIdeal.nD Cert.LInWIdeal.τ).loc Cert.LInWIdeal.main_arg2) = m ((c.tc : Thread Cert.LInWIdeal.nD Cert.LInWIdeal.τ).loc Cert.LInWIdeal.main_arg2)
          ∧ r.2.mem ((c.tc : Thread Cert.LInWIdeal.nD Cert.LInWIdeal.τ).loc Cert.LInWIdeal.main_arg3) = m ((c.tc : Thread Cert.LInWIdeal.nD Cert.LInWIdeal.τ).loc Cert.LInWIdeal.main_arg3))
      ∧ θ_run (Cert.LInWRefIdeal.defs (F := Ideal)) (onTc (τ := Cert.LInWRefIdeal.τ) (Cert.LInWRefIdeal.main (F := Ideal))) ⟨m', fun _ => 0, g'⟩ (fun r => ∀ c : Dev Cert.LInWRefIdeal.nD,
          r.2.mem ((c.tc : Thread Cert.LInWRefIdeal.nD Cert.LInWRefIdeal.τ).loc Cert.LInWRefIdeal.main_v1) = v0 c
          ∧ r.2.mem ((c.tc : Thread Cert.LInWRefIdeal.nD Cert.LInWRefIdeal.τ).loc Cert.LInWRefIdeal.main_v25) = v1 c
          ∧ r.2.mem ((c.tc : Thread Cert.LInWRefIdeal.nD Cert.LInWRefIdeal.τ).loc Cert.LInWRefIdeal.main_v6) = v2 c
          ∧ r.2.mem ((c.tc : Thread Cert.LInWRefIdeal.nD Cert.LInWRefIdeal.τ).loc Cert.LInWRefIdeal.main_v12) = v3 c
          ∧ r.2.mem ((c.tc : Thread Cert.LInWRefIdeal.nD Cert.LInWRefIdeal.τ).loc Cert.LInWRefIdeal.main_arg0) = m' ((c.tc : Thread Cert.LInWRefIdeal.nD Cert.LInWRefIdeal.τ).loc Cert.LInWRefIdeal.main_arg0)
          ∧ r.2.mem ((c.tc : Thread Cert.LInWRefIdeal.nD Cert.LInWRefIdeal.τ).loc Cert.LInWRefIdeal.main_arg1) = m' ((c.tc : Thread Cert.LInWRefIdeal.nD Cert.LInWRefIdeal.τ).loc Cert.LInWRefIdeal.main_arg1)
          ∧ r.2.mem ((c.tc : Thread Cert.LInWRefIdeal.nD Cert.LInWRefIdeal.τ).loc Cert.LInWRefIdeal.main_arg2) = m' ((c.tc : Thread Cert.LInWRefIdeal.nD Cert.LInWRefIdeal.τ).loc Cert.LInWRefIdeal.main_arg2)
          ∧ r.2.mem ((c.tc : Thread Cert.LInWRefIdeal.nD Cert.LInWRefIdeal.τ).loc Cert.LInWRefIdeal.main_arg3) = m' ((c.tc : Thread Cert.LInWRefIdeal.nD Cert.LInWRefIdeal.τ).loc Cert.LInWRefIdeal.main_arg3))

def preserves_LOutW_LOutWIdeal : Prop :=
  True

def algebraic_LOutWIdeal_LOutWRefIdeal [hLOutWIdeal : Cert.LOutWIdeal.Facts] [hLOutWRefIdeal : Cert.LOutWRefIdeal.Facts] : Prop :=
  ∀ (m : (ℓ : Loc Cert.LOutWIdeal.nD Cert.LOutWIdeal.τ Cert.LOutWIdeal.sig) → Buf (Elt Ideal) ℓ) (g : Dev Cert.LOutWIdeal.nD → PrngReg)
    (m' : (ℓ : Loc Cert.LOutWRefIdeal.nD Cert.LOutWRefIdeal.τ Cert.LOutWRefIdeal.sig) → Buf (Elt Ideal) ℓ) (g' : Dev Cert.LOutWRefIdeal.nD → PrngReg), Pre_LOutWIdeal m →
    (∀ c : Dev Cert.LOutWIdeal.nD,
      m' ((c.tc : Thread Cert.LOutWRefIdeal.nD Cert.LOutWRefIdeal.τ).loc Cert.LOutWRefIdeal.main_arg0) = m ((c.tc : Thread Cert.LOutWIdeal.nD Cert.LOutWIdeal.τ).loc Cert.LOutWIdeal.main_arg0)
      ∧ m' ((c.tc : Thread Cert.LOutWRefIdeal.nD Cert.LOutWRefIdeal.τ).loc Cert.LOutWRefIdeal.main_arg1) = m ((c.tc : Thread Cert.LOutWIdeal.nD Cert.LOutWIdeal.τ).loc Cert.LOutWIdeal.main_arg1)
      ∧ m' ((c.tc : Thread Cert.LOutWRefIdeal.nD Cert.LOutWRefIdeal.τ).loc Cert.LOutWRefIdeal.main_arg2) = m ((c.tc : Thread Cert.LOutWIdeal.nD Cert.LOutWIdeal.τ).loc Cert.LOutWIdeal.main_arg2)
      ∧ m' ((c.tc : Thread Cert.LOutWRefIdeal.nD Cert.LOutWRefIdeal.τ).loc Cert.LOutWRefIdeal.main_arg3) = m ((c.tc : Thread Cert.LOutWIdeal.nD Cert.LOutWIdeal.τ).loc Cert.LOutWIdeal.main_arg3)) →
    ∃ (v0 : (c : Dev Cert.LOutWIdeal.nD) → Buf (Elt Ideal) ((c.tc : Thread Cert.LOutWIdeal.nD Cert.LOutWIdeal.τ).loc Cert.LOutWIdeal.main_v0_0)) (v1 : (c : Dev Cert.LOutWIdeal.nD) → Buf (Elt Ideal) ((c.tc : Thread Cert.LOutWIdeal.nD Cert.LOutWIdeal.τ).loc Cert.LOutWIdeal.main_v0_1)) (v2 : (c : Dev Cert.LOutWIdeal.nD) → Buf (Elt Ideal) ((c.tc : Thread Cert.LOutWIdeal.nD Cert.LOutWIdeal.τ).loc Cert.LOutWIdeal.main_v0_2)) (v3 : (c : Dev Cert.LOutWIdeal.nD) → Buf (Elt Ideal) ((c.tc : Thread Cert.LOutWIdeal.nD Cert.LOutWIdeal.τ).loc Cert.LOutWIdeal.main_v0_3)),
      θ_run (Cert.LOutWIdeal.defs (F := Ideal)) (onTc (τ := Cert.LOutWIdeal.τ) (Cert.LOutWIdeal.main (F := Ideal))) ⟨m, fun _ => 0, g⟩ (fun r => ∀ c : Dev Cert.LOutWIdeal.nD,
          r.2.mem ((c.tc : Thread Cert.LOutWIdeal.nD Cert.LOutWIdeal.τ).loc Cert.LOutWIdeal.main_v0_0) = v0 c
          ∧ r.2.mem ((c.tc : Thread Cert.LOutWIdeal.nD Cert.LOutWIdeal.τ).loc Cert.LOutWIdeal.main_v0_1) = v1 c
          ∧ r.2.mem ((c.tc : Thread Cert.LOutWIdeal.nD Cert.LOutWIdeal.τ).loc Cert.LOutWIdeal.main_v0_2) = v2 c
          ∧ r.2.mem ((c.tc : Thread Cert.LOutWIdeal.nD Cert.LOutWIdeal.τ).loc Cert.LOutWIdeal.main_v0_3) = v3 c
          ∧ r.2.mem ((c.tc : Thread Cert.LOutWIdeal.nD Cert.LOutWIdeal.τ).loc Cert.LOutWIdeal.main_arg0) = m ((c.tc : Thread Cert.LOutWIdeal.nD Cert.LOutWIdeal.τ).loc Cert.LOutWIdeal.main_arg0)
          ∧ r.2.mem ((c.tc : Thread Cert.LOutWIdeal.nD Cert.LOutWIdeal.τ).loc Cert.LOutWIdeal.main_arg1) = m ((c.tc : Thread Cert.LOutWIdeal.nD Cert.LOutWIdeal.τ).loc Cert.LOutWIdeal.main_arg1)
          ∧ r.2.mem ((c.tc : Thread Cert.LOutWIdeal.nD Cert.LOutWIdeal.τ).loc Cert.LOutWIdeal.main_arg2) = m ((c.tc : Thread Cert.LOutWIdeal.nD Cert.LOutWIdeal.τ).loc Cert.LOutWIdeal.main_arg2)
          ∧ r.2.mem ((c.tc : Thread Cert.LOutWIdeal.nD Cert.LOutWIdeal.τ).loc Cert.LOutWIdeal.main_arg3) = m ((c.tc : Thread Cert.LOutWIdeal.nD Cert.LOutWIdeal.τ).loc Cert.LOutWIdeal.main_arg3))
      ∧ θ_run (Cert.LOutWRefIdeal.defs (F := Ideal)) (onTc (τ := Cert.LOutWRefIdeal.τ) (Cert.LOutWRefIdeal.main (F := Ideal))) ⟨m', fun _ => 0, g'⟩ (fun r => ∀ c : Dev Cert.LOutWRefIdeal.nD,
          r.2.mem ((c.tc : Thread Cert.LOutWRefIdeal.nD Cert.LOutWRefIdeal.τ).loc Cert.LOutWRefIdeal.main_v1) = v0 c
          ∧ r.2.mem ((c.tc : Thread Cert.LOutWRefIdeal.nD Cert.LOutWRefIdeal.τ).loc Cert.LOutWRefIdeal.main_v25) = v1 c
          ∧ r.2.mem ((c.tc : Thread Cert.LOutWRefIdeal.nD Cert.LOutWRefIdeal.τ).loc Cert.LOutWRefIdeal.main_v6) = v2 c
          ∧ r.2.mem ((c.tc : Thread Cert.LOutWRefIdeal.nD Cert.LOutWRefIdeal.τ).loc Cert.LOutWRefIdeal.main_v12) = v3 c
          ∧ r.2.mem ((c.tc : Thread Cert.LOutWRefIdeal.nD Cert.LOutWRefIdeal.τ).loc Cert.LOutWRefIdeal.main_arg0) = m' ((c.tc : Thread Cert.LOutWRefIdeal.nD Cert.LOutWRefIdeal.τ).loc Cert.LOutWRefIdeal.main_arg0)
          ∧ r.2.mem ((c.tc : Thread Cert.LOutWRefIdeal.nD Cert.LOutWRefIdeal.τ).loc Cert.LOutWRefIdeal.main_arg1) = m' ((c.tc : Thread Cert.LOutWRefIdeal.nD Cert.LOutWRefIdeal.τ).loc Cert.LOutWRefIdeal.main_arg1)
          ∧ r.2.mem ((c.tc : Thread Cert.LOutWRefIdeal.nD Cert.LOutWRefIdeal.τ).loc Cert.LOutWRefIdeal.main_arg2) = m' ((c.tc : Thread Cert.LOutWRefIdeal.nD Cert.LOutWRefIdeal.τ).loc Cert.LOutWRefIdeal.main_arg2)
          ∧ r.2.mem ((c.tc : Thread Cert.LOutWRefIdeal.nD Cert.LOutWRefIdeal.τ).loc Cert.LOutWRefIdeal.main_arg3) = m' ((c.tc : Thread Cert.LOutWRefIdeal.nD Cert.LOutWRefIdeal.τ).loc Cert.LOutWRefIdeal.main_arg3))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)
      ∧ m' ((c.tc : Thread Cert.DownWRefIdeal.nD Cert.DownWRefIdeal.τ).loc Cert.DownWRefIdeal.main_arg2) = m ((c.tc : Thread Cert.DownWIdeal.nD Cert.DownWIdeal.τ).loc Cert.DownWIdeal.main_arg2)
      ∧ m' ((c.tc : Thread Cert.DownWRefIdeal.nD Cert.DownWRefIdeal.τ).loc Cert.DownWRefIdeal.main_arg3) = m ((c.tc : Thread Cert.DownWIdeal.nD Cert.DownWIdeal.τ).loc Cert.DownWIdeal.main_arg3)
      ∧ m' ((c.tc : Thread Cert.DownWRefIdeal.nD Cert.DownWRefIdeal.τ).loc Cert.DownWRefIdeal.main_arg4) = m ((c.tc : Thread Cert.DownWIdeal.nD Cert.DownWIdeal.τ).loc Cert.DownWIdeal.main_arg4)) →
    ∃ (v0 : (c : Dev Cert.DownWIdeal.nD) → Buf (Elt Ideal) ((c.tc : Thread Cert.DownWIdeal.nD Cert.DownWIdeal.τ).loc Cert.DownWIdeal.main_v0_0)) (v1 : (c : Dev Cert.DownWIdeal.nD) → Buf (Elt Ideal) ((c.tc : Thread Cert.DownWIdeal.nD Cert.DownWIdeal.τ).loc Cert.DownWIdeal.main_v0_1)) (v2 : (c : Dev Cert.DownWIdeal.nD) → Buf (Elt Ideal) ((c.tc : Thread Cert.DownWIdeal.nD Cert.DownWIdeal.τ).loc Cert.DownWIdeal.main_v0_2)) (v3 : (c : Dev Cert.DownWIdeal.nD) → Buf (Elt Ideal) ((c.tc : Thread Cert.DownWIdeal.nD Cert.DownWIdeal.τ).loc Cert.DownWIdeal.main_v0_3)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0_0) = v0 c
          ∧ r.2.mem ((c.tc : Thread Cert.DownWIdeal.nD Cert.DownWIdeal.τ).loc Cert.DownWIdeal.main_v0_1) = v1 c
          ∧ r.2.mem ((c.tc : Thread Cert.DownWIdeal.nD Cert.DownWIdeal.τ).loc Cert.DownWIdeal.main_v0_2) = v2 c
          ∧ r.2.mem ((c.tc : Thread Cert.DownWIdeal.nD Cert.DownWIdeal.τ).loc Cert.DownWIdeal.main_v0_3) = v3 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
          ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2)
          ∧ r.2.mem ((c.tc : Thread Cert.DownWIdeal.nD Cert.DownWIdeal.τ).loc Cert.DownWIdeal.main_arg3) = m ((c.tc : Thread Cert.DownWIdeal.nD Cert.DownWIdeal.τ).loc Cert.DownWIdeal.main_arg3)
          ∧ r.2.mem ((c.tc : Thread Cert.DownWIdeal.nD Cert.DownWIdeal.τ).loc Cert.DownWIdeal.main_arg4) = m ((c.tc : Thread Cert.DownWIdeal.nD Cert.DownWIdeal.τ).loc Cert.DownWIdeal.main_arg4))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v4) = v0 c
          ∧ r.2.mem ((c.tc : Thread Cert.DownWRefIdeal.nD Cert.DownWRefIdeal.τ).loc Cert.DownWRefIdeal.main_v28) = v1 c
          ∧ r.2.mem ((c.tc : Thread Cert.DownWRefIdeal.nD Cert.DownWRefIdeal.τ).loc Cert.DownWRefIdeal.main_v9) = v2 c
          ∧ r.2.mem ((c.tc : Thread Cert.DownWRefIdeal.nD Cert.DownWRefIdeal.τ).loc Cert.DownWRefIdeal.main_v15) = v3 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1)
          ∧ r.2.mem ((c.tc : Thread Cert.DownWRefIdeal.nD Cert.DownWRefIdeal.τ).loc Cert.DownWRefIdeal.main_arg2) = m' ((c.tc : Thread Cert.DownWRefIdeal.nD Cert.DownWRefIdeal.τ).loc Cert.DownWRefIdeal.main_arg2)
          ∧ r.2.mem ((c.tc : Thread Cert.DownWRefIdeal.nD Cert.DownWRefIdeal.τ).loc Cert.DownWRefIdeal.main_arg3) = m' ((c.tc : Thread Cert.DownWRefIdeal.nD Cert.DownWRefIdeal.τ).loc Cert.DownWRefIdeal.main_arg3)
          ∧ r.2.mem ((c.tc : Thread Cert.DownWRefIdeal.nD Cert.DownWRefIdeal.τ).loc Cert.DownWRefIdeal.main_arg4) = m' ((c.tc : Thread Cert.DownWRefIdeal.nD Cert.DownWRefIdeal.τ).loc Cert.DownWRefIdeal.main_arg4))

def Claim : Prop :=
  ∃ (hKernel : Cert.Kernel.Facts) (hKernelIdeal : Cert.KernelIdeal.Facts) (hReferenceIdeal : Cert.ReferenceIdeal.Facts) (hGuDa : Cert.GuDa.Facts) (hGuDaIdeal : Cert.GuDaIdeal.Facts) (hGuDaRefIdeal : Cert.GuDaRefIdeal.Facts) (hGuDb : Cert.GuDb.Facts) (hGuDbIdeal : Cert.GuDbIdeal.Facts) (hGuDbRefIdeal : Cert.GuDbRefIdeal.Facts) (hDownDa : Cert.DownDa.Facts) (hDownDaIdeal : Cert.DownDaIdeal.Facts) (hDownDaRefIdeal : Cert.DownDaRefIdeal.Facts) (hDownDb : Cert.DownDb.Facts) (hDownDbIdeal : Cert.DownDbIdeal.Facts) (hDownDbRefIdeal : Cert.DownDbRefIdeal.Facts) (hAct : Cert.Act.Facts) (hActIdeal : Cert.ActIdeal.Facts) (hActRefIdeal : Cert.ActRefIdeal.Facts) (hSGrads : Cert.SGrads.Facts) (hSGradsIdeal : Cert.SGradsIdeal.Facts) (hSGradsRefIdeal : Cert.SGradsRefIdeal.Facts) (hGluDa : Cert.GluDa.Facts) (hGluDaIdeal : Cert.GluDaIdeal.Facts) (hGluDaRefIdeal : Cert.GluDaRefIdeal.Facts) (hGluDb : Cert.GluDb.Facts) (hGluDbIdeal : Cert.GluDbIdeal.Facts) (hGluDbRefIdeal : Cert.GluDbRefIdeal.Facts) (hSInDa : Cert.SInDa.Facts) (hSInDaIdeal : Cert.SInDaIdeal.Facts) (hSInDaRefIdeal : Cert.SInDaRefIdeal.Facts) (hSInDb : Cert.SInDb.Facts) (hSInDbIdeal : Cert.SInDbIdeal.Facts) (hSInDbRefIdeal : Cert.SInDbRefIdeal.Facts) (hLOutDa : Cert.LOutDa.Facts) (hLOutDaIdeal : Cert.LOutDaIdeal.Facts) (hLOutDaRefIdeal : Cert.LOutDaRefIdeal.Facts) (hLOutDb : Cert.LOutDb.Facts) (hLOutDbIdeal : Cert.LOutDbIdeal.Facts) (hLOutDbRefIdeal : Cert.LOutDbRefIdeal.Facts) (hLInDa : Cert.LInDa.Facts) (hLInDaIdeal : Cert.LInDaIdeal.Facts) (hLInDaRefIdeal : Cert.LInDaRefIdeal.Facts) (hLInDb : Cert.LInDb.Facts) (hLInDbIdeal : Cert.LInDbIdeal.Facts) (hLInDbRefIdeal : Cert.LInDbRefIdeal.Facts) (hSIn : Cert.SIn.Facts) (hSInIdeal : Cert.SInIdeal.Facts) (hSInRefIdeal : Cert.SInRefIdeal.Facts) (hGlu : Cert.Glu.Facts) (hGluIdeal : Cert.GluIdeal.Facts) (hGluRefIdeal : Cert.GluRefIdeal.Facts) (hLIn : Cert.LIn.Facts) (hLInIdeal : Cert.LInIdeal.Facts) (hLInRefIdeal : Cert.LInRefIdeal.Facts) (hLOut : Cert.LOut.Facts) (hLOutIdeal : Cert.LOutIdeal.Facts) (hLOutRefIdeal : Cert.LOutRefIdeal.Facts) (hGu : Cert.Gu.Facts) (hGuIdeal : Cert.GuIdeal.Facts) (hGuRefIdeal : Cert.GuRefIdeal.Facts) (hDown : Cert.Down.Facts) (hDownIdeal : Cert.DownIdeal.Facts) (hDownRefIdeal : Cert.DownRefIdeal.Facts) (hActFwd : Cert.ActFwd.Facts) (hActFwdIdeal : Cert.ActFwdIdeal.Facts) (hActFwdRefIdeal : Cert.ActFwdRefIdeal.Facts) (hGate : Cert.Gate.Facts) (hGateIdeal : Cert.GateIdeal.Facts) (hGateRefIdeal : Cert.GateRefIdeal.Facts) (hGluResB : Cert.GluResB.Facts) (hGluResBIdeal : Cert.GluResBIdeal.Facts) (hGluResBRefIdeal : Cert.GluResBRefIdeal.Facts) (hNormB : Cert.NormB.Facts) (hNormBIdeal : Cert.NormBIdeal.Facts) (hNormBRefIdeal : Cert.NormBRefIdeal.Facts) (hGluRes : Cert.GluRes.Facts) (hGluResIdeal : Cert.GluResIdeal.Facts) (hGluResRefIdeal : Cert.GluResRefIdeal.Facts) (hResid : Cert.Resid.Facts) (hResidIdeal : Cert.ResidIdeal.Facts) (hResidRefIdeal : Cert.ResidRefIdeal.Facts) (hNorm : Cert.Norm.Facts) (hNormIdeal : Cert.NormIdeal.Facts) (hNormRefIdeal : Cert.NormRefIdeal.Facts) (hAda : Cert.Ada.Facts) (hAdaIdeal : Cert.AdaIdeal.Facts) (hAdaRefIdeal : Cert.AdaRefIdeal.Facts) (hAdaW : Cert.AdaW.Facts) (hAdaWIdeal : Cert.AdaWIdeal.Facts) (hAdaWRefIdeal : Cert.AdaWRefIdeal.Facts) (hSInW : Cert.SInW.Facts) (hSInWIdeal : Cert.SInWIdeal.Facts) (hSInWRefIdeal : Cert.SInWRefIdeal.Facts) (hGluW : Cert.GluW.Facts) (hGluWIdeal : Cert.GluWIdeal.Facts) (hGluWRefIdeal : Cert.GluWRefIdeal.Facts) (hLInW : Cert.LInW.Facts) (hLInWIdeal : Cert.LInWIdeal.Facts) (hLInWRefIdeal : Cert.LInWRefIdeal.Facts) (hLOutW : Cert.LOutW.Facts) (hLOutWIdeal : Cert.LOutWIdeal.Facts) (hLOutWRefIdeal : Cert.LOutWRefIdeal.Facts) (hDownW : Cert.DownW.Facts) (hDownWIdeal : Cert.DownWIdeal.Facts) (hDownWRefIdeal : Cert.DownWRefIdeal.Facts),
    quiescent_Kernel (hKernel := hKernel)
    ∧ quiescent_KernelIdeal (hKernelIdeal := hKernelIdeal)
    ∧ quiescent_ReferenceIdeal (hReferenceIdeal := hReferenceIdeal)
    ∧ quiescent_GuDa (hGuDa := hGuDa)
    ∧ quiescent_GuDaIdeal (hGuDaIdeal := hGuDaIdeal)
    ∧ quiescent_GuDaRefIdeal (hGuDaRefIdeal := hGuDaRefIdeal)
    ∧ quiescent_GuDb (hGuDb := hGuDb)
    ∧ quiescent_GuDbIdeal (hGuDbIdeal := hGuDbIdeal)
    ∧ quiescent_GuDbRefIdeal (hGuDbRefIdeal := hGuDbRefIdeal)
    ∧ quiescent_DownDa (hDownDa := hDownDa)
    ∧ quiescent_DownDaIdeal (hDownDaIdeal := hDownDaIdeal)
    ∧ quiescent_DownDaRefIdeal (hDownDaRefIdeal := hDownDaRefIdeal)
    ∧ quiescent_DownDb (hDownDb := hDownDb)
    ∧ quiescent_DownDbIdeal (hDownDbIdeal := hDownDbIdeal)
    ∧ quiescent_DownDbRefIdeal (hDownDbRefIdeal := hDownDbRefIdeal)
    ∧ quiescent_Act (hAct := hAct)
    ∧ quiescent_ActIdeal (hActIdeal := hActIdeal)
    ∧ quiescent_ActRefIdeal (hActRefIdeal := hActRefIdeal)
    ∧ quiescent_SGrads (hSGrads := hSGrads)
    ∧ quiescent_SGradsIdeal (hSGradsIdeal := hSGradsIdeal)
    ∧ quiescent_SGradsRefIdeal (hSGradsRefIdeal := hSGradsRefIdeal)
    ∧ quiescent_GluDa (hGluDa := hGluDa)
    ∧ quiescent_GluDaIdeal (hGluDaIdeal := hGluDaIdeal)
    ∧ quiescent_GluDaRefIdeal (hGluDaRefIdeal := hGluDaRefIdeal)
    ∧ quiescent_GluDb (hGluDb := hGluDb)
    ∧ quiescent_GluDbIdeal (hGluDbIdeal := hGluDbIdeal)
    ∧ quiescent_GluDbRefIdeal (hGluDbRefIdeal := hGluDbRefIdeal)
    ∧ quiescent_SInDa (hSInDa := hSInDa)
    ∧ quiescent_SInDaIdeal (hSInDaIdeal := hSInDaIdeal)
    ∧ quiescent_SInDaRefIdeal (hSInDaRefIdeal := hSInDaRefIdeal)
    ∧ quiescent_SInDb (hSInDb := hSInDb)
    ∧ quiescent_SInDbIdeal (hSInDbIdeal := hSInDbIdeal)
    ∧ quiescent_SInDbRefIdeal (hSInDbRefIdeal := hSInDbRefIdeal)
    ∧ quiescent_LOutDa (hLOutDa := hLOutDa)
    ∧ quiescent_LOutDaIdeal (hLOutDaIdeal := hLOutDaIdeal)
    ∧ quiescent_LOutDaRefIdeal (hLOutDaRefIdeal := hLOutDaRefIdeal)
    ∧ quiescent_LOutDb (hLOutDb := hLOutDb)
    ∧ quiescent_LOutDbIdeal (hLOutDbIdeal := hLOutDbIdeal)
    ∧ quiescent_LOutDbRefIdeal (hLOutDbRefIdeal := hLOutDbRefIdeal)
    ∧ quiescent_LInDa (hLInDa := hLInDa)
    ∧ quiescent_LInDaIdeal (hLInDaIdeal := hLInDaIdeal)
    ∧ quiescent_LInDaRefIdeal (hLInDaRefIdeal := hLInDaRefIdeal)
    ∧ quiescent_LInDb (hLInDb := hLInDb)
    ∧ quiescent_LInDbIdeal (hLInDbIdeal := hLInDbIdeal)
    ∧ quiescent_LInDbRefIdeal (hLInDbRefIdeal := hLInDbRefIdeal)
    ∧ quiescent_SIn (hSIn := hSIn)
    ∧ quiescent_SInIdeal (hSInIdeal := hSInIdeal)
    ∧ quiescent_SInRefIdeal (hSInRefIdeal := hSInRefIdeal)
    ∧ quiescent_Glu (hGlu := hGlu)
    ∧ quiescent_GluIdeal (hGluIdeal := hGluIdeal)
    ∧ quiescent_GluRefIdeal (hGluRefIdeal := hGluRefIdeal)
    ∧ quiescent_LIn (hLIn := hLIn)
    ∧ quiescent_LInIdeal (hLInIdeal := hLInIdeal)
    ∧ quiescent_LInRefIdeal (hLInRefIdeal := hLInRefIdeal)
    ∧ quiescent_LOut (hLOut := hLOut)
    ∧ quiescent_LOutIdeal (hLOutIdeal := hLOutIdeal)
    ∧ quiescent_LOutRefIdeal (hLOutRefIdeal := hLOutRefIdeal)
    ∧ quiescent_Gu (hGu := hGu)
    ∧ quiescent_GuIdeal (hGuIdeal := hGuIdeal)
    ∧ quiescent_GuRefIdeal (hGuRefIdeal := hGuRefIdeal)
    ∧ quiescent_Down (hDown := hDown)
    ∧ quiescent_DownIdeal (hDownIdeal := hDownIdeal)
    ∧ quiescent_DownRefIdeal (hDownRefIdeal := hDownRefIdeal)
    ∧ quiescent_ActFwd (hActFwd := hActFwd)
    ∧ quiescent_ActFwdIdeal (hActFwdIdeal := hActFwdIdeal)
    ∧ quiescent_ActFwdRefIdeal (hActFwdRefIdeal := hActFwdRefIdeal)
    ∧ quiescent_Gate (hGate := hGate)
    ∧ quiescent_GateIdeal (hGateIdeal := hGateIdeal)
    ∧ quiescent_GateRefIdeal (hGateRefIdeal := hGateRefIdeal)
    ∧ quiescent_GluResB (hGluResB := hGluResB)
    ∧ quiescent_GluResBIdeal (hGluResBIdeal := hGluResBIdeal)
    ∧ quiescent_GluResBRefIdeal (hGluResBRefIdeal := hGluResBRefIdeal)
    ∧ quiescent_NormB (hNormB := hNormB)
    ∧ quiescent_NormBIdeal (hNormBIdeal := hNormBIdeal)
    ∧ quiescent_NormBRefIdeal (hNormBRefIdeal := hNormBRefIdeal)
    ∧ quiescent_GluRes (hGluRes := hGluRes)
    ∧ quiescent_GluResIdeal (hGluResIdeal := hGluResIdeal)
    ∧ quiescent_GluResRefIdeal (hGluResRefIdeal := hGluResRefIdeal)
    ∧ quiescent_Resid (hResid := hResid)
    ∧ quiescent_ResidIdeal (hResidIdeal := hResidIdeal)
    ∧ quiescent_ResidRefIdeal (hResidRefIdeal := hResidRefIdeal)
    ∧ quiescent_Norm (hNorm := hNorm)
    ∧ quiescent_NormIdeal (hNormIdeal := hNormIdeal)
    ∧ quiescent_NormRefIdeal (hNormRefIdeal := hNormRefIdeal)
    ∧ quiescent_Ada (hAda := hAda)
    ∧ quiescent_AdaIdeal (hAdaIdeal := hAdaIdeal)
    ∧ quiescent_AdaRefIdeal (hAdaRefIdeal := hAdaRefIdeal)
    ∧ quiescent_AdaW (hAdaW := hAdaW)
    ∧ quiescent_AdaWIdeal (hAdaWIdeal := hAdaWIdeal)
    ∧ quiescent_AdaWRefIdeal (hAdaWRefIdeal := hAdaWRefIdeal)
    ∧ quiescent_SInW (hSInW := hSInW)
    ∧ quiescent_SInWIdeal (hSInWIdeal := hSInWIdeal)
    ∧ quiescent_SInWRefIdeal (hSInWRefIdeal := hSInWRefIdeal)
    ∧ quiescent_GluW (hGluW := hGluW)
    ∧ quiescent_GluWIdeal (hGluWIdeal := hGluWIdeal)
    ∧ quiescent_GluWRefIdeal (hGluWRefIdeal := hGluWRefIdeal)
    ∧ quiescent_LInW (hLInW := hLInW)
    ∧ quiescent_LInWIdeal (hLInWIdeal := hLInWIdeal)
    ∧ quiescent_LInWRefIdeal (hLInWRefIdeal := hLInWRefIdeal)
    ∧ quiescent_LOutW (hLOutW := hLOutW)
    ∧ quiescent_LOutWIdeal (hLOutWIdeal := hLOutWIdeal)
    ∧ quiescent_LOutWRefIdeal (hLOutWRefIdeal := hLOutWRefIdeal)
    ∧ quiescent_DownW (hDownW := hDownW)
    ∧ quiescent_DownWIdeal (hDownWIdeal := hDownWIdeal)
    ∧ quiescent_DownWRefIdeal (hDownWRefIdeal := hDownWRefIdeal)
    ∧ preserves_Kernel_KernelIdeal
    ∧ algebraic_KernelIdeal_ReferenceIdeal (hKernelIdeal := hKernelIdeal) (hReferenceIdeal := hReferenceIdeal)
    ∧ preserves_GuDa_GuDaIdeal
    ∧ algebraic_GuDaIdeal_GuDaRefIdeal (hGuDaIdeal := hGuDaIdeal) (hGuDaRefIdeal := hGuDaRefIdeal)
    ∧ preserves_GuDb_GuDbIdeal
    ∧ algebraic_GuDbIdeal_GuDbRefIdeal (hGuDbIdeal := hGuDbIdeal) (hGuDbRefIdeal := hGuDbRefIdeal)
    ∧ preserves_DownDa_DownDaIdeal
    ∧ algebraic_DownDaIdeal_DownDaRefIdeal (hDownDaIdeal := hDownDaIdeal) (hDownDaRefIdeal := hDownDaRefIdeal)
    ∧ preserves_DownDb_DownDbIdeal
    ∧ algebraic_DownDbIdeal_DownDbRefIdeal (hDownDbIdeal := hDownDbIdeal) (hDownDbRefIdeal := hDownDbRefIdeal)
    ∧ preserves_Act_ActIdeal
    ∧ algebraic_ActIdeal_ActRefIdeal (hActIdeal := hActIdeal) (hActRefIdeal := hActRefIdeal)
    ∧ preserves_SGrads_SGradsIdeal
    ∧ algebraic_SGradsIdeal_SGradsRefIdeal (hSGradsIdeal := hSGradsIdeal) (hSGradsRefIdeal := hSGradsRefIdeal)
    ∧ preserves_GluDa_GluDaIdeal
    ∧ algebraic_GluDaIdeal_GluDaRefIdeal (hGluDaIdeal := hGluDaIdeal) (hGluDaRefIdeal := hGluDaRefIdeal)
    ∧ preserves_GluDb_GluDbIdeal
    ∧ algebraic_GluDbIdeal_GluDbRefIdeal (hGluDbIdeal := hGluDbIdeal) (hGluDbRefIdeal := hGluDbRefIdeal)
    ∧ preserves_SInDa_SInDaIdeal
    ∧ algebraic_SInDaIdeal_SInDaRefIdeal (hSInDaIdeal := hSInDaIdeal) (hSInDaRefIdeal := hSInDaRefIdeal)
    ∧ preserves_SInDb_SInDbIdeal
    ∧ algebraic_SInDbIdeal_SInDbRefIdeal (hSInDbIdeal := hSInDbIdeal) (hSInDbRefIdeal := hSInDbRefIdeal)
    ∧ preserves_LOutDa_LOutDaIdeal
    ∧ algebraic_LOutDaIdeal_LOutDaRefIdeal (hLOutDaIdeal := hLOutDaIdeal) (hLOutDaRefIdeal := hLOutDaRefIdeal)
    ∧ preserves_LOutDb_LOutDbIdeal
    ∧ algebraic_LOutDbIdeal_LOutDbRefIdeal (hLOutDbIdeal := hLOutDbIdeal) (hLOutDbRefIdeal := hLOutDbRefIdeal)
    ∧ preserves_LInDa_LInDaIdeal
    ∧ algebraic_LInDaIdeal_LInDaRefIdeal (hLInDaIdeal := hLInDaIdeal) (hLInDaRefIdeal := hLInDaRefIdeal)
    ∧ preserves_LInDb_LInDbIdeal
    ∧ algebraic_LInDbIdeal_LInDbRefIdeal (hLInDbIdeal := hLInDbIdeal) (hLInDbRefIdeal := hLInDbRefIdeal)
    ∧ preserves_SIn_SInIdeal
    ∧ algebraic_SInIdeal_SInRefIdeal (hSInIdeal := hSInIdeal) (hSInRefIdeal := hSInRefIdeal)
    ∧ preserves_Glu_GluIdeal
    ∧ algebraic_GluIdeal_GluRefIdeal (hGluIdeal := hGluIdeal) (hGluRefIdeal := hGluRefIdeal)
    ∧ preserves_LIn_LInIdeal
    ∧ algebraic_LInIdeal_LInRefIdeal (hLInIdeal := hLInIdeal) (hLInRefIdeal := hLInRefIdeal)
    ∧ preserves_LOut_LOutIdeal
    ∧ algebraic_LOutIdeal_LOutRefIdeal (hLOutIdeal := hLOutIdeal) (hLOutRefIdeal := hLOutRefIdeal)
    ∧ preserves_Gu_GuIdeal
    ∧ algebraic_GuIdeal_GuRefIdeal (hGuIdeal := hGuIdeal) (hGuRefIdeal := hGuRefIdeal)
    ∧ preserves_Down_DownIdeal
    ∧ algebraic_DownIdeal_DownRefIdeal (hDownIdeal := hDownIdeal) (hDownRefIdeal := hDownRefIdeal)
    ∧ preserves_ActFwd_ActFwdIdeal
    ∧ algebraic_ActFwdIdeal_ActFwdRefIdeal (hActFwdIdeal := hActFwdIdeal) (hActFwdRefIdeal := hActFwdRefIdeal)
    ∧ preserves_Gate_GateIdeal
    ∧ algebraic_GateIdeal_GateRefIdeal (hGateIdeal := hGateIdeal) (hGateRefIdeal := hGateRefIdeal)
    ∧ preserves_GluResB_GluResBIdeal
    ∧ algebraic_GluResBIdeal_GluResBRefIdeal (hGluResBIdeal := hGluResBIdeal) (hGluResBRefIdeal := hGluResBRefIdeal)
    ∧ preserves_NormB_NormBIdeal
    ∧ algebraic_NormBIdeal_NormBRefIdeal (hNormBIdeal := hNormBIdeal) (hNormBRefIdeal := hNormBRefIdeal)
    ∧ preserves_GluRes_GluResIdeal
    ∧ algebraic_GluResIdeal_GluResRefIdeal (hGluResIdeal := hGluResIdeal) (hGluResRefIdeal := hGluResRefIdeal)
    ∧ preserves_Resid_ResidIdeal
    ∧ algebraic_ResidIdeal_ResidRefIdeal (hResidIdeal := hResidIdeal) (hResidRefIdeal := hResidRefIdeal)
    ∧ preserves_Norm_NormIdeal
    ∧ algebraic_NormIdeal_NormRefIdeal (hNormIdeal := hNormIdeal) (hNormRefIdeal := hNormRefIdeal)
    ∧ preserves_Ada_AdaIdeal
    ∧ algebraic_AdaIdeal_AdaRefIdeal (hAdaIdeal := hAdaIdeal) (hAdaRefIdeal := hAdaRefIdeal)
    ∧ preserves_AdaW_AdaWIdeal
    ∧ algebraic_AdaWIdeal_AdaWRefIdeal (hAdaWIdeal := hAdaWIdeal) (hAdaWRefIdeal := hAdaWRefIdeal)
    ∧ preserves_SInW_SInWIdeal
    ∧ algebraic_SInWIdeal_SInWRefIdeal (hSInWIdeal := hSInWIdeal) (hSInWRefIdeal := hSInWRefIdeal)
    ∧ preserves_GluW_GluWIdeal
    ∧ algebraic_GluWIdeal_GluWRefIdeal (hGluWIdeal := hGluWIdeal) (hGluWRefIdeal := hGluWRefIdeal)
    ∧ preserves_LInW_LInWIdeal
    ∧ algebraic_LInWIdeal_LInWRefIdeal (hLInWIdeal := hLInWIdeal) (hLInWRefIdeal := hLInWRefIdeal)
    ∧ preserves_LOutW_LOutWIdeal
    ∧ algebraic_LOutWIdeal_LOutWRefIdeal (hLOutWIdeal := hLOutWIdeal) (hLOutWRefIdeal := hLOutWRefIdeal)
    ∧ preserves_DownW_DownWIdeal
    ∧ algebraic_DownWIdeal_DownWRefIdeal (hDownWIdeal := hDownWIdeal) (hDownWRefIdeal := hDownWRefIdeal)
-- ==== Kernel.lean ====
abbrev S2048x2048 : Shape := ⟨2, ![2048, 2048]⟩
abbrev S8x1024x256 : Shape := ⟨3, ![8, 1024, 256]⟩
abbrev S8x1024 : Shape := ⟨2, ![8, 1024]⟩
abbrev S2048x8x1024 : Shape := ⟨3, ![2048, 8, 1024]⟩
abbrev S8x2048x1024 : Shape := ⟨3, ![8, 2048, 1024]⟩
abbrev S128x2048 : Shape := ⟨2, ![128, 2048]⟩
abbrev S128x8x1024 : Shape := ⟨3, ![128, 8, 1024]⟩
abbrev S8x128x1024 : Shape := ⟨3, ![8, 128, 1024]⟩
abbrev S_ : Shape := ⟨0, ![]⟩
abbrev S128x256 : Shape := ⟨2, ![128, 256]⟩
abbrev S1x1024x256 : Shape := ⟨3, ![1, 1024, 256]⟩
abbrev S1024x256 : Shape := ⟨2, ![1024, 256]⟩
abbrev S128x1024 : Shape := ⟨2, ![128, 1024]⟩
abbrev S128x1x1024 : Shape := ⟨3, ![128, 1, 1024]⟩
abbrev S1x8x1024 : Shape := ⟨3, ![1, 8, 1024]⟩

abbrev nBuf : Space → Nat
  | .hbm => 13
  | .vmem => 24
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S8x1024x256, .bf16⟩
  | .hbm, ⟨3, _⟩ => ⟨S8x1024x256, .bf16⟩
  | .hbm, ⟨4, _⟩ => ⟨S8x1024, .f32⟩
  | .hbm, ⟨5, _⟩ => ⟨S8x1024, .f32⟩
  | .hbm, ⟨6, _⟩ => ⟨S2048x8x1024, .f32⟩
  | .hbm, ⟨7, _⟩ => ⟨S2048x8x1024, .f32⟩
  | .hbm, ⟨8, _⟩ => ⟨S2048x2048, .bf16⟩
  | .hbm, ⟨9, _⟩ => ⟨S8x2048x1024, .bf16⟩
  | .hbm, ⟨10, _⟩ => ⟨S8x2048x1024, .bf16⟩
  | .hbm, ⟨11, _⟩ => ⟨S8x1024, .f32⟩
  | .hbm, ⟨12, _⟩ => ⟨S8x1024, .f32⟩
  | .local _ .vmem, ⟨0, _⟩ => ⟨S128x2048, .bf16⟩
  | .local _ .vmem, ⟨1, _⟩ => ⟨S128x2048, .bf16⟩
  | .local _ .vmem, ⟨2, _⟩ => ⟨S128x2048, .f32⟩
  | .local _ .vmem, ⟨3, _⟩ => ⟨S128x2048, .f32⟩
  | .local _ .vmem, ⟨4, _⟩ => ⟨S8x1024, .f32⟩
  | .local _ .vmem, ⟨5, _⟩ => ⟨S8x1024, .f32⟩
  | .local _ .vmem, ⟨6, _⟩ => ⟨S128x8x1024, .f32⟩
  | .local _ .vmem, ⟨7, _⟩ => ⟨S128x8x1024, .f32⟩
  | .local _ .vmem, ⟨8, _⟩ => ⟨S128x8x1024, .f32⟩
  | .local _ .vmem, ⟨9, _⟩ => ⟨S128x8x1024, .f32⟩
  | .local _ .vmem, ⟨10, _⟩ => ⟨S128x2048, .bf16⟩
  | .local _ .vmem, ⟨11, _⟩ => ⟨S128x2048, .bf16⟩
  | .local _ .vmem, ⟨12, _⟩ => ⟨S8x128x1024, .bf16⟩
  | .local _ .vmem, ⟨13, _⟩ => ⟨S8x128x1024, .bf16⟩
  | .local _ .vmem, ⟨14, _⟩ => ⟨S8x128x1024, .bf16⟩
  | .local _ .vmem, ⟨15, _⟩ => ⟨S8x128x1024, .bf16⟩
  | .local _ .vmem, ⟨16, _⟩ => ⟨S8x1024, .f32⟩
  | .local _ .vmem, ⟨17, _⟩ => ⟨S8x1024, .f32⟩
  | .local _ .vmem, ⟨18, _⟩ => ⟨S8x1024x256, .bf16⟩
  | .local _ .vmem, ⟨19, _⟩ => ⟨S8x1024x256, .bf16⟩
  | .local _ .vmem, ⟨20, _⟩ => ⟨S128x8x1024, .f32⟩
  | .local _ .vmem, ⟨21, _⟩ => ⟨S128x8x1024, .f32⟩
  | .local _ .vmem, ⟨22, _⟩ => ⟨S8x1024, .f32⟩
  | .local _ .vmem, ⟨23, _⟩ => ⟨S8x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_148 : BitVec 32 := 0#32
  let c128_i32 : BitVec 32 := 128#32
  let v172 : BitVec 32 := Scalar.addi c0_i32_148 c128_i32
  let c1_i32 : BitVec 32 := 1#32
  ⟨c0_i32_148, v172, c1_i32⟩
def k0_off1 (k0_t1 : Fin k0_t1_loop.trips) : Fin 3 → Nat :=
  let c127_i32 : BitVec 32 := 127#32
  let c0_i32_148 : BitVec 32 := 0#32
  let c1_i32 : BitVec 32 := 1#32
  let arg20 : BitVec 32 := Scf.iv c0_i32_148 c1_i32 k0_t1
  let v190 : BitVec 32 := Scalar.subi c127_i32 arg20
  let v191 : Index := Scalar.indexCast v190
  let c0_170 : Index := 0#32
  let c0_171 : Index := 0#32
  ![v191.toNat, 0, 0]
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "g" => some ((8943 / 200000 : ℝ) : EReal)
  | "g3" => some ((26829 / 200000 : ℝ) : EReal)
  | _ => none
-- ==== ReferenceIdeal.lean ====
abbrev S2048x2048 : Shape := ⟨2, ![2048, 2048]⟩
abbrev S8x1024x256 : Shape := ⟨3, ![8, 1024, 256]⟩
abbrev S8x1024 : Shape := ⟨2, ![8, 1024]⟩
abbrev S2048x8x1024 : Shape := ⟨3, ![2048, 8, 1024]⟩
abbrev S_ : Shape := ⟨0, ![]⟩
abbrev S8x256x2048 : Shape := ⟨3, ![8, 256, 2048]⟩
abbrev S2048x8x256 : Shape := ⟨3, ![2048, 8, 256]⟩
abbrev S8x2048x1024 : Shape := ⟨3, ![8, 2048, 1024]⟩
abbrev S1x8x1024 : Shape := ⟨3, ![1, 8, 1024]⟩
abbrev S2047x8x1024 : Shape := ⟨3, ![2047, 8, 1024]⟩

abbrev nBuf : Space → Nat
  | .hbm => 167
  | .vmem => 0
  | .smem => 0
  | _ => 0

abbrev hbmTy0_0 (i : Nat) : BufTy := match i % 128 with
  | 0 => ⟨S2048x2048, .bf16⟩
  | 1 => ⟨S2048x2048, .f32⟩
  | 2 => ⟨S8x1024x256, .bf16⟩
  | 3 => ⟨S8x1024x256, .bf16⟩
  | 4 => ⟨S8x1024, .f32⟩
  | 5 => ⟨S8x1024, .f32⟩
  | 6 => ⟨S2048x8x1024, .f32⟩
  | 7 => ⟨S2048x8x1024, .f32⟩
  | 8 => ⟨S_, .f32⟩
  | 9 => ⟨S2048x2048, .f32⟩
  | 10 => ⟨S2048x2048, .f32⟩
  | 11 => ⟨S2048x2048, .f32⟩
  | 12 => ⟨S2048x2048, .f32⟩
  | 13 => ⟨S2048x2048, .f32⟩
  | 14 => ⟨S_, .f32⟩
  | 15 => ⟨S2048x2048, .f32⟩
  | 16 => ⟨S2048x2048, .f32⟩
  | 17 => ⟨S_, .f32⟩
  | 18 => ⟨S2048x2048, .f32⟩
  | 19 => ⟨S2048x2048, .f32⟩
  | 20 => ⟨S_, .f32⟩
  | 21 => ⟨S2048x2048, .f32⟩
  | 22 => ⟨S2048x2048, .f32⟩
  | 23 => ⟨S2048x2048, .f32⟩
  | 24 => ⟨S_, .f32⟩
  | 25 => ⟨S2048x2048, .f32⟩
  | 26 => ⟨S2048x2048, .f32⟩
  | 27 => ⟨S2048x2048, .f32⟩
  | 28 => ⟨S_, .f32⟩
  | 29 => ⟨S2048x2048, .f32⟩
  | 30 => ⟨S2048x2048, .f32⟩
  | 31 => ⟨S_, .f32⟩
  | 32 => ⟨S2048x2048, .f32⟩
  | 33 => ⟨S2048x2048, .f32⟩
  | 34 => ⟨S2048x2048, .f32⟩
  | 35 => ⟨S_, .f32⟩
  | 36 => ⟨S2048x2048, .f32⟩
  | 37 => ⟨S2048x2048, .f32⟩
  | 38 => ⟨S2048x2048, .f32⟩
  | 39 => ⟨S_, .f32⟩
  | 40 => ⟨S2048x2048, .f32⟩
  | 41 => ⟨S2048x2048, .f32⟩
  | 42 => ⟨S2048x2048, .f32⟩
  | 43 => ⟨S2048x2048, .f32⟩
  | 44 => ⟨S_, .f32⟩
  | 45 => ⟨S2048x2048, .f32⟩
  | 46 => ⟨S2048x2048, .f32⟩
  | 47 => ⟨S_, .f32⟩
  | 48 => ⟨S2048x2048, .f32⟩
  | 49 => ⟨S2048x2048, .f32⟩
  | 50 => ⟨S_, .f32⟩
  | 51 => ⟨S2048x2048, .f32⟩
  | 52 => ⟨S2048x2048, .f32⟩
  | 53 => ⟨S2048x2048, .f32⟩
  | 54 => ⟨S2048x2048, .f32⟩
  | 55 => ⟨S_, .f32⟩
  | 56 => ⟨S2048x2048, .f32⟩
  | 57 => ⟨S2048x2048, .f32⟩
  | 58 => ⟨S2048x2048, .f32⟩
  | 59 => ⟨S2048x2048, .f32⟩
  | 60 => ⟨S2048x2048, .f32⟩
  | 61 => ⟨S2048x2048, .bf16⟩
  | 62 => ⟨S8x1024x256, .f32⟩
  | 63 => ⟨S8x256x2048, .f32⟩
  | 64 => ⟨S2048x8x256, .f32⟩
  | 65 => ⟨S2048x8x1024, .f32⟩
  | 66 => ⟨S8x1024x256, .f32⟩
  | 67 => ⟨S8x256x2048, .f32⟩
  | 68 => ⟨S2048x8x256, .f32⟩
  | 69 => ⟨S2048x8x256, .f32⟩
  | 70 => ⟨S2048x2048, .f32⟩
  | 71 => ⟨S2048x8x256, .f32⟩
  | 72 => ⟨S8x256x2048, .f32⟩
  | 73 => ⟨S8x2048x1024, .f32⟩
  | 74 => ⟨S2048x8x1024, .f32⟩
  | 75 => ⟨S2048x8x1024, .f32⟩
  | 76 => ⟨S8x256x2048, .f32⟩
  | 77 => ⟨S8x2048x1024, .f32⟩
  | 78 => ⟨S2048x8x1024, .f32⟩
  | 79 => ⟨S_, .f32⟩
  | 80 => ⟨S8x1024, .f32⟩
  | 81 => ⟨S1x8x1024, .f32⟩
  | 82 => ⟨S2047x8x1024, .f32⟩
  | 83 => ⟨S2048x8x1024, .f32⟩
  | 84 => ⟨S1x8x1024, .f32⟩
  | 85 => ⟨S2047x8x1024, .f32⟩
  | 86 => ⟨S2048x8x1024, .f32⟩
  | 87 => ⟨S_, .f32⟩
  | 88 => ⟨S2048x8x1024, .f32⟩
  | 89 => ⟨S_, .f32⟩
  | 90 => ⟨S2048x8x1024, .f32⟩
  | 91 => ⟨S_, .i32⟩
  | 92 => ⟨S2048x8x1024, .f32⟩
  | 93 => ⟨S2048x8x1024, .f32⟩
  | 94 => ⟨S2048x8x1024, .f32⟩
  | 95 => ⟨S2048x8x1024, .f32⟩
  | 96 => ⟨S8x1024, .f32⟩
  | 97 => ⟨S8x1024, .f32⟩
  | 98 => ⟨S8x1024, .f32⟩
  | 99 => ⟨S_, .i32⟩
  | 100 => ⟨S8x1024, .f32⟩
  | 101 => ⟨S8x1024, .f32⟩
  | 102 => ⟨S8x1024, .f32⟩
  | 103 => ⟨S8x1024, .f32⟩
  | 104 => ⟨S2048x8x1024, .f32⟩
  | 105 => ⟨S2048x8x1024, .f32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S1x8x1024, .f32⟩
  | 115 => ⟨S8x1024, .f32⟩
  | 116 => ⟨S_, .i32⟩
  | 117 => ⟨S_, .i32⟩
  | 118 => ⟨S1x8x1024, .f32⟩
  | 119 => ⟨S8x1024, .f32⟩
  | 120 => ⟨S_, .i32⟩
  | 121 => ⟨S_, .i32⟩
  | 122 => ⟨S1x8x1024, .f32⟩
  | 123 => ⟨S8x1024, .f32⟩
  | 124 => ⟨S_, .i32⟩
  | 125 => ⟨S_, .i32⟩
  | 126 => ⟨S1x8x1024, .f32⟩
  | 127 => ⟨S8x1024, .f32⟩
  | _ => ⟨S2048x2048, .bf16⟩

abbrev hbmTy0_1 (i : Nat) : BufTy := match i % 128 with
  | 0 => ⟨S8x1024, .f32⟩
  | 1 => ⟨S8x1024, .f32⟩
  | 2 => ⟨S8x1024, .f32⟩
  | 3 => ⟨S8x1024, .f32⟩
  | 4 => ⟨S8x1024, .f32⟩
  | 5 => ⟨S8x1024, .f32⟩
  | 6 => ⟨S8x1024, .f32⟩
  | 7 => ⟨S8x1024, .f32⟩
  | 8 => ⟨S8x1024, .f32⟩
  | 9 => ⟨S8x1024, .f32⟩
  | 10 => ⟨S8x1024, .f32⟩
  | 11 => ⟨S8x1024, .f32⟩
  | 12 => ⟨S8x1024, .f32⟩
  | 13 => ⟨S8x1024, .f32⟩
  | 14 => ⟨S8x1024, .f32⟩
  | 15 => ⟨S8x1024, .f32⟩
  | 16 => ⟨S8x1024, .f32⟩
  | 17 => ⟨S8x1024, .f32⟩
  | 18 => ⟨S8x1024, .f32⟩
  | 19 => ⟨S8x1024, .f32⟩
  | 20 => ⟨S8x1024, .f32⟩
  | 21 => ⟨S8x1024, .f32⟩
  | 22 => ⟨S8x1024, .f32⟩
  | 23 => ⟨S8x1024, .f32⟩
  | 24 => ⟨S8x1024, .f32⟩
  | 25 => ⟨S1x8x1024, .f32⟩
  | 26 => ⟨S_, .i32⟩
  | 27 => ⟨S_, .i32⟩
  | 28 => ⟨S2048x8x1024, .f32⟩
  | 29 => ⟨S1x8x1024, .f32⟩
  | 30 => ⟨S_, .i32⟩
  | 31 => ⟨S_, .i32⟩
  | 32 => ⟨S2048x8x1024, .f32⟩
  | 33 => ⟨S_, .i32⟩
  | 34 => ⟨S_, .i32⟩
  | 35 => ⟨S8x2048x1024, .f32⟩
  | 36 => ⟨S8x2048x1024, .bf16⟩
  | 37 => ⟨S8x2048x1024, .f32⟩
  | 38 => ⟨S8x2048x1024, .bf16⟩
  | _ => ⟨S2048x2048, .bf16⟩

abbrev hbmTy (i : Nat) : BufTy := match i / 128 with
  | 0 => hbmTy0_0 i
  | 1 => hbmTy0_1 i
  | _ => ⟨S2048x2048, .bf16⟩

abbrev bufTy : (tb : Table) → Fin (tcTables nBuf tb) → BufTy
  | .hbm, ⟨i, _⟩ => hbmTy i
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_13 : Ref sig .tc := ⟨.hbm, 87, rfl⟩
abbrev main_v65 : Ref sig .tc := ⟨.hbm, 88, rfl⟩
abbrev main_cst_14 : Ref sig .tc := ⟨.hbm, 89, rfl⟩
abbrev main_v66 : Ref sig .tc := ⟨.hbm, 90, rfl⟩
abbrev main_c : Ref sig .tc := ⟨.hbm, 91, rfl⟩
abbrev main_v67_0 : Ref sig .tc := ⟨.hbm, 92, rfl⟩
abbrev main_v67_1 : Ref sig .tc := ⟨.hbm, 93, rfl⟩
abbrev main_v67_2 : Ref sig .tc := ⟨.hbm, 94, rfl⟩
abbrev main_v67_3 : Ref sig .tc := ⟨.hbm, 95, rfl⟩
abbrev main_v67_4 : Ref sig .tc := ⟨.hbm, 96, rfl⟩
abbrev main_v67_5 : Ref sig .tc := ⟨.hbm, 97, rfl⟩
abbrev main_v67_6 : Ref sig .tc := ⟨.hbm, 98, rfl⟩
abbrev main_v67_7 : Ref sig .tc := ⟨.hbm, 99, rfl⟩
abbrev main_v67_8 : Ref sig .tc := ⟨.hbm, 100, rfl⟩
abbrev main_v67_9 : Ref sig .tc := ⟨.hbm, 101, rfl⟩
abbrev main_v67_10 : Ref sig .tc := ⟨.hbm, 102, rfl⟩
abbrev main_v67_11 : Ref sig .tc := ⟨.hbm, 103, rfl⟩
abbrev main_v67_12 : Ref sig .tc := ⟨.hbm, 104, rfl⟩
abbrev main_v67_13 : Ref sig .tc := ⟨.hbm, 105, rfl⟩
abbrev main_while0c_c_28 : Ref sig .tc := ⟨.hbm, 106, rfl⟩
abbrev main_while0c_v72 : Ref sig .tc := ⟨.hbm, 107, rfl⟩
abbrev main_while0b_c_28 : Ref sig .tc := ⟨.hbm, 108, rfl⟩
abbrev main_while0b_v72 : Ref sig .tc := ⟨.hbm, 109, rfl⟩
abbrev main_while0b_c_29 : Ref sig .tc := ⟨.hbm, 110, rfl⟩
abbrev main_while0b_v73 : Ref sig .tc := ⟨.hbm, 111, rfl⟩
abbrev main_while0b_call0_c : Ref sig .tc := ⟨.hbm, 112, rfl⟩
abbrev main_while0b_call0_c_0 : Ref sig .tc := ⟨.hbm, 113, rfl⟩
abbrev main_while0b_call0_v0 : Ref sig .tc := ⟨.hbm, 114, rfl⟩
abbrev main_while0b_v74 : Ref sig .tc := ⟨.hbm, 115, rfl⟩
abbrev main_while0b_call1_c : Ref sig .tc := ⟨.hbm, 116, rfl⟩
abbrev main_while0b_call1_c_0 : Ref sig .tc := ⟨.hbm, 117, rfl⟩
abbrev main_while0b_call1_v0 : Ref sig .tc := ⟨.hbm, 118, rfl⟩
abbrev main_while0b_v75 : Ref sig .tc := ⟨.hbm, 119, rfl⟩
abbrev main_while0b_call2_c : Ref sig .tc := ⟨.hbm, 120, rfl⟩
abbrev main_while0b_call2_c_0 : Ref sig .tc := ⟨.hbm, 121, rfl⟩
abbrev main_while0b_call2_v0 : Ref sig .tc := ⟨.hbm, 122, rfl⟩
abbrev main_while0b_v76 : Ref sig .tc := ⟨.hbm, 123, rfl⟩
abbrev main_while0b_call3_c : Ref sig .tc := ⟨.hbm, 124, rfl⟩
abbrev main_while0b_call3_c_0 : Ref sig .tc := ⟨.hbm, 125, rfl⟩
abbrev main_while0b_call3_v0 : Ref sig .tc := ⟨.hbm, 126, rfl⟩
abbrev main_while0b_v77 : Ref sig .tc := ⟨.hbm, 127, rfl⟩
abbrev main_while0b_v78 : Ref sig .tc := ⟨.hbm, 128, rfl⟩
abbrev main_while0b_v79 : Ref sig .tc := ⟨.hbm, 129, rfl⟩
abbrev main_while0b_v80 : Ref sig .tc := ⟨.hbm, 130, rfl⟩
abbrev main_while0b_v81 : Ref sig .tc := ⟨.hbm, 131, rfl⟩
abbrev main_while0b_v82 : Ref sig .tc := ⟨.hbm, 132, rfl⟩
abbrev main_while0b_v83 : Ref sig .tc := ⟨.hbm, 133, rfl⟩
abbrev main_while0b_v84 : Ref sig .tc := ⟨.hbm, 134, rfl⟩
abbrev main_while0b_v85 : Ref sig .tc := ⟨.hbm, 135, rfl⟩
abbrev main_while0b_v86 : Ref sig .tc := ⟨.hbm, 136, rfl⟩
abbrev main_while0b_v87 : Ref sig .tc := ⟨.hbm, 137, rfl⟩
abbrev main_while0b_v88 : Ref sig .tc := ⟨.hbm, 138, rfl⟩
abbrev main_while0b_v89 : Ref sig .tc := ⟨.hbm, 139, rfl⟩
abbrev main_while0b_v90 : Ref sig .tc := ⟨.hbm, 140, rfl⟩
abbrev main_while0b_v91 : Ref sig .tc := ⟨.hbm, 141, rfl⟩
abbrev main_while0b_v92 : Ref sig .tc := ⟨.hbm, 142, rfl⟩
abbrev main_while0b_v93 : Ref sig .tc := ⟨.hbm, 143, rfl⟩
abbrev main_while0b_v94 : Ref sig .tc := ⟨.hbm, 144, rfl⟩
abbrev main_while0b_v95 : Ref sig .tc := ⟨.hbm, 145, rfl⟩
abbrev main_while0b_v96 : Ref sig .tc := ⟨.hbm, 146, rfl⟩
abbrev main_while0b_v97 : Ref sig .tc := ⟨.hbm, 147, rfl⟩
abbrev main_while0b_v98 : Ref sig .tc := ⟨.hbm, 148, rfl⟩
abbrev main_while0b_v99 : Ref sig .tc := ⟨.hbm, 149, rfl⟩
abbrev main_while0b_v100 : Ref sig .tc := ⟨.hbm, 150, rfl⟩
abbrev main_while0b_v101 : Ref sig .tc := ⟨.hbm, 151, rfl⟩
abbrev main_while0b_v102 : Ref sig .tc := ⟨.hbm, 152, rfl⟩
abbrev main_while0b_call4_v0 : Ref sig .tc := ⟨.hbm, 153, rfl⟩
abbrev main_while0b_call4_c : Ref sig .tc := ⟨.hbm, 154, rfl⟩
abbrev main_while0b_call4_c_0 : Ref sig .tc := ⟨.hbm, 155, rfl⟩
abbrev main_while0b_v103 : Ref sig .tc := ⟨.hbm, 156, rfl⟩
abbrev main_while0b_call5_v0 : Ref sig .tc := ⟨.hbm, 157, rfl⟩
abbrev main_while0b_call5_c : Ref sig .tc := ⟨.hbm, 158, rfl⟩
abbrev main_while0b_call5_c_0 : Ref sig .tc := ⟨.hbm, 159, rfl⟩
abbrev main_while0b_v104 : Ref sig .tc := ⟨.hbm, 160, rfl⟩
abbrev main_while0b_c_30 : Ref sig .tc := ⟨.hbm, 161, rfl⟩
abbrev main_while0b_v105 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩

abbrev nD : Nat := 1
abbrev τ : Topo := Topo.v7x

variable {F : FTy → Type} [FloatOps F]

abbrev main_while0_count : Scf.Loop 32 := ⟨0#32, 2048#32, 1#32⟩
-- ==== GuDa.lean ====
abbrev S8x2048x1408 : Shape := ⟨3, ![8, 2048, 1408]⟩
abbrev S2048x2048 : Shape := ⟨2, ![2048, 2048]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S2048x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v1 : BitVec 1 := Scalar.cmpi .eq arg2 c7_i32
  let v14 : BitVec 32 := Scalar.extui v1
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuDaIdeal.lean ====
abbrev S8x2048x1408 : Shape := ⟨3, ![8, 2048, 1408]⟩
abbrev S2048x2048 : Shape := ⟨2, ![2048, 2048]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S2048x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v1 : BitVec 1 := Scalar.cmpi .eq arg2 c7_i32
  let v14 : BitVec 32 := Scalar.extui v1
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuDaRefIdeal.lean ====
abbrev S8x2048x1408 : Shape := ⟨3, ![8, 2048, 1408]⟩
abbrev S_ : Shape := ⟨0, ![]⟩
abbrev S2048x2048 : Shape := ⟨2, ![2048, 2048]⟩
abbrev S8x1408x2048 : Shape := ⟨3, ![8, 1408, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S_, .f32⟩
  | .hbm, ⟨3, _⟩ => ⟨S2048x2048, .f32⟩
  | .hbm, ⟨4, _⟩ => ⟨S8x2048x1408, .f32⟩
  | .hbm, ⟨5, _⟩ => ⟨S8x1408x2048, .f32⟩
  | .hbm, ⟨6, _⟩ => ⟨S8x2048x1408, .f32⟩
  | .hbm, ⟨7, _⟩ => ⟨S8x2048x1408, .f32⟩
  | .hbm, ⟨8, _⟩ => ⟨S8x1408x2048, .f32⟩
  | .hbm, ⟨9, _⟩ => ⟨S2048x2048, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GuDb.lean ====
abbrev S2048x2048 : Shape := ⟨2, ![2048, 2048]⟩
abbrev S8x2048x1408 : Shape := ⟨3, ![8, 2048, 1408]⟩
abbrev S2048x512 : Shape := ⟨2, ![2048, 512]⟩
abbrev S1x2048x1408 : Shape := ⟨3, ![1, 2048, 1408]⟩
abbrev S1x512x1408 : Shape := ⟨3, ![1, 512, 1408]⟩
abbrev S2048x1408 : Shape := ⟨2, ![2048, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S8x2048x1408, .bf16⟩
  | .local _ .vmem, ⟨0, _⟩ => ⟨S2048x512, .bf16⟩
  | .local _ .vmem, ⟨1, _⟩ => ⟨S2048x512, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x512x1408, .bf16⟩
  | .local _ .vmem, ⟨5, _⟩ => ⟨S1x512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuDbIdeal.lean ====
abbrev S2048x2048 : Shape := ⟨2, ![2048, 2048]⟩
abbrev S8x2048x1408 : Shape := ⟨3, ![8, 2048, 1408]⟩
abbrev S2048x512 : Shape := ⟨2, ![2048, 512]⟩
abbrev S1x2048x1408 : Shape := ⟨3, ![1, 2048, 1408]⟩
abbrev S1x512x1408 : Shape := ⟨3, ![1, 512, 1408]⟩
abbrev S2048x1408 : Shape := ⟨2, ![2048, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S8x2048x1408, .bf16⟩
  | .local _ .vmem, ⟨0, _⟩ => ⟨S2048x512, .bf16⟩
  | .local _ .vmem, ⟨1, _⟩ => ⟨S2048x512, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x512x1408, .bf16⟩
  | .local _ .vmem, ⟨5, _⟩ => ⟨S1x512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuDbRefIdeal.lean ====
abbrev S2048x2048 : Shape := ⟨2, ![2048, 2048]⟩
abbrev S8x2048x1408 : Shape := ⟨3, ![8, 2048, 1408]⟩
abbrev S_ : Shape := ⟨0, ![]⟩
abbrev S8x1408x2048 : Shape := ⟨3, ![8, 1408, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S_, .f32⟩
  | .hbm, ⟨3, _⟩ => ⟨S8x2048x1408, .f32⟩
  | .hbm, ⟨4, _⟩ => ⟨S2048x2048, .f32⟩
  | .hbm, ⟨5, _⟩ => ⟨S8x1408x2048, .f32⟩
  | .hbm, ⟨6, _⟩ => ⟨S8x2048x1408, .f32⟩
  | .hbm, ⟨7, _⟩ => ⟨S8x2048x1408, .f32⟩
  | .hbm, ⟨8, _⟩ => ⟨S8x1408x2048, .f32⟩
  | .hbm, ⟨9, _⟩ => ⟨S8x1408x2048, .f32⟩
  | .hbm, ⟨10, _⟩ => ⟨S8x2048x1408, .f32⟩
  | .hbm, ⟨11, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DownDa.lean ====
abbrev S2048x2048 : Shape := ⟨2, ![2048, 2048]⟩
abbrev S5632x2048 : Shape := ⟨2, ![5632, 2048]⟩
abbrev S4x2048x1408 : Shape := ⟨3, ![4, 2048, 1408]⟩
abbrev S1024x2048 : Shape := ⟨2, ![1024, 2048]⟩
abbrev S1408x2048 : Shape := ⟨2, ![1408, 2048]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S4x2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDaIdeal.lean ====
abbrev S2048x2048 : Shape := ⟨2, ![2048, 2048]⟩
abbrev S5632x2048 : Shape := ⟨2, ![5632, 2048]⟩
abbrev S4x2048x1408 : Shape := ⟨3, ![4, 2048, 1408]⟩
abbrev S1024x2048 : Shape := ⟨2, ![1024, 2048]⟩
abbrev S1408x2048 : Shape := ⟨2, ![1408, 2048]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S4x2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDaRefIdeal.lean ====
abbrev S2048x2048 : Shape := ⟨2, ![2048, 2048]⟩
abbrev S5632x2048 : Shape := ⟨2, ![5632, 2048]⟩
abbrev S_ : Shape := ⟨0, ![]⟩
abbrev S4x2048x1408 : Shape := ⟨3, ![4, 2048, 1408]⟩
abbrev S4x1408x2048 : Shape := ⟨3, ![4, 1408, 2048]⟩
abbrev S2048x4x1408 : Shape := ⟨3, ![2048, 4, 1408]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S_, .f32⟩
  | .hbm, ⟨3, _⟩ => ⟨S4x2048x1408, .f32⟩
  | .hbm, ⟨4, _⟩ => ⟨S5632x2048, .f32⟩
  | .hbm, ⟨5, _⟩ => ⟨S4x1408x2048, .f32⟩
  | .hbm, ⟨6, _⟩ => ⟨S2048x2048, .f32⟩
  | .hbm, ⟨7, _⟩ => ⟨S2048x2048, .f32⟩
  | .hbm, ⟨8, _⟩ => ⟨S2048x4x1408, .f32⟩
  | .hbm, ⟨9, _⟩ => ⟨S4x2048x1408, .f32⟩
  | .hbm, ⟨10, _⟩ => ⟨S4x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownDb.lean ====
abbrev S4x2048x1408 : Shape := ⟨3, ![4, 2048, 1408]⟩
abbrev S2048x2048 : Shape := ⟨2, ![2048, 2048]⟩
abbrev S5632x2048 : Shape := ⟨2, ![5632, 2048]⟩
abbrev S1x2048x1408 : Shape := ⟨3, ![1, 2048, 1408]⟩
abbrev S2048x512 : Shape := ⟨2, ![2048, 512]⟩
abbrev S1408x512 : Shape := ⟨2, ![1408, 512]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x1408, .bf16⟩
  | .hbm, ⟨1, _⟩ => ⟨S2048x2048, .bf16⟩
  | .hbm, ⟨2, _⟩ => ⟨S5632x2048, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDbIdeal.lean ====
abbrev S4x2048x1408 : Shape := ⟨3, ![4, 2048, 1408]⟩
abbrev S2048x2048 : Shape := ⟨2, ![2048, 2048]⟩
abbrev S5632x2048 : Shape := ⟨2, ![5632, 2048]⟩
abbrev S1x2048x1408 : Shape := ⟨3, ![1, 2048, 1408]⟩
abbrev S2048x512 : Shape := ⟨2, ![2048, 512]⟩
abbrev S1408x512 : Shape := ⟨2, ![1408, 512]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x1408, .bf16⟩
  | .hbm, ⟨1, _⟩ => ⟨S2048x2048, .bf16⟩
  | .hbm, ⟨2, _⟩ => ⟨S5632x2048, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDbRefIdeal.lean ====
abbrev S4x2048x1408 : Shape := ⟨3, ![4, 2048, 1408]⟩
abbrev S2048x2048 : Shape := ⟨2, ![2048, 2048]⟩
abbrev S_ : Shape := ⟨0, ![]⟩
abbrev S5632x2048 : Shape := ⟨2, ![5632, 2048]⟩
abbrev S4x1408x2048 : Shape := ⟨3, ![4, 1408, 2048]⟩
abbrev S2048x4x1408 : Shape := ⟨3, ![2048, 4, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S4x2048x1408, .f32⟩
  | .hbm, ⟨5, _⟩ => ⟨S4x1408x2048, .f32⟩
  | .hbm, ⟨6, _⟩ => ⟨S2048x2048, .f32⟩
  | .hbm, ⟨7, _⟩ => ⟨S2048x2048, .f32⟩
  | .hbm, ⟨8, _⟩ => ⟨S2048x4x1408, .f32⟩
  | .hbm, ⟨9, _⟩ => ⟨S4x1408x2048, .f32⟩
  | .hbm, ⟨10, _⟩ => ⟨S5632x2048, .f32⟩
  | .hbm, ⟨11, _⟩ => ⟨S5632x2048, .bf16⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Act.lean ====
abbrev S8x2048x1408 : Shape := ⟨3, ![8, 2048, 1408]⟩
abbrev S4x2048x1408 : Shape := ⟨3, ![4, 2048, 1408]⟩
abbrev S2x4x2048x1408 : Shape := ⟨4, ![2, 4, 2048, 1408]⟩
abbrev S2x1x256x1408 : Shape := ⟨4, ![2, 1, 256, 1408]⟩
abbrev S1x256x1408 : Shape := ⟨3, ![1, 256, 1408]⟩
abbrev S1x1x256x1408 : Shape := ⟨4, ![1, 1, 256, 1408]⟩
abbrev S256x1408 : Shape := ⟨2, ![256, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .bf16⟩
  | .hbm, ⟨2, _⟩ => ⟨S2x4x2048x1408, .bf16⟩
  | .hbm, ⟨3, _⟩ => ⟨S2x4x2048x1408, .bf16⟩
  | .local _ .vmem, ⟨0, _⟩ => ⟨S2x1x256x1408, .bf16⟩
  | .local _ .vmem, ⟨1, _⟩ => ⟨S2x1x256x1408, .bf16⟩
  | .local _ .vmem, ⟨2, _⟩ => ⟨S1x256x1408, .bf16⟩
  | .local _ .vmem, ⟨3, _⟩ => ⟨S1x256x1408, .bf16⟩
  | .local _ .vmem, ⟨4, _⟩ => ⟨S2x1x256x1408, .bf16⟩
  | .local _ .vmem, ⟨5, _⟩ => ⟨S2x1x256x1408, .bf16⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S2x1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ActRefIdeal.lean ====
abbrev S8x2048x1408 : Shape := ⟨3, ![8, 2048, 1408]⟩
abbrev S4x2048x1408 : Shape := ⟨3, ![4, 2048, 1408]⟩
abbrev S_ : Shape := ⟨0, ![]⟩
abbrev S1x4x2048x1408 : Shape := ⟨4, ![1, 4, 2048, 1408]⟩
abbrev S2x4x2048x1408 : Shape := ⟨4, ![2, 4, 2048, 1408]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .bf16⟩
  | .hbm, ⟨2, _⟩ => ⟨S8x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S_, .f32⟩
  | .hbm, ⟨9, _⟩ => ⟨S4x2048x1408, .f32⟩
  | .hbm, ⟨10, _⟩ => ⟨S4x2048x1408, .f32⟩
  | .hbm, ⟨11, _⟩ => ⟨S_, .f32⟩
  | .hbm, ⟨12, _⟩ => ⟨S4x2048x1408, .f32⟩
  | .hbm, ⟨13, _⟩ => ⟨S4x2048x1408, .f32⟩
  | .hbm, ⟨14, _⟩ => ⟨S_, .f32⟩
  | .hbm, ⟨15, _⟩ => ⟨S4x2048x1408, .f32⟩
  | .hbm, ⟨16, _⟩ => ⟨S4x2048x1408, .f32⟩
  | .hbm, ⟨17, _⟩ => ⟨S4x2048x1408, .f32⟩
  | .hbm, ⟨18, _⟩ => ⟨S4x2048x1408, .f32⟩
  | .hbm, ⟨19, _⟩ => ⟨S4x2048x1408, .f32⟩
  | .hbm, ⟨20, _⟩ => ⟨S_, .f32⟩
  | .hbm, ⟨21, _⟩ => ⟨S4x2048x1408, .f32⟩
  | .hbm, ⟨22, _⟩ => ⟨S4x2048x1408, .f32⟩
  | .hbm, ⟨23, _⟩ => ⟨S4x2048x1408, .f32⟩
  | .hbm, ⟨24, _⟩ => ⟨S4x2048x1408, .f32⟩
  | .hbm, ⟨25, _⟩ => ⟨S4x2048x1408, .f32⟩
  | .hbm, ⟨26, _⟩ => ⟨S4x2048x1408, .f32⟩
  | .hbm, ⟨27, _⟩ => ⟨S4x2048x1408, .f32⟩
  | .hbm, ⟨28, _⟩ => ⟨S1x4x2048x1408, .f32⟩
  | .hbm, ⟨29, _⟩ => ⟨S1x4x2048x1408, .f32⟩
  | .hbm, ⟨30, _⟩ => ⟨S2x4x2048x1408, .f32⟩
  | .hbm, ⟨31, _⟩ => ⟨S2x4x2048x1408, .bf16⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v4_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v4_1 : Ref sig .tc := ⟨.hbm, 17, rfl⟩
abbrev main_v4_0 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]
-- ==== SGrads.lean ====
abbrev S8x2048x1024 : Shape := ⟨3, ![8, 2048, 1024]⟩
abbrev S2048x2048 : Shape := ⟨2, ![2048, 2048]⟩
abbrev S8x256x1024 : Shape := ⟨3, ![8, 256, 1024]⟩
abbrev S1x2048 : Shape := ⟨2, ![1, 2048]⟩
abbrev S8x1024x256 : Shape := ⟨3, ![8, 1024, 256]⟩
abbrev S1x512x1024 : Shape := ⟨3, ![1, 512, 1024]⟩
abbrev S512x256 : Shape := ⟨2, ![512, 256]⟩
abbrev S1x256x1024 : Shape := ⟨3, ![1, 256, 1024]⟩
abbrev S1x256 : Shape := ⟨2, ![1, 256]⟩
abbrev S1x1024x256 : Shape := ⟨3, ![1, 1024, 256]⟩
abbrev S256x1024 : Shape := ⟨2, ![256, 1024]⟩
abbrev S1024x256 : Shape := ⟨2, ![1024, 256]⟩
abbrev S512x1024 : Shape := ⟨2, ![512, 1024]⟩
abbrev S256 : Shape := ⟨1, ![256]⟩

abbrev nBuf : Space → Nat
  | .hbm => 15
  | .vmem => 30
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S2048x2048, .f32⟩
  | .hbm, ⟨5, _⟩ => ⟨S2048x2048, .bf16⟩
  | .hbm, ⟨6, _⟩ => ⟨S8x256x1024, .bf16⟩
  | .hbm, ⟨7, _⟩ => ⟨S8x256x1024, .bf16⟩
  | .hbm, ⟨8, _⟩ => ⟨S1x2048, .f32⟩
  | .hbm, ⟨9, _⟩ => ⟨S2048x2048, .bf16⟩
  | .hbm, ⟨10, _⟩ => ⟨S8x256x1024, .f32⟩
  | .hbm, ⟨11, _⟩ => ⟨S8x256x1024, .f32⟩
  | .hbm, ⟨12, _⟩ => ⟨S8x1024x256, .f32⟩
  | .hbm, ⟨13, _⟩ => ⟨S8x1024x256, .f32⟩
  | .hbm, ⟨14, _⟩ => ⟨S1x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x256, .f32⟩
  | .local _ .vmem, ⟨9, _⟩ => ⟨S512x256, .f32⟩
  | .local _ .vmem, ⟨10, _⟩ => ⟨S512x256, .bf16⟩
  | .local _ .vmem, ⟨11, _⟩ => ⟨S512x256, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256, .f32⟩
  | .local _ .vmem, ⟨17, _⟩ => ⟨S1x256, .f32⟩
  | .local _ .vmem, ⟨18, _⟩ => ⟨S512x256, .bf16⟩
  | .local _ .vmem, ⟨19, _⟩ => ⟨S512x256, .bf16⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x1024x256, .f32⟩
  | .local _ .vmem, ⟨25, _⟩ => ⟨S1x1024x256, .f32⟩
  | .local _ .vmem, ⟨26, _⟩ => ⟨S1x1024x256, .f32⟩
  | .local _ .vmem, ⟨27, _⟩ => ⟨S1x1024x256, .f32⟩
  | .local _ .vmem, ⟨28, _⟩ => ⟨S1x256, .f32⟩
  | .local _ .vmem, ⟨29, _⟩ => ⟨S1x256, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== SGradsRefIdeal.lean ====
abbrev S8x2048x1024 : Shape := ⟨3, ![8, 2048, 1024]⟩
abbrev S2048x2048 : Shape := ⟨2, ![2048, 2048]⟩
abbrev S8x256x1024 : Shape := ⟨3, ![8, 256, 1024]⟩
abbrev S1x2048 : Shape := ⟨2, ![1, 2048]⟩
abbrev S_ : Shape := ⟨0, ![]⟩
abbrev S8x1024x256 : Shape := ⟨3, ![8, 1024, 256]⟩
abbrev S2048x8x256 : Shape := ⟨3, ![2048, 8, 256]⟩
abbrev S8x2048x256 : Shape := ⟨3, ![8, 2048, 256]⟩
abbrev S8x256x2048 : Shape := ⟨3, ![8, 256, 2048]⟩
abbrev S2048 : Shape := ⟨1, ![2048]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S2048x2048, .f32⟩
  | .hbm, ⟨5, _⟩ => ⟨S2048x2048, .bf16⟩
  | .hbm, ⟨6, _⟩ => ⟨S8x256x1024, .bf16⟩
  | .hbm, ⟨7, _⟩ => ⟨S8x256x1024, .bf16⟩
  | .hbm, ⟨8, _⟩ => ⟨S1x2048, .f32⟩
  | .hbm, ⟨9, _⟩ => ⟨S_, .f32⟩
  | .hbm, ⟨10, _⟩ => ⟨S8x1024x256, .f32⟩
  | .hbm, ⟨11, _⟩ => ⟨S8x256x1024, .f32⟩
  | .hbm, ⟨12, _⟩ => ⟨S8x256x1024, .f32⟩
  | .hbm, ⟨13, _⟩ => ⟨S2048x8x256, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S8x1024x256, .f32⟩
  | .hbm, ⟨19, _⟩ => ⟨S8x256x1024, .f32⟩
  | .hbm, ⟨20, _⟩ => ⟨S8x2048x256, .f32⟩
  | .hbm, ⟨21, _⟩ => ⟨S2048x8x256, .f32⟩
  | .hbm, ⟨22, _⟩ => ⟨S8x1024x256, .f32⟩
  | .hbm, ⟨23, _⟩ => ⟨S8x256x1024, .f32⟩
  | .hbm, ⟨24, _⟩ => ⟨S8x2048x256, .f32⟩
  | .hbm, ⟨25, _⟩ => ⟨S2048x8x256, .f32⟩
  | .hbm, ⟨26, _⟩ => ⟨S2048x8x256, .f32⟩
  | .hbm, ⟨27, _⟩ => ⟨S2048x2048, .f32⟩
  | .hbm, ⟨28, _⟩ => ⟨S8x2048x1024, .f32⟩
  | .hbm, ⟨29, _⟩ => ⟨S8x2048x1024, .f32⟩
  | .hbm, ⟨30, _⟩ => ⟨S8x256x2048, .f32⟩
  | .hbm, ⟨31, _⟩ => ⟨S2048x8x256, .f32⟩
  | .hbm, ⟨32, _⟩ => ⟨S8x256x2048, .f32⟩
  | .hbm, ⟨33, _⟩ => ⟨S2048x8x256, .f32⟩
  | .hbm, ⟨34, _⟩ => ⟨S2048x8x256, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S2048x8x256, .f32⟩
  | .hbm, ⟨47, _⟩ => ⟨S2048x8x256, .f32⟩
  | .hbm, ⟨48, _⟩ => ⟨S8x256x2048, .f32⟩
  | .hbm, ⟨49, _⟩ => ⟨S8x256x1024, .f32⟩
  | .hbm, ⟨50, _⟩ => ⟨S8x1024x256, .f32⟩
  | .hbm, ⟨51, _⟩ => ⟨S8x256x2048, .f32⟩
  | .hbm, ⟨52, _⟩ => ⟨S8x256x1024, .f32⟩
  | .hbm, ⟨53, _⟩ => ⟨S8x1024x256, .f32⟩
  | .hbm, ⟨54, _⟩ => ⟨S2048x2048, .f32⟩
  | .hbm, ⟨55, _⟩ => ⟨S2048x2048, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== GluDa.lean ====
abbrev S8x2048x512 : Shape := ⟨3, ![8, 2048, 512]⟩
abbrev S2048x2048 : Shape := ⟨2, ![2048, 2048]⟩
abbrev S1x1024x512 : Shape := ⟨3, ![1, 1024, 512]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S2048x2048, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v1 : BitVec 1 := Scalar.cmpi .eq arg2 c7_i32
  let v14 : BitVec 32 := Scalar.extui v1
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDaIdeal.lean ====
abbrev S8x2048x512 : Shape := ⟨3, ![8, 2048, 512]⟩
abbrev S2048x2048 : Shape := ⟨2, ![2048, 2048]⟩
abbrev S1x1024x512 : Shape := ⟨3, ![1, 1024, 512]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S2048x2048, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v1 : BitVec 1 := Scalar.cmpi .eq arg2 c7_i32
  let v14 : BitVec 32 := Scalar.extui v1
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDaRefIdeal.lean ====
abbrev S8x2048x512 : Shape := ⟨3, ![8, 2048, 512]⟩
abbrev S_ : Shape := ⟨0, ![]⟩
abbrev S2048x2048 : Shape := ⟨2, ![2048, 2048]⟩
abbrev S8x512x2048 : Shape := ⟨3, ![8, 512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S_, .f32⟩
  | .hbm, ⟨3, _⟩ => ⟨S2048x2048, .f32⟩
  | .hbm, ⟨4, _⟩ => ⟨S8x2048x512, .f32⟩
  | .hbm, ⟨5, _⟩ => ⟨S8x512x2048, .f32⟩
  | .hbm, ⟨6, _⟩ => ⟨S8x2048x512, .f32⟩
  | .hbm, ⟨7, _⟩ => ⟨S8x2048x512, .f32⟩
  | .hbm, ⟨8, _⟩ => ⟨S8x512x2048, .f32⟩
  | .hbm, ⟨9, _⟩ => ⟨S2048x2048, .f32⟩
  | .hbm, ⟨10, _⟩ => ⟨S2048x2048, .bf16⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GluDb.lean ====
abbrev S2048x2048 : Shape := ⟨2, ![2048, 2048]⟩
abbrev S8x2048x512 : Shape := ⟨3, ![8, 2048, 512]⟩
abbrev S2048x512 : Shape := ⟨2, ![2048, 512]⟩
abbrev S1x2048x512 : Shape := ⟨3, ![1, 2048, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x512, .bf16⟩
  | .hbm, ⟨2, _⟩ => ⟨S8x2048x512, .bf16⟩
  | .local _ .vmem, ⟨0, _⟩ => ⟨S2048x512, .bf16⟩
  | .local _ .vmem, ⟨1, _⟩ => ⟨S2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512x512, .bf16⟩
  | .local _ .vmem, ⟨5, _⟩ => ⟨S1x512x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDbIdeal.lean ====
abbrev S2048x2048 : Shape := ⟨2, ![2048, 2048]⟩
abbrev S8x2048x512 : Shape := ⟨3, ![8, 2048, 512]⟩
abbrev S2048x512 : Shape := ⟨2, ![2048, 512]⟩
abbrev S1x2048x512 : Shape := ⟨3, ![1, 2048, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x512, .bf16⟩
  | .hbm, ⟨2, _⟩ => ⟨S8x2048x512, .bf16⟩
  | .local _ .vmem, ⟨0, _⟩ => ⟨S2048x512, .bf16⟩
  | .local _ .vmem, ⟨1, _⟩ => ⟨S2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512x512, .bf16⟩
  | .local _ .vmem, ⟨5, _⟩ => ⟨S1x512x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDbRefIdeal.lean ====
abbrev S2048x2048 : Shape := ⟨2, ![2048, 2048]⟩
abbrev S8x2048x512 : Shape := ⟨3, ![8, 2048, 512]⟩
abbrev S_ : Shape := ⟨0, ![]⟩
abbrev S8x512x2048 : Shape := ⟨3, ![8, 512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x512, .bf16⟩
  | .hbm, ⟨2, _⟩ => ⟨S_, .f32⟩
  | .hbm, ⟨3, _⟩ => ⟨S8x2048x512, .f32⟩
  | .hbm, ⟨4, _⟩ => ⟨S2048x2048, .f32⟩
  | .hbm, ⟨5, _⟩ => ⟨S8x512x2048, .f32⟩
  | .hbm, ⟨6, _⟩ => ⟨S8x2048x512, .f32⟩
  | .hbm, ⟨7, _⟩ => ⟨S8x2048x512, .f32⟩
  | .hbm, ⟨8, _⟩ => ⟨S8x512x2048, .f32⟩
  | .hbm, ⟨9, _⟩ => ⟨S8x512x2048, .f32⟩
  | .hbm, ⟨10, _⟩ => ⟨S8x2048x512, .f32⟩
  | .hbm, ⟨11, _⟩ => ⟨S8x2048x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SInDa.lean ====
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1x1024x2048, .f32⟩
  | .local _ .vmem, ⟨4, _⟩ => ⟨S1x1024x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SInDaIdeal.lean ====
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1x1024x2048, .f32⟩
  | .local _ .vmem, ⟨4, _⟩ => ⟨S1x1024x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SInDaRefIdeal.lean ====
abbrev S2048x2048 : Shape := ⟨2, ![2048, 2048]⟩
abbrev S_ : Shape := ⟨0, ![]⟩
abbrev S1x2048x2048 : Shape := ⟨3, ![1, 2048, 2048]⟩
abbrev S2048x1x2048 : Shape := ⟨3, ![2048, 1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S1x2048x2048, .f32⟩
  | .hbm, ⟨4, _⟩ => ⟨S2048x2048, .f32⟩
  | .hbm, ⟨5, _⟩ => ⟨S1x2048x2048, .f32⟩
  | .hbm, ⟨6, _⟩ => ⟨S2048x2048, .f32⟩
  | .hbm, ⟨7, _⟩ => ⟨S2048x2048, .f32⟩
  | .hbm, ⟨8, _⟩ => ⟨S2048x1x2048, .f32⟩
  | .hbm, ⟨9, _⟩ => ⟨S1x2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SInDb.lean ====
abbrev S1x2048x2048 : Shape := ⟨3, ![1, 2048, 2048]⟩
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x2048, .bf16⟩
  | .hbm, ⟨1, _⟩ => ⟨S2048x2048, .bf16⟩
  | .hbm, ⟨2, _⟩ => ⟨S2048x2048, .bf16⟩
  | .local _ .vmem, ⟨0, _⟩ => ⟨S1x2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1x2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SInDbIdeal.lean ====
abbrev S1x2048x2048 : Shape := ⟨3, ![1, 2048, 2048]⟩
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x2048, .bf16⟩
  | .hbm, ⟨1, _⟩ => ⟨S2048x2048, .bf16⟩
  | .hbm, ⟨2, _⟩ => ⟨S2048x2048, .bf16⟩
  | .local _ .vmem, ⟨0, _⟩ => ⟨S1x2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1x2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SInDbRefIdeal.lean ====
abbrev S1x2048x2048 : Shape := ⟨3, ![1, 2048, 2048]⟩
abbrev S2048x2048 : Shape := ⟨2, ![2048, 2048]⟩
abbrev S_ : Shape := ⟨0, ![]⟩
abbrev S2048x1x2048 : Shape := ⟨3, ![2048, 1, 2048]⟩

abbrev nBuf : Space → Nat
  | .hbm => 12
  | .vmem => 0
  | .smem => 0
  | _ => 0

abbrev bufTy : (tb : Table) → Fin (tcTables nBuf tb) → BufTy
  | .hbm, ⟨0, _⟩ => ⟨S1x2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S1x2048x2048, .f32⟩
  | .hbm, ⟨5, _⟩ => ⟨S1x2048x2048, .f32⟩
  | .hbm, ⟨6, _⟩ => ⟨S2048x2048, .f32⟩
  | .hbm, ⟨7, _⟩ => ⟨S2048x2048, .f32⟩
  | .hbm, ⟨8, _⟩ => ⟨S2048x1x2048, .f32⟩
  | .hbm, ⟨9, _⟩ => ⟨S1x2048x2048, .f32⟩
  | .hbm, ⟨10, _⟩ => ⟨S2048x2048, .f32⟩
  | .hbm, ⟨11, _⟩ => ⟨S2048x2048, .bf16⟩
  | _, _ => ⟨S1x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== LOutDa.lean ====
abbrev S2048x2048 : Shape := ⟨2, ![2048, 2048]⟩
abbrev S2816x2048 : Shape := ⟨2, ![2816, 2048]⟩
abbrev S4x2048x704 : Shape := ⟨3, ![4, 2048, 704]⟩
abbrev S1024x2048 : Shape := ⟨2, ![1024, 2048]⟩
abbrev S704x2048 : Shape := ⟨2, ![704, 2048]⟩
abbrev S1x1024x704 : Shape := ⟨3, ![1, 1024, 704]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2816x2048, .bf16⟩
  | .hbm, ⟨2, _⟩ => ⟨S4x2048x704, .f32⟩
  | .local _ .vmem, ⟨0, _⟩ => ⟨S1024x2048, .bf16⟩
  | .local _ .vmem, ⟨1, _⟩ => ⟨S1024x2048, .bf16⟩
  | .local _ .vmem, ⟨2, _⟩ => ⟨S704x2048, .bf16⟩
  | .local _ .vmem, ⟨3, _⟩ => ⟨S704x2048, .bf16⟩
  | .local _ .vmem, ⟨4, _⟩ => ⟨S1x1024x704, .f32⟩
  | .local _ .vmem, ⟨5, _⟩ => ⟨S1x1024x704, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LOutDaRefIdeal.lean ====
abbrev S2048x2048 : Shape := ⟨2, ![2048, 2048]⟩
abbrev S2816x2048 : Shape := ⟨2, ![2816, 2048]⟩
abbrev S_ : Shape := ⟨0, ![]⟩
abbrev S4x2048x704 : Shape := ⟨3, ![4, 2048, 704]⟩
abbrev S4x704x2048 : Shape := ⟨3, ![4, 704, 2048]⟩
abbrev S2048x4x704 : Shape := ⟨3, ![2048, 4, 704]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2816x2048, .bf16⟩
  | .hbm, ⟨2, _⟩ => ⟨S_, .f32⟩
  | .hbm, ⟨3, _⟩ => ⟨S4x2048x704, .f32⟩
  | .hbm, ⟨4, _⟩ => ⟨S2816x2048, .f32⟩
  | .hbm, ⟨5, _⟩ => ⟨S4x704x2048, .f32⟩
  | .hbm, ⟨6, _⟩ => ⟨S2048x2048, .f32⟩
  | .hbm, ⟨7, _⟩ => ⟨S2048x2048, .f32⟩
  | .hbm, ⟨8, _⟩ => ⟨S2048x4x704, .f32⟩
  | .hbm, ⟨9, _⟩ => ⟨S4x2048x704, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== LOutDb.lean ====
abbrev S4x2048x704 : Shape := ⟨3, ![4, 2048, 704]⟩
abbrev S2048x2048 : Shape := ⟨2, ![2048, 2048]⟩
abbrev S2816x2048 : Shape := ⟨2, ![2816, 2048]⟩
abbrev S1x2048x704 : Shape := ⟨3, ![1, 2048, 704]⟩
abbrev S2048x512 : Shape := ⟨2, ![2048, 512]⟩
abbrev S704x512 : Shape := ⟨2, ![704, 512]⟩
abbrev S2048x704 : Shape := ⟨2, ![2048, 704]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x704, .bf16⟩
  | .hbm, ⟨1, _⟩ => ⟨S2048x2048, .bf16⟩
  | .hbm, ⟨2, _⟩ => ⟨S2816x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x512, .bf16⟩
  | .local _ .vmem, ⟨3, _⟩ => ⟨S2048x512, .bf16⟩
  | .local _ .vmem, ⟨4, _⟩ => ⟨S704x512, .bf16⟩
  | .local _ .vmem, ⟨5, _⟩ => ⟨S704x512, .bf16⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LOutDbRefIdeal.lean ====
abbrev S4x2048x704 : Shape := ⟨3, ![4, 2048, 704]⟩
abbrev S2048x2048 : Shape := ⟨2, ![2048, 2048]⟩
abbrev S_ : Shape := ⟨0, ![]⟩
abbrev S2816x2048 : Shape := ⟨2, ![2816, 2048]⟩
abbrev S4x704x2048 : Shape := ⟨3, ![4, 704, 2048]⟩
abbrev S2048x4x704 : Shape := ⟨3, ![2048, 4, 704]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2048x2048, .bf16⟩
  | .hbm, ⟨2, _⟩ => ⟨S_, .f32⟩
  | .hbm, ⟨3, _⟩ => ⟨S2816x2048, .f32⟩
  | .hbm, ⟨4, _⟩ => ⟨S4x2048x704, .f32⟩
  | .hbm, ⟨5, _⟩ => ⟨S4x704x2048, .f32⟩
  | .hbm, ⟨6, _⟩ => ⟨S2048x2048, .f32⟩
  | .hbm, ⟨7, _⟩ => ⟨S2048x2048, .f32⟩
  | .hbm, ⟨8, _⟩ => ⟨S2048x4x704, .f32⟩
  | .hbm, ⟨9, _⟩ => ⟨S4x704x2048, .f32⟩
  | .hbm, ⟨10, _⟩ => ⟨S2816x2048, .f32⟩
  | .hbm, ⟨11, _⟩ => ⟨S2816x2048, .bf16⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== LInDa.lean ====
abbrev S8x2048x704 : Shape := ⟨3, ![8, 2048, 704]⟩
abbrev S2048x2048 : Shape := ⟨2, ![2048, 2048]⟩
abbrev S1x1024x704 : Shape := ⟨3, ![1, 1024, 704]⟩
abbrev S1024x1024 : Shape := ⟨2, ![1024, 1024]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S2048x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v1 : BitVec 1 := Scalar.cmpi .eq arg2 c7_i32
  let v14 : BitVec 32 := Scalar.extui v1
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LInDaRefIdeal.lean ====
abbrev S8x2048x704 : Shape := ⟨3, ![8, 2048, 704]⟩
abbrev S_ : Shape := ⟨0, ![]⟩
abbrev S2048x2048 : Shape := ⟨2, ![2048, 2048]⟩
abbrev S8x704x2048 : Shape := ⟨3, ![8, 704, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S_, .f32⟩
  | .hbm, ⟨3, _⟩ => ⟨S2048x2048, .f32⟩
  | .hbm, ⟨4, _⟩ => ⟨S8x2048x704, .f32⟩
  | .hbm, ⟨5, _⟩ => ⟨S8x704x2048, .f32⟩
  | .hbm, ⟨6, _⟩ => ⟨S8x2048x704, .f32⟩
  | .hbm, ⟨7, _⟩ => ⟨S8x2048x704, .f32⟩
  | .hbm, ⟨8, _⟩ => ⟨S8x704x2048, .f32⟩
  | .hbm, ⟨9, _⟩ => ⟨S2048x2048, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== LInDb.lean ====
abbrev S2048x2048 : Shape := ⟨2, ![2048, 2048]⟩
abbrev S8x2048x704 : Shape := ⟨3, ![8, 2048, 704]⟩
abbrev S2048x512 : Shape := ⟨2, ![2048, 512]⟩
abbrev S1x2048x704 : Shape := ⟨3, ![1, 2048, 704]⟩
abbrev S1x512x704 : Shape := ⟨3, ![1, 512, 704]⟩
abbrev S2048x704 : Shape := ⟨2, ![2048, 704]⟩
abbrev S512x704 : Shape := ⟨2, ![512, 704]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S8x2048x704, .bf16⟩
  | .local _ .vmem, ⟨0, _⟩ => ⟨S2048x512, .bf16⟩
  | .local _ .vmem, ⟨1, _⟩ => ⟨S2048x512, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x512x704, .bf16⟩
  | .local _ .vmem, ⟨5, _⟩ => ⟨S1x512x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LInDbRefIdeal.lean ====
abbrev S2048x2048 : Shape := ⟨2, ![2048, 2048]⟩
abbrev S8x2048x704 : Shape := ⟨3, ![8, 2048, 704]⟩
abbrev S_ : Shape := ⟨0, ![]⟩
abbrev S8x704x2048 : Shape := ⟨3, ![8, 704, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S_, .f32⟩
  | .hbm, ⟨3, _⟩ => ⟨S8x2048x704, .f32⟩
  | .hbm, ⟨4, _⟩ => ⟨S2048x2048, .f32⟩
  | .hbm, ⟨5, _⟩ => ⟨S8x704x2048, .f32⟩
  | .hbm, ⟨6, _⟩ => ⟨S8x2048x704, .f32⟩
  | .hbm, ⟨7, _⟩ => ⟨S8x2048x704, .f32⟩
  | .hbm, ⟨8, _⟩ => ⟨S8x704x2048, .f32⟩
  | .hbm, ⟨9, _⟩ => ⟨S8x704x2048, .f32⟩
  | .hbm, ⟨10, _⟩ => ⟨S8x2048x704, .f32⟩
  | .hbm, ⟨11, _⟩ => ⟨S8x2048x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SIn.lean ====
abbrev S1x2048x2048 : Shape := ⟨3, ![1, 2048, 2048]⟩
abbrev S2048x2048 : Shape := ⟨2, ![2048, 2048]⟩
abbrev S1x1024x2048 : Shape := ⟨3, ![1, 1024, 2048]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S1x2048x2048, .bf16⟩
  | .hbm, ⟨1, _⟩ => ⟨S2048x2048, .bf16⟩
  | .hbm, ⟨2, _⟩ => ⟨S2048x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== SInIdeal.lean ====
abbrev S1x2048x2048 : Shape := ⟨3, ![1, 2048, 2048]⟩
abbrev S2048x2048 : Shape := ⟨2, ![2048, 2048]⟩
abbrev S1x1024x2048 : Shape := ⟨3, ![1, 1024, 2048]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S1x2048x2048, .bf16⟩
  | .hbm, ⟨1, _⟩ => ⟨S2048x2048, .bf16⟩
  | .hbm, ⟨2, _⟩ => ⟨S2048x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== SInRefIdeal.lean ====
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1x2048x2048, .bf16⟩
  | .hbm, ⟨1, _⟩ => ⟨S2048x2048, .bf16⟩
  | .hbm, ⟨2, _⟩ => ⟨S1x2048x2048, .f32⟩
  | .hbm, ⟨3, _⟩ => ⟨S2048x2048, .f32⟩
  | .hbm, ⟨4, _⟩ => ⟨S1x2048x2048, .f32⟩
  | .hbm, ⟨5, _⟩ => ⟨S2048x2048, .f32⟩
  | _, _ => ⟨S1x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Glu.lean ====
abbrev S2048x2048 : Shape := ⟨2, ![2048, 2048]⟩
abbrev S8x2048x512 : Shape := ⟨3, ![8, 2048, 512]⟩
abbrev S1024x2048 : Shape := ⟨2, ![1024, 2048]⟩
abbrev S1x2048x512 : Shape := ⟨3, ![1, 2048, 512]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x512, .bf16⟩
  | .hbm, ⟨2, _⟩ => ⟨S8x2048x512, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x512, .f32⟩
  | .local _ .vmem, ⟨5, _⟩ => ⟨S1x1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluIdeal.lean ====
abbrev S2048x2048 : Shape := ⟨2, ![2048, 2048]⟩
abbrev S8x2048x512 : Shape := ⟨3, ![8, 2048, 512]⟩
abbrev S1024x2048 : Shape := ⟨2, ![1024, 2048]⟩
abbrev S1x2048x512 : Shape := ⟨3, ![1, 2048, 512]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x512, .bf16⟩
  | .hbm, ⟨2, _⟩ => ⟨S8x2048x512, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x512, .f32⟩
  | .local _ .vmem, ⟨5, _⟩ => ⟨S1x1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluRefIdeal.lean ====
abbrev S2048x2048 : Shape := ⟨2, ![2048, 2048]⟩
abbrev S8x2048x512 : Shape := ⟨3, ![8, 2048, 512]⟩
abbrev S8x512x2048 : Shape := ⟨3, ![8, 512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x512, .bf16⟩
  | .hbm, ⟨2, _⟩ => ⟨S2048x2048, .f32⟩
  | .hbm, ⟨3, _⟩ => ⟨S8x2048x512, .f32⟩
  | .hbm, ⟨4, _⟩ => ⟨S8x512x2048, .f32⟩
  | .hbm, ⟨5, _⟩ => ⟨S8x2048x512, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== LIn.lean ====
abbrev S2048x2048 : Shape := ⟨2, ![2048, 2048]⟩
abbrev S8x2048x704 : Shape := ⟨3, ![8, 2048, 704]⟩
abbrev S1024x2048 : Shape := ⟨2, ![1024, 2048]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S8x2048x704, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .f32⟩
  | .local _ .vmem, ⟨5, _⟩ => ⟨S1x1024x704, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LInIdeal.lean ====
abbrev S2048x2048 : Shape := ⟨2, ![2048, 2048]⟩
abbrev S8x2048x704 : Shape := ⟨3, ![8, 2048, 704]⟩
abbrev S1024x2048 : Shape := ⟨2, ![1024, 2048]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S8x2048x704, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .f32⟩
  | .local _ .vmem, ⟨5, _⟩ => ⟨S1x1024x704, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LInRefIdeal.lean ====
abbrev S2048x2048 : Shape := ⟨2, ![2048, 2048]⟩
abbrev S8x2048x704 : Shape := ⟨3, ![8, 2048, 704]⟩
abbrev S8x704x2048 : Shape := ⟨3, ![8, 704, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S2048x2048, .f32⟩
  | .hbm, ⟨3, _⟩ => ⟨S8x2048x704, .f32⟩
  | .hbm, ⟨4, _⟩ => ⟨S8x704x2048, .f32⟩
  | .hbm, ⟨5, _⟩ => ⟨S8x2048x704, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== LOut.lean ====
abbrev S4x2048x704 : Shape := ⟨3, ![4, 2048, 704]⟩
abbrev S2816x2048 : Shape := ⟨2, ![2816, 2048]⟩
abbrev S2048x2048 : Shape := ⟨2, ![2048, 2048]⟩
abbrev S1x1024x704 : Shape := ⟨3, ![1, 1024, 704]⟩
abbrev S704x1024 : Shape := ⟨2, ![704, 1024]⟩
abbrev S1024x1024 : Shape := ⟨2, ![1024, 1024]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x2048x704, .bf16⟩
  | .hbm, ⟨1, _⟩ => ⟨S2816x2048, .bf16⟩
  | .hbm, ⟨2, _⟩ => ⟨S2048x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S704x1024, .bf16⟩
  | .local _ .vmem, ⟨3, _⟩ => ⟨S704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 4, 1], ![false, false, false, false]⟩

def k0_cond2 (i : grid0.Coords) : BitVec 1 :=
  let arg2 : BitVec 32 := BitVec.ofNat 32 (i 2).val
  let c3_i32 : BitVec 32 := 3#32
  let v3 : BitVec 1 := Scalar.cmpi .eq arg2 c3_i32
  let arg3 : BitVec 32 := BitVec.ofNat 32 (i 3).val
  let c0_i32_1 : BitVec 32 := 0#32
  let v4 : BitVec 1 := Scalar.cmpi .eq arg3 c0_i32_1
  let v5 : BitVec 1 := Scalar.andi v3 v4
  let v17 : BitVec 32 := Scalar.extui v5
  let c0_i32_11 : BitVec 32 := 0#32
  let v18 : BitVec 1 := Scalar.cmpi .ne v17 c0_i32_11
  v18

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== LOutIdeal.lean ====
abbrev S4x2048x704 : Shape := ⟨3, ![4, 2048, 704]⟩
abbrev S2816x2048 : Shape := ⟨2, ![2816, 2048]⟩
abbrev S2048x2048 : Shape := ⟨2, ![2048, 2048]⟩
abbrev S1x1024x704 : Shape := ⟨3, ![1, 1024, 704]⟩
abbrev S704x1024 : Shape := ⟨2, ![704, 1024]⟩
abbrev S1024x1024 : Shape := ⟨2, ![1024, 1024]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x2048x704, .bf16⟩
  | .hbm, ⟨1, _⟩ => ⟨S2816x2048, .bf16⟩
  | .hbm, ⟨2, _⟩ => ⟨S2048x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S704x1024, .bf16⟩
  | .local _ .vmem, ⟨3, _⟩ => ⟨S704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 4, 1], ![false, false, false, false]⟩

def k0_cond2 (i : grid0.Coords) : BitVec 1 :=
  let arg2 : BitVec 32 := BitVec.ofNat 32 (i 2).val
  let c3_i32 : BitVec 32 := 3#32
  let v3 : BitVec 1 := Scalar.cmpi .eq arg2 c3_i32
  let arg3 : BitVec 32 := BitVec.ofNat 32 (i 3).val
  let c0_i32_1 : BitVec 32 := 0#32
  let v4 : BitVec 1 := Scalar.cmpi .eq arg3 c0_i32_1
  let v5 : BitVec 1 := Scalar.andi v3 v4
  let v17 : BitVec 32 := Scalar.extui v5
  let c0_i32_11 : BitVec 32 := 0#32
  let v18 : BitVec 1 := Scalar.cmpi .ne v17 c0_i32_11
  v18

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== LOutRefIdeal.lean ====
abbrev S4x2048x704 : Shape := ⟨3, ![4, 2048, 704]⟩
abbrev S2816x2048 : Shape := ⟨2, ![2816, 2048]⟩
abbrev S4x704x2048 : Shape := ⟨3, ![4, 704, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2816x2048, .bf16⟩
  | .hbm, ⟨2, _⟩ => ⟨S4x2048x704, .f32⟩
  | .hbm, ⟨3, _⟩ => ⟨S2816x2048, .f32⟩
  | .hbm, ⟨4, _⟩ => ⟨S4x704x2048, .f32⟩
  | .hbm, ⟨5, _⟩ => ⟨S2048x2048, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Gu.lean ====
abbrev S2048x2048 : Shape := ⟨2, ![2048, 2048]⟩
abbrev S8x2048x1408 : Shape := ⟨3, ![8, 2048, 1408]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S8x2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuRefIdeal.lean ====
abbrev S2048x2048 : Shape := ⟨2, ![2048, 2048]⟩
abbrev S8x2048x1408 : Shape := ⟨3, ![8, 2048, 1408]⟩
abbrev S8x1408x2048 : Shape := ⟨3, ![8, 1408, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x2048, .f32⟩
  | .hbm, ⟨3, _⟩ => ⟨S8x2048x1408, .f32⟩
  | .hbm, ⟨4, _⟩ => ⟨S8x1408x2048, .f32⟩
  | .hbm, ⟨5, _⟩ => ⟨S8x2048x1408, .f32⟩
  | .hbm, ⟨6, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Down.lean ====
abbrev S4x2048x1408 : Shape := ⟨3, ![4, 2048, 1408]⟩
abbrev S5632x2048 : Shape := ⟨2, ![5632, 2048]⟩
abbrev S2048x2048 : Shape := ⟨2, ![2048, 2048]⟩
abbrev S1x1024x1408 : Shape := ⟨3, ![1, 1024, 1408]⟩
abbrev S1408x1024 : Shape := ⟨2, ![1408, 1024]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4x2048x1408, .bf16⟩
  | .hbm, ⟨1, _⟩ => ⟨S5632x2048, .bf16⟩
  | .hbm, ⟨2, _⟩ => ⟨S2048x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 4, 1], ![false, false, false, false]⟩

def k0_cond2 (i : grid0.Coords) : BitVec 1 :=
  let arg2 : BitVec 32 := BitVec.ofNat 32 (i 2).val
  let c3_i32 : BitVec 32 := 3#32
  let v3 : BitVec 1 := Scalar.cmpi .eq arg2 c3_i32
  let arg3 : BitVec 32 := BitVec.ofNat 32 (i 3).val
  let c0_i32_1 : BitVec 32 := 0#32
  let v4 : BitVec 1 := Scalar.cmpi .eq arg3 c0_i32_1
  let v5 : BitVec 1 := Scalar.andi v3 v4
  let v17 : BitVec 32 := Scalar.extui v5
  let c0_i32_11 : BitVec 32 := 0#32
  let v18 : BitVec 1 := Scalar.cmpi .ne v17 c0_i32_11
  v18

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== DownRefIdeal.lean ====
abbrev S4x2048x1408 : Shape := ⟨3, ![4, 2048, 1408]⟩
abbrev S5632x2048 : Shape := ⟨2, ![5632, 2048]⟩
abbrev S4x1408x2048 : Shape := ⟨3, ![4, 1408, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S5632x2048, .bf16⟩
  | .hbm, ⟨2, _⟩ => ⟨S4x2048x1408, .f32⟩
  | .hbm, ⟨3, _⟩ => ⟨S5632x2048, .f32⟩
  | .hbm, ⟨4, _⟩ => ⟨S4x1408x2048, .f32⟩
  | .hbm, ⟨5, _⟩ => ⟨S2048x2048, .f32⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ActFwd.lean ====
abbrev S8x2048x1408 : Shape := ⟨3, ![8, 2048, 1408]⟩
abbrev S4x2048x1408 : Shape := ⟨3, ![4, 2048, 1408]⟩
abbrev S1x256x1408 : Shape := ⟨3, ![1, 256, 1408]⟩
abbrev S256x1408 : Shape := ⟨2, ![256, 1408]⟩

abbrev nBuf : Space → Nat
  | .hbm => 2
  | .vmem => 6
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .bf16⟩
  | .local _ .vmem, ⟨0, _⟩ => ⟨S1x256x1408, .bf16⟩
  | .local _ .vmem, ⟨1, _⟩ => ⟨S1x256x1408, .bf16⟩
  | .local _ .vmem, ⟨2, _⟩ => ⟨S1x256x1408, .bf16⟩
  | .local _ .vmem, ⟨3, _⟩ => ⟨S1x256x1408, .bf16⟩
  | .local _ .vmem, ⟨4, _⟩ => ⟨S1x256x1408, .bf16⟩
  | .local _ .vmem, ⟨5, _⟩ => ⟨S1x256x1408, .bf16⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ActFwdRefIdeal.lean ====
abbrev S8x2048x1408 : Shape := ⟨3, ![8, 2048, 1408]⟩
abbrev S4x2048x1408 : Shape := ⟨3, ![4, 2048, 1408]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .f32⟩
  | .hbm, ⟨2, _⟩ => ⟨S4x2048x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S_, .f32⟩
  | .hbm, ⟨7, _⟩ => ⟨S4x2048x1408, .f32⟩
  | .hbm, ⟨8, _⟩ => ⟨S4x2048x1408, .f32⟩
  | .hbm, ⟨9, _⟩ => ⟨S_, .f32⟩
  | .hbm, ⟨10, _⟩ => ⟨S4x2048x1408, .f32⟩
  | .hbm, ⟨11, _⟩ => ⟨S4x2048x1408, .f32⟩
  | .hbm, ⟨12, _⟩ => ⟨S4x2048x1408, .f32⟩
  | .hbm, ⟨13, _⟩ => ⟨S4x2048x1408, .f32⟩
  | .hbm, ⟨14, _⟩ => ⟨S4x2048x1408, .bf16⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Gate.lean ====
abbrev S2048x2048 : Shape := ⟨2, ![2048, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== GluResB.lean ====
abbrev S8x2048x512 : Shape := ⟨3, ![8, 2048, 512]⟩
abbrev S2048x2048 : Shape := ⟨2, ![2048, 2048]⟩
abbrev S1x2048 : Shape := ⟨2, ![1, 2048]⟩
abbrev S2x4x2048x512 : Shape := ⟨4, ![2, 4, 2048, 512]⟩
abbrev S2x1x256x512 : Shape := ⟨4, ![2, 1, 256, 512]⟩
abbrev S256x512 : Shape := ⟨2, ![256, 512]⟩
abbrev S1x512 : Shape := ⟨2, ![1, 512]⟩
abbrev S1x1x256x512 : Shape := ⟨4, ![1, 1, 256, 512]⟩
abbrev S512 : Shape := ⟨1, ![512]⟩

abbrev nBuf : Space → Nat
  | .hbm => 6
  | .vmem => 10
  | .smem => 0
  | _ => 0

abbrev bufTy : (tb : Table) → Fin (tcTables nBuf tb) → BufTy
  | .hbm, ⟨0, _⟩ => ⟨S8x2048x512, .f32⟩
  | .hbm, ⟨1, _⟩ => ⟨S2048x2048, .f32⟩
  | .hbm, ⟨2, _⟩ => ⟨S1x2048, .f32⟩
  | .hbm, ⟨3, _⟩ => ⟨S2x4x2048x512, .f32⟩
  | .hbm, ⟨4, _⟩ => ⟨S2x4x2048x512, .bf16⟩
  | .hbm, ⟨5, _⟩ => ⟨S1x2048, .f32⟩
  | .local _ .vmem, ⟨0, _⟩ => ⟨S2x1x256x512, .f32⟩
  | .local _ .vmem, ⟨1, _⟩ => ⟨S2x1x256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S2x1x256x512, .bf16⟩
  | .local _ .vmem, ⟨7, _⟩ => ⟨S2x1x256x512, .bf16⟩
  | .local _ .vmem, ⟨8, _⟩ => ⟨S1x512, .f32⟩
  | .local _ .vmem, ⟨9, _⟩ => ⟨S1x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== GluResBRefIdeal.lean ====
abbrev S8x2048x512 : Shape := ⟨3, ![8, 2048, 512]⟩
abbrev S2048x2048 : Shape := ⟨2, ![2048, 2048]⟩
abbrev S1x2048 : Shape := ⟨2, ![1, 2048]⟩
abbrev S4x2048x512 : Shape := ⟨3, ![4, 2048, 512]⟩
abbrev S2048x4x512 : Shape := ⟨3, ![2048, 4, 512]⟩
abbrev S_ : Shape := ⟨0, ![]⟩
abbrev S2048 : Shape := ⟨1, ![2048]⟩
abbrev S1x4x2048x512 : Shape := ⟨4, ![1, 4, 2048, 512]⟩
abbrev S2x4x2048x512 : Shape := ⟨4, ![2, 4, 2048, 512]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S2048x2048, .f32⟩
  | .hbm, ⟨2, _⟩ => ⟨S1x2048, .f32⟩
  | .hbm, ⟨3, _⟩ => ⟨S4x2048x512, .f32⟩
  | .hbm, ⟨4, _⟩ => ⟨S2048x4x512, .f32⟩
  | .hbm, ⟨5, _⟩ => ⟨S2048x2048, .f32⟩
  | .hbm, ⟨6, _⟩ => ⟨S4x2048x512, .f32⟩
  | .hbm, ⟨7, _⟩ => ⟨S2048x4x512, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x4x512, .f32⟩
  | .hbm, ⟨34, _⟩ => ⟨S4x2048x512, .f32⟩
  | .hbm, ⟨35, _⟩ => ⟨S2048x4x512, .f32⟩
  | .hbm, ⟨36, _⟩ => ⟨S4x2048x512, .f32⟩
  | .hbm, ⟨37, _⟩ => ⟨S1x4x2048x512, .f32⟩
  | .hbm, ⟨38, _⟩ => ⟨S1x4x2048x512, .f32⟩
  | .hbm, ⟨39, _⟩ => ⟨S2x4x2048x512, .f32⟩
  | .hbm, ⟨40, _⟩ => ⟨S2x4x2048x512, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== NormB.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormBRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== GluRes.lean ====
abbrev S8x2048x512 : Shape := ⟨3, ![8, 2048, 512]⟩
abbrev S2048x2048 : Shape := ⟨2, ![2048, 2048]⟩
abbrev S1x2048 : Shape := ⟨2, ![1, 2048]⟩
abbrev S1x256x512 : Shape := ⟨3, ![1, 256, 512]⟩
abbrev S256x512 : Shape := ⟨2, ![256, 512]⟩
abbrev S1x512 : Shape := ⟨2, ![1, 512]⟩

abbrev nBuf : Space → Nat
  | .hbm => 4
  | .vmem => 10
  | .smem => 0
  | _ => 0

abbrev bufTy : (tb : Table) → Fin (tcTables nBuf tb) → BufTy
  | .hbm, ⟨0, _⟩ => ⟨S8x2048x512, .f32⟩
  | .hbm, ⟨1, _⟩ => ⟨S2048x2048, .f32⟩
  | .hbm, ⟨2, _⟩ => ⟨S1x2048, .f32⟩
  | .hbm, ⟨3, _⟩ => ⟨S2048x2048, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GluResRefIdeal.lean ====
abbrev S8x2048x512 : Shape := ⟨3, ![8, 2048, 512]⟩
abbrev S2048x2048 : Shape := ⟨2, ![2048, 2048]⟩
abbrev S1x2048 : Shape := ⟨2, ![1, 2048]⟩
abbrev S4x2048x512 : Shape := ⟨3, ![4, 2048, 512]⟩
abbrev S2048x4x512 : Shape := ⟨3, ![2048, 4, 512]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S2048x2048, .f32⟩
  | .hbm, ⟨2, _⟩ => ⟨S1x2048, .f32⟩
  | .hbm, ⟨3, _⟩ => ⟨S4x2048x512, .f32⟩
  | .hbm, ⟨4, _⟩ => ⟨S2048x4x512, .f32⟩
  | .hbm, ⟨5, _⟩ => ⟨S2048x2048, .f32⟩
  | .hbm, ⟨6, _⟩ => ⟨S4x2048x512, .f32⟩
  | .hbm, ⟨7, _⟩ => ⟨S2048x4x512, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Resid.lean ====
abbrev S2048x2048 : Shape := ⟨2, ![2048, 2048]⟩
abbrev S1x2048 : Shape := ⟨2, ![1, 2048]⟩
abbrev S256x2048 : Shape := ⟨2, ![256, 2048]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidRefIdeal.lean ====
abbrev S2048x2048 : Shape := ⟨2, ![2048, 2048]⟩
abbrev S1x2048 : Shape := ⟨2, ![1, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Norm.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Ada.lean ====
abbrev S16x2048 : Shape := ⟨2, ![16, 2048]⟩
abbrev S2x2048x1536 : Shape := ⟨3, ![2, 2048, 1536]⟩
abbrev S2x1x1536 : Shape := ⟨3, ![2, 1, 1536]⟩
abbrev S2x16x1536 : Shape := ⟨3, ![2, 16, 1536]⟩
abbrev S1x2048x512 : Shape := ⟨3, ![1, 2048, 512]⟩
abbrev S1x1x512 : Shape := ⟨3, ![1, 1, 512]⟩
abbrev S1x16x512 : Shape := ⟨3, ![1, 16, 512]⟩
abbrev S2048x512 : Shape := ⟨2, ![2048, 512]⟩
abbrev S16x512 : Shape := ⟨2, ![16, 512]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2x2048x1536, .f32⟩
  | .hbm, ⟨2, _⟩ => ⟨S2x1x1536, .f32⟩
  | .hbm, ⟨3, _⟩ => ⟨S2x16x1536, .f32⟩
  | .local _ .vmem, ⟨0, _⟩ => ⟨S16x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x2048 : Shape := ⟨2, ![16, 2048]⟩
abbrev S2x2048x1536 : Shape := ⟨3, ![2, 2048, 1536]⟩
abbrev S2x1x1536 : Shape := ⟨3, ![2, 1, 1536]⟩
abbrev S_ : Shape := ⟨0, ![]⟩
abbrev S2x1536x16 : Shape := ⟨3, ![2, 1536, 16]⟩
abbrev S2x16x1536 : Shape := ⟨3, ![2, 16, 1536]⟩

abbrev nBuf : Space → Nat
  | .hbm => 16
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x1536, .f32⟩
  | .hbm, ⟨2, _⟩ => ⟨S2x1x1536, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S2x1536x16, .f32⟩
  | .hbm, ⟨13, _⟩ => ⟨S2x16x1536, .f32⟩
  | .hbm, ⟨14, _⟩ => ⟨S2x16x1536, .f32⟩
  | .hbm, ⟨15, _⟩ => ⟨S2x16x1536, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== AdaW.lean ====
abbrev S16x2048 : Shape := ⟨2, ![16, 2048]⟩
abbrev S2x16x1536 : Shape := ⟨3, ![2, 16, 1536]⟩
abbrev S2x2048x1536 : Shape := ⟨3, ![2, 2048, 1536]⟩
abbrev S16x256 : Shape := ⟨2, ![16, 256]⟩
abbrev S1x16x1536 : Shape := ⟨3, ![1, 16, 1536]⟩
abbrev S1x256x1536 : Shape := ⟨3, ![1, 256, 1536]⟩
abbrev S16x1536 : Shape := ⟨2, ![16, 1536]⟩
abbrev S256x1536 : Shape := ⟨2, ![256, 1536]⟩

abbrev nBuf : Space → Nat
  | .hbm => 9
  | .vmem => 18
  | .smem => 0
  | _ => 0

abbrev bufTy : (tb : Table) → Fin (tcTables nBuf tb) → BufTy
  | .hbm, ⟨0, _⟩ => ⟨S16x2048, .f32⟩
  | .hbm, ⟨1, _⟩ => ⟨S2x16x1536, .f32⟩
  | .hbm, ⟨2, _⟩ => ⟨S2x2048x1536, .f32⟩
  | .hbm, ⟨3, _⟩ => ⟨S2x2048x1536, .f32⟩
  | .hbm, ⟨4, _⟩ => ⟨S2x2048x1536, .f32⟩
  | .hbm, ⟨5, _⟩ => ⟨S2x2048x1536, .f32⟩
  | .hbm, ⟨6, _⟩ => ⟨S2x2048x1536, .f32⟩
  | .hbm, ⟨7, _⟩ => ⟨S2x2048x1536, .f32⟩
  | .hbm, ⟨8, _⟩ => ⟨S2x2048x1536, .f32⟩
  | .local _ .vmem, ⟨0, _⟩ => ⟨S16x256, .f32⟩
  | .local _ .vmem, ⟨1, _⟩ => ⟨S16x256, .f32⟩
  | .local _ .vmem, ⟨2, _⟩ => ⟨S1x16x1536, .f32⟩
  | .local _ .vmem, ⟨3, _⟩ => ⟨S1x16x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaWRefIdeal.lean ====
abbrev S16x2048 : Shape := ⟨2, ![16, 2048]⟩
abbrev S2x16x1536 : Shape := ⟨3, ![2, 16, 1536]⟩
abbrev S2x2048x1536 : Shape := ⟨3, ![2, 2048, 1536]⟩
abbrev S_ : Shape := ⟨0, ![]⟩
abbrev S2x1536x16 : Shape := ⟨3, ![2, 1536, 16]⟩
abbrev S2x1536x2048 : Shape := ⟨3, ![2, 1536, 2048]⟩

abbrev nBuf : Space → Nat
  | .hbm => 52
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x16x1536, .f32⟩
  | .hbm, ⟨2, _⟩ => ⟨S2x2048x1536, .f32⟩
  | .hbm, ⟨3, _⟩ => ⟨S2x2048x1536, .f32⟩
  | .hbm, ⟨4, _⟩ => ⟨S2x2048x1536, .f32⟩
  | .hbm, ⟨5, _⟩ => ⟨S16x2048, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S16x2048, .f32⟩
  | .hbm, ⟨14, _⟩ => ⟨S2x1536x16, .f32⟩
  | .hbm, ⟨15, _⟩ => ⟨S2x16x1536, .f32⟩
  | .hbm, ⟨16, _⟩ => ⟨S2x1536x16, .f32⟩
  | .hbm, ⟨17, _⟩ => ⟨S2x1536x2048, .f32⟩
  | .hbm, ⟨18, _⟩ => ⟨S2x2048x1536, .f32⟩
  | .hbm, ⟨19, _⟩ => ⟨S_, .f32⟩
  | .hbm, ⟨20, _⟩ => ⟨S2x2048x1536, .f32⟩
  | .hbm, ⟨21, _⟩ => ⟨S2x2048x1536, .f32⟩
  | .hbm, ⟨22, _⟩ => ⟨S_, .f32⟩
  | .hbm, ⟨23, _⟩ => ⟨S2x2048x1536, .f32⟩
  | .hbm, ⟨24, _⟩ => ⟨S2x2048x1536, .f32⟩
  | .hbm, ⟨25, _⟩ => ⟨S2x2048x1536, .f32⟩
  | .hbm, ⟨26, _⟩ => ⟨S_, .f32⟩
  | .hbm, ⟨27, _⟩ => ⟨S2x2048x1536, .f32⟩
  | .hbm, ⟨28, _⟩ => ⟨S2x2048x1536, .f32⟩
  | .hbm, ⟨29, _⟩ => ⟨S2x2048x1536, .f32⟩
  | .hbm, ⟨30, _⟩ => ⟨S_, .f32⟩
  | .hbm, ⟨31, _⟩ => ⟨S2x2048x1536, .f32⟩
  | .hbm, ⟨32, _⟩ => ⟨S2x2048x1536, .f32⟩
  | .hbm, ⟨33, _⟩ => ⟨S2x2048x1536, .f32⟩
  | .hbm, ⟨34, _⟩ => ⟨S_, .f32⟩
  | .hbm, ⟨35, _⟩ => ⟨S2x2048x1536, .f32⟩
  | .hbm, ⟨36, _⟩ => ⟨S2x2048x1536, .f32⟩
  | .hbm, ⟨37, _⟩ => ⟨S_, .f32⟩
  | .hbm, ⟨38, _⟩ => ⟨S2x2048x1536, .f32⟩
  | .hbm, ⟨39, _⟩ => ⟨S2x2048x1536, .f32⟩
  | .hbm, ⟨40, _⟩ => ⟨S2x2048x1536, .f32⟩
  | .hbm, ⟨41, _⟩ => ⟨S_, .f32⟩
  | .hbm, ⟨42, _⟩ => ⟨S2x2048x1536, .f32⟩
  | .hbm, ⟨43, _⟩ => ⟨S2x2048x1536, .f32⟩
  | .hbm, ⟨44, _⟩ => ⟨S2x2048x1536, .f32⟩
  | .hbm, ⟨45, _⟩ => ⟨S_, .f32⟩
  | .hbm, ⟨46, _⟩ => ⟨S2x2048x1536, .f32⟩
  | .hbm, ⟨47, _⟩ => ⟨S2x2048x1536, .f32⟩
  | .hbm, ⟨48, _⟩ => ⟨S2x2048x1536, .f32⟩
  | .hbm, ⟨49, _⟩ => ⟨S_, .f32⟩
  | .hbm, ⟨50, _⟩ => ⟨S2x2048x1536, .f32⟩
  | .hbm, ⟨51, _⟩ => ⟨S2x2048x1536, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== SInW.lean ====
abbrev S4x256x2048 : Shape := ⟨3, ![4, 256, 2048]⟩
abbrev S256x2048 : Shape := ⟨2, ![256, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SInWIdeal.lean ====
abbrev S4x256x2048 : Shape := ⟨3, ![4, 256, 2048]⟩
abbrev S256x2048 : Shape := ⟨2, ![256, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SInWRefIdeal.lean ====
abbrev S4x256x2048 : Shape := ⟨3, ![4, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== GluW.lean ====
abbrev S4x2048x512 : Shape := ⟨3, ![4, 2048, 512]⟩
abbrev S2048x512 : Shape := ⟨2, ![2048, 512]⟩
abbrev S4x256x512 : Shape := ⟨3, ![4, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S4x256x512, .bf16⟩
  | .local _ .vmem, ⟨1, _⟩ => ⟨S4x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GluWIdeal.lean ====
abbrev S4x2048x512 : Shape := ⟨3, ![4, 2048, 512]⟩
abbrev S2048x512 : Shape := ⟨2, ![2048, 512]⟩
abbrev S4x256x512 : Shape := ⟨3, ![4, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S4x256x512, .bf16⟩
  | .local _ .vmem, ⟨1, _⟩ => ⟨S4x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GluWRefIdeal.lean ====
abbrev S4x2048x512 : Shape := ⟨3, ![4, 2048, 512]⟩
abbrev S2048x512 : Shape := ⟨2, ![2048, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S4x2048x512, .f32⟩
  | .hbm, ⟨5, _⟩ => ⟨S_, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== LInW.lean ====
abbrev S4x2048x704 : Shape := ⟨3, ![4, 2048, 704]⟩
abbrev S2048x704 : Shape := ⟨2, ![2048, 704]⟩
abbrev S4x128x704 : Shape := ⟨3, ![4, 128, 704]⟩
abbrev S128x704 : Shape := ⟨2, ![128, 704]⟩
abbrev S1x128x704 : Shape := ⟨3, ![1, 128, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S4x128x704, .bf16⟩
  | .local _ .vmem, ⟨1, _⟩ => ⟨S4x128x704, .bf16⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== LInWIdeal.lean ====
abbrev S4x2048x704 : Shape := ⟨3, ![4, 2048, 704]⟩
abbrev S2048x704 : Shape := ⟨2, ![2048, 704]⟩
abbrev S4x128x704 : Shape := ⟨3, ![4, 128, 704]⟩
abbrev S128x704 : Shape := ⟨2, ![128, 704]⟩
abbrev S1x128x704 : Shape := ⟨3, ![1, 128, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S4x128x704, .bf16⟩
  | .local _ .vmem, ⟨1, _⟩ => ⟨S4x128x704, .bf16⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== LInWRefIdeal.lean ====
abbrev S4x2048x704 : Shape := ⟨3, ![4, 2048, 704]⟩
abbrev S2048x704 : Shape := ⟨2, ![2048, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S4x2048x704, .f32⟩
  | .hbm, ⟨5, _⟩ => ⟨S_, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S_, .f32⟩
  | .hbm, ⟨11, _⟩ => ⟨S2048x704, .f32⟩
  | .hbm, ⟨12, _⟩ => ⟨S2048x704, .f32⟩
  | .hbm, ⟨13, _⟩ => ⟨S2048x704, .f32⟩
  | .hbm, ⟨14, _⟩ => ⟨S_, .f32⟩
  | .hbm, ⟨15, _⟩ => ⟨S2048x704, .f32⟩
  | .hbm, ⟨16, _⟩ => ⟨S2048x704, .f32⟩
  | .hbm, ⟨17, _⟩ => ⟨S2048x704, .f32⟩
  | .hbm, ⟨18, _⟩ => ⟨S_, .f32⟩
  | .hbm, ⟨19, _⟩ => ⟨S2048x704, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S_, .f32⟩
  | .hbm, ⟨26, _⟩ => ⟨S2048x704, .f32⟩
  | .hbm, ⟨27, _⟩ => ⟨S2048x704, .f32⟩
  | .hbm, ⟨28, _⟩ => ⟨S2048x704, .f32⟩
  | .hbm, ⟨29, _⟩ => ⟨S_, .f32⟩
  | .hbm, ⟨30, _⟩ => ⟨S2048x704, .f32⟩
  | .hbm, ⟨31, _⟩ => ⟨S2048x704, .f32⟩
  | .hbm, ⟨32, _⟩ => ⟨S2048x704, .f32⟩
  | .hbm, ⟨33, _⟩ => ⟨S_, .f32⟩
  | .hbm, ⟨34, _⟩ => ⟨S2048x704, .f32⟩
  | .hbm, ⟨35, _⟩ => ⟨S2048x704, .f32⟩
  | .hbm, ⟨36, _⟩ => ⟨S2048x704, .f32⟩
  | .hbm, ⟨37, _⟩ => ⟨S_, .f32⟩
  | .hbm, ⟨38, _⟩ => ⟨S2048x704, .f32⟩
  | .hbm, ⟨39, _⟩ => ⟨S2048x704, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== LOutW.lean ====
abbrev S4x352x2048 : Shape := ⟨3, ![4, 352, 2048]⟩
abbrev S352x2048 : Shape := ⟨2, ![352, 2048]⟩
abbrev S4x32x2048 : Shape := ⟨3, ![4, 32, 2048]⟩
abbrev S32x2048 : Shape := ⟨2, ![32, 2048]⟩
abbrev S1x32x2048 : Shape := ⟨3, ![1, 32, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x352x2048, .bf16⟩
  | .hbm, ⟨1, _⟩ => ⟨S352x2048, .f32⟩
  | .hbm, ⟨2, _⟩ => ⟨S352x2048, .f32⟩
  | .hbm, ⟨3, _⟩ => ⟨S352x2048, .f32⟩
  | .hbm, ⟨4, _⟩ => ⟨S352x2048, .f32⟩
  | .hbm, ⟨5, _⟩ => ⟨S352x2048, .f32⟩
  | .hbm, ⟨6, _⟩ => ⟨S352x2048, .f32⟩
  | .hbm, ⟨7, _⟩ => ⟨S352x2048, .f32⟩
  | .local _ .vmem, ⟨0, _⟩ => ⟨S4x32x2048, .bf16⟩
  | .local _ .vmem, ⟨1, _⟩ => ⟨S4x32x2048, .bf16⟩
  | .local _ .vmem, ⟨2, _⟩ => ⟨S32x2048, .f32⟩
  | .local _ .vmem, ⟨3, _⟩ => ⟨S32x2048, .f32⟩
  | .local _ .vmem, ⟨4, _⟩ => ⟨S32x2048, .f32⟩
  | .local _ .vmem, ⟨5, _⟩ => ⟨S32x2048, .f32⟩
  | .local _ .vmem, ⟨6, _⟩ => ⟨S32x2048, .f32⟩
  | .local _ .vmem, ⟨7, _⟩ => ⟨S32x2048, .f32⟩
  | .local _ .vmem, ⟨8, _⟩ => ⟨S32x2048, .f32⟩
  | .local _ .vmem, ⟨9, _⟩ => ⟨S32x2048, .f32⟩
  | .local _ .vmem, ⟨10, _⟩ => ⟨S32x2048, .f32⟩
  | .local _ .vmem, ⟨11, _⟩ => ⟨S32x2048, .f32⟩
  | .local _ .vmem, ⟨12, _⟩ => ⟨S32x2048, .f32⟩
  | .local _ .vmem, ⟨13, _⟩ => ⟨S32x2048, .f32⟩
  | .local _ .vmem, ⟨14, _⟩ => ⟨S32x2048, .f32⟩
  | .local _ .vmem, ⟨15, _⟩ => ⟨S32x2048, .f32⟩
  | _, _ => ⟨S4x352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x32x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== LOutWRefIdeal.lean ====
abbrev S4x352x2048 : Shape := ⟨3, ![4, 352, 2048]⟩
abbrev S352x2048 : Shape := ⟨2, ![352, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x352x2048, .bf16⟩
  | .hbm, ⟨1, _⟩ => ⟨S352x2048, .f32⟩
  | .hbm, ⟨2, _⟩ => ⟨S352x2048, .f32⟩
  | .hbm, ⟨3, _⟩ => ⟨S352x2048, .f32⟩
  | .hbm, ⟨4, _⟩ => ⟨S4x352x2048, .f32⟩
  | .hbm, ⟨5, _⟩ => ⟨S_, .f32⟩
  | .hbm, ⟨6, _⟩ => ⟨S352x2048, .f32⟩
  | .hbm, ⟨7, _⟩ => ⟨S_, .f32⟩
  | .hbm, ⟨8, _⟩ => ⟨S352x2048, .f32⟩
  | .hbm, ⟨9, _⟩ => ⟨S352x2048, .f32⟩
  | .hbm, ⟨10, _⟩ => ⟨S_, .f32⟩
  | .hbm, ⟨11, _⟩ => ⟨S352x2048, .f32⟩
  | .hbm, ⟨12, _⟩ => ⟨S352x2048, .f32⟩
  | .hbm, ⟨13, _⟩ => ⟨S352x2048, .f32⟩
  | .hbm, ⟨14, _⟩ => ⟨S_, .f32⟩
  | .hbm, ⟨15, _⟩ => ⟨S352x2048, .f32⟩
  | .hbm, ⟨16, _⟩ => ⟨S352x2048, .f32⟩
  | .hbm, ⟨17, _⟩ => ⟨S352x2048, .f32⟩
  | .hbm, ⟨18, _⟩ => ⟨S_, .f32⟩
  | .hbm, ⟨19, _⟩ => ⟨S352x2048, .f32⟩
  | .hbm, ⟨20, _⟩ => ⟨S352x2048, .f32⟩
  | .hbm, ⟨21, _⟩ => ⟨S352x2048, .f32⟩
  | .hbm, ⟨22, _⟩ => ⟨S_, .f32⟩
  | .hbm, ⟨23, _⟩ => ⟨S352x2048, .f32⟩
  | .hbm, ⟨24, _⟩ => ⟨S352x2048, .f32⟩
  | .hbm, ⟨25, _⟩ => ⟨S_, .f32⟩
  | .hbm, ⟨26, _⟩ => ⟨S352x2048, .f32⟩
  | .hbm, ⟨27, _⟩ => ⟨S352x2048, .f32⟩
  | .hbm, ⟨28, _⟩ => ⟨S352x2048, .f32⟩
  | .hbm, ⟨29, _⟩ => ⟨S_, .f32⟩
  | .hbm, ⟨30, _⟩ => ⟨S352x2048, .f32⟩
  | .hbm, ⟨31, _⟩ => ⟨S352x2048, .f32⟩
  | .hbm, ⟨32, _⟩ => ⟨S352x2048, .f32⟩
  | .hbm, ⟨33, _⟩ => ⟨S_, .f32⟩
  | .hbm, ⟨34, _⟩ => ⟨S352x2048, .f32⟩
  | .hbm, ⟨35, _⟩ => ⟨S352x2048, .f32⟩
  | .hbm, ⟨36, _⟩ => ⟨S352x2048, .f32⟩
  | .hbm, ⟨37, _⟩ => ⟨S_, .f32⟩
  | .hbm, ⟨38, _⟩ => ⟨S352x2048, .f32⟩
  | .hbm, ⟨39, _⟩ => ⟨S352x2048, .f32⟩
  | _, _ => ⟨S4x352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== DownW.lean ====
abbrev S4x704x2048 : Shape := ⟨3, ![4, 704, 2048]⟩
abbrev S1408x2048 : Shape := ⟨2, ![1408, 2048]⟩
abbrev S4x64x2048 : Shape := ⟨3, ![4, 64, 2048]⟩
abbrev S64x2048 : Shape := ⟨2, ![64, 2048]⟩
abbrev S1x64x2048 : Shape := ⟨3, ![1, 64, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4x704x2048, .bf16⟩
  | .hbm, ⟨1, _⟩ => ⟨S4x704x2048, .bf16⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S4x64x2048, .bf16⟩
  | .local _ .vmem, ⟨1, _⟩ => ⟨S4x64x2048, .bf16⟩
  | .local _ .vmem, ⟨2, _⟩ => ⟨S4x64x2048, .bf16⟩
  | .local _ .vmem, ⟨3, _⟩ => ⟨S4x64x2048, .bf16⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DownWRefIdeal.lean ====
abbrev S4x704x2048 : Shape := ⟨3, ![4, 704, 2048]⟩
abbrev S1408x2048 : Shape := ⟨2, ![1408, 2048]⟩
abbrev S_ : Shape := ⟨0, ![]⟩
abbrev S704x2048 : Shape := ⟨2, ![704, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S4x704x2048, .bf16⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S4x704x2048, .f32⟩
  | .hbm, ⟨6, _⟩ => ⟨S_, .f32⟩
  | .hbm, ⟨7, _⟩ => ⟨S704x2048, .f32⟩
  | .hbm, ⟨8, _⟩ => ⟨S4x704x2048, .f32⟩
  | .hbm, ⟨9, _⟩ => ⟨S_, .f32⟩
  | .hbm, ⟨10, _⟩ => ⟨S704x2048, .f32⟩
  | .hbm, ⟨11, _⟩ => ⟨S1408x2048, .f32⟩
  | .hbm, ⟨12, _⟩ => ⟨S_, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S1408x2048, .f32⟩
  | .hbm, ⟨23, _⟩ => ⟨S_, .f32⟩
  | .hbm, ⟨24, _⟩ => ⟨S1408x2048, .f32⟩
  | .hbm, ⟨25, _⟩ => ⟨S1408x2048, .f32⟩
  | .hbm, ⟨26, _⟩ => ⟨S1408x2048, .f32⟩
  | .hbm, ⟨27, _⟩ => ⟨S_, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | .hbm, ⟨37, _⟩ => ⟨S1408x2048, .f32⟩
  | .hbm, ⟨38, _⟩ => ⟨S_, .f32⟩
  | .hbm, ⟨39, _⟩ => ⟨S1408x2048, .f32⟩
  | .hbm, ⟨40, _⟩ => ⟨S1408x2048, .f32⟩
  | .hbm, ⟨41, _⟩ => ⟨S1408x2048, .f32⟩
  | .hbm, ⟨42, _⟩ => ⟨S_, .f32⟩
  | .hbm, ⟨43, _⟩ => ⟨S1408x2048, .f32⟩
  | .hbm, ⟨44, _⟩ => ⟨S1408x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.Gelu.lean ====
module

public import Idealize.ShloMosaic.Lib.IdealHost
public import Mathlib.Tactic.Ring
public import Mathlib.Tactic.NormNum
public import Mathlib.Tactic.FieldSimp

/-! The slope of gelu in its tanh form, at one extended real: the kernel's expression is the reference's. -/

@[expose] public section

noncomputable section

namespace Cert.Scan

open Idealize.ShloMosaic

theorem word_half : Ideal.ofBits .f32 0x3F000000#32 = ((1 / 2 : ℝ) : EReal) := by
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num
theorem word_44715 : Ideal.ofBits .f32 0x472EAB00#32 = ((44715 : ℝ) : EReal) := by
  simp [Ideal.ofBits, Ideal.ieee, -EReal.coe_mul]; norm_num
theorem word_million : Ideal.ofBits .f32 0x49742400#32 = ((1000000 : ℝ) : EReal) := by
  simp [Ideal.ofBits, Ideal.ieee, -EReal.coe_mul]; norm_num
/-- The word both sides hold for `√(2/π)`. -/
theorem word_root : Ideal.ofBits .f32 0x3F4C422A#32 = ((6693141 / 8388608 : ℝ) : EReal) := by
  simp [Ideal.ofBits, Ideal.ieee, -EReal.coe_mul]; norm_num

/-- The kernel's slope. -/
def slopeK (x : EReal) : EReal :=
  let c := Ideal.ofBits .f32 0x3F4C422A#32
  let half := Ideal.ofBits .f32 0x3F000000#32
  let one := Ideal.ofBits .f32 0x3F800000#32
  let t := Ideal.tanh (c * (x + ((8943 / 200000 : ℝ) : EReal) * (x * x * x)))
  half * (one + t) + half * x * (one - t * t) * (c * (one + ((26829 / 200000 : ℝ) : EReal) * (x * x)))

/-- The reference's slope. -/
def slopeR (x : EReal) : EReal :=
  let c := Ideal.ofBits .f32 0x3F4C422A#32
  let half := Ideal.ofBits .f32 0x3F000000#32
  let one := Ideal.ofBits .f32 0x3F800000#32
  let t := Ideal.tanh (c * (x + Ideal.div (Ideal.ofBits .f32 0x472EAB00#32 * (x * x * x)) (Ideal.ofBits .f32 0x49742400#32)))
  let a := c * (half * x * one * ((one + t) * (one - t)))
  a + Ideal.ofBits .f32 0x472EAB00#32 * Ideal.div a (Ideal.ofBits .f32 0x49742400#32) * (Ideal.ofBits .f32 0x40400000#32 * (x * x)) + half * (one * (one + t))

theorem slope_eq (x : EReal) : slopeK x = slopeR x := by
  unfold slopeK slopeR
  dsimp only
  rw [word_half, word_three, word_44715, word_million, word_root, Ideal.ofBits_one_f32,
    Ideal.div_coe (by norm_num : (1000000 : ℝ) ≠ 0), Ideal.div_coe (by norm_num : (1000000 : ℝ) ≠ 0)]
  have one : (1 : EReal) = ((1 : ℝ) : EReal) := rfl
  have zero : (0 : EReal) = ((0 : ℝ) : EReal) := rfl
  induction x using EReal.rec with
  | bot =>
    have p1 : ((8943 / 200000 : ℝ) : EReal) * ⊥ = ⊥ := EReal.coe_mul_bot_of_pos (by norm_num)
    have p2 : ((6693141 / 8388608 : ℝ) : EReal) * ⊥ = ⊥ := EReal.coe_mul_bot_of_pos (by norm_num)
    have p3 : ((44715 : ℝ) : EReal) * ⊥ = ⊥ := EReal.coe_mul_bot_of_pos (by norm_num)
    have p4 : ⊥ * ((1 / 1000000 : ℝ) : EReal) = ⊥ := EReal.bot_mul_coe_of_pos (by norm_num)
    rw [EReal.bot_mul_bot, EReal.top_mul_bot, p1, p3, p4, EReal.bot_add, p2, Ideal.tanh_bot]
    have e1 : (1 : EReal) - -1 * -1 = 0 := by rw [one]; norm_cast
    have e2 : (1 : EReal) + -1 = 0 := by rw [one]; norm_cast
    rw [e1, e2]
    simp only [mul_zero, zero_mul, add_zero, zero_add]
  | coe r =>
    simp only [← EReal.coe_mul, ← EReal.coe_add, Ideal.tanh_coe, one, ← EReal.coe_sub]
    congr 1
    rw [show (6693141 / 8388608 * (r + 44715 * (r * r * r) * (1 / 1000000)) : ℝ) = 6693141 / 8388608 * (r + 8943 / 200000 * (r * r * r)) by ring]
    ring
  | top =>
    have p1 : ((8943 / 200000 : ℝ) : EReal) * ⊤ = ⊤ := EReal.coe_mul_top_of_pos (by norm_num)
    have p2 : ((6693141 / 8388608 : ℝ) : EReal) * ⊤ = ⊤ := EReal.coe_mul_top_of_pos (by norm_num)
    have p3 : ((44715 : ℝ) : EReal) * ⊤ = ⊤ := EReal.coe_mul_top_of_pos (by norm_num)
    have p4 : ⊤ * ((1 / 1000000 : ℝ) : EReal) = ⊤ := EReal.top_mul_coe_of_pos (by norm_num)
    rw [EReal.top_mul_top, EReal.top_mul_top, p1, p3, p4, EReal.top_add_top, p2, Ideal.tanh_top]
    have e1 : (1 : EReal) - 1 * 1 = 0 := by rw [one]; norm_cast
    have e2 : (1 : EReal) - 1 = 0 := by rw [one]; norm_cast
    rw [e1, e2]
    simp only [mul_zero, zero_mul, add_zero, zero_add, one_mul]

end Cert.Scan

end
-- ==== Proof.RefRun.lean ====
module

public import proofs.«01_k».proof.Defs
public import proofs.«01_k».proof.Proof.Gen.ReferenceIdeal.Run
public import Idealize.ShloMosaic.Lib.Quiescent

/-! The reference's run: its arguments stay what they were. -/

@[expose] public section

set_option maxRecDepth 16384

noncomputable section

namespace Cert.Scan.Ref

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F] (m : (ℓ : Loc nD τ sig) → Buf (Elt F) ℓ) (ρ : Dev nD → PrngReg) (c : Dev nD)

/-- The buffers written after the loop's entry. -/
abbrev writtenLater : List (Ref sig .tc) :=
  condOps_W ++ (while0Ops0_W ++ (while0Ops0_1_W ++ (while0Ops0_2_W ++ (while0Ops0_3_W ++ (while0Ops0_4_W ++ (while0Ops0_5_W ++
    (while0Ops0_6_W ++ (while0Ops0_7_W ++ (while0Ops0_8_W ++ hostOps0_1_W)))))))))

/-- A buffer nothing writes after the loop's entry keeps what it held there. -/
theorem final_entry (b : Ref sig .tc) (hb : b ∉ writtenLater) :
    finalContents condOps preI bodyI postI 2048 m c (Proc.devRef .tc b) = entryContents preI m c (Proc.devRef .tc b) := by
  simp only [writtenLater, List.mem_append, not_or] at hb
  obtain ⟨hc, h0, h1, h2, h3, h4, h5, h6, h7, h8, hp⟩ := hb
  have trips : ∀ k, atTrip condOps bodyI (entryContents preI m) k c (Proc.devRef .tc b) = entryContents preI m c (Proc.devRef .tc b) := by
    intro k
    induction k with
    | zero => rfl
    | succ k ih =>
      rw [atTrip_succ]
      simp only [afterL_cons, afterL_nil]
      rw [after_of_writes_sub while0Ops0_8 _ while0Ops0_8_writes h8, after_of_writes_sub while0Ops0_7 _ while0Ops0_7_writes h7,
        after_of_writes_sub while0Ops0_6 _ while0Ops0_6_writes h6, after_of_writes_sub while0Ops0_5 _ while0Ops0_5_writes h5,
        after_of_writes_sub while0Ops0_4 _ while0Ops0_4_writes h4, after_of_writes_sub while0Ops0_3 _ while0Ops0_3_writes h3,
        after_of_writes_sub while0Ops0_2 _ while0Ops0_2_writes h2, after_of_writes_sub while0Ops0_1 _ while0Ops0_1_writes h1,
        after_of_writes_sub while0Ops0 _ while0Ops0_writes h0, after_of_writes_sub condOps _ condOps_writes hc, ih]
      rfl
  show after hostOps0_1 (after condOps (atTrip condOps bodyI (entryContents preI m) 2048 c)) (Proc.devRef .tc b) = _
  rw [after_of_writes_sub hostOps0_1 _ hostOps0_1_writes hp, after_of_writes_sub condOps _ condOps_writes hc, trips]

/-- A buffer no stretch writes keeps its launch contents. -/
theorem final_kept (b : Ref sig .tc) (hb : b ∉ hostOps0_W ++ writtenLater) :
    finalContents condOps preI bodyI postI 2048 m c (Proc.devRef .tc b) = m ((c.tc : Thread nD τ).loc b) := by
  rw [List.mem_append, not_or] at hb
  exact (final_entry m c b hb.2).trans (after_of_writes_sub hostOps0 _ hostOps0_writes hb.1)

/-- The reference keeps its arguments and ends with every counter at zero. -/
theorem frame_reference : Cert.quiescent_ReferenceIdeal := fun m ρ _ =>
  (θ_run Cert.ReferenceIdeal.defs _ _).mono (fun r h => ⟨fun c =>
    ⟨(h c main_arg0 rfl).trans (final_kept m c _ (by decide +kernel)), (h c main_arg1 rfl).trans (final_kept m c _ (by decide +kernel)),
      (h c main_arg2 rfl).trans (final_kept m c _ (by decide +kernel)), (h c main_arg3 rfl).trans (final_kept m c _ (by decide +kernel)),
      (h c main_arg4 rfl).trans (final_kept m c _ (by decide +kernel)), (h c main_arg5 rfl).trans (final_kept m c _ (by decide +kernel)),
      (h c main_arg6 rfl).trans (final_kept m c _ (by decide +kernel)), (h c main_arg7 rfl).trans (final_kept m c _ (by decide +kernel))⟩,
    sem_eq_zero_of_no_sems (by decide) r.2⟩) (run_fold (F := Ideal) m ρ)

end Cert.Scan.Ref

end
-- ==== Proof.Scan.lean ====
module

public import Mathlib.Data.EReal.Operations

/-! The two ways to walk the adjoint recurrence backward, at one group and state: the reference carries what the next row
back receives, `conj(a) λ`, and pairs each λ with the state before it; the kernel carries λ itself and pairs it with the
state of the row it comes to next. -/

@[expose] public section

noncomputable section

namespace Cert.Scan

/-- The four carried numbers: two parts, and the two running sums of the gradient of `a`. -/
abbrev Four := EReal × EReal × EReal × EReal

variable (ar ai : EReal) (u v sr si : ℕ → EReal)

/-- The state before row `j`: nothing before the first. -/
def before (s : ℕ → EReal) (j : ℕ) : EReal := if j = 0 then 0 else s (j - 1)

/-- The kernel's walk: before step `n`, λ at row `2048 - n`. -/
def walk : ℕ → Four
  | 0 => (0, 0, 0, 0)
  | n + 1 =>
    let p := walk n
    (u (2047 - n) + (ar * p.1 + ai * p.2.1), v (2047 - n) + (ar * p.2.1 - ai * p.1),
      p.2.2.1 + (p.1 * sr (2047 - n) + p.2.1 * si (2047 - n)), p.2.2.2 + (p.2.1 * sr (2047 - n) - p.1 * si (2047 - n)))

/-- The reference's walk: before trip `k`, `conj(a) λ` for row `2047 - k`. -/
def trips : ℕ → Four
  | 0 => (0, 0, 0, 0)
  | k + 1 =>
    let p := trips k
    let x := u (2047 - k) + p.1
    let y := v (2047 - k) + p.2.1
    (ai * y + ar * x, ar * y + ai * -x,
      p.2.2.1 + (y * before si (2047 - k) + x * before sr (2047 - k)),
      p.2.2.2 + (y * before sr (2047 - k) + -x * before si (2047 - k)))

/-- What the reference carries is the kernel's λ, multiplied by the conjugate of `a`. -/
theorem trips_carried : ∀ n, (trips ar ai u v sr si n).1 = ar * (walk ar ai u v sr si n).1 + ai * (walk ar ai u v sr si n).2.1
    ∧ (trips ar ai u v sr si n).2.1 = ar * (walk ar ai u v sr si n).2.1 - ai * (walk ar ai u v sr si n).1
  | 0 => by simp [trips, walk]
  | n + 1 => by
    obtain ⟨h1, h2⟩ := trips_carried n
    have e1 : u (2047 - n) + (trips ar ai u v sr si n).1 = (walk ar ai u v sr si (n + 1)).1 := by rw [h1]; rfl
    have e2 : v (2047 - n) + (trips ar ai u v sr si n).2.1 = (walk ar ai u v sr si (n + 1)).2.1 := by rw [h2]; rfl
    constructor
    · show ai * (v (2047 - n) + (trips ar ai u v sr si n).2.1) + ar * (u (2047 - n) + (trips ar ai u v sr si n).1) = _
      rw [e1, e2, add_comm]
    · show ar * (v (2047 - n) + (trips ar ai u v sr si n).2.1) + ai * -(u (2047 - n) + (trips ar ai u v sr si n).1) = _
      rw [e1, e2, mul_neg, sub_eq_add_neg]

/-- The λ of the reference's trip `n` is the kernel's after its step `n`. -/
theorem trips_re (n : ℕ) : u (2047 - n) + (trips ar ai u v sr si n).1 = (walk ar ai u v sr si (n + 1)).1 := by
  rw [(trips_carried ar ai u v sr si n).1]; rfl
theorem trips_im (n : ℕ) : v (2047 - n) + (trips ar ai u v sr si n).2.1 = (walk ar ai u v sr si (n + 1)).2.1 := by
  rw [(trips_carried ar ai u v sr si n).2]; rfl

/-- The kernel's sums are the reference's, a step later. -/
theorem trips_sums : ∀ n, n ≤ 2047 → (walk ar ai u v sr si (n + 1)).2.2 = (trips ar ai u v sr si n).2.2
  | 0, _ => by simp [trips, walk]
  | n + 1, h => by
    have ih := trips_sums n (by omega)
    have i1 := congrArg Prod.fst ih
    have i2 := congrArg Prod.snd ih
    have hb : ∀ s : ℕ → EReal, before s (2047 - n) = s (2047 - (n + 1)) := fun s => by
      unfold before; rw [if_neg (by omega)]; exact congrArg s (by omega)
    have e1 := trips_re ar ai u v sr si n
    have e2 := trips_im ar ai u v sr si n
    refine Prod.ext ?_ ?_
    · show (walk ar ai u v sr si (n + 1)).2.2.1 + ((walk ar ai u v sr si (n + 1)).1 * sr (2047 - (n + 1)) + (walk ar ai u v sr si (n + 1)).2.1 * si (2047 - (n + 1)))
        = (trips ar ai u v sr si n).2.2.1 + ((v (2047 - n) + (trips ar ai u v sr si n).2.1) * before si (2047 - n) + (u (2047 - n) + (trips ar ai u v sr si n).1) * before sr (2047 - n))
      rw [hb, hb, e1, e2, i1, add_comm ((walk ar ai u v sr si (n + 1)).1 * _)]
    · show (walk ar ai u v sr si (n + 1)).2.2.2 + ((walk ar ai u v sr si (n + 1)).2.1 * sr (2047 - (n + 1)) - (walk ar ai u v sr si (n + 1)).1 * si (2047 - (n + 1)))
        = (trips ar ai u v sr si n).2.2.2 + ((v (2047 - n) + (trips ar ai u v sr si n).2.1) * before sr (2047 - n) + -(u (2047 - n) + (trips ar ai u v sr si n).1) * before si (2047 - n))
      rw [hb, hb, e1, e2, i2, EReal.neg_mul, sub_eq_add_neg]

/-- At the end the sums agree: the reference's last trip pairs λ with no state. -/
theorem sums_end : (trips ar ai u v sr si 2048).2.2 = (walk ar ai u v sr si 2048).2.2 := by
  rw [trips_sums ar ai u v sr si 2047 le_rfl]
  have hb : ∀ s : ℕ → EReal, before s (2047 - 2047) = 0 := fun s => if_pos rfl
  refine Prod.ext ?_ ?_
  · show (trips ar ai u v sr si 2047).2.2.1 + (_ * before si (2047 - 2047) + _ * before sr (2047 - 2047)) = _
    rw [hb, hb, mul_zero, mul_zero, add_zero, add_zero]
  · show (trips ar ai u v sr si 2047).2.2.2 + (_ * before sr (2047 - 2047) + _ * before si (2047 - 2047)) = _
    rw [hb, hb, mul_zero, mul_zero, add_zero, add_zero]

end Cert.Scan

end
-- ==== Proof.RefLoop.lean ====
module

public import proofs.«01_k».proof.Proof.RefRun
public import proofs.«01_k».proof.Proof.Scan
public import Idealize.ShloMosaic.Lib.ValueIdx
public import Idealize.ShloMosaic.Lib.ValueLayout
public import Idealize.ShloMosaic.Lib.DynamicIndex

/-! What the reference's loop carries, at one group and state, is `trips` of that group and state's rows. -/

@[expose] public section

set_option maxRecDepth 16384

noncomputable section

namespace Cert.Scan.Ref

open Cert.ReferenceIdeal Cert.ReferenceIdeal.Gen Cert.ReferenceIdeal.Value
open Idealize.ShloMosaic Idealize.ShloMosaic.TcCoe Idealize.ShloMosaic.StableHlo Idealize.SL.Sem Idealize.ShloMosaic.ValueIdx

/-- A sequence's column `(g, n)`. -/
def col (x : S2048x8x1024.Idx → EReal) (g : Fin 8) (n : Fin 1024) (j : ℕ) : EReal := if h : j < 2048 then x (ix3 ⟨j, h⟩ g n) else 0

theorem col_eq (x : S2048x8x1024.Idx → EReal) (g : Fin 8) (n : Fin 1024) (j : Fin 2048) : col x g n j.val = x (ix3 j g n) := dif_pos j.isLt

/-- The row a trip visits: from the last to the first. -/
theorem row_start (k : ℕ) (hk : k < 2048) : ((2048#32 - Scf.iv 0#32 1#32 k) - 1#32).toInt = ((2047 - k : ℕ) : Int) := by
  have e : (2048#32 - Scf.iv 0#32 1#32 k) - 1#32 = BitVec.ofNat 32 (2047 - k) := by
    apply BitVec.eq_of_toNat_eq
    simp only [Scf.iv, BitVec.zero_add, BitVec.mul_one, BitVec.toNat_sub, BitVec.toNat_ofNat]
    omega
  rw [e, toInt_ofNat_of_lt (by omega)]

section
variable (V : Valuation τ sig (Elt Ideal)) (k : ℕ) (hk : k < 2048)
  (hv : V (Proc.devRef .tc main_v67_7) = fun _ => Scf.iv 0#32 1#32 k)

include hk hv in
theorem starts (a : Fin 3) : ((![res_main_while0b_v73 V, constantI S_ 32 0#32, constantI S_ 32 0#32] : Fin 3 → (⟨S_, .i32⟩ : BufTy).Contents (Elt Ideal)) a
    (Shape.Idx.first h_S_)).toInt = (((![2047 - k, 0, 0] : Fin 3 → ℕ) a : ℕ) : Int) := by
  match a with
  | 0 =>
    show BitVec.toInt (res_main_while0b_v73 V (Shape.Idx.first h_S_)) = ((2047 - k : ℕ) : Int)
    rw [← row_start k hk]
    unfold res_main_while0b_v73
    rw [hv]
    rfl
  | 1 => rfl
  | 2 => rfl

end

section
variable (k : ℕ) (hk : k < 2048) (start : Fin 3 → Int) (hs : ∀ a, start a = (((![2047 - k, 0, 0] : Fin 3 → ℕ) a : ℕ) : Int))
include hk hs

/-- Row `2047 - k` of a sequence, as the body slices it. -/
theorem sliced (x : S2048x8x1024.Idx → EReal) (h : S2048x8x1024.Slices (fun _ => 0) S1x8x1024) (g : Fin 8) (n : Fin 1024) :
    shapeCast S8x1024 (Host.dynamicSlice S1x8x1024 x start h) shapeCasts_S1x8x1024_S8x1024 (ix2 g n) = col x g n (2047 - k) := by
  have hsl : S2048x8x1024.Slices ![2047 - k, 0, 0] S1x8x1024 := ⟨rfl, fun a => by
    match a with
    | 0 => show 2047 - k + 1 ≤ 2048; omega
    | 1 => exact le_rfl
    | 2 => exact le_rfl⟩
  rw [Host.dynamicSlice_eq_extractStridedSlice _ x start ![2047 - k, 0, 0] h hsl hs]
  refine (shapeCast_1ab_ab_apply _ _ g n).trans ?_
  unfold col
  rw [dif_pos (show 2047 - k < 2048 by omega)]
  refine congrArg x (funext fun a => Fin.ext ?_)
  match a with
  | 0 => rfl
  | 1 => exact Nat.zero_add _
  | 2 => exact Nat.zero_add _

/-- A row written into a sequence. -/
theorem updated (x : S2048x8x1024.Idx → EReal) (r : S1x8x1024.Idx → EReal) (h : S2048x8x1024.Slices (fun _ => 0) S1x8x1024) (j : Fin 2048) (g : Fin 8) (n : Fin 1024) :
    Host.dynamicUpdateSlice x r start h (ix3 j g n) = if j.val = 2047 - k then r (ix3 0 g n) else x (ix3 j g n) := by
  have adj : (fun a : Fin 3 => (min (max (start a) 0) ((S2048x8x1024.size a - S1x8x1024.size (a.cast h.1.symm) : ℕ) : Int)).toNat) = (![2047 - k, 0, 0] : Fin 3 → ℕ) := funext fun a => by
    rw [hs a]
    match a with
    | 0 => show (min (max ((2047 - k : ℕ) : Int) 0) ((2048 - 1 : ℕ) : Int)).toNat = 2047 - k; omega
    | 1 => rfl
    | 2 => rfl
  have hsl : S2048x8x1024.Slices ![2047 - k, 0, 0] S1x8x1024 := ⟨rfl, fun a => by
    match a with
    | 0 => show 2047 - k + 1 ≤ 2048; omega
    | 1 => exact le_rfl
    | 2 => exact le_rfl⟩
  have e : Host.dynamicUpdateSlice x r start h = updateSlice x r ![2047 - k, 0, 0] hsl := by
    have gen : ∀ (f : Fin 3 → ℕ) (hf : S2048x8x1024.Slices f S1x8x1024), f = ![2047 - k, 0, 0] → updateSlice x r f hf = updateSlice x r ![2047 - k, 0, 0] hsl := by
      rintro f hf rfl; rfl
    exact gen _ (adj.symm ▸ hsl) adj
  rw [e]
  unfold updateSlice
  by_cases hj : j.val = 2047 - k
  · rw [if_pos hj, dif_pos]
    · refine congrArg r (funext fun a => Fin.ext ?_)
      match a with
      | 0 => show j.val - (2047 - k) = 0; omega
      | 1 => rfl
      | 2 => rfl
    · intro a
      match a with
      | 0 => exact ⟨le_of_eq hj.symm, by show j.val < 2047 - k + 1; omega⟩
      | 1 => exact ⟨Nat.zero_le _, by show g.val < 0 + 8; omega⟩
      | 2 => exact ⟨Nat.zero_le _, by show n.val < 0 + 1024; omega⟩
  · rw [if_neg hj, dif_neg]
    intro hin
    have h1 : 2047 - k ≤ j.val := (hin 0).1
    have h2 : j.val < 2047 - k + 1 := (hin 0).2
    omega
end

/-- A row broadcast to one row of a sequence. -/
theorem one_row (r : S8x1024.Idx → EReal) (g : Fin 8) (n : Fin 1024) :
    broadcastInDim S1x8x1024 ![1, 2] bcast_S8x1024_S1x8x1024_1_2 r (ix3 0 g n) = r (ix2 g n) :=
  congrArg r (funext fun a => by
    match a with
    | 0 => rfl
    | 1 => rfl)

/-- A row at `(g, n)`, and a sequence at `(j, g, n)`. -/
def two (x : S8x1024.Idx → EReal) (g : Fin 8) (n : Fin 1024) : EReal := x (ix2 g n)
def tri (x : S2048x8x1024.Idx → EReal) (j : Fin 2048) (g : Fin 8) (n : Fin 1024) : EReal := x (ix3 j g n)

/-- A row written, as the body writes it. -/
theorem written_row (k : ℕ) (hk : k < 2048) (start : Fin 3 → Int) (hs : ∀ a, start a = (((![2047 - k, 0, 0] : Fin 3 → ℕ) a : ℕ) : Int))
    (x : S2048x8x1024.Idx → EReal) (r : S8x1024.Idx → EReal) (h : S2048x8x1024.Slices (fun _ => 0) S1x8x1024) (j : Fin 2048) (g : Fin 8) (n : Fin 1024) :
    tri (id (Host.dynamicUpdateSlice x (broadcastInDim S1x8x1024 ![1, 2] bcast_S8x1024_S1x8x1024_1_2 r) start h)) j g n
      = if j.val = 2047 - k then two r g n else tri x j g n := by
  refine (updated k hk start hs x (broadcastInDim S1x8x1024 ![1, 2] bcast_S8x1024_S1x8x1024_1_2 r) h j g n).trans ?_
  rw [one_row]
  rfl

section Loop

variable (X : Valuation τ sig (Elt Ideal)) (g : Fin 8) (n : Fin 1024)

/-- The carried buffers before trip `k`. -/
abbrev at_ (k : ℕ) : Valuation τ sig (Elt Ideal) := STEP^[k] X

theorem at_succ (k : ℕ) : at_ X (k + 1) = STEP (at_ X k) := Function.iterate_succ_apply' _ _ _

/-- What no trip changes. -/
theorem at_const (k : ℕ) : at_ X k (Proc.devRef .tc main_v67_0) = X (Proc.devRef .tc main_v67_0) ∧ at_ X k (Proc.devRef .tc main_v67_1) = X (Proc.devRef .tc main_v67_1)
    ∧ at_ X k (Proc.devRef .tc main_v67_2) = X (Proc.devRef .tc main_v67_2) ∧ at_ X k (Proc.devRef .tc main_v67_3) = X (Proc.devRef .tc main_v67_3)
    ∧ at_ X k (Proc.devRef .tc main_v67_4) = X (Proc.devRef .tc main_v67_4) ∧ at_ X k (Proc.devRef .tc main_v67_5) = X (Proc.devRef .tc main_v67_5) := by
  induction k with
  | zero => exact ⟨rfl, rfl, rfl, rfl, rfl, rfl⟩
  | succ k ih =>
    obtain ⟨h0, h1, h2, h3, h4, h5⟩ := ih
    rw [at_succ]
    exact ⟨(STEP_main_v67_0 _).trans h0, (STEP_main_v67_1 _).trans h1, (STEP_main_v67_2 _).trans h2, (STEP_main_v67_3 _).trans h3,
      (STEP_main_v67_4 _).trans h4, (STEP_main_v67_5 _).trans h5⟩

variable (hctr : X (Proc.devRef .tc main_v67_7) = fun _ => 0#32)

include hctr in
theorem at_ctr (k : ℕ) : at_ X k (Proc.devRef .tc main_v67_7) = fun _ => Scf.iv 0#32 1#32 k := by
  induction k with
  | zero => rw [Scf.iv_zero]; exact hctr
  | succ k ih =>
    rw [at_succ, STEP_main_v67_7]
    unfold step_main_v67_7
    rw [ih, Scf.iv_succ]
    rfl

/-- The rows and coefficients at `(g, n)`, as a sequence of the entry. -/
abbrev tr (k : ℕ) (sr si : ℕ → EReal) : Four :=
  trips (two (X (Proc.devRef .tc main_v67_4)) g n) (two (X (Proc.devRef .tc main_v67_5)) g n)
    (col (X (Proc.devRef .tc main_v67_0)) g n) (col (X (Proc.devRef .tc main_v67_1)) g n) sr si k

variable (sr si : ℕ → EReal)
  (hsr : ∀ j, j < 2048 → col (X (Proc.devRef .tc main_v67_2)) g n j = before sr j)
  (hsi : ∀ j, j < 2048 → col (X (Proc.devRef .tc main_v67_3)) g n j = before si j)
  (h8 : two (X (Proc.devRef .tc main_v67_8)) g n = 0) (h9 : two (X (Proc.devRef .tc main_v67_9)) g n = 0)
  (h10 : two (X (Proc.devRef .tc main_v67_10)) g n = 0) (h11 : two (X (Proc.devRef .tc main_v67_11)) g n = 0)

section
variable (k : ℕ) (hk : k < 2048)
include hctr hk

theorem at_re : two (res_main_while0b_v78 (at_ X k)) g n = col (X (Proc.devRef .tc main_v67_0)) g n (2047 - k) + two (at_ X k (Proc.devRef .tc main_v67_8)) g n := by
  unfold res_main_while0b_v78
  refine congrArg₂ (· + ·) ((sliced k hk _ (starts _ k hk (at_ctr X hctr k)) _ _ g n).trans ?_) rfl
  rw [(at_const X k).1]

theorem at_im : two (res_main_while0b_v79 (at_ X k)) g n = col (X (Proc.devRef .tc main_v67_1)) g n (2047 - k) + two (at_ X k (Proc.devRef .tc main_v67_9)) g n := by
  unfold res_main_while0b_v79
  refine congrArg₂ (· + ·) ((sliced k hk _ (starts _ k hk (at_ctr X hctr k)) _ _ g n).trans ?_) rfl
  rw [(at_const X k).2.1]

theorem at_sr : two (res_main_while0b_v76 (at_ X k)) g n = col (X (Proc.devRef .tc main_v67_2)) g n (2047 - k) := by
  unfold res_main_while0b_v76
  refine (sliced k hk _ (starts _ k hk (at_ctr X hctr k)) _ _ g n).trans ?_
  rw [(at_const X k).2.2.1]

theorem at_si : two (res_main_while0b_v77 (at_ X k)) g n = col (X (Proc.devRef .tc main_v67_3)) g n (2047 - k) := by
  unfold res_main_while0b_v77
  refine (sliced k hk _ (starts _ k hk (at_ctr X hctr k)) _ _ g n).trans ?_
  rw [(at_const X k).2.2.2.1]

theorem step_re (j : Fin 2048) : tri (step_main_v67_12 (at_ X k)) j g n
    = if j.val = 2047 - k then two (res_main_while0b_v78 (at_ X k)) g n else tri (at_ X k (Proc.devRef .tc main_v67_12)) j g n := by
  unfold step_main_v67_12
  exact written_row k hk _ (starts _ k hk (at_ctr X hctr k)) _ _ _ j g n

theorem step_im (j : Fin 2048) : tri (step_main_v67_13 (at_ X k)) j g n
    = if j.val = 2047 - k then two (res_main_while0b_v79 (at_ X k)) g n else tri (at_ X k (Proc.devRef .tc main_v67_13)) j g n := by
  unfold step_main_v67_13
  exact written_row k hk _ (starts _ k hk (at_ctr X hctr k)) _ _ _ j g n
end

theorem step_eqs (V : Valuation τ sig (Elt Ideal)) :
    two (step_main_v67_8 V) g n = two (V (Proc.devRef .tc main_v67_5)) g n * two (res_main_while0b_v79 V) g n + two (V (Proc.devRef .tc main_v67_4)) g n * two (res_main_while0b_v78 V) g n
    ∧ two (step_main_v67_9 V) g n = two (V (Proc.devRef .tc main_v67_4)) g n * two (res_main_while0b_v79 V) g n + two (V (Proc.devRef .tc main_v67_5)) g n * -two (res_main_while0b_v78 V) g n
    ∧ two (step_main_v67_10 V) g n = two (V (Proc.devRef .tc main_v67_10)) g n + (two (res_main_while0b_v79 V) g n * two (res_main_while0b_v77 V) g n + two (res_main_while0b_v78 V) g n * two (res_main_while0b_v76 V) g n)
    ∧ two (step_main_v67_11 V) g n = two (V (Proc.devRef .tc main_v67_11)) g n + (two (res_main_while0b_v79 V) g n * two (res_main_while0b_v76 V) g n + -two (res_main_while0b_v78 V) g n * two (res_main_while0b_v77 V) g n) :=
  ⟨rfl, rfl, rfl, rfl⟩

/-- The four carried numbers in a valuation. -/
abbrev four (V : Valuation τ sig (Elt Ideal)) (g : Fin 8) (n : Fin 1024) : Four :=
  (two (V (Proc.devRef .tc main_v67_8)) g n, two (V (Proc.devRef .tc main_v67_9)) g n, two (V (Proc.devRef .tc main_v67_10)) g n, two (V (Proc.devRef .tc main_v67_11)) g n)

include hctr hsr hsi h8 h9 h10 h11 in
/-- The four carried numbers before trip `k`. -/
theorem at_four (k : ℕ) (hk : k ≤ 2048) : four (at_ X k) g n = tr X g n k sr si := by
  induction k with
  | zero => exact congrArg₂ Prod.mk h8 (congrArg₂ Prod.mk h9 (congrArg₂ Prod.mk h10 h11))
  | succ k ih =>
    have hk' : k < 2048 := hk
    have ih := ih hk'.le
    have i1 := congrArg Prod.fst ih
    have i2 := congrArg (fun z => z.2.1) ih
    have i3 := congrArg (fun z => z.2.2.1) ih
    have i4 := congrArg (fun z => z.2.2.2) ih
    dsimp only at i1 i2 i3 i4
    have c4 := (at_const X k).2.2.2.2.1
    have c5 := (at_const X k).2.2.2.2.2
    have re := at_re X g n hctr k hk'
    have im := at_im X g n hctr k hk'
    have ssr := (at_sr X g n hctr k hk').trans (hsr _ (by omega))
    have ssi := (at_si X g n hctr k hk').trans (hsi _ (by omega))
    obtain ⟨s8, s9, s10, s11⟩ := step_eqs g n (at_ X k)
    rw [i1] at re
    rw [i2] at im
    rw [re, im, c4, c5] at s8 s9
    rw [re, im, ssr, ssi, i3] at s10
    rw [re, im, ssr, ssi, i4] at s11
    rw [at_succ]
    unfold four
    rw [STEP_main_v67_8, STEP_main_v67_9, STEP_main_v67_10, STEP_main_v67_11, s8, s9, s10, s11]
    rfl

include hctr hsr hsi h8 h9 h10 h11 in
/-- The adjoints kept: after `k` trips the last `k` rows hold λ. -/
theorem at_rows (k : ℕ) (hk : k ≤ 2048) (j : Fin 2048) (hj : 2048 ≤ j.val + k) :
    tri (at_ X k (Proc.devRef .tc main_v67_12)) j g n = col (X (Proc.devRef .tc main_v67_0)) g n j.val + (tr X g n (2047 - j.val) sr si).1
    ∧ tri (at_ X k (Proc.devRef .tc main_v67_13)) j g n = col (X (Proc.devRef .tc main_v67_1)) g n j.val + (tr X g n (2047 - j.val) sr si).2.1 := by
  induction k with
  | zero => exact absurd j.isLt (by omega)
  | succ k ih =>
    have hk' : k < 2048 := hk
    rw [at_succ, STEP_main_v67_12, STEP_main_v67_13, step_re X g n hctr k hk', step_im X g n hctr k hk', at_re X g n hctr k hk', at_im X g n hctr k hk']
    by_cases h : j.val = 2047 - k
    · have e := at_four X g n hctr sr si hsr hsi h8 h9 h10 h11 k hk'.le
      have e1 := congrArg Prod.fst e
      have e2 := congrArg (fun z => z.2.1) e
      dsimp only at e1 e2
      rw [if_pos h, if_pos h, e1, e2, h, show 2047 - (2047 - k) = k by omega]
      exact ⟨rfl, rfl⟩
    · rw [if_neg h, if_neg h]
      exact ih hk'.le (by omega)

end Loop

end Cert.Scan.Ref

end
-- ==== Proof.RefEntry.lean ====
module

public import proofs.«01_k».proof.Proof.RefLoop

/-! What the reference's loop is entered with. -/

@[expose] public section

set_option maxRecDepth 16384

noncomputable section

namespace Cert.Scan.Ref

open Cert.ReferenceIdeal Cert.ReferenceIdeal.Gen Cert.ReferenceIdeal.Value
open Idealize.ShloMosaic Idealize.ShloMosaic.TcCoe Idealize.ShloMosaic.StableHlo Idealize.SL.Sem Idealize.ShloMosaic.ValueIdx

variable {F : FTy → Type} [FloatOps F] (V : Valuation τ sig (Elt F))

/-- A constant over the whole sequence. -/
abbrev splat (b : BitVec 32) : FVec F S2048x2048 .f32 := broadcastInDim S2048x2048 ![] bcast_S_S2048x2048 (constant S_ .f32 b)

/-- The hyperbolic tangent inside the tanh form of gelu. -/
def inner (x : FVec F S2048x2048 .f32) : FVec F S2048x2048 .f32 :=
  Host.tanh (mulf (splat 0x3F4C422A#32) (addf x (Host.divf (mulf (splat 0x472EAB00#32) (mulf (mulf x x) x)) (splat 0x49742400#32))))

/-- The slope along the tangent: `√(2/π)` times half of `x (1 + t) (1 - t)`. -/
def along (x : FVec F S2048x2048 .f32) : FVec F S2048x2048 .f32 :=
  mulf (splat 0x3F4C422A#32) (mulf (mulf (mulf (splat 0x3F000000#32) x) (splat 0x3F800000#32))
    (mulf (addf (splat 0x3F800000#32) (inner x)) (subf (splat 0x3F800000#32) (inner x))))

/-- The slope of gelu. -/
def slope (x : FVec F S2048x2048 .f32) : FVec F S2048x2048 .f32 :=
  addf (addf (along x) (mulf (mulf (splat 0x472EAB00#32) (Host.divf (along x) (splat 0x49742400#32))) (mulf (splat 0x40400000#32) (mulf x x))))
    (mulf (splat 0x3F000000#32) (mulf (splat 0x3F800000#32) (addf (splat 0x3F800000#32) (inner x))))

/-- The gradient of the layer before gelu. -/
def dyOf (ct : FVec F S2048x2048 .bf16) (x : FVec F S2048x2048 .f32) : FVec F S2048x2048 .f32 := mulf (extf .f32 ct bitsLt_bf16_f32) (slope x)

/-- The states' gradients, before the recurrence. -/
def rowsOf (dy : FVec F S2048x2048 .f32) (cc : FVec F S8x1024x256 .bf16) : FVec F S2048x8x1024 .f32 :=
  transpose S2048x8x1024 [1, 0, 2] (Host.dotGeneral dot_S8x256x2048_S8x1024x256_S8x2048x1024_1_2_2_1_0_0 none
    (transpose S8x256x2048 [1, 2, 0] (shapeCast S2048x8x256 dy shapeCasts_S2048x2048_S2048x8x256) transposes_S2048x8x256_S8x256x2048_1_2_0)
    (extf .f32 cc bitsLt_bf16_f32)) transposes_S8x2048x1024_S2048x8x1024_1_0_2

/-- A row of zeros. -/
abbrev zeros : FVec F S8x1024 .f32 := broadcastInDim S8x1024 ![] bcast_S_S8x1024 (constant S_ .f32 0x00000000#32)

/-- The states a row later, zeros first. -/
def shifted (s : FVec F S2048x8x1024 .f32) : FVec F S2048x8x1024 .f32 :=
  concatenate S2048x8x1024 0 [⟨S1x8x1024, broadcastInDim S1x8x1024 ![1, 2] bcast_S8x1024_S1x8x1024_1_2 zeros⟩,
    ⟨S2047x8x1024, extractStridedSlice S2047x8x1024 ![0, 0, 0] s slices_S2048x8x1024_S2047x8x1024_0_0_0⟩] concatenates_S1x8x1024_S2047x8x1024_S2048x8x1024_d0

set_option maxHeartbeats 4000000 in
theorem entry_dy : after hostOps0 V (Proc.devRef .tc main_v40) = truncf .bf16 (dyOf (V (Proc.devRef .tc main_arg0)) (V (Proc.devRef .tc main_arg1))) bitsLt_bf16_f32 := by
  after_reads_simp
  rfl

set_option maxHeartbeats 4000000 in
theorem entry_0 : after hostOps0 V (Proc.devRef .tc main_v67_0) = rowsOf (dyOf (V (Proc.devRef .tc main_arg0)) (V (Proc.devRef .tc main_arg1))) (V (Proc.devRef .tc main_arg2)) := by
  after_reads_simp
  rfl

set_option maxHeartbeats 4000000 in
theorem entry_1 : after hostOps0 V (Proc.devRef .tc main_v67_1) = Host.negf (rowsOf (dyOf (V (Proc.devRef .tc main_arg0)) (V (Proc.devRef .tc main_arg1))) (V (Proc.devRef .tc main_arg3))) := by
  after_reads_simp
  rfl

theorem entry_2 : after hostOps0 V (Proc.devRef .tc main_v67_2) = shifted (V (Proc.devRef .tc main_arg6)) := by
  after_reads_simp
  rfl

theorem entry_3 : after hostOps0 V (Proc.devRef .tc main_v67_3) = shifted (V (Proc.devRef .tc main_arg7)) := by
  after_reads_simp
  rfl

/-- The rest: the coefficients, the trip's number at zero, and zeros. -/
theorem entry_rest : after hostOps0 V (Proc.devRef .tc main_v67_4) = V (Proc.devRef .tc main_arg4) ∧ after hostOps0 V (Proc.devRef .tc main_v67_5) = V (Proc.devRef .tc main_arg5)
    ∧ after hostOps0 V (Proc.devRef .tc main_v67_7) = constantI S_ 32 0#32
    ∧ after hostOps0 V (Proc.devRef .tc main_v67_8) = zeros ∧ after hostOps0 V (Proc.devRef .tc main_v67_9) = zeros
    ∧ after hostOps0 V (Proc.devRef .tc main_v67_10) = zeros ∧ after hostOps0 V (Proc.devRef .tc main_v67_11) = zeros := by
  refine ⟨?_, ?_, ?_, ?_, ?_, ?_, ?_⟩ <;> after_reads_simp <;> rfl

end Cert.Scan.Ref

end
-- ==== Proof.Body.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.ValueLayout
public import Idealize.ShloMosaic.Lib.Tactic
public import Idealize.ShloMosaic.Lib.WritesUnit
public import Idealize.ShloMosaic.Lib.VecWindow
public import Idealize.ShloMosaic.Lib.Pipeline.Kit

@[expose] public section

set_option maxRecDepth 16384

noncomputable section

namespace Cert.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra: the pipeline's rounds beside the counters the two local copies take their tokens from. -/
abbrev UU (nD : Nat) (τ : Topo) : Type := UR sig nD τ × Counters

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- One row of the state: a value per group and state. -/
abbrev Row (F : FTy → Type) [FloatOps F] := S8x1024.Idx → F .f32
/-- What a trip of the reverse loop carries: λ's two parts and the two running sums of the gradient of `a`. -/
abbrev Carry (F : FTy → Type) [FloatOps F] := Vec F S8x1024 .f32 × Vec F S8x1024 .f32 × FVec F S8x1024 .f32 × FVec F S8x1024 .f32

/-- Row `j` of a block of 128 rows, as the loads see it. -/
def rowOf (x : S128x8x1024.Idx → F .f32) (j : ℕ) : Vec F S1x8x1024 .f32 :=
  fun y => if h : j < 128 then x (fun | 0 => ⟨j, h⟩ | 1 => ⟨(y 1).val, (y 1).isLt⟩ | 2 => ⟨(y 2).val, (y 2).isLt⟩) else Scalar.ofBits .f32 0#32

/-- The carried value before trip `k`, from the rows `gr`, `gi` of the source and the states `sr`, `si`. -/
def carry (ar ai : Vec F S8x1024 .f32) (sr si gr gi : S128x8x1024.Idx → F .f32) (init : Carry F) : ℕ → Carry F
  | 0 => init
  | k + 1 =>
    let p := carry ar ai sr si gr gi init k
    (k0_pay5 ar ai p.1 p.2.1 (rowOf gr (127 - k)), k0_pay6 ar ai p.1 p.2.1 (rowOf gi (127 - k)),
      k0_pay3 p.1 p.2.1 p.2.2.1 (rowOf sr (127 - k)) (rowOf si (127 - k)), k0_pay4 p.1 p.2.1 p.2.2.2 (rowOf sr (127 - k)) (rowOf si (127 - k)))

/-- An entry of a block's row `y 0`. -/
abbrev rest (y : S128x8x1024.Idx) : S8x1024.Idx := fun | 0 => ⟨(y 1).val, (y 1).isLt⟩ | 1 => ⟨(y 2).val, (y 2).isLt⟩

/-- The two sources' blocks before trip `k`: the rows already visited hold λ. -/
def lamRe (ar ai : Vec F S8x1024 .f32) (sr si gr gi : S128x8x1024.Idx → F .f32) (init : Carry F) (k : ℕ) (y : S128x8x1024.Idx) : F .f32 :=
  if (y 0).val + k < 128 then gr y else (carry ar ai sr si gr gi init (128 - (y 0).val)).1 (rest y)
def lamIm (ar ai : Vec F S8x1024 .f32) (sr si gr gi : S128x8x1024.Idx → F .f32) (init : Carry F) (k : ℕ) (y : S128x8x1024.Idx) : F .f32 :=
  if (y 0).val + k < 128 then gi y else (carry ar ai sr si gr gi init (128 - (y 0).val)).2.1 (rest y)

section Loop

variable (i : grid0.Coords) (arg1 : Memref sig .tc .vmem S128x2048 .bf16) (harg1 : arg1.IsWhole) (arg2 : Memref sig .tc .vmem S128x2048 .f32) (harg2 : arg2.IsWhole) (arg3 : Memref sig .tc .hbm S8x1024x256 .bf16) (harg3 : arg3.IsWhole) (arg4 : Memref sig .tc .hbm S8x1024x256 .bf16) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x8x1024 .f32) (harg7 : arg7.IsWhole) (arg8 : Memref sig .tc .vmem S128x8x1024 .f32) (harg8 : arg8.IsWhole) (arg9 : Memref sig .tc .vmem S128x2048 .bf16) (harg9 : arg9.IsWhole) (arg10 : Memref sig .tc .vmem S8x128x1024 .bf16) (harg10 : arg10.IsWhole) (arg11 : Memref sig .tc .vmem S8x128x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024x256 .bf16) (harg14 : arg14.IsWhole) (arg15 : Memref sig .tc .vmem S8x1024x256 .bf16) (harg15 : arg15.IsWhole) (arg16 : Memref sig .tc .vmem S128x8x1024 .f32) (harg16 : arg16.IsWhole) (arg17 : Memref sig .tc .vmem S128x8x1024 .f32) (harg17 : arg17.IsWhole) (arg18 : Memref sig .tc .vmem S8x1024 .f32) (harg18 : arg18.IsWhole) (arg19 : Memref sig .tc .vmem S8x1024 .f32) (harg19 : arg19.IsWhole) (v202_r0 : DmaSems sig S_) (v202_r1 : DmaSems sig S_) (ar ai : Vec F S8x1024 .f32)

/-- A load of row `127 - k`. -/
theorem readAt_row (c : Dev nD) (M : Memref sig .tc .vmem S128x8x1024 .f32) (f : Bf (F := F) c M) (k : Fin k0_t1_loop.trips) :
    View.readAt (Elt F) M.view (Rect.unit (s := S128x8x1024) (k0_off1 k) S1x8x1024.size (k0_off1_inb k)).toLoadRect f
      = rowOf (View.read (Elt F) M.view f) (127 - k.val) := by
  have hk : k.val < 128 := Nat.lt_of_lt_of_le k.isLt k0_t1_abs.2.1
  funext y
  rw [View.readAt_apply]
  unfold rowOf
  rw [dif_pos (by omega)]
  congr 1
  have h0 : (y 0).val < 1 := (y 0).isLt
  funext a
  apply Fin.ext
  rw [LoadRect.idx_apply]
  refine (congrArg (· + 1 * (y a).val) (congrFun (k0_off1_eq k) a)).trans ?_
  fin_cases a
  · show 127 - k.val + 1 * (y 0).val = 127 - k.val; omega
  · show 0 + 1 * (y 1).val = (y 1).val; omega
  · show 0 + 1 * (y 2).val = (y 2).val; omega

/-- After a store of row `127 - k`: that row is the stored one, the others are as they were. -/
theorem read_row (c : Dev nD) (M : Memref sig .tc .vmem S128x8x1024 .f32) (f : Bf (F := F) c M) (k : Fin k0_t1_loop.trips)
    (w : Vec F S1x8x1024 .f32) (y : S128x8x1024.Idx) :
    View.read (Elt F) M.view (M.view.writes (Elt F) f [⟨Rect.unit (s := S128x8x1024) (k0_off1 k) S1x8x1024.size (k0_off1_inb k), w⟩]) y
      = if (y 0).val = 127 - k.val then w (fun | 0 => ⟨0, Nat.one_pos⟩ | 1 => ⟨(y 1).val, (y 1).isLt⟩ | 2 => ⟨(y 2).val, (y 2).isLt⟩)
        else View.read (Elt F) M.view f y := by
  by_cases h : (y 0).val = 127 - k.val
  · rw [if_pos h]
    refine View.read_writes_cons_unit_of_mem M.view f (k0_off1_inb k) w [] y _ (k0_off1_eq k) fun a => ?_
    fin_cases a
    · show (y 0).val = 127 - k.val + 0; omega
    · show (y 1).val = 0 + (y 1).val; omega
    · show (y 2).val = 0 + (y 2).val; omega
  · rw [if_neg h]
    refine (View.read_writes_cons_unit_of_not_mem M.view f (k0_off1_inb k) w [] y (k0_off1_eq k) 0 ?_).trans rfl
    show (y 0).val < 127 - k.val ∨ 127 - k.val + 1 ≤ (y 0).val
    omega

theorem trip (𝒱 : Variants) (c : Dev nD) (bd : Option 𝒱.V) (E : Set ℕ) (k : Fin k0_t1_loop.trips) (acc : Carry F)
    (f7 : Bf (F := F) c arg7) (f8 : Bf (F := F) c arg8) (f16 : Bf (F := F) c arg16) (f17 : Bf (F := F) c arg17) :
    iprop(pt c arg7 f7 ∗ pt c arg8 f8 ∗ pt c arg16 f16 ∗ pt c arg17 f17)
    ⊢ wp frame (wpE (defs₀ (F := F)) 𝒱 c bd) E
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v202_r0 v202_r1 ar ai k acc)
        (fun r => iprop(⌜r = (k0_pay5 ar ai acc.1 acc.2.1 (rowOf (View.read (Elt F) arg16.view f16) (127 - k.val)),
              k0_pay6 ar ai acc.1 acc.2.1 (rowOf (View.read (Elt F) arg17.view f17) (127 - k.val)),
              k0_pay3 acc.1 acc.2.1 acc.2.2.1 (rowOf (View.read (Elt F) arg7.view f7) (127 - k.val)) (rowOf (View.read (Elt F) arg8.view f8) (127 - k.val)),
              k0_pay4 acc.1 acc.2.1 acc.2.2.2 (rowOf (View.read (Elt F) arg7.view f7) (127 - k.val)) (rowOf (View.read (Elt F) arg8.view f8) (127 - k.val)))⌝
            ∗ pt c arg7 f7 ∗ pt c arg8 f8
            ∗ pt c arg16 (arg16.view.writes (Elt F) f16 [⟨Rect.unit (s := S128x8x1024) (k0_off1 k) S1x8x1024.size (k0_off1_inb k),
                k0_pay7 ar ai acc.1 acc.2.1 (rowOf (View.read (Elt F) arg16.view f16) (127 - k.val))⟩])
            ∗ pt c arg17 (arg17.view.writes (Elt F) f17 [⟨Rect.unit (s := S128x8x1024) (k0_off1 k) S1x8x1024.size (k0_off1_inb k),
                k0_pay8 ar ai acc.1 acc.2.1 (rowOf (View.read (Elt F) arg17.view f17) (127 - k.val))⟩]))) := by
  have hk : k.val < 128 := Nat.lt_of_lt_of_le k.isLt k0_t1_abs.2.1
  unfold k0_t1_body
  iintro ⟨H7, H8, H16, H17⟩
  sl_exec
  sl_step
  rw [readAt_row, readAt_row, readAt_row, readAt_row]
  isplitr; · ipureintro; rfl
  isplitl [H7]; · iexact H7
  isplitl [H8]; · iexact H8
  isplitl [H16]; · iexact H16
  iexact H17

/-- Before trip `k`: the sources' blocks hold λ on the rows visited, and the carried value is the recursion's. -/
abbrev inv (c : Dev nD) (f7 : Bf (F := F) c arg7) (f8 : Bf (F := F) c arg8) (gr gi : S128x8x1024.Idx → F .f32) (init : Carry F) (k : ℕ) (acc : Carry F) : sProp 𝕄 :=
  iprop(pt c arg7 f7 ∗ pt c arg8 f8
    ∗ (∃ g, ⌜View.read (Elt F) arg16.view g = lamRe ar ai (View.read (Elt F) arg7.view f7) (View.read (Elt F) arg8.view f8) gr gi init k⌝ ∗ pt c arg16 g)
    ∗ (∃ g, ⌜View.read (Elt F) arg17.view g = lamIm ar ai (View.read (Elt F) arg7.view f7) (View.read (Elt F) arg8.view f8) gr gi init k⌝ ∗ pt c arg17 g)
    ∗ ⌜acc = carry ar ai (View.read (Elt F) arg7.view f7) (View.read (Elt F) arg8.view f8) gr gi init k⌝)

theorem rowOf_lamRe (sr si gr gi : S128x8x1024.Idx → F .f32) (init : Carry F) (k : ℕ) (hk : k < 128) :
    rowOf (lamRe ar ai sr si gr gi init k) (127 - k) = rowOf gr (127 - k) := by
  funext y; unfold rowOf; rw [dif_pos (by omega), dif_pos (by omega)]; unfold lamRe
  exact if_pos (by show 127 - k + k < 128; omega)
theorem rowOf_lamIm (sr si gr gi : S128x8x1024.Idx → F .f32) (init : Carry F) (k : ℕ) (hk : k < 128) :
    rowOf (lamIm ar ai sr si gr gi init k) (127 - k) = rowOf gi (127 - k) := by
  funext y; unfold rowOf; rw [dif_pos (by omega), dif_pos (by omega)]; unfold lamIm
  exact if_pos (by show 127 - k + k < 128; omega)

/-- The row a trip stores is its first yield, with a leading axis of one. -/
theorem pay7_apply (cr ci : Vec F S8x1024 .f32) (g : Vec F S1x8x1024 .f32) (y : S128x8x1024.Idx) :
    k0_pay7 ar ai cr ci g (fun | 0 => ⟨0, Nat.one_pos⟩ | 1 => ⟨(y 1).val, (y 1).isLt⟩ | 2 => ⟨(y 2).val, (y 2).isLt⟩) = k0_pay5 ar ai cr ci g (rest y) := by
  unfold k0_pay7
  exact shapeCast_apply _ _ _ _ (by
    rw [Shape.rowMajor_val_three, Shape.rowMajor_val_two]
    show (y 1).val * 1024 + (y 2).val = (0 * 8 + (y 1).val) * 1024 + (y 2).val
    omega)
/-- And so for the second. -/
theorem pay8_apply (cr ci : Vec F S8x1024 .f32) (g : Vec F S1x8x1024 .f32) (y : S128x8x1024.Idx) :
    k0_pay8 ar ai cr ci g (fun | 0 => ⟨0, Nat.one_pos⟩ | 1 => ⟨(y 1).val, (y 1).isLt⟩ | 2 => ⟨(y 2).val, (y 2).isLt⟩) = k0_pay6 ar ai cr ci g (rest y) := by
  unfold k0_pay8
  exact shapeCast_apply _ _ _ _ (by
    rw [Shape.rowMajor_val_three, Shape.rowMajor_val_two]
    show (y 1).val * 1024 + (y 2).val = (0 * 8 + (y 1).val) * 1024 + (y 2).val
    omega)

theorem lamRe_succ (sr si gr gi : S128x8x1024.Idx → F .f32) (init : Carry F) (k : ℕ) (hk : k < 128) (y : S128x8x1024.Idx) :
    lamRe ar ai sr si gr gi init (k + 1) y
      = if (y 0).val = 127 - k then (carry ar ai sr si gr gi init (k + 1)).1 (rest y) else lamRe ar ai sr si gr gi init k y := by
  unfold lamRe
  by_cases h : (y 0).val = 127 - k
  · rw [if_neg (by omega), if_pos h, show 128 - (y 0).val = k + 1 by omega]
  · rw [if_neg h]
    by_cases h' : (y 0).val + k < 128
    · rw [if_pos h', if_pos (by omega)]
    · rw [if_neg h', if_neg (by omega)]
theorem lamIm_succ (sr si gr gi : S128x8x1024.Idx → F .f32) (init : Carry F) (k : ℕ) (hk : k < 128) (y : S128x8x1024.Idx) :
    lamIm ar ai sr si gr gi init (k + 1) y
      = if (y 0).val = 127 - k then (carry ar ai sr si gr gi init (k + 1)).2.1 (rest y) else lamIm ar ai sr si gr gi init k y := by
  unfold lamIm
  by_cases h : (y 0).val = 127 - k
  · rw [if_neg (by omega), if_pos h, show 128 - (y 0).val = k + 1 by omega]
  · rw [if_neg h]
    by_cases h' : (y 0).val + k < 128
    · rw [if_pos h', if_pos (by omega)]
    · rw [if_neg h', if_neg (by omega)]

/-- One trip takes the invariant to the next. -/
theorem step (𝒱 : Variants) (c : Dev nD) (bd : Option 𝒱.V) (E : Set ℕ) (f7 : Bf (F := F) c arg7) (f8 : Bf (F := F) c arg8)
    (gr gi : S128x8x1024.Idx → F .f32) (init : Carry F) (k : Fin k0_t1_loop.trips) (acc : Carry F) :
    inv (F := F) arg7 arg8 arg16 arg17 ar ai c f7 f8 gr gi init k.val acc
    ⊢ wp frame (wpE (defs₀ (F := F)) 𝒱 c bd) E
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v202_r0 v202_r1 ar ai k acc)
        (inv (F := F) arg7 arg8 arg16 arg17 ar ai c f7 f8 gr gi init (k.val + 1)) := by
  have hk : k.val < 128 := Nat.lt_of_lt_of_le k.isLt k0_t1_abs.2.1
  iintro ⟨H7, H8, ⟨%g16, %h16, H16⟩, ⟨%g17, %h17, H17⟩, %hacc⟩
  subst hacc
  iapply (wp_wand_r Idealize.ShloMosaic.frame (wpE (defs₀ (F := F)) 𝒱 (c : Thread nD τ) bd) E)
  isplitl [H7 H8 H16 H17]
  · iapply (trip (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v202_r0 v202_r1 ar ai 𝒱 c bd E k _ f7 f8 g16 g17)
    isplitl [H7]; · iexact H7
    isplitl [H8]; · iexact H8
    isplitl [H16]; · iexact H16
    iexact H17
  · iintro %r ⟨%hr, H7, H8, H16, H17⟩
    rw [h16, h17, rowOf_lamRe _ _ _ _ _ _ _ _ hk, rowOf_lamIm _ _ _ _ _ _ _ _ hk] at hr
    isplitl [H7]; · iexact H7
    isplitl [H8]; · iexact H8
    isplitl [H16]
    · iexists _; isplitr; swap; (· iexact H16)
      ipureintro
      funext y
      rw [read_row (F := F) (c := c), lamRe_succ _ _ _ _ _ _ _ _ hk, pay7_apply, h16, rowOf_lamRe _ _ _ _ _ _ _ _ hk]
      rfl
    isplitl [H17]
    · iexists _; isplitr; swap; (· iexact H17)
      ipureintro
      funext y
      rw [read_row (F := F) (c := c), lamIm_succ _ _ _ _ _ _ _ _ hk, pay8_apply, h17, rowOf_lamIm _ _ _ _ _ _ _ _ hk]
      rfl
    ipureintro
    rw [hr]
    rfl

end Loop

end Cert.Scan
-- ==== Proof.Point.lean ====
module

public import proofs.«01_k».proof.Proof.Body

@[expose] public section

set_option maxRecDepth 16384

noncomputable section

namespace Cert.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resources' model. -/
local notation "𝕄" => MT nD τ sig Unit (Elt F) ℕ (UU nD τ) ℕ

/-- Memref `M` held with contents that read as `w`. -/
abbrev holds (c : Dev nD) {sp : Space} {S : Shape} {e : EltTy} (M : Memref sig .tc sp S e) (w : S.Idx → Elt F e) : sProp 𝕄 :=
  iprop(∃ g : Bf (F := F) c M, ⌜View.read (Elt F) M.view g = w⌝ ∗ pt c M g)

/-- Columns `256·g …` of the block of rounded cotangents. -/
def cols (d : Vec F S128x2048 .bf16) (g : Fin 8) : Vec F S128x256 .bf16 := fun y =>
  d (fun | 0 => ⟨(y 0).val, (y 0).isLt⟩
         | 1 => ⟨256 * g.val + (y 1).val, by have h : (y 1).val < 256 := (y 1).isLt; show _ < 2048; omega⟩)
/-- Group `g` of the output matrix. -/
def grp (cc : Vec F S8x1024x256 .bf16) (g : Fin 8) : Vec F S1x1024x256 .bf16 := fun y =>
  cc (fun | 0 => g | 1 => ⟨(y 1).val, (y 1).isLt⟩ | 2 => ⟨(y 2).val, (y 2).isLt⟩)
/-- An index without its middle coordinate, which is kept as a unit. -/
abbrev outer (y : S128x8x1024.Idx) : S128x1x1024.Idx := fun | 0 => ⟨(y 0).val, (y 0).isLt⟩ | 1 => ⟨0, Nat.one_pos⟩ | 2 => ⟨(y 2).val, (y 2).isLt⟩

/-- The gradients of the states of a block, before the recurrence: each group's rounded cotangents against its matrix. -/
def gRe (d : Vec F S128x2048 .bf16) (cc : Vec F S8x1024x256 .bf16) : S128x8x1024.Idx → F .f32 := fun y =>
  k0_pay22 (cols d ⟨(y 1).val, (y 1).isLt⟩) (grp cc ⟨(y 1).val, (y 1).isLt⟩) (outer y)
def gIm (d : Vec F S128x2048 .bf16) (cc : Vec F S8x1024x256 .bf16) : S128x8x1024.Idx → F .f32 := fun y =>
  k0_pay24 (k0_pay23 (cols d ⟨(y 1).val, (y 1).isLt⟩) (grp cc ⟨(y 1).val, (y 1).isLt⟩)) (outer y)

theorem readCov_cols (M : Memref sig .tc .vmem S128x2048 .bf16) (w : Vec F S128x2048 .bf16)
    (n : ℕ) (g : Fin 8) (hn : n = 256 * g.val) (inb0 : ∀ a, (![0, 0] : Fin 2 → ℕ) a + S128x2048.size a ≤ S128x2048.size a)
    (inb : ∀ a, (![0, n] : Fin 2 → ℕ) a + S128x256.size a ≤ S128x2048.size a) :
    M.view.readCov (Val := Elt F) [⟨Rect.unit (s := S128x2048) ![0, 0] S128x2048.size inb0, w⟩]
      (Rect.unit (s := S128x2048) ![0, n] S128x256.size inb).toLoadRect = cols w g := by
  subst hn
  unfold View.readCov
  funext y
  rw [View.readAt_apply, View.read_writes_full]
  unfold cols
  congr 1
  funext a
  apply Fin.ext
  rw [LoadRect.idx_apply]
  fin_cases a
  · show 0 + 1 * (y 0).val = (y 0).val; omega
  · show 256 * g.val + 1 * (y 1).val = 256 * g.val + (y 1).val; omega

theorem readAt_grp (M : Memref sig .tc .vmem S8x1024x256 .bf16) (f : M.view.ty.Contents (Elt F))
    (n : ℕ) (g : Fin 8) (hn : n = g.val) (inb : ∀ a, (![n, 0, 0] : Fin 3 → ℕ) a + S1x1024x256.size a ≤ S8x1024x256.size a) :
    M.view.readAt (Elt F) (Rect.unit (s := S8x1024x256) ![n, 0, 0] S1x1024x256.size inb).toLoadRect f = grp (M.view.read (Elt F) f) g := by
  subst hn
  funext y
  rw [View.readAt_apply]
  unfold grp
  congr 1
  funext a
  apply Fin.ext
  rw [LoadRect.idx_apply]
  have h0 : (y 0).val < 1 := (y 0).isLt
  fin_cases a
  · show g.val + 1 * (y 0).val = g.val; omega
  · show 0 + 1 * (y 1).val = (y 1).val; omega
  · show 0 + 1 * (y 2).val = (y 2).val; omega

/-- One group's store read back: that group has the payload, the others are as before. -/
theorem read_group (M : Memref sig .tc .vmem S128x8x1024 .f32) (f : M.view.ty.Contents (Elt F))
    (n : ℕ) (inb : ∀ a, (![0, n, 0] : Fin 3 → ℕ) a + S128x1x1024.size a ≤ S128x8x1024.size a) (w : Vec F S128x1x1024 .f32)
    (L : List (View.Piece (Elt F) S128x8x1024 .f32)) (y : S128x8x1024.Idx) :
    M.view.read (Elt F) (M.view.writes (Elt F) f (⟨Rect.unit (s := S128x8x1024) ![0, n, 0] S128x1x1024.size inb, w⟩ :: L)) y
      = if (y 1).val = n then w (outer y) else M.view.read (Elt F) (M.view.writes (Elt F) f L) y := by
  by_cases h : (y 1).val = n
  · rw [if_pos h]
    refine View.read_writes_cons_unit_of_mem M.view f inb w L y _ rfl fun a => ?_
    fin_cases a
    · show (y 0).val = 0 + (y 0).val; omega
    · show (y 1).val = n + 0; omega
    · show (y 2).val = 0 + (y 2).val; omega
  · rw [if_neg h]
    refine View.read_writes_cons_unit_of_not_mem M.view f inb w L y rfl 1 ?_
    show (y 1).val < n ∨ n + 1 ≤ (y 1).val
    omega

/-- The eight groups' stores read back. -/
theorem read_groups (M : Memref sig .tc .vmem S128x8x1024 .f32) (f : M.view.ty.Contents (Elt F)) (G : Fin 8 → Vec F S128x1x1024 .f32)
    (i0 : ∀ a, (![0, 0, 0] : Fin 3 → ℕ) a + S128x1x1024.size a ≤ S128x8x1024.size a)
    (i1 : ∀ a, (![0, 1, 0] : Fin 3 → ℕ) a + S128x1x1024.size a ≤ S128x8x1024.size a)
    (i2 : ∀ a, (![0, 2, 0] : Fin 3 → ℕ) a + S128x1x1024.size a ≤ S128x8x1024.size a)
    (i3 : ∀ a, (![0, 3, 0] : Fin 3 → ℕ) a + S128x1x1024.size a ≤ S128x8x1024.size a)
    (i4 : ∀ a, (![0, 4, 0] : Fin 3 → ℕ) a + S128x1x1024.size a ≤ S128x8x1024.size a)
    (i5 : ∀ a, (![0, 5, 0] : Fin 3 → ℕ) a + S128x1x1024.size a ≤ S128x8x1024.size a)
    (i6 : ∀ a, (![0, 6, 0] : Fin 3 → ℕ) a + S128x1x1024.size a ≤ S128x8x1024.size a)
    (i7 : ∀ a, (![0, 7, 0] : Fin 3 → ℕ) a + S128x1x1024.size a ≤ S128x8x1024.size a)
    (w0 w1 w2 w3 w4 w5 w6 w7 : Vec F S128x1x1024 .f32)
    (h0 : w0 = G 0) (h1 : w1 = G 1) (h2 : w2 = G 2) (h3 : w3 = G 3) (h4 : w4 = G 4) (h5 : w5 = G 5) (h6 : w6 = G 6) (h7 : w7 = G 7) :
    M.view.read (Elt F) (M.view.writes (Elt F) f
      [⟨Rect.unit (s := S128x8x1024) ![0, 7, 0] S128x1x1024.size i7, w7⟩, ⟨Rect.unit (s := S128x8x1024) ![0, 6, 0] S128x1x1024.size i6, w6⟩,
       ⟨Rect.unit (s := S128x8x1024) ![0, 5, 0] S128x1x1024.size i5, w5⟩, ⟨Rect.unit (s := S128x8x1024) ![0, 4, 0] S128x1x1024.size i4, w4⟩,
       ⟨Rect.unit (s := S128x8x1024) ![0, 3, 0] S128x1x1024.size i3, w3⟩, ⟨Rect.unit (s := S128x8x1024) ![0, 2, 0] S128x1x1024.size i2, w2⟩,
       ⟨Rect.unit (s := S128x8x1024) ![0, 1, 0] S128x1x1024.size i1, w1⟩, ⟨Rect.unit (s := S128x8x1024) ![0, 0, 0] S128x1x1024.size i0, w0⟩])
      = fun y => G ⟨(y 1).val, (y 1).isLt⟩ (outer y) := by
  subst h0 h1 h2 h3 h4 h5 h6 h7
  funext y
  rw [read_group, read_group, read_group, read_group, read_group, read_group, read_group, read_group]
  obtain ⟨q, hq⟩ : ∃ q : Fin 8, (y 1).val = q.val := ⟨⟨(y 1).val, (y 1).isLt⟩, rfl⟩
  have e : (⟨(y 1).val, (y 1).isLt⟩ : Fin 8) = q := Fin.ext hq
  rw [e, hq]
  fin_cases q <;> rfl

theorem lamRe_zero (ar ai : Vec F S8x1024 .f32) (sr si gr gi : S128x8x1024.Idx → F .f32) (init : Carry F) :
    lamRe ar ai sr si gr gi init 0 = gr := funext fun y => if_pos (y 0).isLt
theorem lamIm_zero (ar ai : Vec F S8x1024 .f32) (sr si gr gi : S128x8x1024.Idx → F .f32) (init : Carry F) :
    lamIm ar ai sr si gr gi init 0 = gi := funext fun y => if_pos (y 0).isLt

section
variable (i : grid0.Coords) (arg1 : Memref sig .tc .vmem S128x2048 .bf16) (harg1 : arg1.IsWhole) (arg2 : Memref sig .tc .vmem S128x2048 .f32) (harg2 : arg2.IsWhole) (arg3 : Memref sig .tc .hbm S8x1024x256 .bf16) (harg3 : arg3.IsWhole) (arg4 : Memref sig .tc .hbm S8x1024x256 .bf16) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x8x1024 .f32) (harg7 : arg7.IsWhole) (arg8 : Memref sig .tc .vmem S128x8x1024 .f32) (harg8 : arg8.IsWhole) (arg9 : Memref sig .tc .vmem S128x2048 .bf16) (harg9 : arg9.IsWhole) (arg10 : Memref sig .tc .vmem S8x128x1024 .bf16) (harg10 : arg10.IsWhole) (arg11 : Memref sig .tc .vmem S8x128x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024x256 .bf16) (harg14 : arg14.IsWhole) (arg15 : Memref sig .tc .vmem S8x1024x256 .bf16) (harg15 : arg15.IsWhole) (arg16 : Memref sig .tc .vmem S128x8x1024 .f32) (harg16 : arg16.IsWhole) (arg17 : Memref sig .tc .vmem S128x8x1024 .f32) (harg17 : arg17.IsWhole) (arg18 : Memref sig .tc .vmem S8x1024 .f32) (harg18 : arg18.IsWhole) (arg19 : Memref sig .tc .vmem S8x1024 .f32) (harg19 : arg19.IsWhole) (v202_r0 : DmaSems sig S_) (v202_r1 : DmaSems sig S_)

/-- What a point leaves, from the blocks it was given, the matrices and what the point before it left. -/
abbrev post (c : Dev nD) (f1 : Bf (F := F) c arg1) (f2 : Bf (F := F) c arg2) (f5 : Bf (F := F) c arg5) (f6 : Bf (F := F) c arg6)
    (f7 : Bf (F := F) c arg7) (f8 : Bf (F := F) c arg8) (d : Vec F S128x2048 .bf16) (cr ci : Vec F S8x1024x256 .bf16) (lr li : S128x8x1024.Idx → F .f32) (C : Carry F) : sProp 𝕄 :=
  iprop(pt c arg1 f1 ∗ pt c arg2 f2 ∗ pt c arg5 f5 ∗ pt c arg6 f6 ∗ pt c arg7 f7 ∗ pt c arg8 f8
    ∗ holds (F := F) c arg9 d ∗ holds (F := F) c arg10 (k0_pay11 lr) ∗ holds (F := F) c arg11 (k0_pay12 li)
    ∗ holds (F := F) c arg12 C.2.2.1 ∗ holds (F := F) c arg13 C.2.2.2
    ∗ holds (F := F) c arg14 cr ∗ holds (F := F) c arg15 ci
    ∗ (∃ g, pt (F := F) c arg16 g) ∗ (∃ g, pt (F := F) c arg17 g)
    ∗ holds (F := F) c arg18 C.1 ∗ holds (F := F) c arg19 C.2.1)

/-- The carry a block ends with. -/
abbrev blockCarry (ct : Vec F S128x2048 .bf16) (yp : Vec F S128x2048 .f32) (ar ai : Vec F S8x1024 .f32) (sr si : S128x8x1024.Idx → F .f32)
    (cr ci : Vec F S8x1024x256 .bf16) (init : Carry F) : Carry F :=
  carry ar ai sr si (gRe (k0_pay13 ct yp) cr) (gIm (k0_pay13 ct yp) ci) init 128
/-- The adjoints of a block. -/
abbrev blockRe (ct : Vec F S128x2048 .bf16) (yp : Vec F S128x2048 .f32) (ar ai : Vec F S8x1024 .f32) (sr si : S128x8x1024.Idx → F .f32)
    (cr ci : Vec F S8x1024x256 .bf16) (init : Carry F) : S128x8x1024.Idx → F .f32 :=
  lamRe ar ai sr si (gRe (k0_pay13 ct yp) cr) (gIm (k0_pay13 ct yp) ci) init 128
abbrev blockIm (ct : Vec F S128x2048 .bf16) (yp : Vec F S128x2048 .f32) (ar ai : Vec F S8x1024 .f32) (sr si : S128x8x1024.Idx → F .f32)
    (cr ci : Vec F S8x1024x256 .bf16) (init : Carry F) : S128x8x1024.Idx → F .f32 :=
  lamIm ar ai sr si (gRe (k0_pay13 ct yp) cr) (gIm (k0_pay13 ct yp) ci) init 128

theorem trips_eq : k0_t1_loop.trips = 128 := by decide +kernel

set_option maxHeartbeats 4000000 in
/-- A point after the first: the matrices and the carried state are the scratch's. -/
theorem later (𝒱 : Variants) (c : Dev nD) (bd : Option 𝒱.V) (E : Set ℕ)
    (hc : ¬ Scalar.cmpi .ne (Scalar.extui (Scalar.cmpi .eq (BitVec.ofNat 32 (i 0).val) 0#32) : BitVec 32) 0#32 = 1#1)
    (f1 : Bf (F := F) c arg1) (f2 : Bf (F := F) c arg2) (f5 : Bf (F := F) c arg5) (f6 : Bf (F := F) c arg6)
    (f7 : Bf (F := F) c arg7) (f8 : Bf (F := F) c arg8) (f9 : Bf (F := F) c arg9) (f10 : Bf (F := F) c arg10) (f11 : Bf (F := F) c arg11)
    (f12 : Bf (F := F) c arg12) (f13 : Bf (F := F) c arg13) (f14 : Bf (F := F) c arg14) (f15 : Bf (F := F) c arg15)
    (f16 : Bf (F := F) c arg16) (f17 : Bf (F := F) c arg17) (f18 : Bf (F := F) c arg18) (f19 : Bf (F := F) c arg19) :
    iprop(pt c arg1 f1 ∗ pt c arg2 f2 ∗ pt c arg5 f5 ∗ pt c arg6 f6 ∗ pt c arg7 f7 ∗ pt c arg8 f8 ∗ pt c arg9 f9 ∗ pt c arg10 f10
      ∗ pt c arg11 f11 ∗ pt c arg12 f12 ∗ pt c arg13 f13 ∗ pt c arg14 f14 ∗ pt c arg15 f15 ∗ pt c arg16 f16 ∗ pt c arg17 f17
      ∗ pt c arg18 f18 ∗ pt c arg19 f19)
    ⊢ wp frame (wpE (defs₀ (F := F)) 𝒱 c bd) E (cc0_s5_scan_bwd0 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v202_r0 v202_r1) (fun _ =>
      post (F := F) arg1 arg2 arg5 arg6 arg7 arg8 arg9 arg10 arg11 arg12 arg13 arg14 arg15 arg16 arg17 arg18 arg19 c f1 f2 f5 f6 f7 f8
        (k0_pay13 (arg1.view.read (Elt F) f1) (arg2.view.read (Elt F) f2)) (arg14.view.read (Elt F) f14) (arg15.view.read (Elt F) f15)
        (blockRe (arg1.view.read (Elt F) f1) (arg2.view.read (Elt F) f2) (arg5.view.read (Elt F) f5) (arg6.view.read (Elt F) f6) (arg7.view.read (Elt F) f7) (arg8.view.read (Elt F) f8)
          (arg14.view.read (Elt F) f14) (arg15.view.read (Elt F) f15) (arg18.view.read (Elt F) f18, arg19.view.read (Elt F) f19, arg12.view.read (Elt F) f12, arg13.view.read (Elt F) f13))
        (blockIm (arg1.view.read (Elt F) f1) (arg2.view.read (Elt F) f2) (arg5.view.read (Elt F) f5) (arg6.view.read (Elt F) f6) (arg7.view.read (Elt F) f7) (arg8.view.read (Elt F) f8)
          (arg14.view.read (Elt F) f14) (arg15.view.read (Elt F) f15) (arg18.view.read (Elt F) f18, arg19.view.read (Elt F) f19, arg12.view.read (Elt F) f12, arg13.view.read (Elt F) f13))
        (blockCarry (arg1.view.read (Elt F) f1) (arg2.view.read (Elt F) f2) (arg5.view.read (Elt F) f5) (arg6.view.read (Elt F) f6) (arg7.view.read (Elt F) f7) (arg8.view.read (Elt F) f8)
          (arg14.view.read (Elt F) f14) (arg15.view.read (Elt F) f15) (arg18.view.read (Elt F) f18, arg19.view.read (Elt F) f19, arg12.view.read (Elt F) f12, arg13.view.read (Elt F) f13))) := by
  rw [cc0_s5_scan_bwd0_eq_skeleton]
  unfold cc0_s5_scan_bwd0_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  iintro ⟨H1, H2, H5, H6, H7, H8, H9, H10, H11, H12, H13, H14, H15, H16, H17, H18, H19⟩
  sl_exec
  rw [View.readAt_full arg5.view f5, View.readAt_full arg6.view f6, View.readAt_full arg18.view f18, View.readAt_full arg19.view f19, View.readAt_full arg12.view f12, View.readAt_full arg13.view f13]
  rw [show k0_pay44 (F := F) (arg12.view.read (Elt F) f12) = arg12.view.read (Elt F) f12 from shapeCast_self _ _, show k0_pay45 (F := F) (arg13.view.read (Elt F) f13) = arg13.view.read (Elt F) f13 from shapeCast_self _ _]
  sl_for (inv (F := F) arg7 arg8 arg16 arg17 (arg5.view.read (Elt F) f5) (arg6.view.read (Elt F) f6) c f7 f8
      (gRe (k0_pay13 (arg1.view.read (Elt F) f1) (arg2.view.read (Elt F) f2)) (arg14.view.read (Elt F) f14))
      (gIm (k0_pay13 (arg1.view.read (Elt F) f1) (arg2.view.read (Elt F) f2)) (arg15.view.read (Elt F) f15))
      (arg18.view.read (Elt F) f18, arg19.view.read (Elt F) f19, arg12.view.read (Elt F) f12, arg13.view.read (Elt F) f13)) $$ [H7 H8 H16 H17]
  · intro k acc
    exact step (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v202_r0 v202_r1 _ _ 𝒱 c bd E f7 f8 _ _ _ k acc
  · isplitl [H7]; · iexact H7
    isplitl [H8]; · iexact H8
    isplitl [H16]
    · iexists _; isplitr; swap; (· iexact H16)
      ipureintro
      rw [lamRe_zero]
      unfold later.sl.H16_8 later.sl.v36 later.sl.v52 later.sl.v68 later.sl.v84 later.sl.v100 later.sl.v116 later.sl.v132 later.sl.v148 later.sl.H9_1
      rw [View.readAt_full arg1.view f1, View.readAt_full arg2.view f2]
      refine (read_groups arg16 _ (fun g => k0_pay22 (cols (k0_pay13 (arg1.view.read (Elt F) f1) (arg2.view.read (Elt F) f2)) g) (grp (arg14.view.read (Elt F) f14) g)) _ _ _ _ _ _ _ _ _ _ _ _ _ _ _ _ ?_ ?_ ?_ ?_ ?_ ?_ ?_ ?_).trans rfl
      · rw [readCov_cols arg9 _ 0 0 rfl, readAt_grp arg14 _ 0 0 rfl] <;> rfl
      · rw [readCov_cols arg9 _ 256 1 rfl, readAt_grp arg14 _ 1 1 rfl] <;> rfl
      · rw [readCov_cols arg9 _ 512 2 rfl, readAt_grp arg14 _ 2 2 rfl] <;> rfl
      · rw [readCov_cols arg9 _ 768 3 rfl, readAt_grp arg14 _ 3 3 rfl] <;> rfl
      · rw [readCov_cols arg9 _ 1024 4 rfl, readAt_grp arg14 _ 4 4 rfl] <;> rfl
      · rw [readCov_cols arg9 _ 1280 5 rfl, readAt_grp arg14 _ 5 5 rfl] <;> rfl
      · rw [readCov_cols arg9 _ 1536 6 rfl, readAt_grp arg14 _ 6 6 rfl] <;> rfl
      · rw [readCov_cols arg9 _ 1792 7 rfl, readAt_grp arg14 _ 7 7 rfl] <;> rfl
    isplitl [H17]
    · iexists _; isplitr; swap; (· iexact H17)
      ipureintro
      rw [lamIm_zero]
      unfold later.sl.H17_8 later.sl.v36 later.sl.v52 later.sl.v68 later.sl.v84 later.sl.v100 later.sl.v116 later.sl.v132 later.sl.v148 later.sl.H9_1
      rw [View.readAt_full arg1.view f1, View.readAt_full arg2.view f2]
      refine (read_groups arg17 _ (fun g => k0_pay24 (k0_pay23 (cols (k0_pay13 (arg1.view.read (Elt F) f1) (arg2.view.read (Elt F) f2)) g) (grp (arg15.view.read (Elt F) f15) g))) _ _ _ _ _ _ _ _ _ _ _ _ _ _ _ _ ?_ ?_ ?_ ?_ ?_ ?_ ?_ ?_).trans rfl
      · rw [readCov_cols arg9 _ 0 0 rfl, readAt_grp arg15 _ 0 0 rfl] <;> rfl
      · rw [readCov_cols arg9 _ 256 1 rfl, readAt_grp arg15 _ 1 1 rfl] <;> rfl
      · rw [readCov_cols arg9 _ 512 2 rfl, readAt_grp arg15 _ 2 2 rfl] <;> rfl
      · rw [readCov_cols arg9 _ 768 3 rfl, readAt_grp arg15 _ 3 3 rfl] <;> rfl
      · rw [readCov_cols arg9 _ 1024 4 rfl, readAt_grp arg15 _ 4 4 rfl] <;> rfl
      · rw [readCov_cols arg9 _ 1280 5 rfl, readAt_grp arg15 _ 5 5 rfl] <;> rfl
      · rw [readCov_cols arg9 _ 1536 6 rfl, readAt_grp arg15 _ 6 6 rfl] <;> rfl
      · rw [readCov_cols arg9 _ 1792 7 rfl, readAt_grp arg15 _ 7 7 rfl] <;> rfl
    ipureintro; rfl
  · iintro %acc ⟨H7, H8, ⟨%g16, %h16, H16⟩, ⟨%g17, %h17, H17⟩, %hacc⟩
    rw [show Scf.trips k0_t1_loop.lb k0_t1_loop.ub k0_t1_loop.st = 128 from trips_eq] at h16 h17 hacc
    subst hacc
    sl_exec
    sl_step
    rw [View.readAt_full arg16.view g16, View.readAt_full arg17.view g17, h16, h17]
    isplitl [H1]; · iexact H1
    isplitl [H2]; · iexact H2
    isplitl [H5]; · iexact H5
    isplitl [H6]; · iexact H6
    isplitl [H7]; · iexact H7
    isplitl [H8]; · iexact H8
    isplitl [H9]; · iexists _; isplitr; swap; (· iexact H9); ipureintro; unfold later.sl.H9_1; rw [View.readAt_full arg1.view f1, View.readAt_full arg2.view f2]; exact View.read_writes_full _ _ _ _ _
    isplitl [H10]; · iexists _; isplitr; swap; (· iexact H10); ipureintro; exact View.read_writes_full _ _ _ _ _
    isplitl [H11]; · iexists _; isplitr; swap; (· iexact H11); ipureintro; exact View.read_writes_full _ _ _ _ _
    isplitl [H12]; · iexists _; isplitr; swap; (· iexact H12); ipureintro; exact View.read_writes_full _ _ _ _ _
    isplitl [H13]; · iexists _; isplitr; swap; (· iexact H13); ipureintro; exact View.read_writes_full _ _ _ _ _
    isplitl [H14]; · iexists _; isplitr; swap; (· iexact H14); ipureintro; rfl
    isplitl [H15]; · iexists _; isplitr; swap; (· iexact H15); ipureintro; rfl
    isplitl [H16]; · iexists _; iexact H16
    isplitl [H17]; · iexists _; iexact H17
    isplitl [H18]; · iexists _; isplitr; swap; (· iexact H18); ipureintro; exact (View.read_writes_full _ _ _ _ _).trans (shapeCast_self _ _)
    iexists _; isplitr; swap; (· iexact H19); ipureintro; exact (View.read_writes_full _ _ _ _ _).trans (shapeCast_self _ _)
end

end Cert.Scan

end
-- ==== Proof.Rows.lean ====
module

public import proofs.«01_k».proof.Proof.Gelu
public import proofs.«01_k».proof.Proof.RefEntry
public import proofs.«01_k».proof.Proof.Point
public import Idealize.ShloMosaic.Lib.Pointwise

/-! The gradients of the states before the recurrence, at the extended reals: the kernel's blocks hold the reference's rows. -/

@[expose] public section

set_option maxRecDepth 16384

noncomputable section

namespace Cert.Scan

open Idealize.ShloMosaic

theorem named_g : (Named.named Cert.KernelIdeal.κ "g" 0x3D372713#32 : Ideal .f32) = ((8943 / 200000 : ℝ) : EReal) := rfl
theorem named_g3 : (Named.named Cert.KernelIdeal.κ "g3" 0x3E095D4F#32 : Ideal .f32) = ((26829 / 200000 : ℝ) : EReal) := rfl

/-- An entry of a block's gradient of the layer before gelu. -/
theorem dy_block (ct : Vec Ideal Cert.KernelIdeal.S128x2048 .bf16) (yp : Vec Ideal Cert.KernelIdeal.S128x2048 .f32) (y) :
    Cert.KernelIdeal.Gen.k0_pay13 (F := Ideal) ct yp y = (ct y : EReal) * slopeK (yp y) := rfl

/-- The same of the reference. -/
theorem dy_ref (ct : FVec Ideal Cert.ReferenceIdeal.S2048x2048 .bf16) (x : FVec Ideal Cert.ReferenceIdeal.S2048x2048 .f32) (y) :
    Ref.dyOf (F := Ideal) ct x y = (ct y : EReal) * slopeR (x y) := rfl

/-- A row's sum over one group's 256 columns. -/
def rowSum (dy : Fin 2048 → Fin 2048 → EReal) (cc : Fin 8 → Fin 1024 → Fin 256 → EReal) (j : Fin 2048) (g : Fin 8) (n : Fin 1024) : EReal :=
  ∑ k : Fin 256, dy j ⟨256 * g.val + k.val, by omega⟩ * cc g n k

theorem rows_ref (dy : FVec Ideal Cert.ReferenceIdeal.S2048x2048 .f32) (cc : FVec Ideal Cert.ReferenceIdeal.S8x1024x256 .bf16) (j : Fin 2048) (g : Fin 8) (n : Fin 1024) :
    Ref.rowsOf (F := Ideal) dy cc (ValueIdx.ix3 j g n) = rowSum (fun j k => dy (ValueIdx.ix2 j k)) (fun g n k => cc (ValueIdx.ix3 g n k)) j g n := by
  unfold Ref.rowsOf Cert.ReferenceIdeal.dot_S8x256x2048_S8x1024x256_S8x2048x1024_1_2_2_1_0_0
  simp only [pointwise]
  refine (zero_add _).trans (Finset.sum_congr rfl fun k _ => ?_)
  refine congrArg₂ (fun a b : EReal => a * b) (congrArg dy (funext fun a => Fin.ext ?_)) (congrArg cc (funext fun a => Fin.ext ?_))
  · fin_cases a
    · rfl
    · exact congrArg (· + k.val) (Nat.mul_comm g.val 256)
  · fin_cases a <;> rfl

theorem rows_block (d : Vec Ideal Cert.KernelIdeal.S128x2048 .bf16) (cc : Vec Ideal Cert.KernelIdeal.S8x1024x256 .bf16) (y : Fin 128) (g : Fin 8) (n : Fin 1024) :
    gRe (F := Ideal) d cc (ValueIdx.ix3 y g n) = (∑ k : Fin 256, (d (ValueIdx.ix2 y ⟨256 * g.val + k.val, by omega⟩) : EReal) * cc (ValueIdx.ix3 g n k) : EReal) := by
  unfold gRe Cert.KernelIdeal.Gen.k0_pay22 Cert.KernelIdeal.Gen.k0_pay21 Cert.KernelIdeal.dot_S128x256_S1024x256_S128x1024_1_1_0_0_n_n
  simp only [pointwise]
  refine (zero_add _).trans (Finset.sum_congr rfl fun k _ => ?_)
  refine congrArg₂ (fun a b : EReal => a * b) (congrArg d (funext fun a => Fin.ext ?_)) (congrArg cc (funext fun a => Fin.ext ?_))
  · fin_cases a <;> rfl
  · fin_cases a <;> rfl

theorem rows_block_im (d : Vec Ideal Cert.KernelIdeal.S128x2048 .bf16) (cc : Vec Ideal Cert.KernelIdeal.S8x1024x256 .bf16) (y : Fin 128) (g : Fin 8) (n : Fin 1024) :
    gIm (F := Ideal) d cc (ValueIdx.ix3 y g n) = -(∑ k : Fin 256, (d (ValueIdx.ix2 y ⟨256 * g.val + k.val, by omega⟩) : EReal) * cc (ValueIdx.ix3 g n k) : EReal) := by
  rw [← rows_block]
  unfold gRe gIm Cert.KernelIdeal.Gen.k0_pay22 Cert.KernelIdeal.Gen.k0_pay23 Cert.KernelIdeal.Gen.k0_pay24 Cert.KernelIdeal.Gen.k0_pay21 Cert.KernelIdeal.dot_S128x256_S1024x256_S128x1024_1_1_0_0_n_n
  simp only [pointwise]
  exact (sub_eq_add_neg _ _).trans (zero_add _)

section
variable (ct y : Cert.ReferenceIdeal.S2048x2048.Idx → EReal) (cr ci : Cert.ReferenceIdeal.S8x1024x256.Idx → EReal)
  (ar ai : Cert.ReferenceIdeal.S8x1024.Idx → EReal) (sr si : Cert.ReferenceIdeal.S2048x8x1024.Idx → EReal)

/-- The gradient of the layer before gelu. -/
def dyV (j k : Fin 2048) : EReal := ct (ValueIdx.ix2 j k) * slopeK (y (ValueIdx.ix2 j k))

/-- The states' gradients before the recurrence, by row. -/
def srcRe (g : Fin 8) (n : Fin 1024) (j : ℕ) : EReal :=
  if h : j < 2048 then rowSum (dyV ct y) (fun g n k => cr (ValueIdx.ix3 g n k)) ⟨j, h⟩ g n else 0
def srcIm (g : Fin 8) (n : Fin 1024) (j : ℕ) : EReal :=
  if h : j < 2048 then -rowSum (dyV ct y) (fun g n k => ci (ValueIdx.ix3 g n k)) ⟨j, h⟩ g n else 0

/-- The walk at a group and state. -/
def walkV (g : Fin 8) (n : Fin 1024) : ℕ → Four :=
  walk (ar (ValueIdx.ix2 g n)) (ai (ValueIdx.ix2 g n)) (srcRe ct y cr g n) (srcIm ct y ci g n) (Ref.col sr g n) (Ref.col si g n)

/-- Where the walk ends. -/
@[irreducible] def ended (g : Fin 8) (n : Fin 1024) : Four := walkV ct y cr ci ar ai sr si g n 2048
theorem ended_eq (g : Fin 8) (n : Fin 1024) : ended ct y cr ci ar ai sr si g n = walkV ct y cr ci ar ai sr si g n 2048 := by unfold ended; rfl
end

end Cert.Scan

end
-- ==== Proof.RefValue.lean ====
module

public import proofs.«01_k».proof.Proof.Rows
public import proofs.«01_k».proof.Proof.RefRun

/-! What the reference's results are, over the extended reals. -/

@[expose] public section

set_option maxRecDepth 16384

noncomputable section

namespace Cert.Scan.Ref

open Cert.ReferenceIdeal Cert.ReferenceIdeal.Gen Cert.ReferenceIdeal.Value
open Idealize.ShloMosaic Idealize.ShloMosaic.TcCoe Idealize.ShloMosaic.StableHlo Idealize.SL.Sem

variable (m : (ℓ : Loc nD τ sig) → Buf (Elt Ideal) ℓ) (c : Dev nD)

/-- The arguments, as arrays of numbers. -/
abbrev argCt : S2048x2048.Idx → EReal := m ((c.tc : Thread nD τ).loc main_arg0)
abbrev argY : S2048x2048.Idx → EReal := m ((c.tc : Thread nD τ).loc main_arg1)
abbrev argCr : S8x1024x256.Idx → EReal := m ((c.tc : Thread nD τ).loc main_arg2)
abbrev argCi : S8x1024x256.Idx → EReal := m ((c.tc : Thread nD τ).loc main_arg3)
abbrev argAr : S8x1024.Idx → EReal := m ((c.tc : Thread nD τ).loc main_arg4)
abbrev argAi : S8x1024.Idx → EReal := m ((c.tc : Thread nD τ).loc main_arg5)
abbrev argSr : S2048x8x1024.Idx → EReal := m ((c.tc : Thread nD τ).loc main_arg6)
abbrev argSi : S2048x8x1024.Idx → EReal := m ((c.tc : Thread nD τ).loc main_arg7)

theorem dyOf_eq (ct : FVec Ideal S2048x2048 .bf16) (y : FVec Ideal S2048x2048 .f32) (j k : Fin 2048) :
    dyOf (F := Ideal) ct y (ValueIdx.ix2 j k) = dyV ct y j k := by
  rw [dy_ref, ← slope_eq]; rfl

theorem col_rows (ct : FVec Ideal S2048x2048 .bf16) (y : FVec Ideal S2048x2048 .f32) (cr : FVec Ideal S8x1024x256 .bf16) (g : Fin 8) (n : Fin 1024) :
    col (rowsOf (F := Ideal) (dyOf ct y) cr) g n = srcRe ct y cr g n := by
  funext j
  unfold col srcRe
  split
  · rw [rows_ref]
    exact congrArg (fun d => rowSum d _ _ g n) (funext fun j => funext fun k => dyOf_eq ct y j k)
  · rfl

theorem col_rows_im (ct : FVec Ideal S2048x2048 .bf16) (y : FVec Ideal S2048x2048 .f32) (ci : FVec Ideal S8x1024x256 .bf16) (g : Fin 8) (n : Fin 1024) :
    col (Host.negf (F := Ideal) (rowsOf (F := Ideal) (dyOf ct y) ci)) g n = srcIm ct y ci g n := by
  funext j
  have h := congrFun (col_rows ct y ci g n) j
  unfold col srcIm
  unfold col srcRe at h
  split
  · rename_i hj
    rw [dif_pos hj, dif_pos hj] at h
    exact congrArg (fun x : EReal => -x) h
  · rfl

theorem zeros_at (g : Fin 8) (n : Fin 1024) : two (zeros (F := Ideal)) g n = 0 := by
  unfold two zeros
  simp only [pointwise]
  try simp

theorem shifted_at (s : S2048x8x1024.Idx → EReal) (g : Fin 8) (n : Fin 1024) (j : ℕ) (hj : j < 2048) :
    col (shifted (F := Ideal) s) g n j = before (col s g n) j := by
  unfold col
  rw [dif_pos hj]
  unfold shifted before
  simp only [pointwise]
  rcases Nat.eq_zero_or_pos j with rfl | h
  · rw [dif_pos (show 0 < ![1, 8, 1024] 0 by decide), if_pos rfl]
  · rw [dif_neg (show ¬ j < ![1, 8, 1024] 0 by show ¬ j < 1; omega), if_neg h.ne', dif_pos (show j - 1 < 2048 by omega)]
    refine congrArg s (funext fun a => Fin.ext ?_)
    match a with
    | 0 => exact Nat.zero_add _
    | 1 => exact Nat.zero_add _
    | 2 => exact Nat.zero_add _

/-- The loop's entry. -/
abbrev X0 : Valuation τ sig (Elt Ideal) := entryContents preI m c

theorem X0_col (g : Fin 8) (n : Fin 1024) : col (X0 m c (Proc.devRef .tc main_v67_0)) g n = srcRe (argCt m c) (argY m c) (argCr m c) g n
    ∧ col (X0 m c (Proc.devRef .tc main_v67_1)) g n = srcIm (argCt m c) (argY m c) (argCi m c) g n :=
  ⟨(congrArg (col · g n) (entry_0 (F := Ideal) _)).trans (col_rows _ _ _ g n), (congrArg (col · g n) (entry_1 (F := Ideal) _)).trans (col_rows_im _ _ _ g n)⟩

theorem X0_two (g : Fin 8) (n : Fin 1024) : two (X0 m c (Proc.devRef .tc main_v67_4)) g n = argAr m c (ValueIdx.ix2 g n)
    ∧ two (X0 m c (Proc.devRef .tc main_v67_5)) g n = argAi m c (ValueIdx.ix2 g n)
    ∧ two (X0 m c (Proc.devRef .tc main_v67_8)) g n = 0 ∧ two (X0 m c (Proc.devRef .tc main_v67_9)) g n = 0
    ∧ two (X0 m c (Proc.devRef .tc main_v67_10)) g n = 0 ∧ two (X0 m c (Proc.devRef .tc main_v67_11)) g n = 0 := by
  obtain ⟨e4, e5, -, e8, e9, e10, e11⟩ := entry_rest (F := Ideal) (launchContents m c)
  exact ⟨congrArg (two · g n) e4, congrArg (two · g n) e5, (congrArg (two · g n) e8).trans (zeros_at g n), (congrArg (two · g n) e9).trans (zeros_at g n),
    (congrArg (two · g n) e10).trans (zeros_at g n), (congrArg (two · g n) e11).trans (zeros_at g n)⟩

theorem X0_shifted (g : Fin 8) (n : Fin 1024) (j : ℕ) (hj : j < 2048) :
    col (X0 m c (Proc.devRef .tc main_v67_2)) g n j = before (col (argSr m c) g n) j
    ∧ col (X0 m c (Proc.devRef .tc main_v67_3)) g n j = before (col (argSi m c) g n) j :=
  ⟨(congrArg (col · g n j) (entry_2 (F := Ideal) (launchContents m c))).trans (shifted_at _ g n j hj),
    (congrArg (col · g n j) (entry_3 (F := Ideal) (launchContents m c))).trans (shifted_at _ g n j hj)⟩

/-- The walk of the reference's own arguments. -/
abbrev walkR : Fin 8 → Fin 1024 → ℕ → Four := walkV (argCt m c) (argY m c) (argCr m c) (argCi m c) (argAr m c) (argAi m c) (argSr m c) (argSi m c)
abbrev endedR : Fin 8 → Fin 1024 → Four := ended (argCt m c) (argY m c) (argCr m c) (argCi m c) (argAr m c) (argAi m c) (argSr m c) (argSi m c)

/-- The trips from the loop's entry, in terms of the arguments. -/
theorem tr_entry (g : Fin 8) (n : Fin 1024) (k : ℕ) :
    tr (X0 m c) g n k (col (argSr m c) g n) (col (argSi m c) g n)
      = trips (argAr m c (ValueIdx.ix2 g n)) (argAi m c (ValueIdx.ix2 g n)) (srcRe (argCt m c) (argY m c) (argCr m c) g n) (srcIm (argCt m c) (argY m c) (argCi m c) g n)
        (col (argSr m c) g n) (col (argSi m c) g n) k := by
  obtain ⟨e4, e5, -⟩ := X0_two m c g n
  obtain ⟨e0, e1⟩ := X0_col m c g n
  unfold tr
  rw [e4, e5, e0, e1]

/-- The carried sums after the last trip. -/
theorem sums_at (g : Fin 8) (n : Fin 1024) (k : ℕ) (hk : k = 2048) :
    two (at_ (X0 m c) k (Proc.devRef .tc main_v67_10)) g n = (endedR m c g n).2.2.1
    ∧ two (at_ (X0 m c) k (Proc.devRef .tc main_v67_11)) g n = (endedR m c g n).2.2.2 := by
  obtain ⟨-, -, e8, e9, e10, e11⟩ := X0_two m c g n
  have h := at_four (X0 m c) g n (entry_rest (F := Ideal) (launchContents m c)).2.2.1 (col (argSr m c) g n) (col (argSi m c) g n)
    (fun j hj => (X0_shifted m c g n j hj).1) (fun j hj => (X0_shifted m c g n j hj).2) e8 e9 e10 e11 k hk.le
  rw [tr_entry] at h
  have e := sums_end (argAr m c (ValueIdx.ix2 g n)) (argAi m c (ValueIdx.ix2 g n)) (srcRe (argCt m c) (argY m c) (argCr m c) g n) (srcIm (argCt m c) (argY m c) (argCi m c) g n)
        (col (argSr m c) g n) (col (argSi m c) g n)
  rw [← hk] at e
  have w : endedR m c g n = walkR m c g n k := by rw [hk]; exact ended_eq _ _ _ _ _ _ _ _ g n
  have h2 := (congrArg (fun z : Four => z.2.2) h).trans e
  rw [w]
  exact ⟨congrArg Prod.fst h2, congrArg Prod.snd h2⟩

/-- The kept adjoints after the last trip. -/
theorem rows_at (j : Fin 2048) (g : Fin 8) (n : Fin 1024) (k : ℕ) (hk : k = 2048) :
    tri (at_ (X0 m c) k (Proc.devRef .tc main_v67_12)) j g n = (walkR m c g n (2048 - j.val)).1
    ∧ tri (at_ (X0 m c) k (Proc.devRef .tc main_v67_13)) j g n = (walkR m c g n (2048 - j.val)).2.1 := by
  obtain ⟨-, -, e8, e9, e10, e11⟩ := X0_two m c g n
  obtain ⟨e0, e1⟩ := X0_col m c g n
  obtain ⟨h1, h2⟩ := at_rows (X0 m c) g n (entry_rest (F := Ideal) (launchContents m c)).2.2.1 (col (argSr m c) g n) (col (argSi m c) g n)
    (fun j hj => (X0_shifted m c g n j hj).1) (fun j hj => (X0_shifted m c g n j hj).2) e8 e9 e10 e11 k hk.le j (by omega)
  rw [tr_entry, e0] at h1
  rw [tr_entry, e1] at h2
  have t1 := trips_re (argAr m c (ValueIdx.ix2 g n)) (argAi m c (ValueIdx.ix2 g n)) (srcRe (argCt m c) (argY m c) (argCr m c) g n) (srcIm (argCt m c) (argY m c) (argCi m c) g n)
        (col (argSr m c) g n) (col (argSi m c) g n) (2047 - j.val)
  have t2 := trips_im (argAr m c (ValueIdx.ix2 g n)) (argAi m c (ValueIdx.ix2 g n)) (srcRe (argCt m c) (argY m c) (argCr m c) g n) (srcIm (argCt m c) (argY m c) (argCi m c) g n)
        (col (argSr m c) g n) (col (argSi m c) g n) (2047 - j.val)
  have hj := j.isLt
  rw [show 2047 - (2047 - j.val) = j.val by omega, show 2047 - j.val + 1 = 2048 - j.val by omega] at t1 t2
  exact ⟨h1.trans t1, h2.trans t2⟩

/-- A result made before the loop keeps its contents. -/
theorem final_40 : finalContents condOps preI bodyI postI 2048 m c (Proc.devRef .tc main_v40) = X0 m c (Proc.devRef .tc main_v40) :=
  final_entry m c main_v40 (by decide +kernel)

/-- What the last stretch leaves, from the loop's last valuation. -/
theorem final_loop (k : ℕ) (b : Ref sig .tc) (hb : b ∈ carriedRefs) (hp : b ∉ hostOps0_1_W) :
    finalContents condOps preI bodyI postI k m c (Proc.devRef .tc b) = at_ (X0 m c) k (Proc.devRef .tc b) := by
  show after hostOps0_1 (after condOps (atK m k c)) (Proc.devRef .tc b) = _
  rw [after_of_writes_sub hostOps0_1 _ hostOps0_1_writes hp, cond_keeps (atK m k c) b hb, atK_agree m c k b hb]

/-- The adjoints, stored group by group. -/
def swap (x : S2048x8x1024.Idx → EReal) : S8x2048x1024.Idx → EReal :=
  truncf (F := Ideal) .bf16 (transpose S8x2048x1024 [1, 0, 2] x transposes_S2048x8x1024_S8x2048x1024_1_0_2) bitsLt_bf16_f32

theorem swap_at (x : S2048x8x1024.Idx → EReal) (i : S8x2048x1024.Idx) : swap x i = tri x (i 1) (i 0) (i 2) := by
  unfold swap tri
  simp only [pointwise]
  exact congrArg x (funext fun b => by match b with | 0 => rfl | 1 => rfl | 2 => rfl)

theorem final_69 (k : ℕ) : finalContents condOps preI bodyI postI k m c (Proc.devRef .tc main_v69)
    = swap (at_ (X0 m c) k (Proc.devRef .tc main_v67_12)) := by
  show after hostOps0_1 (after condOps (atK m k c)) (Proc.devRef .tc main_v69) = _
  after_reads_simp
  rw [atK_agree m c k main_v67_12 (by decide)]
  rfl
theorem final_71 (k : ℕ) : finalContents condOps preI bodyI postI k m c (Proc.devRef .tc main_v71)
    = swap (at_ (X0 m c) k (Proc.devRef .tc main_v67_13)) := by
  show after hostOps0_1 (after condOps (atK m k c)) (Proc.devRef .tc main_v71) = _
  after_reads_simp
  rw [atK_agree m c k main_v67_13 (by decide)]
  rfl

/-- The reference's five results. -/
theorem result_0 : finalContents condOps preI bodyI postI 2048 m c (Proc.devRef .tc main_v40) = fun i : S2048x2048.Idx => dyV (argCt m c) (argY m c) (i 0) (i 1) := by
  rw [final_40]
  refine (entry_dy (F := Ideal) (launchContents m c)).trans (funext fun i => ?_)
  obtain ⟨j, k, rfl⟩ : ∃ (j k : Fin 2048), i = ValueIdx.ix2 j k := ⟨i 0, i 1, ValueIdx.eq_ix2 i⟩
  exact dyOf_eq _ _ j k
theorem result_1 (k : ℕ) (hk : k = 2048) : finalContents condOps preI bodyI postI k m c (Proc.devRef .tc main_v69)
    = fun i : S8x2048x1024.Idx => (walkR m c (i 0) (i 2) (2048 - (i 1).val)).1 := by
  rw [final_69]
  exact funext fun i => (swap_at _ i).trans (rows_at m c (i 1) (i 0) (i 2) k hk).1
theorem result_2 (k : ℕ) (hk : k = 2048) : finalContents condOps preI bodyI postI k m c (Proc.devRef .tc main_v71)
    = fun i : S8x2048x1024.Idx => (walkR m c (i 0) (i 2) (2048 - (i 1).val)).2.1 := by
  rw [final_71]
  exact funext fun i => (swap_at _ i).trans (rows_at m c (i 1) (i 0) (i 2) k hk).2
theorem result_3 (k : ℕ) (hk : k = 2048) : finalContents condOps preI bodyI postI k m c (Proc.devRef .tc main_v67_10)
    = fun i : S8x1024.Idx => (endedR m c (i 0) (i 1)).2.2.1 := by
  rw [final_loop m c k main_v67_10 (by decide) (by decide +kernel)]
  funext i
  obtain ⟨g, n, rfl⟩ : ∃ (g : Fin 8) (n : Fin 1024), i = ValueIdx.ix2 g n := ⟨i 0, i 1, ValueIdx.eq_ix2 i⟩
  exact (sums_at m c g n k hk).1
theorem result_4 (k : ℕ) (hk : k = 2048) : finalContents condOps preI bodyI postI k m c (Proc.devRef .tc main_v67_11)
    = fun i : S8x1024.Idx => (endedR m c (i 0) (i 1)).2.2.2 := by
  rw [final_loop m c k main_v67_11 (by decide) (by decide +kernel)]
  funext i
  obtain ⟨g, n, rfl⟩ : ∃ (g : Fin 8) (n : Fin 1024), i = ValueIdx.ix2 g n := ⟨i 0, i 1, ValueIdx.eq_ix2 i⟩
  exact (sums_at m c g n k hk).2

end Cert.Scan.Ref

end
-- ==== Proof.First.lean ====
module

public import proofs.«01_k».proof.Proof.Point

@[expose] public section

set_option maxRecDepth 16384

noncomputable section

namespace Cert.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resources' model. -/
local notation "𝕄" => MT nD τ sig Unit (Elt F) ℕ (UU nD τ) ℕ

/-- The two semaphores of the kernel's own transfers. -/
abbrev osem : Fin 2 → SemLoc sig := fun | 0 => .dma 18 | 1 => .dma 19
/-- Their counters at zero. -/
abbrev sems0 (c : Dev nD) : sProp 𝕄 := iprop(semVal ((c : Thread nD τ), osem 0) 0 ∗ semVal ((c : Thread nD τ), osem 1) 0)

/-- The state a walk starts from: zeros. -/
def zero : Carry F := (k0_pay14, k0_pay15, k0_pay16, k0_pay17)

section
variable (i : grid0.Coords) (arg1 : Memref sig .tc .vmem S128x2048 .bf16) (harg1 : arg1.IsWhole) (arg2 : Memref sig .tc .vmem S128x2048 .f32) (harg2 : arg2.IsWhole) (arg5 : Memref sig .tc .vmem S8x1024 .f32) (harg5 : arg5.IsWhole) (arg6 : Memref sig .tc .vmem S8x1024 .f32) (harg6 : arg6.IsWhole) (arg7 : Memref sig .tc .vmem S128x8x1024 .f32) (harg7 : arg7.IsWhole) (arg8 : Memref sig .tc .vmem S128x8x1024 .f32) (harg8 : arg8.IsWhole) (arg9 : Memref sig .tc .vmem S128x2048 .bf16) (harg9 : arg9.IsWhole) (arg10 : Memref sig .tc .vmem S8x128x1024 .bf16) (harg10 : arg10.IsWhole) (arg11 : Memref sig .tc .vmem S8x128x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024x256 .bf16) (harg14 : arg14.IsWhole) (arg15 : Memref sig .tc .vmem S8x1024x256 .bf16) (harg15 : arg15.IsWhole) (arg16 : Memref sig .tc .vmem S128x8x1024 .f32) (harg16 : arg16.IsWhole) (arg17 : Memref sig .tc .vmem S128x8x1024 .f32) (harg17 : arg17.IsWhole) (arg18 : Memref sig .tc .vmem S8x1024 .f32) (harg18 : arg18.IsWhole) (arg19 : Memref sig .tc .vmem S8x1024 .f32) (harg19 : arg19.IsWhole)

set_option maxHeartbeats 4000000 in
/-- The first point: the matrices are copied in, and the carried state is zeros. -/
theorem first (𝒱 : Variants) (c : Dev nD) (bd : Option 𝒱.V)
    (hc : Scalar.cmpi .ne (Scalar.extui (Scalar.cmpi .eq (BitVec.ofNat 32 (i 0).val) 0#32) : BitVec 32) 0#32 = 1#1)
    (f3 : Bf (F := F) c (Memref.whole main_arg2)) (f4 : Bf (F := F) c (Memref.whole main_arg3))
    (f1 : Bf (F := F) c arg1) (f2 : Bf (F := F) c arg2) (f5 : Bf (F := F) c arg5) (f6 : Bf (F := F) c arg6)
    (f7 : Bf (F := F) c arg7) (f8 : Bf (F := F) c arg8) (f9 : Bf (F := F) c arg9) (f10 : Bf (F := F) c arg10) (f11 : Bf (F := F) c arg11)
    (f12 : Bf (F := F) c arg12) (f13 : Bf (F := F) c arg13) (f14 : Bf (F := F) c arg14) (f15 : Bf (F := F) c arg15)
    (f16 : Bf (F := F) c arg16) (f17 : Bf (F := F) c arg17) (f18 : Bf (F := F) c arg18) (f19 : Bf (F := F) c arg19) (W : Waits sig Unit) :
    iprop(pt c arg1 f1 ∗ pt c arg2 f2 ∗ pt c arg5 f5 ∗ pt c arg6 f6 ∗ pt c arg7 f7 ∗ pt c arg8 f8 ∗ pt c arg9 f9 ∗ pt c arg10 f10
      ∗ pt c arg11 f11 ∗ pt c arg12 f12 ∗ pt c arg13 f13 ∗ pt c arg14 f14 ∗ pt c arg15 f15 ∗ pt c arg16 f16 ∗ pt c arg17 f17
      ∗ pt c arg18 f18 ∗ pt c arg19 f19 ∗ pt c (Memref.whole main_arg2) f3 ∗ pt c (Memref.whole main_arg3) f4 ∗ sems0 (F := F) c ∗ owes (c : Thread nD τ) 0 W)
    ⊢ wp frame (wpE (defs₀ (F := F)) 𝒱 c bd) Set.univ (cc0_s5_scan_bwd0 (F := F) i arg1 harg1 arg2 harg2 (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 harg16 arg17 harg17 arg18 harg18 arg19 harg19 cc0_scoped0 cc0_scoped1) (fun _ => iprop(
      post (F := F) arg1 arg2 arg5 arg6 arg7 arg8 arg9 arg10 arg11 arg12 arg13 arg14 arg15 arg16 arg17 arg18 arg19 c f1 f2 f5 f6 f7 f8
        (k0_pay13 (arg1.view.read (Elt F) f1) (arg2.view.read (Elt F) f2)) f3 f4
        (blockRe (arg1.view.read (Elt F) f1) (arg2.view.read (Elt F) f2) (arg5.view.read (Elt F) f5) (arg6.view.read (Elt F) f6) (arg7.view.read (Elt F) f7) (arg8.view.read (Elt F) f8)
          f3 f4 zero)
        (blockIm (arg1.view.read (Elt F) f1) (arg2.view.read (Elt F) f2) (arg5.view.read (Elt F) f5) (arg6.view.read (Elt F) f6) (arg7.view.read (Elt F) f7) (arg8.view.read (Elt F) f8)
          f3 f4 zero)
        (blockCarry (arg1.view.read (Elt F) f1) (arg2.view.read (Elt F) f2) (arg5.view.read (Elt F) f5) (arg6.view.read (Elt F) f6) (arg7.view.read (Elt F) f7) (arg8.view.read (Elt F) f8)
          f3 f4 zero)
      ∗ pt c (Memref.whole main_arg2) f3 ∗ pt c (Memref.whole main_arg3) f4 ∗ sems0 (F := F) c ∗ ∃ W, owes (c : Thread nD τ) 0 W)) := by
  rw [cc0_s5_scan_bwd0_eq_skeleton]
  unfold cc0_s5_scan_bwd0_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  iintro ⟨H1, H2, H5, H6, H7, H8, H9, H10, H11, H12, H13, H14, H15, H16, H17, H18, H19, H3, H4, ⟨Hd0, Hd1⟩, HO⟩
  sl_exec!
  have h14 : arg14.view.read (Elt F) (View.write (Elt F) arg14.view f14 (first.sl.dma4 c f3) Finset.univ) = f3 := (View.read_write_univ _ _).trans rfl
  have h15 : arg15.view.read (Elt F) (View.write (Elt F) arg15.view f15 (first.sl.dma4_1 c f4) Finset.univ) = f4 := (View.read_write_univ _ _).trans rfl
  rw [View.readAt_full arg5.view f5, View.readAt_full arg6.view f6,
    show first.sl.v166 (F := F) arg18 = k0_pay14 from View.readCov_full _ _ _ _ _, show first.sl.v167 (F := F) arg19 = k0_pay15 from View.readCov_full _ _ _ _ _,
    show k0_pay44 (F := F) (first.sl.v168 arg12) = k0_pay16 from (shapeCast_self _ _).trans (View.readCov_full _ _ _ _ _),
    show k0_pay45 (F := F) (first.sl.v170 arg13) = k0_pay17 from (shapeCast_self _ _).trans (View.readCov_full _ _ _ _ _)]
  sl_for (inv (F := F) arg7 arg8 arg16 arg17 (arg5.view.read (Elt F) f5) (arg6.view.read (Elt F) f6) c f7 f8
      (gRe (k0_pay13 (arg1.view.read (Elt F) f1) (arg2.view.read (Elt F) f2)) f3)
      (gIm (k0_pay13 (arg1.view.read (Elt F) f1) (arg2.view.read (Elt F) f2)) f4)
      zero) $$ [H7 H8 H16 H17]
  · intro k acc
    exact step (F := F) i arg1 harg1 arg2 harg2 (Memref.whole main_arg2) (Memref.isWhole_whole _) (Memref.whole main_arg3) (Memref.isWhole_whole _) arg5 harg5 arg6 harg6 arg7 harg7 arg8 harg8 arg9 harg9 arg10 harg10 arg11 harg11 arg12 harg12 arg13 harg13 arg14 harg14 arg15 harg15 arg16 harg16 arg17 harg17 arg18 harg18 arg19 harg19 cc0_scoped0 cc0_scoped1 _ _ 𝒱 c bd Set.univ f7 f8 _ _ _ k acc
  · isplitl [H7]; · iexact H7
    isplitl [H8]; · iexact H8
    isplitl [H16]
    · iexists _; isplitr; swap; (· iexact H16)
      ipureintro
      rw [lamRe_zero]
      unfold first.sl.H16_8 first.sl.v36 first.sl.v52 first.sl.v68 first.sl.v84 first.sl.v100 first.sl.v116 first.sl.v132 first.sl.v148 first.sl.H9_1
      rw [View.readAt_full arg1.view f1, View.readAt_full arg2.view f2]
      refine (read_groups arg16 _ (fun g => k0_pay22 (cols (k0_pay13 (arg1.view.read (Elt F) f1) (arg2.view.read (Elt F) f2)) g) (grp f3 g)) _ _ _ _ _ _ _ _ _ _ _ _ _ _ _ _ ?_ ?_ ?_ ?_ ?_ ?_ ?_ ?_).trans rfl
      · rw [readCov_cols arg9 _ 0 0 rfl, readAt_grp arg14 _ 0 0 rfl, h14] <;> rfl
      · rw [readCov_cols arg9 _ 256 1 rfl, readAt_grp arg14 _ 1 1 rfl, h14] <;> rfl
      · rw [readCov_cols arg9 _ 512 2 rfl, readAt_grp arg14 _ 2 2 rfl, h14] <;> rfl
      · rw [readCov_cols arg9 _ 768 3 rfl, readAt_grp arg14 _ 3 3 rfl, h14] <;> rfl
      · rw [readCov_cols arg9 _ 1024 4 rfl, readAt_grp arg14 _ 4 4 rfl, h14] <;> rfl
      · rw [readCov_cols arg9 _ 1280 5 rfl, readAt_grp arg14 _ 5 5 rfl, h14] <;> rfl
      · rw [readCov_cols arg9 _ 1536 6 rfl, readAt_grp arg14 _ 6 6 rfl, h14] <;> rfl
      · rw [readCov_cols arg9 _ 1792 7 rfl, readAt_grp arg14 _ 7 7 rfl, h14] <;> rfl
    isplitl [H17]
    · iexists _; isplitr; swap; (· iexact H17)
      ipureintro
      rw [lamIm_zero]
      unfold first.sl.H17_8 first.sl.v36 first.sl.v52 first.sl.v68 first.sl.v84 first.sl.v100 first.sl.v116 first.sl.v132 first.sl.v148 first.sl.H9_1
      rw [View.readAt_full arg1.view f1, View.readAt_full arg2.view f2]
      refine (read_groups arg17 _ (fun g => k0_pay24 (k0_pay23 (cols (k0_pay13 (arg1.view.read (Elt F) f1) (arg2.view.read (Elt F) f2)) g) (grp f4 g))) _ _ _ _ _ _ _ _ _ _ _ _ _ _ _ _ ?_ ?_ ?_ ?_ ?_ ?_ ?_ ?_).trans rfl
      · rw [readCov_cols arg9 _ 0 0 rfl, readAt_grp arg15 _ 0 0 rfl, h15] <;> rfl
      · rw [readCov_cols arg9 _ 256 1 rfl, readAt_grp arg15 _ 1 1 rfl, h15] <;> rfl
      · rw [readCov_cols arg9 _ 512 2 rfl, readAt_grp arg15 _ 2 2 rfl, h15] <;> rfl
      · rw [readCov_cols arg9 _ 768 3 rfl, readAt_grp arg15 _ 3 3 rfl, h15] <;> rfl
      · rw [readCov_cols arg9 _ 1024 4 rfl, readAt_grp arg15 _ 4 4 rfl, h15] <;> rfl
      · rw [readCov_cols arg9 _ 1280 5 rfl, readAt_grp arg15 _ 5 5 rfl, h15] <;> rfl
      · rw [readCov_cols arg9 _ 1536 6 rfl, readAt_grp arg15 _ 6 6 rfl, h15] <;> rfl
      · rw [readCov_cols arg9 _ 1792 7 rfl, readAt_grp arg15 _ 7 7 rfl, h15] <;> rfl
    ipureintro; rfl
  · iintro %acc ⟨H7, H8, ⟨%g16, %h16, H16⟩, ⟨%g17, %h17, H17⟩, %hacc⟩
    rw [show Scf.trips k0_t1_loop.lb k0_t1_loop.ub k0_t1_loop.st = 128 from trips_eq] at h16 h17 hacc
    subst hacc
    sl_exec
    sl_step
    rw [View.readAt_full arg16.view g16, View.readAt_full arg17.view g17, h16, h17]
    isplitl [H1 H2 H5 H6 H7 H8 H9 H10 H11 H12 H13 H14 H15 H16 H17 H18 H19]
    · isplitl [H1]; · iexact H1
      isplitl [H2]; · iexact H2
      isplitl [H5]; · iexact H5
      isplitl [H6]; · iexact H6
      isplitl [H7]; · iexact H7
      isplitl [H8]; · iexact H8
      isplitl [H9]; · iexists _; isplitr; swap; (· iexact H9); ipureintro; unfold first.sl.H9_1; rw [View.readAt_full arg1.view f1, View.readAt_full arg2.view f2]; exact View.read_writes_full _ _ _ _ _
      isplitl [H10]; · iexists _; isplitr; swap; (· iexact H10); ipureintro; exact View.read_writes_full _ _ _ _ _
      isplitl [H11]; · iexists _; isplitr; swap; (· iexact H11); ipureintro; exact View.read_writes_full _ _ _ _ _
      isplitl [H12]; · iexists _; isplitr; swap; (· iexact H12); ipureintro; exact View.read_writes_full _ _ _ _ _
      isplitl [H13]; · iexists _; isplitr; swap; (· iexact H13); ipureintro; exact View.read_writes_full _ _ _ _ _
      isplitl [H14]; · iexists _; isplitr; swap; (· iexact H14); ipureintro; exact h14
      isplitl [H15]; · iexists _; isplitr; swap; (· iexact H15); ipureintro; exact h15
      isplitl [H16]; · iexists _; iexact H16
      isplitl [H17]; · iexists _; iexact H17
      isplitl [H18]; · iexists _; isplitr; swap; (· iexact H18); ipureintro; exact (View.read_writes_full _ _ _ _ _).trans (shapeCast_self _ _)
      iexists _; isplitr; swap; (· iexact H19); ipureintro; exact (View.read_writes_full _ _ _ _ _).trans (shapeCast_self _ _)
    isplitl [H3]; · iexact H3
    isplitl [H4]; · iexact H4
    isplitl [Hd0 Hd1]
    · isplitl [Hd0]; · iexact Hd0
      iexact Hd1
    iexists _; iexact HO

end

end Cert.Scan

end
-- ==== Proof.Walk.lean ====
module

public import proofs.«01_k».proof.Proof.Rows
public import proofs.«01_k».proof.Proof.Scan
public import proofs.«01_k».proof.Proof.First

/-! The kernel's carried state, at one group and state, is the walk of the recurrence: a block goes on where the block
before it stopped. -/

@[expose] public section

set_option maxRecDepth 16384

noncomputable section

namespace Cert.Scan

open Idealize.ShloMosaic
open Cert.KernelIdeal Cert.KernelIdeal.Gen

/-- The four carried numbers at a group and state. -/
def quad (C : Carry Ideal) (g : Fin 8) (n : Fin 1024) : Four :=
  (C.1 (ValueIdx.ix2 g n), C.2.1 (ValueIdx.ix2 g n), C.2.2.1 (ValueIdx.ix2 g n), C.2.2.2 (ValueIdx.ix2 g n))

section
variable (a b c d e : S8x1024.Idx → EReal) (r r' : S1x8x1024.Idx → EReal) (g : Fin 8) (n : Fin 1024)

theorem row_cast (x : S1x8x1024.Idx → EReal) (h) : shapeCast S8x1024 x h (ValueIdx.ix2 g n) = x (ValueIdx.ix3 0 g n) :=
  ValueIdx.shapeCast_1ab_ab_apply _ _ _ _

theorem pay5_at : k0_pay5 (F := Ideal) a b c d r (ValueIdx.ix2 g n)
    = (r (ValueIdx.ix3 0 g n) + (a (ValueIdx.ix2 g n) * c (ValueIdx.ix2 g n) + b (ValueIdx.ix2 g n) * d (ValueIdx.ix2 g n)) : EReal) :=
  congrArg (· + _) (row_cast g n r _)
theorem pay6_at : k0_pay6 (F := Ideal) a b c d r (ValueIdx.ix2 g n)
    = (r (ValueIdx.ix3 0 g n) + (a (ValueIdx.ix2 g n) * d (ValueIdx.ix2 g n) - b (ValueIdx.ix2 g n) * c (ValueIdx.ix2 g n)) : EReal) :=
  congrArg (· + _) (row_cast g n r _)
theorem pay3_at : k0_pay3 (F := Ideal) a b c r r' (ValueIdx.ix2 g n)
    = (c (ValueIdx.ix2 g n) + (a (ValueIdx.ix2 g n) * r (ValueIdx.ix3 0 g n) + b (ValueIdx.ix2 g n) * r' (ValueIdx.ix3 0 g n)) : EReal) :=
  congrArg₂ (fun x y : EReal => c (ValueIdx.ix2 g n) + (a (ValueIdx.ix2 g n) * x + b (ValueIdx.ix2 g n) * y)) (row_cast g n r _) (row_cast g n r' _)
theorem pay4_at : k0_pay4 (F := Ideal) a b c r r' (ValueIdx.ix2 g n)
    = (c (ValueIdx.ix2 g n) + (b (ValueIdx.ix2 g n) * r (ValueIdx.ix3 0 g n) - a (ValueIdx.ix2 g n) * r' (ValueIdx.ix3 0 g n)) : EReal) :=
  congrArg₂ (fun x y : EReal => c (ValueIdx.ix2 g n) + (b (ValueIdx.ix2 g n) * x - a (ValueIdx.ix2 g n) * y)) (row_cast g n r _) (row_cast g n r' _)
end

theorem rowOf_at (x : S128x8x1024.Idx → EReal) (j : Fin 128) (g : Fin 8) (n : Fin 1024) :
    rowOf (F := Ideal) x j.val (ValueIdx.ix3 0 g n) = x (ValueIdx.ix3 j g n) :=
  (dif_pos j.isLt).trans (congrArg x (funext fun a => by match a with | 0 => rfl | 1 => rfl | 2 => rfl))

variable (ar ai : S8x1024.Idx → EReal) (sr si gr gi : S128x8x1024.Idx → EReal) (C : Carry Ideal) (g : Fin 8) (n : Fin 1024)
  (u v s s' : ℕ → EReal) (t : ℕ) (ht : t < 16)
  (hu : ∀ y : Fin 128, gr (ValueIdx.ix3 y g n) = u (128 * (15 - t) + y.val))
  (hv : ∀ y : Fin 128, gi (ValueIdx.ix3 y g n) = v (128 * (15 - t) + y.val))
  (hs : ∀ y : Fin 128, sr (ValueIdx.ix3 y g n) = s (128 * (15 - t) + y.val))
  (hs' : ∀ y : Fin 128, si (ValueIdx.ix3 y g n) = s' (128 * (15 - t) + y.val))
  (hC : quad C g n = walk (ar (ValueIdx.ix2 g n)) (ai (ValueIdx.ix2 g n)) u v s s' (128 * t))
include ht hu hv hs hs' hC

/-- A block's trips continue the walk. -/
theorem carry_walk : ∀ k ≤ 128, quad (carry (F := Ideal) ar ai sr si gr gi C k) g n
    = walk (ar (ValueIdx.ix2 g n)) (ai (ValueIdx.ix2 g n)) u v s s' (128 * t + k)
  | 0, _ => hC
  | k + 1, hk => by
    have ih := carry_walk k (by omega)
    have e : 128 * (15 - t) + (127 - k) = 2047 - (128 * t + k) := by omega
    have row : ∀ (x : S128x8x1024.Idx → EReal) (f : ℕ → EReal), (∀ y : Fin 128, x (ValueIdx.ix3 y g n) = f (128 * (15 - t) + y.val)) →
        rowOf (F := Ideal) x (127 - k) (ValueIdx.ix3 0 g n) = f (2047 - (128 * t + k)) := fun x f h => by
      rw [← e, ← h ⟨127 - k, by omega⟩]; exact rowOf_at x ⟨127 - k, by omega⟩ g n
    rw [show 128 * t + (k + 1) = 128 * t + k + 1 from rfl]
    unfold walk
    rw [← ih]
    refine Prod.ext ?_ (Prod.ext ?_ (Prod.ext ?_ ?_))
    · exact (pay5_at _ _ _ _ _ g n).trans (congrArg (· + _) (row gr u hu))
    · exact (pay6_at _ _ _ _ _ g n).trans (congrArg (· + _) (row gi v hv))
    · refine (pay3_at _ _ _ _ _ g n).trans ?_
      rw [row sr s hs, row si s' hs']; rfl
    · refine (pay4_at _ _ _ _ _ g n).trans ?_
      rw [row sr s hs, row si s' hs']; rfl

/-- A block's adjoints, row by row. -/
theorem lam_walk (y : Fin 128) : lamRe (F := Ideal) ar ai sr si gr gi C 128 (ValueIdx.ix3 y g n)
      = (walk (ar (ValueIdx.ix2 g n)) (ai (ValueIdx.ix2 g n)) u v s s' (2048 - (128 * (15 - t) + y.val))).1
    ∧ lamIm (F := Ideal) ar ai sr si gr gi C 128 (ValueIdx.ix3 y g n)
      = (walk (ar (ValueIdx.ix2 g n)) (ai (ValueIdx.ix2 g n)) u v s s' (2048 - (128 * (15 - t) + y.val))).2.1 := by
  have h := carry_walk ar ai sr si gr gi C g n u v s s' t ht hu hv hs hs' hC (128 - y.val) (by omega)
  rw [show 128 * t + (128 - y.val) = 2048 - (128 * (15 - t) + y.val) by omega] at h
  have er : rest (ValueIdx.ix3 y g n) = ValueIdx.ix2 g n := funext fun a => by match a with | 0 => rfl | 1 => rfl
  have np : ¬ y.val + 128 < 128 := by omega
  constructor
  · refine (if_neg np).trans ?_
    rw [er, ← h]; rfl
  · refine (if_neg np).trans ?_
    rw [er, ← h]; rfl

end Cert.Scan

end
-- ==== Proof.Run.lean ====
module

public import proofs.«01_k».proof.Proof.First
public import proofs.«01_k».proof.Proof.Gen.KernelIdeal.Frame
public import Idealize.ShloMosaic.Lib.Pipeline.Regions

/-! The walk over the sixteen blocks, and the launch. The state a block ends with is the scratch's and the two
accumulators' at the next point; from it the pipeline's proof data, the body obligation and the run of the program. -/

@[expose] public section

set_option maxRecDepth 16384

noncomputable section

namespace Cert.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resources' model. -/
local notation "𝕄" => MT nD τ sig Unit (Elt F) ℕ (UU nD τ) ℕ

/-- The pipeline's share of the resources. -/
abbrev EP : Emb (UR sig nD τ) (MT nD τ sig Unit (Elt F) ℕ (UU nD τ) ℕ) := embL

omit [FloatOps F] [Named F] in
/-- A whole memref owned at what it reads. -/
theorem owns_holds (c : Dev nD) {sp : Space} {S : Shape} {e : EltTy} (M : Memref sig .tc sp S e) (h : M.IsWhole) (w : S.Idx → Elt F e) :
    (owns (c : Thread nD τ) M fullShare w : sProp 𝕄) = holds (F := F) c M w := by
  unfold owns
  rw [h.set_eq_univ]

/-- The first point is the one whose coordinate is zero. -/
theorem at_start : ∀ t : Fin grid0.N,
    Scalar.cmpi .ne (Scalar.extui (Scalar.cmpi .eq (BitVec.ofNat 32 (grid0.coords t 0).val) 0#32) : BitVec 32) 0#32 = 1#1 ↔ t.val = 0 := by
  decide +kernel

variable (m : (ℓ : Loc nD τ sig) → Buf (Elt F) ℓ) (ρ : Dev nD → PrngReg)

/-- The output matrices as launched. -/
abbrev matRe (c : Dev nD) : Vec F S8x1024x256 .bf16 := m ((c : Thread nD τ).loc main_arg2)
abbrev matIm (c : Dev nD) : Vec F S8x1024x256 .bf16 := m ((c : Thread nD τ).loc main_arg3)

/-- What the block at point `t` ends with, entered with `C`. -/
def blkCarry (c : Dev nD) (t : Fin cfg0.N) (C : Carry F) : Carry F :=
  blockCarry (iblk m c 0 t) (iblk m c 1 t) (iblk m c 2 t) (iblk m c 3 t) (iblk m c 4 t) (iblk m c 5 t) (matRe m c) (matIm m c) C
/-- Its adjoints. -/
def blkRe (c : Dev nD) (t : Fin cfg0.N) (C : Carry F) : S128x8x1024.Idx → F .f32 :=
  blockRe (iblk m c 0 t) (iblk m c 1 t) (iblk m c 2 t) (iblk m c 3 t) (iblk m c 4 t) (iblk m c 5 t) (matRe m c) (matIm m c) C
def blkIm (c : Dev nD) (t : Fin cfg0.N) (C : Carry F) : S128x8x1024.Idx → F .f32 :=
  blockIm (iblk m c 0 t) (iblk m c 1 t) (iblk m c 2 t) (iblk m c 3 t) (iblk m c 4 t) (iblk m c 5 t) (matRe m c) (matIm m c) C

/-- The state before point `n`: zeros, then what each block ends with. -/
def st (c : Dev nD) : ℕ → Carry F
  | 0 => zero
  | n + 1 => if h : n < cfg0.N then blkCarry m c ⟨n, h⟩ (st c n) else st c n

theorem st_succ (c : Dev nD) (t : Fin cfg0.N) : st m c (t.val + 1) = blkCarry m c t (st m c t.val) := dif_pos t.isLt

/-- The scratch before point `n`: after the first, the matrices and the carried state. -/
def kept (c : Dev nD) (n : ℕ) : sProp 𝕄 :=
  iprop(∃ (g14 : Bf (F := F) c (Memref.whole cc0_scratch0)) (g15 : Bf (F := F) c (Memref.whole cc0_scratch1))
      (g18 : Bf (F := F) c (Memref.whole cc0_scratch4)) (g19 : Bf (F := F) c (Memref.whole cc0_scratch5)),
    ⌜n ≠ 0 → g14 = matRe m c ∧ g15 = matIm m c ∧ g18 = (st m c n).1 ∧ g19 = (st m c n).2.1⌝
      ∗ pt c (Memref.whole cc0_scratch0) g14 ∗ pt c (Memref.whole cc0_scratch1) g15
      ∗ (∃ g, pt (F := F) c (Memref.whole cc0_scratch2) g) ∗ (∃ g, pt (F := F) c (Memref.whole cc0_scratch3) g)
      ∗ pt c (Memref.whole cc0_scratch4) g18 ∗ pt c (Memref.whole cc0_scratch5) g19)

/-- The invariant before point `n`: the two matrices, the transfers' semaphores at zero, the scratch. -/
def Φc (c : Dev nD) (n : ℕ) : sProp 𝕄 :=
  iprop(pt c (Memref.whole main_arg2) (matRe m c) ∗ pt c (Memref.whole main_arg3) (matIm m c) ∗ sems0 (F := F) c ∗ kept m c n)

/-- The proof data: the inputs' blocks stay; the outputs' hold what the point computes. -/
def dats (_ : Fin 1) (c : Dev nD) : Dat τ (Elt F) Unit ℕ (UU nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => k0_pay13 (iblk m c 0 t) (iblk m c 1 t)
    | 7 => k0_pay11 (blkRe m c t (st m c t.val))
    | 8 => k0_pay12 (blkIm m c t (st m c t.val))
    | 9 => (st m c (t.val + 1)).2.2.1
    | 10 => (st m c (t.val + 1)).2.2.2
  Φ t := Φc m c t.val
  q _ := fullShare
  owed _ := 0

theorem A_eq (c : Dev nD) (w : Fin cfg0.W) : (dats m 0 c).A w = V m c (Pipeline.arrRef spec0 w) := by
  dsimp only [dats]

section
variable (c : Dev nD) (t : Fin cfg0.N)
/-- An input window holds its block at every point. -/
theorem before_0 (d) : (dats m 0 c).before 0 t d = iblk m c 0 t :=
  ((dats m 0 c).before_in_eq_fetched 0 rfl (fun _ => rfl) (fun _ _ _ => rfl) (fun t => by unfold Dat.blockOf; rw [A_eq]; rfl) t d).trans
    (by unfold Dat.fetched Dat.blockOf; rw [A_eq]; rfl)
theorem before_1 (d) : (dats m 0 c).before 1 t d = iblk m c 1 t :=
  ((dats m 0 c).before_in_eq_fetched 1 rfl (fun _ => rfl) (fun _ _ _ => rfl) (fun t => by unfold Dat.blockOf; rw [A_eq]; rfl) t d).trans
    (by unfold Dat.fetched Dat.blockOf; rw [A_eq]; rfl)
theorem before_2 (d) : (dats m 0 c).before 2 t d = iblk m c 2 t :=
  ((dats m 0 c).before_in_eq_fetched 2 rfl (fun _ => rfl) (fun _ _ _ => rfl) (fun t => by unfold Dat.blockOf; rw [A_eq]; rfl) t d).trans
    (by unfold Dat.fetched Dat.blockOf; rw [A_eq]; rfl)
theorem before_3 (d) : (dats m 0 c).before 3 t d = iblk m c 3 t :=
  ((dats m 0 c).before_in_eq_fetched 3 rfl (fun _ => rfl) (fun _ _ _ => rfl) (fun t => by unfold Dat.blockOf; rw [A_eq]; rfl) t d).trans
    (by unfold Dat.fetched Dat.blockOf; rw [A_eq]; rfl)
theorem before_4 (d) : (dats m 0 c).before 4 t d = iblk m c 4 t :=
  ((dats m 0 c).before_in_eq_fetched 4 rfl (fun _ => rfl) (fun _ _ _ => rfl) (fun t => by unfold Dat.blockOf; rw [A_eq]; rfl) t d).trans
    (by unfold Dat.fetched Dat.blockOf; rw [A_eq]; rfl)
theorem before_5 (d) : (dats m 0 c).before 5 t d = iblk m c 5 t :=
  ((dats m 0 c).before_in_eq_fetched 5 rfl (fun _ => rfl) (fun _ _ _ => rfl) (fun t => by unfold Dat.blockOf; rw [A_eq]; rfl) t d).trans
    (by unfold Dat.fetched Dat.blockOf; rw [A_eq]; rfl)
/-- An accumulator holds what the point before left. -/
theorem before_9 (ht : t.val ≠ 0) (d) : (dats m 0 c).before 9 t d = (st m c t.val).2.2.1 := by
  have hN : t.val < 16 := lt_of_lt_of_eq t.isLt N_0
  rw [(dats m 0 c).before_out_kept 9 rfl t ht (Bool.eq_false_iff.mpr fun h => by have := (flush0_9 _).mp h; dsimp only at this; omega) (fun _ => rfl) (fun _ _ => rfl)]
  show (st m c (t.val - 1 + 1)).2.2.1 = _
  rw [Nat.sub_add_cancel (Nat.one_le_iff_ne_zero.mpr ht)]
theorem before_10 (ht : t.val ≠ 0) (d) : (dats m 0 c).before 10 t d = (st m c t.val).2.2.2 := by
  have hN : t.val < 16 := lt_of_lt_of_eq t.isLt N_0
  rw [(dats m 0 c).before_out_kept 10 rfl t ht (Bool.eq_false_iff.mpr fun h => by have := (flush0_10 _).mp h; dsimp only at this; omega) (fun _ => rfl) (fun _ _ => rfl)]
  show (st m c (t.val - 1 + 1)).2.2.2 = _
  rw [Nat.sub_add_cancel (Nat.one_le_iff_ne_zero.mpr ht)]
end

abbrev 𝒱₀ : Variants := Variants.none

set_option maxHeartbeats 4000000 in
set_option backward.isDefEq.respectTransparency.types false in
/-- Every point, from the invariant before it to the invariant after it. -/
theorem body_obligation (c : Dev nD) : BodyObligation (dats m 0 c) (defs₀ (F := F)) 𝒱₀ () Set.univ := fun t => by
  rw [bigSep_W0, bigSep_W0]
  rw [show (dats m 0 c).Φ t.castSucc = Φc m c t.val from rfl, show (dats m 0 c).Φ t.succ = Φc m c (t.val + 1) from rfl]
  unfold Dat.owesAt Pipeline.owesWithin
  rw [show (dats m 0 c).owed t.castSucc = 0 from rfl, show (dats m 0 c).owed t.succ = 0 from rfl]
  show _ ⊢ wp frame (wpE (defs₀ (F := F)) 𝒱₀ (c : Thread nD τ) none) Set.univ (bodyAt0 (F := F) t) _
  have e0 := fun X => owns_holds (F := F) c (win0_0.stage (cfg0.slots t 0)) (hstage0_0 ((cfg0.slots t 0).cast nbuf0_0)) X
  have e1 := fun X => owns_holds (F := F) c (win0_1.stage (cfg0.slots t 1)) (hstage0_1 ((cfg0.slots t 1).cast nbuf0_1)) X
  have e2 := fun X => owns_holds (F := F) c (win0_2.stage (cfg0.slots t 2)) (hstage0_2 ((cfg0.slots t 2).cast nbuf0_2)) X
  have e3 := fun X => owns_holds (F := F) c (win0_3.stage (cfg0.slots t 3)) (hstage0_3 ((cfg0.slots t 3).cast nbuf0_3)) X
  have e4 := fun X => owns_holds (F := F) c (win0_4.stage (cfg0.slots t 4)) (hstage0_4 ((cfg0.slots t 4).cast nbuf0_4)) X
  have e5 := fun X => owns_holds (F := F) c (win0_5.stage (cfg0.slots t 5)) (hstage0_5 ((cfg0.slots t 5).cast nbuf0_5)) X
  have e6 := fun X => owns_holds (F := F) c (win0_6.stage (cfg0.slots t 6)) (hstage0_6 ((cfg0.slots t 6).cast nbuf0_6)) X
  have e7 := fun X => owns_holds (F := F) c (win0_7.stage (cfg0.slots t 7)) (hstage0_7 ((cfg0.slots t 7).cast nbuf0_7)) X
  have e8 := fun X => owns_holds (F := F) c (win0_8.stage (cfg0.slots t 8)) (hstage0_8 ((cfg0.slots t 8).cast nbuf0_8)) X
  have e9 := fun X => owns_holds (F := F) c (win0_9.stage (cfg0.slots t 9)) (hstage0_9 ((cfg0.slots t 9).cast nbuf0_9)) X
  have e10 := fun X => owns_holds (F := F) c (win0_10.stage (cfg0.slots t 10)) (hstage0_10 ((cfg0.slots t 10).cast nbuf0_10)) X
  unfold Φc kept
  iintro ⟨⟨H2, H3, Hsems, ⟨%g14, %g15, %g18, %g19, %hg, Hs0, Hs1, ⟨%g16, Hs2⟩, ⟨%g17, Hs3⟩, Hs4, Hs5⟩⟩, ⟨%W, %hW, HO⟩, ⟨%d0, D0⟩, ⟨%d1, D1⟩, ⟨%d2, D2⟩, ⟨%d3, D3⟩, ⟨%d4, D4⟩, ⟨%d5, D5⟩, ⟨%d6, D6⟩, ⟨%d7, D7⟩, ⟨%d8, D8⟩, ⟨%d9, D9⟩, ⟨%d10, D10⟩⟩
  ihave D0 := (Entails.of_eq (e0 _)) $$ D0
  icases D0 with ⟨%f0, %hf0, D0⟩
  ihave D1 := (Entails.of_eq (e1 _)) $$ D1
  icases D1 with ⟨%f1, %hf1, D1⟩
  ihave D2 := (Entails.of_eq (e2 _)) $$ D2
  icases D2 with ⟨%f2, %hf2, D2⟩
  ihave D3 := (Entails.of_eq (e3 _)) $$ D3
  icases D3 with ⟨%f3, %hf3, D3⟩
  ihave D4 := (Entails.of_eq (e4 _)) $$ D4
  icases D4 with ⟨%f4, %hf4, D4⟩
  ihave D5 := (Entails.of_eq (e5 _)) $$ D5
  icases D5 with ⟨%f5, %hf5, D5⟩
  ihave D6 := (Entails.of_eq (e6 _)) $$ D6
  icases D6 with ⟨%f6, %hf6, D6⟩
  ihave D7 := (Entails.of_eq (e7 _)) $$ D7
  icases D7 with ⟨%f7, %hf7, D7⟩
  ihave D8 := (Entails.of_eq (e8 _)) $$ D8
  icases D8 with ⟨%f8, %hf8, D8⟩
  ihave D9 := (Entails.of_eq (e9 _)) $$ D9
  icases D9 with ⟨%f9, %hf9, D9⟩
  ihave D10 := (Entails.of_eq (e10 _)) $$ D10
  icases D10 with ⟨%f10, %hf10, D10⟩
  rw [before_0] at hf0
  rw [before_1] at hf1
  rw [before_2] at hf2
  rw [before_3] at hf3
  rw [before_4] at hf4
  rw [before_5] at hf5
  by_cases ht : t.val = 0
  · have hC : blkCarry m c t (st m c t.val) = blockCarry ((win0_0.stage (cfg0.slots t 0)).view.read (Elt F) f0) ((win0_1.stage (cfg0.slots t 1)).view.read (Elt F) f1) ((win0_2.stage (cfg0.slots t 2)).view.read (Elt F) f2) ((win0_3.stage (cfg0.slots t 3)).view.read (Elt F) f3) ((win0_4.stage (cfg0.slots t 4)).view.read (Elt F) f4) ((win0_5.stage (cfg0.slots t 5)).view.read (Elt F) f5) (matRe m c) (matIm m c) zero := by rw [hf0, hf1, hf2, hf3, hf4, hf5, ht]; rfl
    have hR : blkRe m c t (st m c t.val) = blockRe ((win0_0.stage (cfg0.slots t 0)).view.read (Elt F) f0) ((win0_1.stage (cfg0.slots t 1)).view.read (Elt F) f1) ((win0_2.stage (cfg0.slots t 2)).view.read (Elt F) f2) ((win0_3.stage (cfg0.slots t 3)).view.read (Elt F) f3) ((win0_4.stage (cfg0.slots t 4)).view.read (Elt F) f4) ((win0_5.stage (cfg0.slots t 5)).view.read (Elt F) f5) (matRe m c) (matIm m c) zero := by rw [hf0, hf1, hf2, hf3, hf4, hf5, ht]; rfl
    have hI : blkIm m c t (st m c t.val) = blockIm ((win0_0.stage (cfg0.slots t 0)).view.read (Elt F) f0) ((win0_1.stage (cfg0.slots t 1)).view.read (Elt F) f1) ((win0_2.stage (cfg0.slots t 2)).view.read (Elt F) f2) ((win0_3.stage (cfg0.slots t 3)).view.read (Elt F) f3) ((win0_4.stage (cfg0.slots t 4)).view.read (Elt F) f4) ((win0_5.stage (cfg0.slots t 5)).view.read (Elt F) f5) (matRe m c) (matIm m c) zero := by rw [hf0, hf1, hf2, hf3, hf4, hf5, ht]; rfl
    iapply (wp_wand_r Idealize.ShloMosaic.frame (wpE (defs₀ (F := F)) 𝒱₀ (c : Thread nD τ) none) Set.univ)
    isplitl [H2 H3 Hsems Hs0 Hs1 Hs2 Hs3 Hs4 Hs5 HO D0 D1 D2 D3 D4 D5 D6 D7 D8 D9 D10]
    · iapply (first (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) 𝒱₀ c none ((at_start t).mpr ht) (matRe m c) (matIm m c) f0 f1 f2 f3 f4 f5 f6 f7 f8 f9 f10 g14 g15 g16 g17 g18 g19 W)
      isplitl [D0]; · iexact D0
      isplitl [D1]; · iexact D1
      isplitl [D2]; · iexact D2
      isplitl [D3]; · iexact D3
      isplitl [D4]; · iexact D4
      isplitl [D5]; · iexact D5
      isplitl [D6]; · iexact D6
      isplitl [D7]; · iexact D7
      isplitl [D8]; · iexact D8
      isplitl [D9]; · iexact D9
      isplitl [D10]; · iexact D10
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [H2]; · iexact H2
      isplitl [H3]; · iexact H3
      isplitl [Hsems]; · iexact Hsems
      iexact HO
    iintro %u ⟨⟨D0, D1, D2, D3, D4, D5, ⟨%r6, %hr6, D6⟩, ⟨%r7, %hr7, D7⟩, ⟨%r8, %hr8, D8⟩, ⟨%r9, %hr9, D9⟩, ⟨%r10, %hr10, D10⟩, ⟨%r14, %h14, Hs0⟩, ⟨%r15, %h15, Hs1⟩, ⟨%r16, Hs2⟩, ⟨%r17, Hs3⟩, ⟨%r18, %h18, Hs4⟩, ⟨%r19, %h19, Hs5⟩⟩, H2, H3, Hsems, ⟨%W', HO⟩⟩
    isplitl [H2 H3 Hsems Hs0 Hs1 Hs2 Hs3 Hs4 Hs5]
    · isplitl [H2]; · iexact H2
      isplitl [H3]; · iexact H3
      isplitl [Hsems]; · iexact Hsems
      iexists r14, r15, r18, r19
      isplitr
      · ipureintro; intro _; rw [st_succ]
        exact ⟨h14, h15, h18.trans (by rw [hC]), h19.trans (by rw [hC])⟩
      isplitl [Hs0]; · iexact Hs0
      isplitl [Hs1]; · iexact Hs1
      isplitl [Hs2]; · iexists _; iexact Hs2
      isplitl [Hs3]; · iexists _; iexact Hs3
      isplitl [Hs4]; · iexact Hs4
      iexact Hs5
    isplitl [HO]
    · iexists W'; isplitr; · ipureintro; exact fun _ _ => Or.inl trivial
      iexact HO
    isplitl [D0]; · iapply (Entails.of_eq (e0 _).symm); iexists f0; isplitr; swap; (· iexact D0); ipureintro; dsimp only [dats]; exact hf0
    isplitl [D1]; · iapply (Entails.of_eq (e1 _).symm); iexists f1; isplitr; swap; (· iexact D1); ipureintro; dsimp only [dats]; exact hf1
    isplitl [D2]; · iapply (Entails.of_eq (e2 _).symm); iexists f2; isplitr; swap; (· iexact D2); ipureintro; dsimp only [dats]; exact hf2
    isplitl [D3]; · iapply (Entails.of_eq (e3 _).symm); iexists f3; isplitr; swap; (· iexact D3); ipureintro; dsimp only [dats]; exact hf3
    isplitl [D4]; · iapply (Entails.of_eq (e4 _).symm); iexists f4; isplitr; swap; (· iexact D4); ipureintro; dsimp only [dats]; exact hf4
    isplitl [D5]; · iapply (Entails.of_eq (e5 _).symm); iexists f5; isplitr; swap; (· iexact D5); ipureintro; dsimp only [dats]; exact hf5
    isplitl [D6]; · iapply (Entails.of_eq (e6 _).symm); iexists r6; isplitr; swap; (· iexact D6); ipureintro; dsimp only [dats]; exact hr6.trans (by rw [hf0, hf1])
    isplitl [D7]; · iapply (Entails.of_eq (e7 _).symm); iexists r7; isplitr; swap; (· iexact D7); ipureintro; dsimp only [dats]; exact hr7.trans (by rw [hR])
    isplitl [D8]; · iapply (Entails.of_eq (e8 _).symm); iexists r8; isplitr; swap; (· iexact D8); ipureintro; dsimp only [dats]; exact hr8.trans (by rw [hI])
    isplitl [D9]; · iapply (Entails.of_eq (e9 _).symm); iexists r9; isplitr; swap; (· iexact D9); ipureintro; dsimp only [dats]; exact hr9.trans (by rw [st_succ, hC])
    iapply (Entails.of_eq (e10 _).symm); iexists r10; isplitr; swap; (· iexact D10); ipureintro; dsimp only [dats]; exact hr10.trans (by rw [st_succ, hC])
  · obtain ⟨rfl, rfl, rfl, rfl⟩ := hg ht
    rw [before_9 (ht := ht)] at hf9
    rw [before_10 (ht := ht)] at hf10
    have hC : blkCarry m c t (st m c t.val) = blockCarry ((win0_0.stage (cfg0.slots t 0)).view.read (Elt F) f0) ((win0_1.stage (cfg0.slots t 1)).view.read (Elt F) f1) ((win0_2.stage (cfg0.slots t 2)).view.read (Elt F) f2) ((win0_3.stage (cfg0.slots t 3)).view.read (Elt F) f3) ((win0_4.stage (cfg0.slots t 4)).view.read (Elt F) f4) ((win0_5.stage (cfg0.slots t 5)).view.read (Elt F) f5) ((Memref.whole cc0_scratch0).view.read (Elt F) (matRe m c)) ((Memref.whole cc0_scratch1).view.read (Elt F) (matIm m c)) (((Memref.whole cc0_scratch4).view.read (Elt F) (st m c t.val).1), ((Memref.whole cc0_scratch5).view.read (Elt F) (st m c t.val).2.1), (win0_9.stage (cfg0.slots t 9)).view.read (Elt F) f9, (win0_10.stage (cfg0.slots t 10)).view.read (Elt F) f10) := by rw [hf0, hf1, hf2, hf3, hf4, hf5, hf9, hf10]; rfl
    have hR : blkRe m c t (st m c t.val) = blockRe ((win0_0.stage (cfg0.slots t 0)).view.read (Elt F) f0) ((win0_1.stage (cfg0.slots t 1)).view.read (Elt F) f1) ((win0_2.stage (cfg0.slots t 2)).view.read (Elt F) f2) ((win0_3.stage (cfg0.slots t 3)).view.read (Elt F) f3) ((win0_4.stage (cfg0.slots t 4)).view.read (Elt F) f4) ((win0_5.stage (cfg0.slots t 5)).view.read (Elt F) f5) ((Memref.whole cc0_scratch0).view.read (Elt F) (matRe m c)) ((Memref.whole cc0_scratch1).view.read (Elt F) (matIm m c)) (((Memref.whole cc0_scratch4).view.read (Elt F) (st m c t.val).1), ((Memref.whole cc0_scratch5).view.read (Elt F) (st m c t.val).2.1), (win0_9.stage (cfg0.slots t 9)).view.read (Elt F) f9, (win0_10.stage (cfg0.slots t 10)).view.read (Elt F) f10) := by rw [hf0, hf1, hf2, hf3, hf4, hf5, hf9, hf10]; rfl
    have hI : blkIm m c t (st m c t.val) = blockIm ((win0_0.stage (cfg0.slots t 0)).view.read (Elt F) f0) ((win0_1.stage (cfg0.slots t 1)).view.read (Elt F) f1) ((win0_2.stage (cfg0.slots t 2)).view.read (Elt F) f2) ((win0_3.stage (cfg0.slots t 3)).view.read (Elt F) f3) ((win0_4.stage (cfg0.slots t 4)).view.read (Elt F) f4) ((win0_5.stage (cfg0.slots t 5)).view.read (Elt F) f5) ((Memref.whole cc0_scratch0).view.read (Elt F) (matRe m c)) ((Memref.whole cc0_scratch1).view.read (Elt F) (matIm m c)) (((Memref.whole cc0_scratch4).view.read (Elt F) (st m c t.val).1), ((Memref.whole cc0_scratch5).view.read (Elt F) (st m c t.val).2.1), (win0_9.stage (cfg0.slots t 9)).view.read (Elt F) f9, (win0_10.stage (cfg0.slots t 10)).view.read (Elt F) f10) := by rw [hf0, hf1, hf2, hf3, hf4, hf5, hf9, hf10]; rfl
    iapply (wp_wand_r Idealize.ShloMosaic.frame (wpE (defs₀ (F := F)) 𝒱₀ (c : Thread nD τ) none) Set.univ)
    isplitl [Hs0 Hs1 Hs2 Hs3 Hs4 Hs5 D0 D1 D2 D3 D4 D5 D6 D7 D8 D9 D10]
    · iapply (later (F := F) (grid0.coords t) (win0_0.stage (cfg0.slots t 0)) (hstage0_0 ((cfg0.slots t 0).cast nbuf0_0)) (win0_1.stage (cfg0.slots t 1)) (hstage0_1 ((cfg0.slots t 1).cast nbuf0_1)) (Memref.whole main_arg2) (Memref.isWhole_whole _) (Memref.whole main_arg3) (Memref.isWhole_whole _) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scoped0 cc0_scoped1 𝒱₀ c none Set.univ (fun h => ht ((at_start t).mp h)) f0 f1 f2 f3 f4 f5 f6 f7 f8 f9 f10 (matRe m c) (matIm m c) g16 g17 (st m c t.val).1 (st m c t.val).2.1)
      isplitl [D0]; · iexact D0
      isplitl [D1]; · iexact D1
      isplitl [D2]; · iexact D2
      isplitl [D3]; · iexact D3
      isplitl [D4]; · iexact D4
      isplitl [D5]; · iexact D5
      isplitl [D6]; · iexact D6
      isplitl [D7]; · iexact D7
      isplitl [D8]; · iexact D8
      isplitl [D9]; · iexact D9
      isplitl [D10]; · iexact D10
      isplitl [Hs0]; · iexact Hs0
      isplitl [Hs1]; · iexact Hs1
      isplitl [Hs2]; · iexact Hs2
      isplitl [Hs3]; · iexact Hs3
      isplitl [Hs4]; · iexact Hs4
      iexact Hs5
    iintro %u ⟨D0, D1, D2, D3, D4, D5, ⟨%r6, %hr6, D6⟩, ⟨%r7, %hr7, D7⟩, ⟨%r8, %hr8, D8⟩, ⟨%r9, %hr9, D9⟩, ⟨%r10, %hr10, D10⟩, ⟨%r14, %h14, Hs0⟩, ⟨%r15, %h15, Hs1⟩, ⟨%r16, Hs2⟩, ⟨%r17, Hs3⟩, ⟨%r18, %h18, Hs4⟩, ⟨%r19, %h19, Hs5⟩⟩
    isplitl [H2 H3 Hsems Hs0 Hs1 Hs2 Hs3 Hs4 Hs5]
    · isplitl [H2]; · iexact H2
      isplitl [H3]; · iexact H3
      isplitl [Hsems]; · iexact Hsems
      iexists r14, r15, r18, r19
      isplitr
      · ipureintro; intro _; rw [st_succ]
        exact ⟨h14, h15, h18.trans (by rw [hC]), h19.trans (by rw [hC])⟩
      isplitl [Hs0]; · iexact Hs0
      isplitl [Hs1]; · iexact Hs1
      isplitl [Hs2]; · iexists _; iexact Hs2
      isplitl [Hs3]; · iexists _; iexact Hs3
      isplitl [Hs4]; · iexact Hs4
      iexact Hs5
    isplitl [HO]
    · iexists W; isplitr; · ipureintro; exact fun _ _ => Or.inl trivial
      iexact HO
    isplitl [D0]; · iapply (Entails.of_eq (e0 _).symm); iexists f0; isplitr; swap; (· iexact D0); ipureintro; dsimp only [dats]; exact hf0
    isplitl [D1]; · iapply (Entails.of_eq (e1 _).symm); iexists f1; isplitr; swap; (· iexact D1); ipureintro; dsimp only [dats]; exact hf1
    isplitl [D2]; · iapply (Entails.of_eq (e2 _).symm); iexists f2; isplitr; swap; (· iexact D2); ipureintro; dsimp only [dats]; exact hf2
    isplitl [D3]; · iapply (Entails.of_eq (e3 _).symm); iexists f3; isplitr; swap; (· iexact D3); ipureintro; dsimp only [dats]; exact hf3
    isplitl [D4]; · iapply (Entails.of_eq (e4 _).symm); iexists f4; isplitr; swap; (· iexact D4); ipureintro; dsimp only [dats]; exact hf4
    isplitl [D5]; · iapply (Entails.of_eq (e5 _).symm); iexists f5; isplitr; swap; (· iexact D5); ipureintro; dsimp only [dats]; exact hf5
    isplitl [D6]; · iapply (Entails.of_eq (e6 _).symm); iexists r6; isplitr; swap; (· iexact D6); ipureintro; dsimp only [dats]; exact hr6.trans (by rw [hf0, hf1])
    isplitl [D7]; · iapply (Entails.of_eq (e7 _).symm); iexists r7; isplitr; swap; (· iexact D7); ipureintro; dsimp only [dats]; exact hr7.trans (by rw [hR])
    isplitl [D8]; · iapply (Entails.of_eq (e8 _).symm); iexists r8; isplitr; swap; (· iexact D8); ipureintro; dsimp only [dats]; exact hr8.trans (by rw [hI])
    isplitl [D9]; · iapply (Entails.of_eq (e9 _).symm); iexists r9; isplitr; swap; (· iexact D9); ipureintro; dsimp only [dats]; exact hr9.trans (by rw [st_succ, hC])
    iapply (Entails.of_eq (e10 _).symm); iexists r10; isplitr; swap; (· iexact D10); ipureintro; dsimp only [dats]; exact hr10.trans (by rw [st_succ, hC])

end Cert.Scan

end
-- ==== Proof.Whole.lean ====
module

public import proofs.«01_k».proof.Proof.Run

/-! The launch of the whole program. -/

@[expose] public section

set_option maxRecDepth 16384

noncomputable section

namespace Cert.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resources' model. -/
local notation "𝕄" => MT nD τ sig Unit (Elt F) ℕ (UU nD τ) ℕ

variable (m : (ℓ : Loc nD τ sig) → Buf (Elt F) ℓ) (ρ : Dev nD → PrngReg)

/-- The layout the launch needs of the kernel's own semaphores. -/
theorem ownSemFacts : Pipeline.OwnSemFacts spec0 osem := by decide

/-- The launch element. -/
def u₀ : UU nD τ := (initOf (Pipeline.cells cfgs cellOf_inj) (Pipeline.launchToks cfgs cellOf_inj), 1)

omit [FloatOps F] [Named F] in
/-- The kernel's own counters at zero, listed. -/
theorem ownSems0_eq (c : Dev nD) :
    (Pipeline.ownSems0 (Ix := Unit) (Name := ℕ) (U := UU nD τ) (Lvl := ℕ) (Val := Elt F) (τ := τ) osem c : sProp 𝕄) = sems0 (F := F) c :=
  Pipeline.ownSems0_eq_of_list c osem [0, 1] (by decide) (by decide)

/-- An array's contents after the run. -/
def finalA (c : Dev nD) (w : Fin cfg0.W) : Buf (Elt F) ((cfg0.win w).arr.view.loc (c : Thread nD τ)) := (dats m 0 c).arrAt w cfg0.N

/-- Every window's array at its final contents, the two matrices as launched. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg2) = m ((c : Thread nD τ).loc main_arg2)
    ∧ r.2.mem ((c : Thread nD τ).loc main_arg3) = m ((c : Thread nD τ).loc main_arg3)

abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers. -/
abbrev R (c : Dev nD) : sProp 𝕄 := iprop(∃ W, owes (c : Thread nD τ) (0 : CellTallies nD τ sig Unit) W)

/-- What the region leaves. -/
abbrev Tₙ (c : Dev nD) : sProp 𝕄 :=
  iprop((dats m 0 c).arrays ((dats m 0 c).arrAt · cfg0.N) ∗ pt c (Memref.whole main_arg2) (matRe m c) ∗ pt c (Memref.whole main_arg3) (matIm m c))

set_option backward.isDefEq.respectTransparency.types false in
/-- The region: entered from the launched buffers, left with its arrays at their final contents. -/
def reg0 : Pipeline.RegionSeg (pcfgs (F := F)) adm (dats m) () defs₀ 𝒱₀ L lv 0 where
  win := launch0.win.to₀
  block_pos := launch0.block_pos
  stage_whole := launch0.stage_whole
  K := Fin 2
  osem := osem
  ho := ownSemFacts
  hbody c := (body_obligation m c).loose
  hwaits := Pipeline.hwaits_of_owed_zero _ _ _ _ L lv 0 fun _ _ => rfl
  pre c := iprop(unscopedBufs c (fun b => m ((c : Thread nD τ).loc b)) ∗ R c)
  post c := iprop(Tₙ m c ∗ R c)
  X c := iprop(pt c (Memref.whole main_arg2) (matRe m c) ∗ pt c (Memref.whole main_arg3) (matIm m c) ∗ sems0 (F := F) c)
  Y c := iprop(pt c (Memref.whole main_arg2) (matRe m c) ∗ pt c (Memref.whole main_arg3) (matIm m c))
  Z c := iprop(emp)
  hentry c := by
    rw [ownSems0_eq]
    have hsplit := (Pipeline.arrays_of_unscopedBufs (pcfgs (F := F)) adm (dats m) launch0.win launch0.arr_whole c
      ((dats m 0 c).share_full fun _ => rfl) (V m c) (A_eq m c)).trans (sep_mono .rfl (Entails.of_eq (unscopedRest0_eq c (V m c))))
    iintro ⟨⟨Hub, HO⟩, Hos, -⟩
    ihave H := hsplit $$ Hub
    icases H with ⟨Ha, H2, H3⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [H2 H3 Hos]
    · isplitl [H2]; · iexact H2
      isplitl [H3]; · iexact H3
      iexact Hos
    iempintro
  hin c := by
    rw [show (dats m 0 c).Φ 0 = Φc m c 0 from rfl, scopedRest0_eq]; unfold Φc kept
    iintro ⟨⟨H2, H3, Hos⟩, -, ⟨%g0, H14⟩, ⟨%g1, H15⟩, ⟨%g2, H16⟩, ⟨%g3, H17⟩, ⟨%g4, H18⟩, ⟨%g5, H19⟩⟩
    isplitl [H2]; · iexact H2
    isplitl [H3]; · iexact H3
    isplitl [Hos]; · iexact Hos
    iexists g0, g1, g4, g5
    isplitr; · ipureintro; exact fun h => absurd rfl h
    isplitl [H14]; · iexact H14
    isplitl [H15]; · iexact H15
    isplitl [H16]; · iexists g2; iexact H16
    isplitl [H17]; · iexists g3; iexact H17
    isplitl [H18]; · iexact H18
    iexact H19
  hout c := by
    rw [ownSems0_eq, show (dats m 0 c).Φ (Fin.last cfg0.N) = Φc m c cfg0.N from rfl, scopedRest0_eq]; unfold Φc kept
    iintro ⟨H2, H3, Hos, ⟨%g14, %g15, %g18, %g19, -, H14, H15, ⟨%g16, H16⟩, ⟨%g17, H17⟩, H18, H19⟩⟩
    isplitl [H2 H3]
    · isplitl [H2]; · iexact H2
      iexact H3
    isplitl [Hos]; · iexact Hos
    isplitl [H14]; · iexists g14; iexact H14
    isplitl [H15]; · iexists g15; iexact H15
    isplitl [H16]; · iexists g16; iexact H16
    isplitl [H17]; · iexists g17; iexact H17
    isplitl [H18]; · iexists g18; iexact H18
    iexists g19; iexact H19
  hexit c := by
    iintro ⟨Ha, HO, ⟨H2, H3⟩, -⟩
    imodintro
    isplitr [HO]
    · isplitl [Ha]; · iexact Ha
      isplitl [H2]; · iexact H2
      iexact H3
    · unfold Pipeline.Dat.owesAt Pipeline.owesWithin
      icases HO with ⟨%W, -, HO⟩; iexists W; iexact HO

/-- The program as a list of segments. -/
abbrev segs : List (Pipeline.Seg (pcfgs (F := F)) adm (dats m) () defs₀ 𝒱₀ L lv) := [.region (reg0 m)]

set_option backward.isDefEq.respectTransparency.types false in
/-- From any memory with zero counters every weakly fair execution terminates, every window's array ends at its final
    contents, the two matrices stay and every counter ends at zero. -/
theorem run_main : θ_run defs (onTc (τ := τ) (main (F := F))) (s₀ m ρ) (fun r => QC m r ∧ r.2.sem = fun _ => 0) :=
  Pipeline.θ_run_regions_kit_sems (pcfgs (F := F)) adm (dats m) () cellOf_inj EP defs₀ 𝒱₀ L lv m ρ main (segs m)
    (fun c Q => by rw [main_segs adm (dats m) () 𝒱₀ L lv (reg0 m) c])
    (by simp only [Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(unscopedBufs c (fun b => m ((c : Thread nD τ).loc b)) ∗ R c)) (Tₙ := Tₙ m)
    (hch := ⟨fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => (∀ w : Fin cfg0.W, s.mem ((cfg0.win w).arr.view.loc (c : Thread nD τ)) = finalA m c w)
      ∧ s.mem ((c : Thread nD τ).loc main_arg2) = m ((c : Thread nD τ).loc main_arg2)
      ∧ s.mem ((c : Thread nD τ).loc main_arg3) = m ((c : Thread nD τ).loc main_arg3))
    (hfin := fun c s' => by
      dsimp only [Tₙ]
      iintro ⟨⟨Ha, H2, H3⟩, HSI⟩
      icombine HSI H2 gives %h2
      icombine HSI H3 gives %h3
      ihave Hr := (Pipeline.arrays_read (pcfgs (F := F)) adm (dats m) launch0.arr_whole c ((dats m 0 c).share_full fun _ => rfl) _ s') $$ [Ha HSI]
      · isplitl [Ha] <;> iassumption
      icases Hr with ⟨%ha, HSI⟩
      imodintro
      isplitr; · ipureintro; exact ⟨ha, Buf.eq_of_forall_mem_univ h2, Buf.eq_of_forall_mem_univ h3⟩
      iexact HSI)
    (hQ := fun _ h hz => ⟨h, funext fun g => hz g (.inr (by revert g; decide))⟩)

/-- An input's array ends as launched. -/
theorem finalA_in (c : Dev nD) (w : Fin cfg0.W) (h : (cfg0.win w).isOut = false) :
    finalA m c w = m ((cfg0.win w).arr.view.loc (c : Thread nD τ)) := (dats (F := F) m 0 c).arrAt_in w h _

end Cert.Scan

end
-- ==== Proof.Arrays.lean ====
module

public import proofs.«01_k».proof.Proof.Walk
public import proofs.«01_k».proof.Proof.Whole
public import Idealize.ShloMosaic.Lib.Pipeline.ValueKit

/-! What the kernel's arrays hold at the end, over the extended reals. -/

@[expose] public section

set_option maxRecDepth 16384

noncomputable section

namespace Cert.Scan

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ) (c : Dev nD)

/-- The arguments, as arrays of numbers. -/
abbrev argCt : S2048x2048.Idx → EReal := m ((c : Thread nD τ).loc main_arg0)
abbrev argY : S2048x2048.Idx → EReal := m ((c : Thread nD τ).loc main_arg1)
abbrev argCr : S8x1024x256.Idx → EReal := m ((c : Thread nD τ).loc main_arg2)
abbrev argCi : S8x1024x256.Idx → EReal := m ((c : Thread nD τ).loc main_arg3)
abbrev argAr : S8x1024.Idx → EReal := m ((c : Thread nD τ).loc main_arg4)
abbrev argAi : S8x1024.Idx → EReal := m ((c : Thread nD τ).loc main_arg5)
abbrev argSr : S2048x8x1024.Idx → EReal := m ((c : Thread nD τ).loc main_arg6)
abbrev argSi : S2048x8x1024.Idx → EReal := m ((c : Thread nD τ).loc main_arg7)

/-- The windows that move with the points take the blocks from the last to the first. -/
theorem index0_0 : ∀ t : Fin cfg0.N, win0_0.index t = ![15 - t.val, 0] := (by decide +kernel : ∀ t : Fin grid0.N, win0_0.index t = ![15 - t.val, 0])
theorem index0_1 : ∀ t : Fin cfg0.N, win0_1.index t = ![15 - t.val, 0] := (by decide +kernel : ∀ t : Fin grid0.N, win0_1.index t = ![15 - t.val, 0])
theorem index0_2 : ∀ t : Fin cfg0.N, win0_2.index t = ![0, 0] := (by decide +kernel : ∀ t : Fin grid0.N, win0_2.index t = ![0, 0])
theorem index0_3 : ∀ t : Fin cfg0.N, win0_3.index t = ![0, 0] := (by decide +kernel : ∀ t : Fin grid0.N, win0_3.index t = ![0, 0])
theorem index0_4 : ∀ t : Fin cfg0.N, win0_4.index t = ![15 - t.val, 0, 0] := (by decide +kernel : ∀ t : Fin grid0.N, win0_4.index t = ![15 - t.val, 0, 0])
theorem index0_5 : ∀ t : Fin cfg0.N, win0_5.index t = ![15 - t.val, 0, 0] := (by decide +kernel : ∀ t : Fin grid0.N, win0_5.index t = ![15 - t.val, 0, 0])
theorem index0_6 : ∀ t : Fin cfg0.N, win0_6.index t = ![15 - t.val, 0] := (by decide +kernel : ∀ t : Fin grid0.N, win0_6.index t = ![15 - t.val, 0])
theorem index0_7 : ∀ t : Fin cfg0.N, win0_7.index t = ![0, 15 - t.val, 0] := (by decide +kernel : ∀ t : Fin grid0.N, win0_7.index t = ![0, 15 - t.val, 0])
theorem index0_8 : ∀ t : Fin cfg0.N, win0_8.index t = ![0, 15 - t.val, 0] := (by decide +kernel : ∀ t : Fin grid0.N, win0_8.index t = ![0, 15 - t.val, 0])

/-- Row `y` of the block at point `t`, in the array. -/
abbrev rowAt (t : Fin cfg0.N) (y : Fin 128) : Fin 2048 := ⟨128 * (15 - t.val) + y.val, by omega⟩

theorem blk_0 (t : Fin cfg0.N) (y : Fin 128) (k : Fin 2048) : iblk m c 0 t (ValueIdx.ix2 y k) = argCt m c (ValueIdx.ix2 (rowAt t y) k) := by
  blk_ext [iblk, V, index0_0 t]
  show (15 - t.val) * 128 + y.val = _; omega
theorem blk_1 (t : Fin cfg0.N) (y : Fin 128) (k : Fin 2048) : iblk m c 1 t (ValueIdx.ix2 y k) = argY m c (ValueIdx.ix2 (rowAt t y) k) := by
  blk_ext [iblk, V, index0_1 t]
  show (15 - t.val) * 128 + y.val = _; omega
theorem blk_2 (t : Fin cfg0.N) : iblk m c 2 t = argAr m c := by
  funext y
  blk_ext [iblk, V, index0_2 t]
theorem blk_3 (t : Fin cfg0.N) : iblk m c 3 t = argAi m c := by
  funext y
  blk_ext [iblk, V, index0_3 t]
theorem blk_4 (t : Fin cfg0.N) (y : Fin 128) (g : Fin 8) (n : Fin 1024) : iblk m c 4 t (ValueIdx.ix3 y g n) = argSr m c (ValueIdx.ix3 (rowAt t y) g n) := by
  blk_ext [iblk, V, index0_4 t]
  show (15 - t.val) * 128 + y.val = _; omega
theorem blk_5 (t : Fin cfg0.N) (y : Fin 128) (g : Fin 8) (n : Fin 1024) : iblk m c 5 t (ValueIdx.ix3 y g n) = argSi m c (ValueIdx.ix3 (rowAt t y) g n) := by
  blk_ext [iblk, V, index0_5 t]
  show (15 - t.val) * 128 + y.val = _; omega

/-- The gradient of the layer before gelu, and the walk, of these arguments. -/
abbrev dyA : Fin 2048 → Fin 2048 → EReal := dyV (argCt m c) (argY m c)
def walkA : Fin 8 → Fin 1024 → ℕ → Four :=
  walkV (argCt m c) (argY m c) (argCr m c) (argCi m c) (argAr m c) (argAi m c) (argSr m c) (argSi m c)
abbrev endedA : Fin 8 → Fin 1024 → Four :=
  ended (argCt m c) (argY m c) (argCr m c) (argCi m c) (argAr m c) (argAi m c) (argSr m c) (argSi m c)

/-- An entry of a point's block of gradients. -/
theorem dy_at (t : Fin cfg0.N) (y : Fin 128) (k : Fin 2048) :
    k0_pay13 (F := Ideal) (iblk m c 0 t) (iblk m c 1 t) (ValueIdx.ix2 y k) = dyA m c (rowAt t y) k := by
  rw [dy_block]
  unfold dyA dyV
  rw [← blk_0, ← blk_1]

theorem gRe_at (t : Fin cfg0.N) (g : Fin 8) (n : Fin 1024) (y : Fin 128) :
    gRe (F := Ideal) (k0_pay13 (iblk m c 0 t) (iblk m c 1 t)) (matRe m c) (ValueIdx.ix3 y g n) = srcRe (argCt m c) (argY m c) (argCr m c) g n (128 * (15 - t.val) + y.val) := by
  rw [rows_block]
  unfold srcRe
  rw [dif_pos (rowAt t y).isLt]
  exact Finset.sum_congr rfl fun k _ => congrArg (· * _) (dy_at m c t y _)

theorem gIm_at (t : Fin cfg0.N) (g : Fin 8) (n : Fin 1024) (y : Fin 128) :
    gIm (F := Ideal) (k0_pay13 (iblk m c 0 t) (iblk m c 1 t)) (matIm m c) (ValueIdx.ix3 y g n) = srcIm (argCt m c) (argY m c) (argCi m c) g n (128 * (15 - t.val) + y.val) := by
  rw [rows_block_im]
  unfold srcIm
  rw [dif_pos (rowAt t y).isLt]
  exact congrArg (fun x : EReal => -x) (Finset.sum_congr rfl fun k _ => congrArg (· * _) (dy_at m c t y _))

theorem sr_at (t : Fin cfg0.N) (g : Fin 8) (n : Fin 1024) (y : Fin 128) :
    iblk m c 4 t (ValueIdx.ix3 y g n) = Ref.col (argSr m c) g n (128 * (15 - t.val) + y.val) :=
  (blk_4 m c t y g n).trans (Ref.col_eq (argSr m c) g n (rowAt t y)).symm
theorem si_at (t : Fin cfg0.N) (g : Fin 8) (n : Fin 1024) (y : Fin 128) :
    iblk m c 5 t (ValueIdx.ix3 y g n) = Ref.col (argSi m c) g n (128 * (15 - t.val) + y.val) :=
  (blk_5 m c t y g n).trans (Ref.col_eq (argSi m c) g n (rowAt t y)).symm

theorem quad_zero (g : Fin 8) (n : Fin 1024) : quad zero g n = (0, 0, 0, 0) := by
  unfold quad zero k0_pay14 k0_pay15 k0_pay16 k0_pay17
  simp only [pointwise]
  try simp

/-- The state before point `t` is the walk's after the `128 t` rows of the points before. -/
theorem st_walk (g : Fin 8) (n : Fin 1024) (t : ℕ) (ht : t ≤ 16) : quad (st m c t) g n = walkA m c g n (128 * t) := by
  induction t with
  | zero => exact quad_zero g n
  | succ t ih =>
    have hN : t < cfg0.N := lt_of_lt_of_eq (by omega : t < 16) N_0.symm
    rw [st_succ m c ⟨t, hN⟩]
    have h := carry_walk (iblk m c 2 ⟨t, hN⟩) (iblk m c 3 ⟨t, hN⟩) (iblk m c 4 ⟨t, hN⟩) (iblk m c 5 ⟨t, hN⟩) _ _ (st m c t) g n
      (srcRe (argCt m c) (argY m c) (argCr m c) g n) (srcIm (argCt m c) (argY m c) (argCi m c) g n) (Ref.col (argSr m c) g n) (Ref.col (argSi m c) g n) t (by omega)
      (gRe_at m c ⟨t, hN⟩ g n) (gIm_at m c ⟨t, hN⟩ g n) (sr_at m c ⟨t, hN⟩ g n) (si_at m c ⟨t, hN⟩ g n)
      (by rw [ih (by omega), blk_2, blk_3]; rfl) 128 le_rfl
    rw [blk_2, blk_3] at h
    rw [show 128 * (t + 1) = 128 * t + 128 from rfl]
    unfold blkCarry blockCarry walkA walkV
    rw [blk_2, blk_3]
    exact h

/-- A point's adjoints, by row. -/
theorem lam_at (t : Fin cfg0.N) (g : Fin 8) (n : Fin 1024) (y : Fin 128) :
    blkRe m c t (st m c t.val) (ValueIdx.ix3 y g n) = (walkA m c g n (2048 - (rowAt t y).val)).1
    ∧ blkIm m c t (st m c t.val) (ValueIdx.ix3 y g n) = (walkA m c g n (2048 - (rowAt t y).val)).2.1 := by
  have hN : t.val < 16 := lt_of_lt_of_eq t.isLt N_0
  have h := lam_walk (iblk m c 2 t) (iblk m c 3 t) (iblk m c 4 t) (iblk m c 5 t) _ _ (st m c t.val) g n
    (srcRe (argCt m c) (argY m c) (argCr m c) g n) (srcIm (argCt m c) (argY m c) (argCi m c) g n) (Ref.col (argSr m c) g n) (Ref.col (argSi m c) g n) t.val hN
    (gRe_at m c t g n) (gIm_at m c t g n) (sr_at m c t g n) (si_at m c t g n)
    (by rw [st_walk m c g n t.val (by omega), blk_2, blk_3]; rfl) y
  rw [blk_2, blk_3] at h
  unfold blkRe blkIm blockRe blockIm
  rw [blk_2, blk_3]
  exact h

/-- A block of adjoints is stored group by group. -/
theorem pay11_at (x : S128x8x1024.Idx → EReal) (g : Fin 8) (a : Fin 128) (n : Fin 1024) :
    k0_pay11 (F := Ideal) x (ValueIdx.ix3 g a n) = x (ValueIdx.ix3 a g n) := by
  unfold k0_pay11
  simp only [pointwise]
  exact congrArg x (funext fun b => by match b with | 0 => rfl | 1 => rfl | 2 => rfl)
theorem pay12_at (x : S128x8x1024.Idx → EReal) (g : Fin 8) (a : Fin 128) (n : Fin 1024) :
    k0_pay12 (F := Ideal) x (ValueIdx.ix3 g a n) = x (ValueIdx.ix3 a g n) := pay11_at x g a n

theorem final_6 : finalA m c 6 = fun i : S2048x2048.Idx => dyA m c (i 0) (i 1) := by
  refine (dats m 0 c).arrAt_eq_of_covers 6 _ (by decide +kernel) fun t hf y => ?_
  blk_simp [index0_6 t]
  have hN : t.val < 16 := lt_of_lt_of_eq t.isLt N_0
  obtain ⟨a, k, rfl⟩ : ∃ (a : Fin 128) (k : Fin 2048), y = ValueIdx.ix2 a k := ⟨y 0, y 1, ValueIdx.eq_ix2 y⟩
  refine (dy_at m c t a k).trans (congrArg₂ (dyA m c) (Fin.ext ?_) (Fin.ext ?_))
  · blk_simp [index0_6 t]
    show 128 * (15 - t.val) + a.val = (15 - t.val) * 128 + a.val
    omega
  · blk_simp [index0_6 t]

theorem final_7 : finalA m c 7 = fun i : S8x2048x1024.Idx => (walkA m c (i 0) (i 2) (2048 - (i 1).val)).1 := by
  refine (dats m 0 c).arrAt_eq_of_covers 7 _ (by decide +kernel) fun t hf y => ?_
  blk_simp [index0_7 t]
  obtain ⟨g, a, n, rfl⟩ : ∃ (g : Fin 8) (a : Fin 128) (n : Fin 1024), y = ValueIdx.ix3 g a n := ⟨y 0, y 1, y 2, ValueIdx.eq_ix3 y⟩
  have e0 : (win0_7.blk t).view.emb (ValueIdx.ix3 g a n) 0 = g := Fin.ext (by blk_simp [index0_7 t]; rfl)
  have e2 : (win0_7.blk t).view.emb (ValueIdx.ix3 g a n) 2 = n := Fin.ext (by blk_simp [index0_7 t]; rfl)
  rw [e0, e2]
  refine Eq.trans ?_ ((lam_at m c t g n a).1.trans ?_)
  · exact pay11_at (blkRe m c t (st m c t.val)) g a n
  · show _ = (walkA m c g n (2048 - ((15 - t.val) * 128 + a.val))).1
    rw [Nat.mul_comm (15 - t.val) 128]

theorem final_8 : finalA m c 8 = fun i : S8x2048x1024.Idx => (walkA m c (i 0) (i 2) (2048 - (i 1).val)).2.1 := by
  refine (dats m 0 c).arrAt_eq_of_covers 8 _ (by decide +kernel) fun t hf y => ?_
  blk_simp [index0_8 t]
  obtain ⟨g, a, n, rfl⟩ : ∃ (g : Fin 8) (a : Fin 128) (n : Fin 1024), y = ValueIdx.ix3 g a n := ⟨y 0, y 1, y 2, ValueIdx.eq_ix3 y⟩
  have e0 : (win0_8.blk t).view.emb (ValueIdx.ix3 g a n) 0 = g := Fin.ext (by blk_simp [index0_8 t]; rfl)
  have e2 : (win0_8.blk t).view.emb (ValueIdx.ix3 g a n) 2 = n := Fin.ext (by blk_simp [index0_8 t]; rfl)
  rw [e0, e2]
  refine Eq.trans ?_ ((lam_at m c t g n a).2.trans ?_)
  · exact pay12_at (blkIm m c t (st m c t.val)) g a n
  · show _ = (walkA m c g n (2048 - ((15 - t.val) * 128 + a.val))).2.1
    rw [Nat.mul_comm (15 - t.val) 128]

theorem sums_end_at (g : Fin 8) (n : Fin 1024) :
    ((st m c (t0_15.val + 1)).2.2.1 (ValueIdx.ix2 g n) : EReal) = (endedA m c g n).2.2.1
    ∧ ((st m c (t0_15.val + 1)).2.2.2 (ValueIdx.ix2 g n) : EReal) = (endedA m c g n).2.2.2 := by
  have h := st_walk m c g n 16 le_rfl
  rw [show 128 * 16 = 2048 from rfl, show walkA m c g n 2048 = endedA m c g n from (ended_eq _ _ _ _ _ _ _ _ g n).symm] at h
  rw [show t0_15.val + 1 = 16 from rfl, ← h]
  exact ⟨rfl, rfl⟩

theorem final_9 : finalA m c 9 = fun i : S8x1024.Idx => (endedA m c (i 0) (i 1)).2.2.1 := by
  refine (dats m 0 c).arrAt_eq_of_after_last 9 t0_15 (by decide +kernel) _ fun j => ?_
  blk_simp
  obtain ⟨g, n, rfl⟩ : ∃ (g : Fin 8) (n : Fin 1024), j = ValueIdx.ix2 g n := ⟨j 0, j 1, ValueIdx.eq_ix2 j⟩
  exact (sums_end_at m c g n).1

theorem final_10 : finalA m c 10 = fun i : S8x1024.Idx => (endedA m c (i 0) (i 1)).2.2.2 := by
  refine (dats m 0 c).arrAt_eq_of_after_last 10 t0_15 (by decide +kernel) _ fun j => ?_
  blk_simp
  obtain ⟨g, n, rfl⟩ : ∃ (g : Fin 8) (n : Fin 1024), j = ValueIdx.ix2 g n := ⟨j 0, j 1, ValueIdx.eq_ix2 j⟩
  exact (sums_end_at m c g n).2

end Cert.Scan

end
-- ==== Proof.Frames.lean ====
module

public import proofs.«01_k».proof.Proof.Whole
public import proofs.«01_k».proof.Defs
public import proofs.«01_k».proof.Proof.Gen.Kernel

/-! The two kernel programs keep their arguments, and the named constants round to the printed words. -/

@[expose] public section

set_option maxRecDepth 16384

noncomputable section

namespace Cert.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Naming a constant changes no word of the printed program. -/
local instance printed : Named Bits where
  named _ _ {φ} bits := Scalar.ofBits φ bits

/-- The arguments are as they were, and every counter is at zero. -/
abbrev Kept {F : FTy → Type} [FloatOps F] (m : (ℓ : Loc nD τ sig) → Buf (Elt F) ℓ) (r : PUnit × MemSt nD τ sig (Elt F)) : Prop :=
  (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0

/-- Over any float values, a run of the program keeps its arguments and ends with every counter at zero. -/
theorem keeps {F : FTy → Type} [FloatOps F] [Named F] (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (Kept m) :=
  (θ_run Cert.KernelIdeal.defs _ _).mono (fun _ h => ⟨fun c => ⟨((h.1 c).1 0).trans (finalA_in m c 0 rfl), ((h.1 c).1 1).trans (finalA_in m c 1 rfl), (h.1 c).2.1, (h.1 c).2.2, ((h.1 c).1 2).trans (finalA_in m c 2 rfl), ((h.1 c).1 3).trans (finalA_in m c 3 rfl), ((h.1 c).1 4).trans (finalA_in m c 4 rfl), ((h.1 c).1 5).trans (finalA_in m c 5 rfl)⟩, h.2⟩) (run_main (F := F) m ρ)

/-- The ideal program keeps its arguments. -/
theorem frame_kernelIdeal : Cert.quiescent_KernelIdeal := fun m ρ _ => keeps (F := Ideal) m ρ

/-- The printed program's bodies are the ideal program's, read over words. -/
theorem bodies_eq : (Cert.Kernel.defs₀ (F := Bits)) = (Cert.KernelIdeal.defs₀ (F := Bits)) := by
  unfold Cert.Kernel.defs₀ Cert.KernelIdeal.defs₀
  refine congrArg Defs.onTc (funext fun l => funext fun a => ?_)
  obtain ⟨l, hl⟩ := l
  obtain rfl : l = 0 := Nat.lt_one_iff.mp hl
  rfl

theorem defs_eq : (Cert.Kernel.defs (F := Bits)) = (Cert.KernelIdeal.defs (F := Bits)) :=
  congrArg (Pipeline.defs (Cert.KernelIdeal.pcfgs (F := Bits))) bodies_eq

/-- The printed program keeps its arguments. -/
theorem frame_kernel : Cert.quiescent_Kernel := fun m ρ _ =>
  (congrArg (fun d => θ_run d (onTc (τ := τ) (Cert.KernelIdeal.main (F := Bits))) ⟨m, fun _ => 0, ρ⟩ (Kept m)) defs_eq).mpr (keeps (F := Bits) m ρ)

/-- Each named constant is the number its printed word rounds. -/
theorem preserves : Cert.preserves_Kernel_KernelIdeal :=
  ⟨IdealRules.named_const.statement Cert.KernelIdeal.κ "g" .f32 0x3D372713#32 ((8943 / 200000 : ℝ) : EReal) rfl,
    IdealRules.named_const.statement Cert.KernelIdeal.κ "g3" .f32 0x3E095D4F#32 ((26829 / 200000 : ℝ) : EReal) rfl⟩

end Cert.Scan
end
-- ==== Proof.Algebraic.lean ====
module

public import proofs.«01_k».proof.Proof.RefValue
public import proofs.«01_k».proof.Proof.Arrays
public import proofs.«01_k».proof.Proof.Frames

/-! Over the extended reals the kernel's five results are the reference's. -/

@[expose] public section

set_option maxRecDepth 16384

noncomputable section

namespace Cert.Scan

open Idealize.ShloMosaic Idealize.ShloMosaic.TcCoe Idealize.SL.Sem

theorem algebraic : Cert.algebraic_KernelIdeal_ReferenceIdeal := by
  intro m ρ m' ρ' _ hargs
  refine ⟨fun c => finalA m c 6, fun c => finalA m c 7, fun c => finalA m c 8, fun c => finalA m c 9, fun c => finalA m c 10, ?_, ?_⟩
  · exact (θ_run Cert.KernelIdeal.defs _ _).mono (fun _ h c => ⟨(h.1 c).1 6, (h.1 c).1 7, (h.1 c).1 8, (h.1 c).1 9, (h.1 c).1 10,
      ((h.1 c).1 0).trans (finalA_in m c 0 rfl), ((h.1 c).1 1).trans (finalA_in m c 1 rfl), (h.1 c).2.1, (h.1 c).2.2, ((h.1 c).1 2).trans (finalA_in m c 2 rfl),
      ((h.1 c).1 3).trans (finalA_in m c 3 rfl), ((h.1 c).1 4).trans (finalA_in m c 4 rfl), ((h.1 c).1 5).trans (finalA_in m c 5 rfl)⟩) (run_main (F := Ideal) m ρ)
  · refine (θ_run Cert.ReferenceIdeal.defs _ _).mono (fun r h c => ?_) (Cert.ReferenceIdeal.Value.run_fold (F := Ideal) m' ρ')
    obtain ⟨e0, e1, e2, e3, e4, e5, e6, e7⟩ := hargs c
    have hdy : dyV (Ref.argCt m' c) (Ref.argY m' c) = dyA m c := by
      unfold dyA Ref.argCt Ref.argY
      rw [e0, e1]
    have hw : Ref.walkR m' c = walkA m c := by
      unfold Ref.walkR walkA Ref.argCt Ref.argY Ref.argCr Ref.argCi Ref.argAr Ref.argAi Ref.argSr Ref.argSi
      rw [e0, e1, e2, e3, e4, e5, e6, e7]
    have he : Ref.endedR m' c = endedA m c := by
      unfold Ref.endedR endedA Ref.argCt Ref.argY Ref.argCr Ref.argCi Ref.argAr Ref.argAi Ref.argSr Ref.argSi
      rw [e0, e1, e2, e3, e4, e5, e6, e7]
    have r0 := Ref.result_0 m' c
    have r1 := Ref.result_1 m' c _ rfl
    have r2 := Ref.result_2 m' c _ rfl
    have r3 := Ref.result_3 m' c _ rfl
    have r4 := Ref.result_4 m' c _ rfl
    rw [hdy] at r0
    rw [hw] at r1 r2
    rw [he] at r3 r4
    exact ⟨(h c Cert.ReferenceIdeal.main_v40 rfl).trans (r0.trans (final_6 m c).symm), (h c Cert.ReferenceIdeal.main_v69 rfl).trans (r1.trans (final_7 m c).symm),
      (h c Cert.ReferenceIdeal.main_v71 rfl).trans (r2.trans (final_8 m c).symm), (h c Cert.ReferenceIdeal.main_v67_10 rfl).trans (r3.trans (final_9 m c).symm),
      (h c Cert.ReferenceIdeal.main_v67_11 rfl).trans (r4.trans (final_10 m c).symm),
      (h c Cert.ReferenceIdeal.main_arg0 rfl).trans (Ref.final_kept m' c _ (by decide +kernel)), (h c Cert.ReferenceIdeal.main_arg1 rfl).trans (Ref.final_kept m' c _ (by decide +kernel)),
      (h c Cert.ReferenceIdeal.main_arg2 rfl).trans (Ref.final_kept m' c _ (by decide +kernel)), (h c Cert.ReferenceIdeal.main_arg3 rfl).trans (Ref.final_kept m' c _ (by decide +kernel)),
      (h c Cert.ReferenceIdeal.main_arg4 rfl).trans (Ref.final_kept m' c _ (by decide +kernel)), (h c Cert.ReferenceIdeal.main_arg5 rfl).trans (Ref.final_kept m' c _ (by decide +kernel)),
      (h c Cert.ReferenceIdeal.main_arg6 rfl).trans (Ref.final_kept m' c _ (by decide +kernel)), (h c Cert.ReferenceIdeal.main_arg7 rfl).trans (Ref.final_kept m' c _ (by decide +kernel))⟩

end Cert.Scan

end
-- ==== Proof.GuDa.lean ====
module

public import proofs.«01_k».proof.Defs
public import proofs.«01_k».proof.Proof.Gen.GuDaIdeal.Value
public import proofs.«01_k».proof.Proof.Gen.GuDaRefIdeal.Run
public import Idealize.ShloMosaic.Lib.Pipeline.ValueKit

/-! The gradient of the layer's input: each block adds eight products, one for each part of the gate and up weights. -/

@[expose] public section

set_option maxRecDepth 16384

noncomputable section

namespace Cert.GuDaValue

open Cert.GuDaIdeal Cert.GuDaIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (d w : FVec Ideal S8x2048x1408 .bf16) : FVec Ideal S2048x2048 .f32 :=
  Host.dotGeneral Cert.GuDaRefIdeal.dot_S8x1408x2048_S8x2048x1408_S2048x2048_01_02_2_1_n_n none (transpose Cert.GuDaRefIdeal.S8x1408x2048 [0, 2, 1] (extf .f32 d Cert.GuDaRefIdeal.Gen.bitsLt_bf16_f32) Cert.GuDaRefIdeal.Gen.transposes_S8x2048x1408_S8x1408x2048_0_2_1) (extf .f32 w Cert.GuDaRefIdeal.Gen.bitsLt_bf16_f32)

/-- Which block each window takes at a point. -/
theorem idx : ∀ t : Fin cfg0.N, win0_0.index t = ![t.val % 8, t.val / 16, 0] ∧ win0_1.index t = ![t.val % 8, t.val / 8 % 2, 0] ∧ win0_2.index t = ![t.val / 16, t.val / 8 % 2] :=
  (by decide +kernel : ∀ t : Fin grid0.N, _)

theorem zero_at (j) : k0_pay1 (F := Ideal) j = 0 := by pointwise [k0_pay1]

theorem step_at (acc : FVec Ideal S1024x1024 .f32) (x w : FVec Ideal S1x1024x1408 .bf16) (j) :
    k0_pay2 (F := Ideal) acc x w j = (acc j + ∑ k : Fin 1408, (x (ix3 0 (j 0) k) * w (ix3 0 (j 1) k) : EReal) : EReal) := by
  pointwise [k0_pay2]

theorem prod_at (d w : FVec Ideal S8x2048x1408 .bf16) (j) :
    prod d w j = (∑ s : Fin 8, ∑ k : Fin 1408, (d (ix3 s (j 0) k) * w (ix3 s (j 1) k) : EReal) : EReal) := by
  pointwise [prod]

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  have h7 : t.val % 8 = 7 := (flush0_2 t).mp hf
  have h0 : ¬t.val % 8 = 0 := by omega
  have same : (outsAt0 m c t.val t.isLt).1 = (outsAt0 m c t.val t.isLt).2 := by
    rw [outsAt0_C m c t h0 h7]; frame_out
  rw [after0_2, same, Pipeline.eq_sum_fin_of_reset_step_apply_of_flush (fun n h => (outsAt0 m c n h).2) 8 (fun _ => 0) _
    (fun t h j => by rw [outsAt0_A m c t h (by omega)]; frame_out; rw [step_at, zero_at])
    (fun t h j => by
      by_cases h7 : t.val % 8 = 7
      · rw [outsAt0_C m c t h h7]; frame_out; rw [step_at]; exact congrArg (fun x : EReal => x + _) (congrFun ((Memref.isWhole_whole cc0_scratch0).read_unread _) j)
      · rw [outsAt0_B m c t h h7]; frame_out; rw [step_at]; exact congrArg (fun x : EReal => x + _) (congrFun ((Memref.isWhole_whole cc0_scratch0).read_unread _) j))
    t h7 _, zero_add, prod_at]
  refine Fin.sum_fin_congr fun s => Fin.sum_fin_congr fun k => ?_
  blk_point [iblk, V, idx t, idx ⟨_, Pipeline.run_point_lt_of_flush t h7 s⟩]

/-- The reference keeps its arguments and ends with every counter at zero. -/
theorem frame_reference : Cert.quiescent_GuDaRefIdeal := fun m ρ _ =>
  (θ_run Cert.GuDaRefIdeal.defs _ _).mono (fun r h => ⟨fun c => (h c).2, sem_eq_zero_of_no_sems (by decide) r.2⟩) (Cert.GuDaRefIdeal.Value.run (F := Ideal) m ρ)

/-- Kernel and reference end with the same result. -/
theorem algebraic : Cert.algebraic_GuDaIdeal_GuDaRefIdeal := by
  intro m ρ m' ρ' _ hargs
  refine ⟨fun c => (dats m 0 c).arrAt 2 cfg0.N, Cert.GuDaIdeal.Value.run_blocks (F := Ideal) m ρ, ?_⟩
  refine (θ_run Cert.GuDaRefIdeal.defs _ _).mono (fun r h c => ⟨(h c).1.trans ?_, (h c).2⟩) (Cert.GuDaRefIdeal.Value.run (F := Ideal) m' ρ')
  rw [(hargs c).1, (hargs c).2]
  exact (final m c).symm

end Cert.GuDaValue

end
-- ==== Proof.GuDb.lean ====
module

public import proofs.«01_k».proof.Defs
public import proofs.«01_k».proof.Proof.Gen.GuDbIdeal.Value
public import proofs.«01_k».proof.Proof.Gen.GuDbRefIdeal.Run
public import Idealize.ShloMosaic.Lib.Pipeline.ValueKit

/-! The gradient of the gate and up weights: each block is one product of rows and columns. -/

@[expose] public section

set_option maxRecDepth 16384

noncomputable section

namespace Cert.GuDbValue

open Cert.GuDbIdeal Cert.GuDbIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (h : FVec Ideal S2048x2048 .bf16) (d : FVec Ideal S8x2048x1408 .bf16) : FVec Ideal S8x2048x1408 .bf16 :=
  truncf .bf16 (transpose Cert.GuDbRefIdeal.S8x2048x1408 [0, 2, 1] (Host.dotGeneral Cert.GuDbRefIdeal.dot_S8x1408x2048_S2048x2048_S8x1408x2048_2_0_01_1_n_n none (transpose Cert.GuDbRefIdeal.S8x1408x2048 [0, 2, 1] (extf .f32 d Cert.GuDbRefIdeal.Gen.bitsLt_bf16_f32) Cert.GuDbRefIdeal.Gen.transposes_S8x2048x1408_S8x1408x2048_0_2_1) (extf .f32 h Cert.GuDbRefIdeal.Gen.bitsLt_bf16_f32)) Cert.GuDbRefIdeal.Gen.transposes_S8x1408x2048_S8x2048x1408_0_2_1) Cert.GuDbRefIdeal.Gen.bitsLt_bf16_f32

/-- Which block each window takes at a point. -/
theorem idx : ∀ t : Fin cfg0.N, win0_0.index t = ![0, t.val % 4] ∧ win0_1.index t = ![t.val / 4, 0, 0] ∧ win0_2.index t = ![t.val / 4, t.val % 4, 0] :=
  (by decide +kernel : ∀ t : Fin grid0.N, _)

/-- What a point stores is the product, where the block lies. -/
theorem point (c : Dev nD) (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  refine Fin.sum_fin_congr fun k => (@mul_comm EReal _ _ _).trans ?_
  blk_point [iblk, V, idx t]

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The reference keeps its arguments and ends with every counter at zero. -/
theorem frame_reference : Cert.quiescent_GuDbRefIdeal := fun m ρ _ =>
  (θ_run Cert.GuDbRefIdeal.defs _ _).mono (fun r h => ⟨fun c => (h c).2, sem_eq_zero_of_no_sems (by decide) r.2⟩) (Cert.GuDbRefIdeal.Value.run (F := Ideal) m ρ)

/-- Kernel and reference end with the same result. -/
theorem algebraic : Cert.algebraic_GuDbIdeal_GuDbRefIdeal := by
  intro m ρ m' ρ' _ hargs
  refine ⟨fun c => (dats m 0 c).arrAt 2 cfg0.N, Cert.GuDbIdeal.Value.run_blocks (F := Ideal) m ρ, ?_⟩
  refine (θ_run Cert.GuDbRefIdeal.defs _ _).mono (fun r h c => ⟨(h c).1.trans ?_, (h c).2⟩) (Cert.GuDbRefIdeal.Value.run (F := Ideal) m' ρ')
  rw [(hargs c).1, (hargs c).2]
  exact (final m c).symm

end Cert.GuDbValue

end
-- ==== Proof.DownDa.lean ====
module

public import proofs.«01_k».proof.Defs
public import proofs.«01_k».proof.Proof.Gen.DownDaIdeal.Value
public import proofs.«01_k».proof.Proof.Gen.DownDaRefIdeal.Run
public import Idealize.ShloMosaic.Lib.Pipeline.ValueKit

/-! The gradient of the activation: each block is one product of rows and columns. -/

@[expose] public section

set_option maxRecDepth 16384

noncomputable section

namespace Cert.DownDaValue

open Cert.DownDaIdeal Cert.DownDaIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (d : FVec Ideal S2048x2048 .bf16) (w : FVec Ideal S5632x2048 .bf16) : FVec Ideal S4x2048x1408 .bf16 :=
  truncf .bf16 (transpose Cert.DownDaRefIdeal.S4x2048x1408 [1, 0, 2] (Host.dotGeneral Cert.DownDaRefIdeal.dot_S2048x2048_S4x1408x2048_S2048x4x1408_1_2_0_01_n_n none (extf .f32 d Cert.DownDaRefIdeal.Gen.bitsLt_bf16_f32) (shapeCast _ (extf .f32 w Cert.DownDaRefIdeal.Gen.bitsLt_bf16_f32) Cert.DownDaRefIdeal.Gen.shapeCasts_S5632x2048_S4x1408x2048)) Cert.DownDaRefIdeal.Gen.transposes_S2048x4x1408_S4x2048x1408_1_0_2) Cert.DownDaRefIdeal.Gen.bitsLt_bf16_f32

/-- Which block each window takes at a point. -/
theorem idx : ∀ t : Fin cfg0.N, win0_0.index t = ![t.val % 2, 0] ∧ win0_1.index t = ![t.val / 2, 0] ∧ win0_2.index t = ![t.val / 2, t.val % 2, 0] :=
  (by decide +kernel : ∀ t : Fin grid0.N, _)

/-- What a point stores is the product, where the block lies. -/
theorem point (c : Dev nD) (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The reference keeps its arguments and ends with every counter at zero. -/
theorem frame_reference : Cert.quiescent_DownDaRefIdeal := fun m ρ _ =>
  (θ_run Cert.DownDaRefIdeal.defs _ _).mono (fun r h => ⟨fun c => (h c).2, sem_eq_zero_of_no_sems (by decide) r.2⟩) (Cert.DownDaRefIdeal.Value.run (F := Ideal) m ρ)

/-- Kernel and reference end with the same result. -/
theorem algebraic : Cert.algebraic_DownDaIdeal_DownDaRefIdeal := by
  intro m ρ m' ρ' _ hargs
  refine ⟨fun c => (dats m 0 c).arrAt 2 cfg0.N, Cert.DownDaIdeal.Value.run_blocks (F := Ideal) m ρ, ?_⟩
  refine (θ_run Cert.DownDaRefIdeal.defs _ _).mono (fun r h c => ⟨(h c).1.trans ?_, (h c).2⟩) (Cert.DownDaRefIdeal.Value.run (F := Ideal) m' ρ')
  rw [(hargs c).1, (hargs c).2]
  exact (final m c).symm

end Cert.DownDaValue

end
-- ==== Proof.DownDb.lean ====
module

public import proofs.«01_k».proof.Defs
public import proofs.«01_k».proof.Proof.Gen.DownDbIdeal.Value
public import proofs.«01_k».proof.Proof.Gen.DownDbRefIdeal.Run
public import Idealize.ShloMosaic.Lib.Pipeline.ValueKit

/-! The gradient of the down weights: each block is one product of rows and columns. -/

@[expose] public section

set_option maxRecDepth 16384

noncomputable section

namespace Cert.DownDbValue

open Cert.DownDbIdeal Cert.DownDbIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (a : FVec Ideal S4x2048x1408 .bf16) (d : FVec Ideal S2048x2048 .bf16) : FVec Ideal S5632x2048 .bf16 :=
  truncf .bf16 (shapeCast _ (transpose Cert.DownDbRefIdeal.S4x1408x2048 [1, 2, 0] (Host.dotGeneral Cert.DownDbRefIdeal.dot_S2048x2048_S4x2048x1408_S2048x4x1408_0_1_1_02_n_n none (extf .f32 d Cert.DownDbRefIdeal.Gen.bitsLt_bf16_f32) (extf .f32 a Cert.DownDbRefIdeal.Gen.bitsLt_bf16_f32)) Cert.DownDbRefIdeal.Gen.transposes_S2048x4x1408_S4x1408x2048_1_2_0) Cert.DownDbRefIdeal.Gen.shapeCasts_S4x1408x2048_S5632x2048) Cert.DownDbRefIdeal.Gen.bitsLt_bf16_f32

/-- Which block each window takes at a point. -/
theorem idx : ∀ t : Fin cfg0.N, win0_0.index t = ![t.val / 4, 0, 0] ∧ win0_1.index t = ![0, t.val % 4] ∧ win0_2.index t = ![t.val / 4, t.val % 4] :=
  (by decide +kernel : ∀ t : Fin grid0.N, _)

/-- What a point stores is the product, where the block lies. -/
theorem point (c : Dev nD) (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  refine Fin.sum_fin_congr fun k => (@mul_comm EReal _ _ _).trans ?_
  blk_point [iblk, V, idx t]

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The reference keeps its arguments and ends with every counter at zero. -/
theorem frame_reference : Cert.quiescent_DownDbRefIdeal := fun m ρ _ =>
  (θ_run Cert.DownDbRefIdeal.defs _ _).mono (fun r h => ⟨fun c => (h c).2, sem_eq_zero_of_no_sems (by decide) r.2⟩) (Cert.DownDbRefIdeal.Value.run (F := Ideal) m ρ)

/-- Kernel and reference end with the same result. -/
theorem algebraic : Cert.algebraic_DownDbIdeal_DownDbRefIdeal := by
  intro m ρ m' ρ' _ hargs
  refine ⟨fun c => (dats m 0 c).arrAt 2 cfg0.N, Cert.DownDbIdeal.Value.run_blocks (F := Ideal) m ρ, ?_⟩
  refine (θ_run Cert.DownDbRefIdeal.defs _ _).mono (fun r h c => ⟨(h c).1.trans ?_, (h c).2⟩) (Cert.DownDbRefIdeal.Value.run (F := Ideal) m' ρ')
  rw [(hargs c).1, (hargs c).2]
  exact (final m c).symm

end Cert.DownDbValue

end
-- ==== Proof.Act.lean ====
module

public import proofs.«01_k».proof.Defs
public import proofs.«01_k».proof.Proof.Gen.ActIdeal.Value
public import proofs.«01_k».proof.Proof.Gen.ActRefIdeal.Run
public import Idealize.ShloMosaic.Lib.Pipeline.ValueKit
public import Mathlib.Tactic.Ring

/-! The gradient of the gate and up products: both halves are the reference's, entry by entry. -/

@[expose] public section

set_option maxRecDepth 16384

noncomputable section

namespace Cert.ActValue

open Cert.ActIdeal Cert.ActIdeal.Gen
open Idealize.ShloMosaic Idealize.ShloMosaic.TcCoe Idealize.SL.Sem
open Idealize.ShloMosaic.Pipeline (Dat)

variable (m : (ℓ : Loc nD τ sig) → Buf (Elt Ideal) ℓ)

/-- The slope of `x · sigmoid x`, as the kernel and as the reference write it. -/
theorem slope_eq (g : EReal) : Ideal.logistic g * (1 + g * (1 - Ideal.logistic g))
    = Ideal.div 1 (1 + Ideal.exp (-g)) + g * (Ideal.div 1 (1 + Ideal.exp (-g)) * (1 - Ideal.div 1 (1 + Ideal.exp (-g)))) := by
  change _ = Ideal.logistic g + g * (Ideal.logistic g * (1 - Ideal.logistic g))
  have one : (1 : EReal) = ((1 : ℝ) : EReal) := rfl
  have e : (1 : EReal) - 1 = 0 := by rw [one]; norm_cast
  induction g using EReal.rec with
  | bot => simp only [Ideal.logistic_bot, zero_mul, mul_zero, add_zero]
  | top => simp only [Ideal.logistic_top, e, mul_zero, add_zero, one_mul]
  | coe r =>
    simp only [Ideal.logistic_coe, one, ← EReal.coe_mul, ← EReal.coe_add, ← EReal.coe_sub]
    congr 1
    ring

abbrev one : FVec Ideal Cert.ActRefIdeal.S4x2048x1408 .f32 :=
  broadcastInDim Cert.ActRefIdeal.S4x2048x1408 ![] Cert.ActRefIdeal.Gen.bcast_S_S4x2048x1408 (constant Cert.ActRefIdeal.S_ .f32 0x3F800000#32)
abbrev gate (gu : FVec Ideal S8x2048x1408 .bf16) : FVec Ideal Cert.ActRefIdeal.S4x2048x1408 .f32 :=
  extractStridedSlice Cert.ActRefIdeal.S4x2048x1408 ![0, 0, 0] (extf .f32 gu Cert.ActRefIdeal.Gen.bitsLt_bf16_f32) Cert.ActRefIdeal.Gen.slices_S8x2048x1408_S4x2048x1408_0_0_0
abbrev sigmoid (gu : FVec Ideal S8x2048x1408 .bf16) : FVec Ideal Cert.ActRefIdeal.S4x2048x1408 .f32 :=
  Host.divf one (addf one (Host.exp (Host.negf (gate gu))))
/-- The reference's result of its arguments. -/
abbrev both (gu : FVec Ideal S8x2048x1408 .bf16) (da : FVec Ideal S4x2048x1408 .bf16) : FVec Ideal S2x4x2048x1408 .bf16 :=
  truncf .bf16 (concatenate Cert.ActRefIdeal.S2x4x2048x1408 0 [⟨Cert.ActRefIdeal.S1x4x2048x1408, (broadcastInDim Cert.ActRefIdeal.S1x4x2048x1408 ![1, 2, 3] Cert.ActRefIdeal.Gen.bcast_S4x2048x1408_S1x4x2048x1408_1_2_3 (mulf (mulf (extf .f32 da Cert.ActRefIdeal.Gen.bitsLt_bf16_f32) (extractStridedSlice Cert.ActRefIdeal.S4x2048x1408 ![4, 0, 0] (extf .f32 gu Cert.ActRefIdeal.Gen.bitsLt_bf16_f32) Cert.ActRefIdeal.Gen.slices_S8x2048x1408_S4x2048x1408_4_0_0)) (addf (mulf one (sigmoid gu)) (mulf (mulf (gate gu) one) (mulf (sigmoid gu) (subf one (sigmoid gu)))))))⟩, ⟨Cert.ActRefIdeal.S1x4x2048x1408, (broadcastInDim Cert.ActRefIdeal.S1x4x2048x1408 ![1, 2, 3] Cert.ActRefIdeal.Gen.bcast_S4x2048x1408_S1x4x2048x1408_1_2_3 (mulf (extf .f32 da Cert.ActRefIdeal.Gen.bitsLt_bf16_f32) (mulf (gate gu) (sigmoid gu))))⟩] Cert.ActRefIdeal.Gen.concatenates_S1x4x2048x1408_S1x4x2048x1408_S2x4x2048x1408_d0) Cert.ActRefIdeal.Gen.bitsLt_bf16_f32

/-- Which block each window takes at a point. -/
theorem idx : ∀ t : Fin cfg0.N, win0_0.index t = ![0, t.val / 8, t.val % 8, 0] ∧ win0_1.index t = ![t.val / 8, t.val % 8, 0] ∧ win0_2.index t = ![0, t.val / 8, t.val % 8, 0] :=
  (by decide +kernel : ∀ t : Fin grid0.N, _)

/-- A block's read of the gate and up products, as a read of the program's argument. -/
theorem read_gu (c : Dev nD) (t : Fin cfg0.N) (h : Fin 2) (a : Fin 256) (b : Fin 1408) (p : Fin 8) (q : Fin 2048)
    (hp : (p : ℕ) = h * 4 + t.val / 8) (hq : (q : ℕ) = t.val % 8 * 256 + a) :
    iblk m c 0 t (ix4 h 0 a b) = m ((c : Thread nD τ).loc main_arg0) (ix3 p q b) := by
  have ht : t.val < 32 := t.isLt
  blk_simp [iblk]
  entry_read
  pointwise
  blk_ext [idx t]

/-- What a point stores is the reference's result, where the block lies. -/
theorem point (c : Dev nD) (t : Fin cfg0.N) (y) : out0_2 (F := Ideal) (iblk m c 0 t) (iblk m c 1 t) y
    = both (m ((c : Thread nD τ).loc main_arg0)) (m ((c : Thread nD τ).loc main_arg1)) (((cfg0.win 2).blk t).view.emb y) := by
  have ht : t.val < 32 := t.isLt
  have e : (((cfg0.win 2).blk t).view.emb y 0 : ℕ) = y 0 := by blk_simp [idx t] <;> try omega
  canon_tiles x h
  all_goals
    have hq : t.val % 8 * 256 + (x 2 : ℕ) < 2048 := by omega
    have g := read_gu m c t 0 (x 2) (x 3) ⟨t.val / 8, by omega⟩ ⟨_, hq⟩ (by simp) rfl
  case piece0 =>
    open_payloads
    pointwise [both, sigmoid, gate, one]
    rw [dif_neg (by erw [e]; omega), g]
    simp only [Ideal.logistic]
    blk_point [iblk, V, idx t]
  case piece1 =>
    have u := read_gu m c t 1 (x 2) (x 3) ⟨4 + t.val / 8, by omega⟩ ⟨_, hq⟩ (by simp) rfl
    open_payloads
    pointwise [both, sigmoid, gate, one]
    rw [dif_pos (by erw [e]; omega), slope_eq, g, u]
    blk_point [iblk, V, idx t]

/-- The blocks make the array. -/
theorem final (c : Dev nD) : (dats m 0 c).arrAt 2 cfg0.N
    = both (m ((c : Thread nD τ).loc main_arg0)) (m ((c : Thread nD τ).loc main_arg1)) := by
  refine (dats m 0 c).arrAt_eq_of_covers 2 _ (by decide +kernel) fun t _ y => ?_
  blk_simp
  rw [after0_2]
  exact point m c t y

/-- The reference keeps its arguments and ends with every counter at zero. -/
theorem frame_reference : Cert.quiescent_ActRefIdeal := fun m ρ _ =>
  (θ_run Cert.ActRefIdeal.defs _ _).mono (fun r h => ⟨fun c => (h c).2, sem_eq_zero_of_no_sems (by decide) r.2⟩) (Cert.ActRefIdeal.Value.run (F := Ideal) m ρ)

/-- Kernel and reference end with the same result. -/
theorem algebraic : Cert.algebraic_ActIdeal_ActRefIdeal := by
  intro m ρ m' ρ' _ hargs
  refine ⟨fun c => (dats m 0 c).arrAt 2 cfg0.N, Cert.ActIdeal.Value.run_blocks (F := Ideal) m ρ, ?_⟩
  refine (θ_run Cert.ActRefIdeal.defs _ _).mono (fun r h c => ⟨(h c).1.trans ?_, (h c).2⟩) (Cert.ActRefIdeal.Value.run (F := Ideal) m' ρ')
  rw [(hargs c).1, (hargs c).2]
  exact (final m c).symm

end Cert.ActValue

end
-- ==== Proof.SGrads.lean ====
module

public import proofs.«01_k».proof.Defs
public import proofs.«01_k».proof.Proof.Gen.SGradsIdeal.Value
public import proofs.«01_k».proof.Proof.Gen.SGradsRefIdeal.Run
public import Idealize.ShloMosaic.Lib.Pipeline.ValueKit

/-! The gradients of the S5 layer around its scan: the gradient of the input is one block of rows and columns at a
time, the gradients of the weights add four blocks of rows. -/

@[expose] public section

set_option maxRecDepth 16384

noncomputable section

namespace Cert.SGradsValue

open Cert.SGradsIdeal Cert.SGradsIdeal.Gen
open Idealize.ShloMosaic Idealize.ShloMosaic.TcCoe Idealize.SL.Sem
open Idealize.ShloMosaic.Pipeline (Dat)

variable (m : (ℓ : Loc nD τ sig) → Buf (Elt Ideal) ℓ)

/-- One product of the gradient of the scan's input with the input weights, in the layout of the input. -/
abbrev back (l : FVec Ideal S8x2048x1024 .bf16) (b : FVec Ideal S8x256x1024 .bf16) : FVec Ideal Cert.SGradsRefIdeal.S2048x8x256 .f32 :=
  transpose Cert.SGradsRefIdeal.S2048x8x256 [1, 0, 2] (Host.dotGeneral Cert.SGradsRefIdeal.dot_S8x2048x1024_S8x256x1024_S8x2048x256_2_2_1_1_0_0 none (extf .f32 l Cert.SGradsRefIdeal.Gen.bitsLt_bf16_f32) (extf .f32 b Cert.SGradsRefIdeal.Gen.bitsLt_bf16_f32)) Cert.SGradsRefIdeal.Gen.transposes_S8x2048x256_S2048x8x256_1_0_2

/-- The reference's gradient of the layer's input. -/
abbrev du (lr li : FVec Ideal S8x2048x1024 .bf16) (dy : FVec Ideal S2048x2048 .bf16) (br bi : FVec Ideal S8x256x1024 .bf16) (d : FVec Ideal S1x2048 .f32) : FVec Ideal S2048x2048 .bf16 :=
  truncf .bf16 (addf (shapeCast _ (addf (back li bi) (back lr br)) Cert.SGradsRefIdeal.Gen.shapeCasts_S2048x8x256_S2048x2048) (mulf (broadcastInDim Cert.SGradsRefIdeal.S2048x2048 ![0, 1] Cert.SGradsRefIdeal.Gen.bcast_S1x2048_S2048x2048_0_1 d) (extf .f32 dy Cert.SGradsRefIdeal.Gen.bitsLt_bf16_f32))) Cert.SGradsRefIdeal.Gen.bitsLt_bf16_f32

/-- The reference's gradient of the input weights, real or imaginary. -/
abbrev db (l : FVec Ideal S8x2048x1024 .bf16) (u : FVec Ideal S2048x2048 .f32) : FVec Ideal S8x256x1024 .f32 :=
  transpose Cert.SGradsRefIdeal.S8x256x1024 [0, 2, 1] (Host.dotGeneral Cert.SGradsRefIdeal.dot_S8x2048x1024_S2048x8x256_S8x1024x256_1_0_2_2_0_1 none (extf .f32 l Cert.SGradsRefIdeal.Gen.bitsLt_bf16_f32) (shapeCast _ u Cert.SGradsRefIdeal.Gen.shapeCasts_S2048x2048_S2048x8x256)) Cert.SGradsRefIdeal.Gen.transposes_S8x1024x256_S8x256x1024_0_2_1

/-- The reference's gradient of the real output weights. -/
abbrev dc (s : FVec Ideal S8x2048x1024 .bf16) (dy : FVec Ideal S2048x2048 .bf16) : FVec Ideal S8x1024x256 .f32 :=
  transpose Cert.SGradsRefIdeal.S8x1024x256 [0, 2, 1] (Host.dotGeneral Cert.SGradsRefIdeal.dot_S8x256x2048_S8x2048x1024_S8x256x1024_2_1_1_2_0_0 none (transpose Cert.SGradsRefIdeal.S8x256x2048 [1, 2, 0] (shapeCast _ (extf .f32 dy Cert.SGradsRefIdeal.Gen.bitsLt_bf16_f32) Cert.SGradsRefIdeal.Gen.shapeCasts_S2048x2048_S2048x8x256) Cert.SGradsRefIdeal.Gen.transposes_S2048x8x256_S8x256x2048_1_2_0) (extf .f32 s Cert.SGradsRefIdeal.Gen.bitsLt_bf16_f32)) Cert.SGradsRefIdeal.Gen.transposes_S8x256x1024_S8x1024x256_0_2_1

/-- The reference's gradient of the skip weights. -/
abbrev dd (dy : FVec Ideal S2048x2048 .bf16) (u : FVec Ideal S2048x2048 .f32) : FVec Ideal S1x2048 .f32 :=
  shapeCast _ (Host.reduceAdd (mulf (extf .f32 dy Cert.SGradsRefIdeal.Gen.bitsLt_bf16_f32) u) (constant Cert.SGradsRefIdeal.S_ .f32 0x00000000#32) Cert.SGradsRefIdeal.Gen.reducesTo_S2048x2048_S2048_d0 Cert.SGradsRefIdeal.Gen.h_S_) Cert.SGradsRefIdeal.Gen.shapeCasts_S2048_S1x2048

/-- Which block each window takes at a point. -/
theorem idx : ∀ t : Fin cfg0.N, (win0_0.index t = ![t.val / 4, t.val % 4, 0] ∧ win0_1.index t = ![t.val / 4, t.val % 4, 0] ∧ win0_2.index t = ![t.val / 4, t.val % 4, 0])
    ∧ win0_4.index t = ![t.val % 4, t.val / 4] ∧ win0_5.index t = ![t.val % 4, t.val / 4]
    ∧ win0_6.index t = ![t.val / 4, 0, 0] ∧ win0_7.index t = ![t.val / 4, 0, 0] ∧ win0_8.index t = ![0, t.val / 4]
    ∧ win0_9.index t = ![t.val % 4, t.val / 4] ∧ win0_10.index t = ![t.val / 4, 0, 0] ∧ win0_11.index t = ![t.val / 4, 0, 0]
    ∧ win0_12.index t = ![t.val / 4, 0, 0] ∧ win0_14.index t = ![0, t.val / 4] :=
  (by decide +kernel : ∀ t : Fin grid0.N, _)

/-- What a point stores of the input's gradient is the reference's, where the block lies. -/
theorem point (c : Dev nD) (t : Fin cfg0.N) (y) : k0_pay11 (F := Ideal) (iblk m c 0 t) (iblk m c 1 t) (iblk m c 5 t) (iblk m c 6 t) (iblk m c 7 t) (iblk m c 8 t) y
    = du (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (((cfg0.win 9).blk t).view.emb y) := by
  have ht : t.val < 32 := t.isLt
  pointwise [k0_pay11, k0_pay8, k0_pay9, k0_pay10, du, back]
  rw [@add_comm EReal _ (Finset.sum _ _) (Finset.sum _ _)]
  blk_point [iblk, V, idx t]

theorem final_du (c : Dev nD) : (dats m 0 c).arrAt 9 cfg0.N = du (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]
  by_cases h : t.val % 4 = 0
  · rw [outsAt0_A m c t h]; frame_out
    exact point m c t y
  · rw [outsAt0_B m c t h]; frame_out
    exact point m c t y

theorem zero_re (j) : k0_pay3 (F := Ideal) j = 0 := by pointwise [k0_pay3]
theorem zero_im (j) : k0_pay4 (F := Ideal) j = 0 := by pointwise [k0_pay4]
theorem zero_dc (j) : k0_pay5 (F := Ideal) j = 0 := by pointwise [k0_pay5]
theorem zero_dd (j) : k0_pay7 (F := Ideal) j = 0 := by pointwise [k0_pay7]

theorem step_re (acc : FVec Ideal S1x256x1024 .f32) (l : FVec Ideal S1x512x1024 .bf16) (u : FVec Ideal S512x256 .f32) (j) :
    k0_pay13 (F := Ideal) (k0_pay12 l u acc) j = (acc j + ∑ k : Fin 512, (u (ix2 k (j 1)) * l (ix3 0 k (j 2)) : EReal) : EReal) := by
  pointwise [k0_pay13, k0_pay12, k0_pay8]
  blk_ext

theorem step_im (acc : FVec Ideal S1x256x1024 .f32) (l : FVec Ideal S1x512x1024 .bf16) (u : FVec Ideal S512x256 .f32) (j) :
    k0_pay14 (F := Ideal) (k0_pay9 l) u acc j = (acc j + ∑ k : Fin 512, (u (ix2 k (j 1)) * l (ix3 0 k (j 2)) : EReal) : EReal) := by
  pointwise [k0_pay14, k0_pay9]
  blk_ext

theorem step_dc (acc : FVec Ideal S1x1024x256 .f32) (s : FVec Ideal S1x512x1024 .bf16) (dy : FVec Ideal S512x256 .bf16) (j) :
    k0_pay15 (F := Ideal) dy acc s j = (acc j + ∑ k : Fin 512, (s (ix3 0 k (j 1)) * dy (ix2 k (j 2)) : EReal) : EReal) := by
  pointwise [k0_pay15]
  blk_ext

theorem step_dd (acc : FVec Ideal S1x256 .f32) (dy : FVec Ideal S512x256 .bf16) (u : FVec Ideal S512x256 .f32) (j) :
    k0_pay2 (F := Ideal) u (k0_pay10 dy) acc j = (acc j + ∑ k : Fin 512, (dy (ix2 k (j 1)) * u (ix2 k (j 1)) : EReal) : EReal) := by
  pointwise [k0_pay2, k0_pay10]
  blk_ext

theorem db_at (l : FVec Ideal S8x2048x1024 .bf16) (u : FVec Ideal S2048x2048 .f32) (j) :
    db l u j = (∑ k : Fin 2048, (u (ix2 k ⟨(j 0 : ℕ) * 256 + j 1, by have := (j 0).isLt; have := (j 1).isLt; dsimp at *; omega⟩) * l (ix3 (j 0) k (j 2)) : EReal) : EReal) := by
  pointwise [db]
  refine Fin.sum_fin_congr fun k => (@mul_comm EReal _ _ _).trans ?_
  blk_ext

theorem dc_at (s : FVec Ideal S8x2048x1024 .bf16) (dy : FVec Ideal S2048x2048 .bf16) (j) :
    dc s dy j = (∑ k : Fin 2048, (s (ix3 (j 0) k (j 1)) * dy (ix2 k ⟨(j 0 : ℕ) * 256 + j 2, by have := (j 0).isLt; have := (j 2).isLt; dsimp at *; omega⟩) : EReal) : EReal) := by
  pointwise [dc]
  refine Fin.sum_fin_congr fun k => (@mul_comm EReal _ _ _).trans ?_
  blk_ext

theorem dd_at (dy : FVec Ideal S2048x2048 .bf16) (u : FVec Ideal S2048x2048 .f32) (j) :
    dd dy u j = (∑ k : Fin 2048, (dy (ix2 k (j 1)) * u (ix2 k (j 1)) : EReal) : EReal) := by
  pointwise [dd]
  blk_ext

theorem final_re (c : Dev nD) : (dats m 0 c).arrAt 10 cfg0.N = db (m ((c : Thread nD τ).loc main_arg0)) (m ((c : Thread nD τ).loc main_arg4)) := by
  refine (dats m 0 c).arrAt_eq_of_covers 10 _ (by decide +kernel) fun t hf y => ?_
  have ht : t.val < 32 := t.isLt
  blk_simp
  have hl : t.val % 4 = 3 := (flush0_10 t).mp hf
  rw [after0_10, Pipeline.eq_sum_fin_of_reset_step_apply_of_flush (fun n h => (outsAt0 m c n h).2.1) 4 (fun _ => 0) _
    (fun t h j => by rw [outsAt0_A m c t h]; frame_out; rw [step_re, zero_re])
    (fun t h j => by rw [outsAt0_B m c t h]; frame_out; rw [step_re])
    t hl _, zero_add, db_at]
  refine Fin.sum_mul_add_congr fun s k hk => ?_
  blk_point [iblk, V, idx t, idx ⟨_, Pipeline.run_point_lt_of_flush t hl s⟩]

theorem final_im (c : Dev nD) : (dats m 0 c).arrAt 11 cfg0.N = db (m ((c : Thread nD τ).loc main_arg1)) (m ((c : Thread nD τ).loc main_arg4)) := by
  refine (dats m 0 c).arrAt_eq_of_covers 11 _ (by decide +kernel) fun t hf y => ?_
  have ht : t.val < 32 := t.isLt
  blk_simp
  have hl : t.val % 4 = 3 := (flush0_11 t).mp hf
  rw [after0_11, Pipeline.eq_sum_fin_of_reset_step_apply_of_flush (fun n h => (outsAt0 m c n h).2.2.1) 4 (fun _ => 0) _
    (fun t h j => by rw [outsAt0_A m c t h]; frame_out; rw [step_im, zero_im])
    (fun t h j => by rw [outsAt0_B m c t h]; frame_out; rw [step_im])
    t hl _, zero_add, db_at]
  refine Fin.sum_mul_add_congr fun s k hk => ?_
  blk_point [iblk, V, idx t, idx ⟨_, Pipeline.run_point_lt_of_flush t hl s⟩]

theorem final_dc (c : Dev nD) : (dats m 0 c).arrAt 12 cfg0.N = dc (m ((c : Thread nD τ).loc main_arg2)) (m ((c : Thread nD τ).loc main_arg5)) := by
  refine (dats m 0 c).arrAt_eq_of_covers 12 _ (by decide +kernel) fun t hf y => ?_
  have ht : t.val < 32 := t.isLt
  blk_simp
  have hl : t.val % 4 = 3 := (flush0_12 t).mp hf
  rw [after0_12, Pipeline.eq_sum_fin_of_reset_step_apply_of_flush (fun n h => (outsAt0 m c n h).2.2.2.1) 4 (fun _ => 0) _
    (fun t h j => by rw [outsAt0_A m c t h]; frame_out; rw [step_dc, zero_dc])
    (fun t h j => by rw [outsAt0_B m c t h]; frame_out; rw [step_dc])
    t hl _, zero_add, dc_at]
  refine Fin.sum_mul_add_congr fun s k hk => ?_
  blk_point [iblk, V, idx t, idx ⟨_, Pipeline.run_point_lt_of_flush t hl s⟩]

theorem final_dd (c : Dev nD) : (dats m 0 c).arrAt 14 cfg0.N = dd (m ((c : Thread nD τ).loc main_arg5)) (m ((c : Thread nD τ).loc main_arg4)) := by
  refine (dats m 0 c).arrAt_eq_of_covers 14 _ (by decide +kernel) fun t hf y => ?_
  have ht : t.val < 32 := t.isLt
  blk_simp
  have hl : t.val % 4 = 3 := (flush0_14 t).mp hf
  rw [after0_14, Pipeline.eq_sum_fin_of_reset_step_apply_of_flush (fun n h => (outsAt0 m c n h).2.2.2.2.2) 4 (fun _ => 0) _
    (fun t h j => by rw [outsAt0_A m c t h]; frame_out; rw [step_dd, zero_dd])
    (fun t h j => by rw [outsAt0_B m c t h]; frame_out; rw [step_dd])
    t hl _, zero_add, dd_at]
  refine Fin.sum_mul_add_congr fun s k hk => ?_
  blk_point [iblk, V, idx t, idx ⟨_, Pipeline.run_point_lt_of_flush t hl s⟩]

/-- The reference keeps its arguments and ends with every counter at zero. -/
theorem frame_reference : Cert.quiescent_SGradsRefIdeal := fun m ρ _ =>
  (θ_run Cert.SGradsRefIdeal.defs _ _).mono (fun r h => ⟨fun c => (h c).2.2.2.2.2, sem_eq_zero_of_no_sems (by decide) r.2⟩) (Cert.SGradsRefIdeal.Value.run (F := Ideal) m ρ)

/-- Kernel and reference end with the same results. -/
theorem algebraic : Cert.algebraic_SGradsIdeal_SGradsRefIdeal := by
  intro m ρ m' ρ' _ hargs
  refine ⟨fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 14 cfg0.N, ?_, ?_⟩
  · refine (θ_run Cert.SGradsIdeal.defs _ _).mono (fun r h c => ?_) (Cert.SGradsIdeal.Value.run_blocks (F := Ideal) m ρ)
    obtain ⟨h0, h1, h2, h3, _, h⟩ := h c
    exact ⟨h0, h1, h2, h3, h⟩
  refine (θ_run Cert.SGradsRefIdeal.defs _ _).mono (fun r h c => ?_) (Cert.SGradsRefIdeal.Value.run (F := Ideal) m' ρ')
  obtain ⟨h0, h1, h2, h3, h4, h⟩ := h c
  obtain ⟨e0, e1, e2, e3, e4, e5, e6, e7, e8⟩ := hargs c
  rw [e0, e1, e5, e6, e7, e8] at h0
  rw [e0, e4] at h1
  rw [e1, e4] at h2
  rw [e5, e2] at h3
  rw [e5, e4] at h4
  exact ⟨h0.trans (final_du m c).symm, h1.trans (final_re m c).symm, h2.trans (final_im m c).symm,
    h3.trans (final_dc m c).symm, h4.trans (final_dd m c).symm, h⟩

end Cert.SGradsValue

end
-- ==== Proof.GluDa.lean ====
module

public import proofs.«01_k».proof.Defs
public import proofs.«01_k».proof.Proof.Gen.GluDaIdeal.Value
public import proofs.«01_k».proof.Proof.Gen.GluDaRefIdeal.Run
public import Idealize.ShloMosaic.Lib.Pipeline.ValueKit

/-! The gradient of the S5 layer's output after gelu: each block adds eight products, one for each part of the gate's weights. -/

@[expose] public section

set_option maxRecDepth 16384

noncomputable section

namespace Cert.GluDaValue

open Cert.GluDaIdeal Cert.GluDaIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (d : FVec Ideal S8x2048x512 .bf16) (w : FVec Ideal S8x2048x512 .bf16) : FVec Ideal S2048x2048 .bf16 :=
  truncf .bf16 (Host.dotGeneral Cert.GluDaRefIdeal.dot_S8x512x2048_S8x2048x512_S2048x2048_01_02_2_1_n_n none (transpose Cert.GluDaRefIdeal.S8x512x2048 [0, 2, 1] (extf .f32 d Cert.GluDaRefIdeal.Gen.bitsLt_bf16_f32) Cert.GluDaRefIdeal.Gen.transposes_S8x2048x512_S8x512x2048_0_2_1) (extf .f32 w Cert.GluDaRefIdeal.Gen.bitsLt_bf16_f32)) Cert.GluDaRefIdeal.Gen.bitsLt_bf16_f32

/-- Which block each window takes at a point. -/
theorem idx : ∀ t : Fin cfg0.N, win0_0.index t = ![t.val % 8, t.val / 16, 0] ∧ win0_1.index t = ![t.val % 8, t.val / 8 % 2, 0] ∧ win0_2.index t = ![t.val / 16, t.val / 8 % 2] :=
  (by decide +kernel : ∀ t : Fin grid0.N, _)

theorem zero_at (j) : k0_pay1 (F := Ideal) j = 0 := by pointwise [k0_pay1]

theorem step_at (acc : FVec Ideal S1024x1024 .f32) (x : FVec Ideal S1x1024x512 .bf16) (w : FVec Ideal S1x1024x512 .bf16) (j) :
    k0_pay2 (F := Ideal) acc x w j = (acc j + ∑ k : Fin 512, (x (ix3 0 (j 0) k) * w (ix3 0 (j 1) k) : EReal) : EReal) := by
  pointwise [k0_pay2]

theorem prod_at (d w : FVec Ideal S8x2048x512 .bf16) (j) :
    prod d w j = (∑ s : Fin 8, ∑ k : Fin 512, (d (ix3 s (j 0) k) * w (ix3 s (j 1) k) : EReal) : EReal) := by
  pointwise [prod]

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  have hl : t.val % 8 = 7 := (flush0_2 t).mp hf
  have h0 : ¬t.val % 8 = 0 := by omega
  have same : (outsAt0 m c t.val t.isLt).1 = (outsAt0 m c t.val t.isLt).2 := by
    rw [outsAt0_C m c t h0 hl]; frame_out; rfl
  rw [after0_2, same, Pipeline.eq_sum_fin_of_reset_step_apply_of_flush (fun n h => (outsAt0 m c n h).2) 8 (fun _ => 0) _
    (fun t h j => by rw [outsAt0_A m c t h (by omega)]; frame_out; rw [step_at, zero_at])
    (fun t h j => by
      by_cases hl : t.val % 8 = 7
      · rw [outsAt0_C m c t h hl]; frame_out; rw [step_at]; exact congrArg (fun x : EReal => x + _) (congrFun ((Memref.isWhole_whole cc0_scratch0).read_unread _) j)
      · rw [outsAt0_B m c t h hl]; frame_out; rw [step_at]; exact congrArg (fun x : EReal => x + _) (congrFun ((Memref.isWhole_whole cc0_scratch0).read_unread _) j))
    t hl _, zero_add, prod_at]
  refine Fin.sum_fin_congr fun s => Fin.sum_fin_congr fun k => ?_
  blk_point [iblk, V, idx t, idx ⟨_, Pipeline.run_point_lt_of_flush t hl s⟩]

/-- The reference keeps its arguments and ends with every counter at zero. -/
theorem frame_reference : Cert.quiescent_GluDaRefIdeal := fun m ρ _ =>
  (θ_run Cert.GluDaRefIdeal.defs _ _).mono (fun r h => ⟨fun c => (h c).2, sem_eq_zero_of_no_sems (by decide) r.2⟩) (Cert.GluDaRefIdeal.Value.run (F := Ideal) m ρ)

/-- Kernel and reference end with the same result. -/
theorem algebraic : Cert.algebraic_GluDaIdeal_GluDaRefIdeal := by
  intro m ρ m' ρ' _ hargs
  refine ⟨fun c => (dats m 0 c).arrAt 2 cfg0.N, Cert.GluDaIdeal.Value.run_blocks (F := Ideal) m ρ, ?_⟩
  refine (θ_run Cert.GluDaRefIdeal.defs _ _).mono (fun r h c => ⟨(h c).1.trans ?_, (h c).2⟩) (Cert.GluDaRefIdeal.Value.run (F := Ideal) m' ρ')
  rw [(hargs c).1, (hargs c).2]
  exact (final m c).symm

end Cert.GluDaValue

end
-- ==== Proof.GluDb.lean ====
module

public import proofs.«01_k».proof.Defs
public import proofs.«01_k».proof.Proof.Gen.GluDbIdeal.Value
public import proofs.«01_k».proof.Proof.Gen.GluDbRefIdeal.Run
public import Idealize.ShloMosaic.Lib.Pipeline.ValueKit

/-! The gradient of the S5 layer's gate weights: each block is one product of rows and columns. -/

@[expose] public section

set_option maxRecDepth 16384

noncomputable section

namespace Cert.GluDbValue

open Cert.GluDbIdeal Cert.GluDbIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (h : FVec Ideal S2048x2048 .bf16) (d : FVec Ideal S8x2048x512 .bf16) : FVec Ideal S8x2048x512 .bf16 :=
  truncf .bf16 (transpose Cert.GluDbRefIdeal.S8x2048x512 [0, 2, 1] (Host.dotGeneral Cert.GluDbRefIdeal.dot_S8x512x2048_S2048x2048_S8x512x2048_2_0_01_1_n_n none (transpose Cert.GluDbRefIdeal.S8x512x2048 [0, 2, 1] (extf .f32 d Cert.GluDbRefIdeal.Gen.bitsLt_bf16_f32) Cert.GluDbRefIdeal.Gen.transposes_S8x2048x512_S8x512x2048_0_2_1) (extf .f32 h Cert.GluDbRefIdeal.Gen.bitsLt_bf16_f32)) Cert.GluDbRefIdeal.Gen.transposes_S8x512x2048_S8x2048x512_0_2_1) Cert.GluDbRefIdeal.Gen.bitsLt_bf16_f32

/-- Which block each window takes at a point. -/
theorem idx : ∀ t : Fin cfg0.N, win0_0.index t = ![0, t.val % 4] ∧ win0_1.index t = ![t.val / 4, 0, 0] ∧ win0_2.index t = ![t.val / 4, t.val % 4, 0] :=
  (by decide +kernel : ∀ t : Fin grid0.N, _)

/-- What a point stores is the product, where the block lies. -/
theorem point (c : Dev nD) (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  refine Fin.sum_fin_congr fun k => (@mul_comm EReal _ _ _).trans ?_
  blk_point [iblk, V, idx t]

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The reference keeps its arguments and ends with every counter at zero. -/
theorem frame_reference : Cert.quiescent_GluDbRefIdeal := fun m ρ _ =>
  (θ_run Cert.GluDbRefIdeal.defs _ _).mono (fun r h => ⟨fun c => (h c).2, sem_eq_zero_of_no_sems (by decide) r.2⟩) (Cert.GluDbRefIdeal.Value.run (F := Ideal) m ρ)

/-- Kernel and reference end with the same result. -/
theorem algebraic : Cert.algebraic_GluDbIdeal_GluDbRefIdeal := by
  intro m ρ m' ρ' _ hargs
  refine ⟨fun c => (dats m 0 c).arrAt 2 cfg0.N, Cert.GluDbIdeal.Value.run_blocks (F := Ideal) m ρ, ?_⟩
  refine (θ_run Cert.GluDbRefIdeal.defs _ _).mono (fun r h c => ⟨(h c).1.trans ?_, (h c).2⟩) (Cert.GluDbRefIdeal.Value.run (F := Ideal) m' ρ')
  rw [(hargs c).1, (hargs c).2]
  exact (final m c).symm

end Cert.GluDbValue

end
-- ==== Proof.SInDa.lean ====
module

public import proofs.«01_k».proof.Defs
public import proofs.«01_k».proof.Proof.Gen.SInDaIdeal.Value
public import proofs.«01_k».proof.Proof.Gen.SInDaRefIdeal.Run
public import Idealize.ShloMosaic.Lib.Pipeline.ValueKit

/-! The gradient of the S5 layer's input: each block is one product of rows and columns. -/

@[expose] public section

set_option maxRecDepth 16384

noncomputable section

namespace Cert.SInDaValue

open Cert.SInDaIdeal Cert.SInDaIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (d : FVec Ideal S2048x2048 .bf16) (w : FVec Ideal S2048x2048 .bf16) : FVec Ideal S1x2048x2048 .f32 :=
  transpose Cert.SInDaRefIdeal.S1x2048x2048 [1, 0, 2] (Host.dotGeneral Cert.SInDaRefIdeal.dot_S2048x2048_S1x2048x2048_S2048x1x2048_1_2_0_01_n_n none (extf .f32 d Cert.SInDaRefIdeal.Gen.bitsLt_bf16_f32) (shapeCast _ (extf .f32 w Cert.SInDaRefIdeal.Gen.bitsLt_bf16_f32) Cert.SInDaRefIdeal.Gen.shapeCasts_S2048x2048_S1x2048x2048)) Cert.SInDaRefIdeal.Gen.transposes_S2048x1x2048_S1x2048x2048_1_0_2

/-- Which block each window takes at a point. -/
theorem idx : ∀ t : Fin cfg0.N, win0_0.index t = ![t.val % 2, 0] ∧ win0_1.index t = ![t.val / 2, 0] ∧ win0_2.index t = ![t.val / 2, t.val % 2, 0] :=
  (by decide +kernel : ∀ t : Fin grid0.N, _)

/-- What a point stores is the product, where the block lies. -/
theorem point (c : Dev nD) (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The reference keeps its arguments and ends with every counter at zero. -/
theorem frame_reference : Cert.quiescent_SInDaRefIdeal := fun m ρ _ =>
  (θ_run Cert.SInDaRefIdeal.defs _ _).mono (fun r h => ⟨fun c => (h c).2, sem_eq_zero_of_no_sems (by decide) r.2⟩) (Cert.SInDaRefIdeal.Value.run (F := Ideal) m ρ)

/-- Kernel and reference end with the same result. -/
theorem algebraic : Cert.algebraic_SInDaIdeal_SInDaRefIdeal := by
  intro m ρ m' ρ' _ hargs
  refine ⟨fun c => (dats m 0 c).arrAt 2 cfg0.N, Cert.SInDaIdeal.Value.run_blocks (F := Ideal) m ρ, ?_⟩
  refine (θ_run Cert.SInDaRefIdeal.defs _ _).mono (fun r h c => ⟨(h c).1.trans ?_, (h c).2⟩) (Cert.SInDaRefIdeal.Value.run (F := Ideal) m' ρ')
  rw [(hargs c).1, (hargs c).2]
  exact (final m c).symm

end Cert.SInDaValue

end
-- ==== Proof.SInDb.lean ====
module

public import proofs.«01_k».proof.Defs
public import proofs.«01_k».proof.Proof.Gen.SInDbIdeal.Value
public import proofs.«01_k».proof.Proof.Gen.SInDbRefIdeal.Run
public import Idealize.ShloMosaic.Lib.Pipeline.ValueKit

/-! The gradient of the S5 layer's input weights: each block is one product of rows and columns. -/

@[expose] public section

set_option maxRecDepth 16384

noncomputable section

namespace Cert.SInDbValue

open Cert.SInDbIdeal Cert.SInDbIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (a : FVec Ideal S1x2048x2048 .bf16) (d : FVec Ideal S2048x2048 .bf16) : FVec Ideal S2048x2048 .bf16 :=
  truncf .bf16 (shapeCast _ (transpose Cert.SInDbRefIdeal.S1x2048x2048 [1, 2, 0] (Host.dotGeneral Cert.SInDbRefIdeal.dot_S2048x2048_S1x2048x2048_S2048x1x2048_0_1_1_02_n_n none (extf .f32 d Cert.SInDbRefIdeal.Gen.bitsLt_bf16_f32) (extf .f32 a Cert.SInDbRefIdeal.Gen.bitsLt_bf16_f32)) Cert.SInDbRefIdeal.Gen.transposes_S2048x1x2048_S1x2048x2048_1_2_0) Cert.SInDbRefIdeal.Gen.shapeCasts_S1x2048x2048_S2048x2048) Cert.SInDbRefIdeal.Gen.bitsLt_bf16_f32

/-- Which block each window takes at a point. -/
theorem idx : ∀ t : Fin cfg0.N, win0_0.index t = ![t.val / 4, 0, 0] ∧ win0_1.index t = ![0, t.val % 4] ∧ win0_2.index t = ![t.val / 4, t.val % 4] :=
  (by decide +kernel : ∀ t : Fin grid0.N, _)

/-- What a point stores is the product, where the block lies. -/
theorem point (c : Dev nD) (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  refine Fin.sum_fin_congr fun k => (@mul_comm EReal _ _ _).trans ?_
  blk_point [iblk, V, idx t]

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The reference keeps its arguments and ends with every counter at zero. -/
theorem frame_reference : Cert.quiescent_SInDbRefIdeal := fun m ρ _ =>
  (θ_run Cert.SInDbRefIdeal.defs _ _).mono (fun r h => ⟨fun c => (h c).2, sem_eq_zero_of_no_sems (by decide) r.2⟩) (Cert.SInDbRefIdeal.Value.run (F := Ideal) m ρ)

/-- Kernel and reference end with the same result. -/
theorem algebraic : Cert.algebraic_SInDbIdeal_SInDbRefIdeal := by
  intro m ρ m' ρ' _ hargs
  refine ⟨fun c => (dats m 0 c).arrAt 2 cfg0.N, Cert.SInDbIdeal.Value.run_blocks (F := Ideal) m ρ, ?_⟩
  refine (θ_run Cert.SInDbRefIdeal.defs _ _).mono (fun r h c => ⟨(h c).1.trans ?_, (h c).2⟩) (Cert.SInDbRefIdeal.Value.run (F := Ideal) m' ρ')
  rw [(hargs c).1, (hargs c).2]
  exact (final m c).symm

end Cert.SInDbValue

end
-- ==== Proof.LOutDa.lean ====
module

public import proofs.«01_k».proof.Defs
public import proofs.«01_k».proof.Proof.Gen.LOutDaIdeal.Value
public import proofs.«01_k».proof.Proof.Gen.LOutDaRefIdeal.Run
public import Idealize.ShloMosaic.Lib.Pipeline.ValueKit

/-! The gradient of the RG-LRU layer's state: each block is one product of rows and columns. -/

@[expose] public section

set_option maxRecDepth 16384

noncomputable section

namespace Cert.LOutDaValue

open Cert.LOutDaIdeal Cert.LOutDaIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (d : FVec Ideal S2048x2048 .bf16) (w : FVec Ideal S2816x2048 .bf16) : FVec Ideal S4x2048x704 .f32 :=
  transpose Cert.LOutDaRefIdeal.S4x2048x704 [1, 0, 2] (Host.dotGeneral Cert.LOutDaRefIdeal.dot_S2048x2048_S4x704x2048_S2048x4x704_1_2_0_01_n_n none (extf .f32 d Cert.LOutDaRefIdeal.Gen.bitsLt_bf16_f32) (shapeCast _ (extf .f32 w Cert.LOutDaRefIdeal.Gen.bitsLt_bf16_f32) Cert.LOutDaRefIdeal.Gen.shapeCasts_S2816x2048_S4x704x2048)) Cert.LOutDaRefIdeal.Gen.transposes_S2048x4x704_S4x2048x704_1_0_2

/-- Which block each window takes at a point. -/
theorem idx : ∀ t : Fin cfg0.N, win0_0.index t = ![t.val % 2, 0] ∧ win0_1.index t = ![t.val / 2, 0] ∧ win0_2.index t = ![t.val / 2, t.val % 2, 0] :=
  (by decide +kernel : ∀ t : Fin grid0.N, _)

/-- What a point stores is the product, where the block lies. -/
theorem point (c : Dev nD) (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The reference keeps its arguments and ends with every counter at zero. -/
theorem frame_reference : Cert.quiescent_LOutDaRefIdeal := fun m ρ _ =>
  (θ_run Cert.LOutDaRefIdeal.defs _ _).mono (fun r h => ⟨fun c => (h c).2, sem_eq_zero_of_no_sems (by decide) r.2⟩) (Cert.LOutDaRefIdeal.Value.run (F := Ideal) m ρ)

/-- Kernel and reference end with the same result. -/
theorem algebraic : Cert.algebraic_LOutDaIdeal_LOutDaRefIdeal := by
  intro m ρ m' ρ' _ hargs
  refine ⟨fun c => (dats m 0 c).arrAt 2 cfg0.N, Cert.LOutDaIdeal.Value.run_blocks (F := Ideal) m ρ, ?_⟩
  refine (θ_run Cert.LOutDaRefIdeal.defs _ _).mono (fun r h c => ⟨(h c).1.trans ?_, (h c).2⟩) (Cert.LOutDaRefIdeal.Value.run (F := Ideal) m' ρ')
  rw [(hargs c).1, (hargs c).2]
  exact (final m c).symm

end Cert.LOutDaValue

end
-- ==== Proof.LOutDb.lean ====
module

public import proofs.«01_k».proof.Defs
public import proofs.«01_k».proof.Proof.Gen.LOutDbIdeal.Value
public import proofs.«01_k».proof.Proof.Gen.LOutDbRefIdeal.Run
public import Idealize.ShloMosaic.Lib.Pipeline.ValueKit

/-! The gradient of the RG-LRU layer's output weights: each block is one product of rows and columns. -/

@[expose] public section

set_option maxRecDepth 16384

noncomputable section

namespace Cert.LOutDbValue

open Cert.LOutDbIdeal Cert.LOutDbIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (a : FVec Ideal S4x2048x704 .bf16) (d : FVec Ideal S2048x2048 .bf16) : FVec Ideal S2816x2048 .bf16 :=
  truncf .bf16 (shapeCast _ (transpose Cert.LOutDbRefIdeal.S4x704x2048 [1, 2, 0] (Host.dotGeneral Cert.LOutDbRefIdeal.dot_S2048x2048_S4x2048x704_S2048x4x704_0_1_1_02_n_n none (extf .f32 d Cert.LOutDbRefIdeal.Gen.bitsLt_bf16_f32) (extf .f32 a Cert.LOutDbRefIdeal.Gen.bitsLt_bf16_f32)) Cert.LOutDbRefIdeal.Gen.transposes_S2048x4x704_S4x704x2048_1_2_0) Cert.LOutDbRefIdeal.Gen.shapeCasts_S4x704x2048_S2816x2048) Cert.LOutDbRefIdeal.Gen.bitsLt_bf16_f32

/-- Which block each window takes at a point. -/
theorem idx : ∀ t : Fin cfg0.N, win0_0.index t = ![t.val / 4, 0, 0] ∧ win0_1.index t = ![0, t.val % 4] ∧ win0_2.index t = ![t.val / 4, t.val % 4] :=
  (by decide +kernel : ∀ t : Fin grid0.N, _)

/-- What a point stores is the product, where the block lies. -/
theorem point (c : Dev nD) (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  refine Fin.sum_fin_congr fun k => (@mul_comm EReal _ _ _).trans ?_
  blk_point [iblk, V, idx t]

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The reference keeps its arguments and ends with every counter at zero. -/
theorem frame_reference : Cert.quiescent_LOutDbRefIdeal := fun m ρ _ =>
  (θ_run Cert.LOutDbRefIdeal.defs _ _).mono (fun r h => ⟨fun c => (h c).2, sem_eq_zero_of_no_sems (by decide) r.2⟩) (Cert.LOutDbRefIdeal.Value.run (F := Ideal) m ρ)

/-- Kernel and reference end with the same result. -/
theorem algebraic : Cert.algebraic_LOutDbIdeal_LOutDbRefIdeal := by
  intro m ρ m' ρ' _ hargs
  refine ⟨fun c => (dats m 0 c).arrAt 2 cfg0.N, Cert.LOutDbIdeal.Value.run_blocks (F := Ideal) m ρ, ?_⟩
  refine (θ_run Cert.LOutDbRefIdeal.defs _ _).mono (fun r h c => ⟨(h c).1.trans ?_, (h c).2⟩) (Cert.LOutDbRefIdeal.Value.run (F := Ideal) m' ρ')
  rw [(hargs c).1, (hargs c).2]
  exact (final m c).symm

end Cert.LOutDbValue

end
-- ==== Proof.LInDa.lean ====
module

public import proofs.«01_k».proof.Defs
public import proofs.«01_k».proof.Proof.Gen.LInDaIdeal.Value
public import proofs.«01_k».proof.Proof.Gen.LInDaRefIdeal.Run
public import Idealize.ShloMosaic.Lib.Pipeline.ValueKit

/-! The gradient of the RG-LRU layer's input: each block adds eight products, one for each part of the input weights. -/

@[expose] public section

set_option maxRecDepth 16384

noncomputable section

namespace Cert.LInDaValue

open Cert.LInDaIdeal Cert.LInDaIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (d : FVec Ideal S8x2048x704 .bf16) (w : FVec Ideal S8x2048x704 .bf16) : FVec Ideal S2048x2048 .f32 :=
  Host.dotGeneral Cert.LInDaRefIdeal.dot_S8x704x2048_S8x2048x704_S2048x2048_01_02_2_1_n_n none (transpose Cert.LInDaRefIdeal.S8x704x2048 [0, 2, 1] (extf .f32 d Cert.LInDaRefIdeal.Gen.bitsLt_bf16_f32) Cert.LInDaRefIdeal.Gen.transposes_S8x2048x704_S8x704x2048_0_2_1) (extf .f32 w Cert.LInDaRefIdeal.Gen.bitsLt_bf16_f32)

/-- Which block each window takes at a point. -/
theorem idx : ∀ t : Fin cfg0.N, win0_0.index t = ![t.val % 8, t.val / 16, 0] ∧ win0_1.index t = ![t.val % 8, t.val / 8 % 2, 0] ∧ win0_2.index t = ![t.val / 16, t.val / 8 % 2] :=
  (by decide +kernel : ∀ t : Fin grid0.N, _)

theorem zero_at (j) : k0_pay1 (F := Ideal) j = 0 := by pointwise [k0_pay1]

theorem step_at (acc : FVec Ideal S1024x1024 .f32) (x : FVec Ideal S1x1024x704 .bf16) (w : FVec Ideal S1x1024x704 .bf16) (j) :
    k0_pay2 (F := Ideal) acc x w j = (acc j + ∑ k : Fin 704, (x (ix3 0 (j 0) k) * w (ix3 0 (j 1) k) : EReal) : EReal) := by
  pointwise [k0_pay2]

theorem prod_at (d w : FVec Ideal S8x2048x704 .bf16) (j) :
    prod d w j = (∑ s : Fin 8, ∑ k : Fin 704, (d (ix3 s (j 0) k) * w (ix3 s (j 1) k) : EReal) : EReal) := by
  pointwise [prod]

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  have hl : t.val % 8 = 7 := (flush0_2 t).mp hf
  have h0 : ¬t.val % 8 = 0 := by omega
  have same : (outsAt0 m c t.val t.isLt).1 = (outsAt0 m c t.val t.isLt).2 := by
    rw [outsAt0_C m c t h0 hl]; frame_out
  rw [after0_2, same, Pipeline.eq_sum_fin_of_reset_step_apply_of_flush (fun n h => (outsAt0 m c n h).2) 8 (fun _ => 0) _
    (fun t h j => by rw [outsAt0_A m c t h (by omega)]; frame_out; rw [step_at, zero_at])
    (fun t h j => by
      by_cases hl : t.val % 8 = 7
      · rw [outsAt0_C m c t h hl]; frame_out; rw [step_at]; exact congrArg (fun x : EReal => x + _) (congrFun ((Memref.isWhole_whole cc0_scratch0).read_unread _) j)
      · rw [outsAt0_B m c t h hl]; frame_out; rw [step_at]; exact congrArg (fun x : EReal => x + _) (congrFun ((Memref.isWhole_whole cc0_scratch0).read_unread _) j))
    t hl _, zero_add, prod_at]
  refine Fin.sum_fin_congr fun s => Fin.sum_fin_congr fun k => ?_
  blk_point [iblk, V, idx t, idx ⟨_, Pipeline.run_point_lt_of_flush t hl s⟩]

/-- The reference keeps its arguments and ends with every counter at zero. -/
theorem frame_reference : Cert.quiescent_LInDaRefIdeal := fun m ρ _ =>
  (θ_run Cert.LInDaRefIdeal.defs _ _).mono (fun r h => ⟨fun c => (h c).2, sem_eq_zero_of_no_sems (by decide) r.2⟩) (Cert.LInDaRefIdeal.Value.run (F := Ideal) m ρ)

/-- Kernel and reference end with the same result. -/
theorem algebraic : Cert.algebraic_LInDaIdeal_LInDaRefIdeal := by
  intro m ρ m' ρ' _ hargs
  refine ⟨fun c => (dats m 0 c).arrAt 2 cfg0.N, Cert.LInDaIdeal.Value.run_blocks (F := Ideal) m ρ, ?_⟩
  refine (θ_run Cert.LInDaRefIdeal.defs _ _).mono (fun r h c => ⟨(h c).1.trans ?_, (h c).2⟩) (Cert.LInDaRefIdeal.Value.run (F := Ideal) m' ρ')
  rw [(hargs c).1, (hargs c).2]
  exact (final m c).symm

end Cert.LInDaValue

end
-- ==== Proof.LInDb.lean ====
module

public import proofs.«01_k».proof.Defs
public import proofs.«01_k».proof.Proof.Gen.LInDbIdeal.Value
public import proofs.«01_k».proof.Proof.Gen.LInDbRefIdeal.Run
public import Idealize.ShloMosaic.Lib.Pipeline.ValueKit

/-! The gradient of the RG-LRU layer's input weights: each block is one product of rows and columns. -/

@[expose] public section

set_option maxRecDepth 16384

noncomputable section

namespace Cert.LInDbValue

open Cert.LInDbIdeal Cert.LInDbIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (h : FVec Ideal S2048x2048 .bf16) (d : FVec Ideal S8x2048x704 .bf16) : FVec Ideal S8x2048x704 .bf16 :=
  truncf .bf16 (transpose Cert.LInDbRefIdeal.S8x2048x704 [0, 2, 1] (Host.dotGeneral Cert.LInDbRefIdeal.dot_S8x704x2048_S2048x2048_S8x704x2048_2_0_01_1_n_n none (transpose Cert.LInDbRefIdeal.S8x704x2048 [0, 2, 1] (extf .f32 d Cert.LInDbRefIdeal.Gen.bitsLt_bf16_f32) Cert.LInDbRefIdeal.Gen.transposes_S8x2048x704_S8x704x2048_0_2_1) (extf .f32 h Cert.LInDbRefIdeal.Gen.bitsLt_bf16_f32)) Cert.LInDbRefIdeal.Gen.transposes_S8x704x2048_S8x2048x704_0_2_1) Cert.LInDbRefIdeal.Gen.bitsLt_bf16_f32

/-- Which block each window takes at a point. -/
theorem idx : ∀ t : Fin cfg0.N, win0_0.index t = ![0, t.val % 4] ∧ win0_1.index t = ![t.val / 4, 0, 0] ∧ win0_2.index t = ![t.val / 4, t.val % 4, 0] :=
  (by decide +kernel : ∀ t : Fin grid0.N, _)

/-- What a point stores is the product, where the block lies. -/
theorem point (c : Dev nD) (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  refine Fin.sum_fin_congr fun k => (@mul_comm EReal _ _ _).trans ?_
  blk_point [iblk, V, idx t]

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The reference keeps its arguments and ends with every counter at zero. -/
theorem frame_reference : Cert.quiescent_LInDbRefIdeal := fun m ρ _ =>
  (θ_run Cert.LInDbRefIdeal.defs _ _).mono (fun r h => ⟨fun c => (h c).2, sem_eq_zero_of_no_sems (by decide) r.2⟩) (Cert.LInDbRefIdeal.Value.run (F := Ideal) m ρ)

/-- Kernel and reference end with the same result. -/
theorem algebraic : Cert.algebraic_LInDbIdeal_LInDbRefIdeal := by
  intro m ρ m' ρ' _ hargs
  refine ⟨fun c => (dats m 0 c).arrAt 2 cfg0.N, Cert.LInDbIdeal.Value.run_blocks (F := Ideal) m ρ, ?_⟩
  refine (θ_run Cert.LInDbRefIdeal.defs _ _).mono (fun r h c => ⟨(h c).1.trans ?_, (h c).2⟩) (Cert.LInDbRefIdeal.Value.run (F := Ideal) m' ρ')
  rw [(hargs c).1, (hargs c).2]
  exact (final m c).symm

end Cert.LInDbValue

end
-- ==== Proof.SIn.lean ====
module

public import proofs.«01_k».proof.Defs
public import proofs.«01_k».proof.Proof.Gen.SInIdeal.Value
public import proofs.«01_k».proof.Proof.Gen.SInRefIdeal.Run
public import Idealize.ShloMosaic.Lib.Pipeline.ValueKit

/-! The S5 layer's input: each block is one product of rows and columns. -/

@[expose] public section

set_option maxRecDepth 16384

noncomputable section

namespace Cert.SInValue

open Cert.SInIdeal Cert.SInIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (h : FVec Ideal S1x2048x2048 .bf16) (w : FVec Ideal S2048x2048 .bf16) : FVec Ideal S2048x2048 .f32 :=
  Host.dotGeneral Cert.SInRefIdeal.dot_S1x2048x2048_S1x2048x2048_S2048x2048_20_10_1_2_n_n none (extf .f32 h Cert.SInRefIdeal.Gen.bitsLt_bf16_f32) (shapeCast _ (extf .f32 w Cert.SInRefIdeal.Gen.bitsLt_bf16_f32) Cert.SInRefIdeal.Gen.shapeCasts_S2048x2048_S1x2048x2048)

/-- Which block each window takes at a point. -/
theorem idx : ∀ t : Fin cfg0.N, win0_0.index t = ![0, t.val / 2, 0] ∧ win0_1.index t = ![0, t.val % 2] ∧ win0_2.index t = ![t.val / 2, t.val % 2] :=
  (by decide +kernel : ∀ t : Fin grid0.N, _)

/-- What a point stores is the product, where the block lies. -/
theorem point (c : Dev nD) (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  simp only [Fin.sum_univ_one]
  blk_point [iblk, V, idx t]

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The reference keeps its arguments and ends with every counter at zero. -/
theorem frame_reference : Cert.quiescent_SInRefIdeal := fun m ρ _ =>
  (θ_run Cert.SInRefIdeal.defs _ _).mono (fun r h => ⟨fun c => (h c).2, sem_eq_zero_of_no_sems (by decide) r.2⟩) (Cert.SInRefIdeal.Value.run (F := Ideal) m ρ)

/-- Kernel and reference end with the same result. -/
theorem algebraic : Cert.algebraic_SInIdeal_SInRefIdeal := by
  intro m ρ m' ρ' _ hargs
  refine ⟨fun c => (dats m 0 c).arrAt 2 cfg0.N, Cert.SInIdeal.Value.run_blocks (F := Ideal) m ρ, ?_⟩
  refine (θ_run Cert.SInRefIdeal.defs _ _).mono (fun r h c => ⟨(h c).1.trans ?_, (h c).2⟩) (Cert.SInRefIdeal.Value.run (F := Ideal) m' ρ')
  rw [(hargs c).1, (hargs c).2]
  exact (final m c).symm

end Cert.SInValue

end
-- ==== Proof.Glu.lean ====
module

public import proofs.«01_k».proof.Defs
public import proofs.«01_k».proof.Proof.Gen.GluIdeal.Value
public import proofs.«01_k».proof.Proof.Gen.GluRefIdeal.Run
public import Idealize.ShloMosaic.Lib.Pipeline.ValueKit

/-! The S5 layer's gate: each block is one product of rows and columns. -/

@[expose] public section

set_option maxRecDepth 16384

noncomputable section

namespace Cert.GluValue

open Cert.GluIdeal Cert.GluIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (h : FVec Ideal S2048x2048 .bf16) (w : FVec Ideal S8x2048x512 .bf16) : FVec Ideal S8x2048x512 .f32 :=
  transpose Cert.GluRefIdeal.S8x2048x512 [0, 2, 1] (Host.dotGeneral Cert.GluRefIdeal.dot_S8x2048x512_S2048x2048_S8x512x2048_1_1_02_0_n_n none (extf .f32 w Cert.GluRefIdeal.Gen.bitsLt_bf16_f32) (extf .f32 h Cert.GluRefIdeal.Gen.bitsLt_bf16_f32)) Cert.GluRefIdeal.Gen.transposes_S8x512x2048_S8x2048x512_0_2_1

/-- Which block each window takes at a point. -/
theorem idx : ∀ t : Fin cfg0.N, win0_0.index t = ![t.val % 2, 0] ∧ win0_1.index t = ![t.val / 2, 0, 0] ∧ win0_2.index t = ![t.val / 2, t.val % 2, 0] :=
  (by decide +kernel : ∀ t : Fin grid0.N, _)

/-- What a point stores is the product, where the block lies. -/
theorem point (c : Dev nD) (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  refine Fin.sum_fin_congr fun k => (@mul_comm EReal _ _ _).trans ?_
  blk_point [iblk, V, idx t]

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The reference keeps its arguments and ends with every counter at zero. -/
theorem frame_reference : Cert.quiescent_GluRefIdeal := fun m ρ _ =>
  (θ_run Cert.GluRefIdeal.defs _ _).mono (fun r h => ⟨fun c => (h c).2, sem_eq_zero_of_no_sems (by decide) r.2⟩) (Cert.GluRefIdeal.Value.run (F := Ideal) m ρ)

/-- Kernel and reference end with the same result. -/
theorem algebraic : Cert.algebraic_GluIdeal_GluRefIdeal := by
  intro m ρ m' ρ' _ hargs
  refine ⟨fun c => (dats m 0 c).arrAt 2 cfg0.N, Cert.GluIdeal.Value.run_blocks (F := Ideal) m ρ, ?_⟩
  refine (θ_run Cert.GluRefIdeal.defs _ _).mono (fun r h c => ⟨(h c).1.trans ?_, (h c).2⟩) (Cert.GluRefIdeal.Value.run (F := Ideal) m' ρ')
  rw [(hargs c).1, (hargs c).2]
  exact (final m c).symm

end Cert.GluValue

end
-- ==== Proof.LIn.lean ====
module

public import proofs.«01_k».proof.Defs
public import proofs.«01_k».proof.Proof.Gen.LInIdeal.Value
public import proofs.«01_k».proof.Proof.Gen.LInRefIdeal.Run
public import Idealize.ShloMosaic.Lib.Pipeline.ValueKit

/-! The RG-LRU layer's input: each block is one product of rows and columns. -/

@[expose] public section

set_option maxRecDepth 16384

noncomputable section

namespace Cert.LInValue

open Cert.LInIdeal Cert.LInIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (h : FVec Ideal S2048x2048 .bf16) (w : FVec Ideal S8x2048x704 .bf16) : FVec Ideal S8x2048x704 .f32 :=
  transpose Cert.LInRefIdeal.S8x2048x704 [0, 2, 1] (Host.dotGeneral Cert.LInRefIdeal.dot_S8x2048x704_S2048x2048_S8x704x2048_1_1_02_0_n_n none (extf .f32 w Cert.LInRefIdeal.Gen.bitsLt_bf16_f32) (extf .f32 h Cert.LInRefIdeal.Gen.bitsLt_bf16_f32)) Cert.LInRefIdeal.Gen.transposes_S8x704x2048_S8x2048x704_0_2_1

/-- Which block each window takes at a point. -/
theorem idx : ∀ t : Fin cfg0.N, win0_0.index t = ![t.val % 2, 0] ∧ win0_1.index t = ![t.val / 2, 0, 0] ∧ win0_2.index t = ![t.val / 2, t.val % 2, 0] :=
  (by decide +kernel : ∀ t : Fin grid0.N, _)

/-- What a point stores is the product, where the block lies. -/
theorem point (c : Dev nD) (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  refine Fin.sum_fin_congr fun k => (@mul_comm EReal _ _ _).trans ?_
  blk_point [iblk, V, idx t]

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The reference keeps its arguments and ends with every counter at zero. -/
theorem frame_reference : Cert.quiescent_LInRefIdeal := fun m ρ _ =>
  (θ_run Cert.LInRefIdeal.defs _ _).mono (fun r h => ⟨fun c => (h c).2, sem_eq_zero_of_no_sems (by decide) r.2⟩) (Cert.LInRefIdeal.Value.run (F := Ideal) m ρ)

/-- Kernel and reference end with the same result. -/
theorem algebraic : Cert.algebraic_LInIdeal_LInRefIdeal := by
  intro m ρ m' ρ' _ hargs
  refine ⟨fun c => (dats m 0 c).arrAt 2 cfg0.N, Cert.LInIdeal.Value.run_blocks (F := Ideal) m ρ, ?_⟩
  refine (θ_run Cert.LInRefIdeal.defs _ _).mono (fun r h c => ⟨(h c).1.trans ?_, (h c).2⟩) (Cert.LInRefIdeal.Value.run (F := Ideal) m' ρ')
  rw [(hargs c).1, (hargs c).2]
  exact (final m c).symm

end Cert.LInValue

end
-- ==== Proof.LOut.lean ====
module

public import proofs.«01_k».proof.Defs
public import proofs.«01_k».proof.Proof.Gen.LOutIdeal.Value
public import proofs.«01_k».proof.Proof.Gen.LOutRefIdeal.Run
public import Idealize.ShloMosaic.Lib.Pipeline.ValueKit

/-! The RG-LRU layer's output: each block adds four products, one for each part of the state. -/

@[expose] public section

set_option maxRecDepth 16384

noncomputable section

namespace Cert.LOutValue

open Cert.LOutIdeal Cert.LOutIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (a : FVec Ideal S4x2048x704 .bf16) (w : FVec Ideal S2816x2048 .bf16) : FVec Ideal S2048x2048 .f32 :=
  Host.dotGeneral Cert.LOutRefIdeal.dot_S4x2048x704_S4x704x2048_S2048x2048_20_10_1_2_n_n none (extf .f32 a Cert.LOutRefIdeal.Gen.bitsLt_bf16_f32) (shapeCast _ (extf .f32 w Cert.LOutRefIdeal.Gen.bitsLt_bf16_f32) Cert.LOutRefIdeal.Gen.shapeCasts_S2816x2048_S4x704x2048)

/-- Which block each window takes at a point. -/
theorem idx : ∀ t : Fin cfg0.N, win0_0.index t = ![t.val % 4, t.val / 8, 0] ∧ win0_1.index t = ![t.val % 4, t.val / 4 % 2] ∧ win0_2.index t = ![t.val / 8, t.val / 4 % 2] :=
  (by decide +kernel : ∀ t : Fin grid0.N, _)

theorem zero_at (j) : k0_pay1 (F := Ideal) j = 0 := by pointwise [k0_pay1]

theorem step_at (acc : FVec Ideal S1024x1024 .f32) (x : FVec Ideal S1x1024x704 .bf16) (w : FVec Ideal S704x1024 .bf16) (j) :
    k0_pay2 (F := Ideal) acc x w j = (acc j + ∑ k : Fin 704, (x (ix3 0 (j 0) k) * w (ix2 k (j 1)) : EReal) : EReal) := by
  pointwise [k0_pay2]

theorem prod_at (a : FVec Ideal S4x2048x704 .bf16) (w : FVec Ideal S2816x2048 .bf16) (j) :
    prod a w j = (∑ s : Fin 4, ∑ k : Fin 704, (a (ix3 s (j 0) k) * w (ix2 ⟨s * 704 + k, by omega⟩ (j 1)) : EReal) : EReal) := by
  pointwise [prod]
  exact Finset.sum_comm

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  have hl : t.val % 4 = 3 := (flush0_2 t).mp hf
  have h0 : ¬t.val % 4 = 0 := by omega
  have same : (outsAt0 m c t.val t.isLt).1 = (outsAt0 m c t.val t.isLt).2 := by
    rw [outsAt0_C m c t h0 hl]; frame_out
  rw [after0_2, same, Pipeline.eq_sum_fin_of_reset_step_apply_of_flush (fun n h => (outsAt0 m c n h).2) 4 (fun _ => 0) _
    (fun t h j => by rw [outsAt0_A m c t h (by omega)]; frame_out; rw [step_at, zero_at])
    (fun t h j => by
      by_cases hl : t.val % 4 = 3
      · rw [outsAt0_C m c t h hl]; frame_out; rw [step_at]; exact congrArg (fun x : EReal => x + _) (congrFun ((Memref.isWhole_whole cc0_scratch0).read_unread _) j)
      · rw [outsAt0_B m c t h hl]; frame_out; rw [step_at]; exact congrArg (fun x : EReal => x + _) (congrFun ((Memref.isWhole_whole cc0_scratch0).read_unread _) j))
    t hl _, zero_add, prod_at]
  refine Fin.sum_fin_congr fun s => Fin.sum_fin_congr fun k => ?_
  blk_point [iblk, V, idx t, idx ⟨_, Pipeline.run_point_lt_of_flush t hl s⟩]

/-- The reference keeps its arguments and ends with every counter at zero. -/
theorem frame_reference : Cert.quiescent_LOutRefIdeal := fun m ρ _ =>
  (θ_run Cert.LOutRefIdeal.defs _ _).mono (fun r h => ⟨fun c => (h c).2, sem_eq_zero_of_no_sems (by decide) r.2⟩) (Cert.LOutRefIdeal.Value.run (F := Ideal) m ρ)

/-- Kernel and reference end with the same result. -/
theorem algebraic : Cert.algebraic_LOutIdeal_LOutRefIdeal := by
  intro m ρ m' ρ' _ hargs
  refine ⟨fun c => (dats m 0 c).arrAt 2 cfg0.N, Cert.LOutIdeal.Value.run_blocks (F := Ideal) m ρ, ?_⟩
  refine (θ_run Cert.LOutRefIdeal.defs _ _).mono (fun r h c => ⟨(h c).1.trans ?_, (h c).2⟩) (Cert.LOutRefIdeal.Value.run (F := Ideal) m' ρ')
  rw [(hargs c).1, (hargs c).2]
  exact (final m c).symm

end Cert.LOutValue

end
-- ==== Proof.Gu.lean ====
module

public import proofs.«01_k».proof.Defs
public import proofs.«01_k».proof.Proof.Gen.GuIdeal.Value
public import proofs.«01_k».proof.Proof.Gen.GuRefIdeal.Run
public import Idealize.ShloMosaic.Lib.Pipeline.ValueKit

/-! The gate and up products: each block is one product of rows and columns. -/

@[expose] public section

set_option maxRecDepth 16384

noncomputable section

namespace Cert.GuValue

open Cert.GuIdeal Cert.GuIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (h : FVec Ideal S2048x2048 .bf16) (w : FVec Ideal S8x2048x1408 .bf16) : FVec Ideal S8x2048x1408 .bf16 :=
  truncf .bf16 (transpose Cert.GuRefIdeal.S8x2048x1408 [0, 2, 1] (Host.dotGeneral Cert.GuRefIdeal.dot_S8x2048x1408_S2048x2048_S8x1408x2048_1_1_02_0_n_n none (extf .f32 w Cert.GuRefIdeal.Gen.bitsLt_bf16_f32) (extf .f32 h Cert.GuRefIdeal.Gen.bitsLt_bf16_f32)) Cert.GuRefIdeal.Gen.transposes_S8x1408x2048_S8x2048x1408_0_2_1) Cert.GuRefIdeal.Gen.bitsLt_bf16_f32

/-- Which block each window takes at a point. -/
theorem idx : ∀ t : Fin cfg0.N, win0_0.index t = ![t.val % 2, 0] ∧ win0_1.index t = ![t.val / 2, 0, 0] ∧ win0_2.index t = ![t.val / 2, t.val % 2, 0] :=
  (by decide +kernel : ∀ t : Fin grid0.N, _)

/-- What a point stores is the product, where the block lies. -/
theorem point (c : Dev nD) (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  refine Fin.sum_fin_congr fun k => (@mul_comm EReal _ _ _).trans ?_
  blk_point [iblk, V, idx t]

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The reference keeps its arguments and ends with every counter at zero. -/
theorem frame_reference : Cert.quiescent_GuRefIdeal := fun m ρ _ =>
  (θ_run Cert.GuRefIdeal.defs _ _).mono (fun r h => ⟨fun c => (h c).2, sem_eq_zero_of_no_sems (by decide) r.2⟩) (Cert.GuRefIdeal.Value.run (F := Ideal) m ρ)

/-- Kernel and reference end with the same result. -/
theorem algebraic : Cert.algebraic_GuIdeal_GuRefIdeal := by
  intro m ρ m' ρ' _ hargs
  refine ⟨fun c => (dats m 0 c).arrAt 2 cfg0.N, Cert.GuIdeal.Value.run_blocks (F := Ideal) m ρ, ?_⟩
  refine (θ_run Cert.GuRefIdeal.defs _ _).mono (fun r h c => ⟨(h c).1.trans ?_, (h c).2⟩) (Cert.GuRefIdeal.Value.run (F := Ideal) m' ρ')
  rw [(hargs c).1, (hargs c).2]
  exact (final m c).symm

end Cert.GuValue

end
-- ==== Proof.Down.lean ====
module

public import proofs.«01_k».proof.Defs
public import proofs.«01_k».proof.Proof.Gen.DownIdeal.Value
public import proofs.«01_k».proof.Proof.Gen.DownRefIdeal.Run
public import Idealize.ShloMosaic.Lib.Pipeline.ValueKit

/-! The down product: each block adds four products, one for each part of the activation. -/

@[expose] public section

set_option maxRecDepth 16384

noncomputable section

namespace Cert.DownValue

open Cert.DownIdeal Cert.DownIdeal.Gen
open Idealize.ShloMosaic Idealize.ShloMosaic.TcCoe Idealize.SL.Sem
open Idealize.ShloMosaic.Pipeline (Dat)

variable (m : (ℓ : Loc nD τ sig) → Buf (Elt Ideal) ℓ)

/-- The reference's product of its arguments. -/
abbrev prod (a : FVec Ideal S4x2048x1408 .bf16) (w : FVec Ideal S5632x2048 .bf16) : FVec Ideal S2048x2048 .f32 :=
  Host.dotGeneral Cert.DownRefIdeal.dot_S4x2048x1408_S4x1408x2048_S2048x2048_20_10_1_2_n_n none (extf .f32 a Cert.DownRefIdeal.Gen.bitsLt_bf16_f32) (shapeCast _ (extf .f32 w Cert.DownRefIdeal.Gen.bitsLt_bf16_f32) Cert.DownRefIdeal.Gen.shapeCasts_S5632x2048_S4x1408x2048)

/-- Which block each window takes at a point. -/
theorem idx : ∀ t : Fin cfg0.N, win0_0.index t = ![t.val % 4, t.val / 8, 0] ∧ win0_1.index t = ![t.val % 4, t.val / 4 % 2] ∧ win0_2.index t = ![t.val / 8, t.val / 4 % 2] :=
  (by decide +kernel : ∀ t : Fin grid0.N, _)

theorem zero_at (j) : k0_pay1 (F := Ideal) j = 0 := by pointwise [k0_pay1]

theorem step_at (acc : FVec Ideal S1024x1024 .f32) (x : FVec Ideal S1x1024x1408 .bf16) (w : FVec Ideal S1408x1024 .bf16) (j) :
    k0_pay2 (F := Ideal) acc x w j = (acc j + ∑ k : Fin 1408, (x (ix3 0 (j 0) k) * w (ix2 k (j 1)) : EReal) : EReal) := by
  pointwise [k0_pay2]

theorem prod_at (a : FVec Ideal S4x2048x1408 .bf16) (w : FVec Ideal S5632x2048 .bf16) (j) :
    prod a w j = (∑ s : Fin 4, ∑ k : Fin 1408, (a (ix3 s (j 0) k) * w (ix2 ⟨s * 1408 + k, by omega⟩ (j 1)) : EReal) : EReal) := by
  pointwise [prod]
  exact Finset.sum_comm

/-- The blocks make the array. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  have hl : t.val % 4 = 3 := (flush0_2 t).mp hf
  have h0 : ¬t.val % 4 = 0 := by omega
  have same : (outsAt0 m c t.val t.isLt).1 = (outsAt0 m c t.val t.isLt).2 := by
    rw [outsAt0_C m c t h0 hl]; frame_out
  rw [after0_2, same, Pipeline.eq_sum_fin_of_reset_step_apply_of_flush (fun n h => (outsAt0 m c n h).2) 4 (fun _ => 0) _
    (fun t h j => by rw [outsAt0_A m c t h (by omega)]; frame_out; rw [step_at, zero_at])
    (fun t h j => by
      by_cases hl : t.val % 4 = 3
      · rw [outsAt0_C m c t h hl]; frame_out; rw [step_at]; exact congrArg (fun x : EReal => x + _) (congrFun ((Memref.isWhole_whole cc0_scratch0).read_unread _) j)
      · rw [outsAt0_B m c t h hl]; frame_out; rw [step_at]; exact congrArg (fun x : EReal => x + _) (congrFun ((Memref.isWhole_whole cc0_scratch0).read_unread _) j))
    t hl _, zero_add, prod_at]
  refine Fin.sum_fin_congr fun s => Fin.sum_fin_congr fun k => ?_
  blk_point [iblk, V, idx t, idx ⟨_, Pipeline.run_point_lt_of_flush t hl s⟩]

/-- The reference keeps its arguments and ends with every counter at zero. -/
theorem frame_reference : Cert.quiescent_DownRefIdeal := fun m ρ _ =>
  (θ_run Cert.DownRefIdeal.defs _ _).mono (fun r h => ⟨fun c => (h c).2, sem_eq_zero_of_no_sems (by decide) r.2⟩) (Cert.DownRefIdeal.Value.run (F := Ideal) m ρ)

/-- Kernel and reference end with the same result. -/
theorem algebraic : Cert.algebraic_DownIdeal_DownRefIdeal := by
  intro m ρ m' ρ' _ hargs
  refine ⟨fun c => (dats m 0 c).arrAt 2 cfg0.N, Cert.DownIdeal.Value.run_blocks (F := Ideal) m ρ, ?_⟩
  refine (θ_run Cert.DownRefIdeal.defs _ _).mono (fun r h c => ⟨(h c).1.trans ?_, (h c).2⟩) (Cert.DownRefIdeal.Value.run (F := Ideal) m' ρ')
  rw [(hargs c).1, (hargs c).2]
  exact (final m c).symm

end Cert.DownValue

end
-- ==== Proof.ActFwd.lean ====
module

public import proofs.«01_k».proof.Defs
public import proofs.«01_k».proof.Proof.Gen.ActFwdIdeal.Value
public import proofs.«01_k».proof.Proof.Gen.ActFwdRefIdeal.Run
public import Idealize.ShloMosaic.Lib.Pipeline.ValueKit

/-! The activation of the gate and up products: each entry is the reference's. -/

@[expose] public section

set_option maxRecDepth 16384

noncomputable section

namespace Cert.ActFwdValue

open Cert.ActFwdIdeal Cert.ActFwdIdeal.Gen
open Idealize.ShloMosaic Idealize.ShloMosaic.TcCoe Idealize.SL.Sem
open Idealize.ShloMosaic.Pipeline (Dat)

variable (m : (ℓ : Loc nD τ sig) → Buf (Elt Ideal) ℓ)

abbrev one : FVec Ideal Cert.ActFwdRefIdeal.S4x2048x1408 .f32 :=
  broadcastInDim Cert.ActFwdRefIdeal.S4x2048x1408 ![] Cert.ActFwdRefIdeal.Gen.bcast_S_S4x2048x1408 (constant Cert.ActFwdRefIdeal.S_ .f32 0x3F800000#32)
abbrev gate (gu : FVec Ideal S8x2048x1408 .bf16) : FVec Ideal Cert.ActFwdRefIdeal.S4x2048x1408 .f32 :=
  extractStridedSlice Cert.ActFwdRefIdeal.S4x2048x1408 ![0, 0, 0] (extf .f32 gu Cert.ActFwdRefIdeal.Gen.bitsLt_bf16_f32) Cert.ActFwdRefIdeal.Gen.slices_S8x2048x1408_S4x2048x1408_0_0_0
/-- The reference's activation of its argument. -/
abbrev act (gu : FVec Ideal S8x2048x1408 .bf16) : FVec Ideal S4x2048x1408 .bf16 :=
  truncf .bf16 (mulf (mulf (gate gu) (Host.divf one (addf one (Host.exp (Host.negf (gate gu)))))) (extractStridedSlice Cert.ActFwdRefIdeal.S4x2048x1408 ![4, 0, 0] (extf .f32 gu Cert.ActFwdRefIdeal.Gen.bitsLt_bf16_f32) Cert.ActFwdRefIdeal.Gen.slices_S8x2048x1408_S4x2048x1408_4_0_0)) Cert.ActFwdRefIdeal.Gen.bitsLt_bf16_f32

/-- Which block each window takes at a point. -/
theorem idx : ∀ t : Fin cfg0.N, win0_0.index t = ![t.val / 8, t.val % 8, 0] ∧ win0_1.index t = ![t.val / 8 + 4, t.val % 8, 0] ∧ win0_2.index t = ![t.val / 8, t.val % 8, 0] :=
  (by decide +kernel : ∀ t : Fin grid0.N, _)

/-- What a point stores is the activation, where the block lies. -/
theorem point (c : Dev nD) (t : Fin cfg0.N) (y) : k0_pay1 (F := Ideal) (iblk m c 0 t) (iblk m c 1 t) y
    = act (m ((c : Thread nD τ).loc main_arg0)) (((cfg0.win 2).blk t).view.emb y) := by
  pointwise [k0_pay1, act, gate, one]
  simp only [Ideal.logistic]
  blk_point [iblk, V, idx t]

/-- The blocks make the array. -/
theorem final (c : Dev nD) : (dats m 0 c).arrAt 2 cfg0.N = act (m ((c : Thread nD τ).loc main_arg0)) := by
  refine (dats m 0 c).arrAt_eq_of_covers 2 _ (by decide +kernel) fun t _ y => ?_
  blk_simp
  rw [after0_2]; frame_out
  exact point m c t y

/-- The reference keeps its arguments and ends with every counter at zero. -/
theorem frame_reference : Cert.quiescent_ActFwdRefIdeal := fun m ρ _ =>
  (θ_run Cert.ActFwdRefIdeal.defs _ _).mono (fun r h => ⟨fun c => (h c).2, sem_eq_zero_of_no_sems (by decide) r.2⟩) (Cert.ActFwdRefIdeal.Value.run (F := Ideal) m ρ)

/-- Kernel and reference end with the same result. -/
theorem algebraic : Cert.algebraic_ActFwdIdeal_ActFwdRefIdeal := by
  intro m ρ m' ρ' _ hargs
  refine ⟨fun c => (dats m 0 c).arrAt 2 cfg0.N, Cert.ActFwdIdeal.Value.run_blocks (F := Ideal) m ρ, ?_⟩
  refine (θ_run Cert.ActFwdRefIdeal.defs _ _).mono (fun r h c => ⟨(h c).1.trans ?_, (h c).2⟩) (Cert.ActFwdRefIdeal.Value.run (F := Ideal) m' ρ')
  rw [hargs c]
  exact (final m c).symm

end Cert.ActFwdValue

end
-- ==== Proof.Gate.lean ====
module

public import proofs.«01_k».proof.Defs
public import proofs.«01_k».proof.Proof.Gen.GateIdeal.Value
public import proofs.«01_k».proof.Proof.Gen.GateRefIdeal.Run
public import Idealize.ShloMosaic.Lib.Pipeline.ValueKit

/-! The gradient of a gated residual: the branch's gradient block by block, the gate's over eight blocks of rows. -/

@[expose] public section

set_option maxRecDepth 16384

noncomputable section

namespace Cert.GateValue

open Cert.GateIdeal Cert.GateIdeal.Gen
open Idealize.ShloMosaic Idealize.ShloMosaic.TcCoe Idealize.SL.Sem
open Idealize.ShloMosaic.Pipeline (Dat)

variable (m : (ℓ : Loc nD τ sig) → Buf (Elt Ideal) ℓ)

/-- The reference's gradient of the branch. -/
abbrev dy (dx : FVec Ideal S2048x2048 .f32) (g : FVec Ideal S1x2048 .f32) : FVec Ideal S2048x2048 .bf16 :=
  truncf .bf16 (mulf (broadcastInDim Cert.GateRefIdeal.S2048x2048 ![0, 1] Cert.GateRefIdeal.Gen.bcast_S1x2048_S2048x2048_0_1 g) dx) Cert.GateRefIdeal.Gen.bitsLt_bf16_f32

/-- The reference's gradient of the gate. -/
abbrev dg (dx y : FVec Ideal S2048x2048 .f32) : FVec Ideal S1x2048 .f32 :=
  shapeCast _ (Host.reduceAdd (mulf dx y) (constant Cert.GateRefIdeal.S_ .f32 0x00000000#32) Cert.GateRefIdeal.Gen.reducesTo_S2048x2048_S2048_d0 Cert.GateRefIdeal.Gen.h_S_) Cert.GateRefIdeal.Gen.shapeCasts_S2048_S1x2048

/-- Which block each window takes at a point. -/
theorem idx : ∀ t : Fin cfg0.N, win0_0.index t = ![t.val, 0] ∧ win0_1.index t = ![t.val, 0] ∧ win0_2.index t = ![0, 0] ∧ win0_3.index t = ![t.val, 0] ∧ win0_4.index t = ![0, 0] :=
  (by decide +kernel : ∀ t : Fin grid0.N, _)

/-- What a point stores of the branch's gradient is the reference's, where the block lies. -/
theorem point (c : Dev nD) (t : Fin cfg0.N) (y) : k0_pay2 (F := Ideal) (iblk m c 0 t) (iblk m c 2 t) y
    = dy (m ((c : Thread nD τ).loc main_arg0)) (m ((c : Thread nD τ).loc main_arg2)) (((cfg0.win 3).blk t).view.emb y) := by
  pointwise [k0_pay2, dy]
  blk_point [iblk, V, idx t]

theorem final_dy (c : Dev nD) : (dats m 0 c).arrAt 3 cfg0.N = dy (m ((c : Thread nD τ).loc main_arg0)) (m ((c : Thread nD τ).loc main_arg2)) := by
  refine (dats m 0 c).arrAt_eq_of_covers 3 _ (by decide +kernel) fun t _ y => ?_
  blk_simp
  rw [after0_3]
  by_cases h : t.val % 8 = 0
  · rw [outsAt0_A m c t h]; frame_out
    exact point m c t y
  · rw [outsAt0_B m c t h]; frame_out
    exact point m c t y

theorem zero_at (j) : k0_pay1 (F := Ideal) j = 0 := by pointwise [k0_pay1]

theorem step_at (dx : FVec Ideal S256x2048 .f32) (acc : FVec Ideal S1x2048 .f32) (y : FVec Ideal S256x2048 .f32) (j) :
    k0_pay3 (F := Ideal) dx acc y j = (acc j + ∑ k : Fin 256, (dx (ix2 k (j 1)) * y (ix2 k (j 1)) : EReal) : EReal) := by
  pointwise [k0_pay3]
  blk_ext

theorem dg_at (dx y : FVec Ideal S2048x2048 .f32) (j) : dg dx y j = (∑ k : Fin 2048, (dx (ix2 k (j 1)) * y (ix2 k (j 1)) : EReal) : EReal) := by
  pointwise [dg]
  blk_ext

theorem final_dg (c : Dev nD) : (dats m 0 c).arrAt 4 cfg0.N = dg (m ((c : Thread nD τ).loc main_arg0)) (m ((c : Thread nD τ).loc main_arg1)) := by
  refine (dats m 0 c).arrAt_eq_of_covers 4 _ (by decide +kernel) fun t hf y => ?_
  have ht : t.val < 8 := t.isLt
  blk_simp
  have hl : t.val % 8 = 7 := (flush0_4 t).mp hf
  rw [after0_4, Pipeline.eq_sum_fin_of_reset_step_apply_of_flush (fun n h => (outsAt0 m c n h).2) 8 (fun _ => 0) _
    (fun t h j => by rw [outsAt0_A m c t h]; frame_out; rw [step_at, zero_at])
    (fun t h j => by rw [outsAt0_B m c t h]; frame_out; rw [step_at])
    t hl _, zero_add, dg_at]
  refine Fin.sum_mul_add_congr fun s k hk => ?_
  blk_point [iblk, V, idx t, idx ⟨_, Pipeline.run_point_lt_of_flush t hl s⟩]

/-- The reference keeps its arguments and ends with every counter at zero. -/
theorem frame_reference : Cert.quiescent_GateRefIdeal := fun m ρ _ =>
  (θ_run Cert.GateRefIdeal.defs _ _).mono (fun r h => ⟨fun c => (h c).2.2, sem_eq_zero_of_no_sems (by decide) r.2⟩) (Cert.GateRefIdeal.Value.run (F := Ideal) m ρ)

/-- Kernel and reference end with the same results. -/
theorem algebraic : Cert.algebraic_GateIdeal_GateRefIdeal := by
  intro m ρ m' ρ' _ hargs
  refine ⟨fun c => (dats m 0 c).arrAt 3 cfg0.N, fun c => (dats m 0 c).arrAt 4 cfg0.N, Cert.GateIdeal.Value.run_blocks (F := Ideal) m ρ, ?_⟩
  refine (θ_run Cert.GateRefIdeal.defs _ _).mono (fun r h c => ?_) (Cert.GateRefIdeal.Value.run (F := Ideal) m' ρ')
  obtain ⟨h0, h1, h⟩ := h c
  obtain ⟨e0, e1, e2⟩ := hargs c
  rw [e0, e2] at h0
  rw [e0, e1] at h1
  exact ⟨h0.trans (final_dy m c).symm, h1.trans (final_dg m c).symm, h⟩

end Cert.GateValue

end
-- ==== Proof.GluResB.lean ====
module

public import proofs.«01_k».proof.Defs
public import proofs.«01_k».proof.Proof.Gen.GluResBIdeal.Value
public import proofs.«01_k».proof.Proof.Gen.GluResBRefIdeal.Run
public import Idealize.ShloMosaic.Lib.Pipeline.ValueKit

/-! The gradient of the S5 layer's gated output: of both halves of the product block by block, of the residual's gate over eight blocks of rows. -/

@[expose] public section

set_option maxRecDepth 16384

noncomputable section

namespace Cert.GluResBValue

open Cert.GluResBIdeal Cert.GluResBIdeal.Gen
open Idealize.ShloMosaic Idealize.ShloMosaic.TcCoe Idealize.SL.Sem
open Idealize.ShloMosaic.Pipeline (Dat)

variable (m : (ℓ : Loc nD τ sig) → Buf (Elt Ideal) ℓ)

abbrev one : FVec Ideal Cert.GluResBRefIdeal.S2048x2048 .f32 :=
  broadcastInDim Cert.GluResBRefIdeal.S2048x2048 ![] Cert.GluResBRefIdeal.Gen.bcast_S_S2048x2048 (constant Cert.GluResBRefIdeal.S_ .f32 0x3F800000#32)
abbrev val (z : FVec Ideal S8x2048x512 .f32) : FVec Ideal Cert.GluResBRefIdeal.S2048x2048 .f32 :=
  shapeCast _ (transpose Cert.GluResBRefIdeal.S2048x4x512 [1, 0, 2] (extractStridedSlice Cert.GluResBRefIdeal.S4x2048x512 ![0, 0, 0] z Cert.GluResBRefIdeal.Gen.slices_S8x2048x512_S4x2048x512_0_0_0) Cert.GluResBRefIdeal.Gen.transposes_S4x2048x512_S2048x4x512_1_0_2) Cert.GluResBRefIdeal.Gen.shapeCasts_S2048x4x512_S2048x2048
abbrev gate (z : FVec Ideal S8x2048x512 .f32) : FVec Ideal Cert.GluResBRefIdeal.S2048x2048 .f32 :=
  shapeCast _ (transpose Cert.GluResBRefIdeal.S2048x4x512 [1, 0, 2] (extractStridedSlice Cert.GluResBRefIdeal.S4x2048x512 ![4, 0, 0] z Cert.GluResBRefIdeal.Gen.slices_S8x2048x512_S4x2048x512_4_0_0) Cert.GluResBRefIdeal.Gen.transposes_S4x2048x512_S2048x4x512_1_0_2) Cert.GluResBRefIdeal.Gen.shapeCasts_S2048x4x512_S2048x2048
abbrev sigmoid (z : FVec Ideal S8x2048x512 .f32) : FVec Ideal Cert.GluResBRefIdeal.S2048x2048 .f32 :=
  Host.divf one (addf one (Host.exp (Host.negf (gate z))))

/-- The reference's gradients of the two halves of the product. -/
abbrev dz (z : FVec Ideal S8x2048x512 .f32) (dx : FVec Ideal S2048x2048 .f32) (g : FVec Ideal S1x2048 .f32) : FVec Ideal S2x4x2048x512 .bf16 :=
  truncf .bf16 (concatenate Cert.GluResBRefIdeal.S2x4x2048x512 0 [⟨Cert.GluResBRefIdeal.S1x4x2048x512, (broadcastInDim Cert.GluResBRefIdeal.S1x4x2048x512 ![1, 2, 3] Cert.GluResBRefIdeal.Gen.bcast_S4x2048x512_S1x4x2048x512_1_2_3 (transpose Cert.GluResBRefIdeal.S4x2048x512 [1, 0, 2] (shapeCast _ (mulf (mulf (broadcastInDim Cert.GluResBRefIdeal.S2048x2048 ![0, 1] Cert.GluResBRefIdeal.Gen.bcast_S1x2048_S2048x2048_0_1 g) dx) (sigmoid z)) Cert.GluResBRefIdeal.Gen.shapeCasts_S2048x2048_S2048x4x512) Cert.GluResBRefIdeal.Gen.transposes_S2048x4x512_S4x2048x512_1_0_2))⟩, ⟨Cert.GluResBRefIdeal.S1x4x2048x512, (broadcastInDim Cert.GluResBRefIdeal.S1x4x2048x512 ![1, 2, 3] Cert.GluResBRefIdeal.Gen.bcast_S4x2048x512_S1x4x2048x512_1_2_3 (transpose Cert.GluResBRefIdeal.S4x2048x512 [1, 0, 2] (shapeCast _ (mulf (mulf (val z) (mulf (broadcastInDim Cert.GluResBRefIdeal.S2048x2048 ![0, 1] Cert.GluResBRefIdeal.Gen.bcast_S1x2048_S2048x2048_0_1 g) dx)) (mulf (sigmoid z) (subf one (sigmoid z)))) Cert.GluResBRefIdeal.Gen.shapeCasts_S2048x2048_S2048x4x512) Cert.GluResBRefIdeal.Gen.transposes_S2048x4x512_S4x2048x512_1_0_2))⟩] Cert.GluResBRefIdeal.Gen.concatenates_S1x4x2048x512_S1x4x2048x512_S2x4x2048x512_d0) Cert.GluResBRefIdeal.Gen.bitsLt_bf16_f32

/-- The reference's gradient of the residual's gate. -/
abbrev dg (z : FVec Ideal S8x2048x512 .f32) (dx : FVec Ideal S2048x2048 .f32) : FVec Ideal S1x2048 .f32 :=
  shapeCast _ (Host.reduceAdd (mulf dx (mulf (val z) (sigmoid z))) (constant Cert.GluResBRefIdeal.S_ .f32 0x00000000#32) Cert.GluResBRefIdeal.Gen.reducesTo_S2048x2048_S2048_d0 Cert.GluResBRefIdeal.Gen.h_S_) Cert.GluResBRefIdeal.Gen.shapeCasts_S2048_S1x2048

/-- Which block each window takes at a point. -/
theorem idx : ∀ t : Fin cfg0.N, win0_0.index t = ![0, t.val / 8, t.val % 8, 0] ∧ win0_1.index t = ![t.val % 8, t.val / 8] ∧ win0_2.index t = ![0, t.val / 8] ∧ win0_3.index t = ![0, t.val / 8, t.val % 8, 0] ∧ win0_4.index t = ![0, t.val / 8] :=
  (by decide +kernel : ∀ t : Fin grid0.N, _)

/-- A block's read of the product, as a read of the program's argument. -/
theorem read_z (c : Dev nD) (t : Fin cfg0.N) (h : Fin 2) (a : Fin 256) (b b' : Fin 512) (p : Fin 8) (q : Fin 2048)
    (hp : (p : ℕ) = h * 4 + t.val / 8) (hq : (q : ℕ) = t.val % 8 * 256 + a) (hb : (b : ℕ) = b') :
    iblk m c 0 t (ix4 h 0 a b) = m ((c : Thread nD τ).loc main_arg0) (ix3 p q b') := by
  have ht : t.val < 32 := t.isLt
  obtain rfl := Fin.ext hb
  blk_simp [iblk]
  entry_read
  pointwise
  blk_ext [idx t]

/-- A block's read of the incoming gradient. -/
theorem read_dx (c : Dev nD) (t : Fin cfg0.N) (a : Fin 256) (b : Fin 512) (p q : Fin 2048) (hp : (p : ℕ) = t.val % 8 * 256 + a)
    (hq : (q : ℕ) = t.val / 8 * 512 + b) : iblk m c 1 t (ix2 a b) = m ((c : Thread nD τ).loc main_arg1) (ix2 p q) := by
  blk_point [iblk, V, idx t]

/-- A block's read of the residual's gate. -/
theorem read_g (c : Dev nD) (t : Fin cfg0.N) (b : Fin 512) (q : Fin 2048) (hq : (q : ℕ) = t.val / 8 * 512 + b) :
    iblk m c 2 t (ix2 0 b) = m ((c : Thread nD τ).loc main_arg2) (ix2 0 q) := by
  blk_point [iblk, V, idx t]

/-- One element of the two gradients and one term of the gate's gradient, as the kernel forms them. -/
abbrev dval (g d w : EReal) : EReal := g * d * Ideal.logistic w
abbrev dgate (v g d w : EReal) : EReal := g * d * v * (Ideal.logistic w * (1 - Ideal.logistic w))
abbrev row (d v w : EReal) : EReal := d * (v * Ideal.logistic w)

/-- The two payloads of a point: the reference's gradient, of the first half and of the second. -/
theorem first_half (c : Dev nD) (t : Fin cfg0.N) (x : S1x1x256x512.Idx) (q : S2x4x2048x512.Idx) (e0 : (q 0 : ℕ) = 0)
    (e1 : (q 1 : ℕ) = t.val / 8) (e2 : (q 2 : ℕ) = t.val % 8 * 256 + x 2) (e3 : (q 3 : ℕ) = x 3) :
    dval (iblk m c 2 t (ix2 0 (x 3))) (iblk m c 1 t (ix2 (x 2) (x 3))) (iblk m c 0 t (ix4 1 0 (x 2) (x 3)))
      = dz (m ((c : Thread nD τ).loc main_arg0)) (m ((c : Thread nD τ).loc main_arg1)) (m ((c : Thread nD τ).loc main_arg2)) q := by
  pointwise [dz, sigmoid, gate, val, one]
  rw [dif_pos (by omega)]
  exact congrArg₂ (fun a b : EReal => a * b)
    (congrArg₂ (fun a b : EReal => a * b) (read_g m c t _ _ (by dsimp; omega)) (read_dx m c t _ _ _ _ (by omega) (by dsimp; omega)))
    (congrArg Ideal.logistic (read_z m c t 1 _ _ _ _ _ (by dsimp; omega) (by omega) (by omega)))

theorem second_half (c : Dev nD) (t : Fin cfg0.N) (x : S1x1x256x512.Idx) (q : S2x4x2048x512.Idx) (e0 : (q 0 : ℕ) = 1)
    (e1 : (q 1 : ℕ) = t.val / 8) (e2 : (q 2 : ℕ) = t.val % 8 * 256 + x 2) (e3 : (q 3 : ℕ) = x 3) :
    dgate (iblk m c 0 t (ix4 0 0 (x 2) (x 3))) (iblk m c 2 t (ix2 0 (x 3))) (iblk m c 1 t (ix2 (x 2) (x 3))) (iblk m c 0 t (ix4 1 0 (x 2) (x 3)))
      = dz (m ((c : Thread nD τ).loc main_arg0)) (m ((c : Thread nD τ).loc main_arg1)) (m ((c : Thread nD τ).loc main_arg2)) q := by
  pointwise [dz, sigmoid, gate, val, one]
  rw [dif_neg (by omega)]
  exact congrArg₂ (fun a b : EReal => a * b)
    ((@mul_comm EReal _ _ _).trans (congrArg₂ (fun a b : EReal => a * b) (read_z m c t 0 _ _ _ _ _ (by dsimp; omega) (by omega) (by omega))
      (congrArg₂ (fun a b : EReal => a * b) (read_g m c t _ _ (by dsimp; omega)) (read_dx m c t _ _ _ _ (by omega) (by dsimp; omega)))))
    (congrArg (fun s : EReal => Ideal.logistic s * (1 - Ideal.logistic s)) (read_z m c t 1 _ _ _ _ _ (by dsimp; omega) (by omega) (by omega)))

/-- What a point leaves of the product's gradient is the reference's, where the block lies. -/
theorem point (c : Dev nD) (t : Fin cfg0.N) (y) : (outsAt0 m c t.val t.isLt).1 y
    = dz (m ((c : Thread nD τ).loc main_arg0)) (m ((c : Thread nD τ).loc main_arg1)) (m ((c : Thread nD τ).loc main_arg2)) (((cfg0.win 3).blk t).view.emb y) := by
  have ht : t.val < 32 := t.isLt
  have e0 : (((cfg0.win 3).blk t).view.emb y 0 : ℕ) = y 0 := by blk_simp [idx t] <;> try omega
  have e1 : (((cfg0.win 3).blk t).view.emb y 1 : ℕ) = t.val / 8 + y 1 := by blk_simp [idx t] <;> try omega
  have e2 : (((cfg0.win 3).blk t).view.emb y 2 : ℕ) = t.val % 8 * 256 + y 2 := by blk_simp [idx t] <;> try omega
  have e3 : (((cfg0.win 3).blk t).view.emb y 3 : ℕ) = y 3 := by blk_simp [idx t] <;> try omega
  generalize ((cfg0.win 3).blk t).view.emb y = q at *
  rcases Decidable.em (t.val % 8 = 0) with first | first
  · rw [outsAt0_A m c t first]; frame_out
    canon_tiles x h
    case piece1 =>
      open_payloads
      refine .trans ?_ (first_half m c t x q (by omega) (by omega) (by omega) (by omega))
      pointwise
    case piece0 =>
      open_payloads
      refine .trans ?_ (second_half m c t x q (by omega) (by omega) (by omega) (by omega))
      pointwise
  · rw [outsAt0_B m c t first]; frame_out
    canon_tiles x h
    case piece1 =>
      open_payloads
      refine .trans ?_ (first_half m c t x q (by omega) (by omega) (by omega) (by omega))
      pointwise
    case piece0 =>
      open_payloads
      refine .trans ?_ (second_half m c t x q (by omega) (by omega) (by omega) (by omega))
      pointwise

theorem final_dz (c : Dev nD) : (dats m 0 c).arrAt 3 cfg0.N = dz (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

theorem zero_at (j) : k0_pay2 (F := Ideal) j = 0 := by pointwise [k0_pay2]

theorem step_at (v : FVec Ideal S1x1x256x512 .f32) (dx : FVec Ideal S256x512 .f32) (w : FVec Ideal S1x1x256x512 .f32) (acc : FVec Ideal S1x512 .f32) (j) :
    k0_pay6 (F := Ideal) v dx w acc j = (acc j + ∑ k : Fin 256, (dx (ix2 k (j 1)) * (v (ix4 0 0 k (j 1)) * Ideal.logistic (w (ix4 0 0 k (j 1)))) : EReal) : EReal) := by
  pointwise [k0_pay6, k0_pay3, k0_pay4]
  blk_ext

theorem dg_at (z : FVec Ideal S8x2048x512 .f32) (dx : FVec Ideal S2048x2048 .f32) (j) :
    dg z dx j = (∑ k : Fin 2048, (dx (ix2 k (j 1)) * (z (ix3 ⟨(j 1 : ℕ) / 512, by have := (j 1).isLt; dsimp at *; omega⟩ k ⟨(j 1 : ℕ) % 512, by omega⟩)
      * Ideal.logistic (z (ix3 ⟨4 + (j 1 : ℕ) / 512, by have := (j 1).isLt; dsimp at *; omega⟩ k ⟨(j 1 : ℕ) % 512, by omega⟩))) : EReal) : EReal) := by
  pointwise [dg, sigmoid, gate, val, one]
  simp only [Ideal.logistic]
  blk_ext

/-- One row's term of the gate's gradient, in a block and in the whole arrays. -/
theorem term (c : Dev nD) (t : Fin cfg0.N) (s : Fin 8) (k : Fin 256) (b : Fin 512) (q : Fin 2048) (hk : (s : ℕ) * 256 + k < 2048)
    (hq : (q : ℕ) = t.val / 8 * 512 + b) :
    row (iblk m c 1 ⟨8 * (t.val / 8) + s, by have : t.val < 32 := t.isLt; change _ < 32; omega⟩ (ix2 k b))
      (View.ld (iblk m c 0 ⟨8 * (t.val / 8) + s, by have : t.val < 32 := t.isLt; change _ < 32; omega⟩)
        (Rect.unit ![0, 0, 0, 0] ![1, 1, 256, 512] inb_S2x1x256x512_S1x1x256x512_0_0_0_0) (ix4 0 0 k b))
      (View.ld (iblk m c 0 ⟨8 * (t.val / 8) + s, by have : t.val < 32 := t.isLt; change _ < 32; omega⟩)
        (Rect.unit ![1, 0, 0, 0] ![1, 1, 256, 512] inb_S2x1x256x512_S1x1x256x512_1_0_0_0) (ix4 0 0 k b))
    = row (m ((c : Thread nD τ).loc main_arg1) (ix2 ⟨(s : ℕ) * 256 + k, hk⟩ q))
      (m ((c : Thread nD τ).loc main_arg0) (ix3 ⟨(q : ℕ) / 512, by omega⟩ ⟨(s : ℕ) * 256 + k, hk⟩ ⟨(q : ℕ) % 512, by omega⟩))
      (m ((c : Thread nD τ).loc main_arg0) (ix3 ⟨4 + (q : ℕ) / 512, by omega⟩ ⟨(s : ℕ) * 256 + k, hk⟩ ⟨(q : ℕ) % 512, by omega⟩)) := by
  have hs : (s : ℕ) < 8 := s.isLt
  have v := read_z m c ⟨8 * (t.val / 8) + s, by have : t.val < 32 := t.isLt; change _ < 32; omega⟩ 0 k b ⟨(q : ℕ) % 512, by omega⟩ ⟨(q : ℕ) / 512, by omega⟩ ⟨(s : ℕ) * 256 + k, hk⟩
    (by dsimp; omega) (by dsimp; omega) (by dsimp; omega)
  have w := read_z m c ⟨8 * (t.val / 8) + s, by have : t.val < 32 := t.isLt; change _ < 32; omega⟩ 1 k b ⟨(q : ℕ) % 512, by omega⟩ ⟨4 + (q : ℕ) / 512, by omega⟩ ⟨(s : ℕ) * 256 + k, hk⟩
    (by dsimp; omega) (by dsimp; omega) (by dsimp; omega)
  have d := read_dx m c ⟨8 * (t.val / 8) + s, by have : t.val < 32 := t.isLt; change _ < 32; omega⟩ k b ⟨(s : ℕ) * 256 + k, hk⟩ q (by dsimp; omega) (by dsimp; omega)
  refine congrArg₂ (fun a b : EReal => a * b) d (congrArg₂ (fun a b : EReal => a * b) (.trans ?_ v) (congrArg Ideal.logistic (.trans ?_ w)))
  all_goals
    pointwise
    try blk_ext

theorem final_dg (c : Dev nD) : (dats m 0 c).arrAt 4 cfg0.N = dg (m ((c : Thread nD τ).loc main_arg0)) (m ((c : Thread nD τ).loc main_arg1)) := by
  refine (dats m 0 c).arrAt_eq_of_covers 4 _ (by decide +kernel) fun t hf y => ?_
  have ht : t.val < 32 := t.isLt
  blk_simp
  have hl : t.val % 8 = 7 := (flush0_4 t).mp hf
  rw [after0_4, Pipeline.eq_sum_fin_of_reset_step_apply_of_flush (fun n h => (outsAt0 m c n h).2) 8 (fun _ => 0) _
    (fun t h j => by rw [outsAt0_A m c t h]; frame_out; rw [step_at, zero_at])
    (fun t h j => by rw [outsAt0_B m c t h]; frame_out; rw [step_at])
    t hl _, zero_add, dg_at]
  refine Fin.sum_mul_add_congr fun s k hk => ?_
  have e : ((win0_4.blk t).view.emb y 1 : ℕ) = t.val / 8 * 512 + y 1 := by blk_simp [idx t] <;> try omega
  exact term m c t s k (y 1) _ hk e

/-- The reference keeps its arguments and ends with every counter at zero. -/
theorem frame_reference : Cert.quiescent_GluResBRefIdeal := fun m ρ _ =>
  (θ_run Cert.GluResBRefIdeal.defs _ _).mono (fun r h => ⟨fun c => (h c).2.2, sem_eq_zero_of_no_sems (by decide) r.2⟩) (Cert.GluResBRefIdeal.Value.run (F := Ideal) m ρ)

/-- Kernel and reference end with the same results. -/
theorem algebraic : Cert.algebraic_GluResBIdeal_GluResBRefIdeal := by
  intro m ρ m' ρ' _ hargs
  refine ⟨fun c => (dats m 0 c).arrAt 3 cfg0.N, fun c => (dats m 0 c).arrAt 4 cfg0.N, Cert.GluResBIdeal.Value.run_blocks (F := Ideal) m ρ, ?_⟩
  refine (θ_run Cert.GluResBRefIdeal.defs _ _).mono (fun r h c => ?_) (Cert.GluResBRefIdeal.Value.run (F := Ideal) m' ρ')
  obtain ⟨h0, h1, h⟩ := h c
  obtain ⟨e0, e1, e2⟩ := hargs c
  rw [e0, e1, e2] at h0
  rw [e0, e1] at h1
  exact ⟨h0.trans (final_dz m c).symm, h1.trans (final_dg m c).symm, h⟩

end Cert.GluResBValue

end
-- ==== Proof.NormB.lean ====
module

public import proofs.«01_k».proof.Defs
public import proofs.«01_k».proof.Proof.Gen.NormBIdeal.Value
public import proofs.«01_k».proof.Proof.Gen.NormBRefIdeal.Run
public import Idealize.ShloMosaic.Lib.Pipeline.ValueKit

/-! The gradients of a modulated norm's gain, scale and shift, each a sum over eight blocks of rows. -/

@[expose] public section

set_option maxRecDepth 16384

noncomputable section

namespace Cert.NormBValue

open Cert.NormBIdeal Cert.NormBIdeal.Gen
open Idealize.ShloMosaic Idealize.ShloMosaic.TcCoe Idealize.SL.Sem
open Idealize.ShloMosaic.Pipeline (Dat)

variable (m : (ℓ : Loc nD τ sig) → Buf (Elt Ideal) ℓ)

/-- The reference's normalised rows. -/
abbrev nrm (x : FVec Ideal S2048x2048 .f32) : FVec Ideal S2048x2048 .f32 :=
  mulf x (broadcastInDim Cert.NormBRefIdeal.S2048x2048 ![0, 1] Cert.NormBRefIdeal.Gen.bcast_S2048x1_S2048x2048_0_1 (Host.rsqrt (addf (Host.divf (broadcastInDim Cert.NormBRefIdeal.S2048x1 ![0] Cert.NormBRefIdeal.Gen.bcast_S2048_S2048x1_0 (Host.reduceAdd (mulf x x) (constant Cert.NormBRefIdeal.S_ .f32 0x00000000#32) Cert.NormBRefIdeal.Gen.reducesTo_S2048x2048_S2048_d1 Cert.NormBRefIdeal.Gen.h_S_)) (broadcastInDim Cert.NormBRefIdeal.S2048x1 ![] Cert.NormBRefIdeal.Gen.bcast_S_S2048x1 (constant Cert.NormBRefIdeal.S_ .f32 0x45000000#32))) (broadcastInDim Cert.NormBRefIdeal.S2048x1 ![] Cert.NormBRefIdeal.Gen.bcast_S_S2048x1 (constant Cert.NormBRefIdeal.S_ .f32 0x358637BD#32)))))

/-- The reference's gradient of the gain, of the normalised rows. -/
abbrev dg (n dh : FVec Ideal S2048x2048 .f32) (sc : FVec Ideal S1x2048 .f32) : FVec Ideal S1x2048 .f32 :=
  shapeCast _ (Host.reduceAdd (mulf n (mulf (shapeCast _ dh Cert.NormBRefIdeal.Gen.shapeCasts_S2048x2048_S2048x2048) (broadcastInDim Cert.NormBRefIdeal.S2048x2048 ![0, 1] Cert.NormBRefIdeal.Gen.bcast_S1x2048_S2048x2048_0_1 (addf (broadcastInDim Cert.NormBRefIdeal.S1x2048 ![] Cert.NormBRefIdeal.Gen.bcast_S_S1x2048 (constant Cert.NormBRefIdeal.S_ .f32 0x3F800000#32)) sc)))) (constant Cert.NormBRefIdeal.S_ .f32 0x00000000#32) Cert.NormBRefIdeal.Gen.reducesTo_S2048x2048_S2048_d0 Cert.NormBRefIdeal.Gen.h_S_) Cert.NormBRefIdeal.Gen.shapeCasts_S2048_S1x2048

/-- The reference's gradient of the scale, of the normalised rows. -/
abbrev dsc (n dh : FVec Ideal S2048x2048 .f32) (gn : FVec Ideal S1x2048 .f32) : FVec Ideal S1x2048 .f32 :=
  shapeCast _ (Host.reduceAdd (mulf (mulf n (broadcastInDim Cert.NormBRefIdeal.S2048x2048 ![0, 1] Cert.NormBRefIdeal.Gen.bcast_S1x2048_S2048x2048_0_1 gn)) (shapeCast _ dh Cert.NormBRefIdeal.Gen.shapeCasts_S2048x2048_S2048x2048)) (constant Cert.NormBRefIdeal.S_ .f32 0x00000000#32) Cert.NormBRefIdeal.Gen.reducesTo_S2048x2048_S2048_d0 Cert.NormBRefIdeal.Gen.h_S_) Cert.NormBRefIdeal.Gen.shapeCasts_S2048_S1x2048

/-- The reference's gradient of the shift. -/
abbrev dsh (dh : FVec Ideal S2048x2048 .f32) : FVec Ideal S1x2048 .f32 :=
  shapeCast _ (Host.reduceAdd dh (constant Cert.NormBRefIdeal.S_ .f32 0x00000000#32) Cert.NormBRefIdeal.Gen.reducesTo_S2048x2048_S2048_d0 Cert.NormBRefIdeal.Gen.h_S_) Cert.NormBRefIdeal.Gen.shapeCasts_S2048_S1x2048

/-- Which block each window takes at a point. -/
theorem idx : ∀ t : Fin cfg0.N, win0_0.index t = ![t.val, 0] ∧ win0_1.index t = ![t.val, 0] ∧ win0_3.index t = ![0, 0] ∧ win0_4.index t = ![0, 0] ∧ win0_6.index t = ![0, 0] ∧ win0_7.index t = ![0, 0] ∧ win0_8.index t = ![0, 0] :=
  (by decide +kernel : ∀ t : Fin grid0.N, _)

/-- A point's normalised rows are the reference's, where the block lies. -/
theorem nrm_at (c : Dev nD) (t : Fin cfg0.N) (a : Fin 256) (b b' : Fin 2048) (q : Fin 2048) (hq : (q : ℕ) = t.val * 256 + a) (hb : (b : ℕ) = b') :
    k0_pay8 (F := Ideal) (iblk m c 0 t) (ix2 a b) = nrm (m ((c : Thread nD τ).loc main_arg0)) (ix2 q b') := by
  have ht : t.val < 8 := t.isLt
  obtain rfl := Fin.ext hb
  pointwise [k0_pay8, k0_pay7, nrm]
  blk_point [iblk, V, idx t]

theorem zero_g (j) : k0_pay4 (F := Ideal) j = 0 := by pointwise [k0_pay4]
theorem zero_sc (j) : k0_pay5 (F := Ideal) j = 0 := by pointwise [k0_pay5]
theorem zero_sh (j) : k0_pay6 (F := Ideal) j = 0 := by pointwise [k0_pay6]

theorem step_g (dh n : FVec Ideal S256x2048 .f32) (sc acc : FVec Ideal S1x2048 .f32) (j) :
    k0_pay2 (F := Ideal) dh n sc (Scalar.ofBits .f32 0x3F800000#32) acc j = (acc j + ∑ k : Fin 256, (dh (ix2 k (j 1)) * (1 + sc (ix2 0 (j 1))) * n (ix2 k (j 1)) : EReal) : EReal) := by
  pointwise [k0_pay2, k0_pay1]
  blk_ext

theorem step_sc (x dh : FVec Ideal S256x2048 .f32) (gn acc : FVec Ideal S1x2048 .f32) (j) :
    k0_pay10 (F := Ideal) x dh gn acc j = (acc j + ∑ k : Fin 256, (dh (ix2 k (j 1)) * (k0_pay8 (F := Ideal) x (ix2 k (j 1)) * gn (ix2 0 (j 1))) : EReal) : EReal) := by
  pointwise [k0_pay10]
  blk_ext

theorem step_sh (dh : FVec Ideal S256x2048 .f32) (acc : FVec Ideal S1x2048 .f32) (j) :
    k0_pay9 (F := Ideal) dh acc j = (acc j + ∑ k : Fin 256, (dh (ix2 k (j 1)) : EReal) : EReal) := by
  pointwise [k0_pay9]
  blk_ext

theorem dg_at (n dh : FVec Ideal S2048x2048 .f32) (sc : FVec Ideal S1x2048 .f32) (j) :
    dg n dh sc j = (∑ k : Fin 2048, (dh (ix2 k (j 1)) * (1 + sc (ix2 0 (j 1))) * n (ix2 k (j 1)) : EReal) : EReal) := by
  pointwise [dg]
  refine Fin.sum_fin_congr fun k => (@mul_comm EReal _ _ _).trans ?_
  blk_ext

theorem dsc_at (n dh : FVec Ideal S2048x2048 .f32) (gn : FVec Ideal S1x2048 .f32) (j) :
    dsc n dh gn j = (∑ k : Fin 2048, (dh (ix2 k (j 1)) * (n (ix2 k (j 1)) * gn (ix2 0 (j 1))) : EReal) : EReal) := by
  pointwise [dsc]
  refine Fin.sum_fin_congr fun k => (@mul_comm EReal _ _ _).trans ?_
  blk_ext

theorem dsh_at (dh : FVec Ideal S2048x2048 .f32) (j) : dsh dh j = (∑ k : Fin 2048, (dh (ix2 k (j 1)) : EReal) : EReal) := by
  pointwise [dsh]
  blk_ext

theorem final_g (c : Dev nD) : (dats m 0 c).arrAt 6 cfg0.N = dg (nrm (m ((c : Thread nD τ).loc main_arg0))) (m ((c : Thread nD τ).loc main_arg1)) (m ((c : Thread nD τ).loc main_arg4)) := by
  refine (dats m 0 c).arrAt_eq_of_covers 6 _ (by decide +kernel) fun t hf y => ?_
  have ht : t.val < 8 := t.isLt
  blk_simp
  have hl : t.val % 8 = 7 := (flush0_6 t).mp hf
  rw [after0_6, Pipeline.eq_sum_fin_of_reset_step_apply_of_flush (fun n h => (outsAt0 m c n h).2.1) 8 (fun _ => 0) _
    (fun t h j => by rw [outsAt0_A m c t h]; frame_out; rw [step_g, zero_g])
    (fun t h j => by rw [outsAt0_B m c t h]; frame_out; rw [step_g])
    t hl _, zero_add, dg_at]
  refine Fin.sum_mul_add_congr fun s k hk => ?_
  refine congrArg₂ (fun a b : EReal => a * b) ?_ (nrm_at m c ⟨_, Pipeline.run_point_lt_of_flush t hl s⟩ k _ _ _ (by dsimp at *; omega) (by blk_simp [idx t] <;> try omega))
  blk_point [iblk, V, idx t, idx ⟨_, Pipeline.run_point_lt_of_flush t hl s⟩]

theorem final_sc (c : Dev nD) : (dats m 0 c).arrAt 7 cfg0.N = dsc (nrm (m ((c : Thread nD τ).loc main_arg0))) (m ((c : Thread nD τ).loc main_arg1)) (m ((c : Thread nD τ).loc main_arg3)) := by
  refine (dats m 0 c).arrAt_eq_of_covers 7 _ (by decide +kernel) fun t hf y => ?_
  have ht : t.val < 8 := t.isLt
  blk_simp
  have hl : t.val % 8 = 7 := (flush0_7 t).mp hf
  rw [after0_7, Pipeline.eq_sum_fin_of_reset_step_apply_of_flush (fun n h => (outsAt0 m c n h).2.2.1) 8 (fun _ => 0) _
    (fun t h j => by rw [outsAt0_A m c t h]; frame_out; rw [step_sc, zero_sc])
    (fun t h j => by rw [outsAt0_B m c t h]; frame_out; rw [step_sc])
    t hl _, zero_add, dsc_at]
  refine Fin.sum_mul_add_congr fun s k hk => ?_
  refine congrArg₂ (fun a b : EReal => a * b) ?_ (congrArg₂ (fun a b : EReal => a * b) (nrm_at m c ⟨_, Pipeline.run_point_lt_of_flush t hl s⟩ k _ _ _ (by dsimp at *; omega) (by blk_simp [idx t] <;> try omega)) ?_)
  all_goals
    blk_point [iblk, V, idx t, idx ⟨_, Pipeline.run_point_lt_of_flush t hl s⟩]

theorem final_sh (c : Dev nD) : (dats m 0 c).arrAt 8 cfg0.N = dsh (m ((c : Thread nD τ).loc main_arg1)) := by
  refine (dats m 0 c).arrAt_eq_of_covers 8 _ (by decide +kernel) fun t hf y => ?_
  have ht : t.val < 8 := t.isLt
  blk_simp
  have hl : t.val % 8 = 7 := (flush0_8 t).mp hf
  rw [after0_8, Pipeline.eq_sum_fin_of_reset_step_apply_of_flush (fun n h => (outsAt0 m c n h).2.2.2) 8 (fun _ => 0) _
    (fun t h j => by rw [outsAt0_A m c t h]; frame_out; rw [step_sh, zero_sh])
    (fun t h j => by rw [outsAt0_B m c t h]; frame_out; rw [step_sh])
    t hl _, zero_add, dsh_at]
  refine Fin.sum_mul_add_congr fun s k hk => ?_
  blk_point [iblk, V, idx t, idx ⟨_, Pipeline.run_point_lt_of_flush t hl s⟩]

/-- The reference keeps its arguments and ends with every counter at zero. -/
theorem frame_reference : Cert.quiescent_NormBRefIdeal := fun m ρ _ =>
  (θ_run Cert.NormBRefIdeal.defs _ _).mono (fun r h => ⟨fun c => (h c).2.2.2, sem_eq_zero_of_no_sems (by decide) r.2⟩) (Cert.NormBRefIdeal.Value.run (F := Ideal) m ρ)

/-- Kernel and reference end with the same results. -/
theorem algebraic : Cert.algebraic_NormBIdeal_NormBRefIdeal := by
  intro m ρ m' ρ' _ hargs
  refine ⟨fun c => (dats m 0 c).arrAt 6 cfg0.N, fun c => (dats m 0 c).arrAt 7 cfg0.N, fun c => (dats m 0 c).arrAt 8 cfg0.N, ?_, ?_⟩
  · refine (θ_run Cert.NormBIdeal.defs _ _).mono (fun r h c => ?_) (Cert.NormBIdeal.Value.run_blocks (F := Ideal) m ρ)
    obtain ⟨_, h0, h1, h2, h⟩ := h c
    exact ⟨h0, h1, h2, h⟩
  refine (θ_run Cert.NormBRefIdeal.defs _ _).mono (fun r h c => ?_) (Cert.NormBRefIdeal.Value.run (F := Ideal) m' ρ')
  obtain ⟨h0, h1, h2, h⟩ := h c
  obtain ⟨e0, e1, e2, e3, e4⟩ := hargs c
  rw [e0, e1, e4] at h0
  rw [e0, e1, e3] at h1
  rw [e1] at h2
  exact ⟨h0.trans (final_g m c).symm, h1.trans (final_sc m c).symm, h2.trans (final_sh m c).symm, h⟩

end Cert.NormBValue

end
-- ==== Proof.GluRes.lean ====
module

public import proofs.«01_k».proof.Defs
public import proofs.«01_k».proof.Proof.Gen.GluResIdeal.Value
public import proofs.«01_k».proof.Proof.Gen.GluResRefIdeal.Run
public import Idealize.ShloMosaic.Lib.Pipeline.ValueKit

/-! The gated output of the S5 layer, added to the layer's input. -/

@[expose] public section

set_option maxRecDepth 16384

noncomputable section

namespace Cert.GluResValue

open Cert.GluResIdeal Cert.GluResIdeal.Gen
open Idealize.ShloMosaic Idealize.ShloMosaic.TcCoe Idealize.SL.Sem
open Idealize.ShloMosaic.Pipeline (Dat)

variable (m : (ℓ : Loc nD τ sig) → Buf (Elt Ideal) ℓ)

/-- The reference's result of its arguments. -/
abbrev out (z : FVec Ideal S8x2048x512 .f32) (x : FVec Ideal S2048x2048 .f32) (g : FVec Ideal S1x2048 .f32) : FVec Ideal S2048x2048 .f32 :=
  addf x (mulf (broadcastInDim Cert.GluResRefIdeal.S2048x2048 ![0, 1] Cert.GluResRefIdeal.Gen.bcast_S1x2048_S2048x2048_0_1 g) (mulf (shapeCast _ (transpose Cert.GluResRefIdeal.S2048x4x512 [1, 0, 2] (extractStridedSlice Cert.GluResRefIdeal.S4x2048x512 ![0, 0, 0] z Cert.GluResRefIdeal.Gen.slices_S8x2048x512_S4x2048x512_0_0_0) Cert.GluResRefIdeal.Gen.transposes_S4x2048x512_S2048x4x512_1_0_2) Cert.GluResRefIdeal.Gen.shapeCasts_S2048x4x512_S2048x2048) (Host.divf (broadcastInDim Cert.GluResRefIdeal.S2048x2048 ![] Cert.GluResRefIdeal.Gen.bcast_S_S2048x2048 (constant Cert.GluResRefIdeal.S_ .f32 0x3F800000#32)) (addf (broadcastInDim Cert.GluResRefIdeal.S2048x2048 ![] Cert.GluResRefIdeal.Gen.bcast_S_S2048x2048 (constant Cert.GluResRefIdeal.S_ .f32 0x3F800000#32)) (Host.exp (Host.negf (shapeCast _ (transpose Cert.GluResRefIdeal.S2048x4x512 [1, 0, 2] (extractStridedSlice Cert.GluResRefIdeal.S4x2048x512 ![4, 0, 0] z Cert.GluResRefIdeal.Gen.slices_S8x2048x512_S4x2048x512_4_0_0) Cert.GluResRefIdeal.Gen.transposes_S4x2048x512_S2048x4x512_1_0_2) Cert.GluResRefIdeal.Gen.shapeCasts_S2048x4x512_S2048x2048)))))))

/-- Which block each window takes at a point. -/
theorem idx : ∀ t : Fin cfg0.N, win0_0.index t = ![t.val / 8, t.val % 8, 0] ∧ win0_1.index t = ![t.val / 8 + 4, t.val % 8, 0] ∧ win0_2.index t = ![t.val % 8, t.val / 8] ∧ win0_3.index t = ![0, t.val / 8] ∧ win0_4.index t = ![t.val % 8, t.val / 8] :=
  (by decide +kernel : ∀ t : Fin grid0.N, _)

/-- What a point stores is the reference's sum, where the block lies. -/
theorem point (c : Dev nD) (t : Fin cfg0.N) (y) : k0_pay1 (F := Ideal) (iblk m c 2 t) (iblk m c 3 t) (iblk m c 0 t) (iblk m c 1 t) y
    = out (m ((c : Thread nD τ).loc main_arg0)) (m ((c : Thread nD τ).loc main_arg1)) (m ((c : Thread nD τ).loc main_arg2)) (((cfg0.win 4).blk t).view.emb y) := by
  have ht : t.val < 32 := t.isLt
  pointwise [k0_pay1, out]
  simp only [Ideal.logistic]
  blk_point [iblk, V, idx t]

/-- The blocks make the array. -/
theorem final (c : Dev nD) : (dats m 0 c).arrAt 4 cfg0.N = out (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point m c t y

/-- The reference keeps its arguments and ends with every counter at zero. -/
theorem frame_reference : Cert.quiescent_GluResRefIdeal := fun m ρ _ =>
  (θ_run Cert.GluResRefIdeal.defs _ _).mono (fun r h => ⟨fun c => (h c).2, sem_eq_zero_of_no_sems (by decide) r.2⟩) (Cert.GluResRefIdeal.Value.run (F := Ideal) m ρ)

/-- Kernel and reference end with the same result. -/
theorem algebraic : Cert.algebraic_GluResIdeal_GluResRefIdeal := by
  intro m ρ m' ρ' _ hargs
  refine ⟨fun c => (dats m 0 c).arrAt 4 cfg0.N, Cert.GluResIdeal.Value.run_blocks (F := Ideal) m ρ, ?_⟩
  refine (θ_run Cert.GluResRefIdeal.defs _ _).mono (fun r h c => ⟨(h c).1.trans ?_, (h c).2⟩) (Cert.GluResRefIdeal.Value.run (F := Ideal) m' ρ')
  obtain ⟨e0, e1, e2⟩ := hargs c
  rw [e0, e1, e2]
  exact (final m c).symm

end Cert.GluResValue

end
-- ==== Proof.Resid.lean ====
module

public import proofs.«01_k».proof.Defs
public import proofs.«01_k».proof.Proof.Gen.ResidIdeal.Value
public import proofs.«01_k».proof.Proof.Gen.ResidRefIdeal.Run
public import Idealize.ShloMosaic.Lib.Pipeline.ValueKit

/-! The residual sum: each entry is the reference's. -/

@[expose] public section

set_option maxRecDepth 16384

noncomputable section

namespace Cert.ResidValue

open Cert.ResidIdeal Cert.ResidIdeal.Gen
open Idealize.ShloMosaic Idealize.ShloMosaic.TcCoe Idealize.SL.Sem
open Idealize.ShloMosaic.Pipeline (Dat)

variable (m : (ℓ : Loc nD τ sig) → Buf (Elt Ideal) ℓ)

/-- The reference's result of its arguments. -/
abbrev out (x y : FVec Ideal S2048x2048 .f32) (g : FVec Ideal S1x2048 .f32) : FVec Ideal S2048x2048 .f32 :=
  addf x (mulf (broadcastInDim Cert.ResidRefIdeal.S2048x2048 ![0, 1] Cert.ResidRefIdeal.Gen.bcast_S1x2048_S2048x2048_0_1 g) y)

/-- Which block each window takes at a point. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- What a point stores is the reference's sum, where the block lies. -/
theorem point (c : Dev nD) (t : Fin cfg0.N) (y) : k0_pay1 (F := Ideal) (iblk m c 0 t) (iblk m c 2 t) (iblk m c 1 t) y
    = out (m ((c : Thread nD τ).loc main_arg0)) (m ((c : Thread nD τ).loc main_arg1)) (m ((c : Thread nD τ).loc main_arg2)) (((cfg0.win 3).blk t).view.emb y) := by
  pointwise [k0_pay1, out]
  blk_point [iblk, V, idx t]

/-- The blocks make the array. -/
theorem final (c : Dev nD) : (dats m 0 c).arrAt 3 cfg0.N = out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The reference keeps its arguments and ends with every counter at zero. -/
theorem frame_reference : Cert.quiescent_ResidRefIdeal := fun m ρ _ =>
  (θ_run Cert.ResidRefIdeal.defs _ _).mono (fun r h => ⟨fun c => (h c).2, sem_eq_zero_of_no_sems (by decide) r.2⟩) (Cert.ResidRefIdeal.Value.run (F := Ideal) m ρ)

/-- Kernel and reference end with the same result. -/
theorem algebraic : Cert.algebraic_ResidIdeal_ResidRefIdeal := by
  intro m ρ m' ρ' _ hargs
  refine ⟨fun c => (dats m 0 c).arrAt 3 cfg0.N, Cert.ResidIdeal.Value.run_blocks (F := Ideal) m ρ, ?_⟩
  refine (θ_run Cert.ResidRefIdeal.defs _ _).mono (fun r h c => ⟨(h c).1.trans ?_, (h c).2⟩) (Cert.ResidRefIdeal.Value.run (F := Ideal) m' ρ')
  obtain ⟨e0, e1, e2⟩ := hargs c
  rw [e0, e1, e2]
  exact (final m c).symm

end Cert.ResidValue

end
-- ==== Proof.Norm.lean ====
module

public import proofs.«01_k».proof.Defs
public import proofs.«01_k».proof.Proof.Gen.NormIdeal.Value
public import proofs.«01_k».proof.Proof.Gen.NormRefIdeal.Run
public import Idealize.ShloMosaic.Lib.Pipeline.ValueKit

/-! The modulated norm before a mixer: each entry is the reference's. -/

@[expose] public section

set_option maxRecDepth 16384

noncomputable section

namespace Cert.NormValue

open Cert.NormIdeal Cert.NormIdeal.Gen
open Idealize.ShloMosaic Idealize.ShloMosaic.TcCoe Idealize.SL.Sem
open Idealize.ShloMosaic.Pipeline (Dat)

variable (m : (ℓ : Loc nD τ sig) → Buf (Elt Ideal) ℓ)

/-- The reference's result of its arguments. -/
abbrev out (x : FVec Ideal S2048x2048 .f32) (gn sc sh : FVec Ideal S1x2048 .f32) : FVec Ideal S2048x2048 .bf16 :=
  truncf .bf16 (addf (mulf (mulf (mulf x (broadcastInDim Cert.NormRefIdeal.S2048x2048 ![0, 1] Cert.NormRefIdeal.Gen.bcast_S2048x1_S2048x2048_0_1 (Host.rsqrt (addf (Host.divf (broadcastInDim Cert.NormRefIdeal.S2048x1 ![0] Cert.NormRefIdeal.Gen.bcast_S2048_S2048x1_0 (Host.reduceAdd (mulf x x) (constant Cert.NormRefIdeal.S_ .f32 0x00000000#32) Cert.NormRefIdeal.Gen.reducesTo_S2048x2048_S2048_d1 Cert.NormRefIdeal.Gen.h_S_)) (broadcastInDim Cert.NormRefIdeal.S2048x1 ![] Cert.NormRefIdeal.Gen.bcast_S_S2048x1 (constant Cert.NormRefIdeal.S_ .f32 0x45000000#32))) (broadcastInDim Cert.NormRefIdeal.S2048x1 ![] Cert.NormRefIdeal.Gen.bcast_S_S2048x1 (constant Cert.NormRefIdeal.S_ .f32 0x358637BD#32)))))) (broadcastInDim Cert.NormRefIdeal.S2048x2048 ![0, 1] Cert.NormRefIdeal.Gen.bcast_S1x2048_S2048x2048_0_1 gn)) (broadcastInDim Cert.NormRefIdeal.S2048x2048 ![0, 1] Cert.NormRefIdeal.Gen.bcast_S1x2048_S2048x2048_0_1 (addf (broadcastInDim Cert.NormRefIdeal.S1x2048 ![] Cert.NormRefIdeal.Gen.bcast_S_S1x2048 (constant Cert.NormRefIdeal.S_ .f32 0x3F800000#32)) sc))) (broadcastInDim Cert.NormRefIdeal.S2048x2048 ![0, 1] Cert.NormRefIdeal.Gen.bcast_S1x2048_S2048x2048_0_1 sh)) Cert.NormRefIdeal.Gen.bitsLt_bf16_f32

/-- Which block each window takes at a point. -/
theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

/-- What a point stores is the reference's norm, where the block lies. -/
theorem point (c : Dev nD) (t : Fin cfg0.N) (y) : k0_pay1 (F := Ideal) (iblk m c 0 t) (iblk m c 1 t) (iblk m c 2 t) (iblk m c 3 t) y
    = out (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, out]
  blk_point [iblk, V, idx t]

/-- The blocks make the array. -/
theorem final (c : Dev nD) : (dats m 0 c).arrAt 4 cfg0.N = out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

/-- The reference keeps its arguments and ends with every counter at zero. -/
theorem frame_reference : Cert.quiescent_NormRefIdeal := fun m ρ _ =>
  (θ_run Cert.NormRefIdeal.defs _ _).mono (fun r h => ⟨fun c => (h c).2, sem_eq_zero_of_no_sems (by decide) r.2⟩) (Cert.NormRefIdeal.Value.run (F := Ideal) m ρ)

/-- Kernel and reference end with the same result. -/
theorem algebraic : Cert.algebraic_NormIdeal_NormRefIdeal := by
  intro m ρ m' ρ' _ hargs
  refine ⟨fun c => (dats m 0 c).arrAt 4 cfg0.N, Cert.NormIdeal.Value.run_blocks (F := Ideal) m ρ, ?_⟩
  refine (θ_run Cert.NormRefIdeal.defs _ _).mono (fun r h c => ⟨(h c).1.trans ?_, (h c).2⟩) (Cert.NormRefIdeal.Value.run (F := Ideal) m' ρ')
  obtain ⟨e0, e1, e2, e3⟩ := hargs c
  rw [e0, e1, e2, e3]
  exact (final m c).symm

end Cert.NormValue

end
-- ==== Proof.Ada.lean ====
module

public import proofs.«01_k».proof.Defs
public import proofs.«01_k».proof.Proof.Gen.AdaIdeal.Value
public import proofs.«01_k».proof.Proof.Gen.AdaRefIdeal.Run
public import Idealize.ShloMosaic.Lib.Pipeline.ValueKit

/-! The modulation of both layers from the condition: a product and its offset. -/

@[expose] public section

set_option maxRecDepth 16384

noncomputable section

namespace Cert.AdaValue

open Cert.AdaIdeal Cert.AdaIdeal.Gen
open Idealize.ShloMosaic Idealize.ShloMosaic.TcCoe Idealize.SL.Sem
open Idealize.ShloMosaic.Pipeline (Dat)

variable (m : (ℓ : Loc nD τ sig) → Buf (Elt Ideal) ℓ)

/-- The reference's result of its arguments. -/
abbrev out (x : FVec Ideal S16x2048 .f32) (w : FVec Ideal S2x2048x1536 .f32) (b : FVec Ideal S2x1x1536 .f32) : FVec Ideal S2x16x1536 .f32 :=
  addf (transpose Cert.AdaRefIdeal.S2x16x1536 [0, 2, 1] (Host.dotGeneral Cert.AdaRefIdeal.dot_S2x2048x1536_S16x2048_S2x1536x16_1_1_02_0_n_n none w (mulf x (Host.divf (broadcastInDim Cert.AdaRefIdeal.S16x2048 ![] Cert.AdaRefIdeal.Gen.bcast_S_S16x2048 (constant Cert.AdaRefIdeal.S_ .f32 0x3F800000#32)) (addf (broadcastInDim Cert.AdaRefIdeal.S16x2048 ![] Cert.AdaRefIdeal.Gen.bcast_S_S16x2048 (constant Cert.AdaRefIdeal.S_ .f32 0x3F800000#32)) (Host.exp (Host.negf x)))))) Cert.AdaRefIdeal.Gen.transposes_S2x1536x16_S2x16x1536_0_2_1) (broadcastInDim Cert.AdaRefIdeal.S2x16x1536 ![0, 1, 2] Cert.AdaRefIdeal.Gen.bcast_S2x1x1536_S2x16x1536_0_1_2 b)

/-- Which block each window takes at a point. -/
theorem idx : ∀ t : Fin cfg0.N, win0_0.index t = ![0, 0] ∧ win0_1.index t = ![t.val / 3, 0, t.val % 3] ∧ win0_2.index t = ![t.val / 3, 0, t.val % 3] ∧ win0_3.index t = ![t.val / 3, 0, t.val % 3] :=
  (by decide +kernel : ∀ t : Fin grid0.N, _)

/-- What a point stores is the reference's modulation, where the block lies. -/
theorem point (c : Dev nD) (t : Fin cfg0.N) (y) : k0_pay1 (F := Ideal) (iblk m c 0 t) (iblk m c 1 t) (iblk m c 2 t) y
    = out (m ((c : Thread nD τ).loc main_arg0)) (m ((c : Thread nD τ).loc main_arg1)) (m ((c : Thread nD τ).loc main_arg2)) (((cfg0.win 3).blk t).view.emb y) := by
  have ht : t.val < 6 := t.isLt
  pointwise [k0_pay1, out]
  simp only [Ideal.logistic]
  blk_point [iblk, V, idx t]

/-- The blocks make the array. -/
theorem final (c : Dev nD) : (dats m 0 c).arrAt 3 cfg0.N = out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The reference keeps its arguments and ends with every counter at zero. -/
theorem frame_reference : Cert.quiescent_AdaRefIdeal := fun m ρ _ =>
  (θ_run Cert.AdaRefIdeal.defs _ _).mono (fun r h => ⟨fun c => (h c).2, sem_eq_zero_of_no_sems (by decide) r.2⟩) (Cert.AdaRefIdeal.Value.run (F := Ideal) m ρ)

/-- Kernel and reference end with the same result. -/
theorem algebraic : Cert.algebraic_AdaIdeal_AdaRefIdeal := by
  intro m ρ m' ρ' _ hargs
  refine ⟨fun c => (dats m 0 c).arrAt 3 cfg0.N, Cert.AdaIdeal.Value.run_blocks (F := Ideal) m ρ, ?_⟩
  refine (θ_run Cert.AdaRefIdeal.defs _ _).mono (fun r h c => ⟨(h c).1.trans ?_, (h c).2⟩) (Cert.AdaRefIdeal.Value.run (F := Ideal) m' ρ')
  obtain ⟨e0, e1, e2⟩ := hargs c
  rw [e0, e1, e2]
  exact (final m c).symm

end Cert.AdaValue

end
-- ==== Proof.AdaW.lean ====
module

public import proofs.«01_k».proof.Defs
public import proofs.«01_k».proof.Proof.Gen.AdaWIdeal.Value
public import proofs.«01_k».proof.Proof.Gen.AdaWRefIdeal.Run
public import Idealize.ShloMosaic.Lib.Pipeline.ValueKit

/-! The gradient of the modulation's weights and their AdamW step, one block of rows at a time. -/

@[expose] public section

set_option maxRecDepth 16384

noncomputable section

namespace Cert.AdaWValue

open Cert.AdaWIdeal Cert.AdaWIdeal.Gen
open Idealize.ShloMosaic Idealize.ShloMosaic.TcCoe Idealize.SL.Sem
open Idealize.ShloMosaic.Pipeline (Dat)

variable (m : (ℓ : Loc nD τ sig) → Buf (Elt Ideal) ℓ)

/-- The reference's gradient of the modulation's weights. -/
abbrev grad (x : FVec Ideal S16x2048 .f32) (d : FVec Ideal S2x16x1536 .f32) : FVec Ideal S2x2048x1536 .f32 :=
  transpose Cert.AdaWRefIdeal.S2x2048x1536 [0, 2, 1] (Host.dotGeneral Cert.AdaWRefIdeal.dot_S2x1536x16_S16x2048_S2x1536x2048_2_0_01_1_n_n none (transpose Cert.AdaWRefIdeal.S2x1536x16 [0, 2, 1] d Cert.AdaWRefIdeal.Gen.transposes_S2x16x1536_S2x1536x16_0_2_1) (mulf x (Host.divf (broadcastInDim Cert.AdaWRefIdeal.S16x2048 ![] Cert.AdaWRefIdeal.Gen.bcast_S_S16x2048 (constant Cert.AdaWRefIdeal.S_ .f32 0x3F800000#32)) (addf (broadcastInDim Cert.AdaWRefIdeal.S16x2048 ![] Cert.AdaWRefIdeal.Gen.bcast_S_S16x2048 (constant Cert.AdaWRefIdeal.S_ .f32 0x3F800000#32)) (Host.exp (Host.negf x)))))) Cert.AdaWRefIdeal.Gen.transposes_S2x1536x2048_S2x2048x1536_0_2_1

/-- The reference's first moment after the step, of the gradient. -/
abbrev newM (g mo : FVec Ideal S2x2048x1536 .f32) : FVec Ideal S2x2048x1536 .f32 :=
  addf (mulf (broadcastInDim Cert.AdaWRefIdeal.S2x2048x1536 ![] Cert.AdaWRefIdeal.Gen.bcast_S_S2x2048x1536 (constant Cert.AdaWRefIdeal.S_ .f32 0x3F666666#32)) mo) (mulf (broadcastInDim Cert.AdaWRefIdeal.S2x2048x1536 ![] Cert.AdaWRefIdeal.Gen.bcast_S_S2x2048x1536 (constant Cert.AdaWRefIdeal.S_ .f32 0x3DCCCCCD#32)) (g))

/-- The reference's second moment after the step, of the gradient. -/
abbrev newV (g vo : FVec Ideal S2x2048x1536 .f32) : FVec Ideal S2x2048x1536 .f32 :=
  addf (mulf (broadcastInDim Cert.AdaWRefIdeal.S2x2048x1536 ![] Cert.AdaWRefIdeal.Gen.bcast_S_S2x2048x1536 (constant Cert.AdaWRefIdeal.S_ .f32 0x3F7FBE77#32)) vo) (mulf (broadcastInDim Cert.AdaWRefIdeal.S2x2048x1536 ![] Cert.AdaWRefIdeal.Gen.bcast_S_S2x2048x1536 (constant Cert.AdaWRefIdeal.S_ .f32 0x3A83126F#32)) (mulf (g) (g)))

/-- The reference's change of the weights, of the gradient. -/
abbrev delta (g w mo vo : FVec Ideal S2x2048x1536 .f32) : FVec Ideal S2x2048x1536 .f32 :=
  mulf (broadcastInDim Cert.AdaWRefIdeal.S2x2048x1536 ![] Cert.AdaWRefIdeal.Gen.bcast_S_S2x2048x1536 (constant Cert.AdaWRefIdeal.S_ .f32 0xBA83126F#32)) (addf (Host.divf (Host.divf (newM g mo) (broadcastInDim Cert.AdaWRefIdeal.S2x2048x1536 ![] Cert.AdaWRefIdeal.Gen.bcast_S_S2x2048x1536 (constant Cert.AdaWRefIdeal.S_ .f32 0x3F26BD02#32))) (addf (Host.sqrt (Host.divf (newV g vo) (broadcastInDim Cert.AdaWRefIdeal.S2x2048x1536 ![] Cert.AdaWRefIdeal.Gen.bcast_S_S2x2048x1536 (constant Cert.AdaWRefIdeal.S_ .f32 0x3C231ACC#32)))) (broadcastInDim Cert.AdaWRefIdeal.S2x2048x1536 ![] Cert.AdaWRefIdeal.Gen.bcast_S_S2x2048x1536 (constant Cert.AdaWRefIdeal.S_ .f32 0x322BCC77#32)))) (mulf (broadcastInDim Cert.AdaWRefIdeal.S2x2048x1536 ![] Cert.AdaWRefIdeal.Gen.bcast_S_S2x2048x1536 (constant Cert.AdaWRefIdeal.S_ .f32 0x3C23D70A#32)) w))

/-- Which block each window takes at a point. -/
theorem idx : ∀ t : Fin cfg0.N, win0_0.index t = ![0, t.val % 8] ∧ win0_1.index t = ![t.val / 8, 0, 0] ∧ win0_2.index t = ![t.val / 8, t.val % 8, 0] ∧ win0_3.index t = ![t.val / 8, t.val % 8, 0] ∧ win0_4.index t = ![t.val / 8, t.val % 8, 0] ∧ win0_5.index t = ![t.val / 8, t.val % 8, 0] ∧ win0_6.index t = ![t.val / 8, t.val % 8, 0] ∧ win0_7.index t = ![t.val / 8, t.val % 8, 0] ∧ win0_8.index t = ![t.val / 8, t.val % 8, 0] :=
  (by decide +kernel : ∀ t : Fin grid0.N, _)

/-- What a point stores of the gradient is the reference's, where the block lies. -/
theorem point_grad (c : Dev nD) (t : Fin cfg0.N) (y) : k0_pay5 (F := Ideal) (iblk m c 0 t) (iblk m c 1 t) y
    = grad (m ((c : Thread nD τ).loc main_arg0)) (m ((c : Thread nD τ).loc main_arg1)) (((cfg0.win 5).blk t).view.emb y) := by
  have ht : t.val < 16 := t.isLt
  pointwise [k0_pay5, k0_pay4, grad]
  simp only [Ideal.logistic]
  blk_point [iblk, V, idx t]

/-- What a point stores of the change of the weights is the reference's, where the block lies. -/
theorem point_delta (c : Dev nD) (t : Fin cfg0.N) (y) : k0_pay1 (F := Ideal) (k0_pay6 (iblk m c 2 t)) (k0_pay9 (iblk m c 0 t) (iblk m c 1 t) (iblk m c 3 t)) (k0_pay10 (iblk m c 0 t) (iblk m c 1 t) (iblk m c 4 t)) y
    = delta (grad (m ((c : Thread nD τ).loc main_arg0)) (m ((c : Thread nD τ).loc main_arg1))) (m ((c : Thread nD τ).loc main_arg2)) (m ((c : Thread nD τ).loc main_arg3)) (m ((c : Thread nD τ).loc main_arg4)) (((cfg0.win 6).blk t).view.emb y) := by
  have ht : t.val < 16 := t.isLt
  pointwise [k0_pay1, k0_pay6, k0_pay9, k0_pay10, k0_pay7, k0_pay8, k0_pay4, delta, newM, newV, grad]
  simp only [Ideal.logistic]
  blk_point [iblk, V, idx t]

/-- What a point stores of the first moment is the reference's, where the block lies. -/
theorem point_m (c : Dev nD) (t : Fin cfg0.N) (y) : k0_pay2 (F := Ideal) (k0_pay7 (iblk m c 0 t) (iblk m c 1 t) (iblk m c 3 t)) y
    = newM (grad (m ((c : Thread nD τ).loc main_arg0)) (m ((c : Thread nD τ).loc main_arg1))) (m ((c : Thread nD τ).loc main_arg3)) (((cfg0.win 7).blk t).view.emb y) := by
  have ht : t.val < 16 := t.isLt
  pointwise [k0_pay2, k0_pay7, k0_pay4, newM, grad]
  simp only [Ideal.logistic]
  blk_point [iblk, V, idx t]

/-- What a point stores of the second moment is the reference's, where the block lies. -/
theorem point_v (c : Dev nD) (t : Fin cfg0.N) (y) : k0_pay3 (F := Ideal) (k0_pay8 (iblk m c 0 t) (iblk m c 1 t) (iblk m c 4 t)) y
    = newV (grad (m ((c : Thread nD τ).loc main_arg0)) (m ((c : Thread nD τ).loc main_arg1))) (m ((c : Thread nD τ).loc main_arg4)) (((cfg0.win 8).blk t).view.emb y) := by
  have ht : t.val < 16 := t.isLt
  pointwise [k0_pay3, k0_pay8, k0_pay4, newV, grad]
  simp only [Ideal.logistic]
  blk_point [iblk, V, idx t]

theorem final_grad (c : Dev nD) : (dats m 0 c).arrAt 5 cfg0.N = grad (m ((c : Thread nD τ).loc main_arg0)) (m ((c : Thread nD τ).loc main_arg1)) := by
  refine (dats m 0 c).arrAt_eq_of_covers 5 _ (by decide +kernel) fun t _ y => ?_
  blk_simp
  rw [after0_5]; frame_out
  exact point_grad m c t y

theorem final_delta (c : Dev nD) : (dats m 0 c).arrAt 6 cfg0.N = delta (grad (m ((c : Thread nD τ).loc main_arg0)) (m ((c : Thread nD τ).loc main_arg1))) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point_delta m c t y

theorem final_m (c : Dev nD) : (dats m 0 c).arrAt 7 cfg0.N = newM (grad (m ((c : Thread nD τ).loc main_arg0)) (m ((c : Thread nD τ).loc main_arg1))) (m ((c : Thread nD τ).loc main_arg3)) := by
  refine (dats m 0 c).arrAt_eq_of_covers 7 _ (by decide +kernel) fun t _ y => ?_
  blk_simp
  rw [after0_7]; frame_out
  exact point_m m c t y

theorem final_v (c : Dev nD) : (dats m 0 c).arrAt 8 cfg0.N = newV (grad (m ((c : Thread nD τ).loc main_arg0)) (m ((c : Thread nD τ).loc main_arg1))) (m ((c : Thread nD τ).loc main_arg4)) := by
  refine (dats m 0 c).arrAt_eq_of_covers 8 _ (by decide +kernel) fun t _ y => ?_
  blk_simp
  rw [after0_8]; frame_out
  exact point_v m c t y

/-- The reference keeps its arguments and ends with every counter at zero. -/
theorem frame_reference : Cert.quiescent_AdaWRefIdeal := fun m ρ _ =>
  (θ_run Cert.AdaWRefIdeal.defs _ _).mono (fun r h => ⟨fun c => (h c).2.2.2.2, sem_eq_zero_of_no_sems (by decide) r.2⟩) (Cert.AdaWRefIdeal.Value.run (F := Ideal) m ρ)

/-- Kernel and reference end with the same results. -/
theorem algebraic : Cert.algebraic_AdaWIdeal_AdaWRefIdeal := by
  intro m ρ m' ρ' _ hargs
  refine ⟨fun c => (dats m 0 c).arrAt 5 cfg0.N, fun c => (dats m 0 c).arrAt 6 cfg0.N, fun c => (dats m 0 c).arrAt 7 cfg0.N, fun c => (dats m 0 c).arrAt 8 cfg0.N, Cert.AdaWIdeal.Value.run_blocks (F := Ideal) m ρ, ?_⟩
  refine (θ_run Cert.AdaWRefIdeal.defs _ _).mono (fun r h c => ?_) (Cert.AdaWRefIdeal.Value.run (F := Ideal) m' ρ')
  obtain ⟨h0, h1, h2, h3, h⟩ := h c
  obtain ⟨e0, e1, e2, e3, e4⟩ := hargs c
  rw [e0, e1] at h0
  rw [e0, e1, e2, e3, e4] at h1
  rw [e0, e1, e3] at h2
  rw [e0, e1, e4] at h3
  exact ⟨h0.trans (final_grad m c).symm, h1.trans (final_delta m c).symm, h2.trans (final_m m c).symm, h3.trans (final_v m c).symm, h⟩

end Cert.AdaWValue

end
-- ==== Proof.SInW.lean ====
module

public import proofs.«01_k».proof.Defs
public import proofs.«01_k».proof.Proof.Gen.SInWIdeal.Value
public import proofs.«01_k».proof.Proof.Gen.SInWRefIdeal.Run
public import Idealize.ShloMosaic.Lib.Pipeline.ValueKit

/-! The sum of a weight's gradient over its four parts and the weight's AdamW step. -/

@[expose] public section

set_option maxRecDepth 16384

noncomputable section

namespace Cert.SInWValue

open Cert.SInWIdeal Cert.SInWIdeal.Gen
open Idealize.ShloMosaic Idealize.ShloMosaic.TcCoe Idealize.SL.Sem
open Idealize.ShloMosaic.Pipeline (Dat)

variable (m : (ℓ : Loc nD τ sig) → Buf (Elt Ideal) ℓ)

/-- The reference's sum of the parts. -/
abbrev grad (p : FVec Ideal S4x256x2048 .bf16) : FVec Ideal S256x2048 .f32 :=
  Host.reduceAdd (extf .f32 p Cert.SInWRefIdeal.Gen.bitsLt_bf16_f32) (constant Cert.SInWRefIdeal.S_ .f32 0x00000000#32) Cert.SInWRefIdeal.Gen.reducesTo_S4x256x2048_S256x2048_d0 Cert.SInWRefIdeal.Gen.h_S_

/-- The reference's first moment after the step, of the gradient. -/
abbrev newM (g mo : FVec Ideal S256x2048 .f32) : FVec Ideal S256x2048 .f32 :=
  addf (mulf (broadcastInDim Cert.SInWRefIdeal.S256x2048 ![] Cert.SInWRefIdeal.Gen.bcast_S_S256x2048 (constant Cert.SInWRefIdeal.S_ .f32 0x3F666666#32)) mo) (mulf (broadcastInDim Cert.SInWRefIdeal.S256x2048 ![] Cert.SInWRefIdeal.Gen.bcast_S_S256x2048 (constant Cert.SInWRefIdeal.S_ .f32 0x3DCCCCCD#32)) (g))

/-- The reference's second moment after the step, of the gradient. -/
abbrev newV (g vo : FVec Ideal S256x2048 .f32) : FVec Ideal S256x2048 .f32 :=
  addf (mulf (broadcastInDim Cert.SInWRefIdeal.S256x2048 ![] Cert.SInWRefIdeal.Gen.bcast_S_S256x2048 (constant Cert.SInWRefIdeal.S_ .f32 0x3F7FBE77#32)) vo) (mulf (broadcastInDim Cert.SInWRefIdeal.S256x2048 ![] Cert.SInWRefIdeal.Gen.bcast_S_S256x2048 (constant Cert.SInWRefIdeal.S_ .f32 0x3A83126F#32)) (mulf (g) (g)))

/-- The reference's change of the weights, of the gradient. -/
abbrev delta (g w mo vo : FVec Ideal S256x2048 .f32) : FVec Ideal S256x2048 .f32 :=
  mulf (broadcastInDim Cert.SInWRefIdeal.S256x2048 ![] Cert.SInWRefIdeal.Gen.bcast_S_S256x2048 (constant Cert.SInWRefIdeal.S_ .f32 0xBA83126F#32)) (addf (Host.divf (Host.divf (newM g mo) (broadcastInDim Cert.SInWRefIdeal.S256x2048 ![] Cert.SInWRefIdeal.Gen.bcast_S_S256x2048 (constant Cert.SInWRefIdeal.S_ .f32 0x3F26BD02#32))) (addf (Host.sqrt (Host.divf (newV g vo) (broadcastInDim Cert.SInWRefIdeal.S256x2048 ![] Cert.SInWRefIdeal.Gen.bcast_S_S256x2048 (constant Cert.SInWRefIdeal.S_ .f32 0x3C231ACC#32)))) (broadcastInDim Cert.SInWRefIdeal.S256x2048 ![] Cert.SInWRefIdeal.Gen.bcast_S_S256x2048 (constant Cert.SInWRefIdeal.S_ .f32 0x322BCC77#32)))) (mulf (broadcastInDim Cert.SInWRefIdeal.S256x2048 ![] Cert.SInWRefIdeal.Gen.bcast_S_S256x2048 (constant Cert.SInWRefIdeal.S_ .f32 0x3C23D70A#32)) w))

/-- Which block each window takes at a point. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- What a point leaves of the gradient is the reference's, where the block lies. -/
theorem point_grad (c : Dev nD) (t : Fin cfg0.N) (y) : (outsAt0 m c t).1 y = grad (m ((c : Thread nD τ).loc main_arg0)) (((cfg0.win 4).blk t).view.emb y) := by
  unfold outsAt0; frame_out
  pointwise [k0_pay1, k0_pay2, k0_pay3, k0_pay4, k0_pay5, delta, newM, newV, grad]
  simp only [Fin.sum_univ_four]
  blk_point [iblk, V, idx t]

/-- What a point leaves of the change of the weights is the reference's, where the block lies. -/
theorem point_delta (c : Dev nD) (t : Fin cfg0.N) (y) : (outsAt0 m c t).2.1 y = delta (grad (m ((c : Thread nD τ).loc main_arg0))) (m ((c : Thread nD τ).loc main_arg1)) (m ((c : Thread nD τ).loc main_arg2)) (m ((c : Thread nD τ).loc main_arg3)) (((cfg0.win 5).blk t).view.emb y) := by
  unfold outsAt0; frame_out
  pointwise [k0_pay1, k0_pay2, k0_pay3, k0_pay4, k0_pay5, delta, newM, newV, grad]
  simp only [Fin.sum_univ_four]
  blk_point [iblk, V, idx t]

/-- What a point leaves of the first moment is the reference's, where the block lies. -/
theorem point_m (c : Dev nD) (t : Fin cfg0.N) (y) : (outsAt0 m c t).2.2.1 y = newM (grad (m ((c : Thread nD τ).loc main_arg0))) (m ((c : Thread nD τ).loc main_arg2)) (((cfg0.win 6).blk t).view.emb y) := by
  unfold outsAt0; frame_out
  pointwise [k0_pay1, k0_pay2, k0_pay3, k0_pay4, k0_pay5, delta, newM, newV, grad]
  simp only [Fin.sum_univ_four]
  blk_point [iblk, V, idx t]

/-- What a point leaves of the second moment is the reference's, where the block lies. -/
theorem point_v (c : Dev nD) (t : Fin cfg0.N) (y) : (outsAt0 m c t).2.2.2 y = newV (grad (m ((c : Thread nD τ).loc main_arg0))) (m ((c : Thread nD τ).loc main_arg3)) (((cfg0.win 7).blk t).view.emb y) := by
  unfold outsAt0; frame_out
  pointwise [k0_pay1, k0_pay2, k0_pay3, k0_pay4, k0_pay5, delta, newM, newV, grad]
  simp only [Fin.sum_univ_four]
  blk_point [iblk, V, idx t]

theorem final_grad (c : Dev nD) : (dats m 0 c).arrAt 4 cfg0.N = grad (m ((c : Thread nD τ).loc main_arg0)) := by
  refine (dats m 0 c).arrAt_eq_of_covers 4 _ (by decide +kernel) fun t _ y => ?_
  blk_simp
  rw [after0_4]
  exact point_grad m c t y

theorem final_delta (c : Dev nD) : (dats m 0 c).arrAt 5 cfg0.N = delta (grad (m ((c : Thread nD τ).loc main_arg0))) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact point_delta m c t y

theorem final_m (c : Dev nD) : (dats m 0 c).arrAt 6 cfg0.N = newM (grad (m ((c : Thread nD τ).loc main_arg0))) (m ((c : Thread nD τ).loc main_arg2)) := by
  refine (dats m 0 c).arrAt_eq_of_covers 6 _ (by decide +kernel) fun t _ y => ?_
  blk_simp
  rw [after0_6]
  exact point_m m c t y

theorem final_v (c : Dev nD) : (dats m 0 c).arrAt 7 cfg0.N = newV (grad (m ((c : Thread nD τ).loc main_arg0))) (m ((c : Thread nD τ).loc main_arg3)) := by
  refine (dats m 0 c).arrAt_eq_of_covers 7 _ (by decide +kernel) fun t _ y => ?_
  blk_simp
  rw [after0_7]
  exact point_v m c t y

/-- The reference keeps its arguments and ends with every counter at zero. -/
theorem frame_reference : Cert.quiescent_SInWRefIdeal := fun m ρ _ =>
  (θ_run Cert.SInWRefIdeal.defs _ _).mono (fun r h => ⟨fun c => (h c).2.2.2.2, sem_eq_zero_of_no_sems (by decide) r.2⟩) (Cert.SInWRefIdeal.Value.run (F := Ideal) m ρ)

/-- Kernel and reference end with the same results. -/
theorem algebraic : Cert.algebraic_SInWIdeal_SInWRefIdeal := by
  intro m ρ m' ρ' _ hargs
  refine ⟨fun c => (dats m 0 c).arrAt 4 cfg0.N, fun c => (dats m 0 c).arrAt 5 cfg0.N, fun c => (dats m 0 c).arrAt 6 cfg0.N, fun c => (dats m 0 c).arrAt 7 cfg0.N, Cert.SInWIdeal.Value.run_blocks (F := Ideal) m ρ, ?_⟩
  refine (θ_run Cert.SInWRefIdeal.defs _ _).mono (fun r h c => ?_) (Cert.SInWRefIdeal.Value.run (F := Ideal) m' ρ')
  obtain ⟨h0, h1, h2, h3, h⟩ := h c
  obtain ⟨e0, e1, e2, e3⟩ := hargs c
  rw [e0] at h0
  rw [e0, e1, e2, e3] at h1
  rw [e0, e2] at h2
  rw [e0, e3] at h3
  exact ⟨h0.trans (final_grad m c).symm, h1.trans (final_delta m c).symm, h2.trans (final_m m c).symm, h3.trans (final_v m c).symm, h⟩

end Cert.SInWValue

end
-- ==== Proof.GluW.lean ====
module

public import proofs.«01_k».proof.Defs
public import proofs.«01_k».proof.Proof.Gen.GluWIdeal.Value
public import proofs.«01_k».proof.Proof.Gen.GluWRefIdeal.Run
public import Idealize.ShloMosaic.Lib.Pipeline.ValueKit

/-! The sum of a weight's gradient over its four parts and the weight's AdamW step. -/

@[expose] public section

set_option maxRecDepth 16384

noncomputable section

namespace Cert.GluWValue

open Cert.GluWIdeal Cert.GluWIdeal.Gen
open Idealize.ShloMosaic Idealize.ShloMosaic.TcCoe Idealize.SL.Sem
open Idealize.ShloMosaic.Pipeline (Dat)

variable (m : (ℓ : Loc nD τ sig) → Buf (Elt Ideal) ℓ)

/-- The reference's sum of the parts. -/
abbrev grad (p : FVec Ideal S4x2048x512 .bf16) : FVec Ideal S2048x512 .f32 :=
  Host.reduceAdd (extf .f32 p Cert.GluWRefIdeal.Gen.bitsLt_bf16_f32) (constant Cert.GluWRefIdeal.S_ .f32 0x00000000#32) Cert.GluWRefIdeal.Gen.reducesTo_S4x2048x512_S2048x512_d0 Cert.GluWRefIdeal.Gen.h_S_

/-- The reference's first moment after the step, of the gradient. -/
abbrev newM (g mo : FVec Ideal S2048x512 .f32) : FVec Ideal S2048x512 .f32 :=
  addf (mulf (broadcastInDim Cert.GluWRefIdeal.S2048x512 ![] Cert.GluWRefIdeal.Gen.bcast_S_S2048x512 (constant Cert.GluWRefIdeal.S_ .f32 0x3F666666#32)) mo) (mulf (broadcastInDim Cert.GluWRefIdeal.S2048x512 ![] Cert.GluWRefIdeal.Gen.bcast_S_S2048x512 (constant Cert.GluWRefIdeal.S_ .f32 0x3DCCCCCD#32)) (g))

/-- The reference's second moment after the step, of the gradient. -/
abbrev newV (g vo : FVec Ideal S2048x512 .f32) : FVec Ideal S2048x512 .f32 :=
  addf (mulf (broadcastInDim Cert.GluWRefIdeal.S2048x512 ![] Cert.GluWRefIdeal.Gen.bcast_S_S2048x512 (constant Cert.GluWRefIdeal.S_ .f32 0x3F7FBE77#32)) vo) (mulf (broadcastInDim Cert.GluWRefIdeal.S2048x512 ![] Cert.GluWRefIdeal.Gen.bcast_S_S2048x512 (constant Cert.GluWRefIdeal.S_ .f32 0x3A83126F#32)) (mulf (g) (g)))

/-- The reference's change of the weights, of the gradient. -/
abbrev delta (g w mo vo : FVec Ideal S2048x512 .f32) : FVec Ideal S2048x512 .f32 :=
  mulf (broadcastInDim Cert.GluWRefIdeal.S2048x512 ![] Cert.GluWRefIdeal.Gen.bcast_S_S2048x512 (constant Cert.GluWRefIdeal.S_ .f32 0xBA83126F#32)) (addf (Host.divf (Host.divf (newM g mo) (broadcastInDim Cert.GluWRefIdeal.S2048x512 ![] Cert.GluWRefIdeal.Gen.bcast_S_S2048x512 (constant Cert.GluWRefIdeal.S_ .f32 0x3F26BD02#32))) (addf (Host.sqrt (Host.divf (newV g vo) (broadcastInDim Cert.GluWRefIdeal.S2048x512 ![] Cert.GluWRefIdeal.Gen.bcast_S_S2048x512 (constant Cert.GluWRefIdeal.S_ .f32 0x3C231ACC#32)))) (broadcastInDim Cert.GluWRefIdeal.S2048x512 ![] Cert.GluWRefIdeal.Gen.bcast_S_S2048x512 (constant Cert.GluWRefIdeal.S_ .f32 0x322BCC77#32)))) (mulf (broadcastInDim Cert.GluWRefIdeal.S2048x512 ![] Cert.GluWRefIdeal.Gen.bcast_S_S2048x512 (constant Cert.GluWRefIdeal.S_ .f32 0x3C23D70A#32)) w))

/-- Which block each window takes at a point. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- What a point leaves of the gradient is the reference's, where the block lies. -/
theorem point_grad (c : Dev nD) (t : Fin cfg0.N) (y) : (outsAt0 m c t).1 y = grad (m ((c : Thread nD τ).loc main_arg0)) (((cfg0.win 4).blk t).view.emb y) := by
  unfold outsAt0; frame_out
  pointwise [k0_pay1, k0_pay2, k0_pay3, k0_pay4, k0_pay5, delta, newM, newV, grad]
  simp only [Fin.sum_univ_four]
  blk_point [iblk, V, idx t]

/-- What a point leaves of the change of the weights is the reference's, where the block lies. -/
theorem point_delta (c : Dev nD) (t : Fin cfg0.N) (y) : (outsAt0 m c t).2.1 y = delta (grad (m ((c : Thread nD τ).loc main_arg0))) (m ((c : Thread nD τ).loc main_arg1)) (m ((c : Thread nD τ).loc main_arg2)) (m ((c : Thread nD τ).loc main_arg3)) (((cfg0.win 5).blk t).view.emb y) := by
  unfold outsAt0; frame_out
  pointwise [k0_pay1, k0_pay2, k0_pay3, k0_pay4, k0_pay5, delta, newM, newV, grad]
  simp only [Fin.sum_univ_four]
  blk_point [iblk, V, idx t]

/-- What a point leaves of the first moment is the reference's, where the block lies. -/
theorem point_m (c : Dev nD) (t : Fin cfg0.N) (y) : (outsAt0 m c t).2.2.1 y = newM (grad (m ((c : Thread nD τ).loc main_arg0))) (m ((c : Thread nD τ).loc main_arg2)) (((cfg0.win 6).blk t).view.emb y) := by
  unfold outsAt0; frame_out
  pointwise [k0_pay1, k0_pay2, k0_pay3, k0_pay4, k0_pay5, delta, newM, newV, grad]
  simp only [Fin.sum_univ_four]
  blk_point [iblk, V, idx t]

/-- What a point leaves of the second moment is the reference's, where the block lies. -/
theorem point_v (c : Dev nD) (t : Fin cfg0.N) (y) : (outsAt0 m c t).2.2.2 y = newV (grad (m ((c : Thread nD τ).loc main_arg0))) (m ((c : Thread nD τ).loc main_arg3)) (((cfg0.win 7).blk t).view.emb y) := by
  unfold outsAt0; frame_out
  pointwise [k0_pay1, k0_pay2, k0_pay3, k0_pay4, k0_pay5, delta, newM, newV, grad]
  simp only [Fin.sum_univ_four]
  blk_point [iblk, V, idx t]

theorem final_grad (c : Dev nD) : (dats m 0 c).arrAt 4 cfg0.N = grad (m ((c : Thread nD τ).loc main_arg0)) := by
  refine (dats m 0 c).arrAt_eq_of_covers 4 _ (by decide +kernel) fun t _ y => ?_
  blk_simp
  rw [after0_4]
  exact point_grad m c t y

theorem final_delta (c : Dev nD) : (dats m 0 c).arrAt 5 cfg0.N = delta (grad (m ((c : Thread nD τ).loc main_arg0))) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact point_delta m c t y

theorem final_m (c : Dev nD) : (dats m 0 c).arrAt 6 cfg0.N = newM (grad (m ((c : Thread nD τ).loc main_arg0))) (m ((c : Thread nD τ).loc main_arg2)) := by
  refine (dats m 0 c).arrAt_eq_of_covers 6 _ (by decide +kernel) fun t _ y => ?_
  blk_simp
  rw [after0_6]
  exact point_m m c t y

theorem final_v (c : Dev nD) : (dats m 0 c).arrAt 7 cfg0.N = newV (grad (m ((c : Thread nD τ).loc main_arg0))) (m ((c : Thread nD τ).loc main_arg3)) := by
  refine (dats m 0 c).arrAt_eq_of_covers 7 _ (by decide +kernel) fun t _ y => ?_
  blk_simp
  rw [after0_7]
  exact point_v m c t y

/-- The reference keeps its arguments and ends with every counter at zero. -/
theorem frame_reference : Cert.quiescent_GluWRefIdeal := fun m ρ _ =>
  (θ_run Cert.GluWRefIdeal.defs _ _).mono (fun r h => ⟨fun c => (h c).2.2.2.2, sem_eq_zero_of_no_sems (by decide) r.2⟩) (Cert.GluWRefIdeal.Value.run (F := Ideal) m ρ)

/-- Kernel and reference end with the same results. -/
theorem algebraic : Cert.algebraic_GluWIdeal_GluWRefIdeal := by
  intro m ρ m' ρ' _ hargs
  refine ⟨fun c => (dats m 0 c).arrAt 4 cfg0.N, fun c => (dats m 0 c).arrAt 5 cfg0.N, fun c => (dats m 0 c).arrAt 6 cfg0.N, fun c => (dats m 0 c).arrAt 7 cfg0.N, Cert.GluWIdeal.Value.run_blocks (F := Ideal) m ρ, ?_⟩
  refine (θ_run Cert.GluWRefIdeal.defs _ _).mono (fun r h c => ?_) (Cert.GluWRefIdeal.Value.run (F := Ideal) m' ρ')
  obtain ⟨h0, h1, h2, h3, h⟩ := h c
  obtain ⟨e0, e1, e2, e3⟩ := hargs c
  rw [e0] at h0
  rw [e0, e1, e2, e3] at h1
  rw [e0, e2] at h2
  rw [e0, e3] at h3
  exact ⟨h0.trans (final_grad m c).symm, h1.trans (final_delta m c).symm, h2.trans (final_m m c).symm, h3.trans (final_v m c).symm, h⟩

end Cert.GluWValue

end
-- ==== Proof.LInW.lean ====
module

public import proofs.«01_k».proof.Defs
public import proofs.«01_k».proof.Proof.Gen.LInWIdeal.Value
public import proofs.«01_k».proof.Proof.Gen.LInWRefIdeal.Run
public import Idealize.ShloMosaic.Lib.Pipeline.ValueKit

/-! The sum of a weight's gradient over its four parts and the weight's AdamW step. -/

@[expose] public section

set_option maxRecDepth 16384

noncomputable section

namespace Cert.LInWValue

open Cert.LInWIdeal Cert.LInWIdeal.Gen
open Idealize.ShloMosaic Idealize.ShloMosaic.TcCoe Idealize.SL.Sem
open Idealize.ShloMosaic.Pipeline (Dat)

variable (m : (ℓ : Loc nD τ sig) → Buf (Elt Ideal) ℓ)

/-- The reference's sum of the parts. -/
abbrev grad (p : FVec Ideal S4x2048x704 .bf16) : FVec Ideal S2048x704 .f32 :=
  Host.reduceAdd (extf .f32 p Cert.LInWRefIdeal.Gen.bitsLt_bf16_f32) (constant Cert.LInWRefIdeal.S_ .f32 0x00000000#32) Cert.LInWRefIdeal.Gen.reducesTo_S4x2048x704_S2048x704_d0 Cert.LInWRefIdeal.Gen.h_S_

/-- The reference's first moment after the step, of the gradient. -/
abbrev newM (g mo : FVec Ideal S2048x704 .f32) : FVec Ideal S2048x704 .f32 :=
  addf (mulf (broadcastInDim Cert.LInWRefIdeal.S2048x704 ![] Cert.LInWRefIdeal.Gen.bcast_S_S2048x704 (constant Cert.LInWRefIdeal.S_ .f32 0x3F666666#32)) mo) (mulf (broadcastInDim Cert.LInWRefIdeal.S2048x704 ![] Cert.LInWRefIdeal.Gen.bcast_S_S2048x704 (constant Cert.LInWRefIdeal.S_ .f32 0x3DCCCCCD#32)) (g))

/-- The reference's second moment after the step, of the gradient. -/
abbrev newV (g vo : FVec Ideal S2048x704 .f32) : FVec Ideal S2048x704 .f32 :=
  addf (mulf (broadcastInDim Cert.LInWRefIdeal.S2048x704 ![] Cert.LInWRefIdeal.Gen.bcast_S_S2048x704 (constant Cert.LInWRefIdeal.S_ .f32 0x3F7FBE77#32)) vo) (mulf (broadcastInDim Cert.LInWRefIdeal.S2048x704 ![] Cert.LInWRefIdeal.Gen.bcast_S_S2048x704 (constant Cert.LInWRefIdeal.S_ .f32 0x3A83126F#32)) (mulf (g) (g)))

/-- The reference's change of the weights, of the gradient. -/
abbrev delta (g w mo vo : FVec Ideal S2048x704 .f32) : FVec Ideal S2048x704 .f32 :=
  mulf (broadcastInDim Cert.LInWRefIdeal.S2048x704 ![] Cert.LInWRefIdeal.Gen.bcast_S_S2048x704 (constant Cert.LInWRefIdeal.S_ .f32 0xBA83126F#32)) (addf (Host.divf (Host.divf (newM g mo) (broadcastInDim Cert.LInWRefIdeal.S2048x704 ![] Cert.LInWRefIdeal.Gen.bcast_S_S2048x704 (constant Cert.LInWRefIdeal.S_ .f32 0x3F26BD02#32))) (addf (Host.sqrt (Host.divf (newV g vo) (broadcastInDim Cert.LInWRefIdeal.S2048x704 ![] Cert.LInWRefIdeal.Gen.bcast_S_S2048x704 (constant Cert.LInWRefIdeal.S_ .f32 0x3C231ACC#32)))) (broadcastInDim Cert.LInWRefIdeal.S2048x704 ![] Cert.LInWRefIdeal.Gen.bcast_S_S2048x704 (constant Cert.LInWRefIdeal.S_ .f32 0x322BCC77#32)))) (mulf (broadcastInDim Cert.LInWRefIdeal.S2048x704 ![] Cert.LInWRefIdeal.Gen.bcast_S_S2048x704 (constant Cert.LInWRefIdeal.S_ .f32 0x3C23D70A#32)) w))

/-- Which block each window takes at a point. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- What a point leaves of the gradient is the reference's, where the block lies. -/
theorem point_grad (c : Dev nD) (t : Fin cfg0.N) (y) : (outsAt0 m c t).1 y = grad (m ((c : Thread nD τ).loc main_arg0)) (((cfg0.win 4).blk t).view.emb y) := by
  unfold outsAt0; frame_out
  pointwise [k0_pay1, k0_pay2, k0_pay3, k0_pay4, k0_pay5, delta, newM, newV, grad]
  simp only [Fin.sum_univ_four]
  blk_point [iblk, V, idx t]

/-- What a point leaves of the change of the weights is the reference's, where the block lies. -/
theorem point_delta (c : Dev nD) (t : Fin cfg0.N) (y) : (outsAt0 m c t).2.1 y = delta (grad (m ((c : Thread nD τ).loc main_arg0))) (m ((c : Thread nD τ).loc main_arg1)) (m ((c : Thread nD τ).loc main_arg2)) (m ((c : Thread nD τ).loc main_arg3)) (((cfg0.win 5).blk t).view.emb y) := by
  unfold outsAt0; frame_out
  pointwise [k0_pay1, k0_pay2, k0_pay3, k0_pay4, k0_pay5, delta, newM, newV, grad]
  simp only [Fin.sum_univ_four]
  blk_point [iblk, V, idx t]

/-- What a point leaves of the first moment is the reference's, where the block lies. -/
theorem point_m (c : Dev nD) (t : Fin cfg0.N) (y) : (outsAt0 m c t).2.2.1 y = newM (grad (m ((c : Thread nD τ).loc main_arg0))) (m ((c : Thread nD τ).loc main_arg2)) (((cfg0.win 6).blk t).view.emb y) := by
  unfold outsAt0; frame_out
  pointwise [k0_pay1, k0_pay2, k0_pay3, k0_pay4, k0_pay5, delta, newM, newV, grad]
  simp only [Fin.sum_univ_four]
  blk_point [iblk, V, idx t]

/-- What a point leaves of the second moment is the reference's, where the block lies. -/
theorem point_v (c : Dev nD) (t : Fin cfg0.N) (y) : (outsAt0 m c t).2.2.2 y = newV (grad (m ((c : Thread nD τ).loc main_arg0))) (m ((c : Thread nD τ).loc main_arg3)) (((cfg0.win 7).blk t).view.emb y) := by
  unfold outsAt0; frame_out
  pointwise [k0_pay1, k0_pay2, k0_pay3, k0_pay4, k0_pay5, delta, newM, newV, grad]
  simp only [Fin.sum_univ_four]
  blk_point [iblk, V, idx t]

theorem final_grad (c : Dev nD) : (dats m 0 c).arrAt 4 cfg0.N = grad (m ((c : Thread nD τ).loc main_arg0)) := by
  refine (dats m 0 c).arrAt_eq_of_covers 4 _ (by decide +kernel) fun t _ y => ?_
  blk_simp
  rw [after0_4]
  exact point_grad m c t y

theorem final_delta (c : Dev nD) : (dats m 0 c).arrAt 5 cfg0.N = delta (grad (m ((c : Thread nD τ).loc main_arg0))) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact point_delta m c t y

theorem final_m (c : Dev nD) : (dats m 0 c).arrAt 6 cfg0.N = newM (grad (m ((c : Thread nD τ).loc main_arg0))) (m ((c : Thread nD τ).loc main_arg2)) := by
  refine (dats m 0 c).arrAt_eq_of_covers 6 _ (by decide +kernel) fun t _ y => ?_
  blk_simp
  rw [after0_6]
  exact point_m m c t y

theorem final_v (c : Dev nD) : (dats m 0 c).arrAt 7 cfg0.N = newV (grad (m ((c : Thread nD τ).loc main_arg0))) (m ((c : Thread nD τ).loc main_arg3)) := by
  refine (dats m 0 c).arrAt_eq_of_covers 7 _ (by decide +kernel) fun t _ y => ?_
  blk_simp
  rw [after0_7]
  exact point_v m c t y

/-- The reference keeps its arguments and ends with every counter at zero. -/
theorem frame_reference : Cert.quiescent_LInWRefIdeal := fun m ρ _ =>
  (θ_run Cert.LInWRefIdeal.defs _ _).mono (fun r h => ⟨fun c => (h c).2.2.2.2, sem_eq_zero_of_no_sems (by decide) r.2⟩) (Cert.LInWRefIdeal.Value.run (F := Ideal) m ρ)

/-- Kernel and reference end with the same results. -/
theorem algebraic : Cert.algebraic_LInWIdeal_LInWRefIdeal := by
  intro m ρ m' ρ' _ hargs
  refine ⟨fun c => (dats m 0 c).arrAt 4 cfg0.N, fun c => (dats m 0 c).arrAt 5 cfg0.N, fun c => (dats m 0 c).arrAt 6 cfg0.N, fun c => (dats m 0 c).arrAt 7 cfg0.N, Cert.LInWIdeal.Value.run_blocks (F := Ideal) m ρ, ?_⟩
  refine (θ_run Cert.LInWRefIdeal.defs _ _).mono (fun r h c => ?_) (Cert.LInWRefIdeal.Value.run (F := Ideal) m' ρ')
  obtain ⟨h0, h1, h2, h3, h⟩ := h c
  obtain ⟨e0, e1, e2, e3⟩ := hargs c
  rw [e0] at h0
  rw [e0, e1, e2, e3] at h1
  rw [e0, e2] at h2
  rw [e0, e3] at h3
  exact ⟨h0.trans (final_grad m c).symm, h1.trans (final_delta m c).symm, h2.trans (final_m m c).symm, h3.trans (final_v m c).symm, h⟩

end Cert.LInWValue

end
-- ==== Proof.LOutW.lean ====
module

public import proofs.«01_k».proof.Defs
public import proofs.«01_k».proof.Proof.Gen.LOutWIdeal.Value
public import proofs.«01_k».proof.Proof.Gen.LOutWRefIdeal.Run
public import Idealize.ShloMosaic.Lib.Pipeline.ValueKit

/-! The sum of a weight's gradient over its four parts and the weight's AdamW step. -/

@[expose] public section

set_option maxRecDepth 16384

noncomputable section

namespace Cert.LOutWValue

open Cert.LOutWIdeal Cert.LOutWIdeal.Gen
open Idealize.ShloMosaic Idealize.ShloMosaic.TcCoe Idealize.SL.Sem
open Idealize.ShloMosaic.Pipeline (Dat)

variable (m : (ℓ : Loc nD τ sig) → Buf (Elt Ideal) ℓ)

/-- The reference's sum of the parts. -/
abbrev grad (p : FVec Ideal S4x352x2048 .bf16) : FVec Ideal S352x2048 .f32 :=
  Host.reduceAdd (extf .f32 p Cert.LOutWRefIdeal.Gen.bitsLt_bf16_f32) (constant Cert.LOutWRefIdeal.S_ .f32 0x00000000#32) Cert.LOutWRefIdeal.Gen.reducesTo_S4x352x2048_S352x2048_d0 Cert.LOutWRefIdeal.Gen.h_S_

/-- The reference's first moment after the step, of the gradient. -/
abbrev newM (g mo : FVec Ideal S352x2048 .f32) : FVec Ideal S352x2048 .f32 :=
  addf (mulf (broadcastInDim Cert.LOutWRefIdeal.S352x2048 ![] Cert.LOutWRefIdeal.Gen.bcast_S_S352x2048 (constant Cert.LOutWRefIdeal.S_ .f32 0x3F666666#32)) mo) (mulf (broadcastInDim Cert.LOutWRefIdeal.S352x2048 ![] Cert.LOutWRefIdeal.Gen.bcast_S_S352x2048 (constant Cert.LOutWRefIdeal.S_ .f32 0x3DCCCCCD#32)) (g))

/-- The reference's second moment after the step, of the gradient. -/
abbrev newV (g vo : FVec Ideal S352x2048 .f32) : FVec Ideal S352x2048 .f32 :=
  addf (mulf (broadcastInDim Cert.LOutWRefIdeal.S352x2048 ![] Cert.LOutWRefIdeal.Gen.bcast_S_S352x2048 (constant Cert.LOutWRefIdeal.S_ .f32 0x3F7FBE77#32)) vo) (mulf (broadcastInDim Cert.LOutWRefIdeal.S352x2048 ![] Cert.LOutWRefIdeal.Gen.bcast_S_S352x2048 (constant Cert.LOutWRefIdeal.S_ .f32 0x3A83126F#32)) (mulf (g) (g)))

/-- The reference's change of the weights, of the gradient. -/
abbrev delta (g w mo vo : FVec Ideal S352x2048 .f32) : FVec Ideal S352x2048 .f32 :=
  mulf (broadcastInDim Cert.LOutWRefIdeal.S352x2048 ![] Cert.LOutWRefIdeal.Gen.bcast_S_S352x2048 (constant Cert.LOutWRefIdeal.S_ .f32 0xBA83126F#32)) (addf (Host.divf (Host.divf (newM g mo) (broadcastInDim Cert.LOutWRefIdeal.S352x2048 ![] Cert.LOutWRefIdeal.Gen.bcast_S_S352x2048 (constant Cert.LOutWRefIdeal.S_ .f32 0x3F26BD02#32))) (addf (Host.sqrt (Host.divf (newV g vo) (broadcastInDim Cert.LOutWRefIdeal.S352x2048 ![] Cert.LOutWRefIdeal.Gen.bcast_S_S352x2048 (constant Cert.LOutWRefIdeal.S_ .f32 0x3C231ACC#32)))) (broadcastInDim Cert.LOutWRefIdeal.S352x2048 ![] Cert.LOutWRefIdeal.Gen.bcast_S_S352x2048 (constant Cert.LOutWRefIdeal.S_ .f32 0x322BCC77#32)))) (mulf (broadcastInDim Cert.LOutWRefIdeal.S352x2048 ![] Cert.LOutWRefIdeal.Gen.bcast_S_S352x2048 (constant Cert.LOutWRefIdeal.S_ .f32 0x3C23D70A#32)) w))

/-- Which block each window takes at a point. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- What a point leaves of the gradient is the reference's, where the block lies. -/
theorem point_grad (c : Dev nD) (t : Fin cfg0.N) (y) : (outsAt0 m c t).1 y = grad (m ((c : Thread nD τ).loc main_arg0)) (((cfg0.win 4).blk t).view.emb y) := by
  unfold outsAt0; frame_out
  pointwise [k0_pay1, k0_pay2, k0_pay3, k0_pay4, k0_pay5, delta, newM, newV, grad]
  simp only [Fin.sum_univ_four]
  blk_point [iblk, V, idx t]

/-- What a point leaves of the change of the weights is the reference's, where the block lies. -/
theorem point_delta (c : Dev nD) (t : Fin cfg0.N) (y) : (outsAt0 m c t).2.1 y = delta (grad (m ((c : Thread nD τ).loc main_arg0))) (m ((c : Thread nD τ).loc main_arg1)) (m ((c : Thread nD τ).loc main_arg2)) (m ((c : Thread nD τ).loc main_arg3)) (((cfg0.win 5).blk t).view.emb y) := by
  unfold outsAt0; frame_out
  pointwise [k0_pay1, k0_pay2, k0_pay3, k0_pay4, k0_pay5, delta, newM, newV, grad]
  simp only [Fin.sum_univ_four]
  blk_point [iblk, V, idx t]

/-- What a point leaves of the first moment is the reference's, where the block lies. -/
theorem point_m (c : Dev nD) (t : Fin cfg0.N) (y) : (outsAt0 m c t).2.2.1 y = newM (grad (m ((c : Thread nD τ).loc main_arg0))) (m ((c : Thread nD τ).loc main_arg2)) (((cfg0.win 6).blk t).view.emb y) := by
  unfold outsAt0; frame_out
  pointwise [k0_pay1, k0_pay2, k0_pay3, k0_pay4, k0_pay5, delta, newM, newV, grad]
  simp only [Fin.sum_univ_four]
  blk_point [iblk, V, idx t]

/-- What a point leaves of the second moment is the reference's, where the block lies. -/
theorem point_v (c : Dev nD) (t : Fin cfg0.N) (y) : (outsAt0 m c t).2.2.2 y = newV (grad (m ((c : Thread nD τ).loc main_arg0))) (m ((c : Thread nD τ).loc main_arg3)) (((cfg0.win 7).blk t).view.emb y) := by
  unfold outsAt0; frame_out
  pointwise [k0_pay1, k0_pay2, k0_pay3, k0_pay4, k0_pay5, delta, newM, newV, grad]
  simp only [Fin.sum_univ_four]
  blk_point [iblk, V, idx t]

theorem final_grad (c : Dev nD) : (dats m 0 c).arrAt 4 cfg0.N = grad (m ((c : Thread nD τ).loc main_arg0)) := by
  refine (dats m 0 c).arrAt_eq_of_covers 4 _ (by decide +kernel) fun t _ y => ?_
  blk_simp
  rw [after0_4]
  exact point_grad m c t y

theorem final_delta (c : Dev nD) : (dats m 0 c).arrAt 5 cfg0.N = delta (grad (m ((c : Thread nD τ).loc main_arg0))) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact point_delta m c t y

theorem final_m (c : Dev nD) : (dats m 0 c).arrAt 6 cfg0.N = newM (grad (m ((c : Thread nD τ).loc main_arg0))) (m ((c : Thread nD τ).loc main_arg2)) := by
  refine (dats m 0 c).arrAt_eq_of_covers 6 _ (by decide +kernel) fun t _ y => ?_
  blk_simp
  rw [after0_6]
  exact point_m m c t y

theorem final_v (c : Dev nD) : (dats m 0 c).arrAt 7 cfg0.N = newV (grad (m ((c : Thread nD τ).loc main_arg0))) (m ((c : Thread nD τ).loc main_arg3)) := by
  refine (dats m 0 c).arrAt_eq_of_covers 7 _ (by decide +kernel) fun t _ y => ?_
  blk_simp
  rw [after0_7]
  exact point_v m c t y

/-- The reference keeps its arguments and ends with every counter at zero. -/
theorem frame_reference : Cert.quiescent_LOutWRefIdeal := fun m ρ _ =>
  (θ_run Cert.LOutWRefIdeal.defs _ _).mono (fun r h => ⟨fun c => (h c).2.2.2.2, sem_eq_zero_of_no_sems (by decide) r.2⟩) (Cert.LOutWRefIdeal.Value.run (F := Ideal) m ρ)

/-- Kernel and reference end with the same results. -/
theorem algebraic : Cert.algebraic_LOutWIdeal_LOutWRefIdeal := by
  intro m ρ m' ρ' _ hargs
  refine ⟨fun c => (dats m 0 c).arrAt 4 cfg0.N, fun c => (dats m 0 c).arrAt 5 cfg0.N, fun c => (dats m 0 c).arrAt 6 cfg0.N, fun c => (dats m 0 c).arrAt 7 cfg0.N, Cert.LOutWIdeal.Value.run_blocks (F := Ideal) m ρ, ?_⟩
  refine (θ_run Cert.LOutWRefIdeal.defs _ _).mono (fun r h c => ?_) (Cert.LOutWRefIdeal.Value.run (F := Ideal) m' ρ')
  obtain ⟨h0, h1, h2, h3, h⟩ := h c
  obtain ⟨e0, e1, e2, e3⟩ := hargs c
  rw [e0] at h0
  rw [e0, e1, e2, e3] at h1
  rw [e0, e2] at h2
  rw [e0, e3] at h3
  exact ⟨h0.trans (final_grad m c).symm, h1.trans (final_delta m c).symm, h2.trans (final_m m c).symm, h3.trans (final_v m c).symm, h⟩

end Cert.LOutWValue

end
-- ==== Proof.DownW.lean ====
module

public import proofs.«01_k».proof.Defs
public import proofs.«01_k».proof.Proof.Gen.DownWIdeal.Value
public import proofs.«01_k».proof.Proof.Gen.DownWRefIdeal.Run
public import Idealize.ShloMosaic.Lib.Pipeline.ValueKit

/-! The gradient of the down weights of two layers, each the sum of its four parts, and their AdamW step. -/

@[expose] public section

set_option maxRecDepth 16384

noncomputable section

namespace Cert.DownWValue

open Cert.DownWIdeal Cert.DownWIdeal.Gen
open Idealize.ShloMosaic Idealize.ShloMosaic.TcCoe Idealize.SL.Sem
open Idealize.ShloMosaic.Pipeline (Dat)

variable (m : (ℓ : Loc nD τ sig) → Buf (Elt Ideal) ℓ)

/-- The reference's sums of the parts, one layer after the other. -/
abbrev grad (p p' : FVec Ideal S4x704x2048 .bf16) : FVec Ideal S1408x2048 .f32 :=
  concatenate Cert.DownWRefIdeal.S1408x2048 0 [⟨Cert.DownWRefIdeal.S704x2048, Host.reduceAdd (extf .f32 p Cert.DownWRefIdeal.Gen.bitsLt_bf16_f32) (constant Cert.DownWRefIdeal.S_ .f32 0x00000000#32) Cert.DownWRefIdeal.Gen.reducesTo_S4x704x2048_S704x2048_d0 Cert.DownWRefIdeal.Gen.h_S_⟩,
    ⟨Cert.DownWRefIdeal.S704x2048, Host.reduceAdd (extf .f32 p' Cert.DownWRefIdeal.Gen.bitsLt_bf16_f32) (constant Cert.DownWRefIdeal.S_ .f32 0x00000000#32) Cert.DownWRefIdeal.Gen.reducesTo_S4x704x2048_S704x2048_d0 Cert.DownWRefIdeal.Gen.h_S_⟩] Cert.DownWRefIdeal.Gen.concatenates_S704x2048_S704x2048_S1408x2048_d0

/-- The reference's first moment after the step, of the gradient. -/
abbrev newM (g mo : FVec Ideal S1408x2048 .f32) : FVec Ideal S1408x2048 .f32 :=
  addf (mulf (broadcastInDim Cert.DownWRefIdeal.S1408x2048 ![] Cert.DownWRefIdeal.Gen.bcast_S_S1408x2048 (constant Cert.DownWRefIdeal.S_ .f32 0x3F666666#32)) mo) (mulf (broadcastInDim Cert.DownWRefIdeal.S1408x2048 ![] Cert.DownWRefIdeal.Gen.bcast_S_S1408x2048 (constant Cert.DownWRefIdeal.S_ .f32 0x3DCCCCCD#32)) (g))

/-- The reference's second moment after the step, of the gradient. -/
abbrev newV (g vo : FVec Ideal S1408x2048 .f32) : FVec Ideal S1408x2048 .f32 :=
  addf (mulf (broadcastInDim Cert.DownWRefIdeal.S1408x2048 ![] Cert.DownWRefIdeal.Gen.bcast_S_S1408x2048 (constant Cert.DownWRefIdeal.S_ .f32 0x3F7FBE77#32)) vo) (mulf (broadcastInDim Cert.DownWRefIdeal.S1408x2048 ![] Cert.DownWRefIdeal.Gen.bcast_S_S1408x2048 (constant Cert.DownWRefIdeal.S_ .f32 0x3A83126F#32)) (mulf (g) (g)))

/-- The reference's change of the weights, of the gradient. -/
abbrev delta (g w mo vo : FVec Ideal S1408x2048 .f32) : FVec Ideal S1408x2048 .f32 :=
  mulf (broadcastInDim Cert.DownWRefIdeal.S1408x2048 ![] Cert.DownWRefIdeal.Gen.bcast_S_S1408x2048 (constant Cert.DownWRefIdeal.S_ .f32 0xBA83126F#32)) (addf (Host.divf (Host.divf (newM g mo) (broadcastInDim Cert.DownWRefIdeal.S1408x2048 ![] Cert.DownWRefIdeal.Gen.bcast_S_S1408x2048 (constant Cert.DownWRefIdeal.S_ .f32 0x3F26BD02#32))) (addf (Host.sqrt (Host.divf (newV g vo) (broadcastInDim Cert.DownWRefIdeal.S1408x2048 ![] Cert.DownWRefIdeal.Gen.bcast_S_S1408x2048 (constant Cert.DownWRefIdeal.S_ .f32 0x3C231ACC#32)))) (broadcastInDim Cert.DownWRefIdeal.S1408x2048 ![] Cert.DownWRefIdeal.Gen.bcast_S_S1408x2048 (constant Cert.DownWRefIdeal.S_ .f32 0x322BCC77#32)))) (mulf (broadcastInDim Cert.DownWRefIdeal.S1408x2048 ![] Cert.DownWRefIdeal.Gen.bcast_S_S1408x2048 (constant Cert.DownWRefIdeal.S_ .f32 0x3C23D70A#32)) w))

/-- Which block each window takes at a point; the parts' windows move in their own layer's points only. -/
theorem idx : ∀ t : Fin cfg0.N, win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)
theorem idx_parts : ∀ t : Fin cfg0.N, (t.val < 11 → win0_0.index t = ![0, t.val, 0]) ∧ (11 ≤ t.val → win0_1.index t = ![0, t.val - 11, 0]) :=
  (by decide +kernel : ∀ t : Fin grid0.N, _)

/-- What a point leaves of the gradient is the reference's, where the block lies. -/
theorem point_grad (c : Dev nD) (t : Fin cfg0.N) (y) : (outsAt0 m c t.val t.isLt).1 y = grad (m ((c : Thread nD τ).loc main_arg0)) (m ((c : Thread nD τ).loc main_arg1)) (((cfg0.win 5).blk t).view.emb y) := by
  have ht : t.val < 22 := t.isLt
  have e : (((cfg0.win 5).blk t).view.emb y 0 : ℕ) = t.val * 64 + y 0 := by blk_simp [idx t] <;> try omega
  have hy : (y 0 : ℕ) < 64 := (y 0).isLt
  rcases Nat.lt_or_ge t.val 11 with first | second
  · have i := (idx_parts t).1 first
    have lt : (((cfg0.win 5).blk t).view.emb y 0 : ℕ) < 704 := by omega
    rw [outsAt0_A m c t first (by omega)]; frame_out
    pointwise [k0_pay1, k0_pay2, k0_pay3, k0_pay4, k0_pay5, k0_pay6, delta, newM, newV, grad]
    rw [dif_pos (by exact lt)]
    simp only [Fin.sum_univ_four]
    blk_point [iblk, V, idx t, i]
  · have i := (idx_parts t).2 second
    have ge : ¬ (((cfg0.win 5).blk t).view.emb y 0 : ℕ) < 704 := by omega
    rw [outsAt0_B m c t (by omega) second]; frame_out
    pointwise [k0_pay1, k0_pay2, k0_pay3, k0_pay4, k0_pay5, k0_pay6, delta, newM, newV, grad]
    rw [dif_neg (by exact ge)]
    simp only [Fin.sum_univ_four]
    blk_point [iblk, V, idx t, i]

/-- What a point leaves of the change of the weights is the reference's, where the block lies. -/
theorem point_delta (c : Dev nD) (t : Fin cfg0.N) (y) : (outsAt0 m c t.val t.isLt).2.1 y = delta (grad (m ((c : Thread nD τ).loc main_arg0)) (m ((c : Thread nD τ).loc main_arg1))) (m ((c : Thread nD τ).loc main_arg2)) (m ((c : Thread nD τ).loc main_arg3)) (m ((c : Thread nD τ).loc main_arg4)) (((cfg0.win 6).blk t).view.emb y) := by
  have ht : t.val < 22 := t.isLt
  have e : (((cfg0.win 6).blk t).view.emb y 0 : ℕ) = t.val * 64 + y 0 := by blk_simp [idx t] <;> try omega
  have hy : (y 0 : ℕ) < 64 := (y 0).isLt
  rcases Nat.lt_or_ge t.val 11 with first | second
  · have i := (idx_parts t).1 first
    have lt : (((cfg0.win 6).blk t).view.emb y 0 : ℕ) < 704 := by omega
    rw [outsAt0_A m c t first (by omega)]; frame_out
    pointwise [k0_pay1, k0_pay2, k0_pay3, k0_pay4, k0_pay5, k0_pay6, delta, newM, newV, grad]
    rw [dif_pos (by exact lt)]
    simp only [Fin.sum_univ_four]
    blk_point [iblk, V, idx t, i]
  · have i := (idx_parts t).2 second
    have ge : ¬ (((cfg0.win 6).blk t).view.emb y 0 : ℕ) < 704 := by omega
    rw [outsAt0_B m c t (by omega) second]; frame_out
    pointwise [k0_pay1, k0_pay2, k0_pay3, k0_pay4, k0_pay5, k0_pay6, delta, newM, newV, grad]
    rw [dif_neg (by exact ge)]
    simp only [Fin.sum_univ_four]
    blk_point [iblk, V, idx t, i]

/-- What a point leaves of the first moment is the reference's, where the block lies. -/
theorem point_m (c : Dev nD) (t : Fin cfg0.N) (y) : (outsAt0 m c t.val t.isLt).2.2.1 y = newM (grad (m ((c : Thread nD τ).loc main_arg0)) (m ((c : Thread nD τ).loc main_arg1))) (m ((c : Thread nD τ).loc main_arg3)) (((cfg0.win 7).blk t).view.emb y) := by
  have ht : t.val < 22 := t.isLt
  have e : (((cfg0.win 7).blk t).view.emb y 0 : ℕ) = t.val * 64 + y 0 := by blk_simp [idx t] <;> try omega
  have hy : (y 0 : ℕ) < 64 := (y 0).isLt
  rcases Nat.lt_or_ge t.val 11 with first | second
  · have i := (idx_parts t).1 first
    have lt : (((cfg0.win 7).blk t).view.emb y 0 : ℕ) < 704 := by omega
    rw [outsAt0_A m c t first (by omega)]; frame_out
    pointwise [k0_pay1, k0_pay2, k0_pay3, k0_pay4, k0_pay5, k0_pay6, delta, newM, newV, grad]
    rw [dif_pos (by exact lt)]
    simp only [Fin.sum_univ_four]
    blk_point [iblk, V, idx t, i]
  · have i := (idx_parts t).2 second
    have ge : ¬ (((cfg0.win 7).blk t).view.emb y 0 : ℕ) < 704 := by omega
    rw [outsAt0_B m c t (by omega) second]; frame_out
    pointwise [k0_pay1, k0_pay2, k0_pay3, k0_pay4, k0_pay5, k0_pay6, delta, newM, newV, grad]
    rw [dif_neg (by exact ge)]
    simp only [Fin.sum_univ_four]
    blk_point [iblk, V, idx t, i]

/-- What a point leaves of the second moment is the reference's, where the block lies. -/
theorem point_v (c : Dev nD) (t : Fin cfg0.N) (y) : (outsAt0 m c t.val t.isLt).2.2.2 y = newV (grad (m ((c : Thread nD τ).loc main_arg0)) (m ((c : Thread nD τ).loc main_arg1))) (m ((c : Thread nD τ).loc main_arg4)) (((cfg0.win 8).blk t).view.emb y) := by
  have ht : t.val < 22 := t.isLt
  have e : (((cfg0.win 8).blk t).view.emb y 0 : ℕ) = t.val * 64 + y 0 := by blk_simp [idx t] <;> try omega
  have hy : (y 0 : ℕ) < 64 := (y 0).isLt
  rcases Nat.lt_or_ge t.val 11 with first | second
  · have i := (idx_parts t).1 first
    have lt : (((cfg0.win 8).blk t).view.emb y 0 : ℕ) < 704 := by omega
    rw [outsAt0_A m c t first (by omega)]; frame_out
    pointwise [k0_pay1, k0_pay2, k0_pay3, k0_pay4, k0_pay5, k0_pay6, delta, newM, newV, grad]
    rw [dif_pos (by exact lt)]
    simp only [Fin.sum_univ_four]
    blk_point [iblk, V, idx t, i]
  · have i := (idx_parts t).2 second
    have ge : ¬ (((cfg0.win 8).blk t).view.emb y 0 : ℕ) < 704 := by omega
    rw [outsAt0_B m c t (by omega) second]; frame_out
    pointwise [k0_pay1, k0_pay2, k0_pay3, k0_pay4, k0_pay5, k0_pay6, delta, newM, newV, grad]
    rw [dif_neg (by exact ge)]
    simp only [Fin.sum_univ_four]
    blk_point [iblk, V, idx t, i]

theorem final_grad (c : Dev nD) : (dats m 0 c).arrAt 5 cfg0.N = grad (m ((c : Thread nD τ).loc main_arg0)) (m ((c : Thread nD τ).loc main_arg1)) := by
  refine (dats m 0 c).arrAt_eq_of_covers 5 _ (by decide +kernel) fun t _ y => ?_
  blk_simp
  rw [after0_5]
  exact point_grad m c t y

theorem final_delta (c : Dev nD) : (dats m 0 c).arrAt 6 cfg0.N = delta (grad (m ((c : Thread nD τ).loc main_arg0)) (m ((c : Thread nD τ).loc main_arg1))) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact point_delta m c t y

theorem final_m (c : Dev nD) : (dats m 0 c).arrAt 7 cfg0.N = newM (grad (m ((c : Thread nD τ).loc main_arg0)) (m ((c : Thread nD τ).loc main_arg1))) (m ((c : Thread nD τ).loc main_arg3)) := by
  refine (dats m 0 c).arrAt_eq_of_covers 7 _ (by decide +kernel) fun t _ y => ?_
  blk_simp
  rw [after0_7]
  exact point_m m c t y

theorem final_v (c : Dev nD) : (dats m 0 c).arrAt 8 cfg0.N = newV (grad (m ((c : Thread nD τ).loc main_arg0)) (m ((c : Thread nD τ).loc main_arg1))) (m ((c : Thread nD τ).loc main_arg4)) := by
  refine (dats m 0 c).arrAt_eq_of_covers 8 _ (by decide +kernel) fun t _ y => ?_
  blk_simp
  rw [after0_8]
  exact point_v m c t y

/-- The reference keeps its arguments and ends with every counter at zero. -/
theorem frame_reference : Cert.quiescent_DownWRefIdeal := fun m ρ _ =>
  (θ_run Cert.DownWRefIdeal.defs _ _).mono (fun r h => ⟨fun c => (h c).2.2.2.2, sem_eq_zero_of_no_sems (by decide) r.2⟩) (Cert.DownWRefIdeal.Value.run (F := Ideal) m ρ)

/-- Kernel and reference end with the same results. -/
theorem algebraic : Cert.algebraic_DownWIdeal_DownWRefIdeal := by
  intro m ρ m' ρ' _ hargs
  refine ⟨fun c => (dats m 0 c).arrAt 5 cfg0.N, fun c => (dats m 0 c).arrAt 6 cfg0.N, fun c => (dats m 0 c).arrAt 7 cfg0.N, fun c => (dats m 0 c).arrAt 8 cfg0.N, Cert.DownWIdeal.Value.run_blocks (F := Ideal) m ρ, ?_⟩
  refine (θ_run Cert.DownWRefIdeal.defs _ _).mono (fun r h c => ?_) (Cert.DownWRefIdeal.Value.run (F := Ideal) m' ρ')
  obtain ⟨h0, h1, h2, h3, h⟩ := h c
  obtain ⟨e0, e1, e2, e3, e4⟩ := hargs c
  rw [e0, e1] at h0
  rw [e0, e1, e2, e3, e4] at h1
  rw [e0, e1, e3] at h2
  rw [e0, e1, e4] at h3
  exact ⟨h0.trans (final_grad m c).symm, h1.trans (final_delta m c).symm, h2.trans (final_m m c).symm, h3.trans (final_v m c).symm, h⟩

end Cert.DownWValue

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.GuDa
public import proofs.«01_k».proof.Proof.Gen.GuDa.Frame
public import proofs.«01_k».proof.Proof.Gen.GuDaIdeal
public import proofs.«01_k».proof.Proof.Gen.GuDaIdeal.Frame
public import proofs.«01_k».proof.Proof.Gen.GuDaIdeal.Value
public import proofs.«01_k».proof.Proof.Gen.GuDaRefIdeal
public import proofs.«01_k».proof.Proof.Gen.GuDaRefIdeal.Run
public import proofs.«01_k».proof.Proof.Gen.GuDb
public import proofs.«01_k».proof.Proof.Gen.GuDb.Frame
public import proofs.«01_k».proof.Proof.Gen.GuDbIdeal
public import proofs.«01_k».proof.Proof.Gen.GuDbIdeal.Frame
public import proofs.«01_k».proof.Proof.Gen.GuDbIdeal.Value
public import proofs.«01_k».proof.Proof.Gen.GuDbRefIdeal
public import proofs.«01_k».proof.Proof.Gen.GuDbRefIdeal.Run
public import proofs.«01_k».proof.Proof.Gen.DownDa
public import proofs.«01_k».proof.Proof.Gen.DownDa.Frame
public import proofs.«01_k».proof.Proof.Gen.DownDaIdeal
public import proofs.«01_k».proof.Proof.Gen.DownDaIdeal.Frame
public import proofs.«01_k».proof.Proof.Gen.DownDaIdeal.Value
public import proofs.«01_k».proof.Proof.Gen.DownDaRefIdeal
public import proofs.«01_k».proof.Proof.Gen.DownDaRefIdeal.Run
public import proofs.«01_k».proof.Proof.Gen.DownDb
public import proofs.«01_k».proof.Proof.Gen.DownDb.Frame
public import proofs.«01_k».proof.Proof.Gen.DownDbIdeal
public import proofs.«01_k».proof.Proof.Gen.DownDbIdeal.Frame
public import proofs.«01_k».proof.Proof.Gen.DownDbIdeal.Value
public import proofs.«01_k».proof.Proof.Gen.DownDbRefIdeal
public import proofs.«01_k».proof.Proof.Gen.DownDbRefIdeal.Run
public import proofs.«01_k».proof.Proof.Gen.Act
public import proofs.«01_k».proof.Proof.Gen.Act.Frame
public import proofs.«01_k».proof.Proof.Gen.ActIdeal
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.SGrads
public import proofs.«01_k».proof.Proof.Gen.SGrads.Frame
public import proofs.«01_k».proof.Proof.Gen.SGradsIdeal
public import proofs.«01_k».proof.Proof.Gen.SGradsIdeal.Frame
public import proofs.«01_k».proof.Proof.Gen.SGradsIdeal.Value
public import proofs.«01_k».proof.Proof.Gen.SGradsRefIdeal
public import proofs.«01_k».proof.Proof.Gen.SGradsRefIdeal.Run
public import proofs.«01_k».proof.Proof.Gen.GluDa
public import proofs.«01_k».proof.Proof.Gen.GluDa.Frame
public import proofs.«01_k».proof.Proof.Gen.GluDaIdeal
public import proofs.«01_k».proof.Proof.Gen.GluDaIdeal.Frame
public import proofs.«01_k».proof.Proof.Gen.GluDaIdeal.Value
public import proofs.«01_k».proof.Proof.Gen.GluDaRefIdeal
public import proofs.«01_k».proof.Proof.Gen.GluDaRefIdeal.Run
public import proofs.«01_k».proof.Proof.Gen.GluDb
public import proofs.«01_k».proof.Proof.Gen.GluDb.Frame
public import proofs.«01_k».proof.Proof.Gen.GluDbIdeal
public import proofs.«01_k».proof.Proof.Gen.GluDbIdeal.Frame
public import proofs.«01_k».proof.Proof.Gen.GluDbIdeal.Value
public import proofs.«01_k».proof.Proof.Gen.GluDbRefIdeal
public import proofs.«01_k».proof.Proof.Gen.GluDbRefIdeal.Run
public import proofs.«01_k».proof.Proof.Gen.SInDa
public import proofs.«01_k».proof.Proof.Gen.SInDa.Frame
public import proofs.«01_k».proof.Proof.Gen.SInDaIdeal
public import proofs.«01_k».proof.Proof.Gen.SInDaIdeal.Frame
public import proofs.«01_k».proof.Proof.Gen.SInDaIdeal.Value
public import proofs.«01_k».proof.Proof.Gen.SInDaRefIdeal
public import proofs.«01_k».proof.Proof.Gen.SInDaRefIdeal.Run
public import proofs.«01_k».proof.Proof.Gen.SInDb
public import proofs.«01_k».proof.Proof.Gen.SInDb.Frame
public import proofs.«01_k».proof.Proof.Gen.SInDbIdeal
public import proofs.«01_k».proof.Proof.Gen.SInDbIdeal.Frame
public import proofs.«01_k».proof.Proof.Gen.SInDbIdeal.Value
public import proofs.«01_k».proof.Proof.Gen.SInDbRefIdeal
public import proofs.«01_k».proof.Proof.Gen.SInDbRefIdeal.Run
public import proofs.«01_k».proof.Proof.Gen.LOutDa
public import proofs.«01_k».proof.Proof.Gen.LOutDa.Frame
public import proofs.«01_k».proof.Proof.Gen.LOutDaIdeal
public import proofs.«01_k».proof.Proof.Gen.LOutDaIdeal.Frame
public import proofs.«01_k».proof.Proof.Gen.LOutDaIdeal.Value
public import proofs.«01_k».proof.Proof.Gen.LOutDaRefIdeal
public import proofs.«01_k».proof.Proof.Gen.LOutDaRefIdeal.Run
public import proofs.«01_k».proof.Proof.Gen.LOutDb
public import proofs.«01_k».proof.Proof.Gen.LOutDb.Frame
public import proofs.«01_k».proof.Proof.Gen.LOutDbIdeal
public import proofs.«01_k».proof.Proof.Gen.LOutDbIdeal.Frame
public import proofs.«01_k».proof.Proof.Gen.LOutDbIdeal.Value
public import proofs.«01_k».proof.Proof.Gen.LOutDbRefIdeal
public import proofs.«01_k».proof.Proof.Gen.LOutDbRefIdeal.Run
public import proofs.«01_k».proof.Proof.Gen.LInDa
public import proofs.«01_k».proof.Proof.Gen.LInDa.Frame
public import proofs.«01_k».proof.Proof.Gen.LInDaIdeal
public import proofs.«01_k».proof.Proof.Gen.LInDaIdeal.Frame
public import proofs.«01_k».proof.Proof.Gen.LInDaIdeal.Value
public import proofs.«01_k».proof.Proof.Gen.LInDaRefIdeal
public import proofs.«01_k».proof.Proof.Gen.LInDaRefIdeal.Run
public import proofs.«01_k».proof.Proof.Gen.LInDb
public import proofs.«01_k».proof.Proof.Gen.LInDb.Frame
public import proofs.«01_k».proof.Proof.Gen.LInDbIdeal
public import proofs.«01_k».proof.Proof.Gen.LInDbIdeal.Frame
public import proofs.«01_k».proof.Proof.Gen.LInDbIdeal.Value
public import proofs.«01_k».proof.Proof.Gen.LInDbRefIdeal
public import proofs.«01_k».proof.Proof.Gen.LInDbRefIdeal.Run
public import proofs.«01_k».proof.Proof.Gen.SIn
public import proofs.«01_k».proof.Proof.Gen.SIn.Frame
public import proofs.«01_k».proof.Proof.Gen.SInIdeal
public import proofs.«01_k».proof.Proof.Gen.SInIdeal.Frame
public import proofs.«01_k».proof.Proof.Gen.SInIdeal.Value
public import proofs.«01_k».proof.Proof.Gen.SInRefIdeal
public import proofs.«01_k».proof.Proof.Gen.SInRefIdeal.Run
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.LIn
public import proofs.«01_k».proof.Proof.Gen.LIn.Frame
public import proofs.«01_k».proof.Proof.Gen.LInIdeal
public import proofs.«01_k».proof.Proof.Gen.LInIdeal.Frame
public import proofs.«01_k».proof.Proof.Gen.LInIdeal.Value
public import proofs.«01_k».proof.Proof.Gen.LInRefIdeal
public import proofs.«01_k».proof.Proof.Gen.LInRefIdeal.Run
public import proofs.«01_k».proof.Proof.Gen.LOut
public import proofs.«01_k».proof.Proof.Gen.LOut.Frame
public import proofs.«01_k».proof.Proof.Gen.LOutIdeal
public import proofs.«01_k».proof.Proof.Gen.LOutIdeal.Frame
public import proofs.«01_k».proof.Proof.Gen.LOutIdeal.Value
public import proofs.«01_k».proof.Proof.Gen.LOutRefIdeal
public import proofs.«01_k».proof.Proof.Gen.LOutRefIdeal.Run
public import proofs.«01_k».proof.Proof.Gen.Gu
public import proofs.«01_k».proof.Proof.Gen.Gu.Frame
public import proofs.«01_k».proof.Proof.Gen.GuIdeal
public import proofs.«01_k».proof.Proof.Gen.GuIdeal.Frame
public import proofs.«01_k».proof.Proof.Gen.GuIdeal.Value
public import proofs.«01_k».proof.Proof.Gen.GuRefIdeal
public import proofs.«01_k».proof.Proof.Gen.GuRefIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.ActFwd
public import proofs.«01_k».proof.Proof.Gen.ActFwd.Frame
public import proofs.«01_k».proof.Proof.Gen.ActFwdIdeal
public import proofs.«01_k».proof.Proof.Gen.ActFwdIdeal.Frame
public import proofs.«01_k».proof.Proof.Gen.ActFwdIdeal.Value
public import proofs.«01_k».proof.Proof.Gen.ActFwdRefIdeal
public import proofs.«01_k».proof.Proof.Gen.ActFwdRefIdeal.Run
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GluResB
public import proofs.«01_k».proof.Proof.Gen.GluResB.Frame
public import proofs.«01_k».proof.Proof.Gen.GluResBIdeal
public import proofs.«01_k».proof.Proof.Gen.GluResBIdeal.Frame
public import proofs.«01_k».proof.Proof.Gen.GluResBIdeal.Value
public import proofs.«01_k».proof.Proof.Gen.GluResBRefIdeal
public import proofs.«01_k».proof.Proof.Gen.GluResBRefIdeal.Run
public import proofs.«01_k».proof.Proof.Gen.NormB
public import proofs.«01_k».proof.Proof.Gen.NormB.Frame
public import proofs.«01_k».proof.Proof.Gen.NormBIdeal
public import proofs.«01_k».proof.Proof.Gen.NormBIdeal.Frame
public import proofs.«01_k».proof.Proof.Gen.NormBIdeal.Value
public import proofs.«01_k».proof.Proof.Gen.NormBRefIdeal
public import proofs.«01_k».proof.Proof.Gen.NormBRefIdeal.Run
public import proofs.«01_k».proof.Proof.Gen.GluRes
public import proofs.«01_k».proof.Proof.Gen.GluRes.Frame
public import proofs.«01_k».proof.Proof.Gen.GluResIdeal
public import proofs.«01_k».proof.Proof.Gen.GluResIdeal.Frame
public import proofs.«01_k».proof.Proof.Gen.GluResIdeal.Value
public import proofs.«01_k».proof.Proof.Gen.GluResRefIdeal
public import proofs.«01_k».proof.Proof.Gen.GluResRefIdeal.Run
public import proofs.«01_k».proof.Proof.Gen.Resid
public import proofs.«01_k».proof.Proof.Gen.Resid.Frame
public import proofs.«01_k».proof.Proof.Gen.ResidIdeal
public import proofs.«01_k».proof.Proof.Gen.ResidIdeal.Frame
public import proofs.«01_k».proof.Proof.Gen.ResidIdeal.Value
public import proofs.«01_k».proof.Proof.Gen.ResidRefIdeal
public import proofs.«01_k».proof.Proof.Gen.ResidRefIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaW
public import proofs.«01_k».proof.Proof.Gen.AdaW.Frame
public import proofs.«01_k».proof.Proof.Gen.AdaWIdeal
public import proofs.«01_k».proof.Proof.Gen.AdaWIdeal.Frame
public import proofs.«01_k».proof.Proof.Gen.AdaWIdeal.Value
public import proofs.«01_k».proof.Proof.Gen.AdaWRefIdeal
public import proofs.«01_k».proof.Proof.Gen.AdaWRefIdeal.Run
public import proofs.«01_k».proof.Proof.Gen.SInW
public import proofs.«01_k».proof.Proof.Gen.SInW.Frame
public import proofs.«01_k».proof.Proof.Gen.SInWIdeal
public import proofs.«01_k».proof.Proof.Gen.SInWIdeal.Frame
public import proofs.«01_k».proof.Proof.Gen.SInWIdeal.Value
public import proofs.«01_k».proof.Proof.Gen.SInWRefIdeal
public import proofs.«01_k».proof.Proof.Gen.SInWRefIdeal.Run
public import proofs.«01_k».proof.Proof.Gen.GluW
public import proofs.«01_k».proof.Proof.Gen.GluW.Frame
public import proofs.«01_k».proof.Proof.Gen.GluWIdeal
public import proofs.«01_k».proof.Proof.Gen.GluWIdeal.Frame
public import proofs.«01_k».proof.Proof.Gen.GluWIdeal.Value
public import proofs.«01_k».proof.Proof.Gen.GluWRefIdeal
public import proofs.«01_k».proof.Proof.Gen.GluWRefIdeal.Run
public import proofs.«01_k».proof.Proof.Gen.LInW
public import proofs.«01_k».proof.Proof.Gen.LInW.Frame
public import proofs.«01_k».proof.Proof.Gen.LInWIdeal
public import proofs.«01_k».proof.Proof.Gen.LInWIdeal.Frame
public import proofs.«01_k».proof.Proof.Gen.LInWIdeal.Value
public import proofs.«01_k».proof.Proof.Gen.LInWRefIdeal
public import proofs.«01_k».proof.Proof.Gen.LInWRefIdeal.Run
public import proofs.«01_k».proof.Proof.Gen.LOutW
public import proofs.«01_k».proof.Proof.Gen.LOutW.Frame
public import proofs.«01_k».proof.Proof.Gen.LOutWIdeal
public import proofs.«01_k».proof.Proof.Gen.LOutWIdeal.Frame
public import proofs.«01_k».proof.Proof.Gen.LOutWIdeal.Value
public import proofs.«01_k».proof.Proof.Gen.LOutWRefIdeal
public import proofs.«01_k».proof.Proof.Gen.LOutWRefIdeal.Run
public import proofs.«01_k».proof.Proof.Gen.DownW
public import proofs.«01_k».proof.Proof.Gen.DownW.Frame
public import proofs.«01_k».proof.Proof.Gen.DownWIdeal
public import proofs.«01_k».proof.Proof.Gen.DownWIdeal.Frame
public import proofs.«01_k».proof.Proof.Gen.DownWIdeal.Value
public import proofs.«01_k».proof.Proof.Gen.DownWRefIdeal
public import proofs.«01_k».proof.Proof.Gen.DownWRefIdeal.Run
public import proofs.«01_k».proof.Proof.Algebraic
public import proofs.«01_k».proof.Proof.GuDa
public import proofs.«01_k».proof.Proof.GuDb
public import proofs.«01_k».proof.Proof.DownDa
public import proofs.«01_k».proof.Proof.DownDb
public import proofs.«01_k».proof.Proof.Act
public import proofs.«01_k».proof.Proof.SGrads
public import proofs.«01_k».proof.Proof.GluDa
public import proofs.«01_k».proof.Proof.GluDb
public import proofs.«01_k».proof.Proof.SInDa
public import proofs.«01_k».proof.Proof.SInDb
public import proofs.«01_k».proof.Proof.LOutDa
public import proofs.«01_k».proof.Proof.LOutDb
public import proofs.«01_k».proof.Proof.LInDa
public import proofs.«01_k».proof.Proof.LInDb
public import proofs.«01_k».proof.Proof.SIn
public import proofs.«01_k».proof.Proof.Glu
public import proofs.«01_k».proof.Proof.LIn
public import proofs.«01_k».proof.Proof.LOut
public import proofs.«01_k».proof.Proof.Gu
public import proofs.«01_k».proof.Proof.Down
public import proofs.«01_k».proof.Proof.ActFwd
public import proofs.«01_k».proof.Proof.Gate
public import proofs.«01_k».proof.Proof.GluResB
public import proofs.«01_k».proof.Proof.NormB
public import proofs.«01_k».proof.Proof.GluRes
public import proofs.«01_k».proof.Proof.Resid
public import proofs.«01_k».proof.Proof.Norm
public import proofs.«01_k».proof.Proof.Ada
public import proofs.«01_k».proof.Proof.AdaW
public import proofs.«01_k».proof.Proof.SInW
public import proofs.«01_k».proof.Proof.GluW
public import proofs.«01_k».proof.Proof.LInW
public import proofs.«01_k».proof.Proof.LOutW
public import proofs.«01_k».proof.Proof.DownW

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts,
  Cert.GuDa.Gen.facts, Cert.GuDaIdeal.Gen.facts, Cert.GuDaRefIdeal.Gen.facts,
  Cert.GuDb.Gen.facts, Cert.GuDbIdeal.Gen.facts, Cert.GuDbRefIdeal.Gen.facts,
  Cert.DownDa.Gen.facts, Cert.DownDaIdeal.Gen.facts, Cert.DownDaRefIdeal.Gen.facts,
  Cert.DownDb.Gen.facts, Cert.DownDbIdeal.Gen.facts, Cert.DownDbRefIdeal.Gen.facts,
  Cert.Act.Gen.facts, Cert.ActIdeal.Gen.facts, Cert.ActRefIdeal.Gen.facts,
  Cert.SGrads.Gen.facts, Cert.SGradsIdeal.Gen.facts, Cert.SGradsRefIdeal.Gen.facts,
  Cert.GluDa.Gen.facts, Cert.GluDaIdeal.Gen.facts, Cert.GluDaRefIdeal.Gen.facts,
  Cert.GluDb.Gen.facts, Cert.GluDbIdeal.Gen.facts, Cert.GluDbRefIdeal.Gen.facts,
  Cert.SInDa.Gen.facts, Cert.SInDaIdeal.Gen.facts, Cert.SInDaRefIdeal.Gen.facts,
  Cert.SInDb.Gen.facts, Cert.SInDbIdeal.Gen.facts, Cert.SInDbRefIdeal.Gen.facts,
  Cert.LOutDa.Gen.facts, Cert.LOutDaIdeal.Gen.facts, Cert.LOutDaRefIdeal.Gen.facts,
  Cert.LOutDb.Gen.facts, Cert.LOutDbIdeal.Gen.facts, Cert.LOutDbRefIdeal.Gen.facts,
  Cert.LInDa.Gen.facts, Cert.LInDaIdeal.Gen.facts, Cert.LInDaRefIdeal.Gen.facts,
  Cert.LInDb.Gen.facts, Cert.LInDbIdeal.Gen.facts, Cert.LInDbRefIdeal.Gen.facts,
  Cert.SIn.Gen.facts, Cert.SInIdeal.Gen.facts, Cert.SInRefIdeal.Gen.facts,
  Cert.Glu.Gen.facts, Cert.GluIdeal.Gen.facts, Cert.GluRefIdeal.Gen.facts,
  Cert.LIn.Gen.facts, Cert.LInIdeal.Gen.facts, Cert.LInRefIdeal.Gen.facts,
  Cert.LOut.Gen.facts, Cert.LOutIdeal.Gen.facts, Cert.LOutRefIdeal.Gen.facts,
  Cert.Gu.Gen.facts, Cert.GuIdeal.Gen.facts, Cert.GuRefIdeal.Gen.facts,
  Cert.Down.Gen.facts, Cert.DownIdeal.Gen.facts, Cert.DownRefIdeal.Gen.facts,
  Cert.ActFwd.Gen.facts, Cert.ActFwdIdeal.Gen.facts, Cert.ActFwdRefIdeal.Gen.facts,
  Cert.Gate.Gen.facts, Cert.GateIdeal.Gen.facts, Cert.GateRefIdeal.Gen.facts,
  Cert.GluResB.Gen.facts, Cert.GluResBIdeal.Gen.facts, Cert.GluResBRefIdeal.Gen.facts,
  Cert.NormB.Gen.facts, Cert.NormBIdeal.Gen.facts, Cert.NormBRefIdeal.Gen.facts,
  Cert.GluRes.Gen.facts, Cert.GluResIdeal.Gen.facts, Cert.GluResRefIdeal.Gen.facts,
  Cert.Resid.Gen.facts, Cert.ResidIdeal.Gen.facts, Cert.ResidRefIdeal.Gen.facts,
  Cert.Norm.Gen.facts, Cert.NormIdeal.Gen.facts, Cert.NormRefIdeal.Gen.facts,
  Cert.Ada.Gen.facts, Cert.AdaIdeal.Gen.facts, Cert.AdaRefIdeal.Gen.facts,
  Cert.AdaW.Gen.facts, Cert.AdaWIdeal.Gen.facts, Cert.AdaWRefIdeal.Gen.facts,
  Cert.SInW.Gen.facts, Cert.SInWIdeal.Gen.facts, Cert.SInWRefIdeal.Gen.facts,
  Cert.GluW.Gen.facts, Cert.GluWIdeal.Gen.facts, Cert.GluWRefIdeal.Gen.facts,
  Cert.LInW.Gen.facts, Cert.LInWIdeal.Gen.facts, Cert.LInWRefIdeal.Gen.facts,
  Cert.LOutW.Gen.facts, Cert.LOutWIdeal.Gen.facts, Cert.LOutWRefIdeal.Gen.facts,
  Cert.DownW.Gen.facts, Cert.DownWIdeal.Gen.facts, Cert.DownWRefIdeal.Gen.facts,
  Cert.Scan.frame_kernel, Cert.Scan.frame_kernelIdeal, Cert.Scan.Ref.frame_reference,
  fun m ρ _ => Cert.GuDa.Gen.frame m ρ, fun m ρ _ => Cert.GuDaIdeal.Gen.frame m ρ, Cert.GuDaValue.frame_reference,
  fun m ρ _ => Cert.GuDb.Gen.frame m ρ, fun m ρ _ => Cert.GuDbIdeal.Gen.frame m ρ, Cert.GuDbValue.frame_reference,
  fun m ρ _ => Cert.DownDa.Gen.frame m ρ, fun m ρ _ => Cert.DownDaIdeal.Gen.frame m ρ, Cert.DownDaValue.frame_reference,
  fun m ρ _ => Cert.DownDb.Gen.frame m ρ, fun m ρ _ => Cert.DownDbIdeal.Gen.frame m ρ, Cert.DownDbValue.frame_reference,
  fun m ρ _ => Cert.Act.Gen.frame m ρ, fun m ρ _ => Cert.ActIdeal.Gen.frame m ρ, Cert.ActValue.frame_reference,
  fun m ρ _ => Cert.SGrads.Gen.frame m ρ, fun m ρ _ => Cert.SGradsIdeal.Gen.frame m ρ, Cert.SGradsValue.frame_reference,
  fun m ρ _ => Cert.GluDa.Gen.frame m ρ, fun m ρ _ => Cert.GluDaIdeal.Gen.frame m ρ, Cert.GluDaValue.frame_reference,
  fun m ρ _ => Cert.GluDb.Gen.frame m ρ, fun m ρ _ => Cert.GluDbIdeal.Gen.frame m ρ, Cert.GluDbValue.frame_reference,
  fun m ρ _ => Cert.SInDa.Gen.frame m ρ, fun m ρ _ => Cert.SInDaIdeal.Gen.frame m ρ, Cert.SInDaValue.frame_reference,
  fun m ρ _ => Cert.SInDb.Gen.frame m ρ, fun m ρ _ => Cert.SInDbIdeal.Gen.frame m ρ, Cert.SInDbValue.frame_reference,
  fun m ρ _ => Cert.LOutDa.Gen.frame m ρ, fun m ρ _ => Cert.LOutDaIdeal.Gen.frame m ρ, Cert.LOutDaValue.frame_reference,
  fun m ρ _ => Cert.LOutDb.Gen.frame m ρ, fun m ρ _ => Cert.LOutDbIdeal.Gen.frame m ρ, Cert.LOutDbValue.frame_reference,
  fun m ρ _ => Cert.LInDa.Gen.frame m ρ, fun m ρ _ => Cert.LInDaIdeal.Gen.frame m ρ, Cert.LInDaValue.frame_reference,
  fun m ρ _ => Cert.LInDb.Gen.frame m ρ, fun m ρ _ => Cert.LInDbIdeal.Gen.frame m ρ, Cert.LInDbValue.frame_reference,
  fun m ρ _ => Cert.SIn.Gen.frame m ρ, fun m ρ _ => Cert.SInIdeal.Gen.frame m ρ, Cert.SInValue.frame_reference,
  fun m ρ _ => Cert.Glu.Gen.frame m ρ, fun m ρ _ => Cert.GluIdeal.Gen.frame m ρ, Cert.GluValue.frame_reference,
  fun m ρ _ => Cert.LIn.Gen.frame m ρ, fun m ρ _ => Cert.LInIdeal.Gen.frame m ρ, Cert.LInValue.frame_reference,
  fun m ρ _ => Cert.LOut.Gen.frame m ρ, fun m ρ _ => Cert.LOutIdeal.Gen.frame m ρ, Cert.LOutValue.frame_reference,
  fun m ρ _ => Cert.Gu.Gen.frame m ρ, fun m ρ _ => Cert.GuIdeal.Gen.frame m ρ, Cert.GuValue.frame_reference,
  fun m ρ _ => Cert.Down.Gen.frame m ρ, fun m ρ _ => Cert.DownIdeal.Gen.frame m ρ, Cert.DownValue.frame_reference,
  fun m ρ _ => Cert.ActFwd.Gen.frame m ρ, fun m ρ _ => Cert.ActFwdIdeal.Gen.frame m ρ, Cert.ActFwdValue.frame_reference,
  fun m ρ _ => Cert.Gate.Gen.frame m ρ, fun m ρ _ => Cert.GateIdeal.Gen.frame m ρ, Cert.GateValue.frame_reference,
  fun m ρ _ => Cert.GluResB.Gen.frame m ρ, fun m ρ _ => Cert.GluResBIdeal.Gen.frame m ρ, Cert.GluResBValue.frame_reference,
  fun m ρ _ => Cert.NormB.Gen.frame m ρ, fun m ρ _ => Cert.NormBIdeal.Gen.frame m ρ, Cert.NormBValue.frame_reference,
  fun m ρ _ => Cert.GluRes.Gen.frame m ρ, fun m ρ _ => Cert.GluResIdeal.Gen.frame m ρ, Cert.GluResValue.frame_reference,
  fun m ρ _ => Cert.Resid.Gen.frame m ρ, fun m ρ _ => Cert.ResidIdeal.Gen.frame m ρ, Cert.ResidValue.frame_reference,
  fun m ρ _ => Cert.Norm.Gen.frame m ρ, fun m ρ _ => Cert.NormIdeal.Gen.frame m ρ, Cert.NormValue.frame_reference,
  fun m ρ _ => Cert.Ada.Gen.frame m ρ, fun m ρ _ => Cert.AdaIdeal.Gen.frame m ρ, Cert.AdaValue.frame_reference,
  fun m ρ _ => Cert.AdaW.Gen.frame m ρ, fun m ρ _ => Cert.AdaWIdeal.Gen.frame m ρ, Cert.AdaWValue.frame_reference,
  fun m ρ _ => Cert.SInW.Gen.frame m ρ, fun m ρ _ => Cert.SInWIdeal.Gen.frame m ρ, Cert.SInWValue.frame_reference,
  fun m ρ _ => Cert.GluW.Gen.frame m ρ, fun m ρ _ => Cert.GluWIdeal.Gen.frame m ρ, Cert.GluWValue.frame_reference,
  fun m ρ _ => Cert.LInW.Gen.frame m ρ, fun m ρ _ => Cert.LInWIdeal.Gen.frame m ρ, Cert.LInWValue.frame_reference,
  fun m ρ _ => Cert.LOutW.Gen.frame m ρ, fun m ρ _ => Cert.LOutWIdeal.Gen.frame m ρ, Cert.LOutWValue.frame_reference,
  fun m ρ _ => Cert.DownW.Gen.frame m ρ, fun m ρ _ => Cert.DownWIdeal.Gen.frame m ρ, Cert.DownWValue.frame_reference,
  Cert.Scan.preserves, Cert.Scan.algebraic,
  trivial, Cert.GuDaValue.algebraic,
  trivial, Cert.GuDbValue.algebraic,
  trivial, Cert.DownDaValue.algebraic,
  trivial, Cert.DownDbValue.algebraic,
  trivial, Cert.ActValue.algebraic,
  trivial, Cert.SGradsValue.algebraic,
  trivial, Cert.GluDaValue.algebraic,
  trivial, Cert.GluDbValue.algebraic,
  trivial, Cert.SInDaValue.algebraic,
  trivial, Cert.SInDbValue.algebraic,
  trivial, Cert.LOutDaValue.algebraic,
  trivial, Cert.LOutDbValue.algebraic,
  trivial, Cert.LInDaValue.algebraic,
  trivial, Cert.LInDbValue.algebraic,
  trivial, Cert.SInValue.algebraic,
  trivial, Cert.GluValue.algebraic,
  trivial, Cert.LInValue.algebraic,
  trivial, Cert.LOutValue.algebraic,
  trivial, Cert.GuValue.algebraic,
  trivial, Cert.DownValue.algebraic,
  trivial, Cert.ActFwdValue.algebraic,
  trivial, Cert.GateValue.algebraic,
  trivial, Cert.GluResBValue.algebraic,
  trivial, Cert.NormBValue.algebraic,
  trivial, Cert.GluResValue.algebraic,
  trivial, Cert.ResidValue.algebraic,
  trivial, Cert.NormValue.algebraic,
  trivial, Cert.AdaValue.algebraic,
  trivial, Cert.AdaWValue.algebraic,
  trivial, Cert.SInWValue.algebraic,
  trivial, Cert.GluWValue.algebraic,
  trivial, Cert.LInWValue.algebraic,
  trivial, Cert.LOutWValue.algebraic,
  trivial, Cert.DownWValue.algebraic⟩

end Cert.Proof

end
